-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S2x2x64x2x128 Cert.KernelIdeal.S2x2x64x1x128
  ∧ IdealRules.bf16_pair.BufferStatement Cert.KernelIdeal.S2x8x2x256 Cert.KernelIdeal.S2x8x1x256
  ∧ IdealRules.bf16_pair.Statement Cert.KernelIdeal.S16x256 Cert.KernelIdeal.S8x256
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S1x1x2x256 Cert.KernelIdeal.S1x1x1x256
  ∧ IdealRules.bf16_pair.Statement Cert.KernelIdeal.S32x256 Cert.KernelIdeal.S16x256

def algebraic_KernelIdeal_ReferenceIdeal_on_scaled [hKernelIdeal : Cert.KernelIdeal.Facts] [hReferenceIdeal : Cert.ReferenceIdeal.Facts] [hOn_scaled : Cert.On_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1792, 8192]⟩ : Shape).Idx, (Cert.On_scaled.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v1_0) i = v0 c i)
          ∧ (∀ i : (⟨2, ![1792, 256]⟩ : Shape).Idx, (Cert.On_scaled.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v1_1) i = v1 c i)
          ∧ (∀ i : (⟨2, ![1792, 256]⟩ : Shape).Idx, (Cert.On_scaled.fn (F := Ideal) (m ((c.tc : Thread Cert.KernelIdeal.nD Cert.KernelIdeal.τ).loc Cert.KernelIdeal.main_arg0))).2.2.1 i = 1#1 → r.2.mem ((c.tc : Thread Cert.KernelIdeal.nD Cert.KernelIdeal.τ).loc Cert.KernelIdeal.main_v1_2) i = v2 c i)
          ∧ (∀ i : (⟨2, ![1792, 256]⟩ : Shape).Idx, (Cert.On_scaled.fn (F := Ideal) (m ((c.tc : Thread Cert.KernelIdeal.nD Cert.KernelIdeal.τ).loc Cert.KernelIdeal.main_arg0))).2.2.2.1 i = 1#1 → r.2.mem ((c.tc : Thread Cert.KernelIdeal.nD Cert.KernelIdeal.τ).loc Cert.KernelIdeal.main_v1_3) i = v3 c i)
          ∧ (∀ i : (⟨2, ![1, 1792]⟩ : Shape).Idx, (Cert.On_scaled.fn (F := Ideal) (m ((c.tc : Thread Cert.KernelIdeal.nD Cert.KernelIdeal.τ).loc Cert.KernelIdeal.main_arg0))).2.2.2.2.1 i = 1#1 → r.2.mem ((c.tc : Thread Cert.KernelIdeal.nD Cert.KernelIdeal.τ).loc Cert.KernelIdeal.main_v1_4) i = v4 c i)
          ∧ (∀ i : (⟨2, ![1, 1]⟩ : Shape).Idx, (Cert.On_scaled.fn (F := Ideal) (m ((c.tc : Thread Cert.KernelIdeal.nD Cert.KernelIdeal.τ).loc Cert.KernelIdeal.main_arg0))).2.2.2.2.2 i = 1#1 → r.2.mem ((c.tc : Thread Cert.KernelIdeal.nD Cert.KernelIdeal.τ).loc Cert.KernelIdeal.main_v1_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1792, 8192]⟩ : Shape).Idx, (Cert.On_scaled.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v29) i = v0 c i)
          ∧ (∀ i : (⟨2, ![1792, 256]⟩ : Shape).Idx, (Cert.On_scaled.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v9) i = v1 c i)
          ∧ (∀ i : (⟨2, ![1792, 256]⟩ : Shape).Idx, (Cert.On_scaled.fn (F := Ideal) (m ((c.tc : Thread Cert.KernelIdeal.nD Cert.KernelIdeal.τ).loc Cert.KernelIdeal.main_arg0))).2.2.1 i = 1#1 → r.2.mem ((c.tc : Thread Cert.ReferenceIdeal.nD Cert.ReferenceIdeal.τ).loc Cert.ReferenceIdeal.main_v31) i = v2 c i)
          ∧ (∀ i : (⟨2, ![1792, 256]⟩ : Shape).Idx, (Cert.On_scaled.fn (F := Ideal) (m ((c.tc : Thread Cert.KernelIdeal.nD Cert.KernelIdeal.τ).loc Cert.KernelIdeal.main_arg0))).2.2.2.1 i = 1#1 → r.2.mem ((c.tc : Thread Cert.ReferenceIdeal.nD Cert.ReferenceIdeal.τ).loc Cert.ReferenceIdeal.main_v46) i = v3 c i)
          ∧ (∀ i : (⟨2, ![1, 1792]⟩ : Shape).Idx, (Cert.On_scaled.fn (F := Ideal) (m ((c.tc : Thread Cert.KernelIdeal.nD Cert.KernelIdeal.τ).loc Cert.KernelIdeal.main_arg0))).2.2.2.2.1 i = 1#1 → r.2.mem ((c.tc : Thread Cert.ReferenceIdeal.nD Cert.ReferenceIdeal.τ).loc Cert.ReferenceIdeal.main_v47) i = v4 c i)
          ∧ (∀ i : (⟨2, ![1, 1]⟩ : Shape).Idx, (Cert.On_scaled.fn (F := Ideal) (m ((c.tc : Thread Cert.KernelIdeal.nD Cert.KernelIdeal.τ).loc Cert.KernelIdeal.main_arg0))).2.2.2.2.2 i = 1#1 → r.2.mem ((c.tc : Thread Cert.ReferenceIdeal.nD Cert.ReferenceIdeal.τ).loc Cert.ReferenceIdeal.main_v48) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_scaled : Cert.On_scaled.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_scaled (hKernelIdeal := hKernelIdeal) (hReferenceIdeal := hReferenceIdeal) (hOn_scaled := hOn_scaled)
-- ==== On_scaled.lean ====
abbrev S2x896x16384 : Shape := ⟨3, ![2, 896, 16384]⟩
abbrev S1792x256x64 : Shape := ⟨3, ![1792, 256, 64]⟩
abbrev S_ : Shape := ⟨0, ![]⟩
abbrev S1792x256 : Shape := ⟨2, ![1792, 256]⟩
abbrev S1792 : Shape := ⟨1, ![1792]⟩
abbrev S1792x8192 : Shape := ⟨2, ![1792, 8192]⟩
abbrev S1792x1 : Shape := ⟨2, ![1792, 1]⟩
abbrev S1x1792 : Shape := ⟨2, ![1, 1792]⟩
abbrev S1x1 : Shape := ⟨2, ![1, 1]⟩

class Facts : Prop where
  bitsLt_bf16_f32 : FTy.bits .bf16 < FTy.bits .f32
  shapeCasts_S2x896x16384_S1792x256x64 : S2x896x16384.ShapeCasts S1792x256x64
  reducesTo_S1792x256x64_S1792x256_d2 : S1792x256x64.ReducesTo [2] S1792x256
  h_S_ : 0 < S_.numel
  bcast_S_S1792x256 : S_.BroadcastsInDim S1792x256 (![] : Fin 0 → Fin S1792x256.rank)
  reducesTo_S1792x256_S_d0_1 : S1792x256.ReducesTo [0, 1] S_
  reducesTo_S1792x256_S1792_d1 : S1792x256.ReducesTo [1] S1792
  bcast_S_S1792 : S_.BroadcastsInDim S1792 (![] : Fin 0 → Fin S1792.rank)
  bcast_S_S1792x8192 : S_.BroadcastsInDim S1792x8192 (![] : Fin 0 → Fin S1792x8192.rank)
  bcast_S1792_S1792x1_0 : S1792.BroadcastsInDim S1792x1 (![0] : Fin 1 → Fin S1792x1.rank)
  bcast_S1792x1_S1792x256_0_1 : S1792x1.BroadcastsInDim S1792x256 (![0, 1] : Fin 2 → Fin S1792x256.rank)
  bcast_S_S1x1792 : S_.BroadcastsInDim S1x1792 (![] : Fin 0 → Fin S1x1792.rank)
  bcast_S_S1x1 : S_.BroadcastsInDim S1x1 (![] : Fin 0 → Fin S1x1.rank)

variable [Facts]

def fn_where {F : FTy → Type} [FloatOps F] (arg0 : IVec S1792x256 1) (arg1 : FVec F S_ .f32) (arg2 : FVec F S1792x256 .f32) : FVec F S1792x256 .f32 :=
  let v0 : FVec F S_ .f32 := id arg1
  let v1 : FVec F S1792x256 .f32 := broadcastInDim S1792x256 ![] bcast_S_S1792x256 v0
  let v2 : FVec F S1792x256 .f32 := select arg0 v1 arg2
  v2

def fn_part1 {F : FTy → Type} [FloatOps F] (main_v15 : FVec F S1792 .f32) : IVec S1792x8192 1 × IVec S1792x256 1 × IVec S1792x256 1 × IVec S1792x256 1 × IVec S1x1792 1 × IVec S1x1 1 :=
  let main_cst_7 : FVec F S_ .f32 := constant S_ .f32 0x42FE0000#32
  let main_v16 : FVec F S1792 .f32 := broadcastInDim S1792 ![] bcast_S_S1792 main_cst_7
  let main_v17 : FVec F S1792 .f32 := Host.divf main_v15 main_v16
  let main_c : IVec S_ 1 := constantI S_ 1 1#1
  let main_v18 : IVec S1792x8192 1 := broadcastInDim S1792x8192 ![] bcast_S_S1792x8192 main_c
  let main_c_8 : IVec S_ 1 := constantI S_ 1 1#1
  let main_v19 : IVec S1792x256 1 := broadcastInDim S1792x256 ![] bcast_S_S1792x256 main_c_8
  let main_c_9 : IVec S_ 1 := constantI S_ 1 1#1
  let main_v20 : IVec S1792x256 1 := broadcastInDim S1792x256 ![] bcast_S_S1792x256 main_c_9
  let main_cst_10 : FVec F S_ .f32 := constant S_ .f32 0x00000000#32
  let main_v21 : FVec F S1792 .f32 := broadcastInDim S1792 ![] bcast_S_S1792 main_cst_10
  let main_v22 : IVec S1792 1 := cmpf .une main_v17 main_v21
  let main_v23 : IVec S1792x1 1 := broadcastInDim S1792x1 ![0] bcast_S1792_S1792x1_0 main_v22
  let main_v24 : IVec S1792x256 1 := broadcastInDim S1792x256 ![0, 1] bcast_S1792x1_S1792x256_0_1 main_v23
  let main_c_11 : IVec S_ 1 := constantI S_ 1 1#1
  let main_v25 : IVec S1x1792 1 := broadcastInDim S1x1792 ![] bcast_S_S1x1792 main_c_11
  let main_c_12 : IVec S_ 1 := constantI S_ 1 1#1
  let main_v26 : IVec S1x1 1 := broadcastInDim S1x1 ![] bcast_S_S1x1 main_c_12
  (main_v18, main_v19, main_v20, main_v24, main_v25, main_v26)

def fn {F : FTy → Type} [FloatOps F] (main_arg0 : FVec F S2x896x16384 .bf16) : IVec S1792x8192 1 × IVec S1792x256 1 × IVec S1792x256 1 × IVec S1792x256 1 × IVec S1x1792 1 × IVec S1x1 1 :=
  let main_v0 : FVec F S2x896x16384 .f32 := (extf .f32 · bitsLt_bf16_f32) main_arg0
  let main_v1 : FVec F S1792x256x64 .f32 := shapeCast S1792x256x64 main_v0 shapeCasts_S2x896x16384_S1792x256x64
  let main_cst : FVec F S_ .f32 := constant S_ .f32 0xFF800000#32
  let main_v2 : FVec F S1792x256 .f32 := (fun x v => Host.reduce FloatOps.maximumf x v reducesTo_S1792x256x64_S1792x256_d2 h_S_) main_v1 main_cst
  let main_cst_0 : FVec F S_ .f32 := constant S_ .f32 0x7F800000#32
  let main_v3 : FVec F S1792x256 .f32 := (fun x v => Host.reduce FloatOps.minimumf x v reducesTo_S1792x256x64_S1792x256_d2 h_S_) main_v1 main_cst_0
  let main_v4 : FVec F S1792x256 .f32 := subf main_v2 main_v3
  let main_cst_1 : FVec F S_ .f32 := constant S_ .f32 0x41700000#32
  let main_v5 : FVec F S1792x256 .f32 := broadcastInDim S1792x256 ![] bcast_S_S1792x256 main_cst_1
  let main_v6 : FVec F S1792x256 .f32 := Host.divf main_v4 main_v5
  let main_cst_2 : FVec F S_ .f32 := constant S_ .f32 0x00000000#32
  let main_v7 : FVec F S1792x256 .f32 := broadcastInDim S1792x256 ![] bcast_S_S1792x256 main_cst_2
  let main_v8 : IVec S1792x256 1 := cmpf .oeq main_v6 main_v7
  let main_cst_3 : FVec F S_ .f32 := constant S_ .f32 0x3F800000#32
  let main_v9 : FVec F S1792x256 .f32 := fn_where (F := F) main_v8 main_cst_3 main_v6
  let main_cst_4 : FVec F S_ .f32 := constant S_ .f32 0x00000000#32
  let main_v10 : FVec F S_ .f32 := (fun x v => Host.reduceAdd x v reducesTo_S1792x256_S_d0_1 h_S_) main_v9 main_cst_4
  let main_cst_5 : FVec F S_ .f32 := constant S_ .f32 0x48E00000#32
  let main_v11 : FVec F S_ .f32 := Host.divf main_v10 main_cst_5
  let main_v12 : FVec F S1792x256 .f32 := broadcastInDim S1792x256 ![] bcast_S_S1792x256 main_v11
  let main_v13 : FVec F S1792x256 .f32 := subf main_v9 main_v12
  let main_v14 : FVec F S1792x256 .f32 := Host.absf main_v13
  let main_cst_6 : FVec F S_ .f32 := constant S_ .f32 0xFF800000#32
  let main_v15 : FVec F S1792 .f32 := (fun x v => Host.reduce FloatOps.maximumf x v reducesTo_S1792x256_S1792_d1 h_S_) main_v14 main_cst_6
  fn_part1 (F := F) main_v15
-- ==== Kernel.lean ====
abbrev S2x896x16384 : Shape := ⟨3, ![2, 896, 16384]⟩
abbrev S1792x16384 : Shape := ⟨2, ![1792, 16384]⟩
abbrev S1792x8192 : Shape := ⟨2, ![1792, 8192]⟩
abbrev S1792x256 : Shape := ⟨2, ![1792, 256]⟩
abbrev S1x1792 : Shape := ⟨2, ![1, 1792]⟩
abbrev S1x1 : Shape := ⟨2, ![1, 1]⟩
abbrev S4x256x4096 : Shape := ⟨3, ![4, 256, 4096]⟩
abbrev S2x256x2048 : Shape := ⟨3, ![2, 256, 2048]⟩
abbrev S256x256 : Shape := ⟨2, ![256, 256]⟩
abbrev S2x2x64x128 : Shape := ⟨4, ![2, 2, 64, 128]⟩
abbrev S2x8x256 : Shape := ⟨3, ![2, 8, 256]⟩
abbrev S7x256x256 : Shape := ⟨3, ![7, 256, 256]⟩
abbrev S8x128 : Shape := ⟨2, ![8, 128]⟩
abbrev S4 : Shape := ⟨1, ![4]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S256x2048 : Shape := ⟨2, ![256, 2048]⟩
abbrev S1x256x2048 : Shape := ⟨3, ![1, 256, 2048]⟩
abbrev S1x256x512 : Shape := ⟨3, ![1, 256, 512]⟩
abbrev S256x512 : Shape := ⟨2, ![256, 512]⟩
abbrev S512x256 : Shape := ⟨2, ![512, 256]⟩
abbrev S16x256 : Shape := ⟨2, ![16, 256]⟩
abbrev S8x256 : Shape := ⟨2, ![8, 256]⟩
abbrev S1x2x64x128 : Shape := ⟨4, ![1, 2, 64, 128]⟩
abbrev S2x64x128 : Shape := ⟨3, ![2, 64, 128]⟩
abbrev S1x8x128 : Shape := ⟨3, ![1, 8, 128]⟩
abbrev S16x128 : Shape := ⟨2, ![16, 128]⟩
abbrev S1x256x256 : Shape := ⟨3, ![1, 256, 256]⟩
abbrev S1x1x256 : Shape := ⟨3, ![1, 1, 256]⟩
abbrev S1x256 : Shape := ⟨2, ![1, 256]⟩
abbrev S32x256 : Shape := ⟨2, ![32, 256]⟩
abbrev S128x256 : Shape := ⟨2, ![128, 256]⟩
abbrev S256x128 : Shape := ⟨2, ![256, 128]⟩
abbrev S1x256x128 : Shape := ⟨3, ![1, 256, 128]⟩
abbrev S1x1x1 : Shape := ⟨3, ![1, 1, 1]⟩
abbrev S256 : Shape := ⟨1, ![256]⟩

abbrev nBuf : Space → Nat
  | .hbm => 8
  | .vmem => 14
  | .smem => 1
  | _ => 0

abbrev bufTy : (tb : Table) → Fin (tcTables nBuf tb) → BufTy
  | .hbm, ⟨0, _⟩ => ⟨S2x896x16384, .bf16⟩
  | .hbm, ⟨1, _⟩ => ⟨S1792x16384, .bf16⟩
  | .hbm, ⟨2, _⟩ => ⟨S1792x8192, .i8⟩
  | .hbm, ⟨3, _⟩ => ⟨S1792x256, .f32⟩
  | .hbm, ⟨4, _⟩ => ⟨S1792x256, .i8⟩
  | .hbm, ⟨5, _⟩ => ⟨S1792x256, .i8⟩
  | .hbm, ⟨6, _⟩ => ⟨S1x1792, .f32⟩
  | .hbm, ⟨7, _⟩ => ⟨S1x1, .f32⟩
  | .local _ .vmem, ⟨0, _⟩ => ⟨S1x1792, .f32⟩
  | .local _ .vmem, ⟨1, _⟩ => ⟨S4x256x4096, .bf16⟩
  | .local _ .vmem, ⟨2, _⟩ => ⟨S2x256x2048, .i8⟩
  | .local _ .vmem, ⟨3, _⟩ => ⟨S256x256, .bf16⟩
  | .local _ .vmem, ⟨4, _⟩ => ⟨S2x2x64x128, .i32⟩
  | .local _ .vmem, ⟨5, _⟩ => ⟨S2x2x64x128, .i32⟩
  | .local _ .vmem, ⟨6, _⟩ => ⟨S2x8x256, .f32⟩
  | .local _ .vmem, ⟨7, _⟩ => ⟨S2x8x256, .i32⟩
  | .local _ .vmem, ⟨8, _⟩ => ⟨S7x256x256, .f32⟩
  | .local _ .vmem, ⟨9, _⟩ => ⟨S256x256, .f32⟩
  | .local _ .vmem, ⟨10, _⟩ => ⟨S8x128, .f32⟩
  | .local _ .vmem, ⟨11, _⟩ => ⟨S256x256, .f32⟩
  | .local _ .vmem, ⟨12, _⟩ => ⟨S256x256, .i8⟩
  | .local _ .vmem, ⟨13, _⟩ => ⟨S1792x256, .i8⟩
  | .local _ .smem, ⟨0, _⟩ => ⟨S1x1, .f32⟩
  | _, _ => ⟨S2x896x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

def k0_mult1 : BitVec 32 :=
  let c0_i32 : BitVec 32 := 0#32
  c0_i32
def k0_mult2 : BitVec 32 :=
  let c0_i32_0 : BitVec 32 := 0#32
  c0_i32_0
def k0_mult3 : BitVec 32 :=
  let c0_i32_5 : BitVec 32 := 0#32
  c0_i32_5
def k0_mult4 : BitVec 32 :=
  let c4096_i32 : BitVec 32 := 4096#32
  c4096_i32
def k0_mult5 : BitVec 32 :=
  let c0_i32_9 : BitVec 32 := 0#32
  c0_i32_9
def k0_mult6 : BitVec 32 :=
  let c8192_i32 : BitVec 32 := 8192#32
  c8192_i32
@[reducible] def k0_t1_loop : Scf.Loop 32 :=
  let c0_i32_22 : BitVec 32 := 0#32
  let c28_i32 : BitVec 32 := 28#32
  let v46 : BitVec 32 := Scalar.addi c0_i32_22 c28_i32
  let c1_i32_23 : BitVec 32 := 1#32
  ⟨c0_i32_22, v46, c1_i32_23⟩
def k0_cond1 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c3_i32 : BitVec 32 := 3#32
  let v294 : BitVec 32 := Scalar.addi arg25 c3_i32
  let c28_i32_141 : BitVec 32 := 28#32
  let v295 : BitVec 1 := Scalar.cmpi .slt v294 c28_i32_141
  let v296 : BitVec 32 := Scalar.extui v295
  let c0_i32_142 : BitVec 32 := 0#32
  let v297 : BitVec 1 := Scalar.cmpi .ne v296 c0_i32_142
  v297

def k0_mult7 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c3_i32_4945 : BitVec 32 := 3#32
  let v8048 : BitVec 32 := Scalar.addi arg25 c3_i32_4945
  let c0_i32_4954 : BitVec 32 := 0#32
  let v8061 : BitVec 1 := Scalar.cmpi .sgt v8048 c0_i32_4954
  let v8062 : BitVec 32 := Scalar.extui v8061
  let c0_i32_4955 : BitVec 32 := 0#32
  let v8063 : BitVec 1 := Scalar.cmpi .slt v8048 c0_i32_4955
  let v8064 : BitVec 32 := Scalar.extui v8063
  let v8065 : BitVec 32 := Scalar.subi v8062 v8064
  let c4_i32_4953 : BitVec 32 := 4#32
  let c0_i32_4956 : BitVec 32 := 0#32
  let v8066 : BitVec 1 := Scalar.cmpi .sgt c4_i32_4953 c0_i32_4956
  let v8067 : BitVec 32 := Scalar.extui v8066
  let c0_i32_4957 : BitVec 32 := 0#32
  let v8068 : BitVec 1 := Scalar.cmpi .slt c4_i32_4953 c0_i32_4957
  let v8069 : BitVec 32 := Scalar.extui v8068
  let v8070 : BitVec 32 := Scalar.subi v8067 v8069
  let v8071 : BitVec 1 := Scalar.cmpi .ne v8065 v8070
  let v8072 : BitVec 32 := Scalar.remsi v8048 c4_i32_4953
  let c0_i32_4958 : BitVec 32 := 0#32
  let v8073 : BitVec 1 := Scalar.cmpi .ne v8072 c0_i32_4958
  let v8074 : BitVec 1 := Scalar.andi v8071 v8073
  let v8060 : BitVec 32 := Scalar.divsi v8048 c4_i32_4953
  let c1_i32_4959 : BitVec 32 := 1#32
  let v8075 : BitVec 32 := Scalar.subi v8060 c1_i32_4959
  let v8076 : BitVec 32 := Scalar.select v8074 v8075 v8060
  let c256_i32_4966 : BitVec 32 := 256#32
  let v8087 : BitVec 32 := Scalar.muli v8076 c256_i32_4966
  v8087
def k0_mult8 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c3_i32_4945 : BitVec 32 := 3#32
  let v8048 : BitVec 32 := Scalar.addi arg25 c3_i32_4945
  let c4_i32_4960 : BitVec 32 := 4#32
  let c0_i32_4961 : BitVec 32 := 0#32
  let v8077 : BitVec 1 := Scalar.cmpi .eq c4_i32_4960 c0_i32_4961
  let c1_i32_4962 : BitVec 32 := 1#32
  let v8078 : BitVec 32 := Scalar.select v8077 c1_i32_4962 c4_i32_4960
  let v8079 : BitVec 32 := Scalar.remsi v8048 v8078
  let c0_i32_4964 : BitVec 32 := 0#32
  let v8081 : BitVec 1 := Scalar.cmpi .slt v8079 c0_i32_4964
  let c0_i32_4965 : BitVec 32 := 0#32
  let v8082 : BitVec 1 := Scalar.cmpi .slt v8078 c0_i32_4965
  let v8083 : BitVec 1 := Scalar.xori v8081 v8082
  let c0_i32_4963 : BitVec 32 := 0#32
  let v8080 : BitVec 1 := Scalar.cmpi .ne v8079 c0_i32_4963
  let v8084 : BitVec 1 := Scalar.andi v8083 v8080
  let v8085 : BitVec 32 := Scalar.addi v8079 v8078
  let v8086 : BitVec 32 := Scalar.select v8084 v8085 v8079
  let c4096_i32_4967 : BitVec 32 := 4096#32
  let v8089 : BitVec 32 := Scalar.muli v8086 c4096_i32_4967
  v8089
def k0_off1 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c3_i32_4946 : BitVec 32 := 3#32
  let v8049 : BitVec 32 := Scalar.addi arg25 c3_i32_4946
  let c4_i32_4947 : BitVec 32 := 4#32
  let c0_i32_4948 : BitVec 32 := 0#32
  let v8050 : BitVec 1 := Scalar.cmpi .eq c4_i32_4947 c0_i32_4948
  let c1_i32_4949 : BitVec 32 := 1#32
  let v8051 : BitVec 32 := Scalar.select v8050 c1_i32_4949 c4_i32_4947
  let v8052 : BitVec 32 := Scalar.remsi v8049 v8051
  let c0_i32_4951 : BitVec 32 := 0#32
  let v8054 : BitVec 1 := Scalar.cmpi .slt v8052 c0_i32_4951
  let c0_i32_4952 : BitVec 32 := 0#32
  let v8055 : BitVec 1 := Scalar.cmpi .slt v8051 c0_i32_4952
  let v8056 : BitVec 1 := Scalar.xori v8054 v8055
  let c0_i32_4950 : BitVec 32 := 0#32
  let v8053 : BitVec 1 := Scalar.cmpi .ne v8052 c0_i32_4950
  let v8057 : BitVec 1 := Scalar.andi v8056 v8053
  let v8058 : BitVec 32 := Scalar.addi v8052 v8051
  let v8059 : BitVec 32 := Scalar.select v8057 v8058 v8052
  ![v8059.toNat]
def k0_off2 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c3_i32_4946 : BitVec 32 := 3#32
  let v8049 : BitVec 32 := Scalar.addi arg25 c3_i32_4946
  let c4_i32_4947 : BitVec 32 := 4#32
  let c0_i32_4948 : BitVec 32 := 0#32
  let v8050 : BitVec 1 := Scalar.cmpi .eq c4_i32_4947 c0_i32_4948
  let c1_i32_4949 : BitVec 32 := 1#32
  let v8051 : BitVec 32 := Scalar.select v8050 c1_i32_4949 c4_i32_4947
  let v8052 : BitVec 32 := Scalar.remsi v8049 v8051
  let c0_i32_4951 : BitVec 32 := 0#32
  let v8054 : BitVec 1 := Scalar.cmpi .slt v8052 c0_i32_4951
  let c0_i32_4952 : BitVec 32 := 0#32
  let v8055 : BitVec 1 := Scalar.cmpi .slt v8051 c0_i32_4952
  let v8056 : BitVec 1 := Scalar.xori v8054 v8055
  let c0_i32_4950 : BitVec 32 := 0#32
  let v8053 : BitVec 1 := Scalar.cmpi .ne v8052 c0_i32_4950
  let v8057 : BitVec 1 := Scalar.andi v8056 v8053
  let v8058 : BitVec 32 := Scalar.addi v8052 v8051
  let v8059 : BitVec 32 := Scalar.select v8057 v8058 v8052
  let c0_i32_4968 : BitVec 32 := 0#32
  let c0_i32_4969 : BitVec 32 := 0#32
  ![v8059.toNat, 0, 0]
def k0_off3 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c3_i32_4945 : BitVec 32 := 3#32
  let v8048 : BitVec 32 := Scalar.addi arg25 c3_i32_4945
  let c0_i32_4954 : BitVec 32 := 0#32
  let v8061 : BitVec 1 := Scalar.cmpi .sgt v8048 c0_i32_4954
  let v8062 : BitVec 32 := Scalar.extui v8061
  let c0_i32_4955 : BitVec 32 := 0#32
  let v8063 : BitVec 1 := Scalar.cmpi .slt v8048 c0_i32_4955
  let v8064 : BitVec 32 := Scalar.extui v8063
  let v8065 : BitVec 32 := Scalar.subi v8062 v8064
  let c4_i32_4953 : BitVec 32 := 4#32
  let c0_i32_4956 : BitVec 32 := 0#32
  let v8066 : BitVec 1 := Scalar.cmpi .sgt c4_i32_4953 c0_i32_4956
  let v8067 : BitVec 32 := Scalar.extui v8066
  let c0_i32_4957 : BitVec 32 := 0#32
  let v8068 : BitVec 1 := Scalar.cmpi .slt c4_i32_4953 c0_i32_4957
  let v8069 : BitVec 32 := Scalar.extui v8068
  let v8070 : BitVec 32 := Scalar.subi v8067 v8069
  let v8071 : BitVec 1 := Scalar.cmpi .ne v8065 v8070
  let v8072 : BitVec 32 := Scalar.remsi v8048 c4_i32_4953
  let c0_i32_4958 : BitVec 32 := 0#32
  let v8073 : BitVec 1 := Scalar.cmpi .ne v8072 c0_i32_4958
  let v8074 : BitVec 1 := Scalar.andi v8071 v8073
  let v8060 : BitVec 32 := Scalar.divsi v8048 c4_i32_4953
  let c1_i32_4959 : BitVec 32 := 1#32
  let v8075 : BitVec 32 := Scalar.subi v8060 c1_i32_4959
  let v8076 : BitVec 32 := Scalar.select v8074 v8075 v8060
  let c256_i32_4966 : BitVec 32 := 256#32
  let v8087 : BitVec 32 := Scalar.muli v8076 c256_i32_4966
  let v8088 : BitVec 32 := v8087
  let c4_i32_4960 : BitVec 32 := 4#32
  let c0_i32_4961 : BitVec 32 := 0#32
  let v8077 : BitVec 1 := Scalar.cmpi .eq c4_i32_4960 c0_i32_4961
  let c1_i32_4962 : BitVec 32 := 1#32
  let v8078 : BitVec 32 := Scalar.select v8077 c1_i32_4962 c4_i32_4960
  let v8079 : BitVec 32 := Scalar.remsi v8048 v8078
  let c0_i32_4964 : BitVec 32 := 0#32
  let v8081 : BitVec 1 := Scalar.cmpi .slt v8079 c0_i32_4964
  let c0_i32_4965 : BitVec 32 := 0#32
  let v8082 : BitVec 1 := Scalar.cmpi .slt v8078 c0_i32_4965
  let v8083 : BitVec 1 := Scalar.xori v8081 v8082
  let c0_i32_4963 : BitVec 32 := 0#32
  let v8080 : BitVec 1 := Scalar.cmpi .ne v8079 c0_i32_4963
  let v8084 : BitVec 1 := Scalar.andi v8083 v8080
  let v8085 : BitVec 32 := Scalar.addi v8079 v8078
  let v8086 : BitVec 32 := Scalar.select v8084 v8085 v8079
  let c4096_i32_4967 : BitVec 32 := 4096#32
  let v8089 : BitVec 32 := Scalar.muli v8086 c4096_i32_4967
  let v8090 : BitVec 32 := v8089
  ![v8088.toNat, v8090.toNat]
def k0_cond2 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c2_i32_143 : BitVec 32 := 2#32
  let v298 : BitVec 1 := Scalar.cmpi .sge arg25 c2_i32_143
  let v299 : BitVec 32 := Scalar.extui v298
  let c0_i32_144 : BitVec 32 := 0#32
  let v300 : BitVec 1 := Scalar.cmpi .ne v299 c0_i32_144
  v300

def k0_mult9 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c2_i32_4945 : BitVec 32 := 2#32
  let v8048 : BitVec 32 := Scalar.subi arg25 c2_i32_4945
  let c0_i32_4947 : BitVec 32 := 0#32
  let v8050 : BitVec 1 := Scalar.cmpi .sgt v8048 c0_i32_4947
  let v8051 : BitVec 32 := Scalar.extui v8050
  let c0_i32_4948 : BitVec 32 := 0#32
  let v8052 : BitVec 1 := Scalar.cmpi .slt v8048 c0_i32_4948
  let v8053 : BitVec 32 := Scalar.extui v8052
  let v8054 : BitVec 32 := Scalar.subi v8051 v8053
  let c4_i32_4946 : BitVec 32 := 4#32
  let c0_i32_4949 : BitVec 32 := 0#32
  let v8055 : BitVec 1 := Scalar.cmpi .sgt c4_i32_4946 c0_i32_4949
  let v8056 : BitVec 32 := Scalar.extui v8055
  let c0_i32_4950 : BitVec 32 := 0#32
  let v8057 : BitVec 1 := Scalar.cmpi .slt c4_i32_4946 c0_i32_4950
  let v8058 : BitVec 32 := Scalar.extui v8057
  let v8059 : BitVec 32 := Scalar.subi v8056 v8058
  let v8060 : BitVec 1 := Scalar.cmpi .ne v8054 v8059
  let v8061 : BitVec 32 := Scalar.remsi v8048 c4_i32_4946
  let c0_i32_4951 : BitVec 32 := 0#32
  let v8062 : BitVec 1 := Scalar.cmpi .ne v8061 c0_i32_4951
  let v8063 : BitVec 1 := Scalar.andi v8060 v8062
  let v8049 : BitVec 32 := Scalar.divsi v8048 c4_i32_4946
  let c1_i32_4952 : BitVec 32 := 1#32
  let v8064 : BitVec 32 := Scalar.subi v8049 c1_i32_4952
  let v8065 : BitVec 32 := Scalar.select v8063 v8064 v8049
  let c256_i32_4959 : BitVec 32 := 256#32
  let v8076 : BitVec 32 := Scalar.muli v8065 c256_i32_4959
  v8076
def k0_mult10 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c2_i32_4945 : BitVec 32 := 2#32
  let v8048 : BitVec 32 := Scalar.subi arg25 c2_i32_4945
  let c4_i32_4953 : BitVec 32 := 4#32
  let c0_i32_4954 : BitVec 32 := 0#32
  let v8066 : BitVec 1 := Scalar.cmpi .eq c4_i32_4953 c0_i32_4954
  let c1_i32_4955 : BitVec 32 := 1#32
  let v8067 : BitVec 32 := Scalar.select v8066 c1_i32_4955 c4_i32_4953
  let v8068 : BitVec 32 := Scalar.remsi v8048 v8067
  let c0_i32_4957 : BitVec 32 := 0#32
  let v8070 : BitVec 1 := Scalar.cmpi .slt v8068 c0_i32_4957
  let c0_i32_4958 : BitVec 32 := 0#32
  let v8071 : BitVec 1 := Scalar.cmpi .slt v8067 c0_i32_4958
  let v8072 : BitVec 1 := Scalar.xori v8070 v8071
  let c0_i32_4956 : BitVec 32 := 0#32
  let v8069 : BitVec 1 := Scalar.cmpi .ne v8068 c0_i32_4956
  let v8073 : BitVec 1 := Scalar.andi v8072 v8069
  let v8074 : BitVec 32 := Scalar.addi v8068 v8067
  let v8075 : BitVec 32 := Scalar.select v8073 v8074 v8068
  let c2048_i32_4960 : BitVec 32 := 2048#32
  let v8078 : BitVec 32 := Scalar.muli v8075 c2048_i32_4960
  v8078
def k0_off4 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  ![v266.toNat]
def k0_off5 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c2_i32_4945 : BitVec 32 := 2#32
  let v8048 : BitVec 32 := Scalar.subi arg25 c2_i32_4945
  let c0_i32_4947 : BitVec 32 := 0#32
  let v8050 : BitVec 1 := Scalar.cmpi .sgt v8048 c0_i32_4947
  let v8051 : BitVec 32 := Scalar.extui v8050
  let c0_i32_4948 : BitVec 32 := 0#32
  let v8052 : BitVec 1 := Scalar.cmpi .slt v8048 c0_i32_4948
  let v8053 : BitVec 32 := Scalar.extui v8052
  let v8054 : BitVec 32 := Scalar.subi v8051 v8053
  let c4_i32_4946 : BitVec 32 := 4#32
  let c0_i32_4949 : BitVec 32 := 0#32
  let v8055 : BitVec 1 := Scalar.cmpi .sgt c4_i32_4946 c0_i32_4949
  let v8056 : BitVec 32 := Scalar.extui v8055
  let c0_i32_4950 : BitVec 32 := 0#32
  let v8057 : BitVec 1 := Scalar.cmpi .slt c4_i32_4946 c0_i32_4950
  let v8058 : BitVec 32 := Scalar.extui v8057
  let v8059 : BitVec 32 := Scalar.subi v8056 v8058
  let v8060 : BitVec 1 := Scalar.cmpi .ne v8054 v8059
  let v8061 : BitVec 32 := Scalar.remsi v8048 c4_i32_4946
  let c0_i32_4951 : BitVec 32 := 0#32
  let v8062 : BitVec 1 := Scalar.cmpi .ne v8061 c0_i32_4951
  let v8063 : BitVec 1 := Scalar.andi v8060 v8062
  let v8049 : BitVec 32 := Scalar.divsi v8048 c4_i32_4946
  let c1_i32_4952 : BitVec 32 := 1#32
  let v8064 : BitVec 32 := Scalar.subi v8049 c1_i32_4952
  let v8065 : BitVec 32 := Scalar.select v8063 v8064 v8049
  let c256_i32_4959 : BitVec 32 := 256#32
  let v8076 : BitVec 32 := Scalar.muli v8065 c256_i32_4959
  let v8077 : BitVec 32 := v8076
  let c4_i32_4953 : BitVec 32 := 4#32
  let c0_i32_4954 : BitVec 32 := 0#32
  let v8066 : BitVec 1 := Scalar.cmpi .eq c4_i32_4953 c0_i32_4954
  let c1_i32_4955 : BitVec 32 := 1#32
  let v8067 : BitVec 32 := Scalar.select v8066 c1_i32_4955 c4_i32_4953
  let v8068 : BitVec 32 := Scalar.remsi v8048 v8067
  let c0_i32_4957 : BitVec 32 := 0#32
  let v8070 : BitVec 1 := Scalar.cmpi .slt v8068 c0_i32_4957
  let c0_i32_4958 : BitVec 32 := 0#32
  let v8071 : BitVec 1 := Scalar.cmpi .slt v8067 c0_i32_4958
  let v8072 : BitVec 1 := Scalar.xori v8070 v8071
  let c0_i32_4956 : BitVec 32 := 0#32
  let v8069 : BitVec 1 := Scalar.cmpi .ne v8068 c0_i32_4956
  let v8073 : BitVec 1 := Scalar.andi v8072 v8069
  let v8074 : BitVec 32 := Scalar.addi v8068 v8067
  let v8075 : BitVec 32 := Scalar.select v8073 v8074 v8068
  let c2048_i32_4960 : BitVec 32 := 2048#32
  let v8078 : BitVec 32 := Scalar.muli v8075 c2048_i32_4960
  let v8079 : BitVec 32 := v8078
  ![v8077.toNat, v8079.toNat]
def k0_off6 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let c0_i32_4961 : BitVec 32 := 0#32
  let c0_i32_4962 : BitVec 32 := 0#32
  ![v266.toNat, 0, 0]
def k0_mult11 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_146 : BitVec 32 := 0#32
  let v302 : BitVec 1 := Scalar.cmpi .sgt arg25 c0_i32_146
  let v303 : BitVec 32 := Scalar.extui v302
  let c0_i32_147 : BitVec 32 := 0#32
  let v304 : BitVec 1 := Scalar.cmpi .slt arg25 c0_i32_147
  let v305 : BitVec 32 := Scalar.extui v304
  let v306 : BitVec 32 := Scalar.subi v303 v305
  let c4_i32_145 : BitVec 32 := 4#32
  let c0_i32_148 : BitVec 32 := 0#32
  let v307 : BitVec 1 := Scalar.cmpi .sgt c4_i32_145 c0_i32_148
  let v308 : BitVec 32 := Scalar.extui v307
  let c0_i32_149 : BitVec 32 := 0#32
  let v309 : BitVec 1 := Scalar.cmpi .slt c4_i32_145 c0_i32_149
  let v310 : BitVec 32 := Scalar.extui v309
  let v311 : BitVec 32 := Scalar.subi v308 v310
  let v312 : BitVec 1 := Scalar.cmpi .ne v306 v311
  let v313 : BitVec 32 := Scalar.remsi arg25 c4_i32_145
  let c0_i32_150 : BitVec 32 := 0#32
  let v314 : BitVec 1 := Scalar.cmpi .ne v313 c0_i32_150
  let v315 : BitVec 1 := Scalar.andi v312 v314
  let v301 : BitVec 32 := Scalar.divsi arg25 c4_i32_145
  let c1_i32_151 : BitVec 32 := 1#32
  let v316 : BitVec 32 := Scalar.subi v301 c1_i32_151
  let v317 : BitVec 32 := Scalar.select v315 v316 v301
  let c256_i32 : BitVec 32 := 256#32
  let v328 : BitVec 32 := Scalar.muli v317 c256_i32
  v328
def k0_mult12 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_152 : BitVec 32 := 4#32
  let c0_i32_153 : BitVec 32 := 0#32
  let v318 : BitVec 1 := Scalar.cmpi .eq c4_i32_152 c0_i32_153
  let c1_i32_154 : BitVec 32 := 1#32
  let v319 : BitVec 32 := Scalar.select v318 c1_i32_154 c4_i32_152
  let v320 : BitVec 32 := Scalar.remsi arg25 v319
  let c0_i32_156 : BitVec 32 := 0#32
  let v322 : BitVec 1 := Scalar.cmpi .slt v320 c0_i32_156
  let c0_i32_157 : BitVec 32 := 0#32
  let v323 : BitVec 1 := Scalar.cmpi .slt v319 c0_i32_157
  let v324 : BitVec 1 := Scalar.xori v322 v323
  let c0_i32_155 : BitVec 32 := 0#32
  let v321 : BitVec 1 := Scalar.cmpi .ne v320 c0_i32_155
  let v325 : BitVec 1 := Scalar.andi v324 v321
  let v326 : BitVec 32 := Scalar.addi v320 v319
  let v327 : BitVec 32 := Scalar.select v325 v326 v320
  let c4096_i32_158 : BitVec 32 := 4096#32
  let v330 : BitVec 32 := Scalar.muli v327 c4096_i32_158
  v330
def k0_off7 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  ![v256.toNat]
def k0_off8 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let c0_i32_159 : BitVec 32 := 0#32
  let c0_i32_160 : BitVec 32 := 0#32
  ![v256.toNat, 0, 0]
def k0_off9 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_146 : BitVec 32 := 0#32
  let v302 : BitVec 1 := Scalar.cmpi .sgt arg25 c0_i32_146
  let v303 : BitVec 32 := Scalar.extui v302
  let c0_i32_147 : BitVec 32 := 0#32
  let v304 : BitVec 1 := Scalar.cmpi .slt arg25 c0_i32_147
  let v305 : BitVec 32 := Scalar.extui v304
  let v306 : BitVec 32 := Scalar.subi v303 v305
  let c4_i32_145 : BitVec 32 := 4#32
  let c0_i32_148 : BitVec 32 := 0#32
  let v307 : BitVec 1 := Scalar.cmpi .sgt c4_i32_145 c0_i32_148
  let v308 : BitVec 32 := Scalar.extui v307
  let c0_i32_149 : BitVec 32 := 0#32
  let v309 : BitVec 1 := Scalar.cmpi .slt c4_i32_145 c0_i32_149
  let v310 : BitVec 32 := Scalar.extui v309
  let v311 : BitVec 32 := Scalar.subi v308 v310
  let v312 : BitVec 1 := Scalar.cmpi .ne v306 v311
  let v313 : BitVec 32 := Scalar.remsi arg25 c4_i32_145
  let c0_i32_150 : BitVec 32 := 0#32
  let v314 : BitVec 1 := Scalar.cmpi .ne v313 c0_i32_150
  let v315 : BitVec 1 := Scalar.andi v312 v314
  let v301 : BitVec 32 := Scalar.divsi arg25 c4_i32_145
  let c1_i32_151 : BitVec 32 := 1#32
  let v316 : BitVec 32 := Scalar.subi v301 c1_i32_151
  let v317 : BitVec 32 := Scalar.select v315 v316 v301
  let c256_i32 : BitVec 32 := 256#32
  let v328 : BitVec 32 := Scalar.muli v317 c256_i32
  let v329 : BitVec 32 := v328
  let c4_i32_152 : BitVec 32 := 4#32
  let c0_i32_153 : BitVec 32 := 0#32
  let v318 : BitVec 1 := Scalar.cmpi .eq c4_i32_152 c0_i32_153
  let c1_i32_154 : BitVec 32 := 1#32
  let v319 : BitVec 32 := Scalar.select v318 c1_i32_154 c4_i32_152
  let v320 : BitVec 32 := Scalar.remsi arg25 v319
  let c0_i32_156 : BitVec 32 := 0#32
  let v322 : BitVec 1 := Scalar.cmpi .slt v320 c0_i32_156
  let c0_i32_157 : BitVec 32 := 0#32
  let v323 : BitVec 1 := Scalar.cmpi .slt v319 c0_i32_157
  let v324 : BitVec 1 := Scalar.xori v322 v323
  let c0_i32_155 : BitVec 32 := 0#32
  let v321 : BitVec 1 := Scalar.cmpi .ne v320 c0_i32_155
  let v325 : BitVec 1 := Scalar.andi v324 v321
  let v326 : BitVec 32 := Scalar.addi v320 v319
  let v327 : BitVec 32 := Scalar.select v325 v326 v320
  let c4096_i32_158 : BitVec 32 := 4096#32
  let v330 : BitVec 32 := Scalar.muli v327 c4096_i32_158
  let v331 : BitVec 32 := v330
  ![v329.toNat, v331.toNat]
def k0_off10 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v337 : Index := Scalar.indexCast v256
  let c0_161 : Index := 0#32
  let c0_162 : Index := 0#32
  ![v337.toNat, 0, 0]
def k0_mult13 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let c0_i32_609 : BitVec 32 := 0#32
  let v882 : BitVec 32 := Scalar.addi v881 c0_i32_609
  v882
def k0_off11 (k0_t1 : Fin k0_t1_loop.trips) (c0_i32_609 : BitVec 32) : Fin 3 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let v908 : Index := Scalar.indexCast v283
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v909 : Index := Scalar.indexCast v883
  let c0_623 : Index := 0#32
  ![v908.toNat, v909.toNat, 0]
def k0_off12 (k0_t1 : Fin k0_t1_loop.trips) (c0_i32_609 : BitVec 32) : Fin 2 → Nat :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v913 : Index := Scalar.indexCast v883
  let c0_624 : Index := 0#32
  ![v913.toNat, 0]
def k0_off13 (k0_t1 : Fin k0_t1_loop.trips) (c0_i32_609 : BitVec 32) : Fin 3 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let v946 : Index := Scalar.indexCast v283
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v947 : Index := Scalar.indexCast v883
  let c128_641 : Index := 128#32
  ![v946.toNat, v947.toNat, 128]
def k0_off14 (k0_t1 : Fin k0_t1_loop.trips) (c0_i32_609 : BitVec 32) : Fin 2 → Nat :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v951 : Index := Scalar.indexCast v883
  let c128_642 : Index := 128#32
  ![v951.toNat, 128]
def k0_off15 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v960 : Index := Scalar.indexCast v256
  let c0_647 : Index := 0#32
  let c512_648 : Index := 512#32
  ![v960.toNat, 0, 512]
def k0_mult14 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_1105 : BitVec 32 := 64#32
  let v1504 : BitVec 32 := Scalar.muli v293 c64_i32_1105
  let c8_i32 : BitVec 32 := 8#32
  let v1505 : BitVec 32 := Scalar.addi v1504 c8_i32
  v1505
def k0_off16 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v1583 : Index := Scalar.indexCast v256
  let c0_1144 : Index := 0#32
  let c0_1145 : Index := 0#32
  ![v1583.toNat, 0, 0]
def k0_off17 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v1747 : Index := Scalar.indexCast v266
  let c0_1193 : Index := 0#32
  let c0_1194 : Index := 0#32
  ![v1747.toNat, 0, 0]
def k0_off18 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v1751 : Index := Scalar.indexCast v256
  let c0_1195 : Index := 0#32
  let c256_1196 : Index := 256#32
  ![v1751.toNat, 0, 256]
def k0_off19 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v1915 : Index := Scalar.indexCast v266
  let c0_1244 : Index := 0#32
  let c128_1245 : Index := 128#32
  ![v1915.toNat, 0, 128]
def k0_off20 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v1919 : Index := Scalar.indexCast v256
  let c0_1246 : Index := 0#32
  let c1024_1247 : Index := 1024#32
  ![v1919.toNat, 0, 1024]
def k0_mult15 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_1704 : BitVec 32 := 64#32
  let v2463 : BitVec 32 := Scalar.muli v293 c64_i32_1704
  let c16_i32_1705 : BitVec 32 := 16#32
  let v2464 : BitVec 32 := Scalar.addi v2463 c16_i32_1705
  v2464
def k0_off21 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v2542 : Index := Scalar.indexCast v256
  let c0_1744 : Index := 0#32
  let c512_1745 : Index := 512#32
  ![v2542.toNat, 0, 512]
def k0_off22 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v2706 : Index := Scalar.indexCast v266
  let c0_1793 : Index := 0#32
  let c256_1794 : Index := 256#32
  ![v2706.toNat, 0, 256]
def k0_off23 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v2710 : Index := Scalar.indexCast v256
  let c0_1795 : Index := 0#32
  let c768_1796 : Index := 768#32
  ![v2710.toNat, 0, 768]
def k0_off24 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v2874 : Index := Scalar.indexCast v266
  let c0_1844 : Index := 0#32
  let c384 : Index := 384#32
  ![v2874.toNat, 0, 384]
def k0_off25 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v2878 : Index := Scalar.indexCast v256
  let c0_1845 : Index := 0#32
  let c1536_1846 : Index := 1536#32
  ![v2878.toNat, 0, 1536]
def k0_mult16 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_2303 : BitVec 32 := 64#32
  let v3422 : BitVec 32 := Scalar.muli v293 c64_i32_2303
  let c24_i32 : BitVec 32 := 24#32
  let v3423 : BitVec 32 := Scalar.addi v3422 c24_i32
  v3423
def k0_off26 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v3501 : Index := Scalar.indexCast v256
  let c0_2342 : Index := 0#32
  let c1024_2343 : Index := 1024#32
  ![v3501.toNat, 0, 1024]
def k0_off27 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v3665 : Index := Scalar.indexCast v266
  let c0_2391 : Index := 0#32
  let c512_2392 : Index := 512#32
  ![v3665.toNat, 0, 512]
def k0_off28 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v3669 : Index := Scalar.indexCast v256
  let c0_2393 : Index := 0#32
  let c1280_2394 : Index := 1280#32
  ![v3669.toNat, 0, 1280]
def k0_off29 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v3833 : Index := Scalar.indexCast v266
  let c0_2442 : Index := 0#32
  let c640 : Index := 640#32
  ![v3833.toNat, 0, 640]
def k0_off30 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v3837 : Index := Scalar.indexCast v256
  let c0_2443 : Index := 0#32
  let c2048 : Index := 2048#32
  ![v3837.toNat, 0, 2048]
def k0_mult17 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_2900 : BitVec 32 := 64#32
  let v4381 : BitVec 32 := Scalar.muli v293 c64_i32_2900
  let c32_i32 : BitVec 32 := 32#32
  let v4382 : BitVec 32 := Scalar.addi v4381 c32_i32
  v4382
def k0_off31 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v4460 : Index := Scalar.indexCast v256
  let c0_2939 : Index := 0#32
  let c1536_2940 : Index := 1536#32
  ![v4460.toNat, 0, 1536]
def k0_off32 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v4624 : Index := Scalar.indexCast v266
  let c0_2988 : Index := 0#32
  let c768_2989 : Index := 768#32
  ![v4624.toNat, 0, 768]
def k0_off33 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v4628 : Index := Scalar.indexCast v256
  let c0_2990 : Index := 0#32
  let c1792 : Index := 1792#32
  ![v4628.toNat, 0, 1792]
def k0_off34 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v4792 : Index := Scalar.indexCast v266
  let c0_3038 : Index := 0#32
  let c896 : Index := 896#32
  ![v4792.toNat, 0, 896]
def k0_off35 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v4796 : Index := Scalar.indexCast v256
  let c0_3039 : Index := 0#32
  let c2560 : Index := 2560#32
  ![v4796.toNat, 0, 2560]
def k0_mult18 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_3496 : BitVec 32 := 64#32
  let v5340 : BitVec 32 := Scalar.muli v293 c64_i32_3496
  let c40_i32 : BitVec 32 := 40#32
  let v5341 : BitVec 32 := Scalar.addi v5340 c40_i32
  v5341
def k0_off36 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v5419 : Index := Scalar.indexCast v256
  let c0_3535 : Index := 0#32
  let c2048_3536 : Index := 2048#32
  ![v5419.toNat, 0, 2048]
def k0_off37 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v5583 : Index := Scalar.indexCast v266
  let c0_3584 : Index := 0#32
  let c1024_3585 : Index := 1024#32
  ![v5583.toNat, 0, 1024]
def k0_off38 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v5587 : Index := Scalar.indexCast v256
  let c0_3586 : Index := 0#32
  let c2304 : Index := 2304#32
  ![v5587.toNat, 0, 2304]
def k0_off39 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v5751 : Index := Scalar.indexCast v266
  let c0_3634 : Index := 0#32
  let c1152 : Index := 1152#32
  ![v5751.toNat, 0, 1152]
def k0_off40 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v5755 : Index := Scalar.indexCast v256
  let c0_3635 : Index := 0#32
  let c3072 : Index := 3072#32
  ![v5755.toNat, 0, 3072]
def k0_mult19 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_4092 : BitVec 32 := 64#32
  let v6299 : BitVec 32 := Scalar.muli v293 c64_i32_4092
  let c48_i32 : BitVec 32 := 48#32
  let v6300 : BitVec 32 := Scalar.addi v6299 c48_i32
  v6300
def k0_off41 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v6378 : Index := Scalar.indexCast v256
  let c0_4131 : Index := 0#32
  let c2560_4132 : Index := 2560#32
  ![v6378.toNat, 0, 2560]
def k0_off42 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v6542 : Index := Scalar.indexCast v266
  let c0_4180 : Index := 0#32
  let c1280_4181 : Index := 1280#32
  ![v6542.toNat, 0, 1280]
def k0_off43 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v6546 : Index := Scalar.indexCast v256
  let c0_4182 : Index := 0#32
  let c2816 : Index := 2816#32
  ![v6546.toNat, 0, 2816]
def k0_off44 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v6710 : Index := Scalar.indexCast v266
  let c0_4230 : Index := 0#32
  let c1408 : Index := 1408#32
  ![v6710.toNat, 0, 1408]
def k0_off45 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v6714 : Index := Scalar.indexCast v256
  let c0_4231 : Index := 0#32
  let c3584 : Index := 3584#32
  ![v6714.toNat, 0, 3584]
def k0_mult20 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_4688 : BitVec 32 := 64#32
  let v7258 : BitVec 32 := Scalar.muli v293 c64_i32_4688
  let c56_i32 : BitVec 32 := 56#32
  let v7259 : BitVec 32 := Scalar.addi v7258 c56_i32
  v7259
def k0_off46 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7337 : Index := Scalar.indexCast v256
  let c0_4727 : Index := 0#32
  let c3072_4728 : Index := 3072#32
  ![v7337.toNat, 0, 3072]
def k0_off47 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v7501 : Index := Scalar.indexCast v266
  let c0_4776 : Index := 0#32
  let c1536_4777 : Index := 1536#32
  ![v7501.toNat, 0, 1536]
def k0_off48 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7505 : Index := Scalar.indexCast v256
  let c0_4778 : Index := 0#32
  let c3328 : Index := 3328#32
  ![v7505.toNat, 0, 3328]
def k0_off49 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v7669 : Index := Scalar.indexCast v266
  let c0_4826 : Index := 0#32
  let c1664 : Index := 1664#32
  ![v7669.toNat, 0, 1664]
def k0_off50 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7673 : Index := Scalar.indexCast v256
  let c0_4827 : Index := 0#32
  let c3584_4828 : Index := 3584#32
  ![v7673.toNat, 0, 3584]
def k0_off51 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v7837 : Index := Scalar.indexCast v266
  let c0_4876 : Index := 0#32
  let c1792_4877 : Index := 1792#32
  ![v7837.toNat, 0, 1792]
def k0_off52 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7841 : Index := Scalar.indexCast v256
  let c0_4878 : Index := 0#32
  let c3840 : Index := 3840#32
  ![v7841.toNat, 0, 3840]
def k0_off53 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v8005 : Index := Scalar.indexCast v266
  let c0_4926 : Index := 0#32
  let c1920 : Index := 1920#32
  ![v8005.toNat, 0, 1920]
def k0_mult21 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_4928 : BitVec 32 := 0#32
  let v8010 : BitVec 1 := Scalar.cmpi .sgt arg25 c0_i32_4928
  let v8011 : BitVec 32 := Scalar.extui v8010
  let c0_i32_4929 : BitVec 32 := 0#32
  let v8012 : BitVec 1 := Scalar.cmpi .slt arg25 c0_i32_4929
  let v8013 : BitVec 32 := Scalar.extui v8012
  let v8014 : BitVec 32 := Scalar.subi v8011 v8013
  let c4_i32_4927 : BitVec 32 := 4#32
  let c0_i32_4930 : BitVec 32 := 0#32
  let v8015 : BitVec 1 := Scalar.cmpi .sgt c4_i32_4927 c0_i32_4930
  let v8016 : BitVec 32 := Scalar.extui v8015
  let c0_i32_4931 : BitVec 32 := 0#32
  let v8017 : BitVec 1 := Scalar.cmpi .slt c4_i32_4927 c0_i32_4931
  let v8018 : BitVec 32 := Scalar.extui v8017
  let v8019 : BitVec 32 := Scalar.subi v8016 v8018
  let v8020 : BitVec 1 := Scalar.cmpi .ne v8014 v8019
  let v8021 : BitVec 32 := Scalar.remsi arg25 c4_i32_4927
  let c0_i32_4932 : BitVec 32 := 0#32
  let v8022 : BitVec 1 := Scalar.cmpi .ne v8021 c0_i32_4932
  let v8023 : BitVec 1 := Scalar.andi v8020 v8022
  let v8009 : BitVec 32 := Scalar.divsi arg25 c4_i32_4927
  let c1_i32_4933 : BitVec 32 := 1#32
  let v8024 : BitVec 32 := Scalar.subi v8009 c1_i32_4933
  let v8025 : BitVec 32 := Scalar.select v8023 v8024 v8009
  let c256_i32_4940 : BitVec 32 := 256#32
  let v8036 : BitVec 32 := Scalar.muli v8025 c256_i32_4940
  v8036
def k0_mult22 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_4934 : BitVec 32 := 4#32
  let c0_i32_4935 : BitVec 32 := 0#32
  let v8026 : BitVec 1 := Scalar.cmpi .eq c4_i32_4934 c0_i32_4935
  let c1_i32_4936 : BitVec 32 := 1#32
  let v8027 : BitVec 32 := Scalar.select v8026 c1_i32_4936 c4_i32_4934
  let v8028 : BitVec 32 := Scalar.remsi arg25 v8027
  let c0_i32_4938 : BitVec 32 := 0#32
  let v8030 : BitVec 1 := Scalar.cmpi .slt v8028 c0_i32_4938
  let c0_i32_4939 : BitVec 32 := 0#32
  let v8031 : BitVec 1 := Scalar.cmpi .slt v8027 c0_i32_4939
  let v8032 : BitVec 1 := Scalar.xori v8030 v8031
  let c0_i32_4937 : BitVec 32 := 0#32
  let v8029 : BitVec 1 := Scalar.cmpi .ne v8028 c0_i32_4937
  let v8033 : BitVec 1 := Scalar.andi v8032 v8029
  let v8034 : BitVec 32 := Scalar.addi v8028 v8027
  let v8035 : BitVec 32 := Scalar.select v8033 v8034 v8028
  let c2048_i32 : BitVec 32 := 2048#32
  let v8038 : BitVec 32 := Scalar.muli v8035 c2048_i32
  v8038
def k0_off54 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  ![v266.toNat]
def k0_off55 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_4928 : BitVec 32 := 0#32
  let v8010 : BitVec 1 := Scalar.cmpi .sgt arg25 c0_i32_4928
  let v8011 : BitVec 32 := Scalar.extui v8010
  let c0_i32_4929 : BitVec 32 := 0#32
  let v8012 : BitVec 1 := Scalar.cmpi .slt arg25 c0_i32_4929
  let v8013 : BitVec 32 := Scalar.extui v8012
  let v8014 : BitVec 32 := Scalar.subi v8011 v8013
  let c4_i32_4927 : BitVec 32 := 4#32
  let c0_i32_4930 : BitVec 32 := 0#32
  let v8015 : BitVec 1 := Scalar.cmpi .sgt c4_i32_4927 c0_i32_4930
  let v8016 : BitVec 32 := Scalar.extui v8015
  let c0_i32_4931 : BitVec 32 := 0#32
  let v8017 : BitVec 1 := Scalar.cmpi .slt c4_i32_4927 c0_i32_4931
  let v8018 : BitVec 32 := Scalar.extui v8017
  let v8019 : BitVec 32 := Scalar.subi v8016 v8018
  let v8020 : BitVec 1 := Scalar.cmpi .ne v8014 v8019
  let v8021 : BitVec 32 := Scalar.remsi arg25 c4_i32_4927
  let c0_i32_4932 : BitVec 32 := 0#32
  let v8022 : BitVec 1 := Scalar.cmpi .ne v8021 c0_i32_4932
  let v8023 : BitVec 1 := Scalar.andi v8020 v8022
  let v8009 : BitVec 32 := Scalar.divsi arg25 c4_i32_4927
  let c1_i32_4933 : BitVec 32 := 1#32
  let v8024 : BitVec 32 := Scalar.subi v8009 c1_i32_4933
  let v8025 : BitVec 32 := Scalar.select v8023 v8024 v8009
  let c256_i32_4940 : BitVec 32 := 256#32
  let v8036 : BitVec 32 := Scalar.muli v8025 c256_i32_4940
  let v8037 : BitVec 32 := v8036
  let c4_i32_4934 : BitVec 32 := 4#32
  let c0_i32_4935 : BitVec 32 := 0#32
  let v8026 : BitVec 1 := Scalar.cmpi .eq c4_i32_4934 c0_i32_4935
  let c1_i32_4936 : BitVec 32 := 1#32
  let v8027 : BitVec 32 := Scalar.select v8026 c1_i32_4936 c4_i32_4934
  let v8028 : BitVec 32 := Scalar.remsi arg25 v8027
  let c0_i32_4938 : BitVec 32 := 0#32
  let v8030 : BitVec 1 := Scalar.cmpi .slt v8028 c0_i32_4938
  let c0_i32_4939 : BitVec 32 := 0#32
  let v8031 : BitVec 1 := Scalar.cmpi .slt v8027 c0_i32_4939
  let v8032 : BitVec 1 := Scalar.xori v8030 v8031
  let c0_i32_4937 : BitVec 32 := 0#32
  let v8029 : BitVec 1 := Scalar.cmpi .ne v8028 c0_i32_4937
  let v8033 : BitVec 1 := Scalar.andi v8032 v8029
  let v8034 : BitVec 32 := Scalar.addi v8028 v8027
  let v8035 : BitVec 32 := Scalar.select v8033 v8034 v8028
  let c2048_i32 : BitVec 32 := 2048#32
  let v8038 : BitVec 32 := Scalar.muli v8035 c2048_i32
  let v8039 : BitVec 32 := v8038
  ![v8037.toNat, v8039.toNat]
def k0_off56 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let c0_i32_4941 : BitVec 32 := 0#32
  let c0_i32_4942 : BitVec 32 := 0#32
  ![v266.toNat, 0, 0]
def k0_cond3 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c3_i32_4943 : BitVec 32 := 3#32
  let v8045 : BitVec 1 := Scalar.cmpi .eq v293 c3_i32_4943
  let v8046 : BitVec 32 := Scalar.extui v8045
  let c0_i32_4944 : BitVec 32 := 0#32
  let v8047 : BitVec 1 := Scalar.cmpi .ne v8046 c0_i32_4944
  v8047

def k0_cond4 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c0_i32_4945 : BitVec 32 := 0#32
  let v8048 : BitVec 1 := Scalar.cmpi .sgt v283 c0_i32_4945
  let v8049 : BitVec 32 := Scalar.extui v8048
  let c0_i32_4946 : BitVec 32 := 0#32
  let v8050 : BitVec 1 := Scalar.cmpi .ne v8049 c0_i32_4946
  v8050

def k0_mult23 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c1_i32_4959 : BitVec 32 := 1#32
  let v8071 : BitVec 32 := Scalar.subi v283 c1_i32_4959
  let c256_i32_4960 : BitVec 32 := 256#32
  let v8072 : BitVec 32 := Scalar.muli v8071 c256_i32_4960
  v8072
def k0_off57 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c1_i32_4959 : BitVec 32 := 1#32
  let v8071 : BitVec 32 := Scalar.subi v283 c1_i32_4959
  let c256_i32_4960 : BitVec 32 := 256#32
  let v8072 : BitVec 32 := Scalar.muli v8071 c256_i32_4960
  let v8073 : BitVec 32 := v8072
  let c0_i32_4961 : BitVec 32 := 0#32
  ![v8073.toNat, 0]
def k0_mult24 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c1_i32_4962 : BitVec 32 := 1#32
  let v8075 : BitVec 32 := Scalar.subi v283 c1_i32_4962
  let c256_i32_4963 : BitVec 32 := 256#32
  let v8076 : BitVec 32 := Scalar.muli v8075 c256_i32_4963
  v8076
def k0_off58 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let v8051 : Index := Scalar.indexCast v283
  let c0_4947 : Index := 0#32
  let c0_4948 : Index := 0#32
  ![v8051.toNat, 0, 0]
def k0_mult25 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c256_i32_4955 : BitVec 32 := 256#32
  let v8065 : BitVec 32 := Scalar.muli v283 c256_i32_4955
  v8065
def k0_off59 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c256_i32_4955 : BitVec 32 := 256#32
  let v8065 : BitVec 32 := Scalar.muli v283 c256_i32_4955
  let v8066 : BitVec 32 := v8065
  let c0_i32_4956 : BitVec 32 := 0#32
  ![v8066.toNat, 0]
def k0_mult26 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c256_i32_4957 : BitVec 32 := 256#32
  let v8068 : BitVec 32 := Scalar.muli v283 c256_i32_4957
  v8068
def k0_mult27 : BitVec 32 :=
  let c1536_i32 : BitVec 32 := 1536#32
  c1536_i32
def k0_mult28 : BitVec 32 :=
  let c4096_i32_103 : BitVec 32 := 4096#32
  c4096_i32_103
def k0_mult29 : BitVec 32 :=
  let c1536_i32_108 : BitVec 32 := 1536#32
  c1536_i32_108
def k0_mult30 : BitVec 32 :=
  let c6144_i32 : BitVec 32 := 6144#32
  c6144_i32
def k0_mult31 : BitVec 32 :=
  let c1536_i32_113 : BitVec 32 := 1536#32
  c1536_i32_113
def k0_mult32 : BitVec 32 :=
  let c1536_i32_115 : BitVec 32 := 1536#32
  c1536_i32_115
abbrev stage0_0 : Fin 1 → Memref sig .tc .vmem S1x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
abbrev S2x896x16384 : Shape := ⟨3, ![2, 896, 16384]⟩
abbrev S1792x16384 : Shape := ⟨2, ![1792, 16384]⟩
abbrev S1792x8192 : Shape := ⟨2, ![1792, 8192]⟩
abbrev S1792x256 : Shape := ⟨2, ![1792, 256]⟩
abbrev S1x1792 : Shape := ⟨2, ![1, 1792]⟩
abbrev S1x1 : Shape := ⟨2, ![1, 1]⟩
abbrev S4x256x4096 : Shape := ⟨3, ![4, 256, 4096]⟩
abbrev S2x256x2048 : Shape := ⟨3, ![2, 256, 2048]⟩
abbrev S256x256 : Shape := ⟨2, ![256, 256]⟩
abbrev S2x2x64x128 : Shape := ⟨4, ![2, 2, 64, 128]⟩
abbrev S2x2x64x2x128 : Shape := ⟨5, ![2, 2, 64, 2, 128]⟩
abbrev S2x2x64x1x128 : Shape := ⟨5, ![2, 2, 64, 1, 128]⟩
abbrev S2x8x256 : Shape := ⟨3, ![2, 8, 256]⟩
abbrev S2x8x2x256 : Shape := ⟨4, ![2, 8, 2, 256]⟩
abbrev S2x8x1x256 : Shape := ⟨4, ![2, 8, 1, 256]⟩
abbrev S7x256x256 : Shape := ⟨3, ![7, 256, 256]⟩
abbrev S8x128 : Shape := ⟨2, ![8, 128]⟩
abbrev S4 : Shape := ⟨1, ![4]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S256x2048 : Shape := ⟨2, ![256, 2048]⟩
abbrev S1x256x2048 : Shape := ⟨3, ![1, 256, 2048]⟩
abbrev S1x256x512 : Shape := ⟨3, ![1, 256, 512]⟩
abbrev S256x512 : Shape := ⟨2, ![256, 512]⟩
abbrev S512x256 : Shape := ⟨2, ![512, 256]⟩
abbrev S16x256 : Shape := ⟨2, ![16, 256]⟩
abbrev S8x256 : Shape := ⟨2, ![8, 256]⟩
abbrev S1x2x64x2x128 : Shape := ⟨5, ![1, 2, 64, 2, 128]⟩
abbrev S2x64x2x128 : Shape := ⟨4, ![2, 64, 2, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S16x128 : Shape := ⟨2, ![16, 128]⟩
abbrev S1x256x256 : Shape := ⟨3, ![1, 256, 256]⟩
abbrev S1x1x256 : Shape := ⟨3, ![1, 1, 256]⟩
abbrev S1x256 : Shape := ⟨2, ![1, 256]⟩
abbrev S32x256 : Shape := ⟨2, ![32, 256]⟩
abbrev S1x1x2x256 : Shape := ⟨4, ![1, 1, 2, 256]⟩
abbrev S1x1x1x256 : Shape := ⟨4, ![1, 1, 1, 256]⟩
abbrev S128x256 : Shape := ⟨2, ![128, 256]⟩
abbrev S256x128 : Shape := ⟨2, ![256, 128]⟩
abbrev S1x256x128 : Shape := ⟨3, ![1, 256, 128]⟩
abbrev S1x1x1 : Shape := ⟨3, ![1, 1, 1]⟩
abbrev S256 : Shape := ⟨1, ![256]⟩

abbrev nBuf : Space → Nat
  | .hbm => 8
  | .vmem => 14
  | .smem => 1
  | _ => 0

abbrev bufTy : (tb : Table) → Fin (tcTables nBuf tb) → BufTy
  | .hbm, ⟨0, _⟩ => ⟨S2x896x16384, .bf16⟩
  | .hbm, ⟨1, _⟩ => ⟨S1792x16384, .bf16⟩
  | .hbm, ⟨2, _⟩ => ⟨S1792x8192, .i8⟩
  | .hbm, ⟨3, _⟩ => ⟨S1792x256, .f32⟩
  | .hbm, ⟨4, _⟩ => ⟨S1792x256, .i8⟩
  | .hbm, ⟨5, _⟩ => ⟨S1792x256, .i8⟩
  | .hbm, ⟨6, _⟩ => ⟨S1x1792, .f32⟩
  | .hbm, ⟨7, _⟩ => ⟨S1x1, .f32⟩
  | .local _ .vmem, ⟨0, _⟩ => ⟨S1x1792, .f32⟩
  | .local _ .vmem, ⟨1, _⟩ => ⟨S4x256x4096, .bf16⟩
  | .local _ .vmem, ⟨2, _⟩ => ⟨S2x256x2048, .i8⟩
  | .local _ .vmem, ⟨3, _⟩ => ⟨S256x256, .bf16⟩
  | .local _ .vmem, ⟨4, _⟩ => ⟨S2x2x64x2x128, .bf16⟩
  | .local _ .vmem, ⟨5, _⟩ => ⟨S2x2x64x2x128, .bf16⟩
  | .local _ .vmem, ⟨6, _⟩ => ⟨S2x8x256, .f32⟩
  | .local _ .vmem, ⟨7, _⟩ => ⟨S2x8x2x256, .bf16⟩
  | .local _ .vmem, ⟨8, _⟩ => ⟨S7x256x256, .f32⟩
  | .local _ .vmem, ⟨9, _⟩ => ⟨S256x256, .f32⟩
  | .local _ .vmem, ⟨10, _⟩ => ⟨S8x128, .f32⟩
  | .local _ .vmem, ⟨11, _⟩ => ⟨S256x256, .f32⟩
  | .local _ .vmem, ⟨12, _⟩ => ⟨S256x256, .i8⟩
  | .local _ .vmem, ⟨13, _⟩ => ⟨S1792x256, .i8⟩
  | .local _ .smem, ⟨0, _⟩ => ⟨S1x1, .f32⟩
  | _, _ => ⟨S2x896x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_0 : BitVec 32 := 0#32
  c0_i32_0
def k0_mult3 : BitVec 32 :=
  let c0_i32_5 : BitVec 32 := 0#32
  c0_i32_5
def k0_mult4 : BitVec 32 :=
  let c4096_i32 : BitVec 32 := 4096#32
  c4096_i32
def k0_mult5 : BitVec 32 :=
  let c0_i32_9 : BitVec 32 := 0#32
  c0_i32_9
def k0_mult6 : BitVec 32 :=
  let c8192_i32 : BitVec 32 := 8192#32
  c8192_i32
@[reducible] def k0_t1_loop : Scf.Loop 32 :=
  let c0_i32_22 : BitVec 32 := 0#32
  let c28_i32 : BitVec 32 := 28#32
  let v46 : BitVec 32 := Scalar.addi c0_i32_22 c28_i32
  let c1_i32_23 : BitVec 32 := 1#32
  ⟨c0_i32_22, v46, c1_i32_23⟩
def k0_cond1 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c3_i32 : BitVec 32 := 3#32
  let v294 : BitVec 32 := Scalar.addi arg25 c3_i32
  let c28_i32_141 : BitVec 32 := 28#32
  let v295 : BitVec 1 := Scalar.cmpi .slt v294 c28_i32_141
  let v296 : BitVec 32 := Scalar.extui v295
  let c0_i32_142 : BitVec 32 := 0#32
  let v297 : BitVec 1 := Scalar.cmpi .ne v296 c0_i32_142
  v297

def k0_mult7 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c3_i32_4945 : BitVec 32 := 3#32
  let v8048 : BitVec 32 := Scalar.addi arg25 c3_i32_4945
  let c0_i32_4954 : BitVec 32 := 0#32
  let v8061 : BitVec 1 := Scalar.cmpi .sgt v8048 c0_i32_4954
  let v8062 : BitVec 32 := Scalar.extui v8061
  let c0_i32_4955 : BitVec 32 := 0#32
  let v8063 : BitVec 1 := Scalar.cmpi .slt v8048 c0_i32_4955
  let v8064 : BitVec 32 := Scalar.extui v8063
  let v8065 : BitVec 32 := Scalar.subi v8062 v8064
  let c4_i32_4953 : BitVec 32 := 4#32
  let c0_i32_4956 : BitVec 32 := 0#32
  let v8066 : BitVec 1 := Scalar.cmpi .sgt c4_i32_4953 c0_i32_4956
  let v8067 : BitVec 32 := Scalar.extui v8066
  let c0_i32_4957 : BitVec 32 := 0#32
  let v8068 : BitVec 1 := Scalar.cmpi .slt c4_i32_4953 c0_i32_4957
  let v8069 : BitVec 32 := Scalar.extui v8068
  let v8070 : BitVec 32 := Scalar.subi v8067 v8069
  let v8071 : BitVec 1 := Scalar.cmpi .ne v8065 v8070
  let v8072 : BitVec 32 := Scalar.remsi v8048 c4_i32_4953
  let c0_i32_4958 : BitVec 32 := 0#32
  let v8073 : BitVec 1 := Scalar.cmpi .ne v8072 c0_i32_4958
  let v8074 : BitVec 1 := Scalar.andi v8071 v8073
  let v8060 : BitVec 32 := Scalar.divsi v8048 c4_i32_4953
  let c1_i32_4959 : BitVec 32 := 1#32
  let v8075 : BitVec 32 := Scalar.subi v8060 c1_i32_4959
  let v8076 : BitVec 32 := Scalar.select v8074 v8075 v8060
  let c256_i32_4966 : BitVec 32 := 256#32
  let v8087 : BitVec 32 := Scalar.muli v8076 c256_i32_4966
  v8087
def k0_mult8 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c3_i32_4945 : BitVec 32 := 3#32
  let v8048 : BitVec 32 := Scalar.addi arg25 c3_i32_4945
  let c4_i32_4960 : BitVec 32 := 4#32
  let c0_i32_4961 : BitVec 32 := 0#32
  let v8077 : BitVec 1 := Scalar.cmpi .eq c4_i32_4960 c0_i32_4961
  let c1_i32_4962 : BitVec 32 := 1#32
  let v8078 : BitVec 32 := Scalar.select v8077 c1_i32_4962 c4_i32_4960
  let v8079 : BitVec 32 := Scalar.remsi v8048 v8078
  let c0_i32_4964 : BitVec 32 := 0#32
  let v8081 : BitVec 1 := Scalar.cmpi .slt v8079 c0_i32_4964
  let c0_i32_4965 : BitVec 32 := 0#32
  let v8082 : BitVec 1 := Scalar.cmpi .slt v8078 c0_i32_4965
  let v8083 : BitVec 1 := Scalar.xori v8081 v8082
  let c0_i32_4963 : BitVec 32 := 0#32
  let v8080 : BitVec 1 := Scalar.cmpi .ne v8079 c0_i32_4963
  let v8084 : BitVec 1 := Scalar.andi v8083 v8080
  let v8085 : BitVec 32 := Scalar.addi v8079 v8078
  let v8086 : BitVec 32 := Scalar.select v8084 v8085 v8079
  let c4096_i32_4967 : BitVec 32 := 4096#32
  let v8089 : BitVec 32 := Scalar.muli v8086 c4096_i32_4967
  v8089
def k0_off1 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c3_i32_4946 : BitVec 32 := 3#32
  let v8049 : BitVec 32 := Scalar.addi arg25 c3_i32_4946
  let c4_i32_4947 : BitVec 32 := 4#32
  let c0_i32_4948 : BitVec 32 := 0#32
  let v8050 : BitVec 1 := Scalar.cmpi .eq c4_i32_4947 c0_i32_4948
  let c1_i32_4949 : BitVec 32 := 1#32
  let v8051 : BitVec 32 := Scalar.select v8050 c1_i32_4949 c4_i32_4947
  let v8052 : BitVec 32 := Scalar.remsi v8049 v8051
  let c0_i32_4951 : BitVec 32 := 0#32
  let v8054 : BitVec 1 := Scalar.cmpi .slt v8052 c0_i32_4951
  let c0_i32_4952 : BitVec 32 := 0#32
  let v8055 : BitVec 1 := Scalar.cmpi .slt v8051 c0_i32_4952
  let v8056 : BitVec 1 := Scalar.xori v8054 v8055
  let c0_i32_4950 : BitVec 32 := 0#32
  let v8053 : BitVec 1 := Scalar.cmpi .ne v8052 c0_i32_4950
  let v8057 : BitVec 1 := Scalar.andi v8056 v8053
  let v8058 : BitVec 32 := Scalar.addi v8052 v8051
  let v8059 : BitVec 32 := Scalar.select v8057 v8058 v8052
  ![v8059.toNat]
def k0_off2 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c3_i32_4946 : BitVec 32 := 3#32
  let v8049 : BitVec 32 := Scalar.addi arg25 c3_i32_4946
  let c4_i32_4947 : BitVec 32 := 4#32
  let c0_i32_4948 : BitVec 32 := 0#32
  let v8050 : BitVec 1 := Scalar.cmpi .eq c4_i32_4947 c0_i32_4948
  let c1_i32_4949 : BitVec 32 := 1#32
  let v8051 : BitVec 32 := Scalar.select v8050 c1_i32_4949 c4_i32_4947
  let v8052 : BitVec 32 := Scalar.remsi v8049 v8051
  let c0_i32_4951 : BitVec 32 := 0#32
  let v8054 : BitVec 1 := Scalar.cmpi .slt v8052 c0_i32_4951
  let c0_i32_4952 : BitVec 32 := 0#32
  let v8055 : BitVec 1 := Scalar.cmpi .slt v8051 c0_i32_4952
  let v8056 : BitVec 1 := Scalar.xori v8054 v8055
  let c0_i32_4950 : BitVec 32 := 0#32
  let v8053 : BitVec 1 := Scalar.cmpi .ne v8052 c0_i32_4950
  let v8057 : BitVec 1 := Scalar.andi v8056 v8053
  let v8058 : BitVec 32 := Scalar.addi v8052 v8051
  let v8059 : BitVec 32 := Scalar.select v8057 v8058 v8052
  let c0_i32_4968 : BitVec 32 := 0#32
  let c0_i32_4969 : BitVec 32 := 0#32
  ![v8059.toNat, 0, 0]
def k0_off3 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c3_i32_4945 : BitVec 32 := 3#32
  let v8048 : BitVec 32 := Scalar.addi arg25 c3_i32_4945
  let c0_i32_4954 : BitVec 32 := 0#32
  let v8061 : BitVec 1 := Scalar.cmpi .sgt v8048 c0_i32_4954
  let v8062 : BitVec 32 := Scalar.extui v8061
  let c0_i32_4955 : BitVec 32 := 0#32
  let v8063 : BitVec 1 := Scalar.cmpi .slt v8048 c0_i32_4955
  let v8064 : BitVec 32 := Scalar.extui v8063
  let v8065 : BitVec 32 := Scalar.subi v8062 v8064
  let c4_i32_4953 : BitVec 32 := 4#32
  let c0_i32_4956 : BitVec 32 := 0#32
  let v8066 : BitVec 1 := Scalar.cmpi .sgt c4_i32_4953 c0_i32_4956
  let v8067 : BitVec 32 := Scalar.extui v8066
  let c0_i32_4957 : BitVec 32 := 0#32
  let v8068 : BitVec 1 := Scalar.cmpi .slt c4_i32_4953 c0_i32_4957
  let v8069 : BitVec 32 := Scalar.extui v8068
  let v8070 : BitVec 32 := Scalar.subi v8067 v8069
  let v8071 : BitVec 1 := Scalar.cmpi .ne v8065 v8070
  let v8072 : BitVec 32 := Scalar.remsi v8048 c4_i32_4953
  let c0_i32_4958 : BitVec 32 := 0#32
  let v8073 : BitVec 1 := Scalar.cmpi .ne v8072 c0_i32_4958
  let v8074 : BitVec 1 := Scalar.andi v8071 v8073
  let v8060 : BitVec 32 := Scalar.divsi v8048 c4_i32_4953
  let c1_i32_4959 : BitVec 32 := 1#32
  let v8075 : BitVec 32 := Scalar.subi v8060 c1_i32_4959
  let v8076 : BitVec 32 := Scalar.select v8074 v8075 v8060
  let c256_i32_4966 : BitVec 32 := 256#32
  let v8087 : BitVec 32 := Scalar.muli v8076 c256_i32_4966
  let v8088 : BitVec 32 := v8087
  let c4_i32_4960 : BitVec 32 := 4#32
  let c0_i32_4961 : BitVec 32 := 0#32
  let v8077 : BitVec 1 := Scalar.cmpi .eq c4_i32_4960 c0_i32_4961
  let c1_i32_4962 : BitVec 32 := 1#32
  let v8078 : BitVec 32 := Scalar.select v8077 c1_i32_4962 c4_i32_4960
  let v8079 : BitVec 32 := Scalar.remsi v8048 v8078
  let c0_i32_4964 : BitVec 32 := 0#32
  let v8081 : BitVec 1 := Scalar.cmpi .slt v8079 c0_i32_4964
  let c0_i32_4965 : BitVec 32 := 0#32
  let v8082 : BitVec 1 := Scalar.cmpi .slt v8078 c0_i32_4965
  let v8083 : BitVec 1 := Scalar.xori v8081 v8082
  let c0_i32_4963 : BitVec 32 := 0#32
  let v8080 : BitVec 1 := Scalar.cmpi .ne v8079 c0_i32_4963
  let v8084 : BitVec 1 := Scalar.andi v8083 v8080
  let v8085 : BitVec 32 := Scalar.addi v8079 v8078
  let v8086 : BitVec 32 := Scalar.select v8084 v8085 v8079
  let c4096_i32_4967 : BitVec 32 := 4096#32
  let v8089 : BitVec 32 := Scalar.muli v8086 c4096_i32_4967
  let v8090 : BitVec 32 := v8089
  ![v8088.toNat, v8090.toNat]
def k0_cond2 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c2_i32_143 : BitVec 32 := 2#32
  let v298 : BitVec 1 := Scalar.cmpi .sge arg25 c2_i32_143
  let v299 : BitVec 32 := Scalar.extui v298
  let c0_i32_144 : BitVec 32 := 0#32
  let v300 : BitVec 1 := Scalar.cmpi .ne v299 c0_i32_144
  v300

def k0_mult9 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c2_i32_4945 : BitVec 32 := 2#32
  let v8048 : BitVec 32 := Scalar.subi arg25 c2_i32_4945
  let c0_i32_4947 : BitVec 32 := 0#32
  let v8050 : BitVec 1 := Scalar.cmpi .sgt v8048 c0_i32_4947
  let v8051 : BitVec 32 := Scalar.extui v8050
  let c0_i32_4948 : BitVec 32 := 0#32
  let v8052 : BitVec 1 := Scalar.cmpi .slt v8048 c0_i32_4948
  let v8053 : BitVec 32 := Scalar.extui v8052
  let v8054 : BitVec 32 := Scalar.subi v8051 v8053
  let c4_i32_4946 : BitVec 32 := 4#32
  let c0_i32_4949 : BitVec 32 := 0#32
  let v8055 : BitVec 1 := Scalar.cmpi .sgt c4_i32_4946 c0_i32_4949
  let v8056 : BitVec 32 := Scalar.extui v8055
  let c0_i32_4950 : BitVec 32 := 0#32
  let v8057 : BitVec 1 := Scalar.cmpi .slt c4_i32_4946 c0_i32_4950
  let v8058 : BitVec 32 := Scalar.extui v8057
  let v8059 : BitVec 32 := Scalar.subi v8056 v8058
  let v8060 : BitVec 1 := Scalar.cmpi .ne v8054 v8059
  let v8061 : BitVec 32 := Scalar.remsi v8048 c4_i32_4946
  let c0_i32_4951 : BitVec 32 := 0#32
  let v8062 : BitVec 1 := Scalar.cmpi .ne v8061 c0_i32_4951
  let v8063 : BitVec 1 := Scalar.andi v8060 v8062
  let v8049 : BitVec 32 := Scalar.divsi v8048 c4_i32_4946
  let c1_i32_4952 : BitVec 32 := 1#32
  let v8064 : BitVec 32 := Scalar.subi v8049 c1_i32_4952
  let v8065 : BitVec 32 := Scalar.select v8063 v8064 v8049
  let c256_i32_4959 : BitVec 32 := 256#32
  let v8076 : BitVec 32 := Scalar.muli v8065 c256_i32_4959
  v8076
def k0_mult10 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c2_i32_4945 : BitVec 32 := 2#32
  let v8048 : BitVec 32 := Scalar.subi arg25 c2_i32_4945
  let c4_i32_4953 : BitVec 32 := 4#32
  let c0_i32_4954 : BitVec 32 := 0#32
  let v8066 : BitVec 1 := Scalar.cmpi .eq c4_i32_4953 c0_i32_4954
  let c1_i32_4955 : BitVec 32 := 1#32
  let v8067 : BitVec 32 := Scalar.select v8066 c1_i32_4955 c4_i32_4953
  let v8068 : BitVec 32 := Scalar.remsi v8048 v8067
  let c0_i32_4957 : BitVec 32 := 0#32
  let v8070 : BitVec 1 := Scalar.cmpi .slt v8068 c0_i32_4957
  let c0_i32_4958 : BitVec 32 := 0#32
  let v8071 : BitVec 1 := Scalar.cmpi .slt v8067 c0_i32_4958
  let v8072 : BitVec 1 := Scalar.xori v8070 v8071
  let c0_i32_4956 : BitVec 32 := 0#32
  let v8069 : BitVec 1 := Scalar.cmpi .ne v8068 c0_i32_4956
  let v8073 : BitVec 1 := Scalar.andi v8072 v8069
  let v8074 : BitVec 32 := Scalar.addi v8068 v8067
  let v8075 : BitVec 32 := Scalar.select v8073 v8074 v8068
  let c2048_i32_4960 : BitVec 32 := 2048#32
  let v8078 : BitVec 32 := Scalar.muli v8075 c2048_i32_4960
  v8078
def k0_off4 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  ![v266.toNat]
def k0_off5 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c2_i32_4945 : BitVec 32 := 2#32
  let v8048 : BitVec 32 := Scalar.subi arg25 c2_i32_4945
  let c0_i32_4947 : BitVec 32 := 0#32
  let v8050 : BitVec 1 := Scalar.cmpi .sgt v8048 c0_i32_4947
  let v8051 : BitVec 32 := Scalar.extui v8050
  let c0_i32_4948 : BitVec 32 := 0#32
  let v8052 : BitVec 1 := Scalar.cmpi .slt v8048 c0_i32_4948
  let v8053 : BitVec 32 := Scalar.extui v8052
  let v8054 : BitVec 32 := Scalar.subi v8051 v8053
  let c4_i32_4946 : BitVec 32 := 4#32
  let c0_i32_4949 : BitVec 32 := 0#32
  let v8055 : BitVec 1 := Scalar.cmpi .sgt c4_i32_4946 c0_i32_4949
  let v8056 : BitVec 32 := Scalar.extui v8055
  let c0_i32_4950 : BitVec 32 := 0#32
  let v8057 : BitVec 1 := Scalar.cmpi .slt c4_i32_4946 c0_i32_4950
  let v8058 : BitVec 32 := Scalar.extui v8057
  let v8059 : BitVec 32 := Scalar.subi v8056 v8058
  let v8060 : BitVec 1 := Scalar.cmpi .ne v8054 v8059
  let v8061 : BitVec 32 := Scalar.remsi v8048 c4_i32_4946
  let c0_i32_4951 : BitVec 32 := 0#32
  let v8062 : BitVec 1 := Scalar.cmpi .ne v8061 c0_i32_4951
  let v8063 : BitVec 1 := Scalar.andi v8060 v8062
  let v8049 : BitVec 32 := Scalar.divsi v8048 c4_i32_4946
  let c1_i32_4952 : BitVec 32 := 1#32
  let v8064 : BitVec 32 := Scalar.subi v8049 c1_i32_4952
  let v8065 : BitVec 32 := Scalar.select v8063 v8064 v8049
  let c256_i32_4959 : BitVec 32 := 256#32
  let v8076 : BitVec 32 := Scalar.muli v8065 c256_i32_4959
  let v8077 : BitVec 32 := v8076
  let c4_i32_4953 : BitVec 32 := 4#32
  let c0_i32_4954 : BitVec 32 := 0#32
  let v8066 : BitVec 1 := Scalar.cmpi .eq c4_i32_4953 c0_i32_4954
  let c1_i32_4955 : BitVec 32 := 1#32
  let v8067 : BitVec 32 := Scalar.select v8066 c1_i32_4955 c4_i32_4953
  let v8068 : BitVec 32 := Scalar.remsi v8048 v8067
  let c0_i32_4957 : BitVec 32 := 0#32
  let v8070 : BitVec 1 := Scalar.cmpi .slt v8068 c0_i32_4957
  let c0_i32_4958 : BitVec 32 := 0#32
  let v8071 : BitVec 1 := Scalar.cmpi .slt v8067 c0_i32_4958
  let v8072 : BitVec 1 := Scalar.xori v8070 v8071
  let c0_i32_4956 : BitVec 32 := 0#32
  let v8069 : BitVec 1 := Scalar.cmpi .ne v8068 c0_i32_4956
  let v8073 : BitVec 1 := Scalar.andi v8072 v8069
  let v8074 : BitVec 32 := Scalar.addi v8068 v8067
  let v8075 : BitVec 32 := Scalar.select v8073 v8074 v8068
  let c2048_i32_4960 : BitVec 32 := 2048#32
  let v8078 : BitVec 32 := Scalar.muli v8075 c2048_i32_4960
  let v8079 : BitVec 32 := v8078
  ![v8077.toNat, v8079.toNat]
def k0_off6 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let c0_i32_4961 : BitVec 32 := 0#32
  let c0_i32_4962 : BitVec 32 := 0#32
  ![v266.toNat, 0, 0]
def k0_mult11 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_146 : BitVec 32 := 0#32
  let v302 : BitVec 1 := Scalar.cmpi .sgt arg25 c0_i32_146
  let v303 : BitVec 32 := Scalar.extui v302
  let c0_i32_147 : BitVec 32 := 0#32
  let v304 : BitVec 1 := Scalar.cmpi .slt arg25 c0_i32_147
  let v305 : BitVec 32 := Scalar.extui v304
  let v306 : BitVec 32 := Scalar.subi v303 v305
  let c4_i32_145 : BitVec 32 := 4#32
  let c0_i32_148 : BitVec 32 := 0#32
  let v307 : BitVec 1 := Scalar.cmpi .sgt c4_i32_145 c0_i32_148
  let v308 : BitVec 32 := Scalar.extui v307
  let c0_i32_149 : BitVec 32 := 0#32
  let v309 : BitVec 1 := Scalar.cmpi .slt c4_i32_145 c0_i32_149
  let v310 : BitVec 32 := Scalar.extui v309
  let v311 : BitVec 32 := Scalar.subi v308 v310
  let v312 : BitVec 1 := Scalar.cmpi .ne v306 v311
  let v313 : BitVec 32 := Scalar.remsi arg25 c4_i32_145
  let c0_i32_150 : BitVec 32 := 0#32
  let v314 : BitVec 1 := Scalar.cmpi .ne v313 c0_i32_150
  let v315 : BitVec 1 := Scalar.andi v312 v314
  let v301 : BitVec 32 := Scalar.divsi arg25 c4_i32_145
  let c1_i32_151 : BitVec 32 := 1#32
  let v316 : BitVec 32 := Scalar.subi v301 c1_i32_151
  let v317 : BitVec 32 := Scalar.select v315 v316 v301
  let c256_i32 : BitVec 32 := 256#32
  let v328 : BitVec 32 := Scalar.muli v317 c256_i32
  v328
def k0_mult12 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_152 : BitVec 32 := 4#32
  let c0_i32_153 : BitVec 32 := 0#32
  let v318 : BitVec 1 := Scalar.cmpi .eq c4_i32_152 c0_i32_153
  let c1_i32_154 : BitVec 32 := 1#32
  let v319 : BitVec 32 := Scalar.select v318 c1_i32_154 c4_i32_152
  let v320 : BitVec 32 := Scalar.remsi arg25 v319
  let c0_i32_156 : BitVec 32 := 0#32
  let v322 : BitVec 1 := Scalar.cmpi .slt v320 c0_i32_156
  let c0_i32_157 : BitVec 32 := 0#32
  let v323 : BitVec 1 := Scalar.cmpi .slt v319 c0_i32_157
  let v324 : BitVec 1 := Scalar.xori v322 v323
  let c0_i32_155 : BitVec 32 := 0#32
  let v321 : BitVec 1 := Scalar.cmpi .ne v320 c0_i32_155
  let v325 : BitVec 1 := Scalar.andi v324 v321
  let v326 : BitVec 32 := Scalar.addi v320 v319
  let v327 : BitVec 32 := Scalar.select v325 v326 v320
  let c4096_i32_158 : BitVec 32 := 4096#32
  let v330 : BitVec 32 := Scalar.muli v327 c4096_i32_158
  v330
def k0_off7 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  ![v256.toNat]
def k0_off8 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let c0_i32_159 : BitVec 32 := 0#32
  let c0_i32_160 : BitVec 32 := 0#32
  ![v256.toNat, 0, 0]
def k0_off9 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_146 : BitVec 32 := 0#32
  let v302 : BitVec 1 := Scalar.cmpi .sgt arg25 c0_i32_146
  let v303 : BitVec 32 := Scalar.extui v302
  let c0_i32_147 : BitVec 32 := 0#32
  let v304 : BitVec 1 := Scalar.cmpi .slt arg25 c0_i32_147
  let v305 : BitVec 32 := Scalar.extui v304
  let v306 : BitVec 32 := Scalar.subi v303 v305
  let c4_i32_145 : BitVec 32 := 4#32
  let c0_i32_148 : BitVec 32 := 0#32
  let v307 : BitVec 1 := Scalar.cmpi .sgt c4_i32_145 c0_i32_148
  let v308 : BitVec 32 := Scalar.extui v307
  let c0_i32_149 : BitVec 32 := 0#32
  let v309 : BitVec 1 := Scalar.cmpi .slt c4_i32_145 c0_i32_149
  let v310 : BitVec 32 := Scalar.extui v309
  let v311 : BitVec 32 := Scalar.subi v308 v310
  let v312 : BitVec 1 := Scalar.cmpi .ne v306 v311
  let v313 : BitVec 32 := Scalar.remsi arg25 c4_i32_145
  let c0_i32_150 : BitVec 32 := 0#32
  let v314 : BitVec 1 := Scalar.cmpi .ne v313 c0_i32_150
  let v315 : BitVec 1 := Scalar.andi v312 v314
  let v301 : BitVec 32 := Scalar.divsi arg25 c4_i32_145
  let c1_i32_151 : BitVec 32 := 1#32
  let v316 : BitVec 32 := Scalar.subi v301 c1_i32_151
  let v317 : BitVec 32 := Scalar.select v315 v316 v301
  let c256_i32 : BitVec 32 := 256#32
  let v328 : BitVec 32 := Scalar.muli v317 c256_i32
  let v329 : BitVec 32 := v328
  let c4_i32_152 : BitVec 32 := 4#32
  let c0_i32_153 : BitVec 32 := 0#32
  let v318 : BitVec 1 := Scalar.cmpi .eq c4_i32_152 c0_i32_153
  let c1_i32_154 : BitVec 32 := 1#32
  let v319 : BitVec 32 := Scalar.select v318 c1_i32_154 c4_i32_152
  let v320 : BitVec 32 := Scalar.remsi arg25 v319
  let c0_i32_156 : BitVec 32 := 0#32
  let v322 : BitVec 1 := Scalar.cmpi .slt v320 c0_i32_156
  let c0_i32_157 : BitVec 32 := 0#32
  let v323 : BitVec 1 := Scalar.cmpi .slt v319 c0_i32_157
  let v324 : BitVec 1 := Scalar.xori v322 v323
  let c0_i32_155 : BitVec 32 := 0#32
  let v321 : BitVec 1 := Scalar.cmpi .ne v320 c0_i32_155
  let v325 : BitVec 1 := Scalar.andi v324 v321
  let v326 : BitVec 32 := Scalar.addi v320 v319
  let v327 : BitVec 32 := Scalar.select v325 v326 v320
  let c4096_i32_158 : BitVec 32 := 4096#32
  let v330 : BitVec 32 := Scalar.muli v327 c4096_i32_158
  let v331 : BitVec 32 := v330
  ![v329.toNat, v331.toNat]
def k0_off10 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v337 : Index := Scalar.indexCast v256
  let c0_161 : Index := 0#32
  let c0_162 : Index := 0#32
  ![v337.toNat, 0, 0]
def k0_mult13 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let c0_i32_609 : BitVec 32 := 0#32
  let v882 : BitVec 32 := Scalar.addi v881 c0_i32_609
  v882
def k0_off11 (k0_t1 : Fin k0_t1_loop.trips) (c0_i32_609 : BitVec 32) : Fin 3 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let v908 : Index := Scalar.indexCast v283
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v909 : Index := Scalar.indexCast v883
  let c0_623 : Index := 0#32
  ![v908.toNat, v909.toNat, 0]
def k0_off12 (k0_t1 : Fin k0_t1_loop.trips) (c0_i32_609 : BitVec 32) : Fin 2 → Nat :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v913 : Index := Scalar.indexCast v883
  let c0_624 : Index := 0#32
  ![v913.toNat, 0]
def k0_off13 (k0_t1 : Fin k0_t1_loop.trips) (c0_i32_609 : BitVec 32) : Fin 3 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let v946 : Index := Scalar.indexCast v283
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v947 : Index := Scalar.indexCast v883
  let c128_641 : Index := 128#32
  ![v946.toNat, v947.toNat, 128]
def k0_off14 (k0_t1 : Fin k0_t1_loop.trips) (c0_i32_609 : BitVec 32) : Fin 2 → Nat :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32 : BitVec 32 := 64#32
  let v881 : BitVec 32 := Scalar.muli v293 c64_i32
  let v882 : BitVec 32 := Scalar.addi v881 c0_i32_609
  let v883 : BitVec 32 := v882
  let v951 : Index := Scalar.indexCast v883
  let c128_642 : Index := 128#32
  ![v951.toNat, 128]
def k0_off15 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v960 : Index := Scalar.indexCast v256
  let c0_647 : Index := 0#32
  let c512_648 : Index := 512#32
  ![v960.toNat, 0, 512]
def k0_mult14 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_1105 : BitVec 32 := 64#32
  let v1504 : BitVec 32 := Scalar.muli v293 c64_i32_1105
  let c8_i32 : BitVec 32 := 8#32
  let v1505 : BitVec 32 := Scalar.addi v1504 c8_i32
  v1505
def k0_off16 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v1583 : Index := Scalar.indexCast v256
  let c0_1144 : Index := 0#32
  let c0_1145 : Index := 0#32
  ![v1583.toNat, 0, 0]
def k0_off17 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v1747 : Index := Scalar.indexCast v266
  let c0_1193 : Index := 0#32
  let c0_1194 : Index := 0#32
  ![v1747.toNat, 0, 0]
def k0_off18 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v1751 : Index := Scalar.indexCast v256
  let c0_1195 : Index := 0#32
  let c256_1196 : Index := 256#32
  ![v1751.toNat, 0, 256]
def k0_off19 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v1915 : Index := Scalar.indexCast v266
  let c0_1244 : Index := 0#32
  let c128_1245 : Index := 128#32
  ![v1915.toNat, 0, 128]
def k0_off20 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v1919 : Index := Scalar.indexCast v256
  let c0_1246 : Index := 0#32
  let c1024_1247 : Index := 1024#32
  ![v1919.toNat, 0, 1024]
def k0_mult15 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_1704 : BitVec 32 := 64#32
  let v2463 : BitVec 32 := Scalar.muli v293 c64_i32_1704
  let c16_i32_1705 : BitVec 32 := 16#32
  let v2464 : BitVec 32 := Scalar.addi v2463 c16_i32_1705
  v2464
def k0_off21 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v2542 : Index := Scalar.indexCast v256
  let c0_1744 : Index := 0#32
  let c512_1745 : Index := 512#32
  ![v2542.toNat, 0, 512]
def k0_off22 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v2706 : Index := Scalar.indexCast v266
  let c0_1793 : Index := 0#32
  let c256_1794 : Index := 256#32
  ![v2706.toNat, 0, 256]
def k0_off23 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v2710 : Index := Scalar.indexCast v256
  let c0_1795 : Index := 0#32
  let c768_1796 : Index := 768#32
  ![v2710.toNat, 0, 768]
def k0_off24 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v2874 : Index := Scalar.indexCast v266
  let c0_1844 : Index := 0#32
  let c384 : Index := 384#32
  ![v2874.toNat, 0, 384]
def k0_off25 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v2878 : Index := Scalar.indexCast v256
  let c0_1845 : Index := 0#32
  let c1536_1846 : Index := 1536#32
  ![v2878.toNat, 0, 1536]
def k0_mult16 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_2303 : BitVec 32 := 64#32
  let v3422 : BitVec 32 := Scalar.muli v293 c64_i32_2303
  let c24_i32 : BitVec 32 := 24#32
  let v3423 : BitVec 32 := Scalar.addi v3422 c24_i32
  v3423
def k0_off26 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v3501 : Index := Scalar.indexCast v256
  let c0_2342 : Index := 0#32
  let c1024_2343 : Index := 1024#32
  ![v3501.toNat, 0, 1024]
def k0_off27 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v3665 : Index := Scalar.indexCast v266
  let c0_2391 : Index := 0#32
  let c512_2392 : Index := 512#32
  ![v3665.toNat, 0, 512]
def k0_off28 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v3669 : Index := Scalar.indexCast v256
  let c0_2393 : Index := 0#32
  let c1280_2394 : Index := 1280#32
  ![v3669.toNat, 0, 1280]
def k0_off29 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v3833 : Index := Scalar.indexCast v266
  let c0_2442 : Index := 0#32
  let c640 : Index := 640#32
  ![v3833.toNat, 0, 640]
def k0_off30 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v3837 : Index := Scalar.indexCast v256
  let c0_2443 : Index := 0#32
  let c2048 : Index := 2048#32
  ![v3837.toNat, 0, 2048]
def k0_mult17 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_2900 : BitVec 32 := 64#32
  let v4381 : BitVec 32 := Scalar.muli v293 c64_i32_2900
  let c32_i32 : BitVec 32 := 32#32
  let v4382 : BitVec 32 := Scalar.addi v4381 c32_i32
  v4382
def k0_off31 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v4460 : Index := Scalar.indexCast v256
  let c0_2939 : Index := 0#32
  let c1536_2940 : Index := 1536#32
  ![v4460.toNat, 0, 1536]
def k0_off32 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v4624 : Index := Scalar.indexCast v266
  let c0_2988 : Index := 0#32
  let c768_2989 : Index := 768#32
  ![v4624.toNat, 0, 768]
def k0_off33 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v4628 : Index := Scalar.indexCast v256
  let c0_2990 : Index := 0#32
  let c1792 : Index := 1792#32
  ![v4628.toNat, 0, 1792]
def k0_off34 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v4792 : Index := Scalar.indexCast v266
  let c0_3038 : Index := 0#32
  let c896 : Index := 896#32
  ![v4792.toNat, 0, 896]
def k0_off35 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v4796 : Index := Scalar.indexCast v256
  let c0_3039 : Index := 0#32
  let c2560 : Index := 2560#32
  ![v4796.toNat, 0, 2560]
def k0_mult18 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_3496 : BitVec 32 := 64#32
  let v5340 : BitVec 32 := Scalar.muli v293 c64_i32_3496
  let c40_i32 : BitVec 32 := 40#32
  let v5341 : BitVec 32 := Scalar.addi v5340 c40_i32
  v5341
def k0_off36 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v5419 : Index := Scalar.indexCast v256
  let c0_3535 : Index := 0#32
  let c2048_3536 : Index := 2048#32
  ![v5419.toNat, 0, 2048]
def k0_off37 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v5583 : Index := Scalar.indexCast v266
  let c0_3584 : Index := 0#32
  let c1024_3585 : Index := 1024#32
  ![v5583.toNat, 0, 1024]
def k0_off38 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v5587 : Index := Scalar.indexCast v256
  let c0_3586 : Index := 0#32
  let c2304 : Index := 2304#32
  ![v5587.toNat, 0, 2304]
def k0_off39 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v5751 : Index := Scalar.indexCast v266
  let c0_3634 : Index := 0#32
  let c1152 : Index := 1152#32
  ![v5751.toNat, 0, 1152]
def k0_off40 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v5755 : Index := Scalar.indexCast v256
  let c0_3635 : Index := 0#32
  let c3072 : Index := 3072#32
  ![v5755.toNat, 0, 3072]
def k0_mult19 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_4092 : BitVec 32 := 64#32
  let v6299 : BitVec 32 := Scalar.muli v293 c64_i32_4092
  let c48_i32 : BitVec 32 := 48#32
  let v6300 : BitVec 32 := Scalar.addi v6299 c48_i32
  v6300
def k0_off41 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v6378 : Index := Scalar.indexCast v256
  let c0_4131 : Index := 0#32
  let c2560_4132 : Index := 2560#32
  ![v6378.toNat, 0, 2560]
def k0_off42 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v6542 : Index := Scalar.indexCast v266
  let c0_4180 : Index := 0#32
  let c1280_4181 : Index := 1280#32
  ![v6542.toNat, 0, 1280]
def k0_off43 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v6546 : Index := Scalar.indexCast v256
  let c0_4182 : Index := 0#32
  let c2816 : Index := 2816#32
  ![v6546.toNat, 0, 2816]
def k0_off44 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v6710 : Index := Scalar.indexCast v266
  let c0_4230 : Index := 0#32
  let c1408 : Index := 1408#32
  ![v6710.toNat, 0, 1408]
def k0_off45 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v6714 : Index := Scalar.indexCast v256
  let c0_4231 : Index := 0#32
  let c3584 : Index := 3584#32
  ![v6714.toNat, 0, 3584]
def k0_mult20 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c64_i32_4688 : BitVec 32 := 64#32
  let v7258 : BitVec 32 := Scalar.muli v293 c64_i32_4688
  let c56_i32 : BitVec 32 := 56#32
  let v7259 : BitVec 32 := Scalar.addi v7258 c56_i32
  v7259
def k0_off46 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7337 : Index := Scalar.indexCast v256
  let c0_4727 : Index := 0#32
  let c3072_4728 : Index := 3072#32
  ![v7337.toNat, 0, 3072]
def k0_off47 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v7501 : Index := Scalar.indexCast v266
  let c0_4776 : Index := 0#32
  let c1536_4777 : Index := 1536#32
  ![v7501.toNat, 0, 1536]
def k0_off48 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7505 : Index := Scalar.indexCast v256
  let c0_4778 : Index := 0#32
  let c3328 : Index := 3328#32
  ![v7505.toNat, 0, 3328]
def k0_off49 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v7669 : Index := Scalar.indexCast v266
  let c0_4826 : Index := 0#32
  let c1664 : Index := 1664#32
  ![v7669.toNat, 0, 1664]
def k0_off50 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7673 : Index := Scalar.indexCast v256
  let c0_4827 : Index := 0#32
  let c3584_4828 : Index := 3584#32
  ![v7673.toNat, 0, 3584]
def k0_off51 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v7837 : Index := Scalar.indexCast v266
  let c0_4876 : Index := 0#32
  let c1792_4877 : Index := 1792#32
  ![v7837.toNat, 0, 1792]
def k0_off52 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c4_i32 : BitVec 32 := 4#32
  let c0_i32_117 : BitVec 32 := 0#32
  let v247 : BitVec 1 := Scalar.cmpi .eq c4_i32 c0_i32_117
  let c1_i32_118 : BitVec 32 := 1#32
  let v248 : BitVec 32 := Scalar.select v247 c1_i32_118 c4_i32
  let v249 : BitVec 32 := Scalar.remsi arg25 v248
  let c0_i32_120 : BitVec 32 := 0#32
  let v251 : BitVec 1 := Scalar.cmpi .slt v249 c0_i32_120
  let c0_i32_121 : BitVec 32 := 0#32
  let v252 : BitVec 1 := Scalar.cmpi .slt v248 c0_i32_121
  let v253 : BitVec 1 := Scalar.xori v251 v252
  let c0_i32_119 : BitVec 32 := 0#32
  let v250 : BitVec 1 := Scalar.cmpi .ne v249 c0_i32_119
  let v254 : BitVec 1 := Scalar.andi v253 v250
  let v255 : BitVec 32 := Scalar.addi v249 v248
  let v256 : BitVec 32 := Scalar.select v254 v255 v249
  let v7841 : Index := Scalar.indexCast v256
  let c0_4878 : Index := 0#32
  let c3840 : Index := 3840#32
  ![v7841.toNat, 0, 3840]
def k0_off53 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let v8005 : Index := Scalar.indexCast v266
  let c0_4926 : Index := 0#32
  let c1920 : Index := 1920#32
  ![v8005.toNat, 0, 1920]
def k0_mult21 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_4928 : BitVec 32 := 0#32
  let v8010 : BitVec 1 := Scalar.cmpi .sgt arg25 c0_i32_4928
  let v8011 : BitVec 32 := Scalar.extui v8010
  let c0_i32_4929 : BitVec 32 := 0#32
  let v8012 : BitVec 1 := Scalar.cmpi .slt arg25 c0_i32_4929
  let v8013 : BitVec 32 := Scalar.extui v8012
  let v8014 : BitVec 32 := Scalar.subi v8011 v8013
  let c4_i32_4927 : BitVec 32 := 4#32
  let c0_i32_4930 : BitVec 32 := 0#32
  let v8015 : BitVec 1 := Scalar.cmpi .sgt c4_i32_4927 c0_i32_4930
  let v8016 : BitVec 32 := Scalar.extui v8015
  let c0_i32_4931 : BitVec 32 := 0#32
  let v8017 : BitVec 1 := Scalar.cmpi .slt c4_i32_4927 c0_i32_4931
  let v8018 : BitVec 32 := Scalar.extui v8017
  let v8019 : BitVec 32 := Scalar.subi v8016 v8018
  let v8020 : BitVec 1 := Scalar.cmpi .ne v8014 v8019
  let v8021 : BitVec 32 := Scalar.remsi arg25 c4_i32_4927
  let c0_i32_4932 : BitVec 32 := 0#32
  let v8022 : BitVec 1 := Scalar.cmpi .ne v8021 c0_i32_4932
  let v8023 : BitVec 1 := Scalar.andi v8020 v8022
  let v8009 : BitVec 32 := Scalar.divsi arg25 c4_i32_4927
  let c1_i32_4933 : BitVec 32 := 1#32
  let v8024 : BitVec 32 := Scalar.subi v8009 c1_i32_4933
  let v8025 : BitVec 32 := Scalar.select v8023 v8024 v8009
  let c256_i32_4940 : BitVec 32 := 256#32
  let v8036 : BitVec 32 := Scalar.muli v8025 c256_i32_4940
  v8036
def k0_mult22 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c4_i32_4934 : BitVec 32 := 4#32
  let c0_i32_4935 : BitVec 32 := 0#32
  let v8026 : BitVec 1 := Scalar.cmpi .eq c4_i32_4934 c0_i32_4935
  let c1_i32_4936 : BitVec 32 := 1#32
  let v8027 : BitVec 32 := Scalar.select v8026 c1_i32_4936 c4_i32_4934
  let v8028 : BitVec 32 := Scalar.remsi arg25 v8027
  let c0_i32_4938 : BitVec 32 := 0#32
  let v8030 : BitVec 1 := Scalar.cmpi .slt v8028 c0_i32_4938
  let c0_i32_4939 : BitVec 32 := 0#32
  let v8031 : BitVec 1 := Scalar.cmpi .slt v8027 c0_i32_4939
  let v8032 : BitVec 1 := Scalar.xori v8030 v8031
  let c0_i32_4937 : BitVec 32 := 0#32
  let v8029 : BitVec 1 := Scalar.cmpi .ne v8028 c0_i32_4937
  let v8033 : BitVec 1 := Scalar.andi v8032 v8029
  let v8034 : BitVec 32 := Scalar.addi v8028 v8027
  let v8035 : BitVec 32 := Scalar.select v8033 v8034 v8028
  let c2048_i32 : BitVec 32 := 2048#32
  let v8038 : BitVec 32 := Scalar.muli v8035 c2048_i32
  v8038
def k0_off54 (k0_t1 : Fin k0_t1_loop.trips) : Fin 1 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  ![v266.toNat]
def k0_off55 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_4928 : BitVec 32 := 0#32
  let v8010 : BitVec 1 := Scalar.cmpi .sgt arg25 c0_i32_4928
  let v8011 : BitVec 32 := Scalar.extui v8010
  let c0_i32_4929 : BitVec 32 := 0#32
  let v8012 : BitVec 1 := Scalar.cmpi .slt arg25 c0_i32_4929
  let v8013 : BitVec 32 := Scalar.extui v8012
  let v8014 : BitVec 32 := Scalar.subi v8011 v8013
  let c4_i32_4927 : BitVec 32 := 4#32
  let c0_i32_4930 : BitVec 32 := 0#32
  let v8015 : BitVec 1 := Scalar.cmpi .sgt c4_i32_4927 c0_i32_4930
  let v8016 : BitVec 32 := Scalar.extui v8015
  let c0_i32_4931 : BitVec 32 := 0#32
  let v8017 : BitVec 1 := Scalar.cmpi .slt c4_i32_4927 c0_i32_4931
  let v8018 : BitVec 32 := Scalar.extui v8017
  let v8019 : BitVec 32 := Scalar.subi v8016 v8018
  let v8020 : BitVec 1 := Scalar.cmpi .ne v8014 v8019
  let v8021 : BitVec 32 := Scalar.remsi arg25 c4_i32_4927
  let c0_i32_4932 : BitVec 32 := 0#32
  let v8022 : BitVec 1 := Scalar.cmpi .ne v8021 c0_i32_4932
  let v8023 : BitVec 1 := Scalar.andi v8020 v8022
  let v8009 : BitVec 32 := Scalar.divsi arg25 c4_i32_4927
  let c1_i32_4933 : BitVec 32 := 1#32
  let v8024 : BitVec 32 := Scalar.subi v8009 c1_i32_4933
  let v8025 : BitVec 32 := Scalar.select v8023 v8024 v8009
  let c256_i32_4940 : BitVec 32 := 256#32
  let v8036 : BitVec 32 := Scalar.muli v8025 c256_i32_4940
  let v8037 : BitVec 32 := v8036
  let c4_i32_4934 : BitVec 32 := 4#32
  let c0_i32_4935 : BitVec 32 := 0#32
  let v8026 : BitVec 1 := Scalar.cmpi .eq c4_i32_4934 c0_i32_4935
  let c1_i32_4936 : BitVec 32 := 1#32
  let v8027 : BitVec 32 := Scalar.select v8026 c1_i32_4936 c4_i32_4934
  let v8028 : BitVec 32 := Scalar.remsi arg25 v8027
  let c0_i32_4938 : BitVec 32 := 0#32
  let v8030 : BitVec 1 := Scalar.cmpi .slt v8028 c0_i32_4938
  let c0_i32_4939 : BitVec 32 := 0#32
  let v8031 : BitVec 1 := Scalar.cmpi .slt v8027 c0_i32_4939
  let v8032 : BitVec 1 := Scalar.xori v8030 v8031
  let c0_i32_4937 : BitVec 32 := 0#32
  let v8029 : BitVec 1 := Scalar.cmpi .ne v8028 c0_i32_4937
  let v8033 : BitVec 1 := Scalar.andi v8032 v8029
  let v8034 : BitVec 32 := Scalar.addi v8028 v8027
  let v8035 : BitVec 32 := Scalar.select v8033 v8034 v8028
  let c2048_i32 : BitVec 32 := 2048#32
  let v8038 : BitVec 32 := Scalar.muli v8035 c2048_i32
  let v8039 : BitVec 32 := v8038
  ![v8037.toNat, v8039.toNat]
def k0_off56 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c2_i32_122 : BitVec 32 := 2#32
  let c0_i32_123 : BitVec 32 := 0#32
  let v257 : BitVec 1 := Scalar.cmpi .eq c2_i32_122 c0_i32_123
  let c1_i32_124 : BitVec 32 := 1#32
  let v258 : BitVec 32 := Scalar.select v257 c1_i32_124 c2_i32_122
  let v259 : BitVec 32 := Scalar.remsi arg25 v258
  let c0_i32_126 : BitVec 32 := 0#32
  let v261 : BitVec 1 := Scalar.cmpi .slt v259 c0_i32_126
  let c0_i32_127 : BitVec 32 := 0#32
  let v262 : BitVec 1 := Scalar.cmpi .slt v258 c0_i32_127
  let v263 : BitVec 1 := Scalar.xori v261 v262
  let c0_i32_125 : BitVec 32 := 0#32
  let v260 : BitVec 1 := Scalar.cmpi .ne v259 c0_i32_125
  let v264 : BitVec 1 := Scalar.andi v263 v260
  let v265 : BitVec 32 := Scalar.addi v259 v258
  let v266 : BitVec 32 := Scalar.select v264 v265 v259
  let c0_i32_4941 : BitVec 32 := 0#32
  let c0_i32_4942 : BitVec 32 := 0#32
  ![v266.toNat, 0, 0]
def k0_cond3 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c4_i32_135 : BitVec 32 := 4#32
  let c0_i32_136 : BitVec 32 := 0#32
  let v284 : BitVec 1 := Scalar.cmpi .eq c4_i32_135 c0_i32_136
  let c1_i32_137 : BitVec 32 := 1#32
  let v285 : BitVec 32 := Scalar.select v284 c1_i32_137 c4_i32_135
  let v286 : BitVec 32 := Scalar.remsi arg25 v285
  let c0_i32_139 : BitVec 32 := 0#32
  let v288 : BitVec 1 := Scalar.cmpi .slt v286 c0_i32_139
  let c0_i32_140 : BitVec 32 := 0#32
  let v289 : BitVec 1 := Scalar.cmpi .slt v285 c0_i32_140
  let v290 : BitVec 1 := Scalar.xori v288 v289
  let c0_i32_138 : BitVec 32 := 0#32
  let v287 : BitVec 1 := Scalar.cmpi .ne v286 c0_i32_138
  let v291 : BitVec 1 := Scalar.andi v290 v287
  let v292 : BitVec 32 := Scalar.addi v286 v285
  let v293 : BitVec 32 := Scalar.select v291 v292 v286
  let c3_i32_4943 : BitVec 32 := 3#32
  let v8045 : BitVec 1 := Scalar.cmpi .eq v293 c3_i32_4943
  let v8046 : BitVec 32 := Scalar.extui v8045
  let c0_i32_4944 : BitVec 32 := 0#32
  let v8047 : BitVec 1 := Scalar.cmpi .ne v8046 c0_i32_4944
  v8047

def k0_cond4 (k0_t1 : Fin k0_t1_loop.trips) : BitVec 1 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c0_i32_4945 : BitVec 32 := 0#32
  let v8048 : BitVec 1 := Scalar.cmpi .sgt v283 c0_i32_4945
  let v8049 : BitVec 32 := Scalar.extui v8048
  let c0_i32_4946 : BitVec 32 := 0#32
  let v8050 : BitVec 1 := Scalar.cmpi .ne v8049 c0_i32_4946
  v8050

def k0_mult23 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c1_i32_4959 : BitVec 32 := 1#32
  let v8071 : BitVec 32 := Scalar.subi v283 c1_i32_4959
  let c256_i32_4960 : BitVec 32 := 256#32
  let v8072 : BitVec 32 := Scalar.muli v8071 c256_i32_4960
  v8072
def k0_off57 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c1_i32_4959 : BitVec 32 := 1#32
  let v8071 : BitVec 32 := Scalar.subi v283 c1_i32_4959
  let c256_i32_4960 : BitVec 32 := 256#32
  let v8072 : BitVec 32 := Scalar.muli v8071 c256_i32_4960
  let v8073 : BitVec 32 := v8072
  let c0_i32_4961 : BitVec 32 := 0#32
  ![v8073.toNat, 0]
def k0_mult24 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c1_i32_4962 : BitVec 32 := 1#32
  let v8075 : BitVec 32 := Scalar.subi v283 c1_i32_4962
  let c256_i32_4963 : BitVec 32 := 256#32
  let v8076 : BitVec 32 := Scalar.muli v8075 c256_i32_4963
  v8076
def k0_off58 (k0_t1 : Fin k0_t1_loop.trips) : Fin 3 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let v8051 : Index := Scalar.indexCast v283
  let c0_4947 : Index := 0#32
  let c0_4948 : Index := 0#32
  ![v8051.toNat, 0, 0]
def k0_mult25 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c256_i32_4955 : BitVec 32 := 256#32
  let v8065 : BitVec 32 := Scalar.muli v283 c256_i32_4955
  v8065
def k0_off59 (k0_t1 : Fin k0_t1_loop.trips) : Fin 2 → Nat :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c256_i32_4955 : BitVec 32 := 256#32
  let v8065 : BitVec 32 := Scalar.muli v283 c256_i32_4955
  let v8066 : BitVec 32 := v8065
  let c0_i32_4956 : BitVec 32 := 0#32
  ![v8066.toNat, 0]
def k0_mult26 (k0_t1 : Fin k0_t1_loop.trips) : BitVec 32 :=
  let c0_i32_22 : BitVec 32 := 0#32
  let c1_i32_23 : BitVec 32 := 1#32
  let arg25 : BitVec 32 := Scf.iv c0_i32_22 c1_i32_23 k0_t1
  let c0_i32_129 : BitVec 32 := 0#32
  let v268 : BitVec 1 := Scalar.cmpi .sgt arg25 c0_i32_129
  let v269 : BitVec 32 := Scalar.extui v268
  let c0_i32_130 : BitVec 32 := 0#32
  let v270 : BitVec 1 := Scalar.cmpi .slt arg25 c0_i32_130
  let v271 : BitVec 32 := Scalar.extui v270
  let v272 : BitVec 32 := Scalar.subi v269 v271
  let c4_i32_128 : BitVec 32 := 4#32
  let c0_i32_131 : BitVec 32 := 0#32
  let v273 : BitVec 1 := Scalar.cmpi .sgt c4_i32_128 c0_i32_131
  let v274 : BitVec 32 := Scalar.extui v273
  let c0_i32_132 : BitVec 32 := 0#32
  let v275 : BitVec 1 := Scalar.cmpi .slt c4_i32_128 c0_i32_132
  let v276 : BitVec 32 := Scalar.extui v275
  let v277 : BitVec 32 := Scalar.subi v274 v276
  let v278 : BitVec 1 := Scalar.cmpi .ne v272 v277
  let v279 : BitVec 32 := Scalar.remsi arg25 c4_i32_128
  let c0_i32_133 : BitVec 32 := 0#32
  let v280 : BitVec 1 := Scalar.cmpi .ne v279 c0_i32_133
  let v281 : BitVec 1 := Scalar.andi v278 v280
  let v267 : BitVec 32 := Scalar.divsi arg25 c4_i32_128
  let c1_i32_134 : BitVec 32 := 1#32
  let v282 : BitVec 32 := Scalar.subi v267 c1_i32_134
  let v283 : BitVec 32 := Scalar.select v281 v282 v267
  let c256_i32_4957 : BitVec 32 := 256#32
  let v8068 : BitVec 32 := Scalar.muli v283 c256_i32_4957
  v8068
def k0_mult27 : BitVec 32 :=
  let c1536_i32 : BitVec 32 := 1536#32
  c1536_i32
def k0_mult28 : BitVec 32 :=
  let c4096_i32_103 : BitVec 32 := 4096#32
  c4096_i32_103
def k0_mult29 : BitVec 32 :=
  let c1536_i32_108 : BitVec 32 := 1536#32
  c1536_i32_108
def k0_mult30 : BitVec 32 :=
  let c6144_i32 : BitVec 32 := 6144#32
  c6144_i32
def k0_mult31 : BitVec 32 :=
  let c1536_i32_113 : BitVec 32 := 1536#32
  c1536_i32_113
def k0_mult32 : BitVec 32 :=
  let c1536_i32_115 : BitVec 32 := 1536#32
  c1536_i32_115
abbrev stage0_0 : Fin 1 → Memref sig .tc .vmem S1x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x896x16384 : Shape := ⟨3, ![2, 896, 16384]⟩
abbrev S1792x256x64 : Shape := ⟨3, ![1792, 256, 64]⟩
abbrev S_ : Shape := ⟨0, ![]⟩
abbrev S1792x256 : Shape := ⟨2, ![1792, 256]⟩
abbrev S1792x256x1 : Shape := ⟨3, ![1792, 256, 1]⟩
abbrev S1792x16384 : Shape := ⟨2, ![1792, 16384]⟩
abbrev S1792x8192 : Shape := ⟨2, ![1792, 8192]⟩
abbrev S1792 : Shape := ⟨1, ![1792]⟩
abbrev S1792x1 : Shape := ⟨2, ![1792, 1]⟩
abbrev S1x1792 : Shape := ⟨2, ![1, 1792]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S2x896x16384, .bf16⟩
  | .hbm, ⟨1, _⟩ => ⟨S2x896x16384, .f32⟩
  | .hbm, ⟨2, _⟩ => ⟨S1792x256x64, .f32⟩
  | .hbm, ⟨3, _⟩ => ⟨S_, .f32⟩
  | .hbm, ⟨4, _⟩ => ⟨S1792x256, .f32⟩
  | .hbm, ⟨5, _⟩ => ⟨S_, .f32⟩
  | .hbm, ⟨6, _⟩ => ⟨S1792x256, .f32⟩
  | .hbm, ⟨7, _⟩ => ⟨S1792x256, .f32⟩
  | .hbm, ⟨8, _⟩ => ⟨S_, .f32⟩
  | .hbm, ⟨9, _⟩ => ⟨S1792x256, .f32⟩
  | .hbm, ⟨10, _⟩ => ⟨S1792x256, .f32⟩
  | .hbm, ⟨11, _⟩ => ⟨S_, .f32⟩
  | .hbm, ⟨12, _⟩ => ⟨S1792x256, .f32⟩
  | .hbm, ⟨13, _⟩ => ⟨S1792x256, .i1⟩
  | .hbm, ⟨14, _⟩ => ⟨S_, .f32⟩
  | .hbm, ⟨15, _⟩ => ⟨S_, .f32⟩
  | .hbm, ⟨16, _⟩ => ⟨S1792x256, .f32⟩
  | .hbm, ⟨17, _⟩ => ⟨S1792x256, .f32⟩
  | .hbm, ⟨18, _⟩ => ⟨S1792x256, .f32⟩
  | .hbm, ⟨19, _⟩ => ⟨S1792x256, .f32⟩
  | .hbm, ⟨20, _⟩ => ⟨S1792x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1792x256, .f32⟩
  | .hbm, ⟨25, _⟩ => ⟨S1792x256, .f32⟩
  | .hbm, ⟨26, _⟩ => ⟨S_, .f32⟩
  | .hbm, ⟨27, _⟩ => ⟨S1792x256, .f32⟩
  | .hbm, ⟨28, _⟩ => ⟨S1792x256, .f32⟩
  | .hbm, ⟨29, _⟩ => ⟨S1792x256x1, .f32⟩
  | .hbm, ⟨30, _⟩ => ⟨S1792x256x64, .f32⟩
  | .hbm, ⟨31, _⟩ => ⟨S1792x256x64, .f32⟩
  | .hbm, ⟨32, _⟩ => ⟨S1792x256x64, .f32⟩
  | .hbm, ⟨33, _⟩ => ⟨S1792x256x1, .f32⟩
  | .hbm, ⟨34, _⟩ => ⟨S1792x256x64, .f32⟩
  | .hbm, ⟨35, _⟩ => ⟨S1792x256x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1792x256x64, .f32⟩
  | .hbm, ⟨40, _⟩ => ⟨S1792x256x64, .f32⟩
  | .hbm, ⟨41, _⟩ => ⟨S_, .f32⟩
  | .hbm, ⟨42, _⟩ => ⟨S1792x256x64, .f32⟩
  | .hbm, ⟨43, _⟩ => ⟨S1792x256x64, .f32⟩
  | .hbm, ⟨44, _⟩ => ⟨S1792x256x64, .i32⟩
  | .hbm, ⟨45, _⟩ => ⟨S1792x16384, .i32⟩
  | .hbm, ⟨46, _⟩ => ⟨S1792x8192, .i32⟩
  | .hbm, ⟨47, _⟩ => ⟨S_, .i32⟩
  | .hbm, ⟨48, _⟩ => ⟨S1792x8192, .i32⟩
  | .hbm, ⟨49, _⟩ => ⟨S1792x8192, .i32⟩
  | .hbm, ⟨50, _⟩ => ⟨S1792x8192, .i32⟩
  | .hbm, ⟨51, _⟩ => ⟨S1792x8192, .i32⟩
  | .hbm, ⟨52, _⟩ => ⟨S1792x8192, .i8⟩
  | .hbm, ⟨53, _⟩ => ⟨S1792x256, .i32⟩
  | .hbm, ⟨54, _⟩ => ⟨S1792x256, .i8⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1792x256, .f32⟩
  | .hbm, ⟨60, _⟩ => ⟨S1792x256, .f32⟩
  | .hbm, ⟨61, _⟩ => ⟨S1792x256, .f32⟩
  | .hbm, ⟨62, _⟩ => ⟨S_, .f32⟩
  | .hbm, ⟨63, _⟩ => ⟨S1792, .f32⟩
  | .hbm, ⟨64, _⟩ => ⟨S_, .f32⟩
  | .hbm, ⟨65, _⟩ => ⟨S1792, .f32⟩
  | .hbm, ⟨66, _⟩ => ⟨S1792, .f32⟩
  | .hbm, ⟨67, _⟩ => ⟨S1792x1, .f32⟩
  | .hbm, ⟨68, _⟩ => ⟨S1792x256, .f32⟩
  | .hbm, ⟨69, _⟩ => ⟨S1792x256, .f32⟩
  | .hbm, ⟨70, _⟩ => ⟨S1792x256, .f32⟩
  | .hbm, ⟨71, _⟩ => ⟨S_, .i32⟩
  | .hbm, ⟨72, _⟩ => ⟨S_, .i32⟩
  | .hbm, ⟨73, _⟩ => ⟨S_, .f32⟩
  | .hbm, ⟨74, _⟩ => ⟨S1792x256, .f32⟩
  | .hbm, ⟨75, _⟩ => ⟨S1792x256, .f32⟩
  | .hbm, ⟨76, _⟩ => ⟨S_, .f32⟩
  | .hbm, ⟨77, _⟩ => ⟨S1792x256, .f32⟩
  | .hbm, ⟨78, _⟩ => ⟨S1792x256, .f32⟩
  | .hbm, ⟨79, _⟩ => ⟨S1792x256, .i32⟩
  | .hbm, ⟨80, _⟩ => ⟨S1792x256, .i8⟩
  | .hbm, ⟨81, _⟩ => ⟨S1x1792, .f32⟩
  | .hbm, ⟨82, _⟩ => ⟨S1x1, .f32⟩
  | _, _ => ⟨S2x896x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_cst_5 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_cst_7 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_call4_v3 : Ref sig .tc := ⟨.hbm, 41, rfl⟩
abbrev main_call4_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_c_13 : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]
-- ==== Proof.Stage.lean ====
module

public import proofs.«01_k».proof.Proof.Gen.KernelIdeal

@[expose] public section

/-! The computation of one trip of the kernel's loop, written by stages.

One trip handles one unit of 256 rows and 4096 columns. It runs eight reduction stages (`stageA`)
and eight quantisation stages (`stageB`), one of each per slice of 512 columns, the reduction of a
slice one step ahead of the quantisation of the slice before. The definitions here take the program
that follows as their last argument. -/

noncomputable section

namespace Cert.KernelIdeal.Stage

open Idealize.ShloMosaic Idealize.ShloMosaic.TcCoe Idealize.SL.Sem Cert.KernelIdeal Cert.KernelIdeal.Gen

variable {F : FTy → Type} [FloatOps F]

/-- Programs of the kernel's core. -/
abbrev Prg (F : FTy → Type) (α : Type) : Type _ := Prog (TpuEff nD τ sig (Elt F) Λ₀ .tc) α

/-! ### Pure steps -/

/-- The larger (`true`) or the smaller (`false`) of two vectors, element by element. -/
def ext {s : Shape} {e : FTy} (mx : Bool) (a b : FVec F s e) : FVec F s e :=
  match mx with
  | true => maximumf a b
  | false => minimumf a b

/-- The even rows of a block of row pairs. -/
def pairLo (raw : Vec F S1x8x2x128 .bf16) : FVec F S8x128 .bf16 :=
  shapeCast S8x128 (shapeCast S1x8x128 (rowsOfParity 0 S1x8x1x128 raw bitcasts_S1x8x2x128_w16_S1x8x1x128_w32) shapeCasts_S1x8x1x128_S1x8x128) shapeCasts_S1x8x128_S8x128

/-- The odd rows of a block of row pairs. -/
def pairHi (raw : Vec F S1x8x2x128 .bf16) : FVec F S8x128 .bf16 :=
  shapeCast S8x128 (shapeCast S1x8x128 (rowsOfParity 1 S1x8x1x128 raw bitcasts_S1x8x2x128_w16_S1x8x1x128_w32) shapeCasts_S1x8x1x128_S1x8x128) shapeCasts_S1x8x128_S8x128

/-- The block of row pairs with the given even and odd rows. -/
def mkPair (lo hi : FVec F S8x128 .bf16) : Vec F S1x8x2x128 .bf16 :=
  interleaveRows S1x8x2x128 (shapeCast S1x8x1x128 (shapeCast S1x8x128 lo shapeCasts_S8x128_S1x8x128) shapeCasts_S1x8x128_S1x8x1x128) (shapeCast S1x8x1x128 (shapeCast S1x8x128 hi shapeCasts_S8x128_S1x8x128) shapeCasts_S1x8x128_S1x8x1x128) bitcasts_S1x8x2x128_w16_S1x8x1x128_w32

/-- A block of row pairs as sixteen rows. -/
def unpair (raw : Vec F S1x8x2x128 .bf16) : FVec F S16x128 .bf16 :=
  interleaveRows S16x128 (pairLo raw) (pairHi raw) bitcasts_S16x128_w16_S8x128_w32

theorem slicesRow (b i : ℕ) (hb : b < 8) (hi : i < 4) : S512x256.Slices ![64 * b + 16 * i, 0] S16x256 := by
  have h : ∀ b : Fin 8, ∀ i : Fin 4, S512x256.Slices ![64 * b.val + 16 * i.val, 0] S16x256 := by decide
  exact h ⟨b, hb⟩ ⟨i, hi⟩

theorem slicesLane (l : ℕ) (hl : l < 2) : S8x256.Slices ![0, 128 * l] S8x128 := by
  have h : ∀ l : Fin 2, S8x256.Slices ![0, 128 * l.val] S8x128 := by decide
  exact h ⟨l, hl⟩

/-- The extreme of the four sixteen-row slices of block `b` of the transposed tile. -/
def rowTree (mx : Bool) (tile : FVec F S512x256 .bf16) (b : ℕ) (hb : b < 8) : FVec F S16x256 .bf16 :=
  ext mx
    (ext mx (extractStridedSlice S16x256 ![64 * b + 16 * 0, 0] tile (slicesRow b 0 hb (by decide)))
      (extractStridedSlice S16x256 ![64 * b + 16 * 1, 0] tile (slicesRow b 1 hb (by decide))))
    (ext mx (extractStridedSlice S16x256 ![64 * b + 16 * 2, 0] tile (slicesRow b 2 hb (by decide)))
      (extractStridedSlice S16x256 ![64 * b + 16 * 3, 0] tile (slicesRow b 3 hb (by decide))))

/-- What a reduction stage keeps of block `b`, lanes `128 l` to `128 l + 127`: its partial extremes by row pairs. -/
def partVal (mx : Bool) (tile : FVec F S512x256 .bf16) (b l : ℕ) (hb : b < 8) (hl : l < 2) : Vec F S1x8x2x128 .bf16 :=
  mkPair
    (extractStridedSlice S8x128 ![0, 128 * l] (rowsOfParity 0 S8x256 (rowTree mx tile b hb) bitcasts_S16x256_w16_S8x256_w32) (slicesLane l hl))
    (extractStridedSlice S8x128 ![0, 128 * l] (rowsOfParity 1 S8x256 (rowTree mx tile b hb) bitcasts_S16x256_w16_S8x256_w32) (slicesLane l hl))

/-- The extreme of eight vectors, by pairs. -/
def tree8 {s : Shape} {e : FTy} (mx : Bool) (a0 a1 a2 a3 a4 a5 a6 a7 : FVec F s e) : FVec F s e :=
  ext mx (ext mx (ext mx a0 a1) (ext mx a2 a3)) (ext mx (ext mx a4 a5) (ext mx a6 a7))

/-- The extreme of the even and the odd rows. -/
def foldPair (mx : Bool) (a : FVec F S16x128 .bf16) : FVec F S8x128 .f32 :=
  ext mx (extf .f32 (rowsOfParity 0 S8x128 a bitcasts_S16x128_w16_S8x128_w32)) (extf .f32 (rowsOfParity 1 S8x128 a bitcasts_S16x128_w16_S8x128_w32))

/-- The scale of a block from its largest and its smallest value, one where that is zero. -/
def scaleOf (mx mn : FVec F S8x128 .f32) : FVec F S8x128 .f32 :=
  select (cmpf .oeq (divf (subf mx mn) (broadcast S8x128 (Scalar.ofBits .f32 0x41700000#32))) (broadcast S8x128 (Scalar.ofBits .f32 0x00000000#32)))
    (broadcast S8x128 (Scalar.ofBits .f32 0x3F800000#32)) (divf (subf mx mn) (broadcast S8x128 (Scalar.ofBits .f32 0x41700000#32)))

/-- The reciprocal of a scale. -/
def recipOf (sg : FVec F S8x128 .f32) : FVec F S8x128 .f32 :=
  divf (broadcast S8x128 (Scalar.ofBits .f32 0x3F800000#32)) sg

/-- The zero point of a block from its smallest value and the reciprocal of its scale. -/
def zeroOf (mn r : FVec F S8x128 .f32) : FVec F S8x128 .f32 :=
  minimumf (broadcast S8x128 (Scalar.ofBits .f32 0x41700000#32))
    (maximumf (broadcast S8x128 (Scalar.ofBits .f32 0x00000000#32))
      (roundeven (mulf (subf (broadcast S8x128 (Scalar.ofBits .f32 0x00000000#32)) mn) r)))

/-! ### Memory steps -/

variable {α : Type}

/-- Slot `p` of a buffer of partial extremes. -/
abbrev slot (arg10 : Memref sig .tc .vmem S2x2x64x2x128 .bf16) (p : ℕ)
    (hp : ∀ a, (![p, 0, 0, 0, 0] : Fin 5 → Nat) a + S1x2x64x2x128.size a ≤ S2x2x64x2x128.size a) : Memref sig .tc .vmem S2x64x2x128 .bf16 :=
  (arg10.slice (Rect.unit (s := S2x2x64x2x128) ![p, 0, 0, 0, 0] S1x2x64x2x128.size hp) (fun _ => rfl)).squeeze S2x64x2x128 squeezes_S1x2x64x2x128_S2x64x2x128

theorem slotInb (p : ℕ) (hp : p < 2) : ∀ a, (![p, 0, 0, 0, 0] : Fin 5 → Nat) a + S1x2x64x2x128.size a ≤ S2x2x64x2x128.size a := by
  have h : ∀ p : Fin 2, ∀ a, (![p.val, 0, 0, 0, 0] : Fin 5 → Nat) a + S1x2x64x2x128.size a ≤ S2x2x64x2x128.size a := by decide
  exact h ⟨p, hp⟩

theorem partInb (l b : ℕ) (hl : l < 2) (hb : b < 8) : ∀ a, (![l, 8 * b, 0, 0] : Fin 4 → Nat) a + S1x8x2x128.size a ≤ S2x64x2x128.size a := by
  have h : ∀ l : Fin 2, ∀ b : Fin 8, ∀ a, (![l.val, 8 * b.val, 0, 0] : Fin 4 → Nat) a + S1x8x2x128.size a ≤ S2x64x2x128.size a := by decide
  exact h ⟨l, hl⟩ ⟨b, hb⟩

theorem strideInb (l i : ℕ) (hl : l < 2) (hi : i < 8) : ∀ a, S1x8x2x128.size a = 0 ∨ (![l, i, 0, 0] : Fin 4 → Nat) a + (![1, 8, 1, 1] : Fin 4 → Nat) a * (S1x8x2x128.size a - 1) < S2x64x2x128.size a := by
  have h : ∀ l : Fin 2, ∀ i : Fin 8, ∀ a, S1x8x2x128.size a = 0 ∨ (![l.val, i.val, 0, 0] : Fin 4 → Nat) a + (![1, 8, 1, 1] : Fin 4 → Nat) a * (S1x8x2x128.size a - 1) < S2x64x2x128.size a := by decide
  exact h ⟨l, hl⟩ ⟨i, hi⟩

/-- The kernel's buffers that a stage uses. -/
structure Bufs where
  a7 : Memref sig .tc .vmem S4x256x4096 .bf16
  a8 : Memref sig .tc .vmem S2x256x2048 .i8
  h8 : a8.IsWhole
  a9 : Memref sig .tc .vmem S256x256 .bf16
  a10 : Memref sig .tc .vmem S2x2x64x2x128 .bf16
  h10 : a10.IsWhole
  a11 : Memref sig .tc .vmem S2x2x64x2x128 .bf16
  h11 : a11.IsWhole
  a12 : Memref sig .tc .vmem S2x8x256 .f32
  a13 : Memref sig .tc .vmem S2x8x2x256 .bf16
  h13 : a13.IsWhole
  a14 : Memref sig .tc .vmem S7x256x256 .f32
  a15 : Memref sig .tc .vmem S256x256 .f32
  a16 : Memref sig .tc .vmem S8x128 .f32

/-- The store of one block's partial extremes, after the load of what is there. -/
def partStore (m : Memref sig .tc .vmem S2x2x64x2x128 .bf16) (hm : m.IsWhole) (p : ℕ) (hp : p < 2) (mx : Bool)
    (tile : FVec F S512x256 .bf16) (b l : ℕ) (hb : b < 8) (hl : l < 2) (k : Prg F α) : Prg F α :=
  .op (.load (slot m p (slotInb p hp)) (Rect.unit (s := S2x64x2x128) ![l, 8 * b, 0, 0] S1x8x2x128.size (partInb l b hl hb)).toLoadRect (View.loadsAt_vmem h_S1x8x2x128)) fun _ =>
  .op (.store (slot m p (slotInb p hp)) (Rect.unit (s := S2x64x2x128) ![l, 8 * b, 0, 0] S1x8x2x128.size (partInb l b hl hb)) (partVal mx tile b l hb hl) Finset.univ
    (View.stores_vmem h_S1x8x2x128 ((((hm.pairWhole rank2_S2x2x64x2x128).slice _ (Rect.wholeSlabs_unit rank2_S2x2x64x2x128 rfl rfl rfl rfl)).reshape _ _ (Shape.EndsAs.intro rank2_S2x64x2x128 rank2_S1x2x64x2x128 rfl rfl)).storeExact_slice rfl _ (Rect.wholeRows_unit rank2_S2x64x2x128 rfl rfl) pairs_S2x64x2x128_bf16) (fun _ => rfl)) (.inl rfl)) fun _ => k

/-- The stores of all blocks' partial extremes. -/
def partStores (m : Memref sig .tc .vmem S2x2x64x2x128 .bf16) (hm : m.IsWhole) (p : ℕ) (hp : p < 2) (mx : Bool)
    (tile : FVec F S512x256 .bf16) (k : Prg F α) : Prg F α :=
  partStore m hm p hp mx tile 0 0 (by decide) (by decide) <|
  partStore m hm p hp mx tile 0 1 (by decide) (by decide) <|
  partStore m hm p hp mx tile 1 0 (by decide) (by decide) <|
  partStore m hm p hp mx tile 1 1 (by decide) (by decide) <|
  partStore m hm p hp mx tile 2 0 (by decide) (by decide) <|
  partStore m hm p hp mx tile 2 1 (by decide) (by decide) <|
  partStore m hm p hp mx tile 3 0 (by decide) (by decide) <|
  partStore m hm p hp mx tile 3 1 (by decide) (by decide) <|
  partStore m hm p hp mx tile 4 0 (by decide) (by decide) <|
  partStore m hm p hp mx tile 4 1 (by decide) (by decide) <|
  partStore m hm p hp mx tile 5 0 (by decide) (by decide) <|
  partStore m hm p hp mx tile 5 1 (by decide) (by decide) <|
  partStore m hm p hp mx tile 6 0 (by decide) (by decide) <|
  partStore m hm p hp mx tile 6 1 (by decide) (by decide) <|
  partStore m hm p hp mx tile 7 0 (by decide) (by decide) <|
  partStore m hm p hp mx tile 7 1 (by decide) (by decide) <|
  k

/-- The load of row `i` of every block's partial extremes, lanes group `l`. -/
def strideLoad (m : Memref sig .tc .vmem S2x2x64x2x128 .bf16) (p : ℕ) (hp : p < 2) (l i : ℕ) (hl : l < 2) (hi : i < 8)
    (k : Vec F S1x8x2x128 .bf16 → Prg F α) : Prg F α :=
  .op (.load (slot m p (slotInb p hp)) (⟨![l, i, 0, 0], S1x8x2x128.size, ![1, 8, 1, 1], strideInb l i hl hi⟩ : LoadRect S2x64x2x128) (View.loadsAt_vmem h_S1x8x2x128)) k

/-- The extremes of all blocks, lanes group `l`. -/
def colTree (m : Memref sig .tc .vmem S2x2x64x2x128 .bf16) (p : ℕ) (hp : p < 2) (mx : Bool) (l : ℕ) (hl : l < 2)
    (k : FVec F S8x128 .f32 → Prg F α) : Prg F α :=
  strideLoad m p hp l 0 hl (by decide) fun r0 =>
  strideLoad m p hp l 1 hl (by decide) fun r1 =>
  strideLoad m p hp l 2 hl (by decide) fun r2 =>
  strideLoad m p hp l 3 hl (by decide) fun r3 =>
  strideLoad m p hp l 4 hl (by decide) fun r4 =>
  strideLoad m p hp l 5 hl (by decide) fun r5 =>
  strideLoad m p hp l 6 hl (by decide) fun r6 =>
  strideLoad m p hp l 7 hl (by decide) fun r7 =>
  k (foldPair mx (tree8 mx (unpair r0) (unpair r1) (unpair r2) (unpair r3) (unpair r4) (unpair r5) (unpair r6) (unpair r7)))

theorem rInb (p l : ℕ) (hp : p < 2) (hl : l < 2) : ∀ a, (![p, 0, 128 * l] : Fin 3 → Nat) a + S1x8x128.size a ≤ S2x8x256.size a := by
  have h : ∀ p l : Fin 2, ∀ a, (![p.val, 0, 128 * l.val] : Fin 3 → Nat) a + S1x8x128.size a ≤ S2x8x256.size a := by decide
  exact h ⟨p, hp⟩ ⟨l, hl⟩

theorem zInb (p l : ℕ) (hp : p < 2) (hl : l < 2) : ∀ a, (![p, 0, 0, 128 * l] : Fin 4 → Nat) a + S1x8x2x128.size a ≤ S2x8x2x256.size a := by
  have h : ∀ p l : Fin 2, ∀ a, (![p.val, 0, 0, 128 * l.val] : Fin 4 → Nat) a + S1x8x2x128.size a ≤ S2x8x2x256.size a := by decide
  exact h ⟨p, hp⟩ ⟨l, hl⟩

/-- The end of a reduction stage for lanes group `l`: the scales, their reciprocals and the zero points of eight blocks
are kept, and the scales added to the running sum. -/
def finish (M : Bufs) (p : ℕ) (hp : p < 2) (l : ℕ) (hl : l < 2)
    (o14 : Fin 3 → ℕ) (i14 : ∀ a, o14 a + S1x8x128.size a ≤ S7x256x256.size a)
    (o15 : Fin 2 → ℕ) (i15 : ∀ a, o15 a + S8x128.size a ≤ S256x256.size a)
    (mx mn : FVec F S8x128 .f32) (k : Prg F α) : Prg F α :=
  .op (.load M.a12 (Rect.unit (s := S2x8x256) ![p, 0, 128 * l] S1x8x128.size (rInb p l hp hl)).toLoadRect (View.loadsAt_vmem h_S1x8x128)) fun _ =>
  .op (.store M.a12 (Rect.unit (s := S2x8x256) ![p, 0, 128 * l] S1x8x128.size (rInb p l hp hl)) (shapeCast S1x8x128 (recipOf (scaleOf mx mn)) shapeCasts_S8x128_S1x8x128) Finset.univ (View.stores_vmem_bits_univ h_S1x8x128 rfl) (.inl rfl)) fun _ =>
  .op (.load M.a13 (Rect.unit (s := S2x8x2x256) ![p, 0, 0, 128 * l] S1x8x2x128.size (zInb p l hp hl)).toLoadRect (View.loadsAt_vmem h_S1x8x2x128)) fun _ =>
  .op (.store M.a13 (Rect.unit (s := S2x8x2x256) ![p, 0, 0, 128 * l] S1x8x2x128.size (zInb p l hp hl)) (mkPair (truncf .bf16 (zeroOf mn (recipOf (scaleOf mx mn)))) (truncf .bf16 (zeroOf mn (recipOf (scaleOf mx mn))))) Finset.univ
    (View.stores_vmem h_S1x8x2x128 ((M.h13.pairWhole rank2_S2x8x2x256).storeExact_slice rfl _ (Rect.wholeRows_unit rank2_S2x8x2x256 rfl rfl) pairs_S2x8x2x256_bf16) (fun _ => rfl)) (.inl rfl)) fun _ =>
  .op (.load M.a14 (Rect.unit (s := S7x256x256) o14 S1x8x128.size i14).toLoadRect (View.loadsAt_vmem h_S1x8x128)) fun _ =>
  .op (.store M.a14 (Rect.unit (s := S7x256x256) o14 S1x8x128.size i14) (shapeCast S1x8x128 (scaleOf mx mn) shapeCasts_S8x128_S1x8x128) Finset.univ (View.stores_vmem_bits_univ h_S1x8x128 rfl) (.inl rfl)) fun _ =>
  .op (.load M.a15 (Rect.unit (s := S256x256) o15 S8x128.size i15).toLoadRect (View.loadsAt_vmem h_S8x128)) fun _ =>
  .op (.store M.a15 (Rect.unit (s := S256x256) o15 S8x128.size i15) (shapeCast S8x128 (zeroOf mn (recipOf (scaleOf mx mn))) shapeCasts_S8x128_S8x128) Finset.univ (View.stores_vmem_bits_univ h_S8x128 rfl) (.inl rfl)) fun _ =>
  .op (.load M.a16 (Rect.unit (s := S8x128) ![0, 0] S8x128.size inb_S8x128_S8x128_0_0).toLoadRect (View.loadsAt_vmem h_S8x128)) fun acc =>
  .op (.load M.a16 (Rect.unit (s := S8x128) ![0, 0] S8x128.size inb_S8x128_S8x128_0_0).toLoadRect (View.loadsAt_vmem h_S8x128)) fun _ =>
  .op (.store M.a16 (Rect.unit (s := S8x128) ![0, 0] S8x128.size inb_S8x128_S8x128_0_0) (shapeCast S8x128 (addf acc (scaleOf mx mn)) shapeCasts_S8x128_S8x128) Finset.univ (View.stores_vmem_bits_univ h_S8x128 rfl) (.inl rfl)) fun _ => k

/-- The tile a reduction stage works on, its columns as rows. -/
def tileOf (raw : Vec F S1x256x512 .bf16) : FVec F S512x256 .bf16 :=
  transpose S512x256 [1, 0] (shapeCast S256x512 raw shapeCasts_S1x256x512_S256x512) transposes_S256x512_p1_0_S512x256

/-- The reduction stage of slice `j`. -/
def stageA (M : Bufs) (t : Fin k0_t1_loop.trips) (p : ℕ) (hp : p < 2) (j : Fin 8)
    (o7 : Fin 3 → ℕ) (i7 : ∀ a, o7 a + S1x256x512.size a ≤ S4x256x4096.size a) (k : Prg F α) : Prg F α :=
  .op (.load M.a7 (Rect.unit (s := S4x256x4096) o7 S1x256x512.size i7).toLoadRect (View.loadsAt_vmem h_S1x256x512)) fun raw =>
  partStores M.a10 M.h10 p hp true (tileOf raw) <|
  colTree M.a10 p hp true 0 (by decide) fun mx0 =>
  colTree M.a10 p hp true 1 (by decide) fun mx1 =>
  partStores M.a11 M.h11 p hp false (tileOf raw) <|
  colTree M.a11 p hp false 0 (by decide) fun mn0 =>
  colTree M.a11 p hp false 1 (by decide) fun mn1 =>
  finish M p hp 0 (by decide) (k0_off11 t (BitVec.ofNat 32 (8 * j.val))) (k0_off11_inb t j) (k0_off12 t (BitVec.ofNat 32 (8 * j.val))) (k0_off12_inb t j) mx0 mn0 <|
  finish M p hp 1 (by decide) (k0_off13 t (BitVec.ofNat 32 (8 * j.val))) (k0_off13_inb t j) (k0_off14 t (BitVec.ofNat 32 (8 * j.val))) (k0_off14_inb t j) mx1 mn1 k

theorem rowInb (p b : ℕ) (hp : p < 2) (hb : b < 8) : ∀ a, (![p, b, 0] : Fin 3 → Nat) a + S1x1x256.size a ≤ S2x8x256.size a := by
  have h : ∀ p : Fin 2, ∀ b : Fin 8, ∀ a, (![p.val, b.val, 0] : Fin 3 → Nat) a + S1x1x256.size a ≤ S2x8x256.size a := by decide
  exact h ⟨p, hp⟩ ⟨b, hb⟩

theorem zrowInb (p b : ℕ) (hp : p < 2) (hb : b < 8) : ∀ a, (![p, b, 0, 0] : Fin 4 → Nat) a + S1x1x2x256.size a ≤ S2x8x2x256.size a := by
  have h : ∀ p : Fin 2, ∀ b : Fin 8, ∀ a, (![p.val, b.val, 0, 0] : Fin 4 → Nat) a + S1x1x2x256.size a ≤ S2x8x2x256.size a := by decide
  exact h ⟨p, hp⟩ ⟨b, hb⟩

theorem slicesCode (n : ℕ) (hn : n < 8) : S256x256.Slices ![32 * n, 0] S32x256 := by
  have h : ∀ n : Fin 8, S256x256.Slices ![32 * n.val, 0] S32x256 := by decide
  exact h ⟨n, hn⟩

/-- A block's reciprocal scales, one row for each of 32 columns. -/
def rowsOf (raw : Vec F S1x1x256 .f32) : FVec F S32x256 .f32 :=
  broadcastTo S32x256 (shapeCast S1x256 (shapeCast S1x256 raw shapeCasts_S1x1x256_S1x256) shapeCasts_S1x256_S1x256) broadcasts_S1x256_S32x256

/-- Sixteen copies of a row. -/
def copies (v : FVec F S1x256 .bf16) : FVec F S16x256 .bf16 :=
  concatenate S16x256 0 [⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩] concatenates_S1x256_S1x256_S1x256_S1x256_S1x256_S1x256_S1x256_S1x256_S1x256_S1x256_S1x256_S1x256_S1x256_S1x256_S1x256_S1x256_S16x256_d0

/-- A block's zero points, one row for each of 32 columns. -/
def zrowsOf (raw : Vec F S1x1x2x256 .bf16) : FVec F S32x256 .bf16 :=
  interleaveRows S32x256
    (copies (shapeCast S1x256 (shapeCast S1x1x256 (rowsOfParity 0 S1x1x1x256 raw bitcasts_S1x1x2x256_w16_S1x1x1x256_w32) shapeCasts_S1x1x1x256_S1x1x256) shapeCasts_S1x1x256_S1x256))
    (copies (shapeCast S1x256 (shapeCast S1x1x256 (rowsOfParity 1 S1x1x1x256 raw bitcasts_S1x1x2x256_w16_S1x1x1x256_w32) shapeCasts_S1x1x1x256_S1x1x256) shapeCasts_S1x1x256_S1x256))
    bitcasts_S32x256_w16_S16x256_w32

/-- The codes of 32 columns, four to a word. -/
def codesOf (x : FVec F S32x256 .f32) (r : FVec F S32x256 .f32) (z : FVec F S32x256 .bf16) : IVec S8x256 32 :=
  bitcast S8x256 32 (fptosi 8 (minimumf (broadcast S32x256 (Scalar.truncf .bf16 bitsLt_bf16_f32 (Scalar.ofBits .f32 0x41700000#32)))
    (maximumf (broadcast S32x256 (Scalar.truncf .bf16 bitsLt_bf16_f32 (Scalar.ofBits .f32 0x00000000#32)))
      (addf (sitofp .bf16 (fptosi (F := F) 8 (roundeven (mulf x r)))) z)))) bitcasts_S32x256_w8_S8x256_w32

/-- The packed codes of block `i` of a half slice: the codes of its even columns above those of its odd ones. -/
def wordOf (y : FVec F S256x256 .f32) (i : ℕ) (hi : i < 4) (r : Vec F S1x1x256 .f32) (z : Vec F S1x1x2x256 .bf16) : IVec S8x256 32 :=
  ori (shli (codesOf (extractStridedSlice S32x256 ![32 * i, 0] y (slicesCode i (by omega))) (rowsOf r) (zrowsOf z)) (broadcast S8x256 4#32))
    (codesOf (extractStridedSlice S32x256 ![32 * (4 + i), 0] y (slicesCode (4 + i) (by omega))) (rowsOf r) (zrowsOf z))

/-- The bytes of a half slice. -/
def bytesOf (w0 w1 w2 w3 : IVec S8x256 32) : IVec S256x128 8 :=
  transpose S256x128 [1, 0] (bitcast S128x256 8 (concatenate S32x256 0 [⟨S8x256, w0⟩, ⟨S8x256, w1⟩, ⟨S8x256, w2⟩, ⟨S8x256, w3⟩] concatenates_S8x256_S8x256_S8x256_S8x256_S32x256_d0) bitcasts_S32x256_w32_S128x256_w8) transposes_S128x256_p1_0_S256x128

/-- The loads of block `b`'s reciprocal scales and zero points. -/
def rowLoad (M : Bufs) (p b : ℕ) (hp : p < 2) (hb : b < 8) (k : Vec F S1x1x256 .f32 → Vec F S1x1x2x256 .bf16 → Prg F α) : Prg F α :=
  .op (.load M.a12 (Rect.unit (s := S2x8x256) ![p, b, 0] S1x1x256.size (rowInb p b hp hb)).toLoadRect (View.loadsAt_vmem h_S1x1x256)) fun r =>
  .op (.load M.a13 (Rect.unit (s := S2x8x2x256) ![p, b, 0, 0] S1x1x2x256.size (zrowInb p b hp hb)).toLoadRect (View.loadsAt_vmem h_S1x1x2x256)) fun z => k r z

/-- The quantisation of half `c` of a slice: 256 columns to 128 bytes a row. -/
def half (M : Bufs) (p : ℕ) (hp : p < 2) (c : ℕ) (hc : c < 2)
    (o7 : Fin 3 → ℕ) (i7 : ∀ a, o7 a + S1x256x256.size a ≤ S4x256x4096.size a)
    (o8 : Fin 3 → ℕ) (i8 : ∀ a, o8 a + S1x256x128.size a ≤ S2x256x2048.size a)
    (p8 : (Rect.unit (s := S2x256x2048) o8 S1x256x128.size i8).PackedRows (EltTy.packing .i8)) (k : Prg F α) : Prg F α :=
  .op (.load M.a7 (Rect.unit (s := S4x256x4096) o7 S1x256x256.size i7).toLoadRect (View.loadsAt_vmem h_S1x256x256)) fun x =>
  .op (.load M.a9 (Rect.unit (s := S256x256) ![0, 0] S256x256.size inb_S256x256_S256x256_0_0).toLoadRect (View.loadsAt_vmem h_S256x256)) fun perm =>
  rowLoad M p (4 * c + 0) hp (by omega) fun r0 z0 =>
  rowLoad M p (4 * c + 1) hp (by omega) fun r1 z1 =>
  rowLoad M p (4 * c + 2) hp (by omega) fun r2 z2 =>
  rowLoad M p (4 * c + 3) hp (by omega) fun r3 z3 =>
  .op (.load M.a8 (Rect.unit (s := S2x256x2048) o8 S1x256x128.size i8).toLoadRect (View.loadsAt_vmem h_S1x256x128)) fun _ =>
  .op (.store M.a8 (Rect.unit (s := S2x256x2048) o8 S1x256x128.size i8)
    (shapeCast S1x256x128 (bytesOf
      (wordOf (matmul dot_S256x256_S256x256_S256x256_1_1_0_0_n_n none perm (shapeCast S256x256 x shapeCasts_S1x256x256_S256x256) (constant S256x256 .f32 0x00000000#32)) 0 (by decide) r0 z0)
      (wordOf (matmul dot_S256x256_S256x256_S256x256_1_1_0_0_n_n none perm (shapeCast S256x256 x shapeCasts_S1x256x256_S256x256) (constant S256x256 .f32 0x00000000#32)) 1 (by decide) r1 z1)
      (wordOf (matmul dot_S256x256_S256x256_S256x256_1_1_0_0_n_n none perm (shapeCast S256x256 x shapeCasts_S1x256x256_S256x256) (constant S256x256 .f32 0x00000000#32)) 2 (by decide) r2 z2)
      (wordOf (matmul dot_S256x256_S256x256_S256x256_1_1_0_0_n_n none perm (shapeCast S256x256 x shapeCasts_S1x256x256_S256x256) (constant S256x256 .f32 0x00000000#32)) 3 (by decide) r3 z3)) shapeCasts_S256x128_S1x256x128)
    Finset.univ (View.stores_vmem h_S1x256x128 (M.h8.storeExact_slice rfl _ p8) (fun _ => rfl)) (.inl rfl)) fun _ => k

/-- The sixteen stages of a trip, in their order. -/
def stages (M : Bufs) (t : Fin k0_t1_loop.trips) (k : Prg F α) : Prg F α :=
  stageA M t 0 (by decide) 0 (k0_off10 t) (k0_off10_inb t) <|
  stageA M t 1 (by decide) 1 (k0_off15 t) (k0_off15_inb t) <|
  half M 0 (by decide) 0 (by decide) (k0_off16 t) (k0_off16_inb t) (k0_off17 t) (k0_off17_inb t) (k0_off17_packedi8 t) <|
  half M 0 (by decide) 1 (by decide) (k0_off18 t) (k0_off18_inb t) (k0_off19 t) (k0_off19_inb t) (k0_off19_packedi8 t) <|
  stageA M t 0 (by decide) 2 (k0_off20 t) (k0_off20_inb t) <|
  half M 1 (by decide) 0 (by decide) (k0_off21 t) (k0_off21_inb t) (k0_off22 t) (k0_off22_inb t) (k0_off22_packedi8 t) <|
  half M 1 (by decide) 1 (by decide) (k0_off23 t) (k0_off23_inb t) (k0_off24 t) (k0_off24_inb t) (k0_off24_packedi8 t) <|
  stageA M t 1 (by decide) 3 (k0_off25 t) (k0_off25_inb t) <|
  half M 0 (by decide) 0 (by decide) (k0_off26 t) (k0_off26_inb t) (k0_off27 t) (k0_off27_inb t) (k0_off27_packedi8 t) <|
  half M 0 (by decide) 1 (by decide) (k0_off28 t) (k0_off28_inb t) (k0_off29 t) (k0_off29_inb t) (k0_off29_packedi8 t) <|
  stageA M t 0 (by decide) 4 (k0_off30 t) (k0_off30_inb t) <|
  half M 1 (by decide) 0 (by decide) (k0_off31 t) (k0_off31_inb t) (k0_off32 t) (k0_off32_inb t) (k0_off32_packedi8 t) <|
  half M 1 (by decide) 1 (by decide) (k0_off33 t) (k0_off33_inb t) (k0_off34 t) (k0_off34_inb t) (k0_off34_packedi8 t) <|
  stageA M t 1 (by decide) 5 (k0_off35 t) (k0_off35_inb t) <|
  half M 0 (by decide) 0 (by decide) (k0_off36 t) (k0_off36_inb t) (k0_off37 t) (k0_off37_inb t) (k0_off37_packedi8 t) <|
  half M 0 (by decide) 1 (by decide) (k0_off38 t) (k0_off38_inb t) (k0_off39 t) (k0_off39_inb t) (k0_off39_packedi8 t) <|
  stageA M t 0 (by decide) 6 (k0_off40 t) (k0_off40_inb t) <|
  half M 1 (by decide) 0 (by decide) (k0_off41 t) (k0_off41_inb t) (k0_off42 t) (k0_off42_inb t) (k0_off42_packedi8 t) <|
  half M 1 (by decide) 1 (by decide) (k0_off43 t) (k0_off43_inb t) (k0_off44 t) (k0_off44_inb t) (k0_off44_packedi8 t) <|
  stageA M t 1 (by decide) 7 (k0_off45 t) (k0_off45_inb t) <|
  half M 0 (by decide) 0 (by decide) (k0_off46 t) (k0_off46_inb t) (k0_off47 t) (k0_off47_inb t) (k0_off47_packedi8 t) <|
  half M 0 (by decide) 1 (by decide) (k0_off48 t) (k0_off48_inb t) (k0_off49 t) (k0_off49_inb t) (k0_off49_packedi8 t) <|
  half M 1 (by decide) 0 (by decide) (k0_off50 t) (k0_off50_inb t) (k0_off51 t) (k0_off51_inb t) (k0_off51_packedi8 t) <|
  half M 1 (by decide) 1 (by decide) (k0_off52 t) (k0_off52_inb t) (k0_off53 t) (k0_off53_inb t) (k0_off53_packedi8 t) <|
  k

end Cert.KernelIdeal.Stage
-- ==== Proof.Pure.lean ====
module

public import proofs.«01_k».proof.Proof.Stage
public import Idealize.ShloMosaic.Lib.Pipeline.Value
public import Idealize.ShloMosaic.Lib.ValueIdxCore
public import Idealize.ShloMosaic.Lib.MatmulPlain
public import Idealize.ShloMosaic.Lib.IdealHost
public import Idealize.ShloMosaic.Lib.BitcastFour

@[expose] public section

/-! The pure steps of a trip, read at an index over the extended reals. -/

noncomputable section

namespace Cert.KernelIdeal.Stage

open Idealize.ShloMosaic Idealize.ShloMosaic.TcCoe Idealize.SL.Sem Cert.KernelIdeal Cert.KernelIdeal.Gen
open Idealize.ShloMosaic.ValueIdx

/-- The larger (`true`) or the smaller (`false`) of two values. -/
def extR (mx : Bool) (a b : EReal) : EReal :=
  match mx with
  | true => max a b
  | false => min a b

theorem ext_apply {s : Shape} {e : FTy} (mx : Bool) (a b : FVec Ideal s e) (y : s.Idx) :
    ext (F := Ideal) mx a b y = extR mx (a y) (b y) := by cases mx <;> rfl

/-- The extreme of the four entries of column `n`, rows `64 b + 16 q + ρ` for `q` below four. -/
def rowN (mx : Bool) (T : ℕ → ℕ → EReal) (b ρ n : ℕ) : EReal :=
  extR mx (extR mx (T (64 * b + 16 * 0 + ρ) n) (T (64 * b + 16 * 1 + ρ) n))
    (extR mx (T (64 * b + 16 * 2 + ρ) n) (T (64 * b + 16 * 3 + ρ) n))

theorem rowTree_apply (mx : Bool) (tile : FVec Ideal S512x256 .bf16) (T : ℕ → ℕ → EReal)
    (hT : ∀ y, tile y = T (y 0).val (y 1).val) (b : ℕ) (hb : b < 8) (y : S16x256.Idx) :
    rowTree mx tile b hb y = rowN mx T b (y 0).val (y 1).val := by
  unfold rowTree rowN
  simp only [ext_apply, extractStridedSlice, hT]
  simp

theorem cast4_apply {α : Type} (v : S8x128.Idx → α) (j : S1x8x1x128.Idx) :
    shapeCast S1x8x1x128 (shapeCast S1x8x128 v shapeCasts_S8x128_S1x8x128) shapeCasts_S1x8x128_S1x8x1x128 j = v (ix2 (j 1) (j 3)) := by
  have h0 : (j 0).val < 1 := (j 0).isLt
  have h2 : (j 2).val < 1 := (j 2).isLt
  refine (shapeCast_apply _ _ j (ix3 (j 0) (j 1) (j 3)) ?_).trans (shapeCast_apply _ _ _ (ix2 (j 1) (j 3)) ?_)
  · refine (Shape.rowMajor_val_three _).trans (Eq.trans ?_ (Shape.rowMajor_val_four _).symm)
    show ((j 0).val * 8 + (j 1).val) * 128 + (j 3).val = (((j 0).val * 8 + (j 1).val) * 1 + (j 2).val) * 128 + (j 3).val
    omega
  · refine (Shape.rowMajor_val_two _).trans (Eq.trans ?_ (Shape.rowMajor_val_three _).symm)
    show (j 1).val * 128 + (j 3).val = ((j 0).val * 8 + (j 1).val) * 128 + (j 3).val
    omega

theorem cast4_symm_apply {α : Type} (v : S1x8x1x128.Idx → α) (j : S8x128.Idx) :
    shapeCast S8x128 (shapeCast S1x8x128 v shapeCasts_S1x8x1x128_S1x8x128) shapeCasts_S1x8x128_S8x128 j = v (ix4 0 (j 0) 0 (j 1)) := by
  refine (shapeCast_apply _ _ j (ix3 0 (j 0) (j 1)) ?_).trans (shapeCast_apply _ _ _ (ix4 0 (j 0) 0 (j 1)) ?_)
  · refine (Shape.rowMajor_val_three _).trans (Eq.trans ?_ (Shape.rowMajor_val_two _).symm)
    show (0 * 8 + (j 0).val) * 128 + (j 1).val = (j 0).val * 128 + (j 1).val
    omega
  · refine (Shape.rowMajor_val_four _).trans (Eq.trans ?_ (Shape.rowMajor_val_three _).symm)
    show ((0 * 8 + (j 0).val) * 1 + 0) * 128 + (j 1).val = (0 * 8 + (j 0).val) * 128 + (j 1).val
    omega

theorem mkPair_apply (lo hi : FVec Ideal S8x128 .bf16) (y : S1x8x2x128.Idx) :
    mkPair lo hi y = if (y 2).val % 2 = 0 then lo (ix2 (y 1) (y 3)) else hi (ix2 (y 1) (y 3)) := by
  unfold mkPair interleaveRows
  simp only [cast4_apply]
  rfl

theorem unpair_apply (raw : Vec Ideal S1x8x2x128 .bf16) (y : S16x128.Idx) :
    unpair raw y = raw (ix4 0 ⟨(y 0).val / 2, by have := (y 0).isLt; simp at this; omega⟩ ⟨(y 0).val % 2, by omega⟩ (y 1)) := by
  unfold unpair pairLo pairHi interleaveRows
  simp only [cast4_symm_apply]
  have hr : S16x128.row y = (y 0).val := rfl
  by_cases h : (y 0).val % 2 = 0
  · rw [if_pos (by rw [hr]; exact h)]
    refine congrArg raw (funext fun a => Fin.ext ?_)
    match a with
    | ⟨0, _⟩ => rfl
    | ⟨1, _⟩ => rfl
    | ⟨2, _⟩ => simpa [rowsOfParity] using h.symm
    | ⟨3, _⟩ => rfl
  · rw [if_neg (by rw [hr]; exact h)]
    refine congrArg raw (funext fun a => Fin.ext ?_)
    match a with
    | ⟨0, _⟩ => rfl
    | ⟨1, _⟩ => rfl
    | ⟨2, _⟩ => show 2 * 0 + 1 = (y 0).val % 2; omega
    | ⟨3, _⟩ => rfl

theorem partVal_apply (mx : Bool) (tile : FVec Ideal S512x256 .bf16) (T : ℕ → ℕ → EReal)
    (hT : ∀ y, tile y = T (y 0).val (y 1).val) (b l : ℕ) (hb : b < 8) (hl : l < 2) (y : S1x8x2x128.Idx) :
    partVal mx tile b l hb hl y = rowN mx T b (2 * (y 1).val + (y 2).val) (128 * l + (y 3).val) := by
  unfold partVal
  rw [mkPair_apply]
  have h2 : (y 2).val < 2 := (y 2).isLt
  split
  · rename_i h
    have h0 : (y 2).val = 0 := by omega
    simp only [extractStridedSlice, rowsOfParity, rowTree_apply mx tile T hT]
    rw [h0]
    show rowN mx T b (2 * (0 + (y 1).val) + 0) _ = _
    rw [Nat.zero_add]; rfl
  · rename_i h
    have h0 : (y 2).val = 1 := by omega
    simp only [extractStridedSlice, rowsOfParity, rowTree_apply mx tile T hT]
    rw [h0]
    show rowN mx T b (2 * (0 + (y 1).val) + 1) _ = _
    rw [Nat.zero_add]; rfl

/-- The extreme of eight values, by pairs. -/
def tree8N (mx : Bool) (f : ℕ → EReal) : EReal :=
  extR mx (extR mx (extR mx (f 0) (f 1)) (extR mx (f 2) (f 3))) (extR mx (extR mx (f 4) (f 5)) (extR mx (f 6) (f 7)))

theorem foldPair_apply (mx : Bool) (a : FVec Ideal S16x128 .bf16) (y : S8x128.Idx) :
    foldPair mx a y = extR mx (a (ix2 ⟨2 * (y 0).val, by have := (y 0).isLt; simp at this; omega⟩ (y 1)))
      (a (ix2 ⟨2 * (y 0).val + 1, by have := (y 0).isLt; simp at this; omega⟩ (y 1))) := by
  unfold foldPair
  rw [ext_apply]
  congr 1
  · refine congrArg a (funext fun c => Fin.ext ?_)
    match c with
    | ⟨0, _⟩ => rfl
    | ⟨1, _⟩ => rfl
  · refine congrArg a (funext fun c => Fin.ext ?_)
    match c with
    | ⟨0, _⟩ => rfl
    | ⟨1, _⟩ => rfl

/-- The order in which `extR mx` is the least upper bound. -/
def leR (mx : Bool) (a b : EReal) : Prop :=
  match mx with
  | true => a ≤ b
  | false => b ≤ a

theorem leR_extR (mx : Bool) (a b c : EReal) : leR mx (extR mx a b) c ↔ leR mx a c ∧ leR mx b c := by
  cases mx
  · exact le_min_iff
  · exact max_le_iff

/-- The largest (`true`) or the smallest (`false`) of 64 values. -/
def extAll (mx : Bool) (f : Fin 64 → EReal) : EReal :=
  match mx with
  | true => ⨆ i, f i
  | false => ⨅ i, f i

theorem leR_extAll (mx : Bool) (f : Fin 64 → EReal) (c : EReal) : leR mx (extAll mx f) c ↔ ∀ i, leR mx (f i) c := by
  cases mx
  · exact le_iInf_iff
  · exact iSup_le_iff

theorem leR_ext (mx : Bool) {a b : EReal} (h : ∀ c, leR mx a c ↔ leR mx b c) : a = b := by
  cases mx
  · exact le_antisymm ((h _).2 le_rfl |> fun h' => h') ((h _).1 le_rfl) |>.symm ▸ rfl
  · exact le_antisymm ((h _).2 le_rfl) ((h _).1 le_rfl)

theorem forall_fin64 {P : ℕ → Prop} :
    (∀ i : Fin 64, P i.val) ↔ ∀ p < 2, ∀ i < 8, ∀ q < 4, P (16 * q + (2 * i + p)) := by
  constructor
  · intro h p hp i hi q hq
    exact h ⟨16 * q + (2 * i + p), by omega⟩
  · intro h i
    have := h (i.val % 2) (by omega) (i.val % 16 / 2) (by omega) (i.val / 16) (by omega)
    have e : 16 * (i.val / 16) + (2 * (i.val % 16 / 2) + i.val % 2) = i.val := by omega
    rwa [e] at this

theorem leR_rowN (mx : Bool) (T : ℕ → ℕ → EReal) (b ρ n : ℕ) (c : EReal) :
    leR mx (rowN mx T b ρ n) c ↔ ∀ q < 4, leR mx (T (64 * b + 16 * q + ρ) n) c := by
  unfold rowN
  simp only [leR_extR]
  constructor
  · rintro ⟨⟨h0, h1⟩, h2, h3⟩ q hq
    interval_cases q <;> assumption
  · intro h
    exact ⟨⟨h 0 (by decide), h 1 (by decide)⟩, h 2 (by decide), h 3 (by decide)⟩

theorem leR_tree8N (mx : Bool) (f : ℕ → EReal) (c : EReal) : leR mx (tree8N mx f) c ↔ ∀ i < 8, leR mx (f i) c := by
  unfold tree8N
  simp only [leR_extR]
  constructor
  · rintro ⟨⟨⟨h0, h1⟩, h2, h3⟩, ⟨h4, h5⟩, h6, h7⟩ q hq
    interval_cases q <;> assumption
  · intro h
    exact ⟨⟨⟨h 0 (by decide), h 1 (by decide)⟩, h 2 (by decide), h 3 (by decide)⟩, ⟨h 4 (by decide), h 5 (by decide)⟩, h 6 (by decide), h 7 (by decide)⟩

/-- The pairwise tree over the 64 rows of block `b` is their extreme. -/
theorem tree_eq (mx : Bool) (T : ℕ → ℕ → EReal) (b n : ℕ) :
    extR mx (tree8N mx fun i => rowN mx T b (2 * i + 0) n) (tree8N mx fun i => rowN mx T b (2 * i + 1) n)
      = extAll mx fun i => T (64 * b + i.val) n := by
  refine leR_ext mx fun c => ?_
  rw [leR_extR, leR_extAll, leR_tree8N, leR_tree8N, forall_fin64 (P := fun i => leR mx (T (64 * b + i) n) c)]
  simp only [leR_rowN]
  constructor
  · rintro ⟨h0, h1⟩ p hp i hi q hq
    have e : 64 * b + (16 * q + (2 * i + p)) = 64 * b + 16 * q + (2 * i + p) := by omega
    rw [e]
    interval_cases p
    · exact h0 i hi q hq
    · exact h1 i hi q hq
  · intro h
    refine ⟨fun i hi q hq => ?_, fun i hi q hq => ?_⟩
    · have := h 0 (by decide) i hi q hq
      rwa [show 64 * b + (16 * q + (2 * i + 0)) = 64 * b + 16 * q + (2 * i + 0) by omega] at this
    · have := h 1 (by decide) i hi q hq
      rwa [show 64 * b + (16 * q + (2 * i + 1)) = 64 * b + 16 * q + (2 * i + 1) by omega] at this

/-- The result of the column tree from the rows it loads. -/
theorem colTree_val (mx : Bool) (T : ℕ → ℕ → EReal) (l : ℕ) (r : Fin 8 → Vec Ideal S1x8x2x128 .bf16)
    (hr : ∀ i y, r i y = rowN mx T (y 1).val (2 * i.val + (y 2).val) (128 * l + (y 3).val)) (y : S8x128.Idx) :
    foldPair mx (tree8 mx (unpair (r 0)) (unpair (r 1)) (unpair (r 2)) (unpair (r 3)) (unpair (r 4)) (unpair (r 5)) (unpair (r 6)) (unpair (r 7))) y
      = extAll mx fun i => T (64 * (y 0).val + i.val) (128 * l + (y 1).val) := by
  rw [← tree_eq, foldPair_apply]
  unfold tree8
  simp only [ext_apply, unpair_apply, hr]
  have e0 : 2 * (y 0).val / 2 = (y 0).val := by omega
  have e1 : (2 * (y 0).val + 1) / 2 = (y 0).val := by omega
  have e2 : 2 * (y 0).val % 2 = 0 := by omega
  have e3 : (2 * (y 0).val + 1) % 2 = 1 := by omega
  simp only [ix2, ix4, e0, e1, e2, e3]
  rfl

/-! ### The values of the result -/

/-- The scale of a block from its extremes. -/
def sgR (mx mn : EReal) : EReal := scaleOf (F := Ideal) (fun _ => mx) (fun _ => mn) (ix2 0 0)

/-- The reciprocal of a scale. -/
def recR (sg : EReal) : EReal := recipOf (F := Ideal) (fun _ => sg) (ix2 0 0)

/-- The zero point of a block from its smallest value and the reciprocal of its scale. -/
def zR (mn r : EReal) : EReal := zeroOf (F := Ideal) (fun _ => mn) (fun _ => r) (ix2 0 0)

variable (W : ℕ → ℕ → EReal)

/-- The extreme of block `k` of row `r`. -/
def EX (mx : Bool) (r k : ℕ) : EReal := extAll mx fun i => W r (64 * k + i.val)

/-- The scale of block `k` of row `r`. -/
def SG (r k : ℕ) : EReal := sgR (EX W true r k) (EX W false r k)

/-- The reciprocal scale of block `k` of row `r`. -/
def RC (r k : ℕ) : EReal := recR (SG W r k)

/-- The zero point of block `k` of row `r`. -/
def ZP (r k : ℕ) : EReal := zR (EX W false r k) (RC W r k)

theorem scaleOf_apply (mx mn : FVec Ideal S8x128 .f32) (y : S8x128.Idx) : scaleOf mx mn y = sgR (mx y) (mn y) := rfl

theorem recipOf_apply (sg : FVec Ideal S8x128 .f32) (y : S8x128.Idx) : recipOf sg y = recR (sg y) := rfl

theorem zeroOf_apply (mn r : FVec Ideal S8x128 .f32) (y : S8x128.Idx) : zeroOf mn r y = zR (mn y) (r y) := rfl

/-- The row that lane `y` of slice `i` holds. -/
abbrev rowOf (i y : ℕ) : ℕ := 256 * (i / 32) + y

/-- The block that entry `b` of slice `i` holds. -/
abbrev blkOf (i b : ℕ) : ℕ := 8 * (i % 32) + b

/-- The sum of the scales of the first `n` slices that meet in one entry of the running sum. -/
def accN (n b y : ℕ) : EReal :=
  ∑ i ∈ Finset.range n, (SG W (rowOf i y) (blkOf i b) + SG W (rowOf i (128 + y)) (blkOf i b))

/-- What the tables hold after `n` slices, where slot `p` of the reciprocal scales and of the zero points belongs to
slice `s p`. -/
structure TabOk (s : ℕ → ℕ) (n : ℕ) (x12 : S2x8x256.Idx → EReal) (x13 : S2x8x2x256.Idx → EReal)
    (x14 : S7x256x256.Idx → EReal) (x15 : S256x256.Idx → EReal) (x16 : S8x128.Idx → EReal) : Prop where
  recip : ∀ y, s (y 0).val < n → x12 y = RC W (rowOf (s (y 0).val) (y 2).val) (blkOf (s (y 0).val) (y 1).val)
  zero : ∀ y, s (y 0).val < n → x13 y = ZP W (rowOf (s (y 0).val) (y 3).val) (blkOf (s (y 0).val) (y 1).val)
  scale : ∀ y, 32 * (y 0).val + (y 1).val / 8 < n → x14 y = SG W (256 * (y 0).val + (y 2).val) (y 1).val
  zt : ∀ y, ∀ rb, 32 * rb + (y 0).val / 8 < n → n ≤ 32 * rb + 32 → x15 y = ZP W (256 * rb + (y 1).val) (y 0).val
  sum : ∀ y, x16 y = accN W n (y 0).val (y 1).val

end Cert.KernelIdeal.Stage
-- ==== Proof.Mem.lean ====
module

public import proofs.«01_k».proof.Proof.Pure
public import proofs.«01_k».proof.Proof.Gen.KernelIdeal.Launch
public import Idealize.ShloMosaic.Lib.VecWindow
public import Idealize.ShloMosaic.Lib.Transfers
public import Idealize.ShloMosaic.Lib.Pipeline.KitQuiescent
public import Idealize.ShloMosaic.Lib.Tactic

@[expose] public section

/-! Loads and stores of the stages, by the values that a buffer holds. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

abbrev UU (nD : Nat) (τ : Topo) : Type := UR sig nD τ × Counters
local notation "𝕄" => MT nD τ sig Unit (Elt Ideal) ℕ (UU nD τ) ℕ
abbrev 𝒱₀ : Variants := Variants.none

/-- Programs over the extended reals. -/
abbrev PrgI (α : Type) : Type _ := Prog (TpuEff nD τ sig (Elt Ideal) Λ₀ .tc) α

/-- A program runs to a state where `Q` holds. -/
abbrev runs (c : Dev nD) {α : Type} (k : PrgI α) (Q : α → sProp 𝕄) : sProp 𝕄 :=
  wp frame (wpE (defs₀ (F := Ideal)) 𝒱₀ (c : Thread nD τ) none) Set.univ k Q

variable (c : Dev nD)

/-- The elements `S` of buffer `m` hold the values `x`. -/
def holds {cs : Space} {s : Shape} {e : EltTy} (m : Memref sig .tc cs s e) (S : Finset s.Idx) (x : s.Idx → Elt Ideal e) : sProp 𝕄 :=
  m.view.loc (c : Thread nD τ) ↦[m.view.setOn S]{fullShare} m.view.rep x

theorem holds_congr {cs : Space} {s : Shape} {e : EltTy} {m : Memref sig .tc cs s e} {S : Finset s.Idx} {x y : s.Idx → Elt Ideal e}
    (h : ∀ i ∈ S, x i = y i) : holds c m S x = holds c m S y := by
  unfold holds
  refine pointsTo_congr fun i hi => ?_
  obtain ⟨j, hj, rfl⟩ := Finset.mem_map.1 hi
  rw [View.rep_emb, View.rep_emb, h j hj]

variable {α : Type} {Q : α → sProp 𝕄} {R : sProp 𝕄}

/-- A load reads the values held. -/
theorem runs_load {cs : CoreSpace} {s : Shape} {e : EltTy} {m : Memref sig .tc cs s e} {r : LoadRect s} {hl : m.view.LoadsAt r}
    {k : (r.shape.Idx → Elt Ideal e) → PrgI α} {S : Finset s.Idx} {x : s.Idx → Elt Ideal e} (hS : r.set ⊆ S)
    (hk : iprop(holds c m S x ∗ R) ⊢ runs c (k fun y => x (r.idx y)) Q) :
    iprop(holds c m S x ∗ R) ⊢ runs c (.op (.load m r hl) k) Q := by
  have h := wp_load (defs := defs₀ (F := Ideal)) 𝒱₀ (c : Thread nD τ) none (Γ := .empty) Set.univ (m := m) (r := r) (hl := hl) (k := k) (Q := Q)
    (S := m.view.setOn S) (q := fullShare) (f := m.view.rep x) (Finset.map_subset_map.2 hS)
  rw [View.readAt_rep] at h
  unfold holds at hk ⊢
  iintro ⟨H, HR⟩
  iapply h $$ H
  iintro H
  iapply hk
  isplitl [H]; · iexact H
  iexact HR

/-- An unmasked store of a unit-stride window puts the payload there. -/
theorem runs_store {cs : CoreSpace} {s : Shape} {e : EltTy} {m : Memref sig .tc cs s e} {off size : Fin s.rank → ℕ}
    {inb : ∀ a, off a + size a ≤ s.size a} {w : (Rect.unit off size inb).shape.Idx → Elt Ideal e}
    {hx : (m.access (Rect.unit off size inb)).Stores Finset.univ} {hm}
    {k : PUnit → PrgI α} {S : Finset s.Idx} {x : s.Idx → Elt Ideal e} (hS : (Rect.unit off size inb).set ⊆ S)
    (hk : iprop(holds c m S (VecWindow.put x off size w) ∗ R) ⊢ runs c (k ⟨⟩) Q) :
    iprop(holds c m S x ∗ R) ⊢ runs c (.op (.store m (Rect.unit off size inb) w Finset.univ hx hm) k) Q := by
  have h := wp_store (defs := defs₀ (F := Ideal)) 𝒱₀ (c : Thread nD τ) none (Γ := .empty) Set.univ (m := m) (r := Rect.unit off size inb) (w := w)
    (hx := hx) (hm := hm) (k := k) (Q := Q) (S := m.view.setOn S) (f := m.view.rep x)
    (by rw [View.setOn_univ]; exact (View.set_slice _ _).trans_subset (Finset.map_subset_map.2 hS))
  have e : ((m.access (Rect.unit off size inb)).loc (c : Thread nD τ) ↦[m.view.setOn S]{fullShare}
      ((m.access (Rect.unit off size inb)).write (Elt Ideal) (m.view.rep x) w Finset.univ) : sProp 𝕄)
      = holds c m S (VecWindow.put x off size w) := by
    unfold holds
    refine pointsTo_congr fun i hi => ?_
    obtain ⟨j, hj, rfl⟩ := Finset.mem_map.1 hi
    have h1 := congrFun (View.read_writes_rep_unit m.view x inb w rfl) j
    rw [View.rep_emb]
    rw [← h1]
    unfold View.read
    simp
  rw [e] at h
  change holds c m S x ⊢ _ at h
  iintro ⟨H, HR⟩
  iapply h $$ H
  iintro H
  iapply hk
  isplitl [H]; · iexact H
  iexact HR

theorem runs_load_w {cs : CoreSpace} {s : Shape} {e : EltTy} {m : Memref sig .tc cs s e} {r : LoadRect s} {hl : m.view.LoadsAt r}
    {k : (r.shape.Idx → Elt Ideal e) → PrgI α} {S : Finset s.Idx} {x : s.Idx → Elt Ideal e} (hS : r.set ⊆ S) :
    holds c m S x ⊢ iprop((holds c m S x -∗ runs c (k fun y => x (r.idx y)) Q) -∗ runs c (.op (.load m r hl) k) Q) := by
  iintro H HR
  iapply (runs_load c (R := iprop(holds c m S x -∗ runs c (k fun y => x (r.idx y)) Q)) hS (by
    iintro ⟨H, HR⟩
    iapply HR $$ H))
  isplitl [H]; · iexact H
  iexact HR

theorem runs_store_w {cs : CoreSpace} {s : Shape} {e : EltTy} {m : Memref sig .tc cs s e} {off size : Fin s.rank → ℕ}
    {inb : ∀ a, off a + size a ≤ s.size a} {w : (Rect.unit off size inb).shape.Idx → Elt Ideal e}
    {hx : (m.access (Rect.unit off size inb)).Stores Finset.univ} {hm}
    {k : PUnit → PrgI α} {S : Finset s.Idx} {x : s.Idx → Elt Ideal e} (hS : (Rect.unit off size inb).set ⊆ S) :
    holds c m S x ⊢ iprop((holds c m S (VecWindow.put x off size w) -∗ runs c (k ⟨⟩) Q)
      -∗ runs c (.op (.store m (Rect.unit off size inb) w Finset.univ hx hm) k) Q) := by
  iintro H HR
  iapply (runs_store c (R := iprop(holds c m S (VecWindow.put x off size w) -∗ runs c (k ⟨⟩) Q)) hS (by
    iintro ⟨H, HR⟩
    iapply HR $$ H))
  isplitl [H]; · iexact H
  iexact HR

/-- To use an assertion about some value, take the value. -/
theorem ex_elim {X : Type} {P : X → Prop} {H : X → sProp 𝕄} {G : sProp 𝕄} (h : ∀ x, P x → iprop(H x ∗ R) ⊢ G) :
    iprop((∃ x : X, ⌜P x⌝ ∗ H x) ∗ R) ⊢ G := by
  iintro ⟨⟨%x, %hx, H⟩, HR⟩
  iapply (h x hx)
  isplitl [H]; · iexact H
  iexact HR

/-- To show an assertion about some value, give the value. -/
theorem ex_intro {X : Type} {P : X → Prop} {H : X → sProp 𝕄} (x : X) (hx : P x) :
    iprop(H x ∗ R) ⊢ iprop((∃ x : X, ⌜P x⌝ ∗ H x) ∗ R) := by
  iintro ⟨H, HR⟩
  isplitl [H]
  · iexists x
    isplitr
    · ipureintro; exact hx
    · iexact H
  · iexact HR

end Cert.KernelIdeal.Stage
-- ==== Proof.Reduce.lean ====
module

public import proofs.«01_k».proof.Proof.Mem

@[expose] public section

/-! The reduction stage: what it leaves in the tables. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

/-- The first `n` blocks of partial extremes are those of the tile `T`. -/
def PartsAt (mx : Bool) (T : ℕ → ℕ → EReal) (n : ℕ) (x : S2x64x2x128.Idx → EReal) : Prop :=
  ∀ y, 2 * ((y 1).val / 8) + (y 0).val < n →
    x y = rowN mx T ((y 1).val / 8) (2 * ((y 1).val % 8) + (y 2).val) (128 * (y 0).val + (y 3).val)

/-- A slot whose first `n` blocks of partial extremes are those of the tile `T`. -/
def partsP (m : Memref sig .tc .vmem S2x2x64x2x128 .bf16) (p : ℕ) (hp : p < 2) (mx : Bool) (T : ℕ → ℕ → EReal) (n : ℕ) : sProp 𝕄 :=
  iprop(∃ x : S2x64x2x128.Idx → Elt Ideal .bf16, ⌜PartsAt mx T n x⌝ ∗ holds c (slot m p (slotInb p hp)) Finset.univ x)

theorem PartsAt_put (mx : Bool) (tile : FVec Ideal S512x256 .bf16) (T : ℕ → ℕ → EReal)
    (hT : ∀ y, tile y = T (y 0).val (y 1).val) (b l : ℕ) (hb : b < 8) (hl : l < 2) (x : S2x64x2x128.Idx → EReal)
    (h : PartsAt mx T (2 * b + l) x) :
    PartsAt mx T (2 * b + l + 1) (VecWindow.put (s := S2x64x2x128) x ![l, 8 * b, 0, 0] S1x8x2x128.size (partVal mx tile b l hb hl)) := by
  intro y hy
  have h0 : (y 0).val < 2 := (y 0).isLt
  have h1 : (y 1).val < 64 := (y 1).isLt
  have h2 : (y 2).val < 2 := (y 2).isLt
  have h3 : (y 3).val < 128 := (y 3).isLt
  unfold VecWindow.put
  split
  · rename_i hin
    have a0 := hin 0
    have a1 := hin 1
    have e0 : l ≤ (y 0).val ∧ (y 0).val < l + 1 := a0
    have e1 : 8 * b ≤ (y 1).val ∧ (y 1).val < 8 * b + 8 := a1
    rw [partVal_apply mx tile T hT]
    show rowN mx T b (2 * ((y 1).val - 8 * b) + ((y 2).val - 0)) (128 * l + ((y 3).val - 0)) = _
    have f0 : (y 0).val = l := by omega
    have f1 : (y 1).val / 8 = b := by omega
    have f2 : (y 1).val - 8 * b = (y 1).val % 8 := by omega
    rw [f0, f1, f2]; rfl
  · rename_i hout
    refine h y ?_
    by_contra hc
    refine hout fun a => ?_
    have f : 2 * ((y 1).val / 8) + (y 0).val = 2 * b + l := by omega
    match a with
    | ⟨0, _⟩ => show l ≤ (y 0).val ∧ (y 0).val < l + 1; omega
    | ⟨1, _⟩ => show 8 * b ≤ (y 1).val ∧ (y 1).val < 8 * b + 8; omega
    | ⟨2, _⟩ => show 0 ≤ (y 2).val ∧ (y 2).val < 0 + 2; omega
    | ⟨3, _⟩ => show 0 ≤ (y 3).val ∧ (y 3).val < 0 + 128; omega

theorem partStore_spec {m : Memref sig .tc .vmem S2x2x64x2x128 .bf16} {hm : m.IsWhole} {p : ℕ} {hp : p < 2} {mx : Bool}
    {tile : FVec Ideal S512x256 .bf16} {T : ℕ → ℕ → EReal} (hT : ∀ y, tile y = T (y 0).val (y 1).val)
    {b l : ℕ} {hb : b < 8} {hl : l < 2} (n : ℕ) (hn : n = 2 * b + l) {k : PrgI α}
    (hk : iprop(partsP c m p hp mx T (n + 1) ∗ R) ⊢ runs c k Q) :
    iprop(partsP c m p hp mx T n ∗ R) ⊢ runs c (partStore m hm p hp mx tile b l hb hl k) Q := by
  subst hn
  unfold partStore
  unfold partsP at hk ⊢
  refine ex_elim fun x hx => runs_load c (Finset.subset_univ _) (runs_store c (Finset.subset_univ _) ?_)
  exact (ex_intro _ (PartsAt_put mx tile T hT b l hb hl x hx)).trans hk

theorem partStores_spec {m : Memref sig .tc .vmem S2x2x64x2x128 .bf16} {hm : m.IsWhole} {p : ℕ} {hp : p < 2} {mx : Bool}
    {tile : FVec Ideal S512x256 .bf16} {T : ℕ → ℕ → EReal} (hT : ∀ y, tile y = T (y 0).val (y 1).val) {k : PrgI α}
    (hk : iprop(partsP c m p hp mx T 16 ∗ R) ⊢ runs c k Q) :
    iprop(partsP c m p hp mx T 0 ∗ R) ⊢ runs c (partStores m hm p hp mx tile k) Q := by
  unfold partStores
  exact partStore_spec c hT 0 rfl <| partStore_spec c hT 1 rfl <| partStore_spec c hT 2 rfl <| partStore_spec c hT 3 rfl <|
    partStore_spec c hT 4 rfl <| partStore_spec c hT 5 rfl <| partStore_spec c hT 6 rfl <| partStore_spec c hT 7 rfl <|
    partStore_spec c hT 8 rfl <| partStore_spec c hT 9 rfl <| partStore_spec c hT 10 rfl <| partStore_spec c hT 11 rfl <|
    partStore_spec c hT 12 rfl <| partStore_spec c hT 13 rfl <| partStore_spec c hT 14 rfl <| partStore_spec c hT 15 rfl hk

theorem colTree_spec {m : Memref sig .tc .vmem S2x2x64x2x128 .bf16} {p : ℕ} {hp : p < 2} {mx : Bool}
    {T : ℕ → ℕ → EReal} {l : ℕ} {hl : l < 2} {k : FVec Ideal S8x128 .f32 → PrgI α}
    (hk : ∀ v : FVec Ideal S8x128 .f32, (∀ y, v y = extAll mx fun i => T (64 * (y 0).val + i.val) (128 * l + (y 1).val)) →
      iprop(partsP c m p hp mx T 16 ∗ R) ⊢ runs c (k v) Q) :
    iprop(partsP c m p hp mx T 16 ∗ R) ⊢ runs c (colTree m p hp mx l hl k) Q := by
  unfold colTree strideLoad
  unfold partsP at hk ⊢
  refine ex_elim fun x hx => ?_
  refine runs_load c (Finset.subset_univ _) <| runs_load c (Finset.subset_univ _) <| runs_load c (Finset.subset_univ _) <|
    runs_load c (Finset.subset_univ _) <| runs_load c (Finset.subset_univ _) <| runs_load c (Finset.subset_univ _) <|
    runs_load c (Finset.subset_univ _) <| runs_load c (Finset.subset_univ _) ?_
  · have key := colTree_val mx T l (fun i y => x ((⟨![l, i.val, 0, 0], S1x8x2x128.size, ![1, 8, 1, 1], strideInb l i.val hl i.isLt⟩ : LoadRect S2x64x2x128).idx y))
      (fun i y => by
        have i8 := i.isLt
        have y0 : (y 0).val < 1 := (y 0).isLt
        have y1 : (y 1).val < 8 := (y 1).isLt
        have y2 : (y 2).val < 2 := (y 2).isLt
        refine (hx _ ?_).trans ?_
        · show 2 * ((i.val + 8 * (y 1).val) / 8) + (l + 1 * (y 0).val) < 16
          omega
        · show rowN mx T ((i.val + 8 * (y 1).val) / 8) (2 * ((i.val + 8 * (y 1).val) % 8) + (0 + 1 * (y 2).val)) (128 * (l + 1 * (y 0).val) + (0 + 1 * (y 3).val)) = _
          have e1 : (i.val + 8 * (y 1).val) / 8 = (y 1).val := by omega
          have e2 : (i.val + 8 * (y 1).val) % 8 = i.val := by omega
          have e3 : l + 1 * (y 0).val = l := by omega
          rw [e1, e2, e3, Nat.zero_add, Nat.one_mul, Nat.zero_add, Nat.one_mul])
    exact (ex_intro _ hx).trans (hk _ key)

/-- The five tables a reduction stage writes hold the given values. -/
def tabs (M : Bufs) (x12 : S2x8x256.Idx → EReal) (x13 : S2x8x2x256.Idx → EReal) (x14 : S7x256x256.Idx → EReal)
    (x15 : S256x256.Idx → EReal) (x16 : S8x128.Idx → EReal) : sProp 𝕄 :=
  iprop(holds c M.a12 Finset.univ (fun y => (x12 y : Elt Ideal .f32)) ∗ holds c M.a13 Finset.univ (fun y => (x13 y : Elt Ideal .bf16))
    ∗ holds c M.a14 Finset.univ (fun y => (x14 y : Elt Ideal .f32)) ∗ holds c M.a15 Finset.univ (fun y => (x15 y : Elt Ideal .f32))
    ∗ holds c M.a16 Finset.univ (fun y => (x16 y : Elt Ideal .f32)))

variable {x12 : S2x8x256.Idx → EReal} {x13 : S2x8x2x256.Idx → EReal} {x14 : S7x256x256.Idx → EReal}
    {x15 : S256x256.Idx → EReal} {x16 : S8x128.Idx → EReal}

/-- The reciprocal scales after the end of a reduction stage. -/
def fin12 (p l : ℕ) (mx mn : FVec Ideal S8x128 .f32) (x : S2x8x256.Idx → EReal) : S2x8x256.Idx → EReal :=
  VecWindow.put (s := S2x8x256) x ![p, 0, 128 * l] S1x8x128.size (shapeCast S1x8x128 (recipOf (scaleOf mx mn)) shapeCasts_S8x128_S1x8x128)

/-- The zero points by row pairs after the end of a reduction stage. -/
def fin13 (p l : ℕ) (mx mn : FVec Ideal S8x128 .f32) (x : S2x8x2x256.Idx → EReal) : S2x8x2x256.Idx → EReal :=
  VecWindow.put (s := S2x8x2x256) x ![p, 0, 0, 128 * l] S1x8x2x128.size
    (mkPair (truncf .bf16 (zeroOf mn (recipOf (scaleOf mx mn)))) (truncf .bf16 (zeroOf mn (recipOf (scaleOf mx mn)))))

/-- The scales after the end of a reduction stage. -/
def fin14 (o14 : Fin 3 → ℕ) (mx mn : FVec Ideal S8x128 .f32) (x : S7x256x256.Idx → EReal) : S7x256x256.Idx → EReal :=
  VecWindow.put (s := S7x256x256) x o14 S1x8x128.size (shapeCast S1x8x128 (scaleOf mx mn) shapeCasts_S8x128_S1x8x128)

/-- The zero points after the end of a reduction stage. -/
def fin15 (o15 : Fin 2 → ℕ) (mx mn : FVec Ideal S8x128 .f32) (x : S256x256.Idx → EReal) : S256x256.Idx → EReal :=
  VecWindow.put (s := S256x256) x o15 S8x128.size (shapeCast S8x128 (zeroOf mn (recipOf (scaleOf mx mn))) shapeCasts_S8x128_S8x128)

/-- The running sum after the end of a reduction stage. -/
def fin16 (mx mn : FVec Ideal S8x128 .f32) (x : S8x128.Idx → EReal) : S8x128.Idx → EReal :=
  VecWindow.put (s := S8x128) x ![0, 0] S8x128.size (shapeCast S8x128 (addf (F := Ideal) (φ := .f32)
    (fun y => x ((Rect.unit (s := S8x128) ![0, 0] S8x128.size inb_S8x128_S8x128_0_0).toLoadRect.idx y)) (scaleOf mx mn)) shapeCasts_S8x128_S8x128)

set_option maxHeartbeats 2000000 in
theorem finish_spec {M : Bufs} {p : ℕ} {hp : p < 2} {l : ℕ} {hl : l < 2}
    {o14 : Fin 3 → ℕ} {i14 : ∀ a, o14 a + S1x8x128.size a ≤ S7x256x256.size a}
    {o15 : Fin 2 → ℕ} {i15 : ∀ a, o15 a + S8x128.size a ≤ S256x256.size a}
    {mx mn : FVec Ideal S8x128 .f32} {k : PrgI α}
    (hk : iprop(tabs c M (fin12 p l mx mn x12) (fin13 p l mx mn x13) (fin14 o14 mx mn x14) (fin15 o15 mx mn x15) (fin16 mx mn x16) ∗ R) ⊢ runs c k Q) :
    iprop(tabs c M x12 x13 x14 x15 x16 ∗ R) ⊢ runs c (finish M p hp l hl o14 i14 o15 i15 mx mn k) Q := by
  unfold finish
  unfold tabs at hk ⊢
  iintro ⟨⟨H12, H13, H14, H15, H16⟩, HR⟩
  iapply (runs_load_w c (Finset.subset_univ _)) $$ H12
  iintro H12
  iapply (runs_store_w c (Finset.subset_univ _)) $$ H12
  iintro H12
  iapply (runs_load_w c (Finset.subset_univ _)) $$ H13
  iintro H13
  iapply (runs_store_w c (Finset.subset_univ _)) $$ H13
  iintro H13
  iapply (runs_load_w c (Finset.subset_univ _)) $$ H14
  iintro H14
  iapply (runs_store_w c (Finset.subset_univ _)) $$ H14
  iintro H14
  iapply (runs_load_w c (Finset.subset_univ _)) $$ H15
  iintro H15
  iapply (runs_store_w c (Finset.subset_univ _)) $$ H15
  iintro H15
  iapply (runs_load_w c (Finset.subset_univ _)) $$ H16
  iintro H16
  iapply (runs_load_w c (Finset.subset_univ _)) $$ H16
  iintro H16
  iapply (runs_store_w c (Finset.subset_univ _)) $$ H16
  iintro H16
  iapply hk
  isplitl [H12 H13 H14 H15 H16]
  · isplitl [H12]; · iexact H12
    isplitl [H13]; · iexact H13
    isplitl [H14]; · iexact H14
    isplitl [H15]; · iexact H15
    iexact H16
  · iexact HR

theorem cast3_apply {α : Type} (v : S8x128.Idx → α) (j : S1x8x128.Idx) :
    shapeCast S1x8x128 v shapeCasts_S8x128_S1x8x128 j = v (ix2 (j 1) (j 2)) := by
  have h0 : (j 0).val < 1 := (j 0).isLt
  refine shapeCast_apply _ _ j (ix2 (j 1) (j 2)) ?_
  refine (Shape.rowMajor_val_two _).trans (Eq.trans ?_ (Shape.rowMajor_val_three _).symm)
  show (j 1).val * 128 + (j 2).val = ((j 0).val * 8 + (j 1).val) * 128 + (j 2).val
  omega

theorem cast2_apply {α : Type} (v : S8x128.Idx → α) (j : S8x128.Idx) :
    shapeCast S8x128 v shapeCasts_S8x128_S8x128 j = v j := shapeCast_apply _ _ j j rfl

theorem fin16_apply (mx mn : FVec Ideal S8x128 .f32) (x : S8x128.Idx → EReal) (y : S8x128.Idx) :
    fin16 mx mn x y = x y + scaleOf mx mn y := by
  have h0 : (y 0).val < 8 := (y 0).isLt
  have h1 : (y 1).val < 128 := (y 1).isLt
  unfold fin16 VecWindow.put
  split
  · refine (cast2_apply _ _).trans ?_
    refine congrArg₂ (fun a b : EReal => a + b) (congrArg x (funext fun a => Fin.ext ?_)) (congrArg (scaleOf mx mn) (funext fun a => Fin.ext ?_))
    · match a with
      | ⟨0, _⟩ => show 0 + 1 * ((y 0).val - 0) = (y 0).val; omega
      | ⟨1, _⟩ => show 0 + 1 * ((y 1).val - 0) = (y 1).val; omega
    · match a with
      | ⟨0, _⟩ => show (y 0).val - 0 = (y 0).val; omega
      | ⟨1, _⟩ => show (y 1).val - 0 = (y 1).val; omega
  · rename_i hout
    exfalso
    refine hout fun a => ?_
    match a with
    | ⟨0, _⟩ => show 0 ≤ (y 0).val ∧ (y 0).val < 0 + 8; omega
    | ⟨1, _⟩ => show 0 ≤ (y 1).val ∧ (y 1).val < 0 + 128; omega

/-- The reciprocal scales after the end of a reduction stage, entry by entry. -/
theorem fin12_apply (p l : ℕ) (mx mn : FVec Ideal S8x128 .f32) (x : S2x8x256.Idx → EReal) (f : ℕ → ℕ → EReal)
    (hf : ∀ y, recipOf (scaleOf mx mn) y = f (y 0).val (128 * l + (y 1).val)) (y : S2x8x256.Idx) :
    fin12 p l mx mn x y = if (y 0).val = p ∧ (y 2).val / 128 = l then f (y 1).val (y 2).val else x y := by
  have h1 : (y 1).val < 8 := (y 1).isLt
  unfold fin12 VecWindow.put
  split
  · rename_i hin
    have e0 : p ≤ (y 0).val ∧ (y 0).val < p + 1 := hin 0
    have e2 : 128 * l ≤ (y 2).val ∧ (y 2).val < 128 * l + 128 := hin 2
    rw [if_pos (by omega)]
    refine (cast3_apply _ _).trans ((hf _).trans ?_)
    show f ((y 1).val - 0) (128 * l + ((y 2).val - 128 * l)) = _
    congr 1; omega
  · rename_i hout
    rw [if_neg]
    intro hc
    refine hout fun a => ?_
    match a with
    | ⟨0, _⟩ => show p ≤ (y 0).val ∧ (y 0).val < p + 1; omega
    | ⟨1, _⟩ => show 0 ≤ (y 1).val ∧ (y 1).val < 0 + 8; omega
    | ⟨2, _⟩ => show 128 * l ≤ (y 2).val ∧ (y 2).val < 128 * l + 128; omega

/-- The zero points by row pairs after the end of a reduction stage, entry by entry. -/
theorem fin13_apply (p l : ℕ) (mx mn : FVec Ideal S8x128 .f32) (x : S2x8x2x256.Idx → EReal) (f : ℕ → ℕ → EReal)
    (hf : ∀ y, zeroOf mn (recipOf (scaleOf mx mn)) y = f (y 0).val (128 * l + (y 1).val)) (y : S2x8x2x256.Idx) :
    fin13 p l mx mn x y = if (y 0).val = p ∧ (y 3).val / 128 = l then f (y 1).val (y 3).val else x y := by
  have h1 : (y 1).val < 8 := (y 1).isLt
  have h2 : (y 2).val < 2 := (y 2).isLt
  unfold fin13 VecWindow.put
  split
  · rename_i hin
    have e0 : p ≤ (y 0).val ∧ (y 0).val < p + 1 := hin 0
    have e2 : 128 * l ≤ (y 3).val ∧ (y 3).val < 128 * l + 128 := hin 3
    rw [if_pos (by omega)]
    refine (mkPair_apply _ _ _).trans (ite_self _ |>.trans ((hf _).trans ?_))
    show f ((y 1).val - 0) (128 * l + ((y 3).val - 128 * l)) = _
    congr 1; omega
  · rename_i hout
    rw [if_neg]
    intro hc
    refine hout fun a => ?_
    match a with
    | ⟨0, _⟩ => show p ≤ (y 0).val ∧ (y 0).val < p + 1; omega
    | ⟨1, _⟩ => show 0 ≤ (y 1).val ∧ (y 1).val < 0 + 8; omega
    | ⟨2, _⟩ => show 0 ≤ (y 2).val ∧ (y 2).val < 0 + 2; omega
    | ⟨3, _⟩ => show 128 * l ≤ (y 3).val ∧ (y 3).val < 128 * l + 128; omega

/-- The scales after the end of a reduction stage, entry by entry. -/
theorem fin14_apply (rb c l : ℕ) (mx mn : FVec Ideal S8x128 .f32) (x : S7x256x256.Idx → EReal) (f : ℕ → ℕ → EReal)
    (hf : ∀ y, scaleOf mx mn y = f (y 0).val (128 * l + (y 1).val)) (y : S7x256x256.Idx) :
    fin14 ![rb, 8 * c, 128 * l] mx mn x y
      = if (y 0).val = rb ∧ (y 1).val / 8 = c ∧ (y 2).val / 128 = l then f ((y 1).val % 8) (y 2).val else x y := by
  unfold fin14 VecWindow.put
  split
  · rename_i hin
    have e0 : rb ≤ (y 0).val ∧ (y 0).val < rb + 1 := hin 0
    have e1 : 8 * c ≤ (y 1).val ∧ (y 1).val < 8 * c + 8 := hin 1
    have e2 : 128 * l ≤ (y 2).val ∧ (y 2).val < 128 * l + 128 := hin 2
    rw [if_pos (by omega)]
    refine (cast3_apply _ _).trans ((hf _).trans ?_)
    show f ((y 1).val - 8 * c) (128 * l + ((y 2).val - 128 * l)) = _
    congr 1 <;> omega
  · rename_i hout
    rw [if_neg]
    intro hc
    refine hout fun a => ?_
    match a with
    | ⟨0, _⟩ => show rb ≤ (y 0).val ∧ (y 0).val < rb + 1; omega
    | ⟨1, _⟩ => show 8 * c ≤ (y 1).val ∧ (y 1).val < 8 * c + 8; omega
    | ⟨2, _⟩ => show 128 * l ≤ (y 2).val ∧ (y 2).val < 128 * l + 128; omega

/-- The zero points after the end of a reduction stage, entry by entry. -/
theorem fin15_apply (c l : ℕ) (mx mn : FVec Ideal S8x128 .f32) (x : S256x256.Idx → EReal) (f : ℕ → ℕ → EReal)
    (hf : ∀ y, zeroOf mn (recipOf (scaleOf mx mn)) y = f (y 0).val (128 * l + (y 1).val)) (y : S256x256.Idx) :
    fin15 ![8 * c, 128 * l] mx mn x y
      = if (y 0).val / 8 = c ∧ (y 1).val / 128 = l then f ((y 0).val % 8) (y 1).val else x y := by
  unfold fin15 VecWindow.put
  split
  · rename_i hin
    have e1 : 8 * c ≤ (y 0).val ∧ (y 0).val < 8 * c + 8 := hin 0
    have e2 : 128 * l ≤ (y 1).val ∧ (y 1).val < 128 * l + 128 := hin 1
    rw [if_pos (by omega)]
    refine (cast2_apply _ _).trans ((hf _).trans ?_)
    show f ((y 0).val - 8 * c) (128 * l + ((y 1).val - 128 * l)) = _
    congr 1 <;> omega
  · rename_i hout
    rw [if_neg]
    intro hc
    refine hout fun a => ?_
    match a with
    | ⟨0, _⟩ => show 8 * c ≤ (y 0).val ∧ (y 0).val < 8 * c + 8; omega
    | ⟨1, _⟩ => show 128 * l ≤ (y 1).val ∧ (y 1).val < 128 * l + 128; omega

/-- The tables after both ends of the reduction stage of slice `n`. -/
theorem TabOk_step {W : ℕ → ℕ → EReal} {s : ℕ → ℕ} {n p : ℕ} (hs : ∀ q, q < 2 → q ≠ p → s q ≠ n)
    (h : TabOk W s n x12 x13 x14 x15 x16) (mx mn : ℕ → FVec Ideal S8x128 .f32)
    (hx : ∀ l < 2, ∀ y, mx l y = EX W true (rowOf n (128 * l + (y 1).val)) (blkOf n (y 0).val))
    (hm : ∀ l < 2, ∀ y, mn l y = EX W false (rowOf n (128 * l + (y 1).val)) (blkOf n (y 0).val)) :
    TabOk W (Function.update s p n) (n + 1)
      (fin12 p 1 (mx 1) (mn 1) (fin12 p 0 (mx 0) (mn 0) x12)) (fin13 p 1 (mx 1) (mn 1) (fin13 p 0 (mx 0) (mn 0) x13))
      (fin14 ![n / 32, 8 * (n % 32), 128 * 1] (mx 1) (mn 1) (fin14 ![n / 32, 8 * (n % 32), 128 * 0] (mx 0) (mn 0) x14))
      (fin15 ![8 * (n % 32), 128 * 1] (mx 1) (mn 1) (fin15 ![8 * (n % 32), 128 * 0] (mx 0) (mn 0) x15))
      (fin16 (mx 1) (mn 1) (fin16 (mx 0) (mn 0) x16)) := by
  have sc : ∀ l < 2, ∀ y, scaleOf (mx l) (mn l) y = SG W (rowOf n (128 * l + (y 1).val)) (blkOf n (y 0).val) := fun l hl y => by
    rw [scaleOf_apply, hx l hl, hm l hl]; rfl
  have rc : ∀ l < 2, ∀ y, recipOf (scaleOf (mx l) (mn l)) y = RC W (rowOf n (128 * l + (y 1).val)) (blkOf n (y 0).val) := fun l hl y => by
    rw [recipOf_apply, sc l hl]; rfl
  have zr : ∀ l < 2, ∀ y, zeroOf (mn l) (recipOf (scaleOf (mx l) (mn l))) y = ZP W (rowOf n (128 * l + (y 1).val)) (blkOf n (y 0).val) := fun l hl y => by
    rw [zeroOf_apply, rc l hl, hm l hl]; rfl
  constructor
  · intro y hy
    have h0 : (y 0).val < 2 := (y 0).isLt
    have h2 : (y 2).val < 256 := (y 2).isLt
    rw [fin12_apply p 1 _ _ _ (fun b r => RC W (rowOf n r) (blkOf n b)) (rc 1 (by decide)),
      fin12_apply p 0 _ _ _ (fun b r => RC W (rowOf n r) (blkOf n b)) (rc 0 (by decide))]
    by_cases e : (y 0).val = p
    · rw [e, Function.update_self]
      have : (y 2).val / 128 = 1 ∨ (y 2).val / 128 = 0 := by omega
      rcases this with e2 | e2
      · rw [if_pos ⟨rfl, e2⟩]
      · rw [if_neg (by omega), if_pos ⟨rfl, e2⟩]
    · rw [Function.update_of_ne e] at hy ⊢
      rw [if_neg (by omega), if_neg (by omega)]
      have := hs _ h0 e
      exact h.recip y (by omega)
  · intro y hy
    have h0 : (y 0).val < 2 := (y 0).isLt
    have h2 : (y 3).val < 256 := (y 3).isLt
    rw [fin13_apply p 1 _ _ _ (fun b r => ZP W (rowOf n r) (blkOf n b)) (zr 1 (by decide)),
      fin13_apply p 0 _ _ _ (fun b r => ZP W (rowOf n r) (blkOf n b)) (zr 0 (by decide))]
    by_cases e : (y 0).val = p
    · rw [e, Function.update_self]
      have : (y 3).val / 128 = 1 ∨ (y 3).val / 128 = 0 := by omega
      rcases this with e2 | e2
      · rw [if_pos ⟨rfl, e2⟩]
      · rw [if_neg (by omega), if_pos ⟨rfl, e2⟩]
    · rw [Function.update_of_ne e] at hy ⊢
      rw [if_neg (by omega), if_neg (by omega)]
      have := hs _ h0 e
      exact h.zero y (by omega)
  · intro y hy
    have h1 : (y 1).val < 256 := (y 1).isLt
    have h2 : (y 2).val < 256 := (y 2).isLt
    rw [fin14_apply (n / 32) (n % 32) 1 _ _ _ (fun b r => SG W (rowOf n r) (blkOf n b)) (sc 1 (by decide)),
      fin14_apply (n / 32) (n % 32) 0 _ _ _ (fun b r => SG W (rowOf n r) (blkOf n b)) (sc 0 (by decide))]
    by_cases e : 32 * (y 0).val + (y 1).val / 8 = n
    · have k : SG W (rowOf n (y 2).val) (blkOf n ((y 1).val % 8)) = SG W (256 * (y 0).val + (y 2).val) (y 1).val := by
        unfold rowOf blkOf
        congr 1 <;> omega
      have : (y 2).val / 128 = 1 ∨ (y 2).val / 128 = 0 := by omega
      rcases this with e2 | e2
      · rw [if_pos (by omega)]; exact k
      · rw [if_neg (by omega), if_pos (by omega)]; exact k
    · rw [if_neg (by omega), if_neg (by omega)]
      exact h.scale y (by omega)
  · intro y rb hy hn
    have h1 : (y 0).val < 256 := (y 0).isLt
    have h2 : (y 1).val < 256 := (y 1).isLt
    rw [fin15_apply (n % 32) 1 _ _ _ (fun b r => ZP W (rowOf n r) (blkOf n b)) (zr 1 (by decide)),
      fin15_apply (n % 32) 0 _ _ _ (fun b r => ZP W (rowOf n r) (blkOf n b)) (zr 0 (by decide))]
    by_cases e : 32 * rb + (y 0).val / 8 = n
    · have k : ZP W (rowOf n (y 1).val) (blkOf n ((y 0).val % 8)) = ZP W (256 * rb + (y 1).val) (y 0).val := by
        unfold rowOf blkOf
        congr 1 <;> omega
      have : (y 1).val / 128 = 1 ∨ (y 1).val / 128 = 0 := by omega
      rcases this with e2 | e2
      · rw [if_pos (by omega)]; exact k
      · rw [if_neg (by omega), if_pos (by omega)]; exact k
    · rw [if_neg (by omega), if_neg (by omega)]
      exact h.zt y rb (by omega) (by omega)
  · intro y
    rw [fin16_apply, fin16_apply, h.sum, sc 0 (by decide), sc 1 (by decide)]
    unfold accN
    rw [Finset.sum_range_succ, add_assoc]
    simp only [Nat.mul_zero, Nat.zero_add, Nat.mul_one]

end Cert.KernelIdeal.Stage
-- ==== Proof.Quant.lean ====
module

public import proofs.«01_k».proof.Proof.Pure
public import Idealize.ShloMosaic.Lib.BitcastFour
public import Idealize.ShloMosaic.Lib.BitcastPair
public import Idealize.ShloMosaic.Lib.MatmulPlain
public import Idealize.ShloMosaic.Lib.IdealHost
public import Idealize.ShloMosaic.Lib.Pipeline.Value

@[expose] public section

/-! The bytes that the quantisation of a half slice computes, over the extended reals. -/

noncomputable section

namespace Cert.KernelIdeal.Stage

open Cert.KernelIdeal Cert.KernelIdeal.Gen
open Idealize.ShloMosaic Idealize.ShloMosaic.ValueIdx Idealize.ShloMosaic.TcCoe

/-- The codes of 32 columns before they are packed four to a word. -/
def codeVec (x : FVec Ideal S32x256 .f32) (r : FVec Ideal S32x256 .f32) (z : FVec Ideal S32x256 .bf16) : IVec S32x256 8 :=
  fptosi 8 (minimumf (broadcast S32x256 (Scalar.truncf .bf16 bitsLt_bf16_f32 (Scalar.ofBits .f32 0x41700000#32)))
    (maximumf (broadcast S32x256 (Scalar.truncf .bf16 bitsLt_bf16_f32 (Scalar.ofBits .f32 0x00000000#32)))
      (addf (sitofp .bf16 (fptosi (F := Ideal) 8 (roundeven (mulf x r)))) z)))

/-- The code of a value `v` under reciprocal scale `r` and zero point `z`. -/
def codeR (v r z : EReal) : BitVec 8 := codeVec (fun _ => v) (fun _ => r) (fun _ => z) (ix2 0 0)

theorem codeVec_apply (x r : FVec Ideal S32x256 .f32) (z : FVec Ideal S32x256 .bf16) (y : S32x256.Idx) :
    codeVec x r z y = codeR (x y) (r y) (z y) := rfl

/-- The byte of two neighbouring values. -/
def byteR (a b r z : EReal) : BitVec 8 := codeR a r z <<< 4 ||| codeR b r z

theorem ofBits_15 : Ideal.ofBits .f32 0x41700000#32 = ((15 : ℝ) : EReal) := by
  simp [Ideal.ofBits, Ideal.ieee, -EReal.coe_mul]; norm_num

theorem toIntClamped_15 (x : EReal) (h0 : 0 ≤ x) (h1 : x ≤ ((15 : ℝ) : EReal)) :
    0 ≤ Ideal.toIntClamped (-(2 ^ (8 - 1) : Nat)) ((2 ^ (8 - 1) : Nat) - 1) x ∧ Ideal.toIntClamped (-(2 ^ (8 - 1) : Nat)) ((2 ^ (8 - 1) : Nat) - 1) x ≤ 15 := by
  induction x using EReal.rec with
  | bot => exact absurd h0 (by simp)
  | top => exact absurd h1 (by simp)
  | coe r =>
    have a0 : 0 ≤ r := by exact_mod_cast h0
    have a1 : r ≤ 15 := by exact_mod_cast h1
    rw [Ideal.toIntClamped_coe, if_pos a0]
    have b0 : 0 ≤ ⌊r⌋ := Int.floor_nonneg.2 a0
    have b1 : ⌊r⌋ ≤ 15 := by
      have := Int.floor_le_floor a1
      simpa using this
    omega

theorem codeR_lt (v r z : EReal) : (codeR v r z).toNat < 16 := by
  have h0 : Ideal.ofBits .f32 0x00000000#32 = 0 := Ideal.ofBits_zero_f32
  show (Ideal.fptosi 8 (min (Ideal.ofBits .f32 0x41700000#32) (max (Ideal.ofBits .f32 0x00000000#32) _))).toNat < 16
  rw [h0, ofBits_15]
  unfold Ideal.fptosi
  have h15 : (0 : EReal) ≤ ((15 : ℝ) : EReal) := by exact_mod_cast (by norm_num : (0:ℝ) ≤ 15)
  have key : ∀ w : EReal, (BitVec.ofInt 8 (Ideal.toIntClamped (-(2 ^ (8 - 1) : Nat)) ((2 ^ (8 - 1) : Nat) - 1) (min ((15 : ℝ) : EReal) (max 0 w)))).toNat < 16 := fun w => by
    obtain ⟨a, b⟩ := toIntClamped_15 (min ((15 : ℝ) : EReal) (max 0 w)) (le_min h15 (le_max_left _ _)) (min_le_left _ _)
    rw [BitVec.toNat_ofInt]
    omega
  exact key _

theorem codeR_high (v r z : EReal) (i : ℕ) (hi : 4 ≤ i) : (codeR v r z).getLsbD i = false := by
  exact Nat.testBit_lt_two_pow (lt_of_lt_of_le (codeR_lt v r z) (Nat.pow_le_pow_right (by decide) hi : 2 ^ 4 ≤ 2 ^ i))

theorem word_byte (A B : IVec S32x256 8) (hA : ∀ y i, 4 ≤ i → (A y).getLsbD i = false)
    (a : Fin 8) (l : Fin 256) (k b : ℕ) (hk : k < 4) (hb : b < 8) (p : Fin 32) (hp : p.val = 4 * a.val + k) :
    (ori (shli (bitcast S8x256 32 A bitcasts_S32x256_w8_S8x256_w32) (broadcast S8x256 4#32)) (bitcast S8x256 32 B bitcasts_S32x256_w8_S8x256_w32) (ix2 a l)).getLsbD (8 * k + b)
      = (A (ix2 p l) <<< 4 ||| B (ix2 p l)).getLsbD b := by
  have hB := bitcast_8_32_getLsbD_ix2 B bitcasts_S32x256_w8_S8x256_w32 a l (8 * k + b) (by omega) p (by omega)
  have e1 : (8 * k + b) % 8 = b := by omega
  show ((IntOp.shli .vector (bitcast S8x256 32 A bitcasts_S32x256_w8_S8x256_w32 (ix2 a l)) 4#32) ||| bitcast S8x256 32 B bitcasts_S32x256_w8_S8x256_w32 (ix2 a l)).getLsbD (8 * k + b) = _
  rw [BitVec.getLsbD_or, BitVec.getLsbD_or, hB, e1]
  congr 1
  have hs : ∀ x : BitVec 32, IntOp.shli .vector x 4#32 = x <<< 4 := fun x => by simp [IntOp.shli]
  rw [hs, BitVec.getLsbD_shiftLeft, BitVec.getLsbD_shiftLeft]
  by_cases h4 : 4 ≤ b
  · have hA' := bitcast_8_32_getLsbD_ix2 A bitcasts_S32x256_w8_S8x256_w32 a l (8 * k + b - 4) (by omega) p (by omega)
    have e2 : (8 * k + b - 4) % 8 = b - 4 := by omega
    rw [hA', e2]
    have c1 : ¬ (8 * k + b < 4) := by omega
    have c2 : ¬ (b < 4) := by omega
    have c3 : 8 * k + b < 32 := by omega
    simp [c1, c2, c3, hb]
  · have c2 : b < 4 := by omega
    rcases Nat.eq_zero_or_pos k with rfl | hk0
    · simp [c2]
    · have hA' := bitcast_8_32_getLsbD_ix2 A bitcasts_S32x256_w8_S8x256_w32 a l (8 * k + b - 4) (by omega) ⟨p.val - 1, by omega⟩ (by show p.val - 1 = _; omega)
      rw [hA', hA _ _ (by omega)]
      simp [c2]

theorem rowsOf_apply (raw : Vec Ideal S1x1x256 .f32) (y : S32x256.Idx) : rowsOf raw y = raw (ix3 0 0 (y 1)) := by
  unfold rowsOf
  have c : ∀ j : S1x256.Idx, shapeCast S1x256 (shapeCast S1x256 raw shapeCasts_S1x1x256_S1x256) shapeCasts_S1x256_S1x256 j = raw (ix3 0 0 (j 1)) := fun j => by
    have h0 : (j 0).val < 1 := (j 0).isLt
    refine (shapeCast_apply _ _ j j rfl).trans (shapeCast_apply _ _ j (ix3 0 0 (j 1)) ?_)
    refine (Shape.rowMajor_val_three _).trans (Eq.trans ?_ (Shape.rowMajor_val_two _).symm)
    show (0 * 1 + 0) * 256 + (j 1).val = (j 0).val * 256 + (j 1).val
    omega
  exact (broadcastTo_apply (shapeCast S1x256 (shapeCast S1x256 raw shapeCasts_S1x1x256_S1x256) shapeCasts_S1x256_S1x256) broadcasts_S1x256_S32x256 y
    (ix2 0 (y 1)) (fun a => match a with | ⟨0, _⟩ => rfl | ⟨1, _⟩ => rfl)).trans (c _)

theorem copies_apply (v : FVec Ideal S1x256 .bf16) (y : S16x256.Idx) : copies v y = v (ix2 0 (y 1)) :=
  concatenate_replicate_apply (0 : Fin S16x256.rank) 16 v concatenates_S1x256_S1x256_S1x256_S1x256_S1x256_S1x256_S1x256_S1x256_S1x256_S1x256_S1x256_S1x256_S1x256_S1x256_S1x256_S1x256_S16x256_d0
    rfl y (ix2 0 (y 1)) (by show 0 = (y 0).val % 1; omega) (fun b hb => match b with
      | ⟨0, _⟩ => absurd rfl hb
      | ⟨1, _⟩ => rfl)

theorem zrowsOf_apply (raw : Vec Ideal S1x1x2x256 .bf16) (y : S32x256.Idx) :
    zrowsOf raw y = raw (ix4 0 0 ⟨(y 0).val % 2, by omega⟩ (y 1)) := by
  have c : ∀ (v : S1x1x1x256.Idx → EReal) (j : S1x256.Idx), shapeCast S1x256 (shapeCast S1x1x256 v shapeCasts_S1x1x1x256_S1x1x256) shapeCasts_S1x1x256_S1x256 j = v (ix4 0 0 0 (j 1)) := fun v j => by
    have h0 : (j 0).val < 1 := (j 0).isLt
    refine (shapeCast_apply _ _ j (ix3 0 0 (j 1)) ?_).trans (shapeCast_apply _ _ _ (ix4 0 0 0 (j 1)) ?_)
    · refine (Shape.rowMajor_val_three _).trans (Eq.trans ?_ (Shape.rowMajor_val_two _).symm)
      show (0 * 1 + 0) * 256 + (j 1).val = (j 0).val * 256 + (j 1).val
      omega
    · refine (Shape.rowMajor_val_four _).trans (Eq.trans ?_ (Shape.rowMajor_val_three _).symm)
      show ((0 * 1 + 0) * 1 + 0) * 256 + (j 1).val = (0 * 1 + 0) * 256 + (j 1).val
      omega
  unfold zrowsOf interleaveRows
  simp only [copies_apply, c]
  have hr : S32x256.row y = (y 0).val := rfl
  by_cases h : (y 0).val % 2 = 0
  · rw [if_pos (by rw [hr]; exact h)]
    refine congrArg raw (funext fun a => Fin.ext ?_)
    match a with
    | ⟨0, _⟩ => rfl
    | ⟨1, _⟩ => rfl
    | ⟨2, _⟩ => show 2 * 0 + 0 = (y 0).val % 2; omega
    | ⟨3, _⟩ => rfl
  · rw [if_neg (by rw [hr]; exact h)]
    refine congrArg raw (funext fun a => Fin.ext ?_)
    match a with
    | ⟨0, _⟩ => rfl
    | ⟨1, _⟩ => rfl
    | ⟨2, _⟩ => show 2 * 0 + 1 = (y 0).val % 2; omega
    | ⟨3, _⟩ => rfl

/-- A word of the packed codes, byte by byte. -/
theorem wordOf_byte (Y : FVec Ideal S256x256 .f32) (i : ℕ) (hi : i < 4) (r : Vec Ideal S1x1x256 .f32) (z : Vec Ideal S1x1x2x256 .bf16)
    (rl : EReal) (zl : EReal) (a : Fin 8) (l : Fin 256) (k b : ℕ) (hk : k < 4) (hb : b < 8) (u v : Fin 256)
    (hu : u.val = 32 * i + (4 * a.val + k)) (hv : v.val = 32 * (4 + i) + (4 * a.val + k))
    (hr : r (ix3 0 0 l) = rl) (hz : ∀ e : Fin 2, z (ix4 0 0 e l) = zl) :
    (wordOf Y i hi r z (ix2 a l)).getLsbD (8 * k + b) = (byteR (Y (ix2 u l)) (Y (ix2 v l)) rl zl).getLsbD b := by
  have hp : 4 * a.val + k < 32 := by omega
  refine (word_byte (codeVec (extractStridedSlice S32x256 ![32 * i, 0] Y (slicesCode i (by omega))) (rowsOf r) (zrowsOf z))
    (codeVec (extractStridedSlice S32x256 ![32 * (4 + i), 0] Y (slicesCode (4 + i) (by omega))) (rowsOf r) (zrowsOf z))
    (fun y i hi => by rw [codeVec_apply]; exact codeR_high _ _ _ _ hi) a l k b hk hb ⟨4 * a.val + k, hp⟩ rfl).trans ?_
  unfold byteR
  rw [codeVec_apply, codeVec_apply, rowsOf_apply, zrowsOf_apply]
  have e1 : extractStridedSlice S32x256 ![32 * i, 0] Y (slicesCode i (by omega)) (ix2 ⟨4 * a.val + k, hp⟩ l) = Y (ix2 u l) :=
    congrArg Y (funext fun d => Fin.ext (match d with
      | ⟨0, _⟩ => hu.symm
      | ⟨1, _⟩ => Nat.zero_add _))
  have e2 : extractStridedSlice S32x256 ![32 * (4 + i), 0] Y (slicesCode (4 + i) (by omega)) (ix2 ⟨4 * a.val + k, hp⟩ l) = Y (ix2 v l) :=
    congrArg Y (funext fun d => Fin.ext (match d with
      | ⟨0, _⟩ => hv.symm
      | ⟨1, _⟩ => Nat.zero_add _))
  have e3 : r (ix3 0 0 ((ix2 (⟨4 * a.val + k, hp⟩ : Fin 32) l : S32x256.Idx) 1)) = rl := hr
  have e4 : ∀ h, z (ix4 0 0 (⟨((ix2 (⟨4 * a.val + k, hp⟩ : Fin 32) l : S32x256.Idx) 0).val % 2, h⟩ : Fin 2) ((ix2 (⟨4 * a.val + k, hp⟩ : Fin 32) l : S32x256.Idx) 1)) = zl := fun h => hz _
  rw [e1, e2, e3, e4]

/-- A word's bytes as rows: byte row `q` is byte `q % 4` of word row `q / 4`. -/
theorem bytes_apply (x : S32x256.Idx → BitVec 32) (q : Fin 128) (l : Fin 256) (b : ℕ) (hb : b < 8) :
    (bitcast S128x256 8 x bitcasts_S32x256_w32_S128x256_w8 (ix2 q l)).getLsbD b
      = (x (ix2 (⟨q.val / 4, by omega⟩ : Fin 32) l)).getLsbD (8 * (q.val % 4) + b) := by
  have hq : (q.val * 8 + b) / 32 = q.val / 4 := by omega
  have hm : (q.val * 8 + b) % 32 = 8 * (q.val % 4) + b := by omega
  refine (bitcast_getLsbD x bitcasts_S32x256_w32_S128x256_w8 (ix2 q l) b hb (by decide)).trans ?_
  have hsrc : ∀ h, bitcasts_S32x256_w32_S128x256_w8.srcIdx (ix2 q l) ((S128x256.row (ix2 q l) * 8 + b) / 32) h
      = ix2 (⟨q.val / 4, by omega⟩ : Fin 32) l := fun h => funext fun a => Fin.ext (match a with
    | ⟨0, _⟩ => (bitcasts_S32x256_w32_S128x256_w8.srcIdx_row _ _ _ ⟨0, Nat.zero_lt_two⟩ rfl).trans hq
    | ⟨1, _⟩ => bitcasts_S32x256_w32_S128x256_w8.srcIdx_other _ _ _ ⟨1, Nat.one_lt_two⟩ (by show ¬ 1 + 2 = 2; omega))
  exact congrArg₂ (fun i n => (x i).getLsbD n) (hsrc _) hm

/-- The bytes of a half slice, entry by entry. -/
theorem bytesOf_apply (Y : FVec Ideal S256x256 .f32) (r : ℕ → Vec Ideal S1x1x256 .f32) (z : ℕ → Vec Ideal S1x1x2x256 .bf16)
    (rl zl : ℕ → EReal) (y : S256x128.Idx) (u v : Fin 256) (hu : u.val = (y 1).val) (hv : v.val = 128 + (y 1).val)
    (hr : ∀ i < 4, r i (ix3 0 0 (y 0)) = rl i) (hz : ∀ i < 4, ∀ e : Fin 2, z i (ix4 0 0 e (y 0)) = zl i) :
    bytesOf (wordOf Y 0 (by decide) (r 0) (z 0)) (wordOf Y 1 (by decide) (r 1) (z 1)) (wordOf Y 2 (by decide) (r 2) (z 2)) (wordOf Y 3 (by decide) (r 3) (z 3)) y
      = byteR (Y (ix2 u (y 0))) (Y (ix2 v (y 0))) (rl ((y 1).val / 32)) (zl ((y 1).val / 32)) := by
  have h0 : (y 0).val < 256 := (y 0).isLt
  have h1 : (y 1).val < 128 := (y 1).isLt
  unfold bytesOf
  refine (transpose_apply _ _ _ y (ix2 (y 1) (y 0)) (fun a => match a with | ⟨0, _⟩ => rfl | ⟨1, _⟩ => rfl)).trans ?_
  refine BitVec.eq_of_getLsbD_eq fun b hb => ?_
  refine (bytes_apply _ (y 1) (y 0) b hb).trans ?_
  have hi : (y 1).val / 32 < 4 := by omega
  have hc := concatenate_ofFn_apply (0 : Fin S32x256.rank) (fun n : Fin 4 => wordOf Y n.val n.isLt (r n.val) (z n.val))
    concatenates_S8x256_S8x256_S8x256_S8x256_S32x256_d0 rfl 8 rfl (ix2 (⟨(y 1).val / 4, by omega⟩ : Fin 32) (y 0)) ⟨(y 1).val / 32, hi⟩
    (by show (y 1).val / 4 / 8 = (y 1).val / 32; omega) (ix2 (⟨(y 1).val / 4 % 8, by omega⟩ : Fin 8) (y 0)) rfl
    (fun b hb => match b with | ⟨0, _⟩ => absurd rfl hb | ⟨1, _⟩ => rfl)
  refine (congrArg (fun x : BitVec 32 => x.getLsbD (8 * ((y 1).val % 4) + b)) hc).trans ?_
  exact wordOf_byte Y _ hi (r _) (z _) (rl _) (zl _) ⟨(y 1).val / 4 % 8, by omega⟩ (y 0) ((y 1).val % 4) b (by omega) hb u v
    (by show u.val = 32 * ((y 1).val / 32) + (4 * ((y 1).val / 4 % 8) + (y 1).val % 4); omega)
    (by show v.val = 32 * (4 + (y 1).val / 32) + (4 * ((y 1).val / 4 % 8) + (y 1).val % 4); omega) (hr _ hi) (hz _ hi)

/-- The permutation's rows: the even columns first, then the odd ones. -/
def permOk (x : S256x256.Idx → EReal) : Prop :=
  ∀ y, x y = if (if (y 0).val < 128 then 2 * (y 0).val else 2 * ((y 0).val - 128) + 1) = (y 1).val then 1 else 0

/-- The product with the permutation moves columns to rows. -/
theorem permuted_apply (perm : FVec Ideal S256x256 .bf16) (hp : permOk perm) (x : FVec Ideal S256x256 .bf16) (p l k : Fin 256)
    (hk : k.val = if p.val < 128 then 2 * p.val else 2 * (p.val - 128) + 1) :
    matmul dot_S256x256_S256x256_S256x256_1_1_0_0_n_n none perm x (constant S256x256 .f32 0x00000000#32) (ix2 p l) = x (ix2 l k) := by
  refine (Ideal.matmul_transposedRhs_apply (M := 256) (K := 256) (N := 256) none perm x (constant S256x256 .f32 0x00000000#32) p l).trans ?_
  have h0 : constant (F := Ideal) S256x256 .f32 0x00000000#32 (ix2 p l) = (0 : EReal) := Ideal.ofBits_zero_f32
  rw [h0, zero_add, Finset.sum_eq_single k]
  · rw [hp, if_pos]
    · exact one_mul _
    · exact hk.symm
  · intro b _ hb
    rw [hp, if_neg]
    · exact zero_mul _
    · intro h
      exact hb (Fin.ext (h.symm.trans hk.symm))
  · intro h; exact absurd (Finset.mem_univ _) h

/-- A half slice with its columns as rows, the even ones first. -/
def permuted (perm : FVec Ideal S256x256 .bf16) (x : Vec Ideal S1x256x256 .bf16) : FVec Ideal S256x256 .f32 :=
  matmul (φ₂ := .bf16) dot_S256x256_S256x256_S256x256_1_1_0_0_n_n none perm (shapeCast S256x256 x shapeCasts_S1x256x256_S256x256) (constant S256x256 .f32 0x00000000#32)

/-- The bytes that a half slice stores. -/
theorem half_bytes (perm : FVec Ideal S256x256 .bf16) (hp : permOk perm) (x : Vec Ideal S1x256x256 .bf16) (X : ℕ → ℕ → EReal)
    (hx : ∀ y, x y = X (y 1).val (y 2).val) (r : ℕ → Vec Ideal S1x1x256 .f32) (z : ℕ → Vec Ideal S1x1x2x256 .bf16)
    (rl zl : ℕ → ℕ → EReal)
    (hr : ∀ i < 4, ∀ y, r i y = rl i (y 2).val) (hz : ∀ i < 4, ∀ y, z i y = zl i (y 3).val) (y : S1x256x128.Idx) :
    shapeCast S1x256x128 (bytesOf
      (wordOf (permuted perm x) 0 (by decide) (r 0) (z 0))
      (wordOf (permuted perm x) 1 (by decide) (r 1) (z 1))
      (wordOf (permuted perm x) 2 (by decide) (r 2) (z 2))
      (wordOf (permuted perm x) 3 (by decide) (r 3) (z 3))) shapeCasts_S256x128_S1x256x128 y
      = byteR (X (y 1).val (2 * (y 2).val)) (X (y 1).val (2 * (y 2).val + 1)) (rl ((y 2).val / 32) (y 1).val) (zl ((y 2).val / 32) (y 1).val) := by
  have h0 : (y 0).val < 1 := (y 0).isLt
  have h1 : (y 1).val < 256 := (y 1).isLt
  have h2 : (y 2).val < 128 := (y 2).isLt
  have hX : ∀ a b : Fin 256, shapeCast S256x256 x shapeCasts_S1x256x256_S256x256 (ix2 a b) = X a.val b.val := fun a b => by
    refine (shapeCast_apply _ _ (ix2 a b) (ix3 0 a b) ?_).trans (hx _)
    refine (Shape.rowMajor_val_three _).trans (Eq.trans ?_ (Shape.rowMajor_val_two _).symm)
    show (0 * 256 + a.val) * 256 + b.val = a.val * 256 + b.val
    omega
  refine (shapeCast_apply _ _ y (ix2 (y 1) (y 2)) ?_).trans ?_
  · refine (Shape.rowMajor_val_two _).trans (Eq.trans ?_ (Shape.rowMajor_val_three _).symm)
    show (y 1).val * 128 + (y 2).val = ((y 0).val * 256 + (y 1).val) * 128 + (y 2).val
    omega
  refine (bytesOf_apply (permuted perm x) r z (fun i => rl i (y 1).val) (fun i => zl i (y 1).val) (ix2 (y 1) (y 2))
    ⟨(y 2).val, by omega⟩ ⟨128 + (y 2).val, by omega⟩ rfl rfl (fun i hi => hr i hi _) (fun i hi e => hz i hi _)).trans ?_
  have m0 := permuted_apply perm hp (shapeCast S256x256 x shapeCasts_S1x256x256_S256x256) ⟨(y 2).val, by omega⟩ (y 1) ⟨2 * (y 2).val, by omega⟩
    (by show 2 * (y 2).val = if (y 2).val < 128 then _ else _; rw [if_pos h2])
  have m1 := permuted_apply perm hp (shapeCast S256x256 x shapeCasts_S1x256x256_S256x256) ⟨128 + (y 2).val, by omega⟩ (y 1) ⟨2 * (y 2).val + 1, by omega⟩
    (by show 2 * (y 2).val + 1 = if 128 + (y 2).val < 128 then _ else 2 * (128 + (y 2).val - 128) + 1; rw [if_neg (by omega)]; omega)
  exact congrArg₂ (fun a b => byteR a b _ _) (m0.trans (hX _ _)) (m1.trans (hX _ _))

end Cert.KernelIdeal.Stage
-- ==== Proof.Trip.lean ====
module

public import proofs.«01_k».proof.Proof.Reduce
public import proofs.«01_k».proof.Proof.Quant

@[expose] public section

/-! What the stages of a trip do to the buffers. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

/-- A slot of a buffer of partial extremes, whatever it holds. -/
def anyP (m : Memref sig .tc .vmem S2x2x64x2x128 .bf16) (p : ℕ) (hp : p < 2) : sProp 𝕄 :=
  iprop(∃ x : S2x64x2x128.Idx → Elt Ideal .bf16, holds c (slot m p (slotInb p hp)) Finset.univ x)

theorem anyP_partsP {m : Memref sig .tc .vmem S2x2x64x2x128 .bf16} {p : ℕ} {hp : p < 2} (mx : Bool) (T : ℕ → ℕ → EReal) :
    anyP c m p hp ⊢ partsP c m p hp mx T 0 := by
  unfold anyP partsP
  iintro ⟨%x, H⟩
  iexists x
  isplitr [H]
  · ipureintro
    intro y hy
    omega
  · iexact H

theorem partsP_anyP {m : Memref sig .tc .vmem S2x2x64x2x128 .bf16} {p : ℕ} {hp : p < 2} (mx : Bool) (T : ℕ → ℕ → EReal) (n : ℕ) :
    partsP c m p hp mx T n ⊢ anyP c m p hp := by
  unfold anyP partsP
  iintro ⟨%x, -, H⟩
  iexists x
  iexact H

/-- The tables hold what they should after `n` slices. -/
def tabsOk (M : Bufs) (W : ℕ → ℕ → EReal) (s : ℕ → ℕ) (n : ℕ) : sProp 𝕄 :=
  iprop(∃ x12 x13 x14 x15 x16, ⌜TabOk W s n x12 x13 x14 x15 x16⌝ ∗ tabs c M x12 x13 x14 x15 x16)

theorem tabs_elim {M : Bufs} {W : ℕ → ℕ → EReal} {s : ℕ → ℕ} {n : ℕ} {G : sProp 𝕄}
    (h : ∀ x12 x13 x14 x15 x16, TabOk W s n x12 x13 x14 x15 x16 → iprop(tabs c M x12 x13 x14 x15 x16 ∗ R) ⊢ G) :
    iprop((∃ x12 x13 x14 x15 x16, ⌜TabOk W s n x12 x13 x14 x15 x16⌝ ∗ tabs c M x12 x13 x14 x15 x16) ∗ R) ⊢ G := by
  iintro ⟨⟨%x12, %x13, %x14, %x15, %x16, %hx, HT⟩, HR⟩
  iapply (h x12 x13 x14 x15 x16 hx)
  isplitl [HT]; · iexact HT
  iexact HR

theorem pass {A B G : sProp 𝕄} (h : A ⊢ B) (hk : B ⊢ G) : A ⊢ G := h.trans hk

/-- The elements of slot `q` of the input ring. -/
def S7 (q : ℕ) : Finset S4x256x4096.Idx := Finset.univ.filter fun y => (y 0).val = q

/-- The elements of slot `q` of the output ring. -/
def S8 (q : ℕ) : Finset S2x256x2048.Idx := Finset.univ.filter fun y => (y 0).val = q

/-- The input slot of unit `t` holds that unit of `W`. -/
def In7 (W : ℕ → ℕ → EReal) (t : ℕ) (x : S4x256x4096.Idx → EReal) : Prop :=
  ∀ y, (y 0).val = t % 4 → x y = W (256 * (t / 4) + (y 1).val) (4096 * (t % 4) + (y 2).val)

/-- The byte of two neighbouring columns `2 q` and `2 q + 1` of row `r`. -/
def byteAt (W : ℕ → ℕ → EReal) (r q : ℕ) : BitVec 8 := byteR (W r (2 * q)) (W r (2 * q + 1)) (RC W r (q / 32)) (ZP W r (q / 32))

/-- The first `h` half slices of the output slot of unit `t` hold their bytes. -/
def Done8 (W : ℕ → ℕ → EReal) (t h : ℕ) (x : S2x256x2048.Idx → BitVec 8) : Prop :=
  ∀ y, (y 0).val = t % 2 → (y 2).val < 128 * h → x y = byteAt W (256 * (t / 4) + (y 1).val) (2048 * (t % 4) + (y 2).val)

theorem trips_eq : k0_t1_loop.trips = 28 := by decide

theorem off11_eq : ∀ (t : Fin k0_t1_loop.trips) (j : Fin 8), k0_off11 t (BitVec.ofNat 32 (8 * j.val)) = ![(8 * t.val + j.val) / 32, 8 * ((8 * t.val + j.val) % 32), 128 * 0] := by decide +kernel
theorem off12_eq : ∀ (t : Fin k0_t1_loop.trips) (j : Fin 8), k0_off12 t (BitVec.ofNat 32 (8 * j.val)) = ![8 * ((8 * t.val + j.val) % 32), 128 * 0] := by decide +kernel
theorem off13_eq : ∀ (t : Fin k0_t1_loop.trips) (j : Fin 8), k0_off13 t (BitVec.ofNat 32 (8 * j.val)) = ![(8 * t.val + j.val) / 32, 8 * ((8 * t.val + j.val) % 32), 128 * 1] := by decide +kernel
theorem off14_eq : ∀ (t : Fin k0_t1_loop.trips) (j : Fin 8), k0_off14 t (BitVec.ofNat 32 (8 * j.val)) = ![8 * ((8 * t.val + j.val) % 32), 128 * 1] := by decide +kernel

theorem tileOf_apply (raw : Vec Ideal S1x256x512 .bf16) (y : S512x256.Idx) : tileOf raw y = raw (ix3 0 (y 1) (y 0)) := by
  unfold tileOf
  refine (transpose_apply _ _ _ y (ix2 (y 1) (y 0)) (fun a => match a with | ⟨0, _⟩ => rfl | ⟨1, _⟩ => rfl)).trans ?_
  refine shapeCast_apply _ _ (ix2 (y 1) (y 0)) (ix3 0 (y 1) (y 0)) ?_
  refine (Shape.rowMajor_val_three _).trans (Eq.trans ?_ (Shape.rowMajor_val_two _).symm)
  show (0 * 256 + (y 1).val) * 512 + (y 0).val = (y 1).val * 512 + (y 0).val
  omega

theorem in7 (q o : ℕ) (size : Fin 3 → ℕ) (h0 : size 0 = 1) (i7 : ∀ a, (![q, 0, o] : Fin 3 → ℕ) a + size a ≤ S4x256x4096.size a) :
    (Rect.unit (s := S4x256x4096) ![q, 0, o] size i7).toLoadRect.set ⊆ S7 q := fun y hy => by
  have h : q ≤ (y 0).val ∧ (y 0).val < q + size 0 := Rect.mem_set_unit.1 hy 0
  refine Finset.mem_filter.2 ⟨Finset.mem_univ _, ?_⟩
  omega

/-- The elements that a reduction stage works on, besides the input slot. -/
def workA (M : Bufs) (W : ℕ → ℕ → EReal) (s : ℕ → ℕ) (n p : ℕ) (hp : p < 2) : sProp 𝕄 :=
  iprop(anyP c M.a10 p hp ∗ anyP c M.a11 p hp ∗ tabsOk c M W s n)

theorem stageA_core {M : Bufs} {W : ℕ → ℕ → EReal} {s : ℕ → ℕ} {t : Fin k0_t1_loop.trips} {p : ℕ} {hp : p < 2} {j : Fin 8}
    {o7 : Fin 3 → ℕ} {i7 : ∀ a, o7 a + S1x256x512.size a ≤ S4x256x4096.size a} {k : PrgI α} {x7 : S4x256x4096.Idx → EReal}
    (ho : o7 = ![t.val % 4, 0, 512 * j.val]) (h7 : In7 W t.val x7) (hs : ∀ q, q < 2 → q ≠ p → s q ≠ 8 * t.val + j.val)
    (hk : iprop(workA c M W (Function.update s p (8 * t.val + j.val)) (8 * t.val + j.val + 1) p hp
      ∗ holds c M.a7 (S7 (t.val % 4)) (fun y => (x7 y : Elt Ideal .bf16)) ∗ R) ⊢ runs c k Q) :
    iprop(workA c M W s (8 * t.val + j.val) p hp ∗ holds c M.a7 (S7 (t.val % 4)) (fun y => (x7 y : Elt Ideal .bf16)) ∗ R)
      ⊢ runs c (stageA M t p hp j o7 i7 k) Q := by
  subst ho
  have ht : t.val < 28 := trips_eq ▸ t.isLt
  have hj : j.val < 8 := j.isLt
  let T : ℕ → ℕ → EReal := fun col row => W (256 * (t.val / 4) + row) (4096 * (t.val % 4) + 512 * j.val + col)
  have hT : ∀ y, tileOf (F := Ideal) (fun y => x7 ((Rect.unit (s := S4x256x4096) ![t.val % 4, 0, 512 * j.val] S1x256x512.size i7).toLoadRect.idx y)) y = T (y 0).val (y 1).val := fun y => by
    rw [tileOf_apply, h7 _ (by show t.val % 4 + 1 * 0 = t.val % 4; omega)]
    show W (256 * (t.val / 4) + (0 + 1 * (y 1).val)) (4096 * (t.val % 4) + (512 * j.val + 1 * (y 0).val)) = W (256 * (t.val / 4) + (y 1).val) (4096 * (t.val % 4) + 512 * j.val + (y 0).val)
    congr 1 <;> omega
  have hE : ∀ (mx : Bool) (l : ℕ) (y : S8x128.Idx), (extAll mx fun i => T (64 * (y 0).val + i.val) (128 * l + (y 1).val))
      = EX W mx (rowOf (8 * t.val + j.val) (128 * l + (y 1).val)) (blkOf (8 * t.val + j.val) (y 0).val) := fun mx l y => by
    unfold EX rowOf blkOf
    refine congrArg (extAll mx) (funext fun i => ?_)
    show W (256 * (t.val / 4) + (128 * l + (y 1).val)) (4096 * (t.val % 4) + 512 * j.val + (64 * (y 0).val + i.val)) = _
    congr 1 <;> omega
  unfold stageA workA
  unfold workA at hk
  refine pass (B := iprop(holds c M.a7 (S7 (t.val % 4)) (fun y => (x7 y : Elt Ideal .bf16)) ∗ (anyP c M.a10 p hp ∗ anyP c M.a11 p hp ∗ tabsOk c M W s (8 * t.val + j.val) ∗ R))) (by
    iintro ⟨⟨HM, HN, HT⟩, H7, HR⟩
    isplitl [H7]; · iexact H7
    isplitl [HM]; · iexact HM
    isplitl [HN]; · iexact HN
    isplitl [HT]; · iexact HT
    iexact HR) ?_
  refine runs_load c (in7 _ _ _ rfl _) ?_
  refine pass (B := iprop(partsP c M.a10 p hp true T 0 ∗ (holds c M.a7 (S7 (t.val % 4)) (fun y => (x7 y : Elt Ideal .bf16)) ∗ anyP c M.a11 p hp ∗ tabsOk c M W s (8 * t.val + j.val) ∗ R))) (by
    iintro ⟨H7, HM, HN, HT, HR⟩
    ihave HM := (anyP_partsP c true T) $$ HM
    isplitl [HM]; · iexact HM
    isplitl [H7]; · iexact H7
    isplitl [HN]; · iexact HN
    isplitl [HT]; · iexact HT
    iexact HR) ?_
  refine partStores_spec c hT <| colTree_spec c fun mx0 hx0 => colTree_spec c fun mx1 hx1 => ?_
  refine pass (B := iprop(partsP c M.a11 p hp false T 0 ∗ (holds c M.a7 (S7 (t.val % 4)) (fun y => (x7 y : Elt Ideal .bf16)) ∗ anyP c M.a10 p hp ∗ tabsOk c M W s (8 * t.val + j.val) ∗ R))) (by
    iintro ⟨HM, H7, HN, HT, HR⟩
    ihave HN := (anyP_partsP c false T) $$ HN
    ihave HM := (partsP_anyP c true T 16) $$ HM
    isplitl [HN]; · iexact HN
    isplitl [H7]; · iexact H7
    isplitl [HM]; · iexact HM
    isplitl [HT]; · iexact HT
    iexact HR) ?_
  refine partStores_spec c hT <| colTree_spec c fun mn0 hm0 => colTree_spec c fun mn1 hm1 => ?_
  refine pass (B := iprop(tabsOk c M W s (8 * t.val + j.val) ∗ (anyP c M.a10 p hp ∗ anyP c M.a11 p hp ∗ holds c M.a7 (S7 (t.val % 4)) (fun y => (x7 y : Elt Ideal .bf16)) ∗ R))) (by
    iintro ⟨HN, H7, HM, HT, HR⟩
    ihave HN := (partsP_anyP c false T 16) $$ HN
    isplitl [HT]; · iexact HT
    isplitl [HM]; · iexact HM
    isplitl [HN]; · iexact HN
    isplitl [H7]; · iexact H7
    iexact HR) ?_
  unfold tabsOk at hk ⊢
  refine tabs_elim c fun x12 x13 x14 x15 x16 hx => ?_
  have step := TabOk_step hs hx (fun l => if l = 0 then mx0 else mx1) (fun l => if l = 0 then mn0 else mn1)
    (fun l hl y => by
      match l, hl with
      | 0, _ => exact (hx0 y).trans (hE true 0 y)
      | 1, _ => exact (hx1 y).trans (hE true 1 y))
    (fun l hl y => by
      match l, hl with
      | 0, _ => exact (hm0 y).trans (hE false 0 y)
      | 1, _ => exact (hm1 y).trans (hE false 1 y))
  rw [← off11_eq t j, ← off12_eq t j, ← off13_eq t j, ← off14_eq t j] at step
  refine finish_spec c <| finish_spec c ?_
  refine pass ?_ hk
  iintro ⟨HT, HM, HN, H7, HR⟩
  isplitl [HM HN HT]
  · isplitl [HM]; · iexact HM
    isplitl [HN]; · iexact HN
    iexists _, _, _, _, _
    isplitr [HT]
    · ipureintro
      exact step
    · iexact HT
  isplitl [H7]; · iexact H7
  iexact HR

theorem in8 (q o : ℕ) (i8 : ∀ a, (![q, 0, o] : Fin 3 → ℕ) a + S1x256x128.size a ≤ S2x256x2048.size a) :
    (Rect.unit (s := S2x256x2048) ![q, 0, o] S1x256x128.size i8).set ⊆ S8 q := fun y hy => by
  have h : q ≤ (y 0).val ∧ (y 0).val < q + 1 := Rect.mem_set_unit.1 hy 0
  refine Finset.mem_filter.2 ⟨Finset.mem_univ _, ?_⟩
  omega

theorem Done8_put {W : ℕ → ℕ → EReal} {t h : ℕ} (ht : t < 28) {x : S2x256x2048.Idx → BitVec 8} (hd : Done8 W t h x)
    (i8 : ∀ a, (![t % 2, 0, 128 * h] : Fin 3 → ℕ) a + S1x256x128.size a ≤ S2x256x2048.size a)
    (w : S1x256x128.Idx → BitVec 8)
    (hw : ∀ y, w y = byteAt W (256 * (t / 4) + (y 1).val) (2048 * (t % 4) + (128 * h + (y 2).val))) :
    Done8 W t (h + 1) (VecWindow.put (s := S2x256x2048) x ![t % 2, 0, 128 * h] S1x256x128.size w) := by
  intro y hy0 hy2
  have h1 : (y 1).val < 256 := (y 1).isLt
  unfold VecWindow.put
  split
  · rename_i hin
    have e2 : 128 * h ≤ (y 2).val ∧ (y 2).val < 128 * h + 128 := hin 2
    rw [hw]
    show byteAt W (256 * (t / 4) + ((y 1).val - 0)) (2048 * (t % 4) + (128 * h + ((y 2).val - 128 * h))) = _
    congr 2; omega
  · rename_i hout
    refine hd y hy0 ?_
    by_contra hc
    refine hout fun a => ?_
    match a with
    | ⟨0, _⟩ => show t % 2 ≤ (y 0).val ∧ (y 0).val < t % 2 + 1; omega
    | ⟨1, _⟩ => show 0 ≤ (y 1).val ∧ (y 1).val < 0 + 256; omega
    | ⟨2, _⟩ => show 128 * h ≤ (y 2).val ∧ (y 2).val < 128 * h + 128; omega

/-- The output slot of unit `t` with its first `h` half slices done. -/
def out8 (M : Bufs) (W : ℕ → ℕ → EReal) (t h : ℕ) : sProp 𝕄 :=
  iprop(∃ x8 : S2x256x2048.Idx → BitVec 8, ⌜Done8 W t h x8⌝ ∗ holds c M.a8 (S8 (t % 2)) (fun y => (x8 y : Elt Ideal .i8)))

/-- The permutation buffer. -/
def perm9 (M : Bufs) : sProp 𝕄 :=
  iprop(∃ x9 : S256x256.Idx → EReal, ⌜permOk x9⌝ ∗ holds c M.a9 Finset.univ (fun y => (x9 y : Elt Ideal .bf16)))

theorem half_store {M : Bufs} {W : ℕ → ℕ → EReal} {s : ℕ → ℕ} {t p : ℕ} {hp : p < 2} {j n d : ℕ} {hd : d < 2} (ht : t < 28)
    {x7 : S4x256x4096.Idx → EReal} (h7 : In7 W t x7) (hj : j < 8) (hs : s p = 8 * t + j) (hn : 8 * t + j < n)
    {x9 : S256x256.Idx → EReal} (h9 : permOk x9)
    {x12 : S2x8x256.Idx → EReal} {x13 : S2x8x2x256.Idx → EReal} {x14 : S7x256x256.Idx → EReal}
    {x15 : S256x256.Idx → EReal} {x16 : S8x128.Idx → EReal} (hT : TabOk W s n x12 x13 x14 x15 x16)
    (i7 : ∀ a, (![t % 4, 0, 512 * j + 256 * d] : Fin 3 → ℕ) a + S1x256x256.size a ≤ S4x256x4096.size a) (y : S1x256x128.Idx) :
    shapeCast S1x256x128 (bytesOf
      (wordOf (permuted (fun y => x9 ((Rect.unit (s := S256x256) ![0, 0] S256x256.size inb_S256x256_S256x256_0_0).toLoadRect.idx y)) (fun y => x7 ((Rect.unit (s := S4x256x4096) ![t % 4, 0, 512 * j + 256 * d] S1x256x256.size i7).toLoadRect.idx y))) 0 (by decide)
        (fun y => x12 ((Rect.unit (s := S2x8x256) ![p, 4 * d + 0, 0] S1x1x256.size (rowInb p (4 * d + 0) hp (by omega))).toLoadRect.idx y))
        (fun y => x13 ((Rect.unit (s := S2x8x2x256) ![p, 4 * d + 0, 0, 0] S1x1x2x256.size (zrowInb p (4 * d + 0) hp (by omega))).toLoadRect.idx y)))
      (wordOf (permuted (fun y => x9 ((Rect.unit (s := S256x256) ![0, 0] S256x256.size inb_S256x256_S256x256_0_0).toLoadRect.idx y)) (fun y => x7 ((Rect.unit (s := S4x256x4096) ![t % 4, 0, 512 * j + 256 * d] S1x256x256.size i7).toLoadRect.idx y))) 1 (by decide)
        (fun y => x12 ((Rect.unit (s := S2x8x256) ![p, 4 * d + 1, 0] S1x1x256.size (rowInb p (4 * d + 1) hp (by omega))).toLoadRect.idx y))
        (fun y => x13 ((Rect.unit (s := S2x8x2x256) ![p, 4 * d + 1, 0, 0] S1x1x2x256.size (zrowInb p (4 * d + 1) hp (by omega))).toLoadRect.idx y)))
      (wordOf (permuted (fun y => x9 ((Rect.unit (s := S256x256) ![0, 0] S256x256.size inb_S256x256_S256x256_0_0).toLoadRect.idx y)) (fun y => x7 ((Rect.unit (s := S4x256x4096) ![t % 4, 0, 512 * j + 256 * d] S1x256x256.size i7).toLoadRect.idx y))) 2 (by decide)
        (fun y => x12 ((Rect.unit (s := S2x8x256) ![p, 4 * d + 2, 0] S1x1x256.size (rowInb p (4 * d + 2) hp (by omega))).toLoadRect.idx y))
        (fun y => x13 ((Rect.unit (s := S2x8x2x256) ![p, 4 * d + 2, 0, 0] S1x1x2x256.size (zrowInb p (4 * d + 2) hp (by omega))).toLoadRect.idx y)))
      (wordOf (permuted (fun y => x9 ((Rect.unit (s := S256x256) ![0, 0] S256x256.size inb_S256x256_S256x256_0_0).toLoadRect.idx y)) (fun y => x7 ((Rect.unit (s := S4x256x4096) ![t % 4, 0, 512 * j + 256 * d] S1x256x256.size i7).toLoadRect.idx y))) 3 (by decide)
        (fun y => x12 ((Rect.unit (s := S2x8x256) ![p, 4 * d + 3, 0] S1x1x256.size (rowInb p (4 * d + 3) hp (by omega))).toLoadRect.idx y))
        (fun y => x13 ((Rect.unit (s := S2x8x2x256) ![p, 4 * d + 3, 0, 0] S1x1x2x256.size (zrowInb p (4 * d + 3) hp (by omega))).toLoadRect.idx y)))) shapeCasts_S256x128_S1x256x128 y
      = byteAt W (256 * (t / 4) + (y 1).val) (2048 * (t % 4) + (128 * (2 * j + d) + (y 2).val)) := by
  have h1 : (y 1).val < 256 := (y 1).isLt
  have h2 : (y 2).val < 128 := (y 2).isLt
  have hr : ∀ i (hi : i < 4) (y : S1x1x256.Idx), x12 ((Rect.unit (s := S2x8x256) ![p, 4 * d + i, 0] S1x1x256.size (rowInb p (4 * d + i) hp (by omega))).toLoadRect.idx y)
      = RC W (rowOf (8 * t + j) (y 2).val) (blkOf (8 * t + j) (4 * d + i)) := fun i hi y => by
    have e0 : (y 0).val < 1 := (y 0).isLt
    have e1 : (y 1).val < 1 := (y 1).isLt
    have f0 : p + 1 * (y 0).val = p := by omega
    have f1 : 4 * d + i + 1 * (y 1).val = 4 * d + i := by omega
    have f2 : 0 + 1 * (y 2).val = (y 2).val := by omega
    refine (hT.recip _ (show s (p + 1 * (y 0).val) < n by rw [f0]; omega)).trans ?_
    show RC W (rowOf (s (p + 1 * (y 0).val)) (0 + 1 * (y 2).val)) (blkOf (s (p + 1 * (y 0).val)) (4 * d + i + 1 * (y 1).val)) = _
    rw [f0, f1, f2, hs]
  have hz : ∀ i (hi : i < 4) (y : S1x1x2x256.Idx), x13 ((Rect.unit (s := S2x8x2x256) ![p, 4 * d + i, 0, 0] S1x1x2x256.size (zrowInb p (4 * d + i) hp (by omega))).toLoadRect.idx y)
      = ZP W (rowOf (8 * t + j) (y 3).val) (blkOf (8 * t + j) (4 * d + i)) := fun i hi y => by
    have e0 : (y 0).val < 1 := (y 0).isLt
    have e1 : (y 1).val < 1 := (y 1).isLt
    have f0 : p + 1 * (y 0).val = p := by omega
    have f1 : 4 * d + i + 1 * (y 1).val = 4 * d + i := by omega
    have f2 : 0 + 1 * (y 3).val = (y 3).val := by omega
    refine (hT.zero _ (show s (p + 1 * (y 0).val) < n by rw [f0]; omega)).trans ?_
    show ZP W (rowOf (s (p + 1 * (y 0).val)) (0 + 1 * (y 3).val)) (blkOf (s (p + 1 * (y 0).val)) (4 * d + i + 1 * (y 1).val)) = _
    rw [f0, f1, f2, hs]
  have h9' : permOk (fun y => x9 ((Rect.unit (s := S256x256) ![0, 0] S256x256.size inb_S256x256_S256x256_0_0).toLoadRect.idx y)) := fun y => by
    refine (h9 _).trans ?_
    have f0 : 0 + 1 * (y 0).val = (y 0).val := by omega
    have f1 : 0 + 1 * (y 1).val = (y 1).val := by omega
    show (if (if 0 + 1 * (y 0).val < 128 then 2 * (0 + 1 * (y 0).val) else 2 * (0 + 1 * (y 0).val - 128) + 1) = 0 + 1 * (y 1).val then _ else _) = _
    rw [f0, f1]
  refine (half_bytes _ h9' _ (fun r q => W (256 * (t / 4) + r) (4096 * (t % 4) + (512 * j + 256 * d + q))) (fun y => ?_)
    (fun i => match i with
      | 0 => _
      | 1 => _
      | 2 => _
      | _ => _)
    (fun i => match i with
      | 0 => _
      | 1 => _
      | 2 => _
      | _ => _)
    (fun i l => RC W (rowOf (8 * t + j) l) (blkOf (8 * t + j) (4 * d + i)))
    (fun i l => ZP W (rowOf (8 * t + j) l) (blkOf (8 * t + j) (4 * d + i)))
    (fun i hi => match i, hi with
      | 0, _ => hr 0 (by decide)
      | 1, _ => hr 1 (by decide)
      | 2, _ => hr 2 (by decide)
      | 3, _ => hr 3 (by decide))
    (fun i hi => match i, hi with
      | 0, _ => hz 0 (by decide)
      | 1, _ => hz 1 (by decide)
      | 2, _ => hz 2 (by decide)
      | 3, _ => hz 3 (by decide)) y).trans ?_
  · have e0 : (y 0).val < 1 := (y 0).isLt
    refine (h7 _ (show t % 4 + 1 * (y 0).val = t % 4 by omega)).trans ?_
    show W (256 * (t / 4) + (0 + 1 * (y 1).val)) (4096 * (t % 4) + (512 * j + 256 * d + 1 * (y 2).val)) = _
    congr 1 <;> omega
  · unfold byteAt rowOf blkOf
    congr 1 <;> congr 1 <;> omega

set_option maxHeartbeats 1000000 in
theorem half_core {M : Bufs} {W : ℕ → ℕ → EReal} {s : ℕ → ℕ} {t : Fin k0_t1_loop.trips} {p : ℕ} {hp : p < 2} {j n d : ℕ} {hd : d < 2}
    {o7 : Fin 3 → ℕ} {i7 : ∀ a, o7 a + S1x256x256.size a ≤ S4x256x4096.size a}
    {o8 : Fin 3 → ℕ} {i8 : ∀ a, o8 a + S1x256x128.size a ≤ S2x256x2048.size a}
    {p8 : (Rect.unit (s := S2x256x2048) o8 S1x256x128.size i8).PackedRows (EltTy.packing .i8)}
    {k : PrgI α} {x7 : S4x256x4096.Idx → EReal}
    (ho : o7 = ![t.val % 4, 0, 512 * j + 256 * d]) (ho8 : o8 = ![t.val % 2, 0, 128 * (2 * j + d)]) (h7 : In7 W t.val x7) (hj : j < 8)
    (hs : s p = 8 * t.val + j) (hn : 8 * t.val + j < n)
    (hk : iprop(out8 c M W t.val (2 * j + d + 1) ∗ perm9 c M ∗ tabsOk c M W s n ∗ holds c M.a7 (S7 (t.val % 4)) (fun y => (x7 y : Elt Ideal .bf16)) ∗ R) ⊢ runs c k Q) :
    iprop(out8 c M W t.val (2 * j + d) ∗ perm9 c M ∗ tabsOk c M W s n ∗ holds c M.a7 (S7 (t.val % 4)) (fun y => (x7 y : Elt Ideal .bf16)) ∗ R)
      ⊢ runs c (half M p hp d hd o7 i7 o8 i8 p8 k) Q := by
  subst ho ho8
  have ht : t.val < 28 := trips_eq ▸ t.isLt
  unfold half rowLoad
  unfold out8 perm9 tabsOk at hk ⊢
  iintro ⟨⟨%x8, %h8, H8⟩, ⟨%x9, %h9, H9⟩, ⟨%x12, %x13, %x14, %x15, %x16, %hT, HT⟩, H7, HR⟩
  have hk' := fun (x8 : S2x256x2048.Idx → BitVec 8) (hx : Done8 W t.val (2 * j + d + 1) x8) => (pass (A := iprop(holds c M.a8 (S8 (t.val % 2)) (fun y => (x8 y : Elt Ideal .i8)) ∗ holds c M.a9 Finset.univ (fun y => (x9 y : Elt Ideal .bf16))
      ∗ tabs c M x12 x13 x14 x15 x16 ∗ holds c M.a7 (S7 (t.val % 4)) (fun y => (x7 y : Elt Ideal .bf16)) ∗ R)) (by
    iintro ⟨H8, H9, HT, H7, HR⟩
    isplitl [H8]
    · iexists x8
      isplitr [H8]
      · ipureintro; exact hx
      · iexact H8
    isplitl [H9]
    · iexists x9
      isplitr [H9]
      · ipureintro; exact h9
      · iexact H9
    isplitl [HT]
    · iexists x12, x13, x14, x15, x16
      isplitr [HT]
      · ipureintro; exact hT
      · iexact HT
    isplitl [H7]; · iexact H7
    iexact HR) hk)
  have hw := half_store (M := M) (p := p) (hp := hp) (hd := hd) ht h7 hj hs hn h9 hT i7
  unfold tabs at hk' ⊢
  icases HT with ⟨H12, H13, HT⟩
  iapply (runs_load_w c (in7 _ _ _ rfl _)) $$ H7
  iintro H7
  iapply (runs_load_w c (Finset.subset_univ _)) $$ H9
  iintro H9
  iapply (runs_load_w c (Finset.subset_univ _)) $$ H12
  iintro H12
  iapply (runs_load_w c (Finset.subset_univ _)) $$ H13
  iintro H13
  iapply (runs_load_w c (Finset.subset_univ _)) $$ H12
  iintro H12
  iapply (runs_load_w c (Finset.subset_univ _)) $$ H13
  iintro H13
  iapply (runs_load_w c (Finset.subset_univ _)) $$ H12
  iintro H12
  iapply (runs_load_w c (Finset.subset_univ _)) $$ H13
  iintro H13
  iapply (runs_load_w c (Finset.subset_univ _)) $$ H12
  iintro H12
  iapply (runs_load_w c (Finset.subset_univ _)) $$ H13
  iintro H13
  iapply (runs_load_w c (in8 _ _ _)) $$ H8
  iintro H8
  iapply (runs_store_w c (in8 _ _ _)) $$ H8
  iintro H8
  iapply (hk' _ (Done8_put ht h8 i8 _ hw))
  isplitl [H8]; · iexact H8
  isplitl [H9]; · iexact H9
  isplitl [H12 H13 HT]
  · isplitl [H12]; · iexact H12
    isplitl [H13]; · iexact H13
    iexact HT
  isplitl [H7]; · iexact H7
  iexact HR

/-- The latest slice before `n` that used slot `q`. -/
def sN (n q : ℕ) : ℕ := if n ≤ q then 1000000 else n - 1 - (n - 1 - q) % 2

theorem TabOk.congr {W : ℕ → ℕ → EReal} {s s' : ℕ → ℕ} {n : ℕ} {x12 : S2x8x256.Idx → EReal} {x13 : S2x8x2x256.Idx → EReal} {x14 : S7x256x256.Idx → EReal}
    {x15 : S256x256.Idx → EReal} {x16 : S8x128.Idx → EReal} (h : TabOk W s n x12 x13 x14 x15 x16) (e : ∀ q < 2, s q = s' q) : TabOk W s' n x12 x13 x14 x15 x16 where
  recip y hy := by
    have h0 : (y 0).val < 2 := (y 0).isLt
    rw [← e _ h0] at hy ⊢
    exact h.recip y hy
  zero y hy := by
    have h0 : (y 0).val < 2 := (y 0).isLt
    rw [← e _ h0] at hy ⊢
    exact h.zero y hy
  scale := h.scale
  zt := h.zt
  sum := h.sum

theorem tabsOk_congr {M : Bufs} {W : ℕ → ℕ → EReal} {s s' : ℕ → ℕ} {n : ℕ} (e : ∀ q < 2, s q = s' q) : tabsOk c M W s n ⊢ tabsOk c M W s' n := by
  unfold tabsOk
  iintro ⟨%x12, %x13, %x14, %x15, %x16, %h, H⟩
  iexists x12, x13, x14, x15, x16
  isplitr [H]
  · ipureintro; exact h.congr e
  · iexact H

/-- The buffers within the trip of unit `t`: `n` slices reduced so far and `h` half slices of this unit quantised. -/
def stg (M : Bufs) (W : ℕ → ℕ → EReal) (t n h : ℕ) (x7 : S4x256x4096.Idx → EReal) : sProp 𝕄 :=
  iprop(out8 c M W t h ∗ perm9 c M ∗ tabsOk c M W (sN n) n ∗ holds c M.a7 (S7 (t % 4)) (fun y => (x7 y : Elt Ideal .bf16))
    ∗ anyP c M.a10 0 (by decide) ∗ anyP c M.a10 1 (by decide) ∗ anyP c M.a11 0 (by decide) ∗ anyP c M.a11 1 (by decide))

theorem half_st {M : Bufs} {W : ℕ → ℕ → EReal} {t : Fin k0_t1_loop.trips} {p : ℕ} {hp : p < 2} {n : ℕ} (j d : ℕ) {hd : d < 2}
    {o7 : Fin 3 → ℕ} {i7 : ∀ a, o7 a + S1x256x256.size a ≤ S4x256x4096.size a}
    {o8 : Fin 3 → ℕ} {i8 : ∀ a, o8 a + S1x256x128.size a ≤ S2x256x2048.size a}
    {p8 : (Rect.unit (s := S2x256x2048) o8 S1x256x128.size i8).PackedRows (EltTy.packing .i8)}
    {k : PrgI α} {x7 : S4x256x4096.Idx → EReal}
    (hpj : p = j % 2) (hn : n = 8 * t.val + (j + 1) ∨ n = 8 * t.val + (j + 2))
    (ho : o7 = ![t.val % 4, 0, 512 * j + 256 * d]) (ho8 : o8 = ![t.val % 2, 0, 128 * (2 * j + d)]) (h7 : In7 W t.val x7) (hj : j < 8)
    (hk : iprop(stg c M W t.val n (2 * j + d + 1) x7 ∗ R) ⊢ runs c k Q) :
    iprop(stg c M W t.val n (2 * j + d) x7 ∗ R) ⊢ runs c (half M p hp d hd o7 i7 o8 i8 p8 k) Q := by
  unfold stg at hk ⊢
  refine pass ?_ (half_core c (R := iprop((anyP c M.a10 0 (by decide) ∗ anyP c M.a10 1 (by decide) ∗ anyP c M.a11 0 (by decide) ∗ anyP c M.a11 1 (by decide)) ∗ R)) ho ho8 h7 hj (s := sN n) (n := n)
    (by unfold sN; rw [if_neg (by omega)]; omega) (by omega) (pass ?_ hk))
  · iintro ⟨⟨H8, H9, HT, H7, HP⟩, HR⟩
    isplitl [H8]; · iexact H8
    isplitl [H9]; · iexact H9
    isplitl [HT]; · iexact HT
    isplitl [H7]; · iexact H7
    isplitl [HP]; · iexact HP
    iexact HR
  · iintro ⟨H8, H9, HT, H7, HP, HR⟩
    isplitr [HR]
    · isplitl [H8]; · iexact H8
      isplitl [H9]; · iexact H9
      isplitl [HT]; · iexact HT
      isplitl [H7]; · iexact H7
      iexact HP
    · iexact HR

theorem stageA_st {M : Bufs} {W : ℕ → ℕ → EReal} {t : Fin k0_t1_loop.trips} {p : ℕ} {hp : p < 2} {h : ℕ} {j : Fin 8}
    {o7 : Fin 3 → ℕ} {i7 : ∀ a, o7 a + S1x256x512.size a ≤ S4x256x4096.size a} {k : PrgI α} {x7 : S4x256x4096.Idx → EReal}
    (hpj : p = j.val % 2) (ho : o7 = ![t.val % 4, 0, 512 * j.val]) (h7 : In7 W t.val x7)
    (hk : iprop(stg c M W t.val (8 * t.val + (j.val + 1)) h x7 ∗ R) ⊢ runs c k Q) :
    iprop(stg c M W t.val (8 * t.val + j.val) h x7 ∗ R) ⊢ runs c (stageA M t p hp j o7 i7 k) Q := by
  have hs : ∀ q, q < 2 → q ≠ p → sN (8 * t.val + j.val) q ≠ 8 * t.val + j.val := fun q h2 hq => by
    have : t.val < 28 := trips_eq ▸ t.isLt
    unfold sN; split <;> omega
  have he : ∀ q < 2, Function.update (sN (8 * t.val + j.val)) p (8 * t.val + j.val) q = sN (8 * t.val + (j.val + 1)) q := fun q h2 => by
    by_cases e : q = p
    · subst e
      rw [Function.update_self]; unfold sN; rw [if_neg (by omega)]; omega
    · rw [Function.update_of_ne e]; unfold sN; split <;> split <;> omega
  unfold stg at hk ⊢
  match p, hp, hpj with
  | 0, hp, hpj =>
    refine pass ?_ (stageA_core c (R := iprop(out8 c M W t.val h ∗ perm9 c M ∗ anyP c M.a10 1 (by decide) ∗ anyP c M.a11 1 (by decide) ∗ R)) ho h7 hs (pass ?_ hk))
    · unfold workA
      iintro ⟨⟨H8, H9, HT, H7, HA, HB, HC, HD⟩, HR⟩
      isplitl [HA HC HT]
      · isplitl [HA]; · iexact HA
        isplitl [HC]; · iexact HC
        iexact HT
      isplitl [H7]; · iexact H7
      isplitl [H8]; · iexact H8
      isplitl [H9]; · iexact H9
      isplitl [HB]; · iexact HB
      isplitl [HD]; · iexact HD
      iexact HR
    · unfold workA
      iintro ⟨⟨HA, HC, HT⟩, H7, H8, H9, HB, HD, HR⟩
      ihave HT := (tabsOk_congr c he) $$ HT
      isplitr [HR]
      · isplitl [H8]; · iexact H8
        isplitl [H9]; · iexact H9
        isplitl [HT]; · iexact HT
        isplitl [H7]; · iexact H7
        isplitl [HA]; · iexact HA
        isplitl [HB]; · iexact HB
        isplitl [HC]; · iexact HC
        iexact HD
      · iexact HR
  | 1, hp, hpj =>
    refine pass ?_ (stageA_core c (R := iprop(out8 c M W t.val h ∗ perm9 c M ∗ anyP c M.a10 0 (by decide) ∗ anyP c M.a11 0 (by decide) ∗ R)) ho h7 hs (pass ?_ hk))
    · unfold workA
      iintro ⟨⟨H8, H9, HT, H7, HA, HB, HC, HD⟩, HR⟩
      isplitl [HB HD HT]
      · isplitl [HB]; · iexact HB
        isplitl [HD]; · iexact HD
        iexact HT
      isplitl [H7]; · iexact H7
      isplitl [H8]; · iexact H8
      isplitl [H9]; · iexact H9
      isplitl [HA]; · iexact HA
      isplitl [HC]; · iexact HC
      iexact HR
    · unfold workA
      iintro ⟨⟨HB, HD, HT⟩, H7, H8, H9, HA, HC, HR⟩
      ihave HT := (tabsOk_congr c he) $$ HT
      isplitr [HR]
      · isplitl [H8]; · iexact H8
        isplitl [H9]; · iexact H9
        isplitl [HT]; · iexact HT
        isplitl [H7]; · iexact H7
        isplitl [HA]; · iexact HA
        isplitl [HB]; · iexact HB
        isplitl [HC]; · iexact HC
        iexact HD
      · iexact HR

/-- The offsets of a trip's loads and stores. -/
theorem offs_eq : ∀ t : Fin k0_t1_loop.trips, k0_off10 t = ![t.val % 4, 0, 512 * 0] ∧
    k0_off15 t = ![t.val % 4, 0, 512 * 1] ∧
    k0_off20 t = ![t.val % 4, 0, 512 * 2] ∧
    k0_off25 t = ![t.val % 4, 0, 512 * 3] ∧
    k0_off30 t = ![t.val % 4, 0, 512 * 4] ∧
    k0_off35 t = ![t.val % 4, 0, 512 * 5] ∧
    k0_off40 t = ![t.val % 4, 0, 512 * 6] ∧
    k0_off45 t = ![t.val % 4, 0, 512 * 7] ∧
    k0_off16 t = ![t.val % 4, 0, 512 * 0 + 256 * 0] ∧
    k0_off17 t = ![t.val % 2, 0, 128 * (2 * 0 + 0)] ∧
    k0_off18 t = ![t.val % 4, 0, 512 * 0 + 256 * 1] ∧
    k0_off19 t = ![t.val % 2, 0, 128 * (2 * 0 + 1)] ∧
    k0_off21 t = ![t.val % 4, 0, 512 * 1 + 256 * 0] ∧
    k0_off22 t = ![t.val % 2, 0, 128 * (2 * 1 + 0)] ∧
    k0_off23 t = ![t.val % 4, 0, 512 * 1 + 256 * 1] ∧
    k0_off24 t = ![t.val % 2, 0, 128 * (2 * 1 + 1)] ∧
    k0_off26 t = ![t.val % 4, 0, 512 * 2 + 256 * 0] ∧
    k0_off27 t = ![t.val % 2, 0, 128 * (2 * 2 + 0)] ∧
    k0_off28 t = ![t.val % 4, 0, 512 * 2 + 256 * 1] ∧
    k0_off29 t = ![t.val % 2, 0, 128 * (2 * 2 + 1)] ∧
    k0_off31 t = ![t.val % 4, 0, 512 * 3 + 256 * 0] ∧
    k0_off32 t = ![t.val % 2, 0, 128 * (2 * 3 + 0)] ∧
    k0_off33 t = ![t.val % 4, 0, 512 * 3 + 256 * 1] ∧
    k0_off34 t = ![t.val % 2, 0, 128 * (2 * 3 + 1)] ∧
    k0_off36 t = ![t.val % 4, 0, 512 * 4 + 256 * 0] ∧
    k0_off37 t = ![t.val % 2, 0, 128 * (2 * 4 + 0)] ∧
    k0_off38 t = ![t.val % 4, 0, 512 * 4 + 256 * 1] ∧
    k0_off39 t = ![t.val % 2, 0, 128 * (2 * 4 + 1)] ∧
    k0_off41 t = ![t.val % 4, 0, 512 * 5 + 256 * 0] ∧
    k0_off42 t = ![t.val % 2, 0, 128 * (2 * 5 + 0)] ∧
    k0_off43 t = ![t.val % 4, 0, 512 * 5 + 256 * 1] ∧
    k0_off44 t = ![t.val % 2, 0, 128 * (2 * 5 + 1)] ∧
    k0_off46 t = ![t.val % 4, 0, 512 * 6 + 256 * 0] ∧
    k0_off47 t = ![t.val % 2, 0, 128 * (2 * 6 + 0)] ∧
    k0_off48 t = ![t.val % 4, 0, 512 * 6 + 256 * 1] ∧
    k0_off49 t = ![t.val % 2, 0, 128 * (2 * 6 + 1)] ∧
    k0_off50 t = ![t.val % 4, 0, 512 * 7 + 256 * 0] ∧
    k0_off51 t = ![t.val % 2, 0, 128 * (2 * 7 + 0)] ∧
    k0_off52 t = ![t.val % 4, 0, 512 * 7 + 256 * 1] ∧
    k0_off53 t = ![t.val % 2, 0, 128 * (2 * 7 + 1)] := by
  intro t
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> revert t <;> decide +kernel

/-- A trip's stages reduce its eight slices and quantise its sixteen half slices. -/
theorem stages_spec {M : Bufs} {W : ℕ → ℕ → EReal} {t : Fin k0_t1_loop.trips} {k : PrgI α} {x7 : S4x256x4096.Idx → EReal} (h7 : In7 W t.val x7)
    (hk : iprop(stg c M W t.val (8 * (t.val + 1)) 16 x7 ∗ R) ⊢ runs c k Q) :
    iprop(stg c M W t.val (8 * t.val) 0 x7 ∗ R) ⊢ runs c (stages M t k) Q := by
  obtain ⟨a0, a1, a2, a3, a4, a5, a6, a7, b00i, b00o, b01i, b01o, b10i, b10o, b11i, b11o, b20i, b20o, b21i, b21o, b30i, b30o, b31i, b31o, b40i, b40o, b41i, b41o, b50i, b50o, b51i, b51o, b60i, b60o, b61i, b61o, b70i, b70o, b71i, b71o⟩ := offs_eq t
  unfold stages
  exact stageA_st c (j := 0) rfl a0 h7 <|
    stageA_st c (j := 1) rfl a1 h7 <|
    half_st c 0 0 rfl (.inr rfl) b00i b00o h7 (by decide) <|
    half_st c 0 1 rfl (.inr rfl) b01i b01o h7 (by decide) <|
    stageA_st c (j := 2) rfl a2 h7 <|
    half_st c 1 0 rfl (.inr rfl) b10i b10o h7 (by decide) <|
    half_st c 1 1 rfl (.inr rfl) b11i b11o h7 (by decide) <|
    stageA_st c (j := 3) rfl a3 h7 <|
    half_st c 2 0 rfl (.inr rfl) b20i b20o h7 (by decide) <|
    half_st c 2 1 rfl (.inr rfl) b21i b21o h7 (by decide) <|
    stageA_st c (j := 4) rfl a4 h7 <|
    half_st c 3 0 rfl (.inr rfl) b30i b30o h7 (by decide) <|
    half_st c 3 1 rfl (.inr rfl) b31i b31o h7 (by decide) <|
    stageA_st c (j := 5) rfl a5 h7 <|
    half_st c 4 0 rfl (.inr rfl) b40i b40o h7 (by decide) <|
    half_st c 4 1 rfl (.inr rfl) b41i b41o h7 (by decide) <|
    stageA_st c (j := 6) rfl a6 h7 <|
    half_st c 5 0 rfl (.inr rfl) b50i b50o h7 (by decide) <|
    half_st c 5 1 rfl (.inr rfl) b51i b51o h7 (by decide) <|
    stageA_st c (j := 7) rfl a7 h7 <|
    half_st c 6 0 rfl (.inr rfl) b60i b60o h7 (by decide) <|
    half_st c 6 1 rfl (.inr rfl) b61i b61o h7 (by decide) <|
    half_st c 7 0 rfl (.inl rfl) b70i b70o h7 (by decide) <|
    half_st c 7 1 rfl (.inl rfl) b71i b71o h7 (by decide) <|
    hk

end Cert.KernelIdeal.Stage
-- ==== Proof.Body.lean ====
module

public import proofs.«01_k».proof.Proof.Stage

@[expose] public section

/-! One trip of the kernel's loop and the kernel's body around the loop, written by stages. -/

noncomputable section

namespace Cert.KernelIdeal.Stage

open Idealize.ShloMosaic Idealize.ShloMosaic.TcCoe Idealize.SL.Sem Cert.KernelIdeal Cert.KernelIdeal.Gen

variable {F : FTy → Type} [FloatOps F]

/-- The operands of the kernel's body: arrays, buffers and semaphores. -/
structure Args where
  a0 : Memref sig .tc .hbm S1792x16384 .bf16
  h0 : a0.IsWhole
  a1 : Memref sig .tc .hbm S1792x8192 .i8
  h1 : a1.IsWhole
  a2 : Memref sig .tc .hbm S1792x256 .f32
  h2 : a2.IsWhole
  a3 : Memref sig .tc .hbm S1792x256 .i8
  h3 : a3.IsWhole
  a4 : Memref sig .tc .hbm S1792x256 .i8
  h4 : a4.IsWhole
  a5 : Memref sig .tc .vmem S1x1792 .f32
  h5 : a5.IsWhole
  a6 : Memref sig .tc .smem S1x1 .f32
  h6 : a6.IsWhole
  a7 : Memref sig .tc .vmem S4x256x4096 .bf16
  h7 : a7.IsWhole
  a8 : Memref sig .tc .vmem S2x256x2048 .i8
  h8 : a8.IsWhole
  a9 : Memref sig .tc .vmem S256x256 .bf16
  h9 : a9.IsWhole
  a10 : Memref sig .tc .vmem S2x2x64x2x128 .bf16
  h10 : a10.IsWhole
  a11 : Memref sig .tc .vmem S2x2x64x2x128 .bf16
  h11 : a11.IsWhole
  a12 : Memref sig .tc .vmem S2x8x256 .f32
  h12 : a12.IsWhole
  a13 : Memref sig .tc .vmem S2x8x2x256 .bf16
  h13 : a13.IsWhole
  a14 : Memref sig .tc .vmem S7x256x256 .f32
  h14 : a14.IsWhole
  a15 : Memref sig .tc .vmem S256x256 .f32
  h15 : a15.IsWhole
  a16 : Memref sig .tc .vmem S8x128 .f32
  h16 : a16.IsWhole
  a17 : Memref sig .tc .vmem S256x256 .f32
  h17 : a17.IsWhole
  a18 : Memref sig .tc .vmem S256x256 .i8
  h18 : a18.IsWhole
  a19 : Memref sig .tc .vmem S1792x256 .i8
  h19 : a19.IsWhole
  a20 : DmaSems sig S4
  a21 : DmaSems sig S2
  a22 : DmaSems sig S_
  a23 : DmaSems sig S_
  a24 : DmaSems sig S_

/-- The buffers that the stages of one trip use. -/
def Args.bufs (M : Args) : Bufs :=
  ⟨M.a7, M.a8, M.h8, M.a9, M.a10, M.h10, M.a11, M.h11, M.a12, M.a13, M.h13, M.a14, M.a15, M.a16⟩

/-- One trip of the loop, as printed. -/
def pbody (M : Args) (t : Fin k0_t1_loop.trips) : Prg F PUnit := do
    let ⟨arg25, v256, v266, v283, v293, v1922, v1937_lo, v1937_hi⟩ : Σ' (arg25 : BitVec 32) (v256 : BitVec 32) (v266 : BitVec 32) (v283 : BitVec 32) (v293 : BitVec 32) (v1922 : FVec F S512x256 .bf16) (v1937_lo : FVec F S8x128 .bf16), FVec F S8x128 .bf16 ← k0_part264 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 0#32 1#32 t
    let ⟨v3544, v3583, v3622, v3644, v3650, cst_2389, v3651⟩ : Σ' (v3544 : IVec S8x256 32) (v3583 : IVec S8x256 32) (v3622 : IVec S8x256 32) (v3644 : IVec S8x256 32) (v3650 : FVec F S32x256 .bf16) (cst_2389 : F .f32), F .bf16 ← k0_part265 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v266 v283 v293 v1922 v1937_lo v1937_hi
    let ⟨v5069, v5339, v5342, v5349, v5375⟩ : Σ' (v5069 : FVec F S8x128 .f32) (v5339 : FVec F S8x128 .f32) (v5342 : BitVec 32) (v5349 : FVec F S8x128 .f32), FVec F S8x128 .f32 ← k0_part266 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v266 v283 v293 v3544 v3583 v3622 v3644 v3650 cst_2389 v3651
    let ⟨v6932, v6987, v7152, v7157, v7160_raw⟩ : Σ' (v6932 : FVec F S8x128 .f32) (v6987 : FVec F S8x128 .f32) (v7152 : FVec F S16x128 .bf16) (v7157 : FVec F S16x128 .bf16), Vec F S1x8x2x128 .bf16 ← k0_part267 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v266 v283 v293 v5069 v5339 v5342 v5349 v5375
    let ⟨v8025, v8035, c256_i32_4940⟩ : Σ' (v8025 : BitVec 32) (v8035 : BitVec 32), BitVec 32 ← k0_part268 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t arg25 v256 v266 v283 v293 v6932 v6987 v7152 v7157 v7160_raw
    let v8036 : BitVec 32 := Scalar.muli v8025 c256_i32_4940
    let v8037 : BitVec 32 := v8036
    let c2048_i32 : BitVec 32 := 2048#32
    let v8038 : BitVec 32 := Scalar.muli v8035 c2048_i32
    let v8039 : BitVec 32 := v8038
    let v8040 : DmaSems sig S1 := M.a21.slice (Rect.unit (s := S2) (k0_off54 t) S1.size (k0_off54_inb t))
    let v8041 : DmaSems sig S_ := v8040.squeeze S_ squeezes_S1_S_
    let v8042 : Memref sig .tc .hbm S256x2048 .i8 := M.a1.slice (Rect.unit (s := S1792x8192) (k0_off55 t) S256x2048.size (k0_off55_inb t)) (fun _ => rfl)
    let c0_i32_4941 : BitVec 32 := 0#32
    let c0_i32_4942 : BitVec 32 := 0#32
    let v8043 : Memref sig .tc .vmem S1x256x2048 .i8 := M.a8.slice (Rect.unit (s := S2x256x2048) (k0_off56 t) S1x256x2048.size (k0_off56_inb t)) (fun _ => rfl)
    let v8044 : Memref sig .tc .vmem S256x2048 .i8 := v8043.squeeze S256x2048 squeezes_S1x256x2048_S256x2048
    Prog.lift (.enqueueDma v8044 (.here v8042) (.dma v8041.sem) ((M.h8.wordExact_slice rfl _ (k0_off56_wordsi8 t)).reshape _ _) (M.h1.wordExact_slice rfl _ (k0_off55_wordsi8 t)) ⟨Or.inl rfl, trivial⟩)
    let c3_i32_4943 : BitVec 32 := 3#32
    let v8045 : BitVec 1 := Scalar.cmpi .eq v293 c3_i32_4943
    let v8046 : BitVec 32 := Scalar.extui v8045
    let c0_i32_4944 : BitVec 32 := 0#32
    let v8047 : BitVec 1 := Scalar.cmpi .ne v8046 c0_i32_4944
    if k0_h3 : k0_cond3 t = 1#1 then do
      let c0_i32_4945 : BitVec 32 := 0#32
      let v8048 : BitVec 1 := Scalar.cmpi .sgt v283 c0_i32_4945
      let v8049 : BitVec 32 := Scalar.extui v8048
      let c0_i32_4946 : BitVec 32 := 0#32
      let v8050 : BitVec 1 := Scalar.cmpi .ne v8049 c0_i32_4946
      if k0_h4 : k0_cond4 t = 1#1 then do
        let c1_i32_4959 : BitVec 32 := 1#32
        let v8071 : BitVec 32 := Scalar.subi v283 c1_i32_4959
        let c256_i32_4960 : BitVec 32 := 256#32
        let v8072 : BitVec 32 := Scalar.muli v8071 c256_i32_4960
        let v8073 : BitVec 32 := v8072
        let c0_i32_4961 : BitVec 32 := 0#32
        let v8074 : Memref sig .tc .hbm S256x256 .f32 := M.a2.slice (Rect.unit (s := S1792x256) (k0_off57 t) S256x256.size (k0_off57_inb t k0_h3 k0_h4)) (fun _ => rfl)
        Prog.lift (.waitDma2 M.a22.sem M.a17 v8074 M.h17.wordExact (View.wordExact_bits rfl))
        let c1_i32_4962 : BitVec 32 := 1#32
        let v8075 : BitVec 32 := Scalar.subi v283 c1_i32_4962
        let c256_i32_4963 : BitVec 32 := 256#32
        let v8076 : BitVec 32 := Scalar.muli v8075 c256_i32_4963
        let v8077 : BitVec 32 := v8076
        let c0_i32_4964 : BitVec 32 := 0#32
        let v8078 : Memref sig .tc .hbm S256x256 .i8 := M.a3.slice (Rect.unit (s := S1792x256) (k0_off57 t) S256x256.size (k0_off57_inb t k0_h3 k0_h4)) (fun _ => rfl)
        Prog.lift (.waitDma2 M.a23.sem M.a18 v8078 M.h18.wordExact (M.h3.wordExact_slice rfl _ (k0_off57_wordsi8 t k0_h3 k0_h4)))
        pure ⟨⟩
      else do
        pure ⟨⟩
      let v8051 : Index := Scalar.indexCast v283
      let c0_4947 : Index := 0#32
      let c0_4948 : Index := 0#32
      let v8052 : Vec F S1x256x256 .f32 ← Prog.lift (.load M.a14 (Rect.unit (s := S7x256x256) (k0_off58 t) S1x256x256.size (k0_off58_inb t k0_h3)).toLoadRect (View.loadsAt_vmem h_S1x256x256))
      have v8053 : FVec F S256x256 .f32 := shapeCast S256x256 v8052 shapeCasts_S1x256x256_S256x256
      have v8054 : FVec F S256x256 .f32 := transpose S256x256 [1, 0] v8053 transposes_S256x256_p1_0_S256x256
      let c0_4949 : Index := 0#32
      let c0_4950 : Index := 0#32
      let v8055 : Vec F S256x256 .f32 ← Prog.lift (.load M.a17 (Rect.unit (s := S256x256) ![0, 0] S256x256.size inb_S256x256_S256x256_0_0).toLoadRect (View.loadsAt_vmem h_S256x256))
      have v8056 : FVec F S256x256 .f32 := shapeCast S256x256 v8055 shapeCasts_S256x256_S256x256
      have v8057 : FVec F S256x256 .f32 := shapeCast S256x256 v8054 shapeCasts_S256x256_S256x256
      Prog.lift (.store M.a17 (Rect.unit (s := S256x256) ![0, 0] S256x256.size inb_S256x256_S256x256_0_0) v8057 Finset.univ (View.stores_vmem_bits_univ h_S256x256 rfl) (.inl rfl))
      let c0_4951 : Index := 0#32
      let c0_4952 : Index := 0#32
      let v8058 : Vec F S256x256 .f32 ← Prog.lift (.load M.a15 (Rect.unit (s := S256x256) ![0, 0] S256x256.size inb_S256x256_S256x256_0_0).toLoadRect (View.loadsAt_vmem h_S256x256))
      have v8059 : IVec S256x256 32 := fptosi 32 v8058
      have v8060 : IVec S256x256 8 := trunci 8 v8059 natLt_8_32
      have v8061 : IVec S256x256 8 := transpose S256x256 [1, 0] v8060 transposes_S256x256_p1_0_S256x256
      let c0_4953 : Index := 0#32
      let c0_4954 : Index := 0#32
      let v8062 : Vec F S256x256 .i8 ← Prog.lift (.load M.a18 (Rect.unit (s := S256x256) ![0, 0] S256x256.size inb_S256x256_S256x256_0_0).toLoadRect (View.loadsAt_vmem h_S256x256))
      have v8063 : IVec S256x256 8 := shapeCast S256x256 v8062 shapeCasts_S256x256_S256x256
      have v8064 : IVec S256x256 8 := shapeCast S256x256 v8061 shapeCasts_S256x256_S256x256
      Prog.lift (.store M.a18 (Rect.unit (s := S256x256) ![0, 0] S256x256.size inb_S256x256_S256x256_0_0) v8064 Finset.univ (View.stores_vmem h_S256x256 (M.h18.storeExact_slice rfl _ packedi8_S256x256_S256x256_0_0) (fun _ => rfl)) (.inl rfl))
      let c256_i32_4955 : BitVec 32 := 256#32
      let v8065 : BitVec 32 := Scalar.muli v283 c256_i32_4955
      let v8066 : BitVec 32 := v8065
      let c0_i32_4956 : BitVec 32 := 0#32
      let v8067 : Memref sig .tc .hbm S256x256 .f32 := M.a2.slice (Rect.unit (s := S1792x256) (k0_off59 t) S256x256.size (k0_off59_inb t k0_h3)) (fun _ => rfl)
      Prog.lift (.enqueueDma M.a17 (.here v8067) (.dma M.a22.sem) M.h17.wordExact (View.wordExact_bits rfl) ⟨Or.inl rfl, trivial⟩)
      let c256_i32_4957 : BitVec 32 := 256#32
      let v8068 : BitVec 32 := Scalar.muli v283 c256_i32_4957
      let v8069 : BitVec 32 := v8068
      let c0_i32_4958 : BitVec 32 := 0#32
      let v8070 : Memref sig .tc .hbm S256x256 .i8 := M.a3.slice (Rect.unit (s := S1792x256) (k0_off59 t) S256x256.size (k0_off59_inb t k0_h3)) (fun _ => rfl)
      Prog.lift (.enqueueDma M.a18 (.here v8070) (.dma M.a23.sem) M.h18.wordExact (M.h3.wordExact_slice rfl _ (k0_off59_wordsi8 t k0_h3)) ⟨Or.inl rfl, trivial⟩)
      pure ⟨⟩
    else do
      pure ⟨⟩
    pure ⟨⟩

/-- The copy of the unit three trips ahead into its input slot, where there is one. -/
def hd1 (M : Args) (t : Fin k0_t1_loop.trips) : Prg F PUnit := do
  if k0_h1 : k0_cond1 t = 1#1 then do
    let v8091 : DmaSems sig S1 := M.a20.slice (Rect.unit (s := S4) (k0_off1 t) S1.size (k0_off1_inb t k0_h1))
    let v8092 : DmaSems sig S_ := v8091.squeeze S_ squeezes_S1_S_
    let v8093 : Memref sig .tc .vmem S1x256x4096 .bf16 := M.a7.slice (Rect.unit (s := S4x256x4096) (k0_off2 t) S1x256x4096.size (k0_off2_inb t k0_h1)) (fun _ => rfl)
    let v8094 : Memref sig .tc .vmem S256x4096 .bf16 := v8093.squeeze S256x4096 squeezes_S1x256x4096_S256x4096
    let v8095 : Memref sig .tc .hbm S256x4096 .bf16 := M.a0.slice (Rect.unit (s := S1792x16384) (k0_off3 t) S256x4096.size (k0_off3_inb t k0_h1)) (fun _ => rfl)
    Prog.lift (.enqueueDma v8095 (.here v8094) (.dma v8092.sem) (M.h0.wordExact_slice rfl _ (k0_off3_wordsbf16 t k0_h1)) ((M.h7.wordExact_slice rfl _ (k0_off2_wordsbf16 t k0_h1)).reshape _ _) ⟨Or.inl rfl, trivial⟩)
    pure ⟨⟩
  else do
    pure ⟨⟩

/-- The wait for the output slot, where a copy out of it is under way. -/
def hd2 (M : Args) (t : Fin k0_t1_loop.trips) : Prg F PUnit := do
  if k0_h2 : k0_cond2 t = 1#1 then do
    let v8080 : DmaSems sig S1 := M.a21.slice (Rect.unit (s := S2) (k0_off4 t) S1.size (k0_off4_inb t k0_h2))
    let v8081 : DmaSems sig S_ := v8080.squeeze S_ squeezes_S1_S_
    let v8082 : Memref sig .tc .hbm S256x2048 .i8 := M.a1.slice (Rect.unit (s := S1792x8192) (k0_off5 t) S256x2048.size (k0_off5_inb t k0_h2)) (fun _ => rfl)
    let v8083 : Memref sig .tc .vmem S1x256x2048 .i8 := M.a8.slice (Rect.unit (s := S2x256x2048) (k0_off6 t) S1x256x2048.size (k0_off6_inb t k0_h2)) (fun _ => rfl)
    let v8084 : Memref sig .tc .vmem S256x2048 .i8 := v8083.squeeze S256x2048 squeezes_S1x256x2048_S256x2048
    Prog.lift (.waitDma2 v8081.sem v8084 v8082 ((M.h8.wordExact_slice rfl _ (k0_off6_wordsi8 t k0_h2)).reshape _ _) (M.h1.wordExact_slice rfl _ (k0_off5_wordsi8 t k0_h2)))
    pure ⟨⟩
  else do
    pure ⟨⟩

/-- The wait for this trip's unit. -/
def inWait (M : Args) (t : Fin k0_t1_loop.trips) (k : Prg F PUnit) : Prg F PUnit := do
  let v332 : DmaSems sig S1 := M.a20.slice (Rect.unit (s := S4) (k0_off7 t) S1.size (k0_off7_inb t))
  let v333 : DmaSems sig S_ := v332.squeeze S_ squeezes_S1_S_
  let v334 : Memref sig .tc .vmem S1x256x4096 .bf16 := M.a7.slice (Rect.unit (s := S4x256x4096) (k0_off8 t) S1x256x4096.size (k0_off8_inb t)) (fun _ => rfl)
  let v335 : Memref sig .tc .vmem S256x4096 .bf16 := v334.squeeze S256x4096 squeezes_S1x256x4096_S256x4096
  let v336 : Memref sig .tc .hbm S256x4096 .bf16 := M.a0.slice (Rect.unit (s := S1792x16384) (k0_off9 t) S256x4096.size (k0_off9_inb t)) (fun _ => rfl)
  Prog.lift (.waitDma2 v333.sem v336 v335 (M.h0.wordExact_slice rfl _ (k0_off9_wordsbf16 t)) ((M.h7.wordExact_slice rfl _ (k0_off8_wordsbf16 t)).reshape _ _))
  k

/-- The copy of this trip's bytes out of its output slot. -/
def outEnq (M : Args) (t : Fin k0_t1_loop.trips) (k : Prg F PUnit) : Prg F PUnit := do
  let v8040 : DmaSems sig S1 := M.a21.slice (Rect.unit (s := S2) (k0_off54 t) S1.size (k0_off54_inb t))
  let v8041 : DmaSems sig S_ := v8040.squeeze S_ squeezes_S1_S_
  let v8042 : Memref sig .tc .hbm S256x2048 .i8 := M.a1.slice (Rect.unit (s := S1792x8192) (k0_off55 t) S256x2048.size (k0_off55_inb t)) (fun _ => rfl)
  let v8043 : Memref sig .tc .vmem S1x256x2048 .i8 := M.a8.slice (Rect.unit (s := S2x256x2048) (k0_off56 t) S1x256x2048.size (k0_off56_inb t)) (fun _ => rfl)
  let v8044 : Memref sig .tc .vmem S256x2048 .i8 := v8043.squeeze S256x2048 squeezes_S1x256x2048_S256x2048
  Prog.lift (.enqueueDma v8044 (.here v8042) (.dma v8041.sem) ((M.h8.wordExact_slice rfl _ (k0_off56_wordsi8 t)).reshape _ _) (M.h1.wordExact_slice rfl _ (k0_off55_wordsi8 t)) ⟨Or.inl rfl, trivial⟩)
  k

/-- At the last unit of a row block: the scales and the zero points of the row block are copied
out, after the copies of the row block before have been waited for. -/
def tl (M : Args) (t : Fin k0_t1_loop.trips) : Prg F PUnit := do
  if k0_h3 : k0_cond3 t = 1#1 then do
    if k0_h4 : k0_cond4 t = 1#1 then do
      let v8074 : Memref sig .tc .hbm S256x256 .f32 := M.a2.slice (Rect.unit (s := S1792x256) (k0_off57 t) S256x256.size (k0_off57_inb t k0_h3 k0_h4)) (fun _ => rfl)
      Prog.lift (.waitDma2 M.a22.sem M.a17 v8074 M.h17.wordExact (View.wordExact_bits rfl))
      let v8078 : Memref sig .tc .hbm S256x256 .i8 := M.a3.slice (Rect.unit (s := S1792x256) (k0_off57 t) S256x256.size (k0_off57_inb t k0_h3 k0_h4)) (fun _ => rfl)
      Prog.lift (.waitDma2 M.a23.sem M.a18 v8078 M.h18.wordExact (M.h3.wordExact_slice rfl _ (k0_off57_wordsi8 t k0_h3 k0_h4)))
      pure ⟨⟩
    else do
      pure ⟨⟩
    let v8052 : Vec F S1x256x256 .f32 ← Prog.lift (.load M.a14 (Rect.unit (s := S7x256x256) (k0_off58 t) S1x256x256.size (k0_off58_inb t k0_h3)).toLoadRect (View.loadsAt_vmem h_S1x256x256))
    have v8053 : FVec F S256x256 .f32 := shapeCast S256x256 v8052 shapeCasts_S1x256x256_S256x256
    have v8054 : FVec F S256x256 .f32 := transpose S256x256 [1, 0] v8053 transposes_S256x256_p1_0_S256x256
    let v8055 : Vec F S256x256 .f32 ← Prog.lift (.load M.a17 (Rect.unit (s := S256x256) ![0, 0] S256x256.size inb_S256x256_S256x256_0_0).toLoadRect (View.loadsAt_vmem h_S256x256))
    have v8056 : FVec F S256x256 .f32 := shapeCast S256x256 v8055 shapeCasts_S256x256_S256x256
    have v8057 : FVec F S256x256 .f32 := shapeCast S256x256 v8054 shapeCasts_S256x256_S256x256
    Prog.lift (.store M.a17 (Rect.unit (s := S256x256) ![0, 0] S256x256.size inb_S256x256_S256x256_0_0) v8057 Finset.univ (View.stores_vmem_bits_univ h_S256x256 rfl) (.inl rfl))
    let v8058 : Vec F S256x256 .f32 ← Prog.lift (.load M.a15 (Rect.unit (s := S256x256) ![0, 0] S256x256.size inb_S256x256_S256x256_0_0).toLoadRect (View.loadsAt_vmem h_S256x256))
    have v8059 : IVec S256x256 32 := fptosi 32 v8058
    have v8060 : IVec S256x256 8 := trunci 8 v8059 natLt_8_32
    have v8061 : IVec S256x256 8 := transpose S256x256 [1, 0] v8060 transposes_S256x256_p1_0_S256x256
    let v8062 : Vec F S256x256 .i8 ← Prog.lift (.load M.a18 (Rect.unit (s := S256x256) ![0, 0] S256x256.size inb_S256x256_S256x256_0_0).toLoadRect (View.loadsAt_vmem h_S256x256))
    have v8063 : IVec S256x256 8 := shapeCast S256x256 v8062 shapeCasts_S256x256_S256x256
    have v8064 : IVec S256x256 8 := shapeCast S256x256 v8061 shapeCasts_S256x256_S256x256
    Prog.lift (.store M.a18 (Rect.unit (s := S256x256) ![0, 0] S256x256.size inb_S256x256_S256x256_0_0) v8064 Finset.univ (View.stores_vmem h_S256x256 (M.h18.storeExact_slice rfl _ packedi8_S256x256_S256x256_0_0) (fun _ => rfl)) (.inl rfl))
    let v8067 : Memref sig .tc .hbm S256x256 .f32 := M.a2.slice (Rect.unit (s := S1792x256) (k0_off59 t) S256x256.size (k0_off59_inb t k0_h3)) (fun _ => rfl)
    Prog.lift (.enqueueDma M.a17 (.here v8067) (.dma M.a22.sem) M.h17.wordExact (View.wordExact_bits rfl) ⟨Or.inl rfl, trivial⟩)
    let v8070 : Memref sig .tc .hbm S256x256 .i8 := M.a3.slice (Rect.unit (s := S1792x256) (k0_off59 t) S256x256.size (k0_off59_inb t k0_h3)) (fun _ => rfl)
    Prog.lift (.enqueueDma M.a18 (.here v8070) (.dma M.a23.sem) M.h18.wordExact (M.h3.wordExact_slice rfl _ (k0_off59_wordsi8 t k0_h3)) ⟨Or.inl rfl, trivial⟩)
    pure ⟨⟩
  else do
    pure ⟨⟩
  pure ⟨⟩

theorem part3_eq (M : Args) (t : Fin k0_t1_loop.trips) (a b : BitVec 32) (d : BitVec 1) : ∃ v, k0_part3 (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t a b d = (hd1 M t >>= fun _ => hd2 M t >>= fun _ => .ret v) := by
  unfold k0_part3 hd1 hd2
  by_cases h1 : k0_cond1 t = 1#1 <;> by_cases h2 : k0_cond2 t = 1#1 <;>
    simp only [dif_pos, dif_neg, h1, h2, not_false_eq_true] <;> exact ⟨_, rfl⟩

set_option maxRecDepth 100000
set_option maxHeartbeats 40000000
set_option Elab.async false

/-- One trip of the loop is its copies and waits around its stages. -/
theorem pbody_eq (M : Args) (t : Fin k0_t1_loop.trips) :
    pbody (F := F) M t = (hd1 M t >>= fun _ => hd2 M t >>= fun _ => inWait M t (stages M.bufs t (outEnq M t (tl M t)))) := by
  choose v e using part3_eq (F := F) M t
  unfold pbody k0_part264 k0_part2
  simp only [Prog.pure_eq_ret, Prog.bind_ret, e, Prog.bind_assoc]
  refine congrArg (Bind.bind (hd1 M t)) (funext fun _ => congrArg (Bind.bind (hd2 M t)) (funext fun _ => ?_))
  rfl

/-! ### Around the loop -/

/-- The permutation of 256 columns that brings the even ones to the front, as a matrix. -/
def permVec : FVec F S256x256 .bf16 :=
  truncf .bf16 (select (cmpi .eq (iota .tc S256x256 32 [1] iota_S256x256_d1_w32)
    (select (cmpi .slt (iota .tc S256x256 32 [0] iota_S256x256_d0_w32) (broadcast S256x256 128#32))
      (muli (broadcast S256x256 2#32) (iota .tc S256x256 32 [0] iota_S256x256_d0_w32))
      (addi (muli (broadcast S256x256 2#32) (subi (iota .tc S256x256 32 [0] iota_S256x256_d0_w32) (broadcast S256x256 128#32))) (broadcast S256x256 1#32))))
    (broadcast S256x256 (Scalar.ofBits .f32 0x3F800000#32)) (broadcast S256x256 (Scalar.ofBits .f32 0x00000000#32))) bitsLt_bf16_f32

/-- What precedes the loop: the copies of the first three units, the permutation and the cleared
sums. -/
def prolog {α : Type} (M : Args) (k : Prg F α) : Prg F α :=
  .op (.enqueueDma (M.a0.slice (Rect.unit (s := S1792x16384) ![0, 0] S256x4096.size inb_S1792x16384_S256x4096_0_0) (fun _ => rfl))
    (.here ((M.a7.slice (Rect.unit (s := S4x256x4096) ![0, 0, 0] S1x256x4096.size inb_S4x256x4096_S1x256x4096_0_0_0) (fun _ => rfl)).squeeze S256x4096 squeezes_S1x256x4096_S256x4096))
    (.dma ((M.a20.slice (Rect.unit (s := S4) ![0] S1.size inb_S4_S1_0)).squeeze S_ squeezes_S1_S_).sem)
    (M.h0.wordExact_slice rfl _ wordsbf16_S1792x16384_S256x4096_0_0) ((M.h7.wordExact_slice rfl _ wordsbf16_S4x256x4096_S1x256x4096_0_0_0).reshape _ _) ⟨Or.inl rfl, trivial⟩) fun _ =>
  .op (.enqueueDma (M.a0.slice (Rect.unit (s := S1792x16384) ![0, 4096] S256x4096.size inb_S1792x16384_S256x4096_0_4096) (fun _ => rfl))
    (.here ((M.a7.slice (Rect.unit (s := S4x256x4096) ![1, 0, 0] S1x256x4096.size inb_S4x256x4096_S1x256x4096_1_0_0) (fun _ => rfl)).squeeze S256x4096 squeezes_S1x256x4096_S256x4096))
    (.dma ((M.a20.slice (Rect.unit (s := S4) ![1] S1.size inb_S4_S1_1)).squeeze S_ squeezes_S1_S_).sem)
    (M.h0.wordExact_slice rfl _ wordsbf16_S1792x16384_S256x4096_0_4096) ((M.h7.wordExact_slice rfl _ wordsbf16_S4x256x4096_S1x256x4096_1_0_0).reshape _ _) ⟨Or.inl rfl, trivial⟩) fun _ =>
  .op (.enqueueDma (M.a0.slice (Rect.unit (s := S1792x16384) ![0, 8192] S256x4096.size inb_S1792x16384_S256x4096_0_8192) (fun _ => rfl))
    (.here ((M.a7.slice (Rect.unit (s := S4x256x4096) ![2, 0, 0] S1x256x4096.size inb_S4x256x4096_S1x256x4096_2_0_0) (fun _ => rfl)).squeeze S256x4096 squeezes_S1x256x4096_S256x4096))
    (.dma ((M.a20.slice (Rect.unit (s := S4) ![2] S1.size inb_S4_S1_2)).squeeze S_ squeezes_S1_S_).sem)
    (M.h0.wordExact_slice rfl _ wordsbf16_S1792x16384_S256x4096_0_8192) ((M.h7.wordExact_slice rfl _ wordsbf16_S4x256x4096_S1x256x4096_2_0_0).reshape _ _) ⟨Or.inl rfl, trivial⟩) fun _ =>
  .op (.load M.a9 (Rect.unit (s := S256x256) ![0, 0] S256x256.size inb_S256x256_S256x256_0_0).toLoadRect (View.loadsAt_vmem h_S256x256)) fun _ =>
  .op (.store M.a9 (Rect.unit (s := S256x256) ![0, 0] S256x256.size inb_S256x256_S256x256_0_0) (shapeCast S256x256 permVec shapeCasts_S256x256_S256x256) Finset.univ (View.stores_vmem h_S256x256 (M.h9.storeExact_slice rfl _ packedbf16_S256x256_S256x256_0_0) (fun _ => rfl)) (.inl rfl)) fun _ =>
  .op (.load M.a16 (Rect.unit (s := S8x128) ![0, 0] S8x128.size inb_S8x128_S8x128_0_0).toLoadRect (View.loadsAt_vmem h_S8x128)) fun _ =>
  .op (.store M.a16 (Rect.unit (s := S8x128) ![0, 0] S8x128.size inb_S8x128_S8x128_0_0) (shapeCast S8x128 (broadcast S8x128 (Scalar.ofBits .f32 0x00000000#32)) shapeCasts_S8x128_S8x128) Finset.univ (View.stores_vmem_bits_univ h_S8x128 rfl) (.inl rfl)) fun _ =>
  k

/-- The mean of the scales. -/
def offV (x : Vec F S8x128 .f32) : F .f32 :=
  Scalar.divf (extractAt ![0, 0, 0] (shapeCast S1x1x1 (multiReduction .add [1, 2] S1 (shapeCast S1x8x128 x shapeCasts_S8x128_S1x8x128) 0x00000000#32 reduces_S1x8x128_S1 (.inl rfl) rfl) shapeCasts_S1_S1x1x1) inpos_S1x1x1_p0_0_0) (Scalar.ofBits .f32 0x48E00000#32)

/-- A row block's scales less their mean. -/
def cenV (off : F .f32) (raw : Vec F S1x256x256 .f32) : FVec F S256x256 .f32 :=
  subf (shapeCast S256x256 raw shapeCasts_S1x256x256_S256x256) (broadcast S256x256 off)

/-- The scales of the scales of a row block. -/
def s2V (off : F .f32) (raw : Vec F S1x256x256 .f32) : FVec F S1x256 .f32 :=
  divf (shapeCast S1x256 (multiReduction .maximumf [0] S256 (absf (cenV off raw)) 0xFF800000#32 reduces_S256x256_S256 (.inl rfl) rfl) shapeCasts_S256_S1x256) (broadcast S1x256 (Scalar.ofBits .f32 0x42FE0000#32))

/-- The codes of the scales of a row block. -/
def qV (off : F .f32) (raw : Vec F S1x256x256 .f32) : IVec S256x256 8 :=
  shapeCast S256x256 (transpose S256x256 [1, 0] (fptosi 8 (minimumf (broadcast S256x256 (Scalar.ofBits .f32 0x42FE0000#32)) (maximumf (broadcast S256x256 (Scalar.ofBits .f32 0xC2FE0000#32))
    (roundeven (mulf (cenV off raw) (broadcastTo S256x256 (shapeCast S1x256 (divf (broadcast S1x256 (Scalar.ofBits .f32 0x3F800000#32)) (s2V off raw)) shapeCasts_S1x256_S1x256) broadcasts_S1x256_S256x256)))))) transposes_S256x256_p1_0_S256x256) shapeCasts_S256x256_S256x256

theorem inb14 (i : ℕ) (hi : i < 7) : ∀ a, (![i, 0, 0] : Fin 3 → ℕ) a + S1x256x256.size a ≤ S7x256x256.size a := by
  match i, hi with
  | 0, _ => decide
  | 1, _ => decide
  | 2, _ => decide
  | 3, _ => decide
  | 4, _ => decide
  | 5, _ => decide
  | 6, _ => decide

theorem inb5 (i : ℕ) (hi : i < 7) : ∀ a, (![0, 256 * i] : Fin 2 → ℕ) a + S1x256.size a ≤ S1x1792.size a := by
  match i, hi with
  | 0, _ => decide
  | 1, _ => decide
  | 2, _ => decide
  | 3, _ => decide
  | 4, _ => decide
  | 5, _ => decide
  | 6, _ => decide

theorem inb19 (i : ℕ) (hi : i < 7) : ∀ a, (![256 * i, 0] : Fin 2 → ℕ) a + S256x256.size a ≤ S1792x256.size a := by
  match i, hi with
  | 0, _ => decide
  | 1, _ => decide
  | 2, _ => decide
  | 3, _ => decide
  | 4, _ => decide
  | 5, _ => decide
  | 6, _ => decide

theorem packed19 (i : ℕ) (hi : i < 7) : (Rect.unit (s := S1792x256) ![256 * i, 0] S256x256.size (inb19 i hi)).PackedRows (EltTy.packing .i8) := by
  match i, hi with
  | 0, _ => exact packedi8_S1792x256_S256x256_0_0
  | 1, _ => exact packedi8_S1792x256_S256x256_256_0
  | 2, _ => exact packedi8_S1792x256_S256x256_512_0
  | 3, _ => exact packedi8_S1792x256_S256x256_768_0
  | 4, _ => exact packedi8_S1792x256_S256x256_1024_0
  | 5, _ => exact packedi8_S1792x256_S256x256_1280_0
  | 6, _ => exact packedi8_S1792x256_S256x256_1536_0

/-- The second quantisation of row block `i`. -/
def epiBlk {α : Type} (M : Args) (off : F .f32) (i : ℕ) (hi : i < 7) (k : Prg F α) : Prg F α :=
  .op (.load M.a14 (Rect.unit (s := S7x256x256) ![i, 0, 0] S1x256x256.size (inb14 i hi)).toLoadRect (View.loadsAt_vmem h_S1x256x256)) fun raw =>
  .op (.load M.a5 (Rect.unit (s := S1x1792) ![0, 256 * i] S1x256.size (inb5 i hi)).toLoadRect (View.loadsAt_vmem h_S1x256)) fun _ =>
  .op (.store M.a5 (Rect.unit (s := S1x1792) ![0, 256 * i] S1x256.size (inb5 i hi)) (s2V off raw) Finset.univ (View.stores_vmem_bits_univ h_S1x256 rfl) (.inl rfl)) fun _ =>
  .op (.load M.a19 (Rect.unit (s := S1792x256) ![256 * i, 0] S256x256.size (inb19 i hi)).toLoadRect (View.loadsAt_vmem h_S256x256)) fun _ =>
  .op (.store M.a19 (Rect.unit (s := S1792x256) ![256 * i, 0] S256x256.size (inb19 i hi)) (qV off raw) Finset.univ (View.stores_vmem h_S256x256 (M.h19.storeExact_slice rfl _ (packed19 i hi)) (fun _ => rfl)) (.inl rfl)) fun _ =>
  k

/-- The end: the copy of the codes is started, and every copy under way is waited for. -/
def waits (M : Args) : Prg F PUnit :=
  .op (.enqueueDma M.a19 (.here M.a4) (.dma M.a24.sem) M.h19.wordExact M.h4.wordExact ⟨Or.inl rfl, trivial⟩) fun _ =>
  .op (.waitDma2 ((M.a21.slice (Rect.unit (s := S2) ![0] S1.size inb_S2_S1_0)).squeeze S_ squeezes_S1_S_).sem
    ((M.a8.slice (Rect.unit (s := S2x256x2048) ![0, 0, 0] S1x256x2048.size inb_S2x256x2048_S1x256x2048_0_0_0) (fun _ => rfl)).squeeze S256x2048 squeezes_S1x256x2048_S256x2048)
    (M.a1.slice (Rect.unit (s := S1792x8192) ![1536, 4096] S256x2048.size inb_S1792x8192_S256x2048_1536_4096) (fun _ => rfl))
    ((M.h8.wordExact_slice rfl _ wordsi8_S2x256x2048_S1x256x2048_0_0_0).reshape _ _) (M.h1.wordExact_slice rfl _ wordsi8_S1792x8192_S256x2048_1536_4096)) fun _ =>
  .op (.waitDma2 ((M.a21.slice (Rect.unit (s := S2) ![1] S1.size inb_S2_S1_1)).squeeze S_ squeezes_S1_S_).sem
    ((M.a8.slice (Rect.unit (s := S2x256x2048) ![1, 0, 0] S1x256x2048.size inb_S2x256x2048_S1x256x2048_1_0_0) (fun _ => rfl)).squeeze S256x2048 squeezes_S1x256x2048_S256x2048)
    (M.a1.slice (Rect.unit (s := S1792x8192) ![1536, 6144] S256x2048.size inb_S1792x8192_S256x2048_1536_6144) (fun _ => rfl))
    ((M.h8.wordExact_slice rfl _ wordsi8_S2x256x2048_S1x256x2048_1_0_0).reshape _ _) (M.h1.wordExact_slice rfl _ wordsi8_S1792x8192_S256x2048_1536_6144)) fun _ =>
  .op (.waitDma2 M.a22.sem M.a17 (M.a2.slice (Rect.unit (s := S1792x256) ![1536, 0] S256x256.size inb_S1792x256_S256x256_1536_0) (fun _ => rfl)) M.h17.wordExact (View.wordExact_bits rfl)) fun _ =>
  .op (.waitDma2 M.a23.sem M.a18 (M.a3.slice (Rect.unit (s := S1792x256) ![1536, 0] S256x256.size inb_S1792x256_S256x256_1536_0) (fun _ => rfl)) M.h18.wordExact (M.h3.wordExact_slice rfl _ wordsi8_S1792x256_S256x256_1536_0)) fun _ =>
  .op (.waitDma2 M.a24.sem M.a19 M.a4 M.h19.wordExact M.h4.wordExact) fun _ => .ret ⟨⟩

/-- The seven row blocks' second quantisation. -/
def epiBlks {α : Type} (M : Args) (off : F .f32) (k : Prg F α) : Prg F α :=
  epiBlk M off 0 (by decide) <| epiBlk M off 1 (by decide) <| epiBlk M off 2 (by decide) <| epiBlk M off 3 (by decide) <|
  epiBlk M off 4 (by decide) <| epiBlk M off 5 (by decide) <| epiBlk M off 6 (by decide) k

/-- What follows the loop. -/
def epilog (M : Args) : Prg F PUnit :=
  .op (.load M.a16 (Rect.unit (s := S8x128) ![0, 0] S8x128.size inb_S8x128_S8x128_0_0).toLoadRect (View.loadsAt_vmem h_S8x128)) fun x =>
  smemLoad M.a6 (Rect.unit (s := S1x1) ![0, 0] S1x1.size inb_S1x1_S1x1_0_0) numel1_S1x1 rfl >>= fun _ =>
  .op (.store M.a6 (Rect.unit (s := S1x1) ![0, 0] S1x1.size inb_S1x1_S1x1_0_0) (fun _ => offV x) Finset.univ (View.stores_smem_one rfl numel1_S1x1) (.inl rfl)) fun _ =>
  epiBlks M (offV x) (waits M)

/-- The first row block's share of what follows the loop, as printed. -/
def epiHead (M : Args) : Prg F (Σ' (v52 : F .f32) (v57 : FVec F S256x256 .f32) (v62 : FVec F S1x256 .f32), F .f32) :=
  .op (.load M.a16 (Rect.unit (s := S8x128) ![0, 0] S8x128.size inb_S8x128_S8x128_0_0).toLoadRect (View.loadsAt_vmem h_S8x128)) fun x =>
  smemLoad M.a6 (Rect.unit (s := S1x1) ![0, 0] S1x1.size inb_S1x1_S1x1_0_0) numel1_S1x1 rfl >>= fun _ =>
  .op (.store M.a6 (Rect.unit (s := S1x1) ![0, 0] S1x1.size inb_S1x1_S1x1_0_0) (fun _ => offV x) Finset.univ (View.stores_smem_one rfl numel1_S1x1) (.inl rfl)) fun _ =>
  .op (.load M.a14 (Rect.unit (s := S7x256x256) ![0, 0, 0] S1x256x256.size inb_S7x256x256_S1x256x256_0_0_0).toLoadRect (View.loadsAt_vmem h_S1x256x256)) fun raw =>
  .op (.load M.a5 (Rect.unit (s := S1x1792) ![0, 0] S1x256.size inb_S1x1792_S1x256_0_0).toLoadRect (View.loadsAt_vmem h_S1x256)) fun _ =>
  .op (.store M.a5 (Rect.unit (s := S1x1792) ![0, 0] S1x256.size inb_S1x1792_S1x256_0_0) (s2V (offV x) raw) Finset.univ (View.stores_vmem_bits_univ h_S1x256 rfl) (.inl rfl)) fun _ =>
  .ret ⟨offV x, cenV (offV x) raw, s2V (offV x) raw, Scalar.ofBits .f32 0x3F800000#32⟩

/-- The stores before the loop. -/
def proStores {α : Type} (M : Args) (v : FVec F S256x256 .bf16) (k : Prg F α) : Prg F α :=
  .op (.load M.a9 (Rect.unit (s := S256x256) ![0, 0] S256x256.size inb_S256x256_S256x256_0_0).toLoadRect (View.loadsAt_vmem h_S256x256)) fun _ =>
  .op (.store M.a9 (Rect.unit (s := S256x256) ![0, 0] S256x256.size inb_S256x256_S256x256_0_0) (shapeCast S256x256 v shapeCasts_S256x256_S256x256) Finset.univ (View.stores_vmem h_S256x256 (M.h9.storeExact_slice rfl _ packedbf16_S256x256_S256x256_0_0) (fun _ => rfl)) (.inl rfl)) fun _ =>
  .op (.load M.a16 (Rect.unit (s := S8x128) ![0, 0] S8x128.size inb_S8x128_S8x128_0_0).toLoadRect (View.loadsAt_vmem h_S8x128)) fun _ =>
  .op (.store M.a16 (Rect.unit (s := S8x128) ![0, 0] S8x128.size inb_S8x128_S8x128_0_0) (shapeCast S8x128 (broadcast S8x128 (Scalar.ofBits .f32 0x00000000#32)) shapeCasts_S8x128_S8x128) Finset.univ (View.stores_vmem_bits_univ h_S8x128 rfl) (.inl rfl)) fun _ =>
  k

theorem part270_eq (M : Args) (v22 v33 : IVec S256x256 32) : k0_part270 (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v22 v33
    = proStores M (truncf .bf16 (select (cmpi .eq v22 v33) (broadcast S256x256 (Scalar.ofBits .f32 0x3F800000#32)) (broadcast S256x256 (Scalar.ofBits .f32 0x00000000#32))) bitsLt_bf16_f32)
        (Scf.Loop.for k0_t1_loop k0_t1_ok ⟨⟩ (fun t _ => pbody M t) >>= fun _ => epiHead M) := rfl

/-- The rest of the kernel, as printed. -/
def epiRest (M : Args) : (Σ' (v52 : F .f32) (v57 : FVec F S256x256 .f32) (v62 : FVec F S1x256 .f32), F .f32) → Prg F PUnit := fun ⟨v52, v57, v62, cst_38⟩ => do
  k0_part271 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52 v57 v62 cst_38
  let ⟨v132, v141⟩ : Σ' (v132 : FVec F S256x256 .f32), FVec F S1x256 .f32 ← k0_part272 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52
  let v179 : Vec F S1x256x256 .f32 ← k0_part273 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52 v132 v141
  let v219 : FVec F S256x256 .f32 ← k0_part274 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52 v179
  have cst_99 : F .f32 := Scalar.ofBits .f32 0xC2FE0000#32
  have cst_100 : F .f32 := Scalar.ofBits .f32 0x42FE0000#32
  have v220 : FVec F S256x256 .f32 := broadcast S256x256 cst_99
  have v221 : FVec F S256x256 .f32 := maximumf v220 v219
  have v222 : FVec F S256x256 .f32 := broadcast S256x256 cst_100
  have v223 : FVec F S256x256 .f32 := minimumf v222 v221
  have v224 : IVec S256x256 8 := fptosi 8 v223
  have v225 : IVec S256x256 8 := transpose S256x256 [1, 0] v224 transposes_S256x256_p1_0_S256x256
  let c1536_101 : Index := 1536#32
  let c0_102 : Index := 0#32
  let v226 : Vec F S256x256 .i8 ← Prog.lift (.load M.a19 (Rect.unit (s := S1792x256) ![1536, 0] S256x256.size inb_S1792x256_S256x256_1536_0).toLoadRect (View.loadsAt_vmem h_S256x256))
  have v227 : IVec S256x256 8 := shapeCast S256x256 v226 shapeCasts_S256x256_S256x256
  have v228 : IVec S256x256 8 := shapeCast S256x256 v225 shapeCasts_S256x256_S256x256
  Prog.lift (.store M.a19 (Rect.unit (s := S1792x256) ![1536, 0] S256x256.size inb_S1792x256_S256x256_1536_0) v228 Finset.univ (View.stores_vmem h_S256x256 (M.h19.storeExact_slice rfl _ packedi8_S1792x256_S256x256_1536_0) (fun _ => rfl)) (.inl rfl))
  Prog.lift (.enqueueDma M.a19 (.here M.a4) (.dma M.a24.sem) M.h19.wordExact M.h4.wordExact ⟨Or.inl rfl, trivial⟩)
  let c1536_i32 : BitVec 32 := 1536#32
  let v229 : BitVec 32 := c1536_i32
  let c4096_i32_103 : BitVec 32 := 4096#32
  let v230 : BitVec 32 := c4096_i32_103
  let c0_i32_104 : BitVec 32 := 0#32
  let c0_i32_105 : BitVec 32 := 0#32
  let v231 : DmaSems sig S1 := M.a21.slice (Rect.unit (s := S2) ![0] S1.size inb_S2_S1_0)
  let v232 : DmaSems sig S_ := v231.squeeze S_ squeezes_S1_S_
  let v233 : Memref sig .tc .hbm S256x2048 .i8 := M.a1.slice (Rect.unit (s := S1792x8192) ![1536, 4096] S256x2048.size inb_S1792x8192_S256x2048_1536_4096) (fun _ => rfl)
  let c0_i32_106 : BitVec 32 := 0#32
  let c0_i32_107 : BitVec 32 := 0#32
  let v234 : Memref sig .tc .vmem S1x256x2048 .i8 := M.a8.slice (Rect.unit (s := S2x256x2048) ![0, 0, 0] S1x256x2048.size inb_S2x256x2048_S1x256x2048_0_0_0) (fun _ => rfl)
  let v235 : Memref sig .tc .vmem S256x2048 .i8 := v234.squeeze S256x2048 squeezes_S1x256x2048_S256x2048
  Prog.lift (.waitDma2 v232.sem v235 v233 ((M.h8.wordExact_slice rfl _ wordsi8_S2x256x2048_S1x256x2048_0_0_0).reshape _ _) (M.h1.wordExact_slice rfl _ wordsi8_S1792x8192_S256x2048_1536_4096))
  let c1536_i32_108 : BitVec 32 := 1536#32
  let v236 : BitVec 32 := c1536_i32_108
  let c6144_i32 : BitVec 32 := 6144#32
  let v237 : BitVec 32 := c6144_i32
  let c1_i32_109 : BitVec 32 := 1#32
  let c1_i32_110 : BitVec 32 := 1#32
  let v238 : DmaSems sig S1 := M.a21.slice (Rect.unit (s := S2) ![1] S1.size inb_S2_S1_1)
  let v239 : DmaSems sig S_ := v238.squeeze S_ squeezes_S1_S_
  let v240 : Memref sig .tc .hbm S256x2048 .i8 := M.a1.slice (Rect.unit (s := S1792x8192) ![1536, 6144] S256x2048.size inb_S1792x8192_S256x2048_1536_6144) (fun _ => rfl)
  let c0_i32_111 : BitVec 32 := 0#32
  let c0_i32_112 : BitVec 32 := 0#32
  let v241 : Memref sig .tc .vmem S1x256x2048 .i8 := M.a8.slice (Rect.unit (s := S2x256x2048) ![1, 0, 0] S1x256x2048.size inb_S2x256x2048_S1x256x2048_1_0_0) (fun _ => rfl)
  let v242 : Memref sig .tc .vmem S256x2048 .i8 := v241.squeeze S256x2048 squeezes_S1x256x2048_S256x2048
  Prog.lift (.waitDma2 v239.sem v242 v240 ((M.h8.wordExact_slice rfl _ wordsi8_S2x256x2048_S1x256x2048_1_0_0).reshape _ _) (M.h1.wordExact_slice rfl _ wordsi8_S1792x8192_S256x2048_1536_6144))
  let c1536_i32_113 : BitVec 32 := 1536#32
  let v243 : BitVec 32 := c1536_i32_113
  let c0_i32_114 : BitVec 32 := 0#32
  let v244 : Memref sig .tc .hbm S256x256 .f32 := M.a2.slice (Rect.unit (s := S1792x256) ![1536, 0] S256x256.size inb_S1792x256_S256x256_1536_0) (fun _ => rfl)
  Prog.lift (.waitDma2 M.a22.sem M.a17 v244 M.h17.wordExact (View.wordExact_bits rfl))
  let c1536_i32_115 : BitVec 32 := 1536#32
  let v245 : BitVec 32 := c1536_i32_115
  let c0_i32_116 : BitVec 32 := 0#32
  let v246 : Memref sig .tc .hbm S256x256 .i8 := M.a3.slice (Rect.unit (s := S1792x256) ![1536, 0] S256x256.size inb_S1792x256_S256x256_1536_0) (fun _ => rfl)
  Prog.lift (.waitDma2 M.a23.sem M.a18 v246 M.h18.wordExact (M.h3.wordExact_slice rfl _ wordsi8_S1792x256_S256x256_1536_0))
  Prog.lift (.waitDma2 M.a24.sem M.a19 M.a4 M.h19.wordExact M.h4.wordExact)
  pure ⟨⟩

/-- The kernel's body is its loop between what precedes and what follows it. -/
theorem kernel_eq (M : Args) : cc0_asym4_double_quant (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24
    = prolog M (Scf.Loop.for k0_t1_loop k0_t1_ok ⟨⟩ (fun t _ => pbody M t) >>= fun _ => epilog M) := by
  have e : cc0_asym4_double_quant (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24
      = prolog M (((Scf.Loop.for k0_t1_loop k0_t1_ok ⟨⟩ (fun t _ => pbody M t) >>= fun _ => epiHead M) >>= epiRest M) >>= fun _ => .ret ⟨⟩) := by
    unfold cc0_asym4_double_quant k0_part275
    simp only [part270_eq]
    rfl
  rw [e, Prog.bind_assoc, Prog.bind_assoc]
  rfl

end Cert.KernelIdeal.Stage
-- ==== Proof.Copies.lean ====
module

public import proofs.«01_k».proof.Proof.Trip
public import proofs.«01_k».proof.Proof.Body

@[expose] public section

/-! The kernel's copies, by the values that source and destination hold. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

/-- A copy under way on the semaphore `sem`, which delivers `D`. -/
abbrev fl (sem : DmaSem sig) (N : ℕ) (D : sProp 𝕄) : sProp 𝕄 :=
  Transfers.Flight countersEmb (c : Thread nD τ) (.dma sem) () N D

/-- The semaphore `sem` stands at zero. -/
abbrev idle (sem : DmaSem sig) : sProp 𝕄 := semVal ((c : Thread nD τ), SemLoc.dma sem) 0

/-- The record of the waits so far, whatever they are. -/
def owesAny : sProp 𝕄 := iprop(∃ W : Waits sig Unit, owes (c : Thread nD τ) 0 W)

/-- Starting a copy: it delivers the source's values at the destination, and the source back. -/
theorem enq_w {sp sp' : Space} {s : Shape} {e : EltTy} {src src' : Memref sig .tc sp s e} {dst dst' : Memref sig .tc sp' s e}
    {sem sem' : DmaSem sig} {h1 h2 h3} {k : PUnit → PrgI α} {N : ℕ} {v x : s.Idx → Elt Ideal e}
    (hs : src = src') (hd : dst = dst') (hm : sem = sem') (hn : 0 < s.numel) (hN : dst'.view.dmaCredit = N) :
    iprop(holds c src' Finset.univ v ∗ holds c dst' Finset.univ x ∗ idle c sem')
      ⊢ iprop((fl c sem' N iprop(holds c dst' Finset.univ v ∗ holds c src' Finset.univ v) -∗ runs c (k ⟨⟩) Q)
        -∗ runs c (.op (.enqueueDma src (.here dst) (.dma sem) h1 h2 h3) k) Q) := by
  subst hs hd hm hN
  have hw : (dst.view.loc (c : Thread nD τ) ↦[dst.view.setOn Finset.univ]{fullShare} dst.view.write (Elt Ideal) (dst.view.rep x) (ReadAs.same.apply (src.view.read (Elt Ideal) (src.view.rep v))) Finset.univ : sProp 𝕄)
      = holds c dst Finset.univ v := by
    unfold holds
    refine pointsTo_congr fun i hi => ?_
    obtain ⟨j, hj, rfl⟩ := Finset.mem_map.1 hi
    rw [View.write_emb_of_mem _ _ (Finset.mem_univ _), View.rep_emb, View.read_rep]
  have h := Transfers.wp_dmaLocal (defs := defs₀ (F := Ideal)) (Q := Q) countersEmb 𝒱₀ (c : Thread nD τ) none (via := .same) (src := src) (dst := dst) (sm := .dma sem) (q := fullShare) (fs := src.view.rep v)
    (Sd := dst.view.setOn Finset.univ) (fd := dst.view.rep x) (hsrc := h1) (hdst := h2) (hsem := h3) (k := k) () dst.view.dmaCredit rfl (View.dmaCredit_pos _ hn) (Finset.Subset.refl _)
  rw [hw] at h
  exact h

/-- Waiting for a copy under way: what it delivers is there, and its semaphore stands at zero. -/
theorem wait_w {sp sp' : Space} {s s' : Shape} {e e' : EltTy} {src : Memref sig .tc sp s e} {dst : Memref sig .tc sp' s' e'}
    {sem sem' : DmaSem sig} {h1 h2} {k : PUnit → PrgI α} {N : ℕ} {D : sProp 𝕄}
    (hm : sem = sem') (hN : dst.view.dmaCredit = N) :
    iprop(fl c sem' N D ∗ owesAny c)
      ⊢ iprop((iprop(D ∗ idle c sem' ∗ owesAny c) -∗ runs c (k ⟨⟩) Q)
        -∗ runs c (.op (.waitDma2 sem src dst h1 h2) k) Q) := by
  subst hm
  unfold owesAny
  iintro ⟨Hf, %W, HW⟩ Hk
  iapply (Transfers.wp_waitLocal countersEmb 𝒱₀ (c : Thread nD τ) none () hN (D := D) (W := W)) $$ [Hf HW]
  · isplitl [Hf]; · iexact Hf
    iexact HW
  iintro ⟨HD, Hs, HW⟩
  iapply Hk
  isplitl [HD]; · iexact HD
  isplitl [Hs]; · iexact Hs
  iexists _
  iexact HW

/-! Parts of buffers. -/

theorem holds_slice {cs : Space} {s : Shape} {e : EltTy} {m : Memref sig .tc cs s e} {r : Rect s} {h}
    {v : r.shape.Idx → Elt Ideal e} {x : s.Idx → Elt Ideal e} (hv : ∀ y, v y = x (r.emb y)) :
    holds c (m.slice r h) Finset.univ v = holds c m r.set x := by
  have hs : (m.slice r h).view.setOn Finset.univ = m.view.setOn r.set := View.set_slice m.view r
  unfold holds
  rw [hs]
  refine pointsTo_congr (ℓ := m.view.loc (c : Thread nD τ)) fun i hi => ?_
  obtain ⟨j, hj, rfl⟩ := Finset.mem_map.1 hi
  rw [← Rect.map_emb_univ] at hj
  obtain ⟨y, hy, rfl⟩ := Finset.mem_map.1 hj
  exact ((View.rep_emb (m.slice r h).view v y).trans (congrArg (_root_.cast _) (hv y))).trans (View.rep_emb m.view x _).symm

theorem holds_squeeze {cs : Space} {s s' : Shape} {e : EltTy} {m : Memref sig .tc cs s e} {h : s.Squeezes s'}
    {v : s'.Idx → Elt Ideal e} {x : s.Idx → Elt Ideal e} (hv : ∀ y, v y = x (Shape.reshapeEquiv h.numel_eq y)) :
    holds c (m.squeeze s' h) Finset.univ v = holds c m Finset.univ x := by
  have hs : (m.squeeze s' h).view.setOn Finset.univ = m.view.setOn Finset.univ := View.set_reshape _ _
  unfold holds
  rw [hs]
  refine pointsTo_congr (ℓ := m.view.loc (c : Thread nD τ)) fun i hi => ?_
  obtain ⟨j, hj, rfl⟩ := Finset.mem_map.1 hi
  obtain ⟨y, rfl⟩ := (Shape.reshapeEquiv h.numel_eq).surjective j
  exact ((View.rep_emb (m.squeeze s' h).view v y).trans (congrArg (_root_.cast _) (hv y))).trans (View.rep_emb m.view x _).symm

/-! A ring of blocks: the first `lo` are done, those below `hi` are under way, the others are yet to come. -/

theorem emp_sep_eq {P : sProp 𝕄} : iprop(emp ∗ P) = P := equiv_iff.mp BI.emp_sep

def band (n : ℕ) (A B : ℕ → sProp 𝕄) (lo hi : ℕ) : sProp 𝕄 :=
  bigSep (Finset.range n) fun u => if u < lo then A u else if u < hi then iprop(emp) else B u

theorem band_hi {n : ℕ} {A B : ℕ → sProp 𝕄} {lo hi : ℕ} (h : lo ≤ hi) (hn : hi < n) :
    band n A B lo hi = iprop(B hi ∗ band n A B lo (hi + 1)) := by
  unfold band
  rw [bigSep_erase (Finset.mem_range.2 hn), bigSep_erase (i := hi) (s := Finset.range n) (Finset.mem_range.2 hn),
    if_neg (by omega), if_neg (by omega), if_neg (by omega), if_pos (by omega), bigSep_congr (s := (Finset.range n).erase hi) (Ψ := fun u => if u < lo then A u else if u < hi + 1 then iprop(emp) else B u)]
  · exact (congrArg (BI.sep (B hi)) emp_sep_eq).symm
  · intro u hu
    have h1 := (Finset.mem_erase.1 hu).1
    split_ifs <;> first | rfl | omega

theorem band_lo {n : ℕ} {A B : ℕ → sProp 𝕄} {lo hi : ℕ} (h : lo < hi) (hn : lo < n) :
    band n A B (lo + 1) hi = iprop(A lo ∗ band n A B lo hi) := by
  unfold band
  rw [bigSep_erase (Finset.mem_range.2 hn), bigSep_erase (i := lo) (s := Finset.range n) (Finset.mem_range.2 hn),
    if_pos (by omega), if_neg (by omega), if_pos (by omega), bigSep_congr (s := (Finset.range n).erase lo) (Ψ := fun u => if u < lo then A u else if u < hi then iprop(emp) else B u)]
  · exact (congrArg (BI.sep (A lo)) emp_sep_eq).symm
  · intro u hu
    have h1 := (Finset.mem_erase.1 hu).1
    split_ifs <;> first | rfl | omega

theorem band_out {n : ℕ} {A B : ℕ → sProp 𝕄} {lo hi hi' : ℕ} (h : n ≤ hi) (h' : n ≤ hi') :
    band n A B lo hi = band n A B lo hi' := by
  unfold band
  refine bigSep_congr fun u hu => ?_
  have := Finset.mem_range.1 hu
  split_ifs <;> first | rfl | omega

theorem band_zero {n : ℕ} {A B : ℕ → sProp 𝕄} : band n A B 0 0 = bigSep (Finset.range n) B := by
  unfold band
  exact bigSep_congr fun u hu => by simp

theorem band_all {n : ℕ} {A B : ℕ → sProp 𝕄} {lo hi : ℕ} (h : n ≤ lo) : band n A B lo hi = bigSep (Finset.range n) A := by
  unfold band
  exact bigSep_congr fun u hu => by rw [if_pos (by have := Finset.mem_range.1 hu; omega)]

end Cert.KernelIdeal.Stage
-- ==== Proof.Pieces.lean ====
module

public import proofs.«01_k».proof.Proof.Copies
public import Idealize.ShloMosaic.Lib.ValueLayout

@[expose] public section

/-! The slots, blocks and semaphores that the copies go between, and what they hold. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

/-! Offsets in closed form. -/

theorem cond1_iff : ∀ t : Fin k0_t1_loop.trips, k0_cond1 t = 1#1 ↔ t.val + 3 < 28 := by decide +kernel
theorem cond2_iff : ∀ t : Fin k0_t1_loop.trips, k0_cond2 t = 1#1 ↔ 2 ≤ t.val := by decide +kernel
theorem cond3_iff : ∀ t : Fin k0_t1_loop.trips, k0_cond3 t = 1#1 ↔ t.val % 4 = 3 := by decide +kernel
theorem cond4_iff : ∀ t : Fin k0_t1_loop.trips, k0_cond4 t = 1#1 ↔ 1 ≤ t.val / 4 := by decide +kernel
theorem off1_eq : ∀ t : Fin k0_t1_loop.trips, t.val + 3 < 28 → k0_off1 t = ![(t.val + 3) % 4] := by decide +kernel
theorem off2_eq : ∀ t : Fin k0_t1_loop.trips, t.val + 3 < 28 → k0_off2 t = ![(t.val + 3) % 4, 0, 0] := by decide +kernel
theorem off3_eq : ∀ t : Fin k0_t1_loop.trips, t.val + 3 < 28 → k0_off3 t = ![256 * ((t.val + 3) / 4 % 7), 4096 * ((t.val + 3) % 4)] := by decide +kernel
theorem off4_eq : ∀ t : Fin k0_t1_loop.trips, 2 ≤ t.val → k0_off4 t = ![t.val % 2] := by decide +kernel
theorem off7_eq : ∀ t : Fin k0_t1_loop.trips, k0_off7 t = ![t.val % 4] := by decide +kernel
theorem off54_eq : ∀ t : Fin k0_t1_loop.trips, k0_off54 t = ![t.val % 2] := by decide +kernel
theorem off55_eq : ∀ t : Fin k0_t1_loop.trips, k0_off55 t = ![256 * (t.val / 4 % 7), 2048 * (t.val % 4)] := by decide +kernel
theorem off56_eq : ∀ t : Fin k0_t1_loop.trips, k0_off56 t = ![t.val % 2, 0, 0] := by decide +kernel
theorem off58_eq : ∀ t : Fin k0_t1_loop.trips, t.val % 4 = 3 → k0_off58 t = ![t.val / 4, 0, 0] := by decide +kernel
theorem off59_eq : ∀ t : Fin k0_t1_loop.trips, t.val % 4 = 3 → k0_off59 t = ![256 * (t.val / 4 % 7), 0] := by decide +kernel

/-! The pieces. -/

theorem in4 (q : ℕ) : ∀ a, (![q % 4] : Fin 1 → ℕ) a + S1.size a ≤ S4.size a := by
  intro a; match a with
  | ⟨0, _⟩ => show q % 4 + 1 ≤ 4; omega
theorem in2 (q : ℕ) : ∀ a, (![q % 2] : Fin 1 → ℕ) a + S1.size a ≤ S2.size a := by
  intro a; match a with
  | ⟨0, _⟩ => show q % 2 + 1 ≤ 2; omega
theorem inSlot4 (q : ℕ) : ∀ a, (![q % 4, 0, 0] : Fin 3 → ℕ) a + S1x256x4096.size a ≤ S4x256x4096.size a := by
  intro a; match a with
  | ⟨0, _⟩ => show q % 4 + 1 ≤ 4; omega
  | ⟨1, _⟩ => exact Nat.le_refl 256
  | ⟨2, _⟩ => exact Nat.le_refl 4096
theorem inSlot2 (q : ℕ) : ∀ a, (![q % 2, 0, 0] : Fin 3 → ℕ) a + S1x256x2048.size a ≤ S2x256x2048.size a := by
  intro a; match a with
  | ⟨0, _⟩ => show q % 2 + 1 ≤ 2; omega
  | ⟨1, _⟩ => exact Nat.le_refl 256
  | ⟨2, _⟩ => exact Nat.le_refl 2048
theorem inW (u : ℕ) : ∀ a, (![256 * (u / 4 % 7), 4096 * (u % 4)] : Fin 2 → ℕ) a + S256x4096.size a ≤ S1792x16384.size a := by
  intro a; match a with
  | ⟨0, _⟩ => show 256 * (u / 4 % 7) + 256 ≤ 1792; omega
  | ⟨1, _⟩ => show 4096 * (u % 4) + 4096 ≤ 16384; omega
theorem inPk (u : ℕ) : ∀ a, (![256 * (u / 4 % 7), 2048 * (u % 4)] : Fin 2 → ℕ) a + S256x2048.size a ≤ S1792x8192.size a := by
  intro a; match a with
  | ⟨0, _⟩ => show 256 * (u / 4 % 7) + 256 ≤ 1792; omega
  | ⟨1, _⟩ => show 2048 * (u % 4) + 2048 ≤ 8192; omega
theorem inRow (b : ℕ) : ∀ a, (![256 * (b % 7), 0] : Fin 2 → ℕ) a + S256x256.size a ≤ S1792x256.size a := by
  intro a; match a with
  | ⟨0, _⟩ => show 256 * (b % 7) + 256 ≤ 1792; omega
  | ⟨1, _⟩ => exact Nat.le_refl 256

/-- Unit `u`'s semaphore, slot and block of the weights. -/
abbrev inSm (M : Args) (u : ℕ) : DmaSem sig := ((M.a20.slice (Rect.unit (s := S4) ![u % 4] S1.size (in4 u))).squeeze S_ squeezes_S1_S_).sem
abbrev inSl (M : Args) (u : ℕ) : Memref sig .tc .vmem S256x4096 .bf16 :=
  (M.a7.slice (Rect.unit (s := S4x256x4096) ![u % 4, 0, 0] S1x256x4096.size (inSlot4 u)) (fun _ => rfl)).squeeze S256x4096 squeezes_S1x256x4096_S256x4096
abbrev wSl (M : Args) (u : ℕ) : Memref sig .tc .hbm S256x4096 .bf16 :=
  M.a0.slice (Rect.unit (s := S1792x16384) ![256 * (u / 4 % 7), 4096 * (u % 4)] S256x4096.size (inW u)) (fun _ => rfl)
/-- Unit `u`'s semaphore, slot and block of the packed codes. -/
abbrev outSm (M : Args) (u : ℕ) : DmaSem sig := ((M.a21.slice (Rect.unit (s := S2) ![u % 2] S1.size (in2 u))).squeeze S_ squeezes_S1_S_).sem
abbrev outSl (M : Args) (u : ℕ) : Memref sig .tc .vmem S256x2048 .i8 :=
  (M.a8.slice (Rect.unit (s := S2x256x2048) ![u % 2, 0, 0] S1x256x2048.size (inSlot2 u)) (fun _ => rfl)).squeeze S256x2048 squeezes_S1x256x2048_S256x2048
abbrev pkSl (M : Args) (u : ℕ) : Memref sig .tc .hbm S256x2048 .i8 :=
  M.a1.slice (Rect.unit (s := S1792x8192) ![256 * (u / 4 % 7), 2048 * (u % 4)] S256x2048.size (inPk u)) (fun _ => rfl)
/-- Row block `b` of the scales and of the zero points. -/
abbrev scSl (M : Args) (b : ℕ) : Memref sig .tc .hbm S256x256 .f32 :=
  M.a2.slice (Rect.unit (s := S1792x256) ![256 * (b % 7), 0] S256x256.size (inRow b)) (fun _ => rfl)
abbrev zSl (M : Args) (b : ℕ) : Memref sig .tc .hbm S256x256 .i8 :=
  M.a3.slice (Rect.unit (s := S1792x256) ![256 * (b % 7), 0] S256x256.size (inRow b)) (fun _ => rfl)

theorem inSm_eq {M : Args} {o : Fin 1 → ℕ} {h} (u : ℕ) (e : o = ![u % 4]) :
    ((M.a20.slice (Rect.unit (s := S4) o S1.size h)).squeeze S_ squeezes_S1_S_).sem = inSm M u := by subst e; rfl
theorem outSm_eq {M : Args} {o : Fin 1 → ℕ} {h} (u : ℕ) (e : o = ![u % 2]) :
    ((M.a21.slice (Rect.unit (s := S2) o S1.size h)).squeeze S_ squeezes_S1_S_).sem = outSm M u := by subst e; rfl
theorem inSl_eq {M : Args} {o : Fin 3 → ℕ} {h} (u : ℕ) (e : o = ![u % 4, 0, 0]) :
    (M.a7.slice (Rect.unit (s := S4x256x4096) o S1x256x4096.size h) (fun _ => rfl)).squeeze S256x4096 squeezes_S1x256x4096_S256x4096 = inSl M u := by subst e; rfl
theorem outSl_eq {M : Args} {o : Fin 3 → ℕ} {h} (u : ℕ) (e : o = ![u % 2, 0, 0]) :
    (M.a8.slice (Rect.unit (s := S2x256x2048) o S1x256x2048.size h) (fun _ => rfl)).squeeze S256x2048 squeezes_S1x256x2048_S256x2048 = outSl M u := by subst e; rfl
theorem wSl_eq {M : Args} {o : Fin 2 → ℕ} {h} (u : ℕ) (e : o = ![256 * (u / 4 % 7), 4096 * (u % 4)]) :
    M.a0.slice (Rect.unit (s := S1792x16384) o S256x4096.size h) (fun _ => rfl) = wSl M u := by subst e; rfl
theorem pkSl_eq {M : Args} {o : Fin 2 → ℕ} {h} (u : ℕ) (e : o = ![256 * (u / 4 % 7), 2048 * (u % 4)]) :
    M.a1.slice (Rect.unit (s := S1792x8192) o S256x2048.size h) (fun _ => rfl) = pkSl M u := by subst e; rfl
theorem scSl_eq {M : Args} {o : Fin 2 → ℕ} {h} (b : ℕ) (e : o = ![256 * (b % 7), 0]) :
    M.a2.slice (Rect.unit (s := S1792x256) o S256x256.size h) (fun _ => rfl) = scSl M b := by subst e; rfl
theorem zSl_eq {M : Args} {o : Fin 2 → ℕ} {h} (b : ℕ) (e : o = ![256 * (b % 7), 0]) :
    M.a3.slice (Rect.unit (s := S1792x256) o S256x256.size h) (fun _ => rfl) = zSl M b := by subst e; rfl

/-! What the blocks hold. -/

/-- Unit `u` of the weights. -/
def wU (W : ℕ → ℕ → EReal) (u : ℕ) (y : S256x4096.Idx) : Elt Ideal .bf16 := W (256 * (u / 4) + (y 0).val) (4096 * (u % 4) + (y 1).val)
/-- Unit `u` of the packed codes. -/
def bU (W : ℕ → ℕ → EReal) (u : ℕ) (y : S256x2048.Idx) : Elt Ideal .i8 := byteAt W (256 * (u / 4) + (y 0).val) (2048 * (u % 4) + (y 1).val)
/-- Row block `b` of the scales. -/
def scU (W : ℕ → ℕ → EReal) (b : ℕ) (y : S256x256.Idx) : Elt Ideal .f32 := SG W (256 * b + (y 0).val) (y 1).val
/-- A zero point as a byte. -/
def zByte (z : EReal) : BitVec 8 := (Ideal.fptosi 32 z).setWidth 8
/-- Row block `b` of the zero points. -/
def zU (W : ℕ → ℕ → EReal) (b : ℕ) (y : S256x256.Idx) : Elt Ideal .i8 := zByte (ZP W (256 * b + (y 0).val) (y 1).val)

theorem holds_blocks {cs : Space} {s : Shape} {e : EltTy} {m : Memref sig .tc cs s e} {x : s.Idx → Elt Ideal e} (n : ℕ) (K : ℕ → Finset s.Idx)
    (hd : ∀ u < n, ∀ u' < n, ∀ y, y ∈ K u → y ∈ K u' → u = u') (hc : ∀ y, ∃ u < n, y ∈ K u) :
    holds c m Finset.univ x = bigSep (Finset.range n) fun u => holds c m (K u) x := by
  have h := pointsTo_biUnion (nD := nD) (τ := τ) (sig := sig) (Ix := Unit) (Val := Elt Ideal) (Name := ℕ) (U := UU nD τ) (Lvl := ℕ) (ℓ := m.view.loc (c : Thread nD τ)) (q := fullShare) (f := m.view.rep x) (Finset.range n) (fun u => m.view.setOn (K u)) (by
    intro u hu u' hu' hne
    rw [Finset.disjoint_left]
    intro i hi hi'
    obtain ⟨j, hj, rfl⟩ := Finset.mem_map.1 hi
    obtain ⟨j', hj', e⟩ := Finset.mem_map.1 hi'
    obtain rfl := m.view.emb.injective e
    exact hne (hd u (Finset.mem_range.1 hu) u' (Finset.mem_range.1 hu') _ hj hj'))
  unfold holds
  rw [← h]
  congr 1
  ext i
  constructor
  · intro hi
    obtain ⟨j, hj, rfl⟩ := Finset.mem_map.1 hi
    obtain ⟨u, hu, hy⟩ := hc j
    exact Finset.mem_biUnion.2 ⟨u, Finset.mem_range.2 hu, Finset.mem_map_of_mem _ hy⟩
  · intro hi
    obtain ⟨u, hu, hy⟩ := Finset.mem_biUnion.1 hi
    obtain ⟨j, hj, rfl⟩ := Finset.mem_map.1 hy
    exact Finset.mem_map_of_mem _ (Finset.mem_univ _)

theorem in_eq {M : Args} (q : ℕ) {v : S256x4096.Idx → Elt Ideal .bf16} {x : S4x256x4096.Idx → Elt Ideal .bf16}
    (h : ∀ y : S4x256x4096.Idx, (y 0).val = q % 4 → v (ix2 (n0 := 256) (n1 := 4096) (y 1) (y 2)) = x y) :
    holds c (inSl M q) Finset.univ v = holds c M.a7 (S7 (q % 4)) x := by
  have hs : (Rect.unit (s := S4x256x4096) ![q % 4, 0, 0] S1x256x4096.size (inSlot4 q)).set = S7 (q % 4) := by
    ext y
    rw [Rect.mem_set_unit]
    unfold S7
    rw [Finset.mem_filter]
    constructor
    · intro hy
      have := hy 0
      exact ⟨Finset.mem_univ _, by have h0 : q % 4 ≤ (y 0).val ∧ (y 0).val < q % 4 + 1 := hy 0; omega⟩
    · rintro ⟨-, hy⟩ a
      match a with
      | ⟨0, _⟩ => exact ⟨Nat.le_of_eq hy.symm, Nat.lt_succ_of_le (Nat.le_of_eq hy)⟩
      | ⟨1, _⟩ => exact ⟨Nat.zero_le _, Nat.lt_of_lt_of_eq (y 1).isLt (Nat.zero_add 256).symm⟩
      | ⟨2, _⟩ => exact ⟨Nat.zero_le _, Nat.lt_of_lt_of_eq (y 2).isLt (Nat.zero_add 4096).symm⟩
  rw [← hs, ← holds_slice c (h := fun _ => rfl) (v := fun z => x ((Rect.unit (s := S4x256x4096) ![q % 4, 0, 0] S1x256x4096.size (inSlot4 q)).emb z)) (fun _ => rfl)]
  refine holds_squeeze c fun y => ?_
  have e : Shape.reshapeEquiv squeezes_S1x256x4096_S256x4096.numel_eq y = ix3 (⟨0, Nat.one_pos⟩ : Fin 1) (y 0) (y 1) :=
    (congrArg _ (eq_ix2 y)).trans (reshapeEquiv_ix2_1ab _ (y 0) (y 1))
  rw [e]
  refine Eq.trans (congrArg v ?_) (h _ (Nat.add_zero _))
  funext a
  match a with
  | ⟨0, _⟩ => exact Fin.ext (show (y 0).val = 0 + 1 * (y 0).val by omega)
  | ⟨1, _⟩ => exact Fin.ext (show (y 1).val = 0 + 1 * (y 1).val by omega)

theorem out_eq {M : Args} (q : ℕ) {v : S256x2048.Idx → Elt Ideal .i8} {x : S2x256x2048.Idx → Elt Ideal .i8}
    (h : ∀ y : S2x256x2048.Idx, (y 0).val = q % 2 → v (ix2 (n0 := 256) (n1 := 2048) (y 1) (y 2)) = x y) :
    holds c (outSl M q) Finset.univ v = holds c M.a8 (S8 (q % 2)) x := by
  have hs : (Rect.unit (s := S2x256x2048) ![q % 2, 0, 0] S1x256x2048.size (inSlot2 q)).set = S8 (q % 2) := by
    ext y
    rw [Rect.mem_set_unit]
    unfold S8
    rw [Finset.mem_filter]
    constructor
    · intro hy
      have := hy 0
      exact ⟨Finset.mem_univ _, by have h0 : q % 2 ≤ (y 0).val ∧ (y 0).val < q % 2 + 1 := hy 0; omega⟩
    · rintro ⟨-, hy⟩ a
      match a with
      | ⟨0, _⟩ => exact ⟨Nat.le_of_eq hy.symm, Nat.lt_succ_of_le (Nat.le_of_eq hy)⟩
      | ⟨1, _⟩ => exact ⟨Nat.zero_le _, Nat.lt_of_lt_of_eq (y 1).isLt (Nat.zero_add 256).symm⟩
      | ⟨2, _⟩ => exact ⟨Nat.zero_le _, Nat.lt_of_lt_of_eq (y 2).isLt (Nat.zero_add 2048).symm⟩
  rw [← hs, ← holds_slice c (h := fun _ => rfl) (v := fun z => x ((Rect.unit (s := S2x256x2048) ![q % 2, 0, 0] S1x256x2048.size (inSlot2 q)).emb z)) (fun _ => rfl)]
  refine holds_squeeze c fun y => ?_
  have e : Shape.reshapeEquiv squeezes_S1x256x2048_S256x2048.numel_eq y = ix3 (⟨0, Nat.one_pos⟩ : Fin 1) (y 0) (y 1) :=
    (congrArg _ (eq_ix2 y)).trans (reshapeEquiv_ix2_1ab _ (y 0) (y 1))
  rw [e]
  refine Eq.trans (congrArg v ?_) (h _ (Nat.add_zero _))
  funext a
  match a with
  | ⟨0, _⟩ => exact Fin.ext (show (y 0).val = 0 + 1 * (y 0).val by omega)
  | ⟨1, _⟩ => exact Fin.ext (show (y 1).val = 0 + 1 * (y 1).val by omega)

/-- A buffer of two axes in blocks. -/
theorem blocks2 {cs : Space} {e : EltTy} {N0 N1 m0 m1 : ℕ} {m : Memref sig .tc cs ⟨2, ![N0, N1]⟩ e} {x : (⟨2, ![N0, N1]⟩ : Shape).Idx → Elt Ideal e} (n : ℕ) (f g : ℕ → ℕ)
    {inb : ∀ u, ∀ a, (![m0 * f u, m1 * g u] : Fin 2 → ℕ) a + (⟨2, ![m0, m1]⟩ : Shape).size a ≤ (⟨2, ![N0, N1]⟩ : Shape).size a}
    {v : ℕ → (⟨2, ![m0, m1]⟩ : Shape).Idx → Elt Ideal e}
    (hm : 0 < m0 ∧ 0 < m1)
    (hi : ∀ u < n, ∀ u' < n, f u = f u' → g u = g u' → u = u') (hc : ∀ i < N0, ∀ j < N1, ∃ u < n, f u = i / m0 ∧ g u = j / m1)
    (hv : ∀ u < n, ∀ y z, (z 0).val = m0 * f u + (y 0).val → (z 1).val = m1 * g u + (y 1).val → v u y = x z) :
    holds c m Finset.univ x = bigSep (Finset.range n) fun u =>
      holds c (m.slice (Rect.unit (s := ⟨2, ![N0, N1]⟩) ![m0 * f u, m1 * g u] (⟨2, ![m0, m1]⟩ : Shape).size (inb u)) (fun _ => rfl)) Finset.univ (v u) := by
  have mem (u : ℕ) (y : (⟨2, ![N0, N1]⟩ : Shape).Idx) : y ∈ (Rect.unit (s := ⟨2, ![N0, N1]⟩) ![m0 * f u, m1 * g u] (⟨2, ![m0, m1]⟩ : Shape).size (inb u)).set ↔
      f u = (y 0).val / m0 ∧ g u = (y 1).val / m1 := by
    have key (a b k : ℕ) (hk : 0 < k) : (k * a ≤ b ∧ b < k * a + k) ↔ a = b / k := by
      constructor
      · rintro ⟨h1, h2⟩
        exact (Nat.div_eq_of_lt_le (by rw [Nat.mul_comm]; exact h1) (by rw [Nat.mul_comm, Nat.mul_succ]; exact h2)).symm
      · rintro rfl
        have h1 := Nat.div_add_mod b k
        have h2 := Nat.mod_lt b hk
        omega
    rw [Rect.mem_set_unit, ← key _ _ _ hm.1, ← key _ _ _ hm.2]
    constructor
    · intro h; exact ⟨h 0, h 1⟩
    · rintro ⟨h0, h1⟩ a
      match a with
      | ⟨0, _⟩ => exact h0
      | ⟨1, _⟩ => exact h1
  rw [holds_blocks c n _ (fun u hu u' hu' y h h' => by
      have h1 := (mem u y).1 h
      have h2 := (mem u' y).1 h'
      exact hi u hu u' hu' (h1.1.trans h2.1.symm) (h1.2.trans h2.2.symm)) (fun y => by
      obtain ⟨u, hu, h⟩ := hc (y 0).val (y 0).isLt (y 1).val (y 1).isLt
      exact ⟨u, hu, (mem u y).2 h⟩)]
  refine bigSep_congr fun u hu => (holds_slice c fun y => ?_).symm
  exact hv u (Finset.mem_range.1 hu) y _ (show m0 * f u + 1 * (y 0).val = _ by omega) (show m1 * g u + 1 * (y 1).val = _ by omega)

/-- The four slots of the input ring. -/
theorem slots7 {M : Args} {x : S4x256x4096.Idx → Elt Ideal .bf16} :
    holds c M.a7 Finset.univ x = bigSep (Finset.range 4) fun q => holds c M.a7 (S7 (q % 4)) x := by
  have mem (q : ℕ) (y : S4x256x4096.Idx) : y ∈ S7 (q % 4) ↔ (y 0).val = q % 4 := by unfold S7; simp
  refine holds_blocks c 4 _ (fun u hu u' hu' y h h' => ?_) fun y => ?_
  · have h1 := (mem u y).1 h
    have h2 := (mem u' y).1 h'
    omega
  · have h0 : (y 0).val < 4 := (y 0).isLt
    exact ⟨(y 0).val, h0, (mem _ y).2 (by omega)⟩

/-- The two slots of the output ring. -/
theorem slots8 {M : Args} {x : S2x256x2048.Idx → Elt Ideal .i8} :
    holds c M.a8 Finset.univ x = bigSep (Finset.range 2) fun q => holds c M.a8 (S8 (q % 2)) x := by
  have mem (q : ℕ) (y : S2x256x2048.Idx) : y ∈ S8 (q % 2) ↔ (y 0).val = q % 2 := by unfold S8; simp
  refine holds_blocks c 2 _ (fun u hu u' hu' y h h' => ?_) fun y => ?_
  · have h1 := (mem u y).1 h
    have h2 := (mem u' y).1 h'
    omega
  · have h0 : (y 0).val < 2 := (y 0).isLt
    exact ⟨(y 0).val, h0, (mem _ y).2 (by omega)⟩

end Cert.KernelIdeal.Stage
-- ==== Proof.Loop.lean ====
module

public import proofs.«01_k».proof.Proof.Pieces

@[expose] public section

/-! The loop: what holds before each trip, and that a trip keeps it. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

theorem holds_to {cs : Space} {s : Shape} {e : EltTy} {m : Memref sig .tc cs s e} {x y : s.Idx → Elt Ideal e} (h : ∀ i, x i = y i) :
    holds c m Finset.univ x ⊢ holds c m Finset.univ y := by
  obtain rfl : x = y := funext h
  iintro H
  iexact H

theorem ent_of_eq {A B : sProp 𝕄} (h : A = B) : A ⊢ B := by
  subst h
  iintro H
  iexact H

theorem runs_ret {a : α} : Q a ⊢ runs c (.ret a) Q := by
  unfold runs
  rw [wp_ret]
  iintro H
  imodintro
  iexact H

/-- The waits for the copies of the row block before. -/
def tlw (M : Args) (t : Fin k0_t1_loop.trips) (k0_h3 : k0_cond3 t = 1#1) : PrgI PUnit := do
  if k0_h4 : k0_cond4 t = 1#1 then do
    let v8074 : Memref sig .tc .hbm S256x256 .f32 := M.a2.slice (Rect.unit (s := S1792x256) (k0_off57 t) S256x256.size (k0_off57_inb t k0_h3 k0_h4)) (fun _ => rfl)
    Prog.lift (.waitDma2 M.a22.sem M.a17 v8074 M.h17.wordExact (View.wordExact_bits rfl))
    let v8078 : Memref sig .tc .hbm S256x256 .i8 := M.a3.slice (Rect.unit (s := S1792x256) (k0_off57 t) S256x256.size (k0_off57_inb t k0_h3 k0_h4)) (fun _ => rfl)
    Prog.lift (.waitDma2 M.a23.sem M.a18 v8078 M.h18.wordExact (M.h3.wordExact_slice rfl _ (k0_off57_wordsi8 t k0_h3 k0_h4)))
    pure ⟨⟩
  else do
    pure ⟨⟩

/-- The scales and zero points of the row block, put down and their copies started. -/
def tlr (M : Args) (t : Fin k0_t1_loop.trips) (k0_h3 : k0_cond3 t = 1#1) (k : PrgI PUnit) : PrgI PUnit := do
  let v8052 : Vec Ideal S1x256x256 .f32 ← Prog.lift (.load M.a14 (Rect.unit (s := S7x256x256) (k0_off58 t) S1x256x256.size (k0_off58_inb t k0_h3)).toLoadRect (View.loadsAt_vmem h_S1x256x256))
  have v8053 : FVec Ideal S256x256 .f32 := shapeCast S256x256 v8052 shapeCasts_S1x256x256_S256x256
  have v8054 : FVec Ideal S256x256 .f32 := transpose S256x256 [1, 0] v8053 transposes_S256x256_p1_0_S256x256
  let v8055 : Vec Ideal S256x256 .f32 ← Prog.lift (.load M.a17 (Rect.unit (s := S256x256) ![0, 0] S256x256.size inb_S256x256_S256x256_0_0).toLoadRect (View.loadsAt_vmem h_S256x256))
  have v8056 : FVec Ideal S256x256 .f32 := shapeCast S256x256 v8055 shapeCasts_S256x256_S256x256
  have v8057 : FVec Ideal S256x256 .f32 := shapeCast S256x256 v8054 shapeCasts_S256x256_S256x256
  Prog.lift (.store M.a17 (Rect.unit (s := S256x256) ![0, 0] S256x256.size inb_S256x256_S256x256_0_0) v8057 Finset.univ (View.stores_vmem_bits_univ h_S256x256 rfl) (.inl rfl))
  let v8058 : Vec Ideal S256x256 .f32 ← Prog.lift (.load M.a15 (Rect.unit (s := S256x256) ![0, 0] S256x256.size inb_S256x256_S256x256_0_0).toLoadRect (View.loadsAt_vmem h_S256x256))
  have v8059 : IVec S256x256 32 := fptosi (F := Ideal) (φ := .f32) 32 v8058
  have v8060 : IVec S256x256 8 := trunci 8 v8059 natLt_8_32
  have v8061 : IVec S256x256 8 := transpose S256x256 [1, 0] v8060 transposes_S256x256_p1_0_S256x256
  let v8062 : Vec Ideal S256x256 .i8 ← Prog.lift (.load M.a18 (Rect.unit (s := S256x256) ![0, 0] S256x256.size inb_S256x256_S256x256_0_0).toLoadRect (View.loadsAt_vmem h_S256x256))
  have v8063 : IVec S256x256 8 := shapeCast S256x256 v8062 shapeCasts_S256x256_S256x256
  have v8064 : IVec S256x256 8 := shapeCast S256x256 v8061 shapeCasts_S256x256_S256x256
  Prog.lift (.store M.a18 (Rect.unit (s := S256x256) ![0, 0] S256x256.size inb_S256x256_S256x256_0_0) v8064 Finset.univ (View.stores_vmem h_S256x256 (M.h18.storeExact_slice rfl _ packedi8_S256x256_S256x256_0_0) (fun _ => rfl)) (.inl rfl))
  let v8067 : Memref sig .tc .hbm S256x256 .f32 := M.a2.slice (Rect.unit (s := S1792x256) (k0_off59 t) S256x256.size (k0_off59_inb t k0_h3)) (fun _ => rfl)
  Prog.lift (.enqueueDma M.a17 (.here v8067) (.dma M.a22.sem) M.h17.wordExact (View.wordExact_bits rfl) ⟨Or.inl rfl, trivial⟩)
  let v8070 : Memref sig .tc .hbm S256x256 .i8 := M.a3.slice (Rect.unit (s := S1792x256) (k0_off59 t) S256x256.size (k0_off59_inb t k0_h3)) (fun _ => rfl)
  Prog.lift (.enqueueDma M.a18 (.here v8070) (.dma M.a23.sem) M.h18.wordExact (M.h3.wordExact_slice rfl _ (k0_off59_wordsi8 t k0_h3)) ⟨Or.inl rfl, trivial⟩)
  k

theorem tl_pos (M : Args) (t : Fin k0_t1_loop.trips) (h3 : k0_cond3 t = 1#1) : tl M t = (tlw M t h3 >>= fun _ => tlr M t h3 (.ret ⟨⟩)) := by
  unfold tl tlw tlr
  rw [dif_pos h3]
  split <;> rfl

theorem tl_neg (M : Args) (t : Fin k0_t1_loop.trips) (h3 : ¬ k0_cond3 t = 1#1) : tl (F := Ideal) M t = .ret ⟨⟩ := by
  unfold tl
  rw [dif_neg h3]
  rfl

variable (M : Args) (W : ℕ → ℕ → EReal)

/-! The amounts of the copies. -/
abbrev nIn : ℕ := (inSl M 0).view.dmaCredit
abbrev nOut : ℕ := (pkSl M 0).view.dmaCredit
abbrev nSc : ℕ := (scSl M 0).view.dmaCredit
abbrev nZ : ℕ := (zSl M 0).view.dmaCredit

/-- Unit `u` of the weights, in its place. -/
def home (u : ℕ) : sProp 𝕄 := holds c (wSl M u) Finset.univ (wU W u)
/-- An input slot that no copy is under way to. -/
def freeI (u : ℕ) : sProp 𝕄 := iprop(∃ x, holds c (inSl M u) Finset.univ x ∗ idle c (inSm M u))
/-- Unit `u` is on its way to its slot, where there is a unit `u`. -/
def inRole (u : ℕ) : sProp 𝕄 :=
  if u < 28 then fl c (inSm M u) (nIn M) iprop(holds c (inSl M u) Finset.univ (wU W u) ∗ home c M W u) else freeI c M u
def homes (lo hi : ℕ) : sProp 𝕄 := band 28 (home c M W) (home c M W) lo hi

/-- Unit `u` of the packed codes, done; or whatever it holds. -/
def pkDone (u : ℕ) : sProp 𝕄 := holds c (pkSl M u) Finset.univ (bU W u)
def pkAny (u : ℕ) : sProp 𝕄 := iprop(∃ x, holds c (pkSl M u) Finset.univ x)
def pks (lo hi : ℕ) : sProp 𝕄 := band 28 (pkDone c M W) (pkAny c M) lo hi
/-- An output slot that no copy is under way from. -/
def freeO (u : ℕ) : sProp 𝕄 := iprop(∃ x, holds c (outSl M u) Finset.univ x ∗ idle c (outSm M u))
/-- Unit `u - 2` is on its way out, where there is a unit `u - 2`. -/
def outRole (u : ℕ) : sProp 𝕄 :=
  if 2 ≤ u then fl c (outSm M u) (nOut M) iprop(pkDone c M W (u - 2) ∗ holds c (outSl M u) Finset.univ (bU W (u - 2))) else freeO c M u

def scDone (b : ℕ) : sProp 𝕄 := holds c (scSl M b) Finset.univ (scU W b)
def scAny (b : ℕ) : sProp 𝕄 := iprop(∃ x, holds c (scSl M b) Finset.univ x)
def scs (lo hi : ℕ) : sProp 𝕄 := band 7 (scDone c M W) (scAny c M) lo hi
def zDone (b : ℕ) : sProp 𝕄 := holds c (zSl M b) Finset.univ (zU W b)
def zAny (b : ℕ) : sProp 𝕄 := iprop(∃ x, holds c (zSl M b) Finset.univ x)
def zs (lo hi : ℕ) : sProp 𝕄 := band 7 (zDone c M W) (zAny c M) lo hi
/-- The buffers of a row block's scales and zero points, with no copy under way. -/
def freeS : sProp 𝕄 := iprop((∃ x, holds c M.a17 Finset.univ x) ∗ idle c M.a22.sem ∗ (∃ x, holds c M.a18 Finset.univ x) ∗ idle c M.a23.sem)
/-- Row block `b - 1`'s scales and zero points are on their way out, where there is one. -/
def sRole (b : ℕ) : sProp 𝕄 :=
  if 1 ≤ b then iprop(fl c M.a22.sem (nSc M) iprop(scDone c M W (b - 1) ∗ holds c M.a17 Finset.univ (scU W (b - 1)))
    ∗ fl c M.a23.sem (nZ M) iprop(zDone c M W (b - 1) ∗ holds c M.a18 Finset.univ (zU W (b - 1)))) else freeS c M

/-- The scales' and zero points' results and copies before trip `t`. -/
def sState (t : ℕ) : sProp 𝕄 :=
  iprop(sRole c M W (t / 4) ∗ scs c M W (t / 4 - 1) (t / 4) ∗ zs c M W (t / 4 - 1) (t / 4))

variable {c M W}

theorem freeI_congr {u u' : ℕ} (h : u % 4 = u' % 4) : freeI c M u = freeI c M u' := by
  have e1 : inSl M u = inSl M u' := inSl_eq u' (by rw [h])
  have e2 : inSm M u = inSm M u' := inSm_eq u' (by rw [h])
  unfold freeI
  rw [e1, e2]

theorem hd1_spec {t : Fin k0_t1_loop.trips} {k : PUnit → PrgI α} :
    iprop(freeI c M (t.val + 3) ∗ homes c M W t.val (t.val + 3))
      ⊢ iprop((iprop(inRole c M W (t.val + 3) ∗ homes c M W t.val (t.val + 4)) -∗ runs c (k ⟨⟩) Q) -∗ runs c (hd1 M t >>= k) Q) := by
  by_cases h : t.val + 3 < 28
  · unfold homes inRole
    rw [band_hi (by omega) h, if_pos h]
    unfold freeI
    iintro ⟨⟨%x, Hx, Hs⟩, Hh, HB⟩ Hk
    unfold hd1
    rw [dif_pos ((cond1_iff t).2 h)]
    simp only [Prog.bind_assoc, Prog.bind_lift, Prog.bind_op, Prog.pure_eq_ret, Prog.bind_ret]
    unfold home
    iapply (enq_w c (x := x) (wSl_eq (t.val + 3) (off3_eq t h)) (inSl_eq (t.val + 3) (off2_eq t h)) (inSm_eq (t.val + 3) (off1_eq t h)) (by decide) (N := nIn M) rfl) $$ [Hx Hs Hh]
    · isplitl [Hh]; · iexact Hh
      isplitl [Hx]; · iexact Hx
      iexact Hs
    iintro Hf
    iapply Hk
    isplitl [Hf]; · iexact Hf
    iexact HB
  · unfold homes inRole
    rw [if_neg h, band_out (hi := t.val + 3) (hi' := t.val + 4) (by omega) (by omega)]
    have hd : (hd1 M t >>= k : PrgI α) = k ⟨⟩ := by
      unfold hd1
      rw [dif_neg (fun e => h ((cond1_iff t).1 e))]
      rfl
    rw [hd]
    iintro H Hk
    iapply Hk $$ H

theorem hd2_spec {t : Fin k0_t1_loop.trips} {k : PUnit → PrgI α} :
    iprop(outRole c M W t.val ∗ pks c M W (t.val - 2) t.val ∗ owesAny c)
      ⊢ iprop((iprop((∃ x, holds c (outSl M t.val) Finset.univ x ∗ idle c (outSm M t.val)) ∗ pks c M W (t.val - 1) t.val ∗ owesAny c) -∗ runs c (k ⟨⟩) Q) -∗ runs c (hd2 M t >>= k) Q) := by
  have ht : t.val < 28 := trips_eq ▸ t.isLt
  by_cases h : 2 ≤ t.val
  · unfold hd2
    rw [dif_pos ((cond2_iff t).2 h)]
    simp only [Prog.bind_assoc, Prog.bind_lift, Prog.bind_op, Prog.pure_eq_ret, Prog.bind_ret]
    have e : t.val - 1 = (t.val - 2) + 1 := by omega
    unfold outRole pks
    rw [if_pos h, e, band_lo (by omega) (by omega)]
    iintro ⟨Hf, HB, HW⟩ Hk
    iapply (wait_w c (dst := M.a1.slice (Rect.unit (s := S1792x8192) (k0_off5 t) S256x2048.size (k0_off5_inb t ((cond2_iff t).2 h))) (fun _ => rfl)) (outSm_eq t.val (off4_eq t h)) (N := nOut M) rfl) $$ [Hf HW]
    · isplitl [Hf]; · iexact Hf
      iexact HW
    iintro ⟨⟨Hp, Ho⟩, Hs, HW⟩
    iapply Hk
    isplitl [Ho Hs]
    · iexists _
      isplitl [Ho]; · iexact Ho
      iexact Hs
    isplitl [Hp HB]
    · isplitl [Hp]; · iexact Hp
      iexact HB
    iexact HW
  · have hd : (hd2 M t >>= k : PrgI α) = k ⟨⟩ := by
      unfold hd2
      rw [dif_neg (fun e => h ((cond2_iff t).1 e))]
      rfl
    rw [hd]
    have e : t.val - 1 = t.val - 2 := by omega
    unfold outRole freeO
    rw [if_neg h, e]
    iintro H Hk
    iapply Hk $$ H

theorem inWait_spec {t : Fin k0_t1_loop.trips} {k : PrgI PUnit} {Q : PUnit → sProp 𝕄} :
    iprop(inRole c M W t.val ∗ homes c M W t.val (t.val + 4) ∗ owesAny c)
      ⊢ iprop((iprop(holds c (inSl M t.val) Finset.univ (wU W t.val) ∗ idle c (inSm M t.val) ∗ homes c M W (t.val + 1) (t.val + 4) ∗ owesAny c) -∗ runs c k Q)
        -∗ runs c (inWait M t k) Q) := by
  have ht : t.val < 28 := trips_eq ▸ t.isLt
  unfold inWait
  simp only [Prog.bind_assoc, Prog.bind_lift, Prog.bind_op, Prog.pure_eq_ret, Prog.bind_ret]
  unfold inRole homes
  rw [if_pos ht, band_lo (by omega) (by omega)]
  iintro ⟨Hf, HB, HW⟩ Hk
  iapply (wait_w c (dst := (M.a7.slice (Rect.unit (s := S4x256x4096) (k0_off8 t) S1x256x4096.size (k0_off8_inb t)) (fun _ => rfl)).squeeze S256x4096 squeezes_S1x256x4096_S256x4096) (inSm_eq t.val (off7_eq t)) (N := nIn M) rfl) $$ [Hf HW]
  · isplitl [Hf]; · iexact Hf
    iexact HW
  iintro ⟨⟨Hi, Hh⟩, Hs, HW⟩
  iapply Hk
  isplitl [Hi]; · iexact Hi
  isplitl [Hs]; · iexact Hs
  isplitl [Hh HB]
  · isplitl [Hh]; · iexact Hh
    iexact HB
  iexact HW

theorem outEnq_spec {t : Fin k0_t1_loop.trips} {k : PrgI PUnit} {Q : PUnit → sProp 𝕄} :
    iprop(holds c (outSl M t.val) Finset.univ (bU W t.val) ∗ idle c (outSm M t.val) ∗ pks c M W (t.val - 1) t.val)
      ⊢ iprop((iprop(outRole c M W (t.val + 2) ∗ pks c M W (t.val - 1) (t.val + 1)) -∗ runs c k Q)
        -∗ runs c (outEnq M t k) Q) := by
  have ht : t.val < 28 := trips_eq ▸ t.isLt
  have e1 : outSl M t.val = outSl M (t.val + 2) := outSl_eq (t.val + 2) (by rw [Nat.add_mod_right])
  have e2 : outSm M t.val = outSm M (t.val + 2) := outSm_eq (t.val + 2) (by rw [Nat.add_mod_right])
  unfold outEnq
  simp only [Prog.bind_assoc, Prog.bind_lift, Prog.bind_op, Prog.pure_eq_ret, Prog.bind_ret]
  unfold outRole pks
  rw [if_pos (by omega), band_hi (by omega) (by omega), e1, e2]
  unfold pkAny
  iintro ⟨Ho, Hs, Hp, HB⟩ Hk
  icases Hp with ⟨%x, Hp⟩
  iapply (enq_w c (x := x) ((outSl_eq t.val (off56_eq t)).trans e1) (pkSl_eq t.val (off55_eq t)) ((outSm_eq t.val (off54_eq t)).trans e2) (by decide) (N := nOut M) rfl) $$ [Ho Hp Hs]
  · isplitl [Ho]; · iexact Ho
    isplitl [Hp]; · iexact Hp
    iexact Hs
  iintro Hf
  iapply Hk
  isplitl [Hf]; · iexact Hf
  iexact HB

theorem tlw_spec {t : Fin k0_t1_loop.trips} {h3 : k0_cond3 t = 1#1} {k : PUnit → PrgI α} :
    iprop(sState c M W t.val ∗ owesAny c)
      ⊢ iprop((iprop(freeS c M ∗ scs c M W (t.val / 4) (t.val / 4) ∗ zs c M W (t.val / 4) (t.val / 4) ∗ owesAny c) -∗ runs c (k ⟨⟩) Q) -∗ runs c (tlw M t h3 >>= k) Q) := by
  have ht : t.val < 28 := trips_eq ▸ t.isLt
  by_cases h : 1 ≤ t.val / 4
  · unfold tlw
    rw [dif_pos ((cond4_iff t).2 h)]
    simp only [Prog.bind_assoc, Prog.bind_lift, Prog.bind_op, Prog.pure_eq_ret, Prog.bind_ret]
    have e : scs c M W (t.val / 4) (t.val / 4) = iprop(scDone c M W (t.val / 4 - 1) ∗ scs c M W (t.val / 4 - 1) (t.val / 4)) := by
      unfold scs
      rw [← band_lo (by omega) (by omega), Nat.sub_add_cancel h]
    have e' : zs c M W (t.val / 4) (t.val / 4) = iprop(zDone c M W (t.val / 4 - 1) ∗ zs c M W (t.val / 4 - 1) (t.val / 4)) := by
      unfold zs
      rw [← band_lo (by omega) (by omega), Nat.sub_add_cancel h]
    rw [e, e']
    unfold sState sRole
    rw [if_pos h]
    iintro ⟨⟨⟨Hf, Hg⟩, HB, HZ⟩, HW⟩ Hk
    iapply (wait_w c (dst := M.a2.slice (Rect.unit (s := S1792x256) (k0_off57 t) S256x256.size (k0_off57_inb t h3 ((cond4_iff t).2 h))) (fun _ => rfl)) rfl (N := nSc M) rfl) $$ [Hf HW]
    · isplitl [Hf]; · iexact Hf
      iexact HW
    iintro ⟨⟨Hp, Ho⟩, Hs, HW⟩
    iapply (wait_w c (dst := M.a3.slice (Rect.unit (s := S1792x256) (k0_off57 t) S256x256.size (k0_off57_inb t h3 ((cond4_iff t).2 h))) (fun _ => rfl)) rfl (N := nZ M) rfl) $$ [Hg HW]
    · isplitl [Hg]; · iexact Hg
      iexact HW
    iintro ⟨⟨Hp', Ho'⟩, Hs', HW⟩
    iapply Hk
    isplitl [Ho Hs Ho' Hs']
    · unfold freeS
      isplitl [Ho]; · iexists _; iexact Ho
      isplitl [Hs]; · iexact Hs
      isplitl [Ho']; · iexists _; iexact Ho'
      iexact Hs'
    isplitl [Hp HB]
    · isplitl [Hp]; · iexact Hp
      iexact HB
    isplitl [Hp' HZ]
    · isplitl [Hp']; · iexact Hp'
      iexact HZ
    iexact HW
  · have hd : (tlw M t h3 >>= k : PrgI α) = k ⟨⟩ := by
      unfold tlw
      rw [dif_neg (fun e => h ((cond4_iff t).1 e))]
      rfl
    rw [hd]
    have e : t.val / 4 = 0 := by omega
    unfold sState sRole
    rw [e, if_neg (by omega)]
    iintro ⟨⟨H, HB, HZ⟩, HW⟩ Hk
    iapply Hk
    isplitl [H]; · iexact H
    isplitl [HB]; · iexact HB
    isplitl [HZ]; · iexact HZ
    iexact HW

/-- A window that is the whole buffer. -/
theorem put_full2 {α : Type} {a b : ℕ} (x : (⟨2, ![a, b]⟩ : Shape).Idx → α) (w : (⟨2, ![a, b]⟩ : Shape).Idx → α) (y : (⟨2, ![a, b]⟩ : Shape).Idx) :
    VecWindow.put (s := ⟨2, ![a, b]⟩) x ![0, 0] (⟨2, ![a, b]⟩ : Shape).size w y = w y := by
  unfold VecWindow.put
  rw [dif_pos (fun d => match d with
    | ⟨0, _⟩ => ⟨Nat.zero_le _, Nat.lt_of_lt_of_eq (y 0).isLt (Nat.zero_add a).symm⟩
    | ⟨1, _⟩ => ⟨Nat.zero_le _, Nat.lt_of_lt_of_eq (y 1).isLt (Nat.zero_add b).symm⟩)]
  refine congrArg w (funext fun d => Fin.ext ?_)
  match d with
  | ⟨0, _⟩ => exact Nat.sub_zero _
  | ⟨1, _⟩ => exact Nat.sub_zero _

theorem put_holds {e : EltTy} {m : Memref sig .tc .vmem S256x256 e} {x w v : S256x256.Idx → Elt Ideal e} (h : ∀ y, w y = v y) :
    holds c m Finset.univ (VecWindow.put (s := S256x256) x ![0, 0] S256x256.size w) ⊢ holds c m Finset.univ v :=
  holds_to c fun y => (put_full2 x w y).trans (h y)

theorem load_full2 {α : Type} {a b : ℕ} (x : (⟨2, ![a, b]⟩ : Shape).Idx → α) {h : ∀ d, (![0, 0] : Fin 2 → ℕ) d + (⟨2, ![a, b]⟩ : Shape).size d ≤ (⟨2, ![a, b]⟩ : Shape).size d} :
    (fun y => x ((Rect.unit (s := ⟨2, ![a, b]⟩) ![0, 0] (⟨2, ![a, b]⟩ : Shape).size h).toLoadRect.idx y)) = x := by
  funext y
  refine congrArg x (funext fun d => Fin.ext ?_)
  match d with
  | ⟨0, _⟩ => show 0 + 1 * (y 0).val = (y 0).val; omega
  | ⟨1, _⟩ => show 0 + 1 * (y 1).val = (y 1).val; omega

theorem sc_val {x : S7x256x256.Idx → EReal} {b : ℕ} {o : Fin 3 → ℕ} {inb : ∀ a, o a + S1x256x256.size a ≤ S7x256x256.size a} (e : o = ![b, 0, 0])
    (h : ∀ y, (y 0).val = b → x y = SG W (256 * b + (y 2).val) (y 1).val) (y : S256x256.Idx) :
    shapeCast S256x256 (transpose S256x256 [1, 0] (shapeCast S256x256 (fun z : S1x256x256.Idx => x ((Rect.unit (s := S7x256x256) o S1x256x256.size inb).toLoadRect.idx z)) shapeCasts_S1x256x256_S256x256) transposes_S256x256_p1_0_S256x256) shapeCasts_S256x256_S256x256 y
      = scU W b y := by
  subst e
  refine (congrFun (shapeCast_self _ _) y).trans ?_
  refine (transpose_apply _ _ _ y (ix2 (y 1) (y 0)) (fun a => match a with | ⟨0, _⟩ => rfl | ⟨1, _⟩ => rfl)).trans ?_
  refine (shapeCast_1ab_ab_apply _ _ (y 1) (y 0)).trans ?_
  refine (h _ (show b + 1 * 0 = b by omega)).trans ?_
  show SG W (256 * b + (0 + 1 * (y 0).val)) (0 + 1 * (y 1).val) = SG W (256 * b + (y 0).val) (y 1).val
  rw [Nat.one_mul, Nat.zero_add, Nat.one_mul, Nat.zero_add]

theorem z_val {x : S256x256.Idx → EReal} {b : ℕ} (h : ∀ y, x y = ZP W (256 * b + (y 1).val) (y 0).val) (y : S256x256.Idx) :
    shapeCast S256x256 (transpose S256x256 [1, 0] (trunci 8 (fptosi (F := Ideal) (φ := .f32) 32 x) natLt_8_32) transposes_S256x256_p1_0_S256x256) shapeCasts_S256x256_S256x256 y
      = zU W b y := by
  refine (congrFun (shapeCast_self _ _) y).trans ?_
  refine (transpose_apply _ _ _ y (ix2 (y 1) (y 0)) (fun a => match a with | ⟨0, _⟩ => rfl | ⟨1, _⟩ => rfl)).trans ?_
  show zByte (x (ix2 (y 1) (y 0))) = zByte _
  rw [h]

set_option maxHeartbeats 1000000 in
theorem tlr_spec {t : Fin k0_t1_loop.trips} {h3 : k0_cond3 t = 1#1} {k : PrgI PUnit} {Q : PUnit → sProp 𝕄} :
    iprop(freeS c M ∗ scs c M W (t.val / 4) (t.val / 4) ∗ zs c M W (t.val / 4) (t.val / 4) ∗ tabsOk c M.bufs W (sN (8 * (t.val + 1))) (8 * (t.val + 1)))
      ⊢ iprop((iprop(sState c M W (t.val + 1) ∗ tabsOk c M.bufs W (sN (8 * (t.val + 1))) (8 * (t.val + 1))) -∗ runs c k Q) -∗ runs c (tlr M t h3 k) Q) := by
  have ht : t.val < 28 := trips_eq ▸ t.isLt
  have h := (cond3_iff t).1 h3
  have hb : (t.val + 1) / 4 = t.val / 4 + 1 := by omega
  unfold sState sRole scs zs
  rw [hb, if_pos (by omega), Nat.add_sub_cancel, band_hi (le_refl _) (by omega), band_hi (le_refl _) (by omega)]
  unfold freeS tabsOk tabs tlr scAny zAny
  iintro ⟨⟨⟨%x17, H17⟩, Hs, ⟨%x18, H18⟩, Hs'⟩, ⟨Hc, HB⟩, ⟨Hz, HZ⟩, ⟨%x12, %x13, %x14, %x15, %x16, %hx, H12, H13, H14, H15, H16⟩⟩ Hk
  icases Hc with ⟨%xc, Hc⟩
  icases Hz with ⟨%xz, Hz⟩
  iapply (runs_load_w c (Finset.subset_univ _)) $$ H14
  iintro H14
  iapply (runs_load_w c (Finset.subset_univ _)) $$ H17
  iintro H17
  iapply (runs_store_w c (Finset.subset_univ _)) $$ H17
  iintro H17
  iapply (runs_load_w c (Finset.subset_univ _)) $$ H15
  iintro H15
  iapply (runs_load_w c (Finset.subset_univ _)) $$ H18
  iintro H18
  iapply (runs_store_w c (Finset.subset_univ _)) $$ H18
  iintro H18
  have v17 := fun y => sc_val (W := W) (x := x14) (inb := k0_off58_inb t h3) (off58_eq t h) (fun y hy => hx.scale y (by
    have : (y 1).val < 256 := (y 1).isLt
    omega) |>.trans (by rw [hy])) y
  have v18 := fun y => z_val (W := W) (b := t.val / 4) (x := fun y => x15 ((Rect.unit (s := S256x256) ![0, 0] S256x256.size inb_S256x256_S256x256_0_0).toLoadRect.idx y)) (fun y => (congrFun (load_full2 x15) y).trans (hx.zt y (t.val / 4) (by
    have : (y 0).val < 256 := (y 0).isLt
    omega) (by omega))) y
  iapply (enq_w c (v := scU W (t.val / 4)) (x := xc) rfl (scSl_eq (t.val / 4) (off59_eq t h)) rfl (by decide) (N := nSc M) rfl) $$ [H17 Hc Hs]
  · isplitl [H17]; · iapply (put_holds v17) $$ H17
    isplitl [Hc]; · iexact Hc
    iexact Hs
  iintro Hf
  iapply (enq_w c (v := zU W (t.val / 4)) (x := xz) rfl (zSl_eq (t.val / 4) (off59_eq t h)) rfl (by decide) (N := nZ M) rfl) $$ [H18 Hz Hs']
  · isplitl [H18]; · iapply (put_holds v18) $$ H18
    isplitl [Hz]; · iexact Hz
    iexact Hs'
  iintro Hg
  iapply Hk
  isplitr [H12 H13 H14 H15 H16]
  · isplitl [Hf Hg]
    · isplitl [Hf]; · iexact Hf
      iexact Hg
    isplitl [HB]; · iexact HB
    iexact HZ
  iexists x12, x13, x14, x15, x16
  isplitr; · ipureintro; exact hx
  isplitl [H12]; · iexact H12
  isplitl [H13]; · iexact H13
  isplitl [H14]; · iexact H14
  isplitl [H15]; · iexact H15
  iexact H16

theorem tl_spec {t : Fin k0_t1_loop.trips} {Q : PUnit → sProp 𝕄} :
    iprop(sState c M W t.val ∗ tabsOk c M.bufs W (sN (8 * (t.val + 1))) (8 * (t.val + 1)) ∗ owesAny c)
      ⊢ iprop((iprop(sState c M W (t.val + 1) ∗ tabsOk c M.bufs W (sN (8 * (t.val + 1))) (8 * (t.val + 1)) ∗ owesAny c) -∗ Q ⟨⟩) -∗ runs c (tl M t) Q) := by
  by_cases h3 : k0_cond3 t = 1#1
  · rw [tl_pos M t h3]
    iintro ⟨HS, HT, HW⟩ Hk
    iapply (tlw_spec (M := M) (W := W)) $$ [HS HW]
    · isplitl [HS]; · iexact HS
      iexact HW
    iintro ⟨Hf, HB, HZ, HW⟩
    iapply (tlr_spec (M := M) (W := W)) $$ [Hf HB HZ HT]
    · isplitl [Hf]; · iexact Hf
      isplitl [HB]; · iexact HB
      isplitl [HZ]; · iexact HZ
      iexact HT
    iintro ⟨HS, HT⟩
    iapply (runs_ret c)
    iapply Hk
    isplitl [HS]; · iexact HS
    isplitl [HT]; · iexact HT
    iexact HW
  · rw [tl_neg M t h3]
    have h : t.val / 4 = (t.val + 1) / 4 := by
      have := (cond3_iff t).not.1 h3
      omega
    unfold sState
    rw [← h]
    iintro H Hk
    iapply (runs_ret c)
    iapply Hk $$ H

/-- What holds before trip `t`. -/
def Inv (c : Dev nD) (M : Args) (W : ℕ → ℕ → EReal) (t : ℕ) : sProp 𝕄 :=
  iprop(inRole c M W t ∗ inRole c M W (t + 1) ∗ inRole c M W (t + 2) ∗ freeI c M (t + 3) ∗ homes c M W t (t + 3)
    ∗ outRole c M W t ∗ outRole c M W (t + 1) ∗ pks c M W (t - 2) t ∗ sState c M W t
    ∗ perm9 c M.bufs ∗ tabsOk c M.bufs W (sN (8 * t)) (8 * t)
    ∗ (anyP c M.a10 0 (by decide) ∗ anyP c M.a10 1 (by decide) ∗ anyP c M.a11 0 (by decide) ∗ anyP c M.a11 1 (by decide)) ∗ owesAny c)

set_option maxHeartbeats 2000000 in
/-- A trip keeps the invariant. -/
theorem trip_spec (t : Fin k0_t1_loop.trips) : Inv c M W t.val ⊢ runs c (pbody M t) (fun _ => Inv c M W (t.val + 1)) := by
  have ht : t.val < 28 := trips_eq ▸ t.isLt
  rw [pbody_eq]
  unfold Inv
  iintro ⟨I0, I1, I2, I3, HH, O0, O1, HP, HS, H9, HT, HA, HW⟩
  iapply (hd1_spec (M := M) (W := W)) $$ [I3 HH]
  · isplitl [I3]; · iexact I3
    iexact HH
  iintro ⟨I3, HH⟩
  iapply (hd2_spec (M := M) (W := W)) $$ [O0 HP HW]
  · isplitl [O0]; · iexact O0
    isplitl [HP]; · iexact HP
    iexact HW
  iintro ⟨O0, HP, HW⟩
  iapply (inWait_spec (M := M) (W := W)) $$ [I0 HH HW]
  · isplitl [I0]; · iexact I0
    isplitl [HH]; · iexact HH
    iexact HW
  iintro ⟨I0, Hs, HH, HW⟩
  obtain ⟨x7, h7⟩ : ∃ x7 : S4x256x4096.Idx → EReal, In7 W t.val x7 := ⟨fun y => W (256 * (t.val / 4) + (y 1).val) (4096 * (t.val % 4) + (y 2).val), fun y hy => rfl⟩
  have ei : holds c (inSl M t.val) Finset.univ (wU W t.val) = holds c M.bufs.a7 (S7 (t.val % 4)) (fun y => (x7 y : Elt Ideal .bf16)) :=
    in_eq c (M := M) t.val fun y hy => (h7 y hy).symm
  icases O0 with ⟨%x, Ho, Hso⟩
  have eo0 : holds c (outSl M t.val) Finset.univ x = holds c M.bufs.a8 (S8 (t.val % 2)) (fun y => x (ix2 (n0 := 256) (n1 := 2048) (y 1) (y 2))) := out_eq c (M := M) t.val (v := x) (x := fun y => x (ix2 (n0 := 256) (n1 := 2048) (y 1) (y 2))) (fun y hy => rfl)
  iapply (stages_spec (c := c) (M := M.bufs) (W := W) (t := t) (k := outEnq M t (tl M t)) (R := iprop(inRole c M W (t.val + 1) ∗ inRole c M W (t.val + 2) ∗ inRole c M W (t.val + 3) ∗ idle c (inSm M t.val) ∗ homes c M W (t.val + 1) (t.val + 4)
      ∗ outRole c M W (t.val + 1) ∗ idle c (outSm M t.val) ∗ pks c M W (t.val - 1) t.val ∗ sState c M W t.val ∗ owesAny c))
    (x7 := x7) h7 (by
      unfold stg out8
      iintro ⟨⟨⟨%x8, %h8, H8⟩, H9, HT, H7, HA⟩, I1, I2, I3, Hs, HH, O1, Hso, HP, HS, HW⟩
      have eo : holds c (outSl M t.val) Finset.univ (bU W t.val) = holds c M.bufs.a8 (S8 (t.val % 2)) (fun y => (x8 y : Elt Ideal .i8)) := out_eq c (M := M) t.val (v := bU W t.val) (x := fun y => (x8 y : Elt Ideal .i8)) (fun y hy => (h8 y hy (show (y 2).val < 2048 from (y 2).isLt)).symm)
      iapply (outEnq_spec (M := M) (W := W)) $$ [H8 Hso HP]
      · isplitl [H8]
        · iapply (ent_of_eq eo.symm) $$ H8
        isplitl [Hso]; · iexact Hso
        iexact HP
      iintro ⟨O2, HP⟩
      iapply (tl_spec (M := M) (W := W)) $$ [HS HT HW]
      · isplitl [HS]; · iexact HS
        isplitl [HT]; · iexact HT
        iexact HW
      iintro ⟨HS, HT, HW⟩
      isplitl [I1]; · iexact I1
      isplitl [I2]; · iexact I2
      isplitl [I3]; · iexact I3
      isplitl [H7 Hs]
      · rw [freeI_congr (u := t.val + 1 + 3) (u' := t.val) (by omega)]
        unfold freeI
        iexists wU W t.val
        isplitl [H7]
        · iapply (ent_of_eq ei.symm) $$ H7
        iexact Hs
      isplitl [HH]; · iexact HH
      isplitl [O1]; · iexact O1
      isplitl [O2]; · iexact O2
      isplitl [HP]; · iexact HP
      isplitl [HS]; · iexact HS
      isplitl [H9]; · iexact H9
      isplitl [HT]; · iexact HT
      isplitl [HA]; · iexact HA
      iexact HW))
  isplitl [Ho H9 HT I0 HA]
  · unfold stg out8
    isplitl [Ho]
    · iexists (fun y => x (ix2 (n0 := 256) (n1 := 2048) (y 1) (y 2)))
      isplitr; · ipureintro; intro y hy hlt; omega
      iapply (ent_of_eq eo0) $$ Ho
    isplitl [H9]; · iexact H9
    isplitl [HT]; · iexact HT
    isplitl [I0]; · iapply (ent_of_eq ei) $$ I0
    iexact HA
  isplitl [I1]; · iexact I1
  isplitl [I2]; · iexact I2
  isplitl [I3]; · iexact I3
  isplitl [Hs]; · iexact Hs
  isplitl [HH]; · iexact HH
  isplitl [O1]; · iexact O1
  isplitl [Hso]; · iexact Hso
  isplitl [HP]; · iexact HP
  isplitl [HS]; · iexact HS
  iexact HW

end Cert.KernelIdeal.Stage
-- ==== Proof.Parts.lean ====
module

public import proofs.«01_k».proof.Proof.Loop

@[expose] public section

/-! What precedes and what follows the loop, and the kernel as a whole. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

/-! Whole buffers and their parts. -/

/-- A buffer, whatever it holds. -/
abbrev anyH {cs : Space} {s : Shape} {e : EltTy} (m : Memref sig .tc cs s e) : sProp 𝕄 := iprop(∃ x, holds c m Finset.univ x)

theorem holds_union {cs : Space} {s : Shape} {e : EltTy} {m : Memref sig .tc cs s e} {A B : Finset s.Idx} {x : s.Idx → Elt Ideal e} (h : Disjoint A B) :
    holds c m (A ∪ B) x = iprop(holds c m A x ∗ holds c m B x) := by
  unfold holds
  have e : m.view.setOn (A ∪ B) = m.view.setOn A ∪ m.view.setOn B := Finset.map_union _ _
  rw [e]
  have hu : (View.loc (c : Thread nD τ) m.view ↦[m.view.setOn A ∪ m.view.setOn B]{fullShare} m.view.rep x : sProp 𝕄)
      ⊣⊢ iprop((View.loc (c : Thread nD τ) m.view ↦[m.view.setOn A]{fullShare} m.view.rep x) ∗
        View.loc (c : Thread nD τ) m.view ↦[m.view.setOn B]{fullShare} m.view.rep x) := pointsTo_union ((Finset.disjoint_map _).2 h)
  exact equiv_iff.mp ⟨hu.1, hu.2⟩

theorem some_of {X : Type} {Φ : X → sProp 𝕄} (x : X) : Φ x ⊢ iprop(∃ x, Φ x) := by
  iintro H
  iexists x
  iexact H

theorem bigSep_range_succ {n : ℕ} {Φ : ℕ → sProp 𝕄} : bigSep (Finset.range (n + 1)) Φ = iprop(Φ n ∗ bigSep (Finset.range n) Φ) := by
  have e := bigSep_insert (Φ := Φ) (Finset.notMem_range_self (n := n))
  rw [← Finset.range_add_one] at e
  exact e

theorem holds_join {cs : Space} {s : Shape} {e : EltTy} {m : Memref sig .tc cs s e} (K : ℕ → Finset s.Idx) (n : ℕ)
    (hd : ∀ u < n, ∀ u' < n, ∀ y, y ∈ K u → y ∈ K u' → u = u') :
    bigSep (Finset.range n) (fun u => iprop(∃ x, holds c m (K u) x)) ⊢ iprop(∃ x, holds c m ((Finset.range n).biUnion K) x) := by
  induction n with
  | zero =>
    refine ent_of_eq (B := iprop(emp)) rfl |>.trans ?_
    have e : holds c m ((Finset.range 0).biUnion K) (fun _ => Classical.arbitrary _) = iprop(emp) := by
      unfold holds
      exact pointsTo_empty
    iintro H
    iexists (fun _ => Classical.arbitrary _)
    iapply (ent_of_eq e.symm) $$ H
  | succ n ih =>
    rw [bigSep_range_succ]
    have hu : Disjoint (K n) ((Finset.range n).biUnion K) := by
      rw [Finset.disjoint_left]
      intro y hy hy'
      obtain ⟨u, hu, hk⟩ := Finset.mem_biUnion.1 hy'
      have h1 := Finset.mem_range.1 hu
      have h2 := hd n (Nat.lt_succ_self n) u (by omega) y hy hk
      omega
    have es : (Finset.range (n + 1)).biUnion K = K n ∪ (Finset.range n).biUnion K := by
      rw [Finset.range_add_one, Finset.biUnion_insert]
    have ih' := ih fun u hu u' hu' => hd u (by omega) u' (by omega)
    iintro ⟨⟨%x, H⟩, HR⟩
    ihave HR := ih' $$ HR
    icases HR with ⟨%x', HR⟩
    iexists (fun y => if y ∈ K n then x y else x' y)
    have e1 : holds c m (K n) x = holds c m (K n) (fun y => if y ∈ K n then x y else x' y) := holds_congr c fun y hy => by rw [if_pos hy]
    have e2 : holds c m ((Finset.range n).biUnion K) x' = holds c m ((Finset.range n).biUnion K) (fun y => if y ∈ K n then x y else x' y) :=
      holds_congr c fun y hy => by rw [if_neg (fun h => Finset.disjoint_left.1 hu h hy)]
    rw [es, holds_union c hu, ← e1, ← e2]
    isplitl [H]; · iexact H
    iexact HR

/-- A buffer with unknown contents is its parts with unknown contents. -/
theorem anyH_split {cs : Space} {s : Shape} {e : EltTy} {m : Memref sig .tc cs s e} (K : ℕ → Finset s.Idx) (n : ℕ)
    (hd : ∀ u < n, ∀ u' < n, ∀ y, y ∈ K u → y ∈ K u' → u = u') (hc : ∀ y, ∃ u < n, y ∈ K u) :
    anyH c m ⊢ bigSep (Finset.range n) (fun u => iprop(∃ x, holds c m (K u) x)) := by
  unfold anyH
  iintro ⟨%x, H⟩
  have e := holds_blocks c (m := m) (x := x) n K hd hc
  ihave H := (ent_of_eq e) $$ H
  have h : bigSep (Finset.range n) (fun u => holds c m (K u) x) ⊢ bigSep (Finset.range n) (fun u => iprop(∃ x, holds c m (K u) x)) := bigSep_mono fun u _ => some_of (Φ := fun x => holds c m (K u) x) x
  iapply h $$ H

theorem anyH_join {cs : Space} {s : Shape} {e : EltTy} {m : Memref sig .tc cs s e} (K : ℕ → Finset s.Idx) (n : ℕ)
    (hd : ∀ u < n, ∀ u' < n, ∀ y, y ∈ K u → y ∈ K u' → u = u') (hc : ∀ y, ∃ u < n, y ∈ K u) :
    bigSep (Finset.range n) (fun u => iprop(∃ x, holds c m (K u) x)) ⊢ anyH c m := by
  have h := holds_join c (m := m) K n hd
  have e : (Finset.range n).biUnion K = Finset.univ := by
    ext y
    obtain ⟨u, hu, hy⟩ := hc y
    exact ⟨fun _ => Finset.mem_univ _, fun _ => Finset.mem_biUnion.2 ⟨u, Finset.mem_range.2 hu, hy⟩⟩
  rw [e] at h
  exact h

/-- A squeezed slice with unknown contents is a part with unknown contents. -/
theorem part_any {cs : Space} {s s' : Shape} {e : EltTy} {m : Memref sig .tc cs s e} {r : Rect s} {h} {h' : r.shape.Squeezes s'} :
    (iprop(∃ v, holds c ((m.slice r h).squeeze s' h') Finset.univ v) : sProp 𝕄) = iprop(∃ x, holds c m r.set x) := by
  have inj : Function.Injective fun y : s'.Idx => r.emb (Shape.reshapeEquiv h'.numel_eq y) := fun a b e => (Shape.reshapeEquiv h'.numel_eq).injective (r.emb.injective e)
  have key (v : s'.Idx → Elt Ideal e) (x : s.Idx → Elt Ideal e) (hx : ∀ y, v y = x (r.emb (Shape.reshapeEquiv h'.numel_eq y))) :
      holds c ((m.slice r h).squeeze s' h') Finset.univ v = holds c m r.set x :=
    (holds_squeeze c (x := fun z => x (r.emb z)) hx).trans (holds_slice c fun _ => rfl)
  have h1 : iprop(∃ v, holds c ((m.slice r h).squeeze s' h') Finset.univ v) ⊢ (iprop(∃ x, holds c m r.set x) : sProp 𝕄) := by
    iintro ⟨%v, H⟩
    iexists (Function.extend (fun y : s'.Idx => r.emb (Shape.reshapeEquiv h'.numel_eq y)) v fun _ => Classical.arbitrary _)
    iapply (ent_of_eq (key v _ fun y => (inj.extend_apply v _ y).symm)) $$ H
  have h2 : (iprop(∃ x, holds c m r.set x) : sProp 𝕄) ⊢ iprop(∃ v, holds c ((m.slice r h).squeeze s' h') Finset.univ v) := by
    iintro ⟨%x, H⟩
    iexists (fun y => x (r.emb (Shape.reshapeEquiv h'.numel_eq y)))
    iapply (ent_of_eq (key _ x fun y => rfl).symm) $$ H
  exact equiv_iff.mp ⟨h1, h2⟩

/-- The rectangles of the two slots of a buffer of partial extremes. -/
abbrev SP (q : ℕ) : Finset S2x2x64x2x128.Idx := (Rect.unit (s := S2x2x64x2x128) ![q % 2, 0, 0, 0, 0] S1x2x64x2x128.size (slotInb (q % 2) (Nat.mod_lt _ (by decide)))).set

theorem mem_SP (q : ℕ) (y : S2x2x64x2x128.Idx) : y ∈ SP q ↔ (y 0).val = q % 2 := by
  rw [Rect.mem_set_unit]
  constructor
  · intro hy
    have h0 : q % 2 ≤ (y 0).val ∧ (y 0).val < q % 2 + 1 := hy 0
    omega
  · intro hy a
    match a with
    | ⟨0, _⟩ => exact ⟨Nat.le_of_eq hy.symm, Nat.lt_succ_of_le (Nat.le_of_eq hy)⟩
    | ⟨1, _⟩ => exact ⟨Nat.zero_le _, Nat.lt_of_lt_of_eq (y 1).isLt (Nat.zero_add 2).symm⟩
    | ⟨2, _⟩ => exact ⟨Nat.zero_le _, Nat.lt_of_lt_of_eq (y 2).isLt (Nat.zero_add 64).symm⟩
    | ⟨3, _⟩ => exact ⟨Nat.zero_le _, Nat.lt_of_lt_of_eq (y 3).isLt (Nat.zero_add 2).symm⟩
    | ⟨4, _⟩ => exact ⟨Nat.zero_le _, Nat.lt_of_lt_of_eq (y 4).isLt (Nat.zero_add 128).symm⟩

theorem SP_disj : ∀ u < 2, ∀ u' < 2, ∀ y, y ∈ SP u → y ∈ SP u' → u = u' := fun u hu u' hu' y h h' => by
  have h1 := (mem_SP u y).1 h
  have h2 := (mem_SP u' y).1 h'
  omega

theorem SP_cover : ∀ y, ∃ u < 2, y ∈ SP u := fun y => by
  have h0 : (y 0).val < 2 := (y 0).isLt
  exact ⟨(y 0).val, h0, (mem_SP _ y).2 (by omega)⟩

theorem anyP_eq {m : Memref sig .tc .vmem S2x2x64x2x128 .bf16} : iprop(anyP c m 1 (by decide) ∗ anyP c m 0 (by decide) ∗ emp)
    = bigSep (Finset.range 2) (fun u => iprop(∃ x, holds c m (SP u) x)) := by
  rw [bigSep_range_succ, bigSep_range_succ, Finset.range_zero, bigSep_empty]
  unfold anyP
  have e1 := part_any c (m := m) (r := Rect.unit (s := S2x2x64x2x128) ![1, 0, 0, 0, 0] S1x2x64x2x128.size (slotInb 1 (by decide))) (h := fun _ => rfl) (h' := squeezes_S1x2x64x2x128_S2x64x2x128)
  have e0 := part_any c (m := m) (r := Rect.unit (s := S2x2x64x2x128) ![0, 0, 0, 0, 0] S1x2x64x2x128.size (slotInb 0 (by decide))) (h := fun _ => rfl) (h' := squeezes_S1x2x64x2x128_S2x64x2x128)
  exact congr (congrArg BI.sep e1) (congrArg (fun z => BI.sep z iprop(emp)) e0)

theorem split_parts {m : Memref sig .tc .vmem S2x2x64x2x128 .bf16} : anyH c m ⊢ iprop(anyP c m 0 (by decide) ∗ anyP c m 1 (by decide)) := by
  refine (anyH_split c (m := m) SP 2 SP_disj SP_cover).trans ?_
  rw [← anyP_eq]
  iintro ⟨H1, H0, H⟩
  isplitl [H0]; · iexact H0
  iexact H1

theorem join_parts {m : Memref sig .tc .vmem S2x2x64x2x128 .bf16} : iprop(anyP c m 0 (by decide) ∗ anyP c m 1 (by decide)) ⊢ anyH c m := by
  refine BIBase.Entails.trans ?_ (anyH_join c (m := m) SP 2 SP_disj SP_cover)
  rw [← anyP_eq]
  iintro ⟨H0, H1⟩
  isplitl [H1]; · iexact H1
  isplitl [H0]; · iexact H0
  iempintro

theorem S7_mem (q : ℕ) (y : S4x256x4096.Idx) : y ∈ S7 q ↔ (y 0).val = q := by unfold S7; simp
theorem S8_mem (q : ℕ) (y : S2x256x2048.Idx) : y ∈ S8 q ↔ (y 0).val = q := by unfold S8; simp

theorem S7_disj : ∀ u < 4, ∀ u' < 4, ∀ y, y ∈ S7 u → y ∈ S7 u' → u = u' := fun u hu u' hu' y h h' =>
  ((S7_mem u y).1 h).symm.trans ((S7_mem u' y).1 h')
theorem S7_cover : ∀ y, ∃ u < 4, y ∈ S7 u := fun y => ⟨(y 0).val, (y 0).isLt, (S7_mem _ y).2 rfl⟩
theorem S8_disj : ∀ u < 2, ∀ u' < 2, ∀ y, y ∈ S8 u → y ∈ S8 u' → u = u' := fun u hu u' hu' y h h' =>
  ((S8_mem u y).1 h).symm.trans ((S8_mem u' y).1 h')
theorem S8_cover : ∀ y, ∃ u < 2, y ∈ S8 u := fun y => ⟨(y 0).val, (y 0).isLt, (S8_mem _ y).2 rfl⟩

variable (M : Args) (W : ℕ → ℕ → EReal)

/-- An input slot, whatever it holds. -/
abbrev anyI (u : ℕ) : sProp 𝕄 := iprop(∃ x, holds c (inSl M u) Finset.univ x)
/-- An output slot, whatever it holds. -/
abbrev anyO (u : ℕ) : sProp 𝕄 := iprop(∃ x, holds c (outSl M u) Finset.univ x)

variable {c M W}

theorem anyI_eq (u : ℕ) (hu : u < 4) : anyI c M u = iprop(∃ x, holds c M.a7 (S7 u) x) := by
  have h1 : anyI c M u ⊢ iprop(∃ x, holds c M.a7 (S7 u) x) := by
    unfold anyI
    iintro ⟨%x, H⟩
    have e := in_eq c (M := M) u (v := x) (x := fun y => x (ix2 (n0 := 256) (n1 := 4096) (y 1) (y 2))) (fun y hy => rfl)
    rw [Nat.mod_eq_of_lt hu] at e
    iexists _
    iapply (ent_of_eq e) $$ H
  have h2 : iprop(∃ x, holds c M.a7 (S7 u) x) ⊢ anyI c M u := by
    unfold anyI
    iintro ⟨%x, H⟩
    have e := in_eq c (M := M) u (v := fun y => x (ix3 (n0 := 4) (n1 := 256) (n2 := 4096) ⟨u, hu⟩ (y 0) (y 1))) (x := x) (fun y hy => congrArg x (funext fun a => by
      match a with
      | ⟨0, _⟩ => exact Fin.ext (show u = (y 0).val by omega)
      | ⟨1, _⟩ => rfl
      | ⟨2, _⟩ => rfl))
    rw [Nat.mod_eq_of_lt hu] at e
    iexists _
    iapply (ent_of_eq e.symm) $$ H
  exact equiv_iff.mp ⟨h1, h2⟩

theorem anyO_eq (u : ℕ) (hu : u < 2) : anyO c M u = iprop(∃ x, holds c M.a8 (S8 u) x) := by
  have h1 : anyO c M u ⊢ iprop(∃ x, holds c M.a8 (S8 u) x) := by
    unfold anyO
    iintro ⟨%x, H⟩
    have e := out_eq c (M := M) u (v := x) (x := fun y => x (ix2 (n0 := 256) (n1 := 2048) (y 1) (y 2))) (fun y hy => rfl)
    rw [Nat.mod_eq_of_lt hu] at e
    iexists _
    iapply (ent_of_eq e) $$ H
  have h2 : iprop(∃ x, holds c M.a8 (S8 u) x) ⊢ anyO c M u := by
    unfold anyO
    iintro ⟨%x, H⟩
    have e := out_eq c (M := M) u (v := fun y => x (ix3 (n0 := 2) (n1 := 256) (n2 := 2048) ⟨u, hu⟩ (y 0) (y 1))) (x := x) (fun y hy => congrArg x (funext fun a => by
      match a with
      | ⟨0, _⟩ => exact Fin.ext (show u = (y 0).val by omega)
      | ⟨1, _⟩ => rfl
      | ⟨2, _⟩ => rfl))
    rw [Nat.mod_eq_of_lt hu] at e
    iexists _
    iapply (ent_of_eq e.symm) $$ H
  exact equiv_iff.mp ⟨h1, h2⟩

theorem split7 : anyH c M.a7 ⊢ iprop(anyI c M 3 ∗ anyI c M 2 ∗ anyI c M 1 ∗ anyI c M 0 ∗ emp) := by
  refine (anyH_split c (m := M.a7) S7 4 S7_disj S7_cover).trans ?_
  rw [bigSep_range_succ, bigSep_range_succ, bigSep_range_succ, bigSep_range_succ, Finset.range_zero, bigSep_empty,
    ← anyI_eq 3 (by decide), ← anyI_eq 2 (by decide), ← anyI_eq 1 (by decide), ← anyI_eq 0 (by decide)]
  exact ent_of_eq rfl

theorem join7 : iprop(anyI c M 3 ∗ anyI c M 2 ∗ anyI c M 1 ∗ anyI c M 0 ∗ emp) ⊢ anyH c M.a7 := by
  refine BIBase.Entails.trans ?_ (anyH_join c (m := M.a7) S7 4 S7_disj S7_cover)
  rw [bigSep_range_succ, bigSep_range_succ, bigSep_range_succ, bigSep_range_succ, Finset.range_zero, bigSep_empty,
    ← anyI_eq 3 (by decide), ← anyI_eq 2 (by decide), ← anyI_eq 1 (by decide), ← anyI_eq 0 (by decide)]
  exact ent_of_eq rfl

theorem split8 : anyH c M.a8 ⊢ iprop(anyO c M 1 ∗ anyO c M 0 ∗ emp) := by
  refine (anyH_split c (m := M.a8) S8 2 S8_disj S8_cover).trans ?_
  rw [bigSep_range_succ, bigSep_range_succ, Finset.range_zero, bigSep_empty, ← anyO_eq 1 (by decide), ← anyO_eq 0 (by decide)]
  exact ent_of_eq rfl

theorem join8 : iprop(anyO c M 1 ∗ anyO c M 0 ∗ emp) ⊢ anyH c M.a8 := by
  refine BIBase.Entails.trans ?_ (anyH_join c (m := M.a8) S8 2 S8_disj S8_cover)
  rw [bigSep_range_succ, bigSep_range_succ, Finset.range_zero, bigSep_empty, ← anyO_eq 1 (by decide), ← anyO_eq 0 (by decide)]
  exact ent_of_eq rfl

/-! The results, whole. -/

/-- The weights. -/
def wV (W : ℕ → ℕ → EReal) (y : S1792x16384.Idx) : Elt Ideal .bf16 := W (y 0).val (y 1).val
/-- The packed codes. -/
def pkV (W : ℕ → ℕ → EReal) (y : S1792x8192.Idx) : Elt Ideal .i8 := byteAt W (y 0).val (y 1).val
/-- The scales. -/
def scV (W : ℕ → ℕ → EReal) (y : S1792x256.Idx) : Elt Ideal .f32 := SG W (y 0).val (y 1).val
/-- The zero points. -/
def zV (W : ℕ → ℕ → EReal) (y : S1792x256.Idx) : Elt Ideal .i8 := zByte (ZP W (y 0).val (y 1).val)

theorem home_all : holds c M.a0 Finset.univ (wV W) = bigSep (Finset.range 28) (home c M W) :=
  blocks2 c (m := M.a0) (N0 := 1792) (N1 := 16384) (m0 := 256) (m1 := 4096) 28 (fun u => u / 4 % 7) (fun u => u % 4) (inb := inW) (v := wU W) (by decide)
    (fun u hu u' hu' h1 h2 => by omega)
    (fun i hi j hj => ⟨4 * (i / 256) + j / 4096, by omega, show (4 * (i / 256) + j / 4096) / 4 % 7 = _ by omega, show (4 * (i / 256) + j / 4096) % 4 = _ by omega⟩)
    (fun u hu y z h0 h1 => by
      show W (256 * (u / 4) + (y 0).val) (4096 * (u % 4) + (y 1).val) = W (z 0).val (z 1).val
      rw [h0, h1, Nat.mod_eq_of_lt (show u / 4 < 7 by omega)])

theorem pk_all : holds c M.a1 Finset.univ (pkV W) = bigSep (Finset.range 28) (pkDone c M W) :=
  blocks2 c (m := M.a1) (N0 := 1792) (N1 := 8192) (m0 := 256) (m1 := 2048) 28 (fun u => u / 4 % 7) (fun u => u % 4) (inb := inPk) (v := bU W) (by decide)
    (fun u hu u' hu' h1 h2 => by omega)
    (fun i hi j hj => ⟨4 * (i / 256) + j / 2048, by omega, show (4 * (i / 256) + j / 2048) / 4 % 7 = _ by omega, show (4 * (i / 256) + j / 2048) % 4 = _ by omega⟩)
    (fun u hu y z h0 h1 => by
      show byteAt W (256 * (u / 4) + (y 0).val) (2048 * (u % 4) + (y 1).val) = byteAt W (z 0).val (z 1).val
      rw [h0, h1, Nat.mod_eq_of_lt (show u / 4 < 7 by omega)])

theorem sc_all : holds c M.a2 Finset.univ (scV W) = bigSep (Finset.range 7) (scDone c M W) :=
  blocks2 c (m := M.a2) (N0 := 1792) (N1 := 256) (m0 := 256) (m1 := 256) 7 (fun b => b % 7) (fun _ => 0) (inb := inRow) (v := scU W) (by decide)
    (fun u hu u' hu' h1 h2 => by omega)
    (fun i hi j hj => ⟨i / 256, by omega, show i / 256 % 7 = _ by omega, show 0 = _ by omega⟩)
    (fun u hu y z h0 h1 => by
      show SG W (256 * u + (y 0).val) (y 1).val = SG W (z 0).val (z 1).val
      rw [h0, h1, Nat.mod_eq_of_lt hu, Nat.mul_zero, Nat.zero_add])

theorem z_all : holds c M.a3 Finset.univ (zV W) = bigSep (Finset.range 7) (zDone c M W) :=
  blocks2 c (m := M.a3) (N0 := 1792) (N1 := 256) (m0 := 256) (m1 := 256) 7 (fun b => b % 7) (fun _ => 0) (inb := inRow) (v := zU W) (by decide)
    (fun u hu u' hu' h1 h2 => by omega)
    (fun i hi j hj => ⟨i / 256, by omega, show i / 256 % 7 = _ by omega, show 0 = _ by omega⟩)
    (fun u hu y z h0 h1 => by
      show zByte (ZP W (256 * u + (y 0).val) (y 1).val) = zByte (ZP W (z 0).val (z 1).val)
      rw [h0, h1, Nat.mod_eq_of_lt hu, Nat.mul_zero, Nat.zero_add])

theorem emb2 {N0 N1 m0 m1 o0 o1 : ℕ} {inb : ∀ a, (![o0, o1] : Fin 2 → ℕ) a + (⟨2, ![m0, m1]⟩ : Shape).size a ≤ (⟨2, ![N0, N1]⟩ : Shape).size a}
    (y : (⟨2, ![m0, m1]⟩ : Shape).Idx) (z : (⟨2, ![N0, N1]⟩ : Shape).Idx) (h0 : (z 0).val = o0 + (y 0).val) (h1 : (z 1).val = o1 + (y 1).val) :
    (Rect.unit (s := ⟨2, ![N0, N1]⟩) ![o0, o1] (⟨2, ![m0, m1]⟩ : Shape).size inb).emb y = z := by
  funext a
  match a with
  | ⟨0, _⟩ => exact Fin.ext (show o0 + 1 * (y 0).val = (z 0).val by omega)
  | ⟨1, _⟩ => exact Fin.ext (show o1 + 1 * (y 1).val = (z 1).val by omega)

theorem pk_any : anyH c M.a1 ⊢ bigSep (Finset.range 28) (pkAny c M) := by
  unfold anyH
  iintro ⟨%x, H⟩
  have e : holds c M.a1 Finset.univ x = bigSep (Finset.range 28) (fun u => holds c (pkSl M u) Finset.univ (fun y => x ((Rect.unit (s := S1792x8192) ![256 * (u / 4 % 7), 2048 * (u % 4)] S256x2048.size (inPk u)).emb y))) :=
    blocks2 c (m := M.a1) (N0 := 1792) (N1 := 8192) (m0 := 256) (m1 := 2048) 28 (fun u => u / 4 % 7) (fun u => u % 4) (inb := inPk) (by decide)
      (fun u hu u' hu' h1 h2 => by omega)
      (fun i hi j hj => ⟨4 * (i / 256) + j / 2048, by omega, show (4 * (i / 256) + j / 2048) / 4 % 7 = _ by omega, show (4 * (i / 256) + j / 2048) % 4 = _ by omega⟩)
      (fun u hu y z h0 h1 => congrArg x (emb2 y z h0 h1))
  have h : bigSep (Finset.range 28) (fun u => holds c (pkSl M u) Finset.univ (fun y => x ((Rect.unit (s := S1792x8192) ![256 * (u / 4 % 7), 2048 * (u % 4)] S256x2048.size (inPk u)).emb y)))
      ⊢ bigSep (Finset.range 28) (pkAny c M) := bigSep_mono fun u _ => some_of (Φ := fun x => holds c (pkSl M u) Finset.univ x) _
  iapply h
  iapply (ent_of_eq e) $$ H

theorem sc_any : anyH c M.a2 ⊢ bigSep (Finset.range 7) (scAny c M) := by
  unfold anyH
  iintro ⟨%x, H⟩
  have e : holds c M.a2 Finset.univ x = bigSep (Finset.range 7) (fun u => holds c (scSl M u) Finset.univ (fun y => x ((Rect.unit (s := S1792x256) ![256 * (u % 7), 0] S256x256.size (inRow u)).emb y))) :=
    blocks2 c (m := M.a2) (N0 := 1792) (N1 := 256) (m0 := 256) (m1 := 256) 7 (fun b => b % 7) (fun _ => 0) (inb := inRow) (by decide)
      (fun u hu u' hu' h1 h2 => by omega)
      (fun i hi j hj => ⟨i / 256, by omega, show i / 256 % 7 = _ by omega, show 0 = _ by omega⟩)
      (fun u hu y z h0 h1 => congrArg x (emb2 y z h0 h1))
  have h : bigSep (Finset.range 7) (fun u => holds c (scSl M u) Finset.univ (fun y => x ((Rect.unit (s := S1792x256) ![256 * (u % 7), 0] S256x256.size (inRow u)).emb y)))
      ⊢ bigSep (Finset.range 7) (scAny c M) := bigSep_mono fun u _ => some_of (Φ := fun x => holds c (scSl M u) Finset.univ x) _
  iapply h
  iapply (ent_of_eq e) $$ H

theorem z_any : anyH c M.a3 ⊢ bigSep (Finset.range 7) (zAny c M) := by
  unfold anyH
  iintro ⟨%x, H⟩
  have e : holds c M.a3 Finset.univ x = bigSep (Finset.range 7) (fun u => holds c (zSl M u) Finset.univ (fun y => x ((Rect.unit (s := S1792x256) ![256 * (u % 7), 0] S256x256.size (inRow u)).emb y))) :=
    blocks2 c (m := M.a3) (N0 := 1792) (N1 := 256) (m0 := 256) (m1 := 256) 7 (fun b => b % 7) (fun _ => 0) (inb := inRow) (by decide)
      (fun u hu u' hu' h1 h2 => by omega)
      (fun i hi j hj => ⟨i / 256, by omega, show i / 256 % 7 = _ by omega, show 0 = _ by omega⟩)
      (fun u hu y z h0 h1 => congrArg x (emb2 y z h0 h1))
  have h : bigSep (Finset.range 7) (fun u => holds c (zSl M u) Finset.univ (fun y => x ((Rect.unit (s := S1792x256) ![256 * (u % 7), 0] S256x256.size (inRow u)).emb y)))
      ⊢ bigSep (Finset.range 7) (zAny c M) := bigSep_mono fun u _ => some_of (Φ := fun x => holds c (zSl M u) Finset.univ x) _
  iapply h
  iapply (ent_of_eq e) $$ H

theorem put2_in {α : Type} {N0 N1 m0 m1 o0 o1 : ℕ} (x : (⟨2, ![N0, N1]⟩ : Shape).Idx → α) (w : (⟨2, ![m0, m1]⟩ : Shape).Idx → α)
    (y : (⟨2, ![N0, N1]⟩ : Shape).Idx) (h0 : o0 ≤ (y 0).val ∧ (y 0).val < o0 + m0) (h1 : o1 ≤ (y 1).val ∧ (y 1).val < o1 + m1) :
    VecWindow.put (s := ⟨2, ![N0, N1]⟩) x ![o0, o1] (⟨2, ![m0, m1]⟩ : Shape).size w y
      = w (ix2 ⟨(y 0).val - o0, by omega⟩ ⟨(y 1).val - o1, by omega⟩) := by
  unfold VecWindow.put
  rw [dif_pos (fun d => match d with
    | ⟨0, _⟩ => h0
    | ⟨1, _⟩ => h1)]
  refine congrArg w (funext fun d => Fin.ext ?_)
  match d with
  | ⟨0, _⟩ => rfl
  | ⟨1, _⟩ => rfl

theorem put2_out {α : Type} {N0 N1 m0 m1 o0 o1 : ℕ} (x : (⟨2, ![N0, N1]⟩ : Shape).Idx → α) (w : (⟨2, ![m0, m1]⟩ : Shape).Idx → α)
    (y : (⟨2, ![N0, N1]⟩ : Shape).Idx) (h : ¬ ((o0 ≤ (y 0).val ∧ (y 0).val < o0 + m0) ∧ (o1 ≤ (y 1).val ∧ (y 1).val < o1 + m1))) :
    VecWindow.put (s := ⟨2, ![N0, N1]⟩) x ![o0, o1] (⟨2, ![m0, m1]⟩ : Shape).size w y = x y := by
  unfold VecWindow.put
  rw [dif_neg fun hh => h ⟨hh 0, hh 1⟩]

end Cert.KernelIdeal.Stage
-- ==== Proof.Epi.lean ====
module

public import proofs.«01_k».proof.Proof.Parts

@[expose] public section

/-! What follows the loop. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

/-- A row block of the scales. -/
def rawW (W : ℕ → ℕ → EReal) (i : ℕ) (y : S1x256x256.Idx) : Elt Ideal .f32 := SG W (256 * i + (y 2).val) (y 1).val
/-- The scales of the scales. -/
def s2E (off : Elt Ideal .f32) (W : ℕ → ℕ → EReal) (y : S1x1792.Idx) : Elt Ideal .f32 :=
  s2V (F := Ideal) off (rawW W ((y 1).val / 256)) (ix2 (n0 := 1) (n1 := 256) 0 ⟨(y 1).val % 256, Nat.mod_lt _ (by decide)⟩)
/-- The codes of the scales. -/
def qE (off : Elt Ideal .f32) (W : ℕ → ℕ → EReal) (y : S1792x256.Idx) : Elt Ideal .i8 :=
  qV (F := Ideal) off (rawW W ((y 0).val / 256)) (ix2 (n0 := 256) (n1 := 256) ⟨(y 0).val % 256, Nat.mod_lt _ (by decide)⟩ (y 1))
/-- The mean of the scales. -/
abbrev offW (W : ℕ → ℕ → EReal) : Elt Ideal .f32 := offV (F := Ideal) (fun y : S8x128.Idx => accN W 224 (y 0).val (y 1).val)

variable (M : Args) (W : ℕ → ℕ → EReal)

/-- The second quantisation when `n` row blocks are done. -/
def eSt (off : Elt Ideal .f32) (n : ℕ) : sProp 𝕄 :=
  iprop((∃ x5, ⌜∀ y, (y 1).val < 256 * n → x5 y = s2E off W y⌝ ∗ holds c M.a5 Finset.univ x5)
    ∗ (∃ x19, ⌜∀ y, (y 0).val < 256 * n → x19 y = qE off W y⌝ ∗ holds c M.a19 Finset.univ x19)
    ∗ (∃ x14, ⌜∀ y, x14 y = SG W (256 * (y 0).val + (y 2).val) (y 1).val⌝ ∗ holds c M.a14 Finset.univ x14))

variable {c M W}

theorem put5 {off : Elt Ideal .f32} {i : ℕ} (hi : i < 7) {x : S1x1792.Idx → Elt Ideal .f32} (hx : ∀ y, (y 1).val < 256 * i → x y = s2E off W y)
    {raw : S1x256x256.Idx → Elt Ideal .f32} (hr : raw = rawW W i) (y : S1x1792.Idx) (hy : (y 1).val < 256 * (i + 1)) :
    VecWindow.put (s := ⟨2, ![1, 1792]⟩) x ![0, 256 * i] (⟨2, ![1, 256]⟩ : Shape).size (s2V (F := Ideal) off raw) y = s2E off W y := by
  subst hr
  have h0 : (y 0).val = 0 := Nat.lt_one_iff.1 (y 0).isLt
  by_cases h : 256 * i ≤ (y 1).val
  · have hd : (y 1).val / 256 = i := by omega
    refine (put2_in x _ y ⟨by omega, by omega⟩ ⟨h, by omega⟩).trans ?_
    unfold s2E
    rw [hd]
    refine congrArg (s2V (F := Ideal) off (rawW W i)) (funext fun a => Fin.ext ?_)
    match a with
    | ⟨0, _⟩ => exact (show (y 0).val - 0 = 0 by omega)
    | ⟨1, _⟩ => exact (show (y 1).val - 256 * i = (y 1).val % 256 by omega)
  · exact (put2_out x _ y (by omega)).trans (hx y (by omega))

theorem put19 {off : Elt Ideal .f32} {i : ℕ} (hi : i < 7) {x : S1792x256.Idx → Elt Ideal .i8} (hx : ∀ y, (y 0).val < 256 * i → x y = qE off W y)
    {raw : S1x256x256.Idx → Elt Ideal .f32} (hr : raw = rawW W i) (y : S1792x256.Idx) (hy : (y 0).val < 256 * (i + 1)) :
    VecWindow.put (s := ⟨2, ![1792, 256]⟩) x ![256 * i, 0] (⟨2, ![256, 256]⟩ : Shape).size (qV (F := Ideal) off raw) y = qE off W y := by
  subst hr
  have h1 : (y 1).val < 256 := (y 1).isLt
  by_cases h : 256 * i ≤ (y 0).val
  · have hd : (y 0).val / 256 = i := by omega
    refine (put2_in x _ y ⟨h, by omega⟩ ⟨by omega, by omega⟩).trans ?_
    unfold qE
    rw [hd]
    refine congrArg (qV (F := Ideal) off (rawW W i)) (funext fun a => Fin.ext ?_)
    match a with
    | ⟨0, _⟩ => exact (show (y 0).val - 256 * i = (y 0).val % 256 by omega)
    | ⟨1, _⟩ => exact (show (y 1).val - 0 = (y 1).val by omega)
  · exact (put2_out x _ y (by omega)).trans (hx y (by omega))

theorem raw14 {i : ℕ} (hi : i < 7) {x : S7x256x256.Idx → Elt Ideal .f32} (hx : ∀ y, x y = SG W (256 * (y 0).val + (y 2).val) (y 1).val) :
    (fun y => x ((Rect.unit (s := S7x256x256) ![i, 0, 0] S1x256x256.size (inb14 i hi)).toLoadRect.idx y)) = rawW W i := by
  funext y
  rw [hx]
  have h0 : (y 0).val = 0 := Nat.lt_one_iff.1 (y 0).isLt
  show SG W (256 * (i + 1 * (y 0).val) + (0 + 1 * (y 2).val)) (0 + 1 * (y 1).val) = SG W (256 * i + (y 2).val) (y 1).val
  rw [h0, Nat.mul_zero, Nat.add_zero, Nat.one_mul, Nat.one_mul, Nat.zero_add, Nat.zero_add]

set_option maxHeartbeats 1000000 in
/-- One row block's second quantisation. -/
theorem epiBlk_spec {off : Elt Ideal .f32} {i : ℕ} {hi : i < 7} {k : PrgI α} :
    eSt c M W off i ⊢ iprop((eSt c M W off (i + 1) -∗ runs c k Q) -∗ runs c (epiBlk (F := Ideal) M off i hi k) Q) := by
  unfold epiBlk eSt
  iintro ⟨⟨%x5, %h5, H5⟩, ⟨%x19, %h19, H19⟩, ⟨%x14, %h14, H14⟩⟩ Hk
  have hr := raw14 hi h14
  iapply (runs_load_w c (Finset.subset_univ _)) $$ H14
  iintro H14
  iapply (runs_load_w c (Finset.subset_univ _)) $$ H5
  iintro H5
  iapply (runs_store_w c (Finset.subset_univ _)) $$ H5
  iintro H5
  iapply (runs_load_w c (Finset.subset_univ _)) $$ H19
  iintro H19
  iapply (runs_store_w c (Finset.subset_univ _)) $$ H19
  iintro H19
  iapply Hk
  isplitl [H5]
  · iexists _
    isplitr [H5]
    rotate_left
    · iexact H5
    ipureintro
    exact fun y hy => put5 hi h5 hr y hy
  isplitl [H19]
  · iexists _
    isplitr [H19]
    rotate_left
    · iexact H19
    ipureintro
    exact fun y hy => put19 hi h19 hr y hy
  iexists x14
  isplitr [H14]
  · ipureintro
    exact h14
  iexact H14

theorem epiBlks_spec {off : Elt Ideal .f32} {k : PrgI α} :
    eSt c M W off 0 ⊢ iprop((eSt c M W off 7 -∗ runs c k Q) -∗ runs c (epiBlks (F := Ideal) M off k) Q) := by
  unfold epiBlks
  iintro H Hk
  iapply epiBlk_spec $$ H
  iintro H
  iapply epiBlk_spec $$ H
  iintro H
  iapply epiBlk_spec $$ H
  iintro H
  iapply epiBlk_spec $$ H
  iintro H
  iapply epiBlk_spec $$ H
  iintro H
  iapply epiBlk_spec $$ H
  iintro H
  iapply epiBlk_spec $$ H
  iintro H
  iapply Hk $$ H

theorem pk_end : iprop(pkDone c M W 27 ∗ pkDone c M W 26 ∗ pks c M W 26 28) ⊢ holds c M.a1 Finset.univ (pkV W) := by
  unfold pks
  rw [pk_all, ← band_all (A := pkDone c M W) (B := pkAny c M) (hi := 28) (le_refl 28), band_lo (lo := 27) (by decide) (by decide), band_lo (lo := 26) (by decide) (by decide)]

theorem sc_end : iprop(scDone c M W 6 ∗ scs c M W 6 7) ⊢ holds c M.a2 Finset.univ (scV W) := by
  unfold scs
  rw [sc_all, ← band_all (A := scDone c M W) (B := scAny c M) (hi := 7) (le_refl 7), band_lo (lo := 6) (by decide) (by decide)]

theorem z_end : iprop(zDone c M W 6 ∗ zs c M W 6 7) ⊢ holds c M.a3 Finset.univ (zV W) := by
  unfold zs
  rw [z_all, ← band_all (A := zDone c M W) (B := zAny c M) (hi := 7) (le_refl 7), band_lo (lo := 6) (by decide) (by decide)]

theorem home_end : homes c M W 28 31 ⊢ holds c M.a0 Finset.univ (wV W) := by
  unfold homes
  rw [home_all, band_all (le_refl 28)]

theorem freeI_end {u : ℕ} (u' : ℕ) (h : u % 4 = u' % 4) : freeI c M u ⊢ iprop(anyI c M u' ∗ idle c (inSm M u')) := by
  rw [freeI_congr h]
  unfold freeI
  iintro ⟨%x, H, HI⟩
  isplitl [H]
  · iexists x
    iexact H
  iexact HI

/-- What holds after the last trip. -/
theorem inv_end : Inv c M W 28 ⊢ iprop(freeI c M 28 ∗ freeI c M 29 ∗ freeI c M 30 ∗ freeI c M 31 ∗ homes c M W 28 31
      ∗ fl c (outSm M 0) (nOut M) iprop(pkDone c M W 26 ∗ holds c (outSl M 0) Finset.univ (bU W 26))
      ∗ fl c (outSm M 1) (nOut M) iprop(pkDone c M W 27 ∗ holds c (outSl M 1) Finset.univ (bU W 27))
      ∗ pks c M W 26 28
      ∗ ((fl c M.a22.sem (nSc M) iprop(scDone c M W 6 ∗ holds c M.a17 Finset.univ (scU W 6))
        ∗ fl c M.a23.sem (nZ M) iprop(zDone c M W 6 ∗ holds c M.a18 Finset.univ (zU W 6))) ∗ scs c M W 6 7 ∗ zs c M W 6 7)
      ∗ perm9 c M.bufs ∗ tabsOk c M.bufs W (sN 224) 224
      ∗ (anyP c M.a10 0 (by decide) ∗ anyP c M.a10 1 (by decide) ∗ anyP c M.a11 0 (by decide) ∗ anyP c M.a11 1 (by decide)) ∗ owesAny c) := by
  unfold Inv sState outRole sRole inRole
  rw [if_neg (by decide), if_neg (by decide), if_neg (by decide), if_pos (by decide), if_pos (by decide), if_pos (by decide)]

/-- The size of the codes of the scales, in the copies' credits. -/
abbrev nQ (M : Args) : ℕ := M.a4.view.dmaCredit

set_option maxHeartbeats 2000000 in
/-- The last copy, and the waits. -/
theorem waits_spec {off : Elt Ideal .f32} {Q : PUnit → sProp 𝕄} :
    iprop(holds c M.a19 Finset.univ (qE off W) ∗ anyH c M.a4
      ∗ fl c (outSm M 0) (nOut M) iprop(pkDone c M W 26 ∗ holds c (outSl M 0) Finset.univ (bU W 26))
      ∗ fl c (outSm M 1) (nOut M) iprop(pkDone c M W 27 ∗ holds c (outSl M 1) Finset.univ (bU W 27))
      ∗ pks c M W 26 28
      ∗ ((fl c M.a22.sem (nSc M) iprop(scDone c M W 6 ∗ holds c M.a17 Finset.univ (scU W 6))
        ∗ fl c M.a23.sem (nZ M) iprop(zDone c M W 6 ∗ holds c M.a18 Finset.univ (zU W 6))) ∗ scs c M W 6 7 ∗ zs c M W 6 7)
      ∗ idle c M.a24.sem ∗ owesAny c)
    ⊢ iprop((iprop(holds c M.a1 Finset.univ (pkV W) ∗ holds c M.a2 Finset.univ (scV W) ∗ holds c M.a3 Finset.univ (zV W) ∗ holds c M.a4 Finset.univ (qE off W)
        ∗ anyH c M.a8 ∗ anyH c M.a17 ∗ anyH c M.a18 ∗ anyH c M.a19
        ∗ (idle c (outSm M 0) ∗ idle c (outSm M 1)) ∗ idle c M.a22.sem ∗ idle c M.a23.sem ∗ idle c M.a24.sem ∗ owesAny c) -∗ Q ⟨⟩)
      -∗ runs c (waits (F := Ideal) M) Q) := by
  unfold waits
  iintro ⟨H19, ⟨%x4, H4⟩, F0, F1, HP, ⟨⟨F2, F3⟩, HS, HZ⟩, S24, HW⟩ Hk
  iapply (enq_w c (v := qE off W) (x := x4) (src' := M.a19) (dst' := M.a4) (sem' := M.a24.sem) rfl rfl rfl (by decide) (N := nQ M) rfl) $$ [H19 H4 S24]
  · isplitl [H19]; · iexact H19
    isplitl [H4]; · iexact H4
    iexact S24
  iintro F4
  iapply (wait_w c (dst := M.a1.slice (Rect.unit (s := S1792x8192) ![1536, 4096] S256x2048.size inb_S1792x8192_S256x2048_1536_4096) (fun _ => rfl)) (outSm_eq 0 (by decide : (![0] : Fin 1 → ℕ) = _)) (N := nOut M) rfl) $$ [F0 HW]
  · isplitl [F0]; · iexact F0
    iexact HW
  iintro ⟨⟨D0, O0⟩, T0, HW⟩
  iapply (wait_w c (dst := M.a1.slice (Rect.unit (s := S1792x8192) ![1536, 6144] S256x2048.size inb_S1792x8192_S256x2048_1536_6144) (fun _ => rfl)) (outSm_eq 1 (by decide : (![1] : Fin 1 → ℕ) = _)) (N := nOut M) rfl) $$ [F1 HW]
  · isplitl [F1]; · iexact F1
    iexact HW
  iintro ⟨⟨D1, O1⟩, T1, HW⟩
  iapply (wait_w c (dst := M.a2.slice (Rect.unit (s := S1792x256) ![1536, 0] S256x256.size inb_S1792x256_S256x256_1536_0) (fun _ => rfl)) (sem' := M.a22.sem) rfl (N := nSc M) rfl) $$ [F2 HW]
  · isplitl [F2]; · iexact F2
    iexact HW
  iintro ⟨⟨D2, O2⟩, T2, HW⟩
  iapply (wait_w c (dst := M.a3.slice (Rect.unit (s := S1792x256) ![1536, 0] S256x256.size inb_S1792x256_S256x256_1536_0) (fun _ => rfl)) (sem' := M.a23.sem) rfl (N := nZ M) rfl) $$ [F3 HW]
  · isplitl [F3]; · iexact F3
    iexact HW
  iintro ⟨⟨D3, O3⟩, T3, HW⟩
  iapply (wait_w c (dst := M.a4) (sem' := M.a24.sem) rfl (N := nQ M) rfl) $$ [F4 HW]
  · isplitl [F4]; · iexact F4
    iexact HW
  iintro ⟨⟨D4, O4⟩, T4, HW⟩
  iapply (runs_ret c)
  iapply Hk
  isplitl [HP D0 D1]
  · iapply pk_end
    isplitl [D1]; · iexact D1
    isplitl [D0]; · iexact D0
    iexact HP
  isplitl [HS D2]
  · iapply sc_end
    isplitl [D2]; · iexact D2
    iexact HS
  isplitl [HZ D3]
  · iapply z_end
    isplitl [D3]; · iexact D3
    iexact HZ
  isplitl [D4]; · iexact D4
  isplitl [O0 O1]
  · iapply join8
    isplitl [O1]
    · iexists _
      iexact O1
    isplitl [O0]
    · iexists _
      iexact O0
    iempintro
  isplitl [O2]
  · iexists _
    iexact O2
  isplitl [O3]
  · iexists _
    iexact O3
  isplitl [O4]
  · iexists _
    iexact O4
  isplitl [T0 T1]
  · isplitl [T0]; · iexact T0
    iexact T1
  isplitl [T2]; · iexact T2
  isplitl [T3]; · iexact T3
  isplitl [T4]; · iexact T4
  iexact HW

/-- The scratch buffers, whatever they hold. -/
def Scr (c : Dev nD) (M : Args) : sProp 𝕄 :=
  iprop(anyH c M.a7 ∗ anyH c M.a8 ∗ anyH c M.a9 ∗ anyH c M.a10 ∗ anyH c M.a11 ∗ anyH c M.a12 ∗ anyH c M.a13 ∗ anyH c M.a14 ∗ anyH c M.a15 ∗ anyH c M.a16
    ∗ anyH c M.a17 ∗ anyH c M.a18 ∗ anyH c M.a19)
/-- The semaphores, with no copy under way. -/
def Sems (c : Dev nD) (M : Args) : sProp 𝕄 :=
  iprop((idle c (inSm M 0) ∗ idle c (inSm M 1) ∗ idle c (inSm M 2) ∗ idle c (inSm M 3)) ∗ (idle c (outSm M 0) ∗ idle c (outSm M 1))
    ∗ idle c M.a22.sem ∗ idle c M.a23.sem ∗ idle c M.a24.sem)
/-- What holds when the kernel is done. -/
def Post (c : Dev nD) (M : Args) (W : ℕ → ℕ → EReal) : sProp 𝕄 :=
  iprop(holds c M.a0 Finset.univ (wV W) ∗ holds c M.a1 Finset.univ (pkV W) ∗ holds c M.a2 Finset.univ (scV W) ∗ holds c M.a3 Finset.univ (zV W)
    ∗ holds c M.a4 Finset.univ (qE (offW W) W) ∗ holds c M.a5 Finset.univ (s2E (offW W) W) ∗ holds c M.a6 Finset.univ (fun _ => offW W)
    ∗ Scr c M ∗ Sems c M ∗ owesAny c)

theorem put6 {cs : Space} {m : Memref sig .tc cs S1x1 .f32} {x w : S1x1.Idx → Elt Ideal .f32} :
    holds c m Finset.univ (VecWindow.put (s := S1x1) x ![0, 0] S1x1.size w) ⊢ holds c m Finset.univ w :=
  holds_to c fun y => put_full2 x w y

/-- A load of known values. -/
theorem runs_load_v {cs : CoreSpace} {s : Shape} {e : EltTy} {m : Memref sig .tc cs s e} {r : LoadRect s} {hl : m.view.LoadsAt r}
    {k : (r.shape.Idx → Elt Ideal e) → PrgI α} {x : s.Idx → Elt Ideal e} {v : r.shape.Idx → Elt Ideal e} (hv : ∀ y, x (r.idx y) = v y) :
    holds c m Finset.univ x ⊢ iprop((holds c m Finset.univ x -∗ runs c (k v) Q) -∗ runs c (.op (.load m r hl) k) Q) := by
  obtain rfl : (fun y => x (r.idx y)) = v := funext hv
  exact runs_load_w c (Finset.subset_univ _)

set_option maxHeartbeats 4000000 in
/-- What follows the loop. -/
theorem epi_spec {Q : PUnit → sProp 𝕄} :
    iprop(Inv c M W 28 ∗ anyH c M.a4 ∗ anyH c M.a5 ∗ anyH c M.a6 ∗ anyH c M.a19 ∗ idle c M.a24.sem)
      ⊢ iprop((Post c M W -∗ Q ⟨⟩) -∗ runs c (epilog (F := Ideal) M) Q) := by
  unfold epilog smemLoad smemLoadElt Post Scr Sems
  simp only [Prog.bind_op, Prog.bind_ret]
  iintro ⟨HI, H4, ⟨%x5, H5⟩, ⟨%x6, H6⟩, ⟨%x19, H19⟩, S24⟩ Hk
  ihave HI := inv_end $$ HI
  icases HI with ⟨I0, I1, I2, I3, HH, F0, F1, HP, HF, H9, HT, ⟨P0, P1, P2, P3⟩, HW⟩
  ihave HT := (ent_of_eq (show tabsOk c M.bufs W (sN 224) 224 = iprop(∃ x12 x13 x14 x15 x16, ⌜TabOk W (sN 224) 224 x12 x13 x14 x15 x16⌝
    ∗ (holds c M.a12 Finset.univ x12 ∗ holds c M.a13 Finset.univ (fun y => (x13 y : Elt Ideal .bf16)) ∗ holds c M.a14 Finset.univ x14 ∗ holds c M.a15 Finset.univ x15 ∗ holds c M.a16 Finset.univ x16)) from rfl)) $$ HT
  ihave H9 := (ent_of_eq (show perm9 c M.bufs = iprop(∃ x9 : S256x256.Idx → EReal, ⌜permOk x9⌝ ∗ holds c M.a9 Finset.univ (fun y => (x9 y : Elt Ideal .bf16))) from rfl)) $$ H9
  icases H9 with ⟨%x9, -, H9⟩
  icases HT with ⟨%x12, %x13, %x14, %x15, %x16, %hx, H12, H13, H14, H15, H16⟩
  iapply (runs_load_v (r := (Rect.unit (s := S8x128) ![0, 0] S8x128.size inb_S8x128_S8x128_0_0).toLoadRect) (v := fun y : S8x128.Idx => accN W 224 (y 0).val (y 1).val) (fun y => (congrFun (load_full2 x16) y).trans (hx.sum y))) $$ H16
  iintro H16
  iapply (runs_load_w c (Finset.subset_univ _)) $$ H6
  iintro H6
  iapply (runs_store_w c (Finset.subset_univ _)) $$ H6
  iintro H6
  have hsc : ∀ y, x14 y = SG W (256 * (y 0).val + (y 2).val) (y 1).val := fun y => hx.scale y (by
    have h0 : (y 0).val < 7 := (y 0).isLt
    have h1 : (y 1).val < 256 := (y 1).isLt
    omega)
  iapply (epiBlks_spec (W := W) (off := offW W)) $$ [H5 H19 H14]
  · unfold eSt
    isplitl [H5]
    · iexists x5
      isplitr [H5]
      · ipureintro
        exact fun y hy => absurd hy (Nat.not_lt_zero _)
      iexact H5
    isplitl [H19]
    · iexists x19
      isplitr [H19]
      · ipureintro
        exact fun y hy => absurd hy (Nat.not_lt_zero _)
      iexact H19
    iexists x14
    isplitr [H14]
    · ipureintro
      exact hsc
    iexact H14
  iintro HE
  ihave HE := (ent_of_eq (show eSt c M W (offW W) 7 = iprop((∃ x5, ⌜∀ y, (y 1).val < 256 * 7 → x5 y = s2E (offW W) W y⌝ ∗ holds c M.a5 Finset.univ x5)
    ∗ (∃ x19, ⌜∀ y, (y 0).val < 256 * 7 → x19 y = qE (offW W) W y⌝ ∗ holds c M.a19 Finset.univ x19)
    ∗ (∃ x14, ⌜∀ y, x14 y = SG W (256 * (y 0).val + (y 2).val) (y 1).val⌝ ∗ holds c M.a14 Finset.univ x14)) from rfl)) $$ HE
  icases HE with ⟨⟨%z5, %h5, H5⟩, ⟨%z19, %h19, H19⟩, ⟨%z14, -, H14⟩⟩
  have v5 : ∀ y, z5 y = s2E (offW W) W y := fun y => h5 y (y 1).isLt
  have v19 : ∀ y, z19 y = qE (offW W) W y := fun y => h19 y (y 0).isLt
  ihave H19 := (holds_to c v19) $$ H19
  iapply (waits_spec (W := W) (off := offW W)) $$ [H19 H4 F0 F1 HP HF S24 HW]
  · isplitl [H19]; · iexact H19
    isplitl [H4]; · iexact H4
    isplitl [F0]; · iexact F0
    isplitl [F1]; · iexact F1
    isplitl [HP]; · iexact HP
    isplitl [HF]; · iexact HF
    isplitl [S24]; · iexact S24
    iexact HW
  iintro ⟨H1, H2, H3, H4, H8, H17, H18, H19, HO, S22, S23, S24, HW⟩
  ihave I0 := (freeI_end 0 (by decide)) $$ I0
  icases I0 with ⟨A0, I0⟩
  ihave I1 := (freeI_end 1 (by decide)) $$ I1
  icases I1 with ⟨A1, I1⟩
  ihave I2 := (freeI_end 2 (by decide)) $$ I2
  icases I2 with ⟨A2, I2⟩
  ihave I3 := (freeI_end 3 (by decide)) $$ I3
  icases I3 with ⟨A3, I3⟩
  iapply Hk
  isplitl [HH]; · iapply home_end $$ HH
  isplitl [H1]; · iexact H1
  isplitl [H2]; · iexact H2
  isplitl [H3]; · iexact H3
  isplitl [H4]; · iexact H4
  isplitl [H5]; · iapply (holds_to c v5) $$ H5
  isplitl [H6]; · iapply put6 $$ H6
  isplitr [I0 I1 I2 I3 HO S22 S23 S24 HW]
  · isplitl [A0 A1 A2 A3]
    · iapply join7
      isplitl [A3]; · iexact A3
      isplitl [A2]; · iexact A2
      isplitl [A1]; · iexact A1
      isplitl [A0]; · iexact A0
      iempintro
    isplitl [H8]; · iexact H8
    isplitl [H9]
    · iexists _
      iexact H9
    isplitl [P0 P1]
    · iapply (join_parts c)
      isplitl [P0]; · iexact P0
      iexact P1
    isplitl [P2 P3]
    · iapply (join_parts c)
      isplitl [P2]; · iexact P2
      iexact P3
    isplitl [H12]
    · iexists _
      iexact H12
    isplitl [H13]
    · iexists _
      iexact H13
    isplitl [H14]
    · iexists _
      iexact H14
    isplitl [H15]
    · iexists _
      iexact H15
    isplitl [H16]
    · iexists _
      iexact H16
    isplitl [H17]; · iexact H17
    isplitl [H18]; · iexact H18
    iexact H19
  isplitr [HW]
  · isplitl [I0 I1 I2 I3]
    · isplitl [I0]; · iexact I0
      isplitl [I1]; · iexact I1
      isplitl [I2]; · iexact I2
      iexact I3
    isplitl [HO]; · iexact HO
    isplitl [S22]; · iexact S22
    isplitl [S23]; · iexact S23
    iexact S24
  iexact HW

end Cert.KernelIdeal.Stage
-- ==== Proof.Pro.lean ====
module

public import proofs.«01_k».proof.Proof.Parts

@[expose] public section

/-! What precedes the loop, and the loop. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

variable {c} {M : Args} {W : ℕ → ℕ → EReal}

theorem word_nat (a : ℕ) (ha : a < 256) :
    Scalar.select (IntOp.cmpi .slt (BitVec.ofNat 32 a) 128#32) (2#32 * BitVec.ofNat 32 a) (2#32 * (BitVec.ofNat 32 a - 128#32) + 1#32)
      = BitVec.ofNat 32 (if a < 128 then 2 * a else 2 * (a - 128) + 1) := by
  have h : ∀ a : Fin 256, Scalar.select (IntOp.cmpi .slt (BitVec.ofNat 32 a.val) 128#32) (2#32 * BitVec.ofNat 32 a.val) (2#32 * (BitVec.ofNat 32 a.val - 128#32) + 1#32)
      = BitVec.ofNat 32 (if a.val < 128 then 2 * a.val else 2 * (a.val - 128) + 1) := by decide +kernel
  exact h ⟨a, ha⟩

theorem word_eq (a b : ℕ) (ha : a < 512) (hb : b < 512) : (BitVec.ofNat 32 b == BitVec.ofNat 32 a) = decide (a = b) := by
  rw [Bool.eq_iff_iff, beq_iff_eq, decide_eq_true_iff]
  constructor
  · intro h
    have h' := congrArg BitVec.toNat h
    rw [BitVec.toNat_ofNat, BitVec.toNat_ofNat, Nat.mod_eq_of_lt (by omega), Nat.mod_eq_of_lt (by omega)] at h'
    exact h'.symm
  · rintro rfl
    rfl

/-- The matrix that the kernel builds moves columns to rows. -/
theorem perm_ok : permOk (permVec (F := Ideal)) := by
  intro y
  have h0 : (y 0).val < 256 := (y 0).isLt
  have h1 : (y 1).val < 256 := (y 1).isLt
  have e1 : Ideal.ofBits .f32 0x3F800000#32 = 1 := by
    simp [Ideal.ofBits, Ideal.ieee, -EReal.coe_mul]; norm_num
  have e0 : Ideal.ofBits .f32 0x00000000#32 = 0 := Ideal.ofBits_zero_f32
  show Scalar.select (IntOp.cmpi .eq (BitVec.ofNat 32 (0 * 256 + (y 1).val))
    (Scalar.select (IntOp.cmpi .slt (BitVec.ofNat 32 (0 * 256 + (y 0).val)) 128#32) (2#32 * BitVec.ofNat 32 (0 * 256 + (y 0).val))
      (2#32 * (BitVec.ofNat 32 (0 * 256 + (y 0).val) - 128#32) + 1#32)))
    (Ideal.ofBits .f32 0x3F800000#32) (Ideal.ofBits .f32 0x00000000#32) = _
  rw [Nat.zero_mul, Nat.zero_add, Nat.zero_add, word_nat _ h0, e1, e0]
  show Scalar.select (BitVec.ofBool (_ == _)) _ _ = _
  rw [word_eq _ _ (by split_ifs <;> omega) (by omega)]
  by_cases h : (if (y 0).val < 128 then 2 * (y 0).val else 2 * ((y 0).val - 128) + 1) = (y 1).val
  · rw [if_pos h, decide_eq_true h]; rfl
  · rw [if_neg h, decide_eq_false h]; rfl

theorem homes_start : holds c M.a0 Finset.univ (wV W) ⊢ iprop(holds c (wSl M 0) Finset.univ (wU W 0) ∗ holds c (wSl M 1) Finset.univ (wU W 1) ∗ holds c (wSl M 2) Finset.univ (wU W 2) ∗ homes c M W 0 3) := by
  unfold homes
  rw [home_all, ← band_zero (A := home c M W), band_hi (le_refl 0) (by decide), band_hi (by decide) (by decide), band_hi (by decide) (by decide)]
  exact ent_of_eq rfl

theorem inRole_lt (u : ℕ) (h : u < 28) : fl c (inSm M u) (nIn M) iprop(holds c (inSl M u) Finset.univ (wU W u) ∗ holds c (wSl M u) Finset.univ (wU W u)) ⊢ inRole c M W u :=
  ent_of_eq (if_pos h).symm

/-- What holds before the first trip. -/
theorem inv_start : iprop(inRole c M W 0 ∗ inRole c M W 1 ∗ inRole c M W 2 ∗ (∃ x, holds c (inSl M 3) Finset.univ x ∗ idle c (inSm M 3)) ∗ homes c M W 0 3
      ∗ (∃ x, holds c (outSl M 0) Finset.univ x ∗ idle c (outSm M 0)) ∗ (∃ x, holds c (outSl M 1) Finset.univ x ∗ idle c (outSm M 1))
      ∗ bigSep (Finset.range 28) (pkAny c M)
      ∗ (((∃ x, holds c M.a17 Finset.univ x) ∗ idle c M.a22.sem ∗ (∃ x, holds c M.a18 Finset.univ x) ∗ idle c M.a23.sem)
        ∗ bigSep (Finset.range 7) (scAny c M) ∗ bigSep (Finset.range 7) (zAny c M))
      ∗ (∃ x9 : S256x256.Idx → EReal, ⌜permOk x9⌝ ∗ holds c M.a9 Finset.univ (fun y => (x9 y : Elt Ideal .bf16)))
      ∗ (∃ x12 x13 x14 x15 x16, ⌜TabOk W (sN 0) 0 x12 x13 x14 x15 x16⌝ ∗ (holds c M.a12 Finset.univ x12 ∗ holds c M.a13 Finset.univ (fun y => (x13 y : Elt Ideal .bf16)) ∗ holds c M.a14 Finset.univ x14 ∗ holds c M.a15 Finset.univ x15 ∗ holds c M.a16 Finset.univ x16))
      ∗ (anyP c M.a10 0 (by decide) ∗ anyP c M.a10 1 (by decide) ∗ anyP c M.a11 0 (by decide) ∗ anyP c M.a11 1 (by decide)) ∗ owesAny c)
    ⊢ Inv c M W 0 := by
  unfold Inv sState outRole sRole pks scs zs
  rw [if_neg (by decide), if_neg (by decide), if_neg (by decide)]
  rw [← band_zero (A := pkDone c M W) (B := pkAny c M), ← band_zero (A := scDone c M W) (B := scAny c M), ← band_zero (A := zDone c M W) (B := zAny c M)]
  exact ent_of_eq rfl

set_option maxHeartbeats 1000000 in
/-- What precedes the loop brings about what holds before its first trip. -/
theorem pro_spec {k : PrgI α} :
    iprop(holds c M.a0 Finset.univ (wV W) ∗ anyH c M.a1 ∗ anyH c M.a2 ∗ anyH c M.a3 ∗ anyH c M.a7 ∗ anyH c M.a8 ∗ anyH c M.a9
        ∗ anyH c M.a10 ∗ anyH c M.a11 ∗ anyH c M.a12 ∗ anyH c M.a13 ∗ anyH c M.a14 ∗ anyH c M.a15 ∗ anyH c M.a16 ∗ anyH c M.a17 ∗ anyH c M.a18
        ∗ (idle c (inSm M 0) ∗ idle c (inSm M 1) ∗ idle c (inSm M 2) ∗ idle c (inSm M 3)) ∗ (idle c (outSm M 0) ∗ idle c (outSm M 1))
        ∗ idle c M.a22.sem ∗ idle c M.a23.sem ∗ owesAny c)
      ⊢ iprop((Inv c M W 0 -∗ runs c k Q) -∗ runs c (prolog M k) Q) := by
  unfold prolog
  iintro ⟨H0, H1, H2, H3, H7, H8, H9, H10, H11, H12, H13, H14, H15, H16, H17, H18, ⟨I0, I1, I2, I3⟩, ⟨O0, O1⟩, S22, S23, HW⟩ Hk
  ihave H0 := homes_start $$ H0
  icases H0 with ⟨A0, A1, A2, H0⟩
  ihave H1 := pk_any $$ H1
  ihave H2 := sc_any $$ H2
  ihave H3 := z_any $$ H3
  ihave H7 := split7 $$ H7
  icases H7 with ⟨B3, B2, B1, B0, -⟩
  ihave H8 := split8 $$ H8
  icases H8 with ⟨C1, C0, -⟩
  ihave H10 := split_parts c $$ H10
  icases H10 with ⟨P0, P1⟩
  ihave H11 := split_parts c $$ H11
  icases H11 with ⟨P2, P3⟩
  icases B0 with ⟨%b0, B0⟩
  icases B1 with ⟨%b1, B1⟩
  icases B2 with ⟨%b2, B2⟩
  icases B3 with ⟨%b3, B3⟩
  icases C0 with ⟨%c0, C0⟩
  icases C1 with ⟨%c1, C1⟩
  icases H9 with ⟨%x9, H9⟩
  icases H12 with ⟨%x12, H12⟩
  icases H13 with ⟨%x13, H13⟩
  icases H14 with ⟨%x14, H14⟩
  icases H15 with ⟨%x15, H15⟩
  icases H16 with ⟨%x16, H16⟩
  iapply (enq_w c (v := wU W 0) (x := b0) (wSl_eq 0 (by decide : (![0, 0] : Fin 2 → ℕ) = _)) (inSl_eq 0 (by decide : (![0, 0, 0] : Fin 3 → ℕ) = _)) (inSm_eq 0 (by decide : (![0] : Fin 1 → ℕ) = _)) (by decide) (N := nIn M) rfl) $$ [A0 B0 I0]
  · isplitl [A0]; · iexact A0
    isplitl [B0]; · iexact B0
    iexact I0
  iintro F0
  iapply (enq_w c (v := wU W 1) (x := b1) (wSl_eq 1 (by decide : (![0, 4096] : Fin 2 → ℕ) = _)) (inSl_eq 1 (by decide : (![1, 0, 0] : Fin 3 → ℕ) = _)) (inSm_eq 1 (by decide : (![1] : Fin 1 → ℕ) = _)) (by decide) (N := nIn M) rfl) $$ [A1 B1 I1]
  · isplitl [A1]; · iexact A1
    isplitl [B1]; · iexact B1
    iexact I1
  iintro F1
  iapply (enq_w c (v := wU W 2) (x := b2) (wSl_eq 2 (by decide : (![0, 8192] : Fin 2 → ℕ) = _)) (inSl_eq 2 (by decide : (![2, 0, 0] : Fin 3 → ℕ) = _)) (inSm_eq 2 (by decide : (![2] : Fin 1 → ℕ) = _)) (by decide) (N := nIn M) rfl) $$ [A2 B2 I2]
  · isplitl [A2]; · iexact A2
    isplitl [B2]; · iexact B2
    iexact I2
  iintro F2
  iapply (runs_load_w c (Finset.subset_univ _)) $$ H9
  iintro H9
  iapply (runs_store_w c (Finset.subset_univ _)) $$ H9
  iintro H9
  iapply (runs_load_w c (Finset.subset_univ _)) $$ H16
  iintro H16
  iapply (runs_store_w c (Finset.subset_univ _)) $$ H16
  iintro H16
  have v9 : ∀ y, VecWindow.put (s := ⟨2, ![256, 256]⟩) x9 ![0, 0] S256x256.size (shapeCast S256x256 (permVec (F := Ideal)) shapeCasts_S256x256_S256x256) y = permVec (F := Ideal) y := fun y =>
    (put_full2 x9 _ y).trans (congrFun (shapeCast_self _ _) y)
  have v16 : ∀ y, VecWindow.put (s := ⟨2, ![8, 128]⟩) x16 ![0, 0] S8x128.size (shapeCast S8x128 (broadcast S8x128 (Scalar.ofBits (F := Ideal) .f32 0x00000000#32)) shapeCasts_S8x128_S8x128) y = (0 : EReal) := fun y =>
    (put_full2 x16 _ y).trans ((congrFun (shapeCast_self _ _) y).trans Ideal.ofBits_zero_f32)
  iapply Hk
  iapply inv_start
  isplitl [F0]; · iapply (inRole_lt 0 (by decide)) $$ F0
  isplitl [F1]; · iapply (inRole_lt 1 (by decide)) $$ F1
  isplitl [F2]; · iapply (inRole_lt 2 (by decide)) $$ F2
  isplitl [B3 I3]
  · iexists b3
    isplitl [B3]; · iexact B3
    iexact I3
  isplitl [H0]; · iexact H0
  isplitl [C0 O0]
  · iexists c0
    isplitl [C0]; · iexact C0
    iexact O0
  isplitl [C1 O1]
  · iexists c1
    isplitl [C1]; · iexact C1
    iexact O1
  isplitl [H1]; · iexact H1
  isplitl [H2 H3 H17 H18 S22 S23]
  · isplitl [H17 H18 S22 S23]
    · isplitl [H17]; · iexact H17
      isplitl [S22]; · iexact S22
      isplitl [H18]; · iexact H18
      iexact S23
    isplitl [H2]; · iexact H2
    iexact H3
  isplitl [H9]
  · iexists (permVec (F := Ideal))
    isplitr [H9]
    · ipureintro
      exact perm_ok
    iapply (holds_to c v9) $$ H9
  isplitl [H12 H13 H14 H15 H16]
  · iexists x12
    iexists x13
    iexists x14
    iexists x15
    iexists (fun _ => (0 : EReal))
    isplitr [H12 H13 H14 H15 H16]
    · ipureintro
      exact ⟨fun y hy => absurd hy (Nat.not_lt_zero _), fun y hy => absurd hy (Nat.not_lt_zero _), fun y hy => absurd hy (Nat.not_lt_zero _),
        fun y rb hy => absurd hy (Nat.not_lt_zero _), fun y => by unfold accN; rw [Finset.range_zero, Finset.sum_empty]⟩
    isplitl [H12]; · iexact H12
    isplitl [H13]; · iexact H13
    isplitl [H14]; · iexact H14
    isplitl [H15]; · iexact H15
    iapply (holds_to c v16) $$ H16
  isplitl [P0 P1 P2 P3]
  · isplitl [P0]; · iexact P0
    isplitl [P1]; · iexact P1
    isplitl [P2]; · iexact P2
    iexact P3
  iexact HW

/-- The loop takes what holds before its first trip to what holds after its last. -/
theorem loop_spec {k : PUnit → PrgI α} :
    Inv c M W 0 ⊢ iprop((Inv c M W 28 -∗ runs c (k ⟨⟩) Q) -∗ runs c (Scf.Loop.for k0_t1_loop k0_t1_ok ⟨⟩ (fun t _ => pbody M t) >>= k) Q) := by
  have h : Inv c M W 0 ⊢ iprop((∀ acc : PUnit, Inv c M W k0_t1_loop.trips -∗ runs c (k acc) Q) -∗ runs c (Scf.Loop.for k0_t1_loop k0_t1_ok ⟨⟩ (fun t _ => pbody M t) >>= k) Q) :=
    Scf.wp_for_bind _ _ _ k0_t1_loop.lb k0_t1_loop.ub k0_t1_loop.st k0_t1_ok (⟨⟩ : PUnit) (fun t _ => pbody M t) (fun t _ => Inv c M W t)
      (fun i acc => trip_spec (c := c) (M := M) (W := W) i)
  have e : Inv c M W k0_t1_loop.trips = Inv c M W 28 := congrArg (Inv c M W) trips_eq
  iintro HI Hk
  iapply h $$ HI
  iintro %acc HI
  iapply Hk
  iapply (ent_of_eq e) $$ HI

end Cert.KernelIdeal.Stage
-- ==== Proof.Whole.lean ====
module

public import proofs.«01_k».proof.Proof.Epi
public import proofs.«01_k».proof.Proof.Pro

@[expose] public section

/-! The kernel as a whole. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig Unit (Elt Ideal) ℕ (UU nD τ) ℕ

variable (c : Dev nD) {α : Type} {Q : α → sProp 𝕄} {R : sProp 𝕄}

variable {c} {M : Args} {W : ℕ → ℕ → EReal}

/-- What the kernel starts from: the weights, buffers of any contents, and no copy under way. -/
def Pre (c : Dev nD) (M : Args) (W : ℕ → ℕ → EReal) : sProp 𝕄 :=
  iprop(holds c M.a0 Finset.univ (wV W) ∗ anyH c M.a1 ∗ anyH c M.a2 ∗ anyH c M.a3 ∗ anyH c M.a4 ∗ anyH c M.a5 ∗ anyH c M.a6
    ∗ Scr c M ∗ Sems c M ∗ owesAny c)

/-- The kernel computes its results. -/
theorem whole_spec {Q : PUnit → sProp 𝕄} :
    Pre c M W ⊢ iprop((Post c M W -∗ Q ⟨⟩) -∗ runs c (cc0_asym4_double_quant (F := Ideal) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24) Q) := by
  rw [kernel_eq]
  unfold Pre Scr Sems
  iintro ⟨H0, H1, H2, H3, H4, H5, H6, ⟨H7, H8, H9, H10, H11, H12, H13, H14, H15, H16, H17, H18, H19⟩, ⟨HI, HO, S22, S23, S24⟩, HW⟩ Hk
  iapply (pro_spec (W := W)) $$ [H0 H1 H2 H3 H7 H8 H9 H10 H11 H12 H13 H14 H15 H16 H17 H18 HI HO S22 S23 HW]
  · isplitl [H0]; · iexact H0
    isplitl [H1]; · iexact H1
    isplitl [H2]; · iexact H2
    isplitl [H3]; · iexact H3
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HI]; · iexact HI
    isplitl [HO]; · iexact HO
    isplitl [S22]; · iexact S22
    isplitl [S23]; · iexact S23
    iexact HW
  iintro HV
  iapply loop_spec $$ HV
  iintro HV
  iapply (epi_spec (W := W)) $$ [HV H4 H5 H6 H19 S24]
  · isplitl [HV]; · iexact HV
    isplitl [H4]; · iexact H4
    isplitl [H5]; · iexact H5
    isplitl [H6]; · iexact H6
    isplitl [H19]; · iexact H19
    iexact S24
  iexact Hk

end Cert.KernelIdeal.Stage
-- ==== Proof.Launch.lean ====
module

public import proofs.«01_k».proof.Proof.Whole
public import proofs.«01_k».proof.Proof.Gen.KernelIdeal.Frame
public import proofs.«01_k».proof.Proof.Gen.KernelIdeal.Points
public import Idealize.ShloMosaic.Lib.Pipeline.ValueKit.Geometry

@[expose] public section

/-! The launch: the kernel's body between the host's reshape of the operand and the write-back of the two staged results. -/

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.ValueIdx

local notation "𝕄" => MT nD τ sig Unit (Elt Ideal) ℕ (UU nD τ) ℕ

/-- Where the launch's own ghost state sits. -/
abbrev EP : Emb (UR sig nD τ) (MT nD τ sig Unit (Elt Ideal) ℕ (UU nD τ) ℕ) := embL

/-- What the body is called with at point `t`. -/
def MA (t : Fin cfg0.N) : Args where
  a0 := Memref.whole main_v0
  h0 := Memref.isWhole_whole _
  a1 := Memref.whole main_v1_0
  h1 := Memref.isWhole_whole _
  a2 := Memref.whole main_v1_1
  h2 := Memref.isWhole_whole _
  a3 := Memref.whole main_v1_2
  h3 := Memref.isWhole_whole _
  a4 := Memref.whole main_v1_3
  h4 := Memref.isWhole_whole _
  a5 := win0_0.stage (cfg0.slots t 0)
  h5 := hstage0_0 0
  a6 := win0_1.stage (cfg0.slots t 1)
  h6 := hstage0_1 0
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := Memref.whole cc0_scratch5
  h12 := Memref.isWhole_whole _
  a13 := Memref.whole cc0_scratch6
  h13 := Memref.isWhole_whole _
  a14 := Memref.whole cc0_scratch7
  h14 := Memref.isWhole_whole _
  a15 := Memref.whole cc0_scratch8
  h15 := Memref.isWhole_whole _
  a16 := Memref.whole cc0_scratch9
  h16 := Memref.isWhole_whole _
  a17 := Memref.whole cc0_scratch10
  h17 := Memref.isWhole_whole _
  a18 := Memref.whole cc0_scratch11
  h18 := Memref.isWhole_whole _
  a19 := Memref.whole cc0_scratch12
  h19 := Memref.isWhole_whole _
  a20 := cc0_scratch13
  a21 := cc0_scratch14
  a22 := cc0_scratch15
  a23 := cc0_scratch16
  a24 := cc0_scratch17

theorem body_eq (t : Fin cfg0.N) : bodyAt0 (F := Ideal) t
    = cc0_asym4_double_quant (F := Ideal) (MA t).a0 (MA t).h0 (MA t).a1 (MA t).h1 (MA t).a2 (MA t).h2 (MA t).a3 (MA t).h3 (MA t).a4 (MA t).h4
      (MA t).a5 (MA t).h5 (MA t).a6 (MA t).h6 (MA t).a7 (MA t).h7 (MA t).a8 (MA t).h8 (MA t).a9 (MA t).h9 (MA t).a10 (MA t).h10
      (MA t).a11 (MA t).h11 (MA t).a12 (MA t).h12 (MA t).a13 (MA t).h13 (MA t).a14 (MA t).h14 (MA t).a15 (MA t).h15 (MA t).a16 (MA t).h16
      (MA t).a17 (MA t).h17 (MA t).a18 (MA t).h18 (MA t).a19 (MA t).h19 (MA t).a20 (MA t).a21 (MA t).a22 (MA t).a23 (MA t).a24 := rfl

/-! ### Whole buffers -/

section Holds

variable (c : Dev nD)

/-- A whole buffer owned at `x` is held at `x`. -/
theorem holds_whole (b : Ref sig .tc) (x : b.ty.Contents (Elt Ideal)) :
    ((((c : Thread nD τ).loc b) ↦{fullShare} x : sProp 𝕄)) = holds c (Memref.whole b) Finset.univ x := by
  have h : (((Memref.whole b : Memref sig .tc _ _ _).view.loc (c : Thread nD τ)) ↦[(Memref.whole b : Memref sig .tc _ _ _).view.set]{fullShare} x : sProp 𝕄)
      = holds c (Memref.whole b) Finset.univ x := by
    show _ = (((Memref.whole b : Memref sig .tc _ _ _).view.loc (c : Thread nD τ)) ↦[(Memref.whole b : Memref sig .tc _ _ _).view.set]{fullShare} (Memref.whole b : Memref sig .tc _ _ _).view.rep x : sProp 𝕄)
    refine pointsTo_congr fun i hi => ?_
    obtain ⟨j, rfl⟩ := View.exists_emb_of_mem_set _ hi
    exact ((Memref.whole b : Memref sig .tc _ _ _).view.rep_emb (Val := Elt Ideal) x j).symm
  rw [← h]
  exact congrArg (fun S => (((c : Thread nD τ).loc b) ↦[S]{fullShare} x : sProp 𝕄)) (View.set_whole b).symm

/-- A whole buffer with some contents is held with some contents. -/
theorem any_whole (b : Ref sig .tc) :
    (iprop(∃ f, ((c : Thread nD τ).loc b) ↦{fullShare} f) : sProp 𝕄) ⊢ anyH c (Memref.whole b) := by
  iintro ⟨%f, H⟩
  iexists f
  iapply (ent_of_eq (holds_whole c b f))
  iexact H

theorem whole_any (b : Ref sig .tc) :
    anyH c (Memref.whole b) ⊢ (iprop(∃ f, ((c : Thread nD τ).loc b) ↦{fullShare} f) : sProp 𝕄) := by
  iintro ⟨%f, H⟩
  iexists f
  iapply (ent_of_eq (holds_whole c b f).symm)
  iexact H

end Holds

/-! ### The kernel's own semaphores -/

variable (M : Args)

/-- The nine semaphores of the kernel, in the order of `Sems`. -/
abbrev osem : Fin 9 → SemLoc sig := fun s => match s with
  | ⟨0, _⟩ => .dma (inSm (MA t0_0) 0)
  | ⟨1, _⟩ => .dma (inSm (MA t0_0) 1)
  | ⟨2, _⟩ => .dma (inSm (MA t0_0) 2)
  | ⟨3, _⟩ => .dma (inSm (MA t0_0) 3)
  | ⟨4, _⟩ => .dma (outSm (MA t0_0) 0)
  | ⟨5, _⟩ => .dma (outSm (MA t0_0) 1)
  | ⟨6, _⟩ => .dma (MA t0_0).a22.sem
  | ⟨7, _⟩ => .dma (MA t0_0).a23.sem
  | ⟨8, _⟩ => .dma (MA t0_0).a24.sem

theorem ownSemFacts : Pipeline.OwnSemFacts spec0 osem := by decide

theorem ownSems0_eq (c : Dev nD) :
    (Pipeline.ownSems0 (Ix := Unit) (Name := ℕ) (U := UU nD τ) (Lvl := ℕ) (Val := Elt Ideal) (τ := τ) osem c : sProp 𝕄)
      ⊣⊢ Sems c (MA t0_0) := by
  have e : (Pipeline.ownSems0 (Ix := Unit) (Name := ℕ) (U := UU nD τ) (Lvl := ℕ) (Val := Elt Ideal) (τ := τ) osem c : sProp 𝕄)
      = iprop(idle c (inSm (MA t0_0) 0) ∗ idle c (inSm (MA t0_0) 1) ∗ idle c (inSm (MA t0_0) 2) ∗ idle c (inSm (MA t0_0) 3)
        ∗ idle c (outSm (MA t0_0) 0) ∗ idle c (outSm (MA t0_0) 1) ∗ idle c (MA t0_0).a22.sem ∗ idle c (MA t0_0).a23.sem ∗ idle c (MA t0_0).a24.sem) := by
    unfold Pipeline.ownSems0
    exact bigSep_univ_eq_bigSepL [(0 : Fin 9), 1, 2, 3, 4, 5, 6, 7, 8] (by decide) (by decide) _
  rw [e]
  unfold Sems
  constructor
  · iintro ⟨H0, H1, H2, H3, H4, H5, H6, H7, H8⟩
    isplitl [H0 H1 H2 H3]
    · isplitl [H0]; · iexact H0
      isplitl [H1]; · iexact H1
      isplitl [H2]; · iexact H2
      iexact H3
    isplitl [H4 H5]
    · isplitl [H4]; · iexact H4
      iexact H5
    isplitl [H6]; · iexact H6
    isplitl [H7]; · iexact H7
    iexact H8
  · iintro ⟨⟨H0, H1, H2, H3⟩, ⟨H4, H5⟩, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The kernel's scratch buffers, with some contents each. -/
theorem scr_in (c : Dev nD) (t : Fin cfg0.N) : (Pipeline.scopedRest (Ix := Unit) (Name := ℕ) (U := UU nD τ) (Lvl := ℕ) (Val := Elt Ideal) spec0 c : sProp 𝕄) ⊢ Scr c (MA t) := by
  rw [scopedRest0_eq]
  unfold Scr
  iintro ⟨H0, H1, H2, H3, H4, H5, H6, H7, H8, H9, H10, H11, H12⟩
  isplitl [H0]; · iapply (any_whole c cc0_scratch0); iexact H0
  isplitl [H1]; · iapply (any_whole c cc0_scratch1); iexact H1
  isplitl [H2]; · iapply (any_whole c cc0_scratch2); iexact H2
  isplitl [H3]; · iapply (any_whole c cc0_scratch3); iexact H3
  isplitl [H4]; · iapply (any_whole c cc0_scratch4); iexact H4
  isplitl [H5]; · iapply (any_whole c cc0_scratch5); iexact H5
  isplitl [H6]; · iapply (any_whole c cc0_scratch6); iexact H6
  isplitl [H7]; · iapply (any_whole c cc0_scratch7); iexact H7
  isplitl [H8]; · iapply (any_whole c cc0_scratch8); iexact H8
  isplitl [H9]; · iapply (any_whole c cc0_scratch9); iexact H9
  isplitl [H10]; · iapply (any_whole c cc0_scratch10); iexact H10
  isplitl [H11]; · iapply (any_whole c cc0_scratch11); iexact H11
  iapply (any_whole c cc0_scratch12); iexact H12

theorem scr_out (c : Dev nD) (t : Fin cfg0.N) : Scr c (MA t) ⊢ (Pipeline.scopedRest (Ix := Unit) (Name := ℕ) (U := UU nD τ) (Lvl := ℕ) (Val := Elt Ideal) spec0 c : sProp 𝕄) := by
  rw [scopedRest0_eq]
  unfold Scr
  iintro ⟨H0, H1, H2, H3, H4, H5, H6, H7, H8, H9, H10, H11, H12⟩
  isplitl [H0]; · iapply (whole_any c cc0_scratch0); iexact H0
  isplitl [H1]; · iapply (whole_any c cc0_scratch1); iexact H1
  isplitl [H2]; · iapply (whole_any c cc0_scratch2); iexact H2
  isplitl [H3]; · iapply (whole_any c cc0_scratch3); iexact H3
  isplitl [H4]; · iapply (whole_any c cc0_scratch4); iexact H4
  isplitl [H5]; · iapply (whole_any c cc0_scratch5); iexact H5
  isplitl [H6]; · iapply (whole_any c cc0_scratch6); iexact H6
  isplitl [H7]; · iapply (whole_any c cc0_scratch7); iexact H7
  isplitl [H8]; · iapply (whole_any c cc0_scratch8); iexact H8
  isplitl [H9]; · iapply (whole_any c cc0_scratch9); iexact H9
  isplitl [H10]; · iapply (whole_any c cc0_scratch10); iexact H10
  isplitl [H11]; · iapply (whole_any c cc0_scratch11); iexact H11
  iapply (whole_any c cc0_scratch12); iexact H12

/-! ### The pipeline's proof data -/

theorem holds_set (c : Dev nD) {sp : Space} {s : Shape} {e : EltTy} (b : Memref sig .tc sp s e) (x : s.Idx → Elt Ideal e) :
    holds c b Finset.univ x = (b.view.loc (c : Thread nD τ) ↦[b.view.set]{fullShare} b.view.rep x : sProp 𝕄) := rfl

theorem stage5_eq (c : Dev nD) (x : S1x1792.Idx → EReal) : holds c (MA t0_0).a5 Finset.univ x
    = ((st0_0 t0_0).view.loc (c : Thread nD τ) ↦[(st0_0 t0_0).view.set]{fullShare} (st0_0 t0_0).view.rep (Val := Elt Ideal) x : sProp 𝕄) := rfl

theorem stage6_eq (c : Dev nD) (x : S1x1.Idx → EReal) : holds c (MA t0_0).a6 Finset.univ x
    = ((st0_1 t0_0).view.loc (c : Thread nD τ) ↦[(st0_1 t0_0).view.set]{fullShare} (st0_1 t0_0).view.rep (Val := Elt Ideal) x : sProp 𝕄) := rfl

theorem owesAny_eq (c : Dev nD) : (owesAny c : sProp 𝕄) = iprop(∃ W, owes (c : Thread nD τ) 0 W) := rfl

theorem owesAny_of (c : Dev nD) (W) : (owes (c : Thread nD τ) 0 W : sProp 𝕄) ⊢ owesAny c := by
  rw [owesAny_eq]
  iintro H
  iexists W
  iexact H

section Run

variable (m : (ℓ : Loc nD τ sig) → Buf (Elt Ideal) ℓ) (g : Dev nD → PrngReg)

/-- The operand as the kernel reads it: entry `k` of row `r`. -/
def Wm (c : Dev nD) (r k : ℕ) : EReal :=
  if h : r < 1792 ∧ k < 16384 then (V (F := Ideal) m c main_v0 : S1792x16384.Idx → EReal) (ix2 ⟨r, h.1⟩ ⟨k, h.2⟩) else 0

theorem wV_Wm (c : Dev nD) : (V (F := Ideal) m c main_v0 : S1792x16384.Idx → EReal) = wV (Wm m c) := by
  funext y
  have h0 : (y 0).val < 1792 := (y 0).isLt
  have h1 : (y 1).val < 16384 := (y 1).isLt
  show _ = Wm m c (y 0).val (y 1).val
  rw [Wm, dif_pos ⟨h0, h1⟩]
  refine congrArg (V (F := Ideal) m c main_v0 : S1792x16384.Idx → EReal) (funext fun a => Fin.ext ?_)
  match a with
  | ⟨0, _⟩ => rfl
  | ⟨1, _⟩ => rfl

/-- The buffers, scratch and semaphores the body finds. -/
def Φin (c : Dev nD) (t : Fin cfg0.N) : sProp 𝕄 :=
  iprop(holds c (MA t).a0 Finset.univ (wV (Wm m c)) ∗ anyH c (MA t).a1 ∗ anyH c (MA t).a2 ∗ anyH c (MA t).a3 ∗ anyH c (MA t).a4 ∗ Scr c (MA t) ∗ Sems c (MA t))

/-- The buffers, scratch and semaphores the body leaves. -/
def Φout (c : Dev nD) (t : Fin cfg0.N) : sProp 𝕄 :=
  iprop(holds c (MA t).a0 Finset.univ (wV (Wm m c)) ∗ holds c (MA t).a1 Finset.univ (pkV (Wm m c)) ∗ holds c (MA t).a2 Finset.univ (scV (Wm m c))
    ∗ holds c (MA t).a3 Finset.univ (zV (Wm m c)) ∗ holds c (MA t).a4 Finset.univ (qE (offW (Wm m c)) (Wm m c)) ∗ Scr c (MA t) ∗ Sems c (MA t))

/-- What the kernel owns before the point, and after it. -/
def ΦAt (c : Dev nD) (n : ℕ) : sProp 𝕄 := if n = 0 then Φin m c t0_0 else Φout m c t0_0

theorem ΦAt_zero (c : Dev nD) : ΦAt m c 0 = Φin m c t0_0 := if_pos rfl
theorem ΦAt_one (c : Dev nD) : ΦAt m c 1 = Φout m c t0_0 := if_neg (by decide)

/-- The launch's data: what the two staged results hold after the point, and what the kernel owns around it. -/
def dats (_ : Fin 1) (c : Dev nD) : Dat τ (Elt Ideal) Unit ℕ (UU nD τ) ℕ cfg0 c where
  A w := V (F := Ideal) m c (Pipeline.arrRef spec0 w)
  after w t := match w with
    | ⟨0, _⟩ => s2E (offW (Wm m c)) (Wm m c)
    | ⟨1, _⟩ => fun _ => offW (Wm m c)
  Φ k := ΦAt m c k.val
  q _ := fullShare
  owed _ := 0

theorem after_w0 (c : Dev nD) (t : Fin cfg0.N) : (dats m 0 c).after 0 t = s2E (offW (Wm m c)) (Wm m c) := by dsimp only [dats]
theorem after_w1 (c : Dev nD) (t : Fin cfg0.N) : (dats m 0 c).after 1 t = fun _ => offW (Wm m c) := by dsimp only [dats]

theorem defs_tc : (defs₀ (F := Ideal)) .tc cfg0.body
    = fun a => cc0_asym4_double_quant (F := Ideal) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (win0_0.stage (a.2 0)) (hstage0_0 0) (win0_1.stage (a.2 1)) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 := rfl

theorem prog_eq (t : Fin cfg0.N) : (defs₀ (F := Ideal)) .tc cfg0.body (cfg0.bodyArgs t (cfg0.slots t)) = bodyAt0 (F := Ideal) t :=
  (congrFun defs_tc _).trans rfl

set_option backward.isDefEq.respectTransparency.types false in
set_option maxHeartbeats 1000000 in
/-- The body's obligation at the launch's one point. -/
theorem body_obligation (c : Dev nD) : BodyObligation (dats m 0 c) (defs₀ (F := Ideal)) 𝒱₀ () Set.univ := fun t => by
  obtain rfl := fin_N0 t
  rw [bigSep_W0, bigSep_W0]
  dsimp only
  simp only [after_w0, after_w1]
  rw [show (dats m 0 c).Φ t0_0.castSucc = Φin m c t0_0 from ΦAt_zero m c, show (dats m 0 c).Φ t0_0.succ = Φout m c t0_0 from ΦAt_one m c]
  unfold Dat.owesAt Pipeline.owesWithin
  rw [show (dats m 0 c).owed t0_0.castSucc = 0 from rfl, show (dats m 0 c).owed t0_0.succ = 0 from rfl]
  unfold owns Φin Φout
  iintro ⟨⟨H0, H1, H2, H3, H4, HS, HM⟩, ⟨%W, -, HW⟩, ⟨%d0, %g0, -, H5⟩, ⟨%d1, %g1, -, H6⟩⟩
  ihave H5 := (pointsTo_rep_entails (c : Thread nD τ) (st0_0 t0_0) g0 fullShare) $$ H5
  ihave H6 := (pointsTo_rep_entails (c : Thread nD τ) (st0_1 t0_0) g1 fullShare) $$ H6
  sl_rw [prog_eq t0_0, body_eq t0_0]
  iapply (whole_spec (c := c) (M := MA t0_0) (W := Wm m c)) $$ [H0 H1 H2 H3 H4 H5 H6 HS HM HW]
  · unfold Pre
    isplitl [H0]; · iexact H0
    isplitl [H1]; · iexact H1
    isplitl [H2]; · iexact H2
    isplitl [H3]; · iexact H3
    isplitl [H4]; · iexact H4
    isplitl [H5]
    · iexists ((st0_0 t0_0).view.read (Elt Ideal) g0)
      iapply (ent_of_eq (holds_set c (st0_0 t0_0) ((st0_0 t0_0).view.read (Elt Ideal) g0)).symm); iexact H5
    isplitl [H6]
    · iexists ((st0_1 t0_0).view.read (Elt Ideal) g1)
      iapply (ent_of_eq (holds_set c (st0_1 t0_0) ((st0_1 t0_0).view.read (Elt Ideal) g1)).symm); iexact H6
    isplitl [HS]; · iexact HS
    isplitl [HM]; · iexact HM
    iapply (owesAny_of c W); iexact HW
  · unfold Post
    iintro ⟨H0, H1, H2, H3, H4, H5, H6, HS, HM, HO⟩
    ihave HO := (ent_of_eq (owesAny_eq c)) $$ HO
    icases HO with ⟨%W', HW⟩
    isplitl [H0 H1 H2 H3 H4 HS HM]
    · isplitl [H0]; · iexact H0
      isplitl [H1]; · iexact H1
      isplitl [H2]; · iexact H2
      isplitl [H3]; · iexact H3
      isplitl [H4]; · iexact H4
      isplitl [HS]; · iexact HS
      iexact HM
    isplitl [HW]
    · iexists W'; isplitr; · ipureintro; exact fun _ _ => Or.inl trivial
      iexact HW
    isplitl [H5]
    · iexists _; isplitr; · ipureintro; exact View.read_rep _ _
      iapply (ent_of_eq (stage5_eq c (s2E (offW (Wm m c)) (Wm m c)))); iexact H5
    iexists _; isplitr; · ipureintro; exact View.read_rep _ _
    iapply (ent_of_eq (stage6_eq c (fun _ => offW (Wm m c)))); iexact H6

/-! ### The run -/

/-- What the launch hands over unchanged, and what the kernel leaves in the buffers it writes by its own copies. -/
def into (c : Dev nD) : sProp 𝕄 :=
  iprop(holds c (MA t0_0).a0 Finset.univ (wV (Wm m c)) ∗ anyH c (MA t0_0).a1 ∗ anyH c (MA t0_0).a2 ∗ anyH c (MA t0_0).a3 ∗ anyH c (MA t0_0).a4 ∗ Sems c (MA t0_0))

def outOf (c : Dev nD) : sProp 𝕄 :=
  iprop((((c : Thread nD τ).loc main_v1_0) ↦{fullShare} (pkV (Wm m c))) ∗ (((c : Thread nD τ).loc main_v1_1) ↦{fullShare} (scV (Wm m c)))
    ∗ (((c : Thread nD τ).loc main_v1_2) ↦{fullShare} (zV (Wm m c))) ∗ (((c : Thread nD τ).loc main_v1_3) ↦{fullShare} (qE (offW (Wm m c)) (Wm m c))))

def kept (c : Dev nD) : sProp 𝕄 := ((c : Thread nD τ).loc main_arg0) ↦{fullShare} V (F := Ideal) m c main_arg0

/-- What the four buffers written by the kernel's own copies hold at the end, and the operand. -/
def QY (c : Dev nD) (s : MemSt nD τ sig (Elt Ideal)) : Prop :=
  s.mem ((c : Thread nD τ).loc main_v1_0) = pkV (Wm m c) ∧ s.mem ((c : Thread nD τ).loc main_v1_1) = scV (Wm m c)
    ∧ s.mem ((c : Thread nD τ).loc main_v1_2) = zV (Wm m c) ∧ s.mem ((c : Thread nD τ).loc main_v1_3) = qE (offW (Wm m c)) (Wm m c)
    ∧ s.mem ((c : Thread nD τ).loc main_arg0) = V (F := Ideal) m c main_arg0

def u₀ : UU nD τ := (initOf (Pipeline.cells cfgs cellOf_inj) (Pipeline.launchToks cfgs cellOf_inj), 1)

def QC : PUnit × MemSt nD τ sig (Elt Ideal) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
set_option maxHeartbeats 1000000 in
/-- Every run ends with the computed contents in the six results, and every semaphore at zero. -/
theorem run_main : θ_run (defs (F := Ideal)) (onTc (τ := τ) (main (F := Ideal))) ⟨m, fun _ => 0, g⟩ (fun r => QC m r ∧ r.2.sem = fun _ => 0) :=
  Pipeline.θ_run_region_kit_quiescent cfgs (dats m) () (0 : Fin 1) launch0 ownSemFacts EP (defs₀ (F := Ideal)) 𝒱₀ m g (main (F := Ideal))
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => V (F := Ideal) m c b)
    (hmain := Pipeline.hmain_prefix cfgs 0 (defs₀ (F := Ideal)) 𝒱₀ m (main (F := Ideal)) hostOps0 hostOps0_sub hostOps0_fresh main_chain)
    (hA := fun _ _ => rfl)
    (X := into m) (Y := outOf m) (Z := kept m)
    (hX := fun c => by
      rw [unscopedRest0_eq]
      unfold into kept
      iintro ⟨⟨HA, H0, H1, H2, H3, H4⟩, HS, -, -, -⟩; imodintro
      isplitr [HA]
      · isplitl [H0]
        · iapply (ent_of_eq ((holds_whole c main_v0 _).trans (congrArg (holds c (Memref.whole main_v0 : Memref sig .tc .hbm S1792x16384 .bf16) Finset.univ) (wV_Wm m c))))
          iexact H0
        isplitl [H1]; · iapply (any_whole c main_v1_0); iexists _; iexact H1
        isplitl [H2]; · iapply (any_whole c main_v1_1); iexists _; iexact H2
        isplitl [H3]; · iapply (any_whole c main_v1_2); iexists _; iexact H3
        isplitl [H4]; · iapply (any_whole c main_v1_3); iexists _; iexact H4
        iapply (ownSems0_eq c).1; iexact HS
      iexact HA)
    (hin := fun c => by
      rw [show (dats m 0 c).Φ 0 = Φin m c t0_0 from ΦAt_zero m c]
      unfold into Φin
      iintro ⟨⟨H0, H1, H2, H3, H4, HM⟩, Hb⟩
      isplitl [H0]; · iexact H0
      isplitl [H1]; · iexact H1
      isplitl [H2]; · iexact H2
      isplitl [H3]; · iexact H3
      isplitl [H4]; · iexact H4
      isplitl [Hb]; · iapply (scr_in c t0_0); iexact Hb
      iexact HM)
    (hout := fun c => by
      rw [show (dats m 0 c).Φ (Fin.last cfg0.N) = Φout m c t0_0 from ΦAt_one m c]
      unfold Φout outOf
      iintro ⟨H0, H1, H2, H3, H4, HS, HM⟩
      isplitl [H1 H2 H3 H4]
      · isplitl [H1]; · iapply (ent_of_eq (holds_whole c main_v1_0 (pkV (Wm m c))).symm); iexact H1
        isplitl [H2]; · iapply (ent_of_eq (holds_whole c main_v1_1 (scV (Wm m c))).symm); iexact H2
        isplitl [H3]; · iapply (ent_of_eq (holds_whole c main_v1_2 (zV (Wm m c))).symm); iexact H3
        iapply (ent_of_eq (holds_whole c main_v1_3 (qE (offW (Wm m c)) (Wm m c))).symm); iexact H4
      isplitl [HM]; · iapply (ownSems0_eq c).2; iexact HM
      iapply (scr_out c t0_0); iexact HS)
    (QY := QY m)
    (hY := fun c s' => by
      unfold outOf kept
      iintro ⟨⟨H1, H2, H3, H4⟩, HA, HSI⟩
      icombine HSI H1 gives %h1
      icombine HSI H2 gives %h2
      icombine HSI H3 gives %h3
      icombine HSI H4 gives %h4
      icombine HSI HA gives %h0
      imodintro
      isplitr
      · ipureintro
        exact ⟨Buf.eq_of_forall_mem_univ h1, Buf.eq_of_forall_mem_univ h2, Buf.eq_of_forall_mem_univ h3, Buf.eq_of_forall_mem_univ h4, Buf.eq_of_forall_mem_univ h0⟩
      iexact HSI)
    (hQ := fun _ hh hz => ⟨hh, hz⟩)

/-- The scales of the scales, written back whole. -/
theorem final_s2 (c : Dev nD) : (dats m 0 c).arrAt 0 cfg0.N = s2E (offW (Wm m c)) (Wm m c) :=
  (dats m 0 c).arrAt_eq_of_after_last 0 t0_0 (by decide +kernel) _ fun j => rfl

/-- The mean of the scales, written back whole. -/
theorem final_off (c : Dev nD) : (dats m 0 c).arrAt 1 cfg0.N = fun _ => offW (Wm m c) :=
  (dats m 0 c).arrAt_eq_of_after_last 1 t0_0 (by decide +kernel) _ fun j => rfl

/-- What the kernel's run leaves in the six results. -/
theorem run_vals : θ_run (defs (F := Ideal)) (onTc (τ := τ) (main (F := Ideal))) ⟨m, fun _ => 0, g⟩ (fun r =>
    (∀ c : Dev nD, r.2.mem ((c : Thread nD τ).loc main_v1_0) = pkV (Wm m c) ∧ r.2.mem ((c : Thread nD τ).loc main_v1_1) = scV (Wm m c)
      ∧ r.2.mem ((c : Thread nD τ).loc main_v1_2) = zV (Wm m c) ∧ r.2.mem ((c : Thread nD τ).loc main_v1_3) = qE (offW (Wm m c)) (Wm m c)
      ∧ r.2.mem ((c : Thread nD τ).loc main_v1_4) = s2E (offW (Wm m c)) (Wm m c) ∧ r.2.mem ((c : Thread nD τ).loc main_v1_5) = (fun _ => offW (Wm m c))
      ∧ r.2.mem ((c : Thread nD τ).loc main_arg0) = m ((c : Thread nD τ).loc main_arg0)) ∧ r.2.sem = fun _ => 0) :=
  (θ_run defs _ _).mono (fun r h => ⟨fun c => by
    obtain ⟨hw, h1, h2, h3, h4, h0⟩ := h.1 c
    exact ⟨h1, h2, h3, h4, (hw 0).trans (final_s2 m c), (hw 1).trans (final_off m c), h0.trans (V_main_arg0 m c)⟩, h.2⟩) (run_main m g)

end Run

end Cert.KernelIdeal.Stage

end
-- ==== Proof.KStage.lean ====
module

public import proofs.«01_k».proof.Proof.Gen.Kernel

@[expose] public section

/-! The computation of one trip of the loop of the kernel before idealization, written by stages.

One trip handles one unit of 256 rows and 4096 columns. It runs eight reduction stages (`stageA`)
and eight quantisation stages (`stageB`), one of each per slice of 512 columns, the reduction of a
slice one step ahead of the quantisation of the slice before. The definitions here take the program
that follows as their last argument. -/

noncomputable section

namespace Cert.Kernel.Stage

open Idealize.ShloMosaic Idealize.ShloMosaic.TcCoe Idealize.SL.Sem Cert.Kernel Cert.Kernel.Gen

variable {F : FTy → Type} [BitOps F]

/-- Programs of the kernel's core. -/
abbrev Prg (F : FTy → Type) (α : Type) : Type _ := Prog (TpuEff nD τ sig (Elt F) Λ₀ .tc) α

/-! ### Pure steps -/

/-- The larger (`true`) or the smaller (`false`) of two vectors, element by element. -/
def ext {s : Shape} {e : FTy} (mx : Bool) (a b : FVec F s e) : FVec F s e :=
  match mx with
  | true => maximumf a b
  | false => minimumf a b

/-- A block of words as sixteen rows. -/
def unpair (raw : Vec F S1x8x128 .i32) : FVec F S16x128 .bf16 :=
  bitcastToFloat .bf16 (bitcast S16x128 16 (shapeCast S8x128 raw shapeCasts_S1x8x128_S8x128) bitcasts_S8x128_w32_S16x128_w16)

theorem slicesRow (b i : ℕ) (hb : b < 8) (hi : i < 4) : S512x256.Slices ![64 * b + 16 * i, 0] S16x256 := by
  have h : ∀ b : Fin 8, ∀ i : Fin 4, S512x256.Slices ![64 * b.val + 16 * i.val, 0] S16x256 := by decide
  exact h ⟨b, hb⟩ ⟨i, hi⟩

theorem slicesLane (l : ℕ) (hl : l < 2) : S8x256.Slices ![0, 128 * l] S8x128 := by
  have h : ∀ l : Fin 2, S8x256.Slices ![0, 128 * l.val] S8x128 := by decide
  exact h ⟨l, hl⟩

/-- The extreme of the four sixteen-row slices of block `b` of the transposed tile. -/
def rowTree (mx : Bool) (tile : FVec F S512x256 .bf16) (b : ℕ) (hb : b < 8) : FVec F S16x256 .bf16 :=
  ext mx
    (ext mx (extractStridedSlice S16x256 ![64 * b + 16 * 0, 0] tile (slicesRow b 0 hb (by decide)))
      (extractStridedSlice S16x256 ![64 * b + 16 * 1, 0] tile (slicesRow b 1 hb (by decide))))
    (ext mx (extractStridedSlice S16x256 ![64 * b + 16 * 2, 0] tile (slicesRow b 2 hb (by decide)))
      (extractStridedSlice S16x256 ![64 * b + 16 * 3, 0] tile (slicesRow b 3 hb (by decide))))

/-- What a reduction stage keeps of block `b`, lanes `128 l` to `128 l + 127`: its partial extremes, two rows to a word. -/
def partVal (mx : Bool) (tile : FVec F S512x256 .bf16) (b l : ℕ) (hb : b < 8) (hl : l < 2) : Vec F S1x8x128 .i32 :=
  shapeCast S1x8x128 (extractStridedSlice S8x128 ![0, 128 * l] (bitcast S8x256 32 (bitcastToInt (rowTree mx tile b hb)) bitcasts_S16x256_w16_S8x256_w32) (slicesLane l hl)) shapeCasts_S8x128_S1x8x128

/-- The extreme of eight vectors, by pairs. -/
def tree8 {s : Shape} {e : FTy} (mx : Bool) (a0 a1 a2 a3 a4 a5 a6 a7 : FVec F s e) : FVec F s e :=
  ext mx (ext mx (ext mx a0 a1) (ext mx a2 a3)) (ext mx (ext mx a4 a5) (ext mx a6 a7))

/-- The extreme of the even and the odd rows. -/
def foldPair (mx : Bool) (a : FVec F S16x128 .bf16) : FVec F S8x128 .f32 :=
  ext mx (bitcastToFloat .f32 (shli (bitcast S8x128 32 (bitcastToInt a) bitcasts_S16x128_w16_S8x128_w32) (broadcast S8x128 16#32)))
    (bitcastToFloat .f32 (andi (bitcast S8x128 32 (bitcastToInt a) bitcasts_S16x128_w16_S8x128_w32) (broadcast S8x128 4294901760#32)))

/-- The scale of a block from its largest and its smallest value, one where that is zero. -/
def scaleOf (mx mn : FVec F S8x128 .f32) : FVec F S8x128 .f32 :=
  select (cmpf .oeq (divf (subf mx mn) (broadcast S8x128 (Scalar.ofBits .f32 0x41700000#32))) (broadcast S8x128 (Scalar.ofBits .f32 0x00000000#32)))
    (broadcast S8x128 (Scalar.ofBits .f32 0x3F800000#32)) (divf (subf mx mn) (broadcast S8x128 (Scalar.ofBits .f32 0x41700000#32)))

/-- The reciprocal of a scale. -/
def recipOf (sg : FVec F S8x128 .f32) : FVec F S8x128 .f32 :=
  divf (broadcast S8x128 (Scalar.ofBits .f32 0x3F800000#32)) sg

/-- The zero point of a block from its smallest value and the reciprocal of its scale. -/
def zeroOf (mn r : FVec F S8x128 .f32) : FVec F S8x128 .f32 :=
  minimumf (broadcast S8x128 (Scalar.ofBits .f32 0x41700000#32))
    (maximumf (broadcast S8x128 (Scalar.ofBits .f32 0x00000000#32))
      (roundeven (mulf (subf (broadcast S8x128 (Scalar.ofBits .f32 0x00000000#32)) mn) r)))

/-! ### Memory steps -/

variable {α : Type}

/-- Slot `p` of a buffer of partial extremes. -/
abbrev slot (arg10 : Memref sig .tc .vmem S2x2x64x128 .i32) (p : ℕ)
    (hp : ∀ a, (![p, 0, 0, 0] : Fin 4 → Nat) a + S1x2x64x128.size a ≤ S2x2x64x128.size a) : Memref sig .tc .vmem S2x64x128 .i32 :=
  (arg10.slice (Rect.unit (s := S2x2x64x128) ![p, 0, 0, 0] S1x2x64x128.size hp) (fun _ => rfl)).squeeze S2x64x128 squeezes_S1x2x64x128_S2x64x128

theorem slotInb (p : ℕ) (hp : p < 2) : ∀ a, (![p, 0, 0, 0] : Fin 4 → Nat) a + S1x2x64x128.size a ≤ S2x2x64x128.size a := by
  have h : ∀ p : Fin 2, ∀ a, (![p.val, 0, 0, 0] : Fin 4 → Nat) a + S1x2x64x128.size a ≤ S2x2x64x128.size a := by decide
  exact h ⟨p, hp⟩

theorem partInb (l b : ℕ) (hl : l < 2) (hb : b < 8) : ∀ a, (![l, 8 * b, 0] : Fin 3 → Nat) a + S1x8x128.size a ≤ S2x64x128.size a := by
  have h : ∀ l : Fin 2, ∀ b : Fin 8, ∀ a, (![l.val, 8 * b.val, 0] : Fin 3 → Nat) a + S1x8x128.size a ≤ S2x64x128.size a := by decide
  exact h ⟨l, hl⟩ ⟨b, hb⟩

theorem strideInb (l i : ℕ) (hl : l < 2) (hi : i < 8) : ∀ a, S1x8x128.size a = 0 ∨ (![l, i, 0] : Fin 3 → Nat) a + (![1, 8, 1] : Fin 3 → Nat) a * (S1x8x128.size a - 1) < S2x64x128.size a := by
  have h : ∀ l : Fin 2, ∀ i : Fin 8, ∀ a, S1x8x128.size a = 0 ∨ (![l.val, i.val, 0] : Fin 3 → Nat) a + (![1, 8, 1] : Fin 3 → Nat) a * (S1x8x128.size a - 1) < S2x64x128.size a := by decide
  exact h ⟨l, hl⟩ ⟨i, hi⟩

/-- The kernel's buffers that a stage uses. -/
structure Bufs where
  a7 : Memref sig .tc .vmem S4x256x4096 .bf16
  a8 : Memref sig .tc .vmem S2x256x2048 .i8
  h8 : a8.IsWhole
  a9 : Memref sig .tc .vmem S256x256 .bf16
  a10 : Memref sig .tc .vmem S2x2x64x128 .i32
  h10 : a10.IsWhole
  a11 : Memref sig .tc .vmem S2x2x64x128 .i32
  h11 : a11.IsWhole
  a12 : Memref sig .tc .vmem S2x8x256 .f32
  a13 : Memref sig .tc .vmem S2x8x256 .i32
  h13 : a13.IsWhole
  a14 : Memref sig .tc .vmem S7x256x256 .f32
  a15 : Memref sig .tc .vmem S256x256 .f32
  a16 : Memref sig .tc .vmem S8x128 .f32

/-- The store of one block's partial extremes, after the load of what is there. -/
def partStore (m : Memref sig .tc .vmem S2x2x64x128 .i32) (hm : m.IsWhole) (p : ℕ) (hp : p < 2) (mx : Bool)
    (tile : FVec F S512x256 .bf16) (b l : ℕ) (hb : b < 8) (hl : l < 2) (k : Prg F α) : Prg F α :=
  .op (.load (slot m p (slotInb p hp)) (Rect.unit (s := S2x64x128) ![l, 8 * b, 0] S1x8x128.size (partInb l b hl hb)).toLoadRect (View.loadsAt_vmem h_S1x8x128)) fun _ =>
  .op (.store (slot m p (slotInb p hp)) (Rect.unit (s := S2x64x128) ![l, 8 * b, 0] S1x8x128.size (partInb l b hl hb)) (partVal mx tile b l hb hl) Finset.univ
    (View.stores_vmem_bits_univ h_S1x8x128 rfl) (.inl rfl)) fun _ => k

/-- The stores of all blocks' partial extremes. -/
def partStores (m : Memref sig .tc .vmem S2x2x64x128 .i32) (hm : m.IsWhole) (p : ℕ) (hp : p < 2) (mx : Bool)
    (tile : FVec F S512x256 .bf16) (k : Prg F α) : Prg F α :=
  partStore m hm p hp mx tile 0 0 (by decide) (by decide) <|
  partStore m hm p hp mx tile 0 1 (by decide) (by decide) <|
  partStore m hm p hp mx tile 1 0 (by decide) (by decide) <|
  partStore m hm p hp mx tile 1 1 (by decide) (by decide) <|
  partStore m hm p hp mx tile 2 0 (by decide) (by decide) <|
  partStore m hm p hp mx tile 2 1 (by decide) (by decide) <|
  partStore m hm p hp mx tile 3 0 (by decide) (by decide) <|
  partStore m hm p hp mx tile 3 1 (by decide) (by decide) <|
  partStore m hm p hp mx tile 4 0 (by decide) (by decide) <|
  partStore m hm p hp mx tile 4 1 (by decide) (by decide) <|
  partStore m hm p hp mx tile 5 0 (by decide) (by decide) <|
  partStore m hm p hp mx tile 5 1 (by decide) (by decide) <|
  partStore m hm p hp mx tile 6 0 (by decide) (by decide) <|
  partStore m hm p hp mx tile 6 1 (by decide) (by decide) <|
  partStore m hm p hp mx tile 7 0 (by decide) (by decide) <|
  partStore m hm p hp mx tile 7 1 (by decide) (by decide) <|
  k

/-- The load of row `i` of every block's partial extremes, lanes group `l`. -/
def strideLoad (m : Memref sig .tc .vmem S2x2x64x128 .i32) (p : ℕ) (hp : p < 2) (l i : ℕ) (hl : l < 2) (hi : i < 8)
    (k : Vec F S1x8x128 .i32 → Prg F α) : Prg F α :=
  .op (.load (slot m p (slotInb p hp)) (⟨![l, i, 0], S1x8x128.size, ![1, 8, 1], strideInb l i hl hi⟩ : LoadRect S2x64x128) (View.loadsAt_vmem h_S1x8x128)) k

/-- The extremes of all blocks, lanes group `l`. -/
def colTree (m : Memref sig .tc .vmem S2x2x64x128 .i32) (p : ℕ) (hp : p < 2) (mx : Bool) (l : ℕ) (hl : l < 2)
    (k : FVec F S8x128 .f32 → Prg F α) : Prg F α :=
  strideLoad m p hp l 0 hl (by decide) fun r0 =>
  strideLoad m p hp l 1 hl (by decide) fun r1 =>
  strideLoad m p hp l 2 hl (by decide) fun r2 =>
  strideLoad m p hp l 3 hl (by decide) fun r3 =>
  strideLoad m p hp l 4 hl (by decide) fun r4 =>
  strideLoad m p hp l 5 hl (by decide) fun r5 =>
  strideLoad m p hp l 6 hl (by decide) fun r6 =>
  strideLoad m p hp l 7 hl (by decide) fun r7 =>
  k (foldPair mx (tree8 mx (unpair r0) (unpair r1) (unpair r2) (unpair r3) (unpair r4) (unpair r5) (unpair r6) (unpair r7)))

theorem rInb (p l : ℕ) (hp : p < 2) (hl : l < 2) : ∀ a, (![p, 0, 128 * l] : Fin 3 → Nat) a + S1x8x128.size a ≤ S2x8x256.size a := by
  have h : ∀ p l : Fin 2, ∀ a, (![p.val, 0, 128 * l.val] : Fin 3 → Nat) a + S1x8x128.size a ≤ S2x8x256.size a := by decide
  exact h ⟨p, hp⟩ ⟨l, hl⟩

/-- The end of a reduction stage for lanes group `l`: the scales, their reciprocals and the zero points of eight blocks
are kept, and the scales added to the running sum. -/
def finish (M : Bufs) (p : ℕ) (hp : p < 2) (l : ℕ) (hl : l < 2)
    (o14 : Fin 3 → ℕ) (i14 : ∀ a, o14 a + S1x8x128.size a ≤ S7x256x256.size a)
    (o15 : Fin 2 → ℕ) (i15 : ∀ a, o15 a + S8x128.size a ≤ S256x256.size a)
    (mx mn : FVec F S8x128 .f32) (k : Prg F α) : Prg F α :=
  .op (.load M.a12 (Rect.unit (s := S2x8x256) ![p, 0, 128 * l] S1x8x128.size (rInb p l hp hl)).toLoadRect (View.loadsAt_vmem h_S1x8x128)) fun _ =>
  .op (.store M.a12 (Rect.unit (s := S2x8x256) ![p, 0, 128 * l] S1x8x128.size (rInb p l hp hl)) (shapeCast S1x8x128 (recipOf (scaleOf mx mn)) shapeCasts_S8x128_S1x8x128) Finset.univ (View.stores_vmem_bits_univ h_S1x8x128 rfl) (.inl rfl)) fun _ =>
  .op (.load M.a13 (Rect.unit (s := S2x8x256) ![p, 0, 128 * l] S1x8x128.size (rInb p l hp hl)).toLoadRect (View.loadsAt_vmem h_S1x8x128)) fun _ =>
  .op (.store M.a13 (Rect.unit (s := S2x8x256) ![p, 0, 128 * l] S1x8x128.size (rInb p l hp hl)) (shapeCast S1x8x128 (packElementwise (zeroOf mn (recipOf (scaleOf mx mn))) (zeroOf mn (recipOf (scaleOf mx mn)))) shapeCasts_S8x128_S1x8x128) Finset.univ (View.stores_vmem_bits_univ h_S1x8x128 rfl) (.inl rfl)) fun _ =>
  .op (.load M.a14 (Rect.unit (s := S7x256x256) o14 S1x8x128.size i14).toLoadRect (View.loadsAt_vmem h_S1x8x128)) fun _ =>
  .op (.store M.a14 (Rect.unit (s := S7x256x256) o14 S1x8x128.size i14) (shapeCast S1x8x128 (scaleOf mx mn) shapeCasts_S8x128_S1x8x128) Finset.univ (View.stores_vmem_bits_univ h_S1x8x128 rfl) (.inl rfl)) fun _ =>
  .op (.load M.a15 (Rect.unit (s := S256x256) o15 S8x128.size i15).toLoadRect (View.loadsAt_vmem h_S8x128)) fun _ =>
  .op (.store M.a15 (Rect.unit (s := S256x256) o15 S8x128.size i15) (shapeCast S8x128 (zeroOf mn (recipOf (scaleOf mx mn))) shapeCasts_S8x128_S8x128) Finset.univ (View.stores_vmem_bits_univ h_S8x128 rfl) (.inl rfl)) fun _ =>
  .op (.load M.a16 (Rect.unit (s := S8x128) ![0, 0] S8x128.size inb_S8x128_S8x128_0_0).toLoadRect (View.loadsAt_vmem h_S8x128)) fun acc =>
  .op (.load M.a16 (Rect.unit (s := S8x128) ![0, 0] S8x128.size inb_S8x128_S8x128_0_0).toLoadRect (View.loadsAt_vmem h_S8x128)) fun _ =>
  .op (.store M.a16 (Rect.unit (s := S8x128) ![0, 0] S8x128.size inb_S8x128_S8x128_0_0) (shapeCast S8x128 (addf acc (scaleOf mx mn)) shapeCasts_S8x128_S8x128) Finset.univ (View.stores_vmem_bits_univ h_S8x128 rfl) (.inl rfl)) fun _ => k

/-- The tile a reduction stage works on, its columns as rows. -/
def tileOf (raw : Vec F S1x256x512 .bf16) : FVec F S512x256 .bf16 :=
  transpose S512x256 [1, 0] (shapeCast S256x512 raw shapeCasts_S1x256x512_S256x512) transposes_S256x512_p1_0_S512x256

/-- The reduction stage of slice `j`. -/
def stageA (M : Bufs) (t : Fin k0_t1_loop.trips) (p : ℕ) (hp : p < 2) (j : Fin 8)
    (o7 : Fin 3 → ℕ) (i7 : ∀ a, o7 a + S1x256x512.size a ≤ S4x256x4096.size a) (k : Prg F α) : Prg F α :=
  .op (.load M.a7 (Rect.unit (s := S4x256x4096) o7 S1x256x512.size i7).toLoadRect (View.loadsAt_vmem h_S1x256x512)) fun raw =>
  partStores M.a10 M.h10 p hp true (tileOf raw) <|
  colTree M.a10 p hp true 0 (by decide) fun mx0 =>
  colTree M.a10 p hp true 1 (by decide) fun mx1 =>
  partStores M.a11 M.h11 p hp false (tileOf raw) <|
  colTree M.a11 p hp false 0 (by decide) fun mn0 =>
  colTree M.a11 p hp false 1 (by decide) fun mn1 =>
  finish M p hp 0 (by decide) (k0_off11 t (BitVec.ofNat 32 (8 * j.val))) (k0_off11_inb t j) (k0_off12 t (BitVec.ofNat 32 (8 * j.val))) (k0_off12_inb t j) mx0 mn0 <|
  finish M p hp 1 (by decide) (k0_off13 t (BitVec.ofNat 32 (8 * j.val))) (k0_off13_inb t j) (k0_off14 t (BitVec.ofNat 32 (8 * j.val))) (k0_off14_inb t j) mx1 mn1 k

theorem rowInb (p b : ℕ) (hp : p < 2) (hb : b < 8) : ∀ a, (![p, b, 0] : Fin 3 → Nat) a + S1x1x256.size a ≤ S2x8x256.size a := by
  have h : ∀ p : Fin 2, ∀ b : Fin 8, ∀ a, (![p.val, b.val, 0] : Fin 3 → Nat) a + S1x1x256.size a ≤ S2x8x256.size a := by decide
  exact h ⟨p, hp⟩ ⟨b, hb⟩

theorem slicesCode (n : ℕ) (hn : n < 8) : S256x256.Slices ![32 * n, 0] S32x256 := by
  have h : ∀ n : Fin 8, S256x256.Slices ![32 * n.val, 0] S32x256 := by decide
  exact h ⟨n, hn⟩

/-- A block's reciprocal scales, one row for each of 32 columns. -/
def rowsOf (raw : Vec F S1x1x256 .f32) : FVec F S32x256 .f32 :=
  broadcastTo S32x256 (shapeCast S1x256 (shapeCast S1x256 raw shapeCasts_S1x1x256_S1x256) shapeCasts_S1x256_S1x256) broadcasts_S1x256_S32x256

/-- A block's zero points, one row for each of 32 columns, from words that hold each of them twice. -/
def zrowsOf (raw : Vec F S1x1x256 .i32) : FVec F S32x256 .bf16 :=
  let v : IVec S1x256 32 := shapeCast S1x256 raw shapeCasts_S1x1x256_S1x256
  bitcastToFloat .bf16 (bitcast S32x256 16 (concatenate S16x256 0 [⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩] concatenates_S1x256_S1x256_S1x256_S1x256_S1x256_S1x256_S1x256_S1x256_S1x256_S1x256_S1x256_S1x256_S1x256_S1x256_S1x256_S1x256_S16x256_d0) bitcasts_S16x256_w32_S32x256_w16)

/-- The codes of 32 columns, four to a word. -/
def codesOf (x : FVec F S32x256 .f32) (r : FVec F S32x256 .f32) (z : FVec F S32x256 .bf16) : IVec S8x256 32 :=
  bitcast S8x256 32 (fptosi 8 (minimumf (broadcast S32x256 (Scalar.truncf .bf16 bitsLt_bf16_f32 (Scalar.ofBits .f32 0x41700000#32)))
    (maximumf (broadcast S32x256 (Scalar.truncf .bf16 bitsLt_bf16_f32 (Scalar.ofBits .f32 0x00000000#32)))
      (addf (sitofp .bf16 (fptosi (F := F) 8 (roundeven (mulf x r)))) z)))) bitcasts_S32x256_w8_S8x256_w32

/-- The packed codes of block `i` of a half slice: the codes of its even columns above those of its odd ones. -/
def wordOf (y : FVec F S256x256 .f32) (i : ℕ) (hi : i < 4) (r : Vec F S1x1x256 .f32) (z : Vec F S1x1x256 .i32) : IVec S8x256 32 :=
  ori (shli (codesOf (extractStridedSlice S32x256 ![32 * i, 0] y (slicesCode i (by omega))) (rowsOf r) (zrowsOf z)) (broadcast S8x256 4#32))
    (codesOf (extractStridedSlice S32x256 ![32 * (4 + i), 0] y (slicesCode (4 + i) (by omega))) (rowsOf r) (zrowsOf z))

/-- The bytes of a half slice. -/
def bytesOf (w0 w1 w2 w3 : IVec S8x256 32) : IVec S256x128 8 :=
  transpose S256x128 [1, 0] (bitcast S128x256 8 (concatenate S32x256 0 [⟨S8x256, w0⟩, ⟨S8x256, w1⟩, ⟨S8x256, w2⟩, ⟨S8x256, w3⟩] concatenates_S8x256_S8x256_S8x256_S8x256_S32x256_d0) bitcasts_S32x256_w32_S128x256_w8) transposes_S128x256_p1_0_S256x128

/-- The loads of block `b`'s reciprocal scales and zero points. -/
def rowLoad (M : Bufs) (p b : ℕ) (hp : p < 2) (hb : b < 8) (k : Vec F S1x1x256 .f32 → Vec F S1x1x256 .i32 → Prg F α) : Prg F α :=
  .op (.load M.a12 (Rect.unit (s := S2x8x256) ![p, b, 0] S1x1x256.size (rowInb p b hp hb)).toLoadRect (View.loadsAt_vmem h_S1x1x256)) fun r =>
  .op (.load M.a13 (Rect.unit (s := S2x8x256) ![p, b, 0] S1x1x256.size (rowInb p b hp hb)).toLoadRect (View.loadsAt_vmem h_S1x1x256)) fun z => k r z

/-- The quantisation of half `c` of a slice: 256 columns to 128 bytes a row. -/
def half (M : Bufs) (p : ℕ) (hp : p < 2) (c : ℕ) (hc : c < 2)
    (o7 : Fin 3 → ℕ) (i7 : ∀ a, o7 a + S1x256x256.size a ≤ S4x256x4096.size a)
    (o8 : Fin 3 → ℕ) (i8 : ∀ a, o8 a + S1x256x128.size a ≤ S2x256x2048.size a)
    (p8 : (Rect.unit (s := S2x256x2048) o8 S1x256x128.size i8).PackedRows (EltTy.packing .i8)) (k : Prg F α) : Prg F α :=
  .op (.load M.a7 (Rect.unit (s := S4x256x4096) o7 S1x256x256.size i7).toLoadRect (View.loadsAt_vmem h_S1x256x256)) fun x =>
  .op (.load M.a9 (Rect.unit (s := S256x256) ![0, 0] S256x256.size inb_S256x256_S256x256_0_0).toLoadRect (View.loadsAt_vmem h_S256x256)) fun perm =>
  rowLoad M p (4 * c + 0) hp (by omega) fun r0 z0 =>
  rowLoad M p (4 * c + 1) hp (by omega) fun r1 z1 =>
  rowLoad M p (4 * c + 2) hp (by omega) fun r2 z2 =>
  rowLoad M p (4 * c + 3) hp (by omega) fun r3 z3 =>
  .op (.load M.a8 (Rect.unit (s := S2x256x2048) o8 S1x256x128.size i8).toLoadRect (View.loadsAt_vmem h_S1x256x128)) fun _ =>
  .op (.store M.a8 (Rect.unit (s := S2x256x2048) o8 S1x256x128.size i8)
    (shapeCast S1x256x128 (bytesOf
      (wordOf (matmul dot_S256x256_S256x256_S256x256_1_1_0_0_n_n none perm (shapeCast S256x256 x shapeCasts_S1x256x256_S256x256) (constant S256x256 .f32 0x00000000#32)) 0 (by decide) r0 z0)
      (wordOf (matmul dot_S256x256_S256x256_S256x256_1_1_0_0_n_n none perm (shapeCast S256x256 x shapeCasts_S1x256x256_S256x256) (constant S256x256 .f32 0x00000000#32)) 1 (by decide) r1 z1)
      (wordOf (matmul dot_S256x256_S256x256_S256x256_1_1_0_0_n_n none perm (shapeCast S256x256 x shapeCasts_S1x256x256_S256x256) (constant S256x256 .f32 0x00000000#32)) 2 (by decide) r2 z2)
      (wordOf (matmul dot_S256x256_S256x256_S256x256_1_1_0_0_n_n none perm (shapeCast S256x256 x shapeCasts_S1x256x256_S256x256) (constant S256x256 .f32 0x00000000#32)) 3 (by decide) r3 z3)) shapeCasts_S256x128_S1x256x128)
    Finset.univ (View.stores_vmem h_S1x256x128 (M.h8.storeExact_slice rfl _ p8) (fun _ => rfl)) (.inl rfl)) fun _ => k

/-- The sixteen stages of a trip, in their order. -/
def stages (M : Bufs) (t : Fin k0_t1_loop.trips) (k : Prg F α) : Prg F α :=
  stageA M t 0 (by decide) 0 (k0_off10 t) (k0_off10_inb t) <|
  stageA M t 1 (by decide) 1 (k0_off15 t) (k0_off15_inb t) <|
  half M 0 (by decide) 0 (by decide) (k0_off16 t) (k0_off16_inb t) (k0_off17 t) (k0_off17_inb t) (k0_off17_packedi8 t) <|
  half M 0 (by decide) 1 (by decide) (k0_off18 t) (k0_off18_inb t) (k0_off19 t) (k0_off19_inb t) (k0_off19_packedi8 t) <|
  stageA M t 0 (by decide) 2 (k0_off20 t) (k0_off20_inb t) <|
  half M 1 (by decide) 0 (by decide) (k0_off21 t) (k0_off21_inb t) (k0_off22 t) (k0_off22_inb t) (k0_off22_packedi8 t) <|
  half M 1 (by decide) 1 (by decide) (k0_off23 t) (k0_off23_inb t) (k0_off24 t) (k0_off24_inb t) (k0_off24_packedi8 t) <|
  stageA M t 1 (by decide) 3 (k0_off25 t) (k0_off25_inb t) <|
  half M 0 (by decide) 0 (by decide) (k0_off26 t) (k0_off26_inb t) (k0_off27 t) (k0_off27_inb t) (k0_off27_packedi8 t) <|
  half M 0 (by decide) 1 (by decide) (k0_off28 t) (k0_off28_inb t) (k0_off29 t) (k0_off29_inb t) (k0_off29_packedi8 t) <|
  stageA M t 0 (by decide) 4 (k0_off30 t) (k0_off30_inb t) <|
  half M 1 (by decide) 0 (by decide) (k0_off31 t) (k0_off31_inb t) (k0_off32 t) (k0_off32_inb t) (k0_off32_packedi8 t) <|
  half M 1 (by decide) 1 (by decide) (k0_off33 t) (k0_off33_inb t) (k0_off34 t) (k0_off34_inb t) (k0_off34_packedi8 t) <|
  stageA M t 1 (by decide) 5 (k0_off35 t) (k0_off35_inb t) <|
  half M 0 (by decide) 0 (by decide) (k0_off36 t) (k0_off36_inb t) (k0_off37 t) (k0_off37_inb t) (k0_off37_packedi8 t) <|
  half M 0 (by decide) 1 (by decide) (k0_off38 t) (k0_off38_inb t) (k0_off39 t) (k0_off39_inb t) (k0_off39_packedi8 t) <|
  stageA M t 0 (by decide) 6 (k0_off40 t) (k0_off40_inb t) <|
  half M 1 (by decide) 0 (by decide) (k0_off41 t) (k0_off41_inb t) (k0_off42 t) (k0_off42_inb t) (k0_off42_packedi8 t) <|
  half M 1 (by decide) 1 (by decide) (k0_off43 t) (k0_off43_inb t) (k0_off44 t) (k0_off44_inb t) (k0_off44_packedi8 t) <|
  stageA M t 1 (by decide) 7 (k0_off45 t) (k0_off45_inb t) <|
  half M 0 (by decide) 0 (by decide) (k0_off46 t) (k0_off46_inb t) (k0_off47 t) (k0_off47_inb t) (k0_off47_packedi8 t) <|
  half M 0 (by decide) 1 (by decide) (k0_off48 t) (k0_off48_inb t) (k0_off49 t) (k0_off49_inb t) (k0_off49_packedi8 t) <|
  half M 1 (by decide) 0 (by decide) (k0_off50 t) (k0_off50_inb t) (k0_off51 t) (k0_off51_inb t) (k0_off51_packedi8 t) <|
  half M 1 (by decide) 1 (by decide) (k0_off52 t) (k0_off52_inb t) (k0_off53 t) (k0_off53_inb t) (k0_off53_packedi8 t) <|
  k

end Cert.Kernel.Stage
-- ==== Proof.KBody.lean ====
module

public import proofs.«01_k».proof.Proof.KStage

@[expose] public section

/-! One trip of the loop of the kernel before idealization, and the kernel's body around the loop, written by stages. -/

noncomputable section

namespace Cert.Kernel.Stage

open Idealize.ShloMosaic Idealize.ShloMosaic.TcCoe Idealize.SL.Sem Cert.Kernel Cert.Kernel.Gen

variable {F : FTy → Type} [BitOps F]

/-- The operands of the kernel's body: arrays, buffers and semaphores. -/
structure Args where
  a0 : Memref sig .tc .hbm S1792x16384 .bf16
  h0 : a0.IsWhole
  a1 : Memref sig .tc .hbm S1792x8192 .i8
  h1 : a1.IsWhole
  a2 : Memref sig .tc .hbm S1792x256 .f32
  h2 : a2.IsWhole
  a3 : Memref sig .tc .hbm S1792x256 .i8
  h3 : a3.IsWhole
  a4 : Memref sig .tc .hbm S1792x256 .i8
  h4 : a4.IsWhole
  a5 : Memref sig .tc .vmem S1x1792 .f32
  h5 : a5.IsWhole
  a6 : Memref sig .tc .smem S1x1 .f32
  h6 : a6.IsWhole
  a7 : Memref sig .tc .vmem S4x256x4096 .bf16
  h7 : a7.IsWhole
  a8 : Memref sig .tc .vmem S2x256x2048 .i8
  h8 : a8.IsWhole
  a9 : Memref sig .tc .vmem S256x256 .bf16
  h9 : a9.IsWhole
  a10 : Memref sig .tc .vmem S2x2x64x128 .i32
  h10 : a10.IsWhole
  a11 : Memref sig .tc .vmem S2x2x64x128 .i32
  h11 : a11.IsWhole
  a12 : Memref sig .tc .vmem S2x8x256 .f32
  h12 : a12.IsWhole
  a13 : Memref sig .tc .vmem S2x8x256 .i32
  h13 : a13.IsWhole
  a14 : Memref sig .tc .vmem S7x256x256 .f32
  h14 : a14.IsWhole
  a15 : Memref sig .tc .vmem S256x256 .f32
  h15 : a15.IsWhole
  a16 : Memref sig .tc .vmem S8x128 .f32
  h16 : a16.IsWhole
  a17 : Memref sig .tc .vmem S256x256 .f32
  h17 : a17.IsWhole
  a18 : Memref sig .tc .vmem S256x256 .i8
  h18 : a18.IsWhole
  a19 : Memref sig .tc .vmem S1792x256 .i8
  h19 : a19.IsWhole
  a20 : DmaSems sig S4
  a21 : DmaSems sig S2
  a22 : DmaSems sig S_
  a23 : DmaSems sig S_
  a24 : DmaSems sig S_

/-- The buffers that the stages of one trip use. -/
def Args.bufs (M : Args) : Bufs :=
  ⟨M.a7, M.a8, M.h8, M.a9, M.a10, M.h10, M.a11, M.h11, M.a12, M.a13, M.h13, M.a14, M.a15, M.a16⟩

/-- One trip of the loop, as printed. -/
def pbody (M : Args) (t : Fin k0_t1_loop.trips) : Prg F PUnit := do
    let ⟨arg25, v256, v266, v283, v293, v1922, v2137, v2192, v2287⟩ : Σ' (arg25 : BitVec 32) (v256 : BitVec 32) (v266 : BitVec 32) (v283 : BitVec 32) (v293 : BitVec 32) (v1922 : FVec F S512x256 .bf16) (v2137 : FVec F S8x128 .f32) (v2192 : FVec F S8x128 .f32), IVec S8x128 32 ← k0_part219 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 0#32 1#32 t
    let ⟨v4110, v4380, v4383, v4390, v4400⟩ : Σ' (v4110 : FVec F S8x128 .f32) (v4380 : FVec F S8x128 .f32) (v4383 : BitVec 32) (v4390 : FVec F S8x128 .f32), FVec F S8x128 .f32 ← k0_part220 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v266 v283 v293 v1922 v2137 v2192 v2287
    let ⟨v6550, v6589, v6611, v6617, cst_4205, cst_4206⟩ : Σ' (v6550 : FVec F S256x256 .f32) (v6589 : IVec S8x256 32) (v6611 : IVec S8x256 32) (v6617 : FVec F S32x256 .bf16) (cst_4205 : F .f32), F .f32 ← k0_part221 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v266 v283 v293 v4110 v4380 v4383 v4390 v4400
    let ⟨v6628, v6650, v6664, v6665⟩ : Σ' (v6628 : IVec S8x256 32) (v6650 : IVec S8x256 32) (v6664 : IVec S8x256 32), IVec S8x256 32 ← k0_part182 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6550 v6611 v6617 cst_4205 cst_4206
    let v6709 : IVec S256x128 8 ← k0_part183 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v266 v6550 v6589 v6628 v6650 v6664 v6665
    let ⟨v6717, v6745, v6746⟩ : Σ' (v6717 : FVec F S512x256 .bf16) (v6745 : IVec S8x256 32), IVec S8x128 32 ← k0_part184 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v6709
    let ⟨v6778, v6779, v6780, v6781⟩ : Σ' (v6778 : FVec F S16x256 .bf16) (v6779 : FVec F S16x256 .bf16) (v6780 : FVec F S16x256 .bf16), FVec F S16x256 .bf16 ← k0_part185 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v6745 v6746
    let v6812 : IVec S8x128 32 ← k0_part186 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v6778 v6779 v6780 v6781
    let ⟨v6845, v6846⟩ : Σ' (v6845 : IVec S8x256 32), IVec S8x128 32 ← k0_part187 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v6812
    k0_part188 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v6845 v6846
    let ⟨v6882, v6887, v6892, v6897, v6902⟩ : Σ' (v6882 : FVec F S16x128 .bf16) (v6887 : FVec F S16x128 .bf16) (v6892 : FVec F S16x128 .bf16) (v6897 : FVec F S16x128 .bf16), FVec F S16x128 .bf16 ← k0_part189 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24
    let ⟨v6932, v6936⟩ : Σ' (v6932 : FVec F S8x128 .f32), IVec S8x128 32 ← k0_part190 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6882 v6887 v6892 v6897 v6902
    let ⟨v6937, v6942, v6947, v6952, v6957, v6961⟩ : Σ' (v6937 : FVec F S16x128 .bf16) (v6942 : FVec F S16x128 .bf16) (v6947 : FVec F S16x128 .bf16) (v6952 : FVec F S16x128 .bf16) (v6957 : FVec F S16x128 .bf16), IVec S8x128 32 ← k0_part191 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6936
    let ⟨v6987, v6995, v6996⟩ : Σ' (v6987 : FVec F S8x128 .f32) (v6995 : IVec S8x256 32), IVec S8x128 32 ← k0_part192 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v6937 v6942 v6947 v6952 v6957 v6961
    let ⟨v7032, v7033⟩ : Σ' (v7032 : FVec F S16x256 .bf16), FVec F S16x256 .bf16 ← k0_part193 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v6995 v6996
    let v7062 : IVec S8x128 32 ← k0_part194 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v7032 v7033
    let ⟨v7095, v7096⟩ : Σ' (v7095 : IVec S8x256 32), IVec S8x128 32 ← k0_part195 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v7062
    let ⟨v7132, v7133⟩ : Σ' (v7132 : FVec F S16x256 .bf16), FVec F S16x256 .bf16 ← k0_part196 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v6717 v7095 v7096
    let ⟨v7152, v7157⟩ : Σ' (v7152 : FVec F S16x128 .bf16), FVec F S16x128 .bf16 ← k0_part197 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7132 v7133
    let ⟨v7162, v7167, v7172, v7177, v7182⟩ : Σ' (v7162 : FVec F S16x128 .bf16) (v7167 : FVec F S16x128 .bf16) (v7172 : FVec F S16x128 .bf16) (v7177 : FVec F S16x128 .bf16), FVec F S16x128 .bf16 ← k0_part198 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24
    let ⟨v7202, v7207, v7212, v7217⟩ : Σ' (v7202 : FVec F S8x128 .f32) (v7207 : FVec F S16x128 .bf16) (v7212 : FVec F S16x128 .bf16), FVec F S16x128 .bf16 ← k0_part199 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7152 v7157 v7162 v7167 v7172 v7177 v7182
    let ⟨v7222, v7227, v7232, v7237, v7242, v7243⟩ : Σ' (v7222 : FVec F S16x128 .bf16) (v7227 : FVec F S16x128 .bf16) (v7232 : FVec F S16x128 .bf16) (v7237 : FVec F S16x128 .bf16) (v7242 : FVec F S16x128 .bf16), FVec F S16x128 .bf16 ← k0_part200 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7207 v7212
    let ⟨v7257, v7260, v7267, v7277⟩ : Σ' (v7257 : FVec F S8x128 .f32) (v7260 : BitVec 32) (v7267 : FVec F S8x128 .f32), FVec F S8x128 .f32 ← k0_part201 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v293 v6932 v7202 v7217 v7222 v7227 v7232 v7237 v7242 v7243
    let ⟨v7305, v7315, v7319⟩ : Σ' (v7305 : FVec F S8x128 .f32) (v7315 : FVec F S8x128 .f32), IVec S8x128 32 ← k0_part202 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v283 v6987 v7257 v7260 v7267 v7277
    let ⟨v7341, v7345, v7349, cst_4739, v7358⟩ : Σ' (v7341 : FVec F S256x256 .f32) (v7345 : FVec F S32x256 .f32) (v7349 : FVec F S32x256 .bf16) (cst_4739 : F .f32), FVec F S32x256 .bf16 ← k0_part203 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v283 v7260 v7305 v7315 v7319
    let ⟨v7380, v7388, v7402, v7407⟩ : Σ' (v7380 : IVec S8x256 32) (v7388 : FVec F S32x256 .bf16) (v7402 : IVec S8x256 32), FVec F S32x256 .bf16 ← k0_part204 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7341 v7345 v7349 cst_4739 v7358
    let ⟨v7419, v7441, v7454⟩ : Σ' (v7419 : IVec S8x256 32) (v7441 : IVec S8x256 32), IVec S32x256 8 ← k0_part205 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7341 v7388 v7402 v7407
    let v7500 : IVec S256x128 8 ← k0_part206 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v266 v7341 v7380 v7419 v7441 v7454
    let ⟨v7509, v7531, v7544⟩ : Σ' (v7509 : FVec F S256x256 .f32) (v7531 : IVec S8x256 32), IVec S32x256 8 ← k0_part207 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v7500
    let ⟨v7548, v7587, v7589⟩ : Σ' (v7548 : IVec S8x256 32) (v7587 : IVec S8x256 32), FVec F S1x256 .f32 ← k0_part208 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7509 v7531 v7544
    let ⟨v7626, v7630, v7634, v7635⟩ : Σ' (v7626 : IVec S8x256 32) (v7630 : FVec F S32x256 .f32) (v7634 : FVec F S32x256 .bf16), FVec F S32x256 .f32 ← k0_part209 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7509 v7589
    let ⟨v7677, v7679⟩ : Σ' (v7677 : FVec F S256x256 .f32), FVec F S1x256 .f32 ← k0_part210 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v266 v7509 v7548 v7587 v7626 v7630 v7634 v7635
    let ⟨v7716, v7720, v7724, v7725⟩ : Σ' (v7716 : IVec S8x256 32) (v7720 : FVec F S32x256 .f32) (v7724 : FVec F S32x256 .bf16), FVec F S32x256 .f32 ← k0_part211 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7677 v7679
    let ⟨v7755, v7759, v7763, cst_4861, v7772⟩ : Σ' (v7755 : IVec S8x256 32) (v7759 : FVec F S32x256 .f32) (v7763 : FVec F S32x256 .bf16) (cst_4861 : F .f32), FVec F S32x256 .bf16 ← k0_part212 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7677 v7720 v7724 v7725
    let ⟨v7794, v7802, v7816, v7821⟩ : Σ' (v7794 : IVec S8x256 32) (v7802 : FVec F S32x256 .bf16) (v7816 : IVec S8x256 32), FVec F S32x256 .bf16 ← k0_part213 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7677 v7759 v7763 cst_4861 v7772
    let ⟨v7845, v7849, v7853, cst_4889, v7862⟩ : Σ' (v7845 : FVec F S256x256 .f32) (v7849 : FVec F S32x256 .f32) (v7853 : FVec F S32x256 .bf16) (cst_4889 : F .f32), FVec F S32x256 .bf16 ← k0_part214 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t v256 v266 v7716 v7755 v7794 v7802 v7816 v7821
    let ⟨v7884, v7892, v7906, v7911⟩ : Σ' (v7884 : IVec S8x256 32) (v7892 : FVec F S32x256 .bf16) (v7906 : IVec S8x256 32), FVec F S32x256 .bf16 ← k0_part215 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7845 v7849 v7853 cst_4889 v7862
    let ⟨v7923, v7945, v7958⟩ : Σ' (v7923 : IVec S8x256 32) (v7945 : IVec S8x256 32), IVec S32x256 8 ← k0_part216 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v7845 v7892 v7906 v7911
    let v8004 : IVec S256x128 8 ← k0_part217 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v266 v7845 v7884 v7923 v7945 v7958
    let c3_i32_4943 : BitVec 32 ← k0_part218 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t arg25 v8004
    let v8045 : BitVec 1 := Scalar.cmpi .eq v293 c3_i32_4943
    let v8046 : BitVec 32 := Scalar.extui v8045
    let c0_i32_4944 : BitVec 32 := 0#32
    let v8047 : BitVec 1 := Scalar.cmpi .ne v8046 c0_i32_4944
    if k0_h3 : k0_cond3 t = 1#1 then do
      let c0_i32_4945 : BitVec 32 := 0#32
      let v8048 : BitVec 1 := Scalar.cmpi .sgt v283 c0_i32_4945
      let v8049 : BitVec 32 := Scalar.extui v8048
      let c0_i32_4946 : BitVec 32 := 0#32
      let v8050 : BitVec 1 := Scalar.cmpi .ne v8049 c0_i32_4946
      if k0_h4 : k0_cond4 t = 1#1 then do
        let c1_i32_4959 : BitVec 32 := 1#32
        let v8071 : BitVec 32 := Scalar.subi v283 c1_i32_4959
        let c256_i32_4960 : BitVec 32 := 256#32
        let v8072 : BitVec 32 := Scalar.muli v8071 c256_i32_4960
        let v8073 : BitVec 32 := v8072
        let c0_i32_4961 : BitVec 32 := 0#32
        let v8074 : Memref sig .tc .hbm S256x256 .f32 := M.a2.slice (Rect.unit (s := S1792x256) (k0_off57 t) S256x256.size (k0_off57_inb t k0_h3 k0_h4)) (fun _ => rfl)
        Prog.lift (.waitDma2 M.a22.sem M.a17 v8074 M.h17.wordExact (View.wordExact_bits rfl))
        let c1_i32_4962 : BitVec 32 := 1#32
        let v8075 : BitVec 32 := Scalar.subi v283 c1_i32_4962
        let c256_i32_4963 : BitVec 32 := 256#32
        let v8076 : BitVec 32 := Scalar.muli v8075 c256_i32_4963
        let v8077 : BitVec 32 := v8076
        let c0_i32_4964 : BitVec 32 := 0#32
        let v8078 : Memref sig .tc .hbm S256x256 .i8 := M.a3.slice (Rect.unit (s := S1792x256) (k0_off57 t) S256x256.size (k0_off57_inb t k0_h3 k0_h4)) (fun _ => rfl)
        Prog.lift (.waitDma2 M.a23.sem M.a18 v8078 M.h18.wordExact (M.h3.wordExact_slice rfl _ (k0_off57_wordsi8 t k0_h3 k0_h4)))
        pure ⟨⟩
      else do
        pure ⟨⟩
      let v8051 : Index := Scalar.indexCast v283
      let c0_4947 : Index := 0#32
      let c0_4948 : Index := 0#32
      let v8052 : Vec F S1x256x256 .f32 ← Prog.lift (.load M.a14 (Rect.unit (s := S7x256x256) (k0_off58 t) S1x256x256.size (k0_off58_inb t k0_h3)).toLoadRect (View.loadsAt_vmem h_S1x256x256))
      have v8053 : FVec F S256x256 .f32 := shapeCast S256x256 v8052 shapeCasts_S1x256x256_S256x256
      have v8054 : FVec F S256x256 .f32 := transpose S256x256 [1, 0] v8053 transposes_S256x256_p1_0_S256x256
      let c0_4949 : Index := 0#32
      let c0_4950 : Index := 0#32
      let v8055 : Vec F S256x256 .f32 ← Prog.lift (.load M.a17 (Rect.unit (s := S256x256) ![0, 0] S256x256.size inb_S256x256_S256x256_0_0).toLoadRect (View.loadsAt_vmem h_S256x256))
      have v8056 : FVec F S256x256 .f32 := shapeCast S256x256 v8055 shapeCasts_S256x256_S256x256
      have v8057 : FVec F S256x256 .f32 := shapeCast S256x256 v8054 shapeCasts_S256x256_S256x256
      Prog.lift (.store M.a17 (Rect.unit (s := S256x256) ![0, 0] S256x256.size inb_S256x256_S256x256_0_0) v8057 Finset.univ (View.stores_vmem_bits_univ h_S256x256 rfl) (.inl rfl))
      let c0_4951 : Index := 0#32
      let c0_4952 : Index := 0#32
      let v8058 : Vec F S256x256 .f32 ← Prog.lift (.load M.a15 (Rect.unit (s := S256x256) ![0, 0] S256x256.size inb_S256x256_S256x256_0_0).toLoadRect (View.loadsAt_vmem h_S256x256))
      have v8059 : IVec S256x256 32 := fptosi 32 v8058
      have v8060 : IVec S256x256 8 := trunci 8 v8059 natLt_8_32
      have v8061 : IVec S256x256 8 := transpose S256x256 [1, 0] v8060 transposes_S256x256_p1_0_S256x256
      let c0_4953 : Index := 0#32
      let c0_4954 : Index := 0#32
      let v8062 : Vec F S256x256 .i8 ← Prog.lift (.load M.a18 (Rect.unit (s := S256x256) ![0, 0] S256x256.size inb_S256x256_S256x256_0_0).toLoadRect (View.loadsAt_vmem h_S256x256))
      have v8063 : IVec S256x256 8 := shapeCast S256x256 v8062 shapeCasts_S256x256_S256x256
      have v8064 : IVec S256x256 8 := shapeCast S256x256 v8061 shapeCasts_S256x256_S256x256
      Prog.lift (.store M.a18 (Rect.unit (s := S256x256) ![0, 0] S256x256.size inb_S256x256_S256x256_0_0) v8064 Finset.univ (View.stores_vmem h_S256x256 (M.h18.storeExact_slice rfl _ packedi8_S256x256_S256x256_0_0) (fun _ => rfl)) (.inl rfl))
      let c256_i32_4955 : BitVec 32 := 256#32
      let v8065 : BitVec 32 := Scalar.muli v283 c256_i32_4955
      let v8066 : BitVec 32 := v8065
      let c0_i32_4956 : BitVec 32 := 0#32
      let v8067 : Memref sig .tc .hbm S256x256 .f32 := M.a2.slice (Rect.unit (s := S1792x256) (k0_off59 t) S256x256.size (k0_off59_inb t k0_h3)) (fun _ => rfl)
      Prog.lift (.enqueueDma M.a17 (.here v8067) (.dma M.a22.sem) M.h17.wordExact (View.wordExact_bits rfl) ⟨Or.inl rfl, trivial⟩)
      let c256_i32_4957 : BitVec 32 := 256#32
      let v8068 : BitVec 32 := Scalar.muli v283 c256_i32_4957
      let v8069 : BitVec 32 := v8068
      let c0_i32_4958 : BitVec 32 := 0#32
      let v8070 : Memref sig .tc .hbm S256x256 .i8 := M.a3.slice (Rect.unit (s := S1792x256) (k0_off59 t) S256x256.size (k0_off59_inb t k0_h3)) (fun _ => rfl)
      Prog.lift (.enqueueDma M.a18 (.here v8070) (.dma M.a23.sem) M.h18.wordExact (M.h3.wordExact_slice rfl _ (k0_off59_wordsi8 t k0_h3)) ⟨Or.inl rfl, trivial⟩)
      pure ⟨⟩
    else do
      pure ⟨⟩
    pure ⟨⟩

/-- The copy of the unit three trips ahead into its input slot, where there is one. -/
def hd1 (M : Args) (t : Fin k0_t1_loop.trips) : Prg F PUnit := do
  if k0_h1 : k0_cond1 t = 1#1 then do
    let v8091 : DmaSems sig S1 := M.a20.slice (Rect.unit (s := S4) (k0_off1 t) S1.size (k0_off1_inb t k0_h1))
    let v8092 : DmaSems sig S_ := v8091.squeeze S_ squeezes_S1_S_
    let v8093 : Memref sig .tc .vmem S1x256x4096 .bf16 := M.a7.slice (Rect.unit (s := S4x256x4096) (k0_off2 t) S1x256x4096.size (k0_off2_inb t k0_h1)) (fun _ => rfl)
    let v8094 : Memref sig .tc .vmem S256x4096 .bf16 := v8093.squeeze S256x4096 squeezes_S1x256x4096_S256x4096
    let v8095 : Memref sig .tc .hbm S256x4096 .bf16 := M.a0.slice (Rect.unit (s := S1792x16384) (k0_off3 t) S256x4096.size (k0_off3_inb t k0_h1)) (fun _ => rfl)
    Prog.lift (.enqueueDma v8095 (.here v8094) (.dma v8092.sem) (M.h0.wordExact_slice rfl _ (k0_off3_wordsbf16 t k0_h1)) ((M.h7.wordExact_slice rfl _ (k0_off2_wordsbf16 t k0_h1)).reshape _ _) ⟨Or.inl rfl, trivial⟩)
    pure ⟨⟩
  else do
    pure ⟨⟩

/-- The wait for the output slot, where a copy out of it is under way. -/
def hd2 (M : Args) (t : Fin k0_t1_loop.trips) : Prg F PUnit := do
  if k0_h2 : k0_cond2 t = 1#1 then do
    let v8080 : DmaSems sig S1 := M.a21.slice (Rect.unit (s := S2) (k0_off4 t) S1.size (k0_off4_inb t k0_h2))
    let v8081 : DmaSems sig S_ := v8080.squeeze S_ squeezes_S1_S_
    let v8082 : Memref sig .tc .hbm S256x2048 .i8 := M.a1.slice (Rect.unit (s := S1792x8192) (k0_off5 t) S256x2048.size (k0_off5_inb t k0_h2)) (fun _ => rfl)
    let v8083 : Memref sig .tc .vmem S1x256x2048 .i8 := M.a8.slice (Rect.unit (s := S2x256x2048) (k0_off6 t) S1x256x2048.size (k0_off6_inb t k0_h2)) (fun _ => rfl)
    let v8084 : Memref sig .tc .vmem S256x2048 .i8 := v8083.squeeze S256x2048 squeezes_S1x256x2048_S256x2048
    Prog.lift (.waitDma2 v8081.sem v8084 v8082 ((M.h8.wordExact_slice rfl _ (k0_off6_wordsi8 t k0_h2)).reshape _ _) (M.h1.wordExact_slice rfl _ (k0_off5_wordsi8 t k0_h2)))
    pure ⟨⟩
  else do
    pure ⟨⟩

/-- The wait for this trip's unit. -/
def inWait (M : Args) (t : Fin k0_t1_loop.trips) (k : Prg F PUnit) : Prg F PUnit := do
  let v332 : DmaSems sig S1 := M.a20.slice (Rect.unit (s := S4) (k0_off7 t) S1.size (k0_off7_inb t))
  let v333 : DmaSems sig S_ := v332.squeeze S_ squeezes_S1_S_
  let v334 : Memref sig .tc .vmem S1x256x4096 .bf16 := M.a7.slice (Rect.unit (s := S4x256x4096) (k0_off8 t) S1x256x4096.size (k0_off8_inb t)) (fun _ => rfl)
  let v335 : Memref sig .tc .vmem S256x4096 .bf16 := v334.squeeze S256x4096 squeezes_S1x256x4096_S256x4096
  let v336 : Memref sig .tc .hbm S256x4096 .bf16 := M.a0.slice (Rect.unit (s := S1792x16384) (k0_off9 t) S256x4096.size (k0_off9_inb t)) (fun _ => rfl)
  Prog.lift (.waitDma2 v333.sem v336 v335 (M.h0.wordExact_slice rfl _ (k0_off9_wordsbf16 t)) ((M.h7.wordExact_slice rfl _ (k0_off8_wordsbf16 t)).reshape _ _))
  k

/-- The copy of this trip's bytes out of its output slot. -/
def outEnq (M : Args) (t : Fin k0_t1_loop.trips) (k : Prg F PUnit) : Prg F PUnit := do
  let v8040 : DmaSems sig S1 := M.a21.slice (Rect.unit (s := S2) (k0_off54 t) S1.size (k0_off54_inb t))
  let v8041 : DmaSems sig S_ := v8040.squeeze S_ squeezes_S1_S_
  let v8042 : Memref sig .tc .hbm S256x2048 .i8 := M.a1.slice (Rect.unit (s := S1792x8192) (k0_off55 t) S256x2048.size (k0_off55_inb t)) (fun _ => rfl)
  let v8043 : Memref sig .tc .vmem S1x256x2048 .i8 := M.a8.slice (Rect.unit (s := S2x256x2048) (k0_off56 t) S1x256x2048.size (k0_off56_inb t)) (fun _ => rfl)
  let v8044 : Memref sig .tc .vmem S256x2048 .i8 := v8043.squeeze S256x2048 squeezes_S1x256x2048_S256x2048
  Prog.lift (.enqueueDma v8044 (.here v8042) (.dma v8041.sem) ((M.h8.wordExact_slice rfl _ (k0_off56_wordsi8 t)).reshape _ _) (M.h1.wordExact_slice rfl _ (k0_off55_wordsi8 t)) ⟨Or.inl rfl, trivial⟩)
  k

/-- At the last unit of a row block: the scales and the zero points of the row block are copied
out, after the copies of the row block before have been waited for. -/
def tl (M : Args) (t : Fin k0_t1_loop.trips) : Prg F PUnit := do
  if k0_h3 : k0_cond3 t = 1#1 then do
    if k0_h4 : k0_cond4 t = 1#1 then do
      let v8074 : Memref sig .tc .hbm S256x256 .f32 := M.a2.slice (Rect.unit (s := S1792x256) (k0_off57 t) S256x256.size (k0_off57_inb t k0_h3 k0_h4)) (fun _ => rfl)
      Prog.lift (.waitDma2 M.a22.sem M.a17 v8074 M.h17.wordExact (View.wordExact_bits rfl))
      let v8078 : Memref sig .tc .hbm S256x256 .i8 := M.a3.slice (Rect.unit (s := S1792x256) (k0_off57 t) S256x256.size (k0_off57_inb t k0_h3 k0_h4)) (fun _ => rfl)
      Prog.lift (.waitDma2 M.a23.sem M.a18 v8078 M.h18.wordExact (M.h3.wordExact_slice rfl _ (k0_off57_wordsi8 t k0_h3 k0_h4)))
      pure ⟨⟩
    else do
      pure ⟨⟩
    let v8052 : Vec F S1x256x256 .f32 ← Prog.lift (.load M.a14 (Rect.unit (s := S7x256x256) (k0_off58 t) S1x256x256.size (k0_off58_inb t k0_h3)).toLoadRect (View.loadsAt_vmem h_S1x256x256))
    have v8053 : FVec F S256x256 .f32 := shapeCast S256x256 v8052 shapeCasts_S1x256x256_S256x256
    have v8054 : FVec F S256x256 .f32 := transpose S256x256 [1, 0] v8053 transposes_S256x256_p1_0_S256x256
    let v8055 : Vec F S256x256 .f32 ← Prog.lift (.load M.a17 (Rect.unit (s := S256x256) ![0, 0] S256x256.size inb_S256x256_S256x256_0_0).toLoadRect (View.loadsAt_vmem h_S256x256))
    have v8056 : FVec F S256x256 .f32 := shapeCast S256x256 v8055 shapeCasts_S256x256_S256x256
    have v8057 : FVec F S256x256 .f32 := shapeCast S256x256 v8054 shapeCasts_S256x256_S256x256
    Prog.lift (.store M.a17 (Rect.unit (s := S256x256) ![0, 0] S256x256.size inb_S256x256_S256x256_0_0) v8057 Finset.univ (View.stores_vmem_bits_univ h_S256x256 rfl) (.inl rfl))
    let v8058 : Vec F S256x256 .f32 ← Prog.lift (.load M.a15 (Rect.unit (s := S256x256) ![0, 0] S256x256.size inb_S256x256_S256x256_0_0).toLoadRect (View.loadsAt_vmem h_S256x256))
    have v8059 : IVec S256x256 32 := fptosi 32 v8058
    have v8060 : IVec S256x256 8 := trunci 8 v8059 natLt_8_32
    have v8061 : IVec S256x256 8 := transpose S256x256 [1, 0] v8060 transposes_S256x256_p1_0_S256x256
    let v8062 : Vec F S256x256 .i8 ← Prog.lift (.load M.a18 (Rect.unit (s := S256x256) ![0, 0] S256x256.size inb_S256x256_S256x256_0_0).toLoadRect (View.loadsAt_vmem h_S256x256))
    have v8063 : IVec S256x256 8 := shapeCast S256x256 v8062 shapeCasts_S256x256_S256x256
    have v8064 : IVec S256x256 8 := shapeCast S256x256 v8061 shapeCasts_S256x256_S256x256
    Prog.lift (.store M.a18 (Rect.unit (s := S256x256) ![0, 0] S256x256.size inb_S256x256_S256x256_0_0) v8064 Finset.univ (View.stores_vmem h_S256x256 (M.h18.storeExact_slice rfl _ packedi8_S256x256_S256x256_0_0) (fun _ => rfl)) (.inl rfl))
    let v8067 : Memref sig .tc .hbm S256x256 .f32 := M.a2.slice (Rect.unit (s := S1792x256) (k0_off59 t) S256x256.size (k0_off59_inb t k0_h3)) (fun _ => rfl)
    Prog.lift (.enqueueDma M.a17 (.here v8067) (.dma M.a22.sem) M.h17.wordExact (View.wordExact_bits rfl) ⟨Or.inl rfl, trivial⟩)
    let v8070 : Memref sig .tc .hbm S256x256 .i8 := M.a3.slice (Rect.unit (s := S1792x256) (k0_off59 t) S256x256.size (k0_off59_inb t k0_h3)) (fun _ => rfl)
    Prog.lift (.enqueueDma M.a18 (.here v8070) (.dma M.a23.sem) M.h18.wordExact (M.h3.wordExact_slice rfl _ (k0_off59_wordsi8 t k0_h3)) ⟨Or.inl rfl, trivial⟩)
    pure ⟨⟩
  else do
    pure ⟨⟩
  pure ⟨⟩

theorem part3_eq (M : Args) (t : Fin k0_t1_loop.trips) (a b : BitVec 32) (d : BitVec 1) : ∃ v, k0_part3 (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 t a b d = (hd1 M t >>= fun _ => hd2 M t >>= fun _ => .ret v) := by
  unfold k0_part3 hd1 hd2
  by_cases h1 : k0_cond1 t = 1#1 <;> by_cases h2 : k0_cond2 t = 1#1 <;>
    simp only [dif_pos, dif_neg, h1, h2, not_false_eq_true] <;> exact ⟨_, rfl⟩

set_option maxRecDepth 100000
set_option maxHeartbeats 40000000
set_option Elab.async false

/-- One trip of the loop is its copies and waits around its stages. -/
theorem pbody_eq (M : Args) (t : Fin k0_t1_loop.trips) :
    pbody (F := F) M t = (hd1 M t >>= fun _ => hd2 M t >>= fun _ => inWait M t (stages M.bufs t (outEnq M t (tl M t)))) := by
  choose v e using part3_eq (F := F) M t
  unfold pbody k0_part219 k0_part2
  simp only [Prog.pure_eq_ret, Prog.bind_ret, e, Prog.bind_assoc]
  refine congrArg (Bind.bind (hd1 M t)) (funext fun _ => congrArg (Bind.bind (hd2 M t)) (funext fun _ => ?_))
  rfl

/-! ### Around the loop -/

/-- The permutation of 256 columns that brings the even ones to the front, as a matrix. -/
def permVec : FVec F S256x256 .bf16 :=
  truncf .bf16 (select (cmpi .eq (iota .tc S256x256 32 [1] iota_S256x256_d1_w32)
    (select (cmpi .slt (iota .tc S256x256 32 [0] iota_S256x256_d0_w32) (broadcast S256x256 128#32))
      (muli (broadcast S256x256 2#32) (iota .tc S256x256 32 [0] iota_S256x256_d0_w32))
      (addi (muli (broadcast S256x256 2#32) (subi (iota .tc S256x256 32 [0] iota_S256x256_d0_w32) (broadcast S256x256 128#32))) (broadcast S256x256 1#32))))
    (broadcast S256x256 (Scalar.ofBits .f32 0x3F800000#32)) (broadcast S256x256 (Scalar.ofBits .f32 0x00000000#32))) bitsLt_bf16_f32

/-- What precedes the loop: the copies of the first three units, the permutation and the cleared
sums. -/
def prolog {α : Type} (M : Args) (k : Prg F α) : Prg F α :=
  .op (.enqueueDma (M.a0.slice (Rect.unit (s := S1792x16384) ![0, 0] S256x4096.size inb_S1792x16384_S256x4096_0_0) (fun _ => rfl))
    (.here ((M.a7.slice (Rect.unit (s := S4x256x4096) ![0, 0, 0] S1x256x4096.size inb_S4x256x4096_S1x256x4096_0_0_0) (fun _ => rfl)).squeeze S256x4096 squeezes_S1x256x4096_S256x4096))
    (.dma ((M.a20.slice (Rect.unit (s := S4) ![0] S1.size inb_S4_S1_0)).squeeze S_ squeezes_S1_S_).sem)
    (M.h0.wordExact_slice rfl _ wordsbf16_S1792x16384_S256x4096_0_0) ((M.h7.wordExact_slice rfl _ wordsbf16_S4x256x4096_S1x256x4096_0_0_0).reshape _ _) ⟨Or.inl rfl, trivial⟩) fun _ =>
  .op (.enqueueDma (M.a0.slice (Rect.unit (s := S1792x16384) ![0, 4096] S256x4096.size inb_S1792x16384_S256x4096_0_4096) (fun _ => rfl))
    (.here ((M.a7.slice (Rect.unit (s := S4x256x4096) ![1, 0, 0] S1x256x4096.size inb_S4x256x4096_S1x256x4096_1_0_0) (fun _ => rfl)).squeeze S256x4096 squeezes_S1x256x4096_S256x4096))
    (.dma ((M.a20.slice (Rect.unit (s := S4) ![1] S1.size inb_S4_S1_1)).squeeze S_ squeezes_S1_S_).sem)
    (M.h0.wordExact_slice rfl _ wordsbf16_S1792x16384_S256x4096_0_4096) ((M.h7.wordExact_slice rfl _ wordsbf16_S4x256x4096_S1x256x4096_1_0_0).reshape _ _) ⟨Or.inl rfl, trivial⟩) fun _ =>
  .op (.enqueueDma (M.a0.slice (Rect.unit (s := S1792x16384) ![0, 8192] S256x4096.size inb_S1792x16384_S256x4096_0_8192) (fun _ => rfl))
    (.here ((M.a7.slice (Rect.unit (s := S4x256x4096) ![2, 0, 0] S1x256x4096.size inb_S4x256x4096_S1x256x4096_2_0_0) (fun _ => rfl)).squeeze S256x4096 squeezes_S1x256x4096_S256x4096))
    (.dma ((M.a20.slice (Rect.unit (s := S4) ![2] S1.size inb_S4_S1_2)).squeeze S_ squeezes_S1_S_).sem)
    (M.h0.wordExact_slice rfl _ wordsbf16_S1792x16384_S256x4096_0_8192) ((M.h7.wordExact_slice rfl _ wordsbf16_S4x256x4096_S1x256x4096_2_0_0).reshape _ _) ⟨Or.inl rfl, trivial⟩) fun _ =>
  .op (.load M.a9 (Rect.unit (s := S256x256) ![0, 0] S256x256.size inb_S256x256_S256x256_0_0).toLoadRect (View.loadsAt_vmem h_S256x256)) fun _ =>
  .op (.store M.a9 (Rect.unit (s := S256x256) ![0, 0] S256x256.size inb_S256x256_S256x256_0_0) (shapeCast S256x256 permVec shapeCasts_S256x256_S256x256) Finset.univ (View.stores_vmem h_S256x256 (M.h9.storeExact_slice rfl _ packedbf16_S256x256_S256x256_0_0) (fun _ => rfl)) (.inl rfl)) fun _ =>
  .op (.load M.a16 (Rect.unit (s := S8x128) ![0, 0] S8x128.size inb_S8x128_S8x128_0_0).toLoadRect (View.loadsAt_vmem h_S8x128)) fun _ =>
  .op (.store M.a16 (Rect.unit (s := S8x128) ![0, 0] S8x128.size inb_S8x128_S8x128_0_0) (shapeCast S8x128 (broadcast S8x128 (Scalar.ofBits .f32 0x00000000#32)) shapeCasts_S8x128_S8x128) Finset.univ (View.stores_vmem_bits_univ h_S8x128 rfl) (.inl rfl)) fun _ =>
  k

/-- The mean of the scales. -/
def offV (x : Vec F S8x128 .f32) : F .f32 :=
  Scalar.divf (extractAt ![0, 0, 0] (shapeCast S1x1x1 (multiReduction .add [1, 2] S1 (shapeCast S1x8x128 x shapeCasts_S8x128_S1x8x128) 0x00000000#32 reduces_S1x8x128_S1 (.inl rfl) rfl) shapeCasts_S1_S1x1x1) inpos_S1x1x1_p0_0_0) (Scalar.ofBits .f32 0x48E00000#32)

/-- A row block's scales less their mean. -/
def cenV (off : F .f32) (raw : Vec F S1x256x256 .f32) : FVec F S256x256 .f32 :=
  subf (shapeCast S256x256 raw shapeCasts_S1x256x256_S256x256) (broadcast S256x256 off)

/-- The scales of the scales of a row block. -/
def s2V (off : F .f32) (raw : Vec F S1x256x256 .f32) : FVec F S1x256 .f32 :=
  divf (shapeCast S1x256 (multiReduction .maximumf [0] S256 (absf (cenV off raw)) 0xFF800000#32 reduces_S256x256_S256 (.inl rfl) rfl) shapeCasts_S256_S1x256) (broadcast S1x256 (Scalar.ofBits .f32 0x42FE0000#32))

/-- The codes of the scales of a row block. -/
def qV (off : F .f32) (raw : Vec F S1x256x256 .f32) : IVec S256x256 8 :=
  shapeCast S256x256 (transpose S256x256 [1, 0] (fptosi 8 (minimumf (broadcast S256x256 (Scalar.ofBits .f32 0x42FE0000#32)) (maximumf (broadcast S256x256 (Scalar.ofBits .f32 0xC2FE0000#32))
    (roundeven (mulf (cenV off raw) (broadcastTo S256x256 (shapeCast S1x256 (divf (broadcast S1x256 (Scalar.ofBits .f32 0x3F800000#32)) (s2V off raw)) shapeCasts_S1x256_S1x256) broadcasts_S1x256_S256x256)))))) transposes_S256x256_p1_0_S256x256) shapeCasts_S256x256_S256x256

theorem inb14 (i : ℕ) (hi : i < 7) : ∀ a, (![i, 0, 0] : Fin 3 → ℕ) a + S1x256x256.size a ≤ S7x256x256.size a := by
  match i, hi with
  | 0, _ => decide
  | 1, _ => decide
  | 2, _ => decide
  | 3, _ => decide
  | 4, _ => decide
  | 5, _ => decide
  | 6, _ => decide

theorem inb5 (i : ℕ) (hi : i < 7) : ∀ a, (![0, 256 * i] : Fin 2 → ℕ) a + S1x256.size a ≤ S1x1792.size a := by
  match i, hi with
  | 0, _ => decide
  | 1, _ => decide
  | 2, _ => decide
  | 3, _ => decide
  | 4, _ => decide
  | 5, _ => decide
  | 6, _ => decide

theorem inb19 (i : ℕ) (hi : i < 7) : ∀ a, (![256 * i, 0] : Fin 2 → ℕ) a + S256x256.size a ≤ S1792x256.size a := by
  match i, hi with
  | 0, _ => decide
  | 1, _ => decide
  | 2, _ => decide
  | 3, _ => decide
  | 4, _ => decide
  | 5, _ => decide
  | 6, _ => decide

theorem packed19 (i : ℕ) (hi : i < 7) : (Rect.unit (s := S1792x256) ![256 * i, 0] S256x256.size (inb19 i hi)).PackedRows (EltTy.packing .i8) := by
  match i, hi with
  | 0, _ => exact packedi8_S1792x256_S256x256_0_0
  | 1, _ => exact packedi8_S1792x256_S256x256_256_0
  | 2, _ => exact packedi8_S1792x256_S256x256_512_0
  | 3, _ => exact packedi8_S1792x256_S256x256_768_0
  | 4, _ => exact packedi8_S1792x256_S256x256_1024_0
  | 5, _ => exact packedi8_S1792x256_S256x256_1280_0
  | 6, _ => exact packedi8_S1792x256_S256x256_1536_0

/-- The second quantisation of row block `i`. -/
def epiBlk {α : Type} (M : Args) (off : F .f32) (i : ℕ) (hi : i < 7) (k : Prg F α) : Prg F α :=
  .op (.load M.a14 (Rect.unit (s := S7x256x256) ![i, 0, 0] S1x256x256.size (inb14 i hi)).toLoadRect (View.loadsAt_vmem h_S1x256x256)) fun raw =>
  .op (.load M.a5 (Rect.unit (s := S1x1792) ![0, 256 * i] S1x256.size (inb5 i hi)).toLoadRect (View.loadsAt_vmem h_S1x256)) fun _ =>
  .op (.store M.a5 (Rect.unit (s := S1x1792) ![0, 256 * i] S1x256.size (inb5 i hi)) (s2V off raw) Finset.univ (View.stores_vmem_bits_univ h_S1x256 rfl) (.inl rfl)) fun _ =>
  .op (.load M.a19 (Rect.unit (s := S1792x256) ![256 * i, 0] S256x256.size (inb19 i hi)).toLoadRect (View.loadsAt_vmem h_S256x256)) fun _ =>
  .op (.store M.a19 (Rect.unit (s := S1792x256) ![256 * i, 0] S256x256.size (inb19 i hi)) (qV off raw) Finset.univ (View.stores_vmem h_S256x256 (M.h19.storeExact_slice rfl _ (packed19 i hi)) (fun _ => rfl)) (.inl rfl)) fun _ =>
  k

/-- The end: the copy of the codes is started, and every copy under way is waited for. -/
def waits (M : Args) : Prg F PUnit :=
  .op (.enqueueDma M.a19 (.here M.a4) (.dma M.a24.sem) M.h19.wordExact M.h4.wordExact ⟨Or.inl rfl, trivial⟩) fun _ =>
  .op (.waitDma2 ((M.a21.slice (Rect.unit (s := S2) ![0] S1.size inb_S2_S1_0)).squeeze S_ squeezes_S1_S_).sem
    ((M.a8.slice (Rect.unit (s := S2x256x2048) ![0, 0, 0] S1x256x2048.size inb_S2x256x2048_S1x256x2048_0_0_0) (fun _ => rfl)).squeeze S256x2048 squeezes_S1x256x2048_S256x2048)
    (M.a1.slice (Rect.unit (s := S1792x8192) ![1536, 4096] S256x2048.size inb_S1792x8192_S256x2048_1536_4096) (fun _ => rfl))
    ((M.h8.wordExact_slice rfl _ wordsi8_S2x256x2048_S1x256x2048_0_0_0).reshape _ _) (M.h1.wordExact_slice rfl _ wordsi8_S1792x8192_S256x2048_1536_4096)) fun _ =>
  .op (.waitDma2 ((M.a21.slice (Rect.unit (s := S2) ![1] S1.size inb_S2_S1_1)).squeeze S_ squeezes_S1_S_).sem
    ((M.a8.slice (Rect.unit (s := S2x256x2048) ![1, 0, 0] S1x256x2048.size inb_S2x256x2048_S1x256x2048_1_0_0) (fun _ => rfl)).squeeze S256x2048 squeezes_S1x256x2048_S256x2048)
    (M.a1.slice (Rect.unit (s := S1792x8192) ![1536, 6144] S256x2048.size inb_S1792x8192_S256x2048_1536_6144) (fun _ => rfl))
    ((M.h8.wordExact_slice rfl _ wordsi8_S2x256x2048_S1x256x2048_1_0_0).reshape _ _) (M.h1.wordExact_slice rfl _ wordsi8_S1792x8192_S256x2048_1536_6144)) fun _ =>
  .op (.waitDma2 M.a22.sem M.a17 (M.a2.slice (Rect.unit (s := S1792x256) ![1536, 0] S256x256.size inb_S1792x256_S256x256_1536_0) (fun _ => rfl)) M.h17.wordExact (View.wordExact_bits rfl)) fun _ =>
  .op (.waitDma2 M.a23.sem M.a18 (M.a3.slice (Rect.unit (s := S1792x256) ![1536, 0] S256x256.size inb_S1792x256_S256x256_1536_0) (fun _ => rfl)) M.h18.wordExact (M.h3.wordExact_slice rfl _ wordsi8_S1792x256_S256x256_1536_0)) fun _ =>
  .op (.waitDma2 M.a24.sem M.a19 M.a4 M.h19.wordExact M.h4.wordExact) fun _ => .ret ⟨⟩

/-- The seven row blocks' second quantisation. -/
def epiBlks {α : Type} (M : Args) (off : F .f32) (k : Prg F α) : Prg F α :=
  epiBlk M off 0 (by decide) <| epiBlk M off 1 (by decide) <| epiBlk M off 2 (by decide) <| epiBlk M off 3 (by decide) <|
  epiBlk M off 4 (by decide) <| epiBlk M off 5 (by decide) <| epiBlk M off 6 (by decide) k

/-- What follows the loop. -/
def epilog (M : Args) : Prg F PUnit :=
  .op (.load M.a16 (Rect.unit (s := S8x128) ![0, 0] S8x128.size inb_S8x128_S8x128_0_0).toLoadRect (View.loadsAt_vmem h_S8x128)) fun x =>
  smemLoad M.a6 (Rect.unit (s := S1x1) ![0, 0] S1x1.size inb_S1x1_S1x1_0_0) numel1_S1x1 rfl >>= fun _ =>
  .op (.store M.a6 (Rect.unit (s := S1x1) ![0, 0] S1x1.size inb_S1x1_S1x1_0_0) (fun _ => offV x) Finset.univ (View.stores_smem_one rfl numel1_S1x1) (.inl rfl)) fun _ =>
  epiBlks M (offV x) (waits M)

/-- The first row block's share of what follows the loop, as printed. -/
def epiHead (M : Args) : Prg F (Σ' (v52 : F .f32) (v57 : FVec F S256x256 .f32) (v62 : FVec F S1x256 .f32), F .f32) :=
  .op (.load M.a16 (Rect.unit (s := S8x128) ![0, 0] S8x128.size inb_S8x128_S8x128_0_0).toLoadRect (View.loadsAt_vmem h_S8x128)) fun x =>
  smemLoad M.a6 (Rect.unit (s := S1x1) ![0, 0] S1x1.size inb_S1x1_S1x1_0_0) numel1_S1x1 rfl >>= fun _ =>
  .op (.store M.a6 (Rect.unit (s := S1x1) ![0, 0] S1x1.size inb_S1x1_S1x1_0_0) (fun _ => offV x) Finset.univ (View.stores_smem_one rfl numel1_S1x1) (.inl rfl)) fun _ =>
  .op (.load M.a14 (Rect.unit (s := S7x256x256) ![0, 0, 0] S1x256x256.size inb_S7x256x256_S1x256x256_0_0_0).toLoadRect (View.loadsAt_vmem h_S1x256x256)) fun raw =>
  .op (.load M.a5 (Rect.unit (s := S1x1792) ![0, 0] S1x256.size inb_S1x1792_S1x256_0_0).toLoadRect (View.loadsAt_vmem h_S1x256)) fun _ =>
  .op (.store M.a5 (Rect.unit (s := S1x1792) ![0, 0] S1x256.size inb_S1x1792_S1x256_0_0) (s2V (offV x) raw) Finset.univ (View.stores_vmem_bits_univ h_S1x256 rfl) (.inl rfl)) fun _ =>
  .ret ⟨offV x, cenV (offV x) raw, s2V (offV x) raw, Scalar.ofBits .f32 0x3F800000#32⟩

/-- The stores before the loop. -/
def proStores {α : Type} (M : Args) (v : FVec F S256x256 .bf16) (k : Prg F α) : Prg F α :=
  .op (.load M.a9 (Rect.unit (s := S256x256) ![0, 0] S256x256.size inb_S256x256_S256x256_0_0).toLoadRect (View.loadsAt_vmem h_S256x256)) fun _ =>
  .op (.store M.a9 (Rect.unit (s := S256x256) ![0, 0] S256x256.size inb_S256x256_S256x256_0_0) (shapeCast S256x256 v shapeCasts_S256x256_S256x256) Finset.univ (View.stores_vmem h_S256x256 (M.h9.storeExact_slice rfl _ packedbf16_S256x256_S256x256_0_0) (fun _ => rfl)) (.inl rfl)) fun _ =>
  .op (.load M.a16 (Rect.unit (s := S8x128) ![0, 0] S8x128.size inb_S8x128_S8x128_0_0).toLoadRect (View.loadsAt_vmem h_S8x128)) fun _ =>
  .op (.store M.a16 (Rect.unit (s := S8x128) ![0, 0] S8x128.size inb_S8x128_S8x128_0_0) (shapeCast S8x128 (broadcast S8x128 (Scalar.ofBits .f32 0x00000000#32)) shapeCasts_S8x128_S8x128) Finset.univ (View.stores_vmem_bits_univ h_S8x128 rfl) (.inl rfl)) fun _ =>
  k

theorem part223_eq (M : Args) (v22 v33 : IVec S256x256 32) : k0_part223 (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v22 v33
    = proStores M (truncf .bf16 (select (cmpi .eq v22 v33) (broadcast S256x256 (Scalar.ofBits .f32 0x3F800000#32)) (broadcast S256x256 (Scalar.ofBits .f32 0x00000000#32))) bitsLt_bf16_f32)
        (Scf.Loop.for k0_t1_loop k0_t1_ok ⟨⟩ (fun t _ => pbody M t) >>= fun _ => epiHead M) := rfl

/-- The rest of the kernel, as printed. -/
def epiRest (M : Args) : (Σ' (v52 : F .f32) (v57 : FVec F S256x256 .f32) (v62 : FVec F S1x256 .f32), F .f32) → Prg F PUnit := fun ⟨v52, v57, v62, cst_38⟩ => do
  k0_part224 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52 v57 v62 cst_38
  let ⟨v132, v141⟩ : Σ' (v132 : FVec F S256x256 .f32), FVec F S1x256 .f32 ← k0_part225 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52
  let v179 : Vec F S1x256x256 .f32 ← k0_part226 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52 v132 v141
  let v219 : FVec F S256x256 .f32 ← k0_part227 M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24 v52 v179
  have cst_99 : F .f32 := Scalar.ofBits .f32 0xC2FE0000#32
  have cst_100 : F .f32 := Scalar.ofBits .f32 0x42FE0000#32
  have v220 : FVec F S256x256 .f32 := broadcast S256x256 cst_99
  have v221 : FVec F S256x256 .f32 := maximumf v220 v219
  have v222 : FVec F S256x256 .f32 := broadcast S256x256 cst_100
  have v223 : FVec F S256x256 .f32 := minimumf v222 v221
  have v224 : IVec S256x256 8 := fptosi 8 v223
  have v225 : IVec S256x256 8 := transpose S256x256 [1, 0] v224 transposes_S256x256_p1_0_S256x256
  let c1536_101 : Index := 1536#32
  let c0_102 : Index := 0#32
  let v226 : Vec F S256x256 .i8 ← Prog.lift (.load M.a19 (Rect.unit (s := S1792x256) ![1536, 0] S256x256.size inb_S1792x256_S256x256_1536_0).toLoadRect (View.loadsAt_vmem h_S256x256))
  have v227 : IVec S256x256 8 := shapeCast S256x256 v226 shapeCasts_S256x256_S256x256
  have v228 : IVec S256x256 8 := shapeCast S256x256 v225 shapeCasts_S256x256_S256x256
  Prog.lift (.store M.a19 (Rect.unit (s := S1792x256) ![1536, 0] S256x256.size inb_S1792x256_S256x256_1536_0) v228 Finset.univ (View.stores_vmem h_S256x256 (M.h19.storeExact_slice rfl _ packedi8_S1792x256_S256x256_1536_0) (fun _ => rfl)) (.inl rfl))
  Prog.lift (.enqueueDma M.a19 (.here M.a4) (.dma M.a24.sem) M.h19.wordExact M.h4.wordExact ⟨Or.inl rfl, trivial⟩)
  let c1536_i32 : BitVec 32 := 1536#32
  let v229 : BitVec 32 := c1536_i32
  let c4096_i32_103 : BitVec 32 := 4096#32
  let v230 : BitVec 32 := c4096_i32_103
  let c0_i32_104 : BitVec 32 := 0#32
  let c0_i32_105 : BitVec 32 := 0#32
  let v231 : DmaSems sig S1 := M.a21.slice (Rect.unit (s := S2) ![0] S1.size inb_S2_S1_0)
  let v232 : DmaSems sig S_ := v231.squeeze S_ squeezes_S1_S_
  let v233 : Memref sig .tc .hbm S256x2048 .i8 := M.a1.slice (Rect.unit (s := S1792x8192) ![1536, 4096] S256x2048.size inb_S1792x8192_S256x2048_1536_4096) (fun _ => rfl)
  let c0_i32_106 : BitVec 32 := 0#32
  let c0_i32_107 : BitVec 32 := 0#32
  let v234 : Memref sig .tc .vmem S1x256x2048 .i8 := M.a8.slice (Rect.unit (s := S2x256x2048) ![0, 0, 0] S1x256x2048.size inb_S2x256x2048_S1x256x2048_0_0_0) (fun _ => rfl)
  let v235 : Memref sig .tc .vmem S256x2048 .i8 := v234.squeeze S256x2048 squeezes_S1x256x2048_S256x2048
  Prog.lift (.waitDma2 v232.sem v235 v233 ((M.h8.wordExact_slice rfl _ wordsi8_S2x256x2048_S1x256x2048_0_0_0).reshape _ _) (M.h1.wordExact_slice rfl _ wordsi8_S1792x8192_S256x2048_1536_4096))
  let c1536_i32_108 : BitVec 32 := 1536#32
  let v236 : BitVec 32 := c1536_i32_108
  let c6144_i32 : BitVec 32 := 6144#32
  let v237 : BitVec 32 := c6144_i32
  let c1_i32_109 : BitVec 32 := 1#32
  let c1_i32_110 : BitVec 32 := 1#32
  let v238 : DmaSems sig S1 := M.a21.slice (Rect.unit (s := S2) ![1] S1.size inb_S2_S1_1)
  let v239 : DmaSems sig S_ := v238.squeeze S_ squeezes_S1_S_
  let v240 : Memref sig .tc .hbm S256x2048 .i8 := M.a1.slice (Rect.unit (s := S1792x8192) ![1536, 6144] S256x2048.size inb_S1792x8192_S256x2048_1536_6144) (fun _ => rfl)
  let c0_i32_111 : BitVec 32 := 0#32
  let c0_i32_112 : BitVec 32 := 0#32
  let v241 : Memref sig .tc .vmem S1x256x2048 .i8 := M.a8.slice (Rect.unit (s := S2x256x2048) ![1, 0, 0] S1x256x2048.size inb_S2x256x2048_S1x256x2048_1_0_0) (fun _ => rfl)
  let v242 : Memref sig .tc .vmem S256x2048 .i8 := v241.squeeze S256x2048 squeezes_S1x256x2048_S256x2048
  Prog.lift (.waitDma2 v239.sem v242 v240 ((M.h8.wordExact_slice rfl _ wordsi8_S2x256x2048_S1x256x2048_1_0_0).reshape _ _) (M.h1.wordExact_slice rfl _ wordsi8_S1792x8192_S256x2048_1536_6144))
  let c1536_i32_113 : BitVec 32 := 1536#32
  let v243 : BitVec 32 := c1536_i32_113
  let c0_i32_114 : BitVec 32 := 0#32
  let v244 : Memref sig .tc .hbm S256x256 .f32 := M.a2.slice (Rect.unit (s := S1792x256) ![1536, 0] S256x256.size inb_S1792x256_S256x256_1536_0) (fun _ => rfl)
  Prog.lift (.waitDma2 M.a22.sem M.a17 v244 M.h17.wordExact (View.wordExact_bits rfl))
  let c1536_i32_115 : BitVec 32 := 1536#32
  let v245 : BitVec 32 := c1536_i32_115
  let c0_i32_116 : BitVec 32 := 0#32
  let v246 : Memref sig .tc .hbm S256x256 .i8 := M.a3.slice (Rect.unit (s := S1792x256) ![1536, 0] S256x256.size inb_S1792x256_S256x256_1536_0) (fun _ => rfl)
  Prog.lift (.waitDma2 M.a23.sem M.a18 v246 M.h18.wordExact (M.h3.wordExact_slice rfl _ wordsi8_S1792x256_S256x256_1536_0))
  Prog.lift (.waitDma2 M.a24.sem M.a19 M.a4 M.h19.wordExact M.h4.wordExact)
  pure ⟨⟩

/-- The kernel's body is its loop between what precedes and what follows it. -/
theorem kernel_eq (M : Args) : cc0_asym4_double_quant (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24
    = prolog M (Scf.Loop.for k0_t1_loop k0_t1_ok ⟨⟩ (fun t _ => pbody M t) >>= fun _ => epilog M) := by
  have e : cc0_asym4_double_quant (F := F) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24
      = prolog M (((Scf.Loop.for k0_t1_loop k0_t1_ok ⟨⟩ (fun t _ => pbody M t) >>= fun _ => epiHead M) >>= epiRest M) >>= fun _ => .ret ⟨⟩) := by
    unfold cc0_asym4_double_quant k0_part228
    simp only [part223_eq]
    rfl
  rw [e, Prog.bind_assoc, Prog.bind_assoc]
  rfl

end Cert.Kernel.Stage
-- ==== Proof.KMem.lean ====
module

public import proofs.«01_k».proof.Proof.KBody
public import proofs.«01_k».proof.Proof.Gen.Kernel.Launch
public import Idealize.ShloMosaic.PureOps.BitExact
public import Idealize.ShloMosaic.Lib.Transfers
public import Idealize.ShloMosaic.Lib.Pipeline.KitQuiescent
public import Idealize.ShloMosaic.Lib.Tactic

@[expose] public section

/-! The kernel before idealization, whatever its buffers hold: loads, stores and copies. -/

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

abbrev UU (nD : Nat) (τ : Topo) : Type := UR sig nD τ × Counters
local notation "𝕄" => MT nD τ sig Unit (Elt Bits) ℕ (UU nD τ) ℕ
abbrev 𝒱₀ : Variants := Variants.none

/-- Programs over bits. -/
abbrev PrgB (α : Type) : Type _ := Prog (TpuEff nD τ sig (Elt Bits) Λ₀ .tc) α

/-- A program runs to a state where `Q` holds. -/
abbrev runs (c : Dev nD) {α : Type} (k : PrgB α) (Q : α → sProp 𝕄) : sProp 𝕄 :=
  wp frame (wpE (defs₀ (F := Bits)) 𝒱₀ (c : Thread nD τ) none) Set.univ k Q

variable (c : Dev nD)

/-- The elements `S` of buffer `m`, whatever they hold. -/
def has {cs : Space} {s : Shape} {e : EltTy} (m : Memref sig .tc cs s e) (S : Finset s.Idx) : sProp 𝕄 :=
  iprop(∃ f, m.view.loc (c : Thread nD τ) ↦[m.view.setOn S]{fullShare} f)

variable {α : Type} {Q : α → sProp 𝕄}

/-- `I` holds the elements `S` of buffer `m`. -/
def Own (I : sProp 𝕄) {cs : Space} {s : Shape} {e : EltTy} (m : Memref sig .tc cs s e) (S : Finset s.Idx) : Prop :=
  ∃ G : sProp 𝕄, (I ⊢ iprop(has c m S ∗ G)) ∧ (iprop(has c m S ∗ G) ⊢ I)

/-- A load from a part of a buffer that is held. -/
theorem load_gen {cs : CoreSpace} {s s' : Shape} {e e' : EltTy} {m : Memref sig .tc cs s e} {m' : Memref sig .tc cs s' e'} {r : LoadRect s} {hl : m.view.LoadsAt r}
    {k : (r.shape.Idx → Elt Bits e) → PrgB α} {S : Finset s'.Idx} {I : sProp 𝕄} (hO : Own c I m' S)
    (hm : ∃ T, (has c m' S ⊢ iprop(∃ f, m.view.loc (c : Thread nD τ) ↦[T]{fullShare} f)) ∧ (iprop(∃ f, m.view.loc (c : Thread nD τ) ↦[T]{fullShare} f) ⊢ has c m' S) ∧ m.view.setOn r.set ⊆ T)
    (hk : ∀ y, I ⊢ runs c (k y) Q) :
    I ⊢ runs c (.op (.load m r hl) k) Q := by
  obtain ⟨G, h1, h2⟩ := hO
  obtain ⟨T, t1, t2, hS⟩ := hm
  refine h1.trans ?_
  iintro ⟨H, HG⟩
  ihave H := t1 $$ H
  icases H with ⟨%f, H⟩
  iapply (wp_load (defs := defs₀ (F := Bits)) 𝒱₀ (c : Thread nD τ) none (Γ := .empty) Set.univ (m := m) (r := r) (hl := hl) (k := k) (Q := Q) (S := T) (q := fullShare) (f := f) hS) $$ H
  iintro H
  iapply (hk _)
  iapply h2
  isplitl [H]
  · iapply t2
    iexists f
    iexact H
  iexact HG

/-- A store to a part of a buffer that is held. -/
theorem store_gen {cs : CoreSpace} {s s' : Shape} {e e' : EltTy} {m : Memref sig .tc cs s e} {m' : Memref sig .tc cs s' e'} {off size : Fin s.rank → ℕ}
    {inb : ∀ a, off a + size a ≤ s.size a} {w : (Rect.unit off size inb).shape.Idx → Elt Bits e}
    {hx : (m.access (Rect.unit off size inb)).Stores Finset.univ} {hw}
    {k : PUnit → PrgB α} {S : Finset s'.Idx} {I : sProp 𝕄} (hO : Own c I m' S)
    (hm : ∃ T, (has c m' S ⊢ iprop(∃ f, m.view.loc (c : Thread nD τ) ↦[T]{fullShare} f)) ∧ (iprop(∃ f, m.view.loc (c : Thread nD τ) ↦[T]{fullShare} f) ⊢ has c m' S) ∧ m.view.setOn (Rect.unit off size inb).set ⊆ T)
    (hk : I ⊢ runs c (k ⟨⟩) Q) :
    I ⊢ runs c (.op (.store m (Rect.unit off size inb) w Finset.univ hx hw) k) Q := by
  obtain ⟨G, h1, h2⟩ := hO
  obtain ⟨T, t1, t2, hS⟩ := hm
  refine h1.trans ?_
  iintro ⟨H, HG⟩
  ihave H := t1 $$ H
  icases H with ⟨%f, H⟩
  iapply (wp_store (defs := defs₀ (F := Bits)) 𝒱₀ (c : Thread nD τ) none (Γ := .empty) Set.univ (m := m) (r := Rect.unit off size inb) (w := w)
    (hx := hx) (hm := hw) (k := k) (Q := Q) (S := T) (f := f)
    (by rw [View.setOn_univ]; exact (View.set_slice _ _).trans_subset hS)) $$ H
  iintro H
  iapply hk
  iapply h2
  isplitl [H]
  · iapply t2
    iexists _
    iexact H
  iexact HG

theorem ent_refl {A : sProp 𝕄} : A ⊢ A := by
  iintro H
  iexact H

theorem part_of {cs : Space} {s : Shape} {e : EltTy} {m : Memref sig .tc cs s e} {S V : Finset s.Idx} (h : V ⊆ S) :
    ∃ T, (has c m S ⊢ iprop(∃ f, m.view.loc (c : Thread nD τ) ↦[T]{fullShare} f)) ∧ (iprop(∃ f, m.view.loc (c : Thread nD τ) ↦[T]{fullShare} f) ⊢ has c m S) ∧ m.view.setOn V ⊆ T :=
  ⟨m.view.setOn S, ent_refl, ent_refl, Finset.map_subset_map.2 h⟩

theorem own_load {cs : CoreSpace} {s : Shape} {e : EltTy} {m : Memref sig .tc cs s e} {r : LoadRect s} {hl : m.view.LoadsAt r}
    {k : (r.shape.Idx → Elt Bits e) → PrgB α} {S : Finset s.Idx} {I : sProp 𝕄} (hO : Own c I m S) (hS : r.set ⊆ S)
    (hk : ∀ y, I ⊢ runs c (k y) Q) : I ⊢ runs c (.op (.load m r hl) k) Q :=
  load_gen c hO (part_of c hS) hk

theorem own_store {cs : CoreSpace} {s : Shape} {e : EltTy} {m : Memref sig .tc cs s e} {off size : Fin s.rank → ℕ}
    {inb : ∀ a, off a + size a ≤ s.size a} {w : (Rect.unit off size inb).shape.Idx → Elt Bits e}
    {hx : (m.access (Rect.unit off size inb)).Stores Finset.univ} {hw}
    {k : PUnit → PrgB α} {S : Finset s.Idx} {I : sProp 𝕄} (hO : Own c I m S) (hS : (Rect.unit off size inb).set ⊆ S)
    (hk : I ⊢ runs c (k ⟨⟩) Q) : I ⊢ runs c (.op (.store m (Rect.unit off size inb) w Finset.univ hx hw) k) Q :=
  store_gen c hO (part_of c hS) hk

/-- A slot of a buffer is a part of it. -/
theorem slot_of {m : Memref sig .tc .vmem S2x2x64x128 .i32} {p : ℕ} {hp} {V : Finset S2x64x128.Idx} :
    ∃ T, (has c m Finset.univ ⊢ iprop(∃ f, (slot m p hp).view.loc (c : Thread nD τ) ↦[T]{fullShare} f))
      ∧ (iprop(∃ f, (slot m p hp).view.loc (c : Thread nD τ) ↦[T]{fullShare} f) ⊢ has c m Finset.univ) ∧ (slot m p hp).view.setOn V ⊆ T := by
  refine ⟨m.view.setOn Finset.univ, ent_refl, ent_refl, ?_⟩
  have h1 : (slot m p hp).view.setOn Finset.univ = (m.slice (Rect.unit (s := S2x2x64x128) ![p, 0, 0, 0] S1x2x64x128.size hp) (fun _ => rfl)).view.setOn Finset.univ := View.set_reshape _ _
  have h2 : (m.slice (Rect.unit (s := S2x2x64x128) ![p, 0, 0, 0] S1x2x64x128.size hp) (fun _ => rfl)).view.setOn Finset.univ = m.view.setOn (Rect.unit (s := S2x2x64x128) ![p, 0, 0, 0] S1x2x64x128.size hp).set := View.set_slice m.view _
  exact (Finset.map_subset_map.2 (Finset.subset_univ V)).trans ((h1.trans h2).trans_subset (Finset.map_subset_map.2 (Finset.subset_univ _)))

/-- With a frame `R`, for use in proofs by resources: one load. -/
theorem load_w {cs : CoreSpace} {s : Shape} {e : EltTy} {m : Memref sig .tc cs s e} {r : LoadRect s} {hl : m.view.LoadsAt r}
    {k : (r.shape.Idx → Elt Bits e) → PrgB α} :
    has c m Finset.univ ⊢ iprop((∀ y, has c m Finset.univ -∗ runs c (k y) Q) -∗ runs c (.op (.load m r hl) k) Q) := by
  iintro H HR
  iapply (load_gen c (I := iprop(has c m Finset.univ ∗ (∀ y, has c m Finset.univ -∗ runs c (k y) Q))) ⟨_, ent_refl, ent_refl⟩ (part_of c (Finset.subset_univ _)) fun y => by
    iintro ⟨H, HR⟩
    iapply HR $$ H)
  isplitl [H]; · iexact H
  iexact HR

/-- One store. -/
theorem store_w {cs : CoreSpace} {s : Shape} {e : EltTy} {m : Memref sig .tc cs s e} {off size : Fin s.rank → ℕ}
    {inb : ∀ a, off a + size a ≤ s.size a} {w : (Rect.unit off size inb).shape.Idx → Elt Bits e}
    {hx : (m.access (Rect.unit off size inb)).Stores Finset.univ} {hw} {k : PUnit → PrgB α} :
    has c m Finset.univ ⊢ iprop((has c m Finset.univ -∗ runs c (k ⟨⟩) Q) -∗ runs c (.op (.store m (Rect.unit off size inb) w Finset.univ hx hw) k) Q) := by
  iintro H HR
  iapply (store_gen c (I := iprop(has c m Finset.univ ∗ (has c m Finset.univ -∗ runs c (k ⟨⟩) Q))) ⟨_, ent_refl, ent_refl⟩ (part_of c (Finset.subset_univ _)) (by
    iintro ⟨H, HR⟩
    iapply HR $$ H))
  isplitl [H]; · iexact H
  iexact HR

/-! Copies. -/

/-- A copy from `src` to `dst` under way on the semaphore `sem`. -/
def fl {sp sp' : Space} {s s' : Shape} {e e' : EltTy} (sem : DmaSem sig) (N : ℕ) (dst : Memref sig .tc sp s e) (src : Memref sig .tc sp' s' e') : sProp 𝕄 :=
  iprop(∃ f g, Transfers.Flight countersEmb (c : Thread nD τ) (.dma sem) () N
    iprop((dst.view.loc (c : Thread nD τ) ↦[dst.view.setOn Finset.univ]{fullShare} f) ∗ (src.view.loc (c : Thread nD τ) ↦[src.view.setOn Finset.univ]{fullShare} g)))

/-- The semaphore `sem` stands at zero. -/
abbrev idle (sem : DmaSem sig) : sProp 𝕄 := semVal ((c : Thread nD τ), SemLoc.dma sem) 0

/-- The record of the waits so far, whatever they are. -/
def owesAny : sProp 𝕄 := iprop(∃ W : Waits sig Unit, owes (c : Thread nD τ) 0 W)

/-- Starting a copy. -/
theorem enq_w {sp sp' : Space} {s : Shape} {e : EltTy} {src src' : Memref sig .tc sp s e} {dst dst' : Memref sig .tc sp' s e}
    {sem sem' : DmaSem sig} {h1 h2 h3} {k : PUnit → PrgB α} {N : ℕ}
    (hs : src = src') (hd : dst = dst') (hm : sem = sem') (hn : 0 < s.numel) (hN : dst'.view.dmaCredit = N) :
    iprop(has c src' Finset.univ ∗ has c dst' Finset.univ ∗ idle c sem')
      ⊢ iprop((fl c sem' N dst' src' -∗ runs c (k ⟨⟩) Q)
        -∗ runs c (.op (.enqueueDma src (.here dst) (.dma sem) h1 h2 h3) k) Q) := by
  subst hs hd hm hN
  unfold has fl
  iintro ⟨⟨%v, Hs⟩, ⟨%x, Hd⟩, Hm⟩ Hk
  iapply (Transfers.wp_dmaLocal (defs := defs₀ (F := Bits)) (Q := Q) countersEmb 𝒱₀ (c : Thread nD τ) none (via := .same) (src := src) (dst := dst) (sm := .dma sem) (q := fullShare) (fs := v)
    (Sd := dst.view.setOn Finset.univ) (fd := x) (hsrc := h1) (hdst := h2) (hsem := h3) (k := k) () dst.view.dmaCredit rfl (View.dmaCredit_pos _ hn) (Finset.Subset.refl _)) $$ [Hs Hd Hm]
  · isplitl [Hs]; · iexact Hs
    isplitl [Hd]; · iexact Hd
    iexact Hm
  iintro Hf
  iapply Hk
  iexists _, _
  iexact Hf

/-- Waiting for a copy under way. -/
theorem wait_w {sp sp' sq sq' : Space} {s s' t t' : Shape} {e e' u u' : EltTy} {src : Memref sig .tc sp s e} {dst : Memref sig .tc sp' s' e'}
    {D : Memref sig .tc sq t u} {E : Memref sig .tc sq' t' u'}
    {sem sem' : DmaSem sig} {h1 h2} {k : PUnit → PrgB α} {N : ℕ}
    (hm : sem = sem') (hN : dst.view.dmaCredit = N) :
    iprop(fl c sem' N D E ∗ owesAny c)
      ⊢ iprop((iprop((has c D Finset.univ ∗ has c E Finset.univ) ∗ idle c sem' ∗ owesAny c) -∗ runs c (k ⟨⟩) Q)
        -∗ runs c (.op (.waitDma2 sem src dst h1 h2) k) Q) := by
  subst hm
  unfold owesAny fl
  iintro ⟨⟨%f, %g, Hf⟩, %W, HW⟩ Hk
  iapply (Transfers.wp_waitLocal countersEmb 𝒱₀ (c : Thread nD τ) none () hN (W := W)) $$ [Hf HW]
  · isplitl [Hf]; · iexact Hf
    iexact HW
  iintro ⟨⟨HD, HE⟩, Hs, HW⟩
  iapply Hk
  isplitl [HD HE]
  · unfold has
    isplitl [HD]
    · iexists f; iexact HD
    iexists g; iexact HE
  isplitl [Hs]; · iexact Hs
  iexists _
  iexact HW

/-! Parts of buffers. -/

theorem has_slice {cs : Space} {s : Shape} {e : EltTy} {m : Memref sig .tc cs s e} {r : Rect s} {h} :
    has c (m.slice r h) Finset.univ = has c m r.set := by
  have hs : (m.slice r h).view.setOn Finset.univ = m.view.setOn r.set := View.set_slice m.view r
  unfold has
  rw [hs]

theorem has_squeeze {cs : Space} {s s' : Shape} {e : EltTy} {m : Memref sig .tc cs s e} {h : s.Squeezes s'} :
    has c (m.squeeze s' h) Finset.univ = has c m Finset.univ := by
  have hs : (m.squeeze s' h).view.setOn Finset.univ = m.view.setOn Finset.univ := View.set_reshape _ _
  unfold has
  rw [hs]

/-! A ring of blocks: the first `lo` are done, those below `hi` are under way, the others are yet to come. -/

theorem emp_sep_eq {P : sProp 𝕄} : iprop(emp ∗ P) = P := equiv_iff.mp BI.emp_sep

def band (n : ℕ) (A B : ℕ → sProp 𝕄) (lo hi : ℕ) : sProp 𝕄 :=
  bigSep (Finset.range n) fun u => if u < lo then A u else if u < hi then iprop(emp) else B u

theorem band_hi {n : ℕ} {A B : ℕ → sProp 𝕄} {lo hi : ℕ} (h : lo ≤ hi) (hn : hi < n) :
    band n A B lo hi = iprop(B hi ∗ band n A B lo (hi + 1)) := by
  unfold band
  rw [bigSep_erase (Finset.mem_range.2 hn), bigSep_erase (i := hi) (s := Finset.range n) (Finset.mem_range.2 hn),
    if_neg (by omega), if_neg (by omega), if_neg (by omega), if_pos (by omega), bigSep_congr (s := (Finset.range n).erase hi) (Ψ := fun u => if u < lo then A u else if u < hi + 1 then iprop(emp) else B u)]
  · exact (congrArg (BI.sep (B hi)) emp_sep_eq).symm
  · intro u hu
    have h1 := (Finset.mem_erase.1 hu).1
    split_ifs <;> first | rfl | omega

theorem band_lo {n : ℕ} {A B : ℕ → sProp 𝕄} {lo hi : ℕ} (h : lo < hi) (hn : lo < n) :
    band n A B (lo + 1) hi = iprop(A lo ∗ band n A B lo hi) := by
  unfold band
  rw [bigSep_erase (Finset.mem_range.2 hn), bigSep_erase (i := lo) (s := Finset.range n) (Finset.mem_range.2 hn),
    if_pos (by omega), if_neg (by omega), if_pos (by omega), bigSep_congr (s := (Finset.range n).erase lo) (Ψ := fun u => if u < lo then A u else if u < hi then iprop(emp) else B u)]
  · exact (congrArg (BI.sep (A lo)) emp_sep_eq).symm
  · intro u hu
    have h1 := (Finset.mem_erase.1 hu).1
    split_ifs <;> first | rfl | omega

theorem band_out {n : ℕ} {A B : ℕ → sProp 𝕄} {lo hi hi' : ℕ} (h : n ≤ hi) (h' : n ≤ hi') :
    band n A B lo hi = band n A B lo hi' := by
  unfold band
  refine bigSep_congr fun u hu => ?_
  have := Finset.mem_range.1 hu
  split_ifs <;> first | rfl | omega

theorem band_zero {n : ℕ} {A B : ℕ → sProp 𝕄} : band n A B 0 0 = bigSep (Finset.range n) B := by
  unfold band
  exact bigSep_congr fun u hu => by simp

theorem band_all {n : ℕ} {A B : ℕ → sProp 𝕄} {lo hi : ℕ} (h : n ≤ lo) : band n A B lo hi = bigSep (Finset.range n) A := by
  unfold band
  exact bigSep_congr fun u hu => by rw [if_pos (by have := Finset.mem_range.1 hu; omega)]

end Cert.Kernel.Stage
-- ==== Proof.KTrip.lean ====
module

public import proofs.«01_k».proof.Proof.KMem

@[expose] public section

/-! The stages of a trip run, and stay within the buffers they work on. -/

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UU nD τ) ℕ

variable (c : Dev nD) {α : Type} {Q : α → sProp 𝕄} {I : sProp 𝕄}

/-- The elements of slot `q` of the input ring. -/
def S7 (q : ℕ) : Finset S4x256x4096.Idx := Finset.univ.filter fun y => (y 0).val = q

/-- The elements of slot `q` of the output ring. -/
def S8 (q : ℕ) : Finset S2x256x2048.Idx := Finset.univ.filter fun y => (y 0).val = q

theorem trips_eq : k0_t1_loop.trips = 28 := by decide

theorem in7 (q o : ℕ) (size : Fin 3 → ℕ) (h0 : size 0 = 1) (i7 : ∀ a, (![q, 0, o] : Fin 3 → ℕ) a + size a ≤ S4x256x4096.size a) :
    (Rect.unit (s := S4x256x4096) ![q, 0, o] size i7).toLoadRect.set ⊆ S7 q := fun y hy => by
  have h : q ≤ (y 0).val ∧ (y 0).val < q + size 0 := Rect.mem_set_unit.1 hy 0
  refine Finset.mem_filter.2 ⟨Finset.mem_univ _, ?_⟩
  omega

theorem in8 (q o : ℕ) (i8 : ∀ a, (![q, 0, o] : Fin 3 → ℕ) a + S1x256x128.size a ≤ S2x256x2048.size a) :
    (Rect.unit (s := S2x256x2048) ![q, 0, o] S1x256x128.size i8).set ⊆ S8 q := fun y hy => by
  have h : q ≤ (y 0).val ∧ (y 0).val < q + 1 := Rect.mem_set_unit.1 hy 0
  refine Finset.mem_filter.2 ⟨Finset.mem_univ _, ?_⟩
  omega

/-- The buffers that the stages of trip `t` work on are held. -/
structure Held (I : sProp 𝕄) (M : Bufs) (t : ℕ) : Prop where
  a7 : Own c I M.a7 (S7 (t % 4))
  a8 : Own c I M.a8 (S8 (t % 2))
  a9 : Own c I M.a9 Finset.univ
  a10 : Own c I M.a10 Finset.univ
  a11 : Own c I M.a11 Finset.univ
  a12 : Own c I M.a12 Finset.univ
  a13 : Own c I M.a13 Finset.univ
  a14 : Own c I M.a14 Finset.univ
  a15 : Own c I M.a15 Finset.univ
  a16 : Own c I M.a16 Finset.univ

theorem partStore_has {m : Memref sig .tc .vmem S2x2x64x128 .i32} {hm : m.IsWhole} {p : ℕ} {hp : p < 2} {mx : Bool}
    {tile : FVec Bits S512x256 .bf16} {b l : ℕ} {hb : b < 8} {hl : l < 2} {k : PrgB α} (h : Own c I m Finset.univ) (hk : I ⊢ runs c k Q) :
    I ⊢ runs c (partStore m hm p hp mx tile b l hb hl k) Q := by
  unfold partStore
  exact load_gen c h (slot_of c) fun y => store_gen c h (slot_of c) hk

theorem partStores_has {m : Memref sig .tc .vmem S2x2x64x128 .i32} {hm : m.IsWhole} {p : ℕ} {hp : p < 2} {mx : Bool}
    {tile : FVec Bits S512x256 .bf16} {k : PrgB α} (h : Own c I m Finset.univ) (hk : I ⊢ runs c k Q) :
    I ⊢ runs c (partStores m hm p hp mx tile k) Q := by
  unfold partStores
  iterate 16 refine partStore_has c h ?_
  exact hk

theorem colTree_has {m : Memref sig .tc .vmem S2x2x64x128 .i32} {p : ℕ} {hp : p < 2} {mx : Bool} {l : ℕ} {hl : l < 2}
    {k : FVec Bits S8x128 .f32 → PrgB α} (h : Own c I m Finset.univ) (hk : ∀ x, I ⊢ runs c (k x) Q) :
    I ⊢ runs c (colTree m p hp mx l hl k) Q := by
  unfold colTree strideLoad
  iterate 8 refine load_gen c h (slot_of c) fun _ => ?_
  exact hk _

theorem finish_has {M : Bufs} {t p : ℕ} {hp : p < 2} {l : ℕ} {hl : l < 2} {o14 : Fin 3 → ℕ} {i14} {o15 : Fin 2 → ℕ} {i15}
    {mx mn : FVec Bits S8x128 .f32} {k : PrgB α} (h : Held c I M t) (hk : I ⊢ runs c k Q) :
    I ⊢ runs c (finish M p hp l hl o14 i14 o15 i15 mx mn k) Q := by
  unfold finish
  refine own_load c h.a12 (Finset.subset_univ _) fun _ => own_store c h.a12 (Finset.subset_univ _) <|
    own_load c h.a13 (Finset.subset_univ _) fun _ => own_store c h.a13 (Finset.subset_univ _) <|
    own_load c h.a14 (Finset.subset_univ _) fun _ => own_store c h.a14 (Finset.subset_univ _) <|
    own_load c h.a15 (Finset.subset_univ _) fun _ => own_store c h.a15 (Finset.subset_univ _) <|
    own_load c h.a16 (Finset.subset_univ _) fun _ => own_load c h.a16 (Finset.subset_univ _) fun _ => own_store c h.a16 (Finset.subset_univ _) hk

theorem stageA_has {M : Bufs} {t : Fin k0_t1_loop.trips} {p : ℕ} {hp : p < 2} {j : Fin 8} {o7 : Fin 3 → ℕ} {i7} {o : ℕ} {k : PrgB α}
    (h : Held c I M t.val) (ho : o7 = ![t.val % 4, 0, o]) (hk : I ⊢ runs c k Q) :
    I ⊢ runs c (stageA M t p hp j o7 i7 k) Q := by
  subst ho
  unfold stageA
  exact own_load c h.a7 (in7 _ _ _ rfl _) fun _ => partStores_has c h.a10 <| colTree_has c h.a10 fun _ => colTree_has c h.a10 fun _ =>
    partStores_has c h.a11 <| colTree_has c h.a11 fun _ => colTree_has c h.a11 fun _ => finish_has c h <| finish_has c h hk

theorem rowLoad_has {M : Bufs} {t p b : ℕ} {hp : p < 2} {hb : b < 8} {k : Vec Bits S1x1x256 .f32 → Vec Bits S1x1x256 .i32 → PrgB α}
    (h : Held c I M t) (hk : ∀ r z, I ⊢ runs c (k r z) Q) : I ⊢ runs c (rowLoad M p b hp hb k) Q := by
  unfold rowLoad
  exact own_load c h.a12 (Finset.subset_univ _) fun _ => own_load c h.a13 (Finset.subset_univ _) fun _ => hk _ _

theorem half_has {M : Bufs} {t p : ℕ} {hp : p < 2} {d : ℕ} {hd : d < 2} {o7 : Fin 3 → ℕ} {i7} {o8 : Fin 3 → ℕ} {i8} {p8} {o o' : ℕ} {k : PrgB α}
    (h : Held c I M t) (ho : o7 = ![t % 4, 0, o]) (ho' : o8 = ![t % 2, 0, o']) (hk : I ⊢ runs c k Q) :
    I ⊢ runs c (half M p hp d hd o7 i7 o8 i8 p8 k) Q := by
  subst ho ho'
  unfold half
  exact own_load c h.a7 (in7 _ _ _ rfl _) fun _ => own_load c h.a9 (Finset.subset_univ _) fun _ =>
    rowLoad_has c h fun _ _ => rowLoad_has c h fun _ _ => rowLoad_has c h fun _ _ => rowLoad_has c h fun _ _ =>
    own_load c h.a8 (in8 _ _ _) fun _ => own_store c h.a8 (in8 _ _ _) hk

theorem offs_eq : ∀ t : Fin k0_t1_loop.trips, k0_off10 t = ![t.val % 4, 0, 512 * 0] ∧
    k0_off15 t = ![t.val % 4, 0, 512 * 1] ∧
    k0_off20 t = ![t.val % 4, 0, 512 * 2] ∧
    k0_off25 t = ![t.val % 4, 0, 512 * 3] ∧
    k0_off30 t = ![t.val % 4, 0, 512 * 4] ∧
    k0_off35 t = ![t.val % 4, 0, 512 * 5] ∧
    k0_off40 t = ![t.val % 4, 0, 512 * 6] ∧
    k0_off45 t = ![t.val % 4, 0, 512 * 7] ∧
    k0_off16 t = ![t.val % 4, 0, 512 * 0 + 256 * 0] ∧
    k0_off17 t = ![t.val % 2, 0, 128 * (2 * 0 + 0)] ∧
    k0_off18 t = ![t.val % 4, 0, 512 * 0 + 256 * 1] ∧
    k0_off19 t = ![t.val % 2, 0, 128 * (2 * 0 + 1)] ∧
    k0_off21 t = ![t.val % 4, 0, 512 * 1 + 256 * 0] ∧
    k0_off22 t = ![t.val % 2, 0, 128 * (2 * 1 + 0)] ∧
    k0_off23 t = ![t.val % 4, 0, 512 * 1 + 256 * 1] ∧
    k0_off24 t = ![t.val % 2, 0, 128 * (2 * 1 + 1)] ∧
    k0_off26 t = ![t.val % 4, 0, 512 * 2 + 256 * 0] ∧
    k0_off27 t = ![t.val % 2, 0, 128 * (2 * 2 + 0)] ∧
    k0_off28 t = ![t.val % 4, 0, 512 * 2 + 256 * 1] ∧
    k0_off29 t = ![t.val % 2, 0, 128 * (2 * 2 + 1)] ∧
    k0_off31 t = ![t.val % 4, 0, 512 * 3 + 256 * 0] ∧
    k0_off32 t = ![t.val % 2, 0, 128 * (2 * 3 + 0)] ∧
    k0_off33 t = ![t.val % 4, 0, 512 * 3 + 256 * 1] ∧
    k0_off34 t = ![t.val % 2, 0, 128 * (2 * 3 + 1)] ∧
    k0_off36 t = ![t.val % 4, 0, 512 * 4 + 256 * 0] ∧
    k0_off37 t = ![t.val % 2, 0, 128 * (2 * 4 + 0)] ∧
    k0_off38 t = ![t.val % 4, 0, 512 * 4 + 256 * 1] ∧
    k0_off39 t = ![t.val % 2, 0, 128 * (2 * 4 + 1)] ∧
    k0_off41 t = ![t.val % 4, 0, 512 * 5 + 256 * 0] ∧
    k0_off42 t = ![t.val % 2, 0, 128 * (2 * 5 + 0)] ∧
    k0_off43 t = ![t.val % 4, 0, 512 * 5 + 256 * 1] ∧
    k0_off44 t = ![t.val % 2, 0, 128 * (2 * 5 + 1)] ∧
    k0_off46 t = ![t.val % 4, 0, 512 * 6 + 256 * 0] ∧
    k0_off47 t = ![t.val % 2, 0, 128 * (2 * 6 + 0)] ∧
    k0_off48 t = ![t.val % 4, 0, 512 * 6 + 256 * 1] ∧
    k0_off49 t = ![t.val % 2, 0, 128 * (2 * 6 + 1)] ∧
    k0_off50 t = ![t.val % 4, 0, 512 * 7 + 256 * 0] ∧
    k0_off51 t = ![t.val % 2, 0, 128 * (2 * 7 + 0)] ∧
    k0_off52 t = ![t.val % 4, 0, 512 * 7 + 256 * 1] ∧
    k0_off53 t = ![t.val % 2, 0, 128 * (2 * 7 + 1)] := by
  intro t
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> revert t <;> decide +kernel

/-- The sixteen stages of a trip run. -/
theorem stages_has {M : Bufs} {t : Fin k0_t1_loop.trips} {k : PrgB α} (h : Held c I M t.val) (hk : I ⊢ runs c k Q) :
    I ⊢ runs c (stages M t k) Q := by
  obtain ⟨a0, a1, a2, a3, a4, a5, a6, a7, b00i, b00o, b01i, b01o, b10i, b10o, b11i, b11o, b20i, b20o, b21i, b21o, b30i, b30o, b31i, b31o, b40i, b40o, b41i, b41o, b50i, b50o, b51i, b51o, b60i, b60o, b61i, b61o, b70i, b70o, b71i, b71o⟩ := offs_eq t
  unfold stages
  exact stageA_has c h a0 <|
    stageA_has c h a1 <|
    half_has c h b00i b00o <|
    half_has c h b01i b01o <|
    stageA_has c h a2 <|
    half_has c h b10i b10o <|
    half_has c h b11i b11o <|
    stageA_has c h a3 <|
    half_has c h b20i b20o <|
    half_has c h b21i b21o <|
    stageA_has c h a4 <|
    half_has c h b30i b30o <|
    half_has c h b31i b31o <|
    stageA_has c h a5 <|
    half_has c h b40i b40o <|
    half_has c h b41i b41o <|
    stageA_has c h a6 <|
    half_has c h b50i b50o <|
    half_has c h b51i b51o <|
    stageA_has c h a7 <|
    half_has c h b60i b60o <|
    half_has c h b61i b61o <|
    half_has c h b70i b70o <|
    half_has c h b71i b71o <|
    hk

end Cert.Kernel.Stage
-- ==== Proof.KPieces.lean ====
module

public import proofs.«01_k».proof.Proof.KTrip

@[expose] public section

/-! The slots, blocks and semaphores that the copies go between, for the kernel before idealization. -/

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UU nD τ) ℕ

variable (c : Dev nD) {α : Type} {Q : α → sProp 𝕄} {R : sProp 𝕄}

/-! Offsets in closed form. -/

theorem cond1_iff : ∀ t : Fin k0_t1_loop.trips, k0_cond1 t = 1#1 ↔ t.val + 3 < 28 := by decide +kernel
theorem cond2_iff : ∀ t : Fin k0_t1_loop.trips, k0_cond2 t = 1#1 ↔ 2 ≤ t.val := by decide +kernel
theorem cond3_iff : ∀ t : Fin k0_t1_loop.trips, k0_cond3 t = 1#1 ↔ t.val % 4 = 3 := by decide +kernel
theorem cond4_iff : ∀ t : Fin k0_t1_loop.trips, k0_cond4 t = 1#1 ↔ 1 ≤ t.val / 4 := by decide +kernel
theorem off1_eq : ∀ t : Fin k0_t1_loop.trips, t.val + 3 < 28 → k0_off1 t = ![(t.val + 3) % 4] := by decide +kernel
theorem off2_eq : ∀ t : Fin k0_t1_loop.trips, t.val + 3 < 28 → k0_off2 t = ![(t.val + 3) % 4, 0, 0] := by decide +kernel
theorem off3_eq : ∀ t : Fin k0_t1_loop.trips, t.val + 3 < 28 → k0_off3 t = ![256 * ((t.val + 3) / 4 % 7), 4096 * ((t.val + 3) % 4)] := by decide +kernel
theorem off4_eq : ∀ t : Fin k0_t1_loop.trips, 2 ≤ t.val → k0_off4 t = ![t.val % 2] := by decide +kernel
theorem off7_eq : ∀ t : Fin k0_t1_loop.trips, k0_off7 t = ![t.val % 4] := by decide +kernel
theorem off54_eq : ∀ t : Fin k0_t1_loop.trips, k0_off54 t = ![t.val % 2] := by decide +kernel
theorem off55_eq : ∀ t : Fin k0_t1_loop.trips, k0_off55 t = ![256 * (t.val / 4 % 7), 2048 * (t.val % 4)] := by decide +kernel
theorem off56_eq : ∀ t : Fin k0_t1_loop.trips, k0_off56 t = ![t.val % 2, 0, 0] := by decide +kernel
theorem off58_eq : ∀ t : Fin k0_t1_loop.trips, t.val % 4 = 3 → k0_off58 t = ![t.val / 4, 0, 0] := by decide +kernel
theorem off59_eq : ∀ t : Fin k0_t1_loop.trips, t.val % 4 = 3 → k0_off59 t = ![256 * (t.val / 4 % 7), 0] := by decide +kernel

/-! The pieces. -/

theorem in4 (q : ℕ) : ∀ a, (![q % 4] : Fin 1 → ℕ) a + S1.size a ≤ S4.size a := by
  intro a; match a with
  | ⟨0, _⟩ => show q % 4 + 1 ≤ 4; omega
theorem in2 (q : ℕ) : ∀ a, (![q % 2] : Fin 1 → ℕ) a + S1.size a ≤ S2.size a := by
  intro a; match a with
  | ⟨0, _⟩ => show q % 2 + 1 ≤ 2; omega
theorem inSlot4 (q : ℕ) : ∀ a, (![q % 4, 0, 0] : Fin 3 → ℕ) a + S1x256x4096.size a ≤ S4x256x4096.size a := by
  intro a; match a with
  | ⟨0, _⟩ => show q % 4 + 1 ≤ 4; omega
  | ⟨1, _⟩ => exact Nat.le_refl 256
  | ⟨2, _⟩ => exact Nat.le_refl 4096
theorem inSlot2 (q : ℕ) : ∀ a, (![q % 2, 0, 0] : Fin 3 → ℕ) a + S1x256x2048.size a ≤ S2x256x2048.size a := by
  intro a; match a with
  | ⟨0, _⟩ => show q % 2 + 1 ≤ 2; omega
  | ⟨1, _⟩ => exact Nat.le_refl 256
  | ⟨2, _⟩ => exact Nat.le_refl 2048
theorem inW (u : ℕ) : ∀ a, (![256 * (u / 4 % 7), 4096 * (u % 4)] : Fin 2 → ℕ) a + S256x4096.size a ≤ S1792x16384.size a := by
  intro a; match a with
  | ⟨0, _⟩ => show 256 * (u / 4 % 7) + 256 ≤ 1792; omega
  | ⟨1, _⟩ => show 4096 * (u % 4) + 4096 ≤ 16384; omega
theorem inPk (u : ℕ) : ∀ a, (![256 * (u / 4 % 7), 2048 * (u % 4)] : Fin 2 → ℕ) a + S256x2048.size a ≤ S1792x8192.size a := by
  intro a; match a with
  | ⟨0, _⟩ => show 256 * (u / 4 % 7) + 256 ≤ 1792; omega
  | ⟨1, _⟩ => show 2048 * (u % 4) + 2048 ≤ 8192; omega
theorem inRow (b : ℕ) : ∀ a, (![256 * (b % 7), 0] : Fin 2 → ℕ) a + S256x256.size a ≤ S1792x256.size a := by
  intro a; match a with
  | ⟨0, _⟩ => show 256 * (b % 7) + 256 ≤ 1792; omega
  | ⟨1, _⟩ => exact Nat.le_refl 256

/-- Unit `u`'s semaphore, slot and block of the weights. -/
abbrev inSm (M : Args) (u : ℕ) : DmaSem sig := ((M.a20.slice (Rect.unit (s := S4) ![u % 4] S1.size (in4 u))).squeeze S_ squeezes_S1_S_).sem
abbrev inSl (M : Args) (u : ℕ) : Memref sig .tc .vmem S256x4096 .bf16 :=
  (M.a7.slice (Rect.unit (s := S4x256x4096) ![u % 4, 0, 0] S1x256x4096.size (inSlot4 u)) (fun _ => rfl)).squeeze S256x4096 squeezes_S1x256x4096_S256x4096
abbrev wSl (M : Args) (u : ℕ) : Memref sig .tc .hbm S256x4096 .bf16 :=
  M.a0.slice (Rect.unit (s := S1792x16384) ![256 * (u / 4 % 7), 4096 * (u % 4)] S256x4096.size (inW u)) (fun _ => rfl)
/-- Unit `u`'s semaphore, slot and block of the packed codes. -/
abbrev outSm (M : Args) (u : ℕ) : DmaSem sig := ((M.a21.slice (Rect.unit (s := S2) ![u % 2] S1.size (in2 u))).squeeze S_ squeezes_S1_S_).sem
abbrev outSl (M : Args) (u : ℕ) : Memref sig .tc .vmem S256x2048 .i8 :=
  (M.a8.slice (Rect.unit (s := S2x256x2048) ![u % 2, 0, 0] S1x256x2048.size (inSlot2 u)) (fun _ => rfl)).squeeze S256x2048 squeezes_S1x256x2048_S256x2048
abbrev pkSl (M : Args) (u : ℕ) : Memref sig .tc .hbm S256x2048 .i8 :=
  M.a1.slice (Rect.unit (s := S1792x8192) ![256 * (u / 4 % 7), 2048 * (u % 4)] S256x2048.size (inPk u)) (fun _ => rfl)
/-- Row block `b` of the scales and of the zero points. -/
abbrev scSl (M : Args) (b : ℕ) : Memref sig .tc .hbm S256x256 .f32 :=
  M.a2.slice (Rect.unit (s := S1792x256) ![256 * (b % 7), 0] S256x256.size (inRow b)) (fun _ => rfl)
abbrev zSl (M : Args) (b : ℕ) : Memref sig .tc .hbm S256x256 .i8 :=
  M.a3.slice (Rect.unit (s := S1792x256) ![256 * (b % 7), 0] S256x256.size (inRow b)) (fun _ => rfl)

theorem inSm_eq {M : Args} {o : Fin 1 → ℕ} {h} (u : ℕ) (e : o = ![u % 4]) :
    ((M.a20.slice (Rect.unit (s := S4) o S1.size h)).squeeze S_ squeezes_S1_S_).sem = inSm M u := by subst e; rfl
theorem outSm_eq {M : Args} {o : Fin 1 → ℕ} {h} (u : ℕ) (e : o = ![u % 2]) :
    ((M.a21.slice (Rect.unit (s := S2) o S1.size h)).squeeze S_ squeezes_S1_S_).sem = outSm M u := by subst e; rfl
theorem inSl_eq {M : Args} {o : Fin 3 → ℕ} {h} (u : ℕ) (e : o = ![u % 4, 0, 0]) :
    (M.a7.slice (Rect.unit (s := S4x256x4096) o S1x256x4096.size h) (fun _ => rfl)).squeeze S256x4096 squeezes_S1x256x4096_S256x4096 = inSl M u := by subst e; rfl
theorem outSl_eq {M : Args} {o : Fin 3 → ℕ} {h} (u : ℕ) (e : o = ![u % 2, 0, 0]) :
    (M.a8.slice (Rect.unit (s := S2x256x2048) o S1x256x2048.size h) (fun _ => rfl)).squeeze S256x2048 squeezes_S1x256x2048_S256x2048 = outSl M u := by subst e; rfl
theorem wSl_eq {M : Args} {o : Fin 2 → ℕ} {h} (u : ℕ) (e : o = ![256 * (u / 4 % 7), 4096 * (u % 4)]) :
    M.a0.slice (Rect.unit (s := S1792x16384) o S256x4096.size h) (fun _ => rfl) = wSl M u := by subst e; rfl
theorem pkSl_eq {M : Args} {o : Fin 2 → ℕ} {h} (u : ℕ) (e : o = ![256 * (u / 4 % 7), 2048 * (u % 4)]) :
    M.a1.slice (Rect.unit (s := S1792x8192) o S256x2048.size h) (fun _ => rfl) = pkSl M u := by subst e; rfl
theorem scSl_eq {M : Args} {o : Fin 2 → ℕ} {h} (b : ℕ) (e : o = ![256 * (b % 7), 0]) :
    M.a2.slice (Rect.unit (s := S1792x256) o S256x256.size h) (fun _ => rfl) = scSl M b := by subst e; rfl
theorem zSl_eq {M : Args} {o : Fin 2 → ℕ} {h} (b : ℕ) (e : o = ![256 * (b % 7), 0]) :
    M.a3.slice (Rect.unit (s := S1792x256) o S256x256.size h) (fun _ => rfl) = zSl M b := by subst e; rfl

/-! Whole buffers and their parts. -/

theorem ent_of_eq {A B : sProp 𝕄} (h : A = B) : A ⊢ B := by
  subst h
  iintro H
  iexact H

theorem some_of {X : Type} {Φ : X → sProp 𝕄} (x : X) : Φ x ⊢ iprop(∃ x, Φ x) := by
  iintro H
  iexists x
  iexact H

theorem runs_ret {a : α} : Q a ⊢ runs c (.ret a) Q := by
  unfold runs
  rw [wp_ret]
  iintro H
  imodintro
  iexact H

theorem in_has {M : Args} (q : ℕ) : has c (inSl M q) Finset.univ = has c M.a7 (S7 (q % 4)) := by
  have hs : (Rect.unit (s := S4x256x4096) ![q % 4, 0, 0] S1x256x4096.size (inSlot4 q)).set = S7 (q % 4) := by
    ext y
    rw [Rect.mem_set_unit]
    unfold S7
    rw [Finset.mem_filter]
    constructor
    · intro hy
      have := hy 0
      exact ⟨Finset.mem_univ _, by have h0 : q % 4 ≤ (y 0).val ∧ (y 0).val < q % 4 + 1 := hy 0; omega⟩
    · rintro ⟨-, hy⟩ a
      match a with
      | ⟨0, _⟩ => exact ⟨Nat.le_of_eq hy.symm, Nat.lt_succ_of_le (Nat.le_of_eq hy)⟩
      | ⟨1, _⟩ => exact ⟨Nat.zero_le _, Nat.lt_of_lt_of_eq (y 1).isLt (Nat.zero_add 256).symm⟩
      | ⟨2, _⟩ => exact ⟨Nat.zero_le _, Nat.lt_of_lt_of_eq (y 2).isLt (Nat.zero_add 4096).symm⟩
  rw [← hs]
  exact (has_squeeze c).trans (has_slice c)

theorem out_has {M : Args} (q : ℕ) : has c (outSl M q) Finset.univ = has c M.a8 (S8 (q % 2)) := by
  have hs : (Rect.unit (s := S2x256x2048) ![q % 2, 0, 0] S1x256x2048.size (inSlot2 q)).set = S8 (q % 2) := by
    ext y
    rw [Rect.mem_set_unit]
    unfold S8
    rw [Finset.mem_filter]
    constructor
    · intro hy
      have := hy 0
      exact ⟨Finset.mem_univ _, by have h0 : q % 2 ≤ (y 0).val ∧ (y 0).val < q % 2 + 1 := hy 0; omega⟩
    · rintro ⟨-, hy⟩ a
      match a with
      | ⟨0, _⟩ => exact ⟨Nat.le_of_eq hy.symm, Nat.lt_succ_of_le (Nat.le_of_eq hy)⟩
      | ⟨1, _⟩ => exact ⟨Nat.zero_le _, Nat.lt_of_lt_of_eq (y 1).isLt (Nat.zero_add 256).symm⟩
      | ⟨2, _⟩ => exact ⟨Nat.zero_le _, Nat.lt_of_lt_of_eq (y 2).isLt (Nat.zero_add 2048).symm⟩
  rw [← hs]
  exact (has_squeeze c).trans (has_slice c)

theorem bigSep_range_succ {n : ℕ} {Φ : ℕ → sProp 𝕄} : bigSep (Finset.range (n + 1)) Φ = iprop(Φ n ∗ bigSep (Finset.range n) Φ) := by
  have e := bigSep_insert (Φ := Φ) (Finset.notMem_range_self (n := n))
  rw [← Finset.range_add_one] at e
  exact e

/-- A buffer is its parts. -/
theorem has_split {cs : Space} {s : Shape} {e : EltTy} {m : Memref sig .tc cs s e} (n : ℕ) (K : ℕ → Finset s.Idx)
    (hd : ∀ u < n, ∀ u' < n, ∀ y, y ∈ K u → y ∈ K u' → u = u') (hc : ∀ y, ∃ u < n, y ∈ K u) :
    has c m Finset.univ ⊢ bigSep (Finset.range n) fun u => has c m (K u) := by
  have hu : m.view.setOn Finset.univ = (Finset.range n).biUnion fun u => m.view.setOn (K u) := by
    ext i
    constructor
    · intro hi
      obtain ⟨j, hj, rfl⟩ := Finset.mem_map.1 hi
      obtain ⟨u, hu, hy⟩ := hc j
      exact Finset.mem_biUnion.2 ⟨u, Finset.mem_range.2 hu, Finset.mem_map_of_mem _ hy⟩
    · intro hi
      obtain ⟨u, hu, hy⟩ := Finset.mem_biUnion.1 hi
      obtain ⟨j, hj, rfl⟩ := Finset.mem_map.1 hy
      exact Finset.mem_map_of_mem _ (Finset.mem_univ _)
  iintro H
  unfold has
  icases H with ⟨%f, H⟩
  have h := pointsTo_biUnion (nD := nD) (τ := τ) (sig := sig) (Ix := Unit) (Val := Elt Bits) (Name := ℕ) (U := UU nD τ) (Lvl := ℕ) (ℓ := m.view.loc (c : Thread nD τ)) (q := fullShare) (f := f) (Finset.range n) (fun u => m.view.setOn (K u)) (by
    intro u hu u' hu' hne
    rw [Finset.disjoint_left]
    intro i hi hi'
    obtain ⟨j, hj, rfl⟩ := Finset.mem_map.1 hi
    obtain ⟨j', hj', e⟩ := Finset.mem_map.1 hi'
    obtain rfl := m.view.emb.injective e
    exact hne (hd u (Finset.mem_range.1 hu) u' (Finset.mem_range.1 hu') _ hj hj'))
  rw [← hu] at h
  ihave H := (ent_of_eq h) $$ H
  have hm : (bigSep (Finset.range n) fun u => (m.view.loc (c : Thread nD τ) ↦[m.view.setOn (K u)]{fullShare} f : sProp 𝕄))
      ⊢ bigSep (Finset.range n) fun u => iprop(∃ f, m.view.loc (c : Thread nD τ) ↦[m.view.setOn (K u)]{fullShare} f) := bigSep_mono fun u _ => some_of (Φ := fun f => (m.view.loc (c : Thread nD τ) ↦[m.view.setOn (K u)]{fullShare} f : sProp 𝕄)) f
  iapply hm $$ H

/-- Two parts together. -/
theorem has_union {cs : Space} {s : Shape} {e : EltTy} {m : Memref sig .tc cs s e} {A B : Finset s.Idx} (h : Disjoint A B) :
    iprop(has c m A ∗ has c m B) ⊢ has c m (A ∪ B) := by
  have hd : Disjoint (m.view.setOn A) (m.view.setOn B) := (Finset.disjoint_map _).2 h
  have e : m.view.setOn (A ∪ B) = m.view.setOn A ∪ m.view.setOn B := Finset.map_union _ _
  unfold has
  iintro ⟨⟨%f, HA⟩, ⟨%g, HB⟩⟩
  have e1 : (m.view.loc (c : Thread nD τ) ↦[m.view.setOn A]{fullShare} f : sProp 𝕄) = m.view.loc (c : Thread nD τ) ↦[m.view.setOn A]{fullShare} (fun i => if i ∈ m.view.setOn A then f i else g i) :=
    pointsTo_congr fun i hi => by rw [if_pos hi]
  have e2 : (m.view.loc (c : Thread nD τ) ↦[m.view.setOn B]{fullShare} g : sProp 𝕄) = m.view.loc (c : Thread nD τ) ↦[m.view.setOn B]{fullShare} (fun i => if i ∈ m.view.setOn A then f i else g i) :=
    pointsTo_congr fun i hi => by rw [if_neg fun hh => Finset.disjoint_left.1 hd hh hi]
  have hu : (m.view.loc (c : Thread nD τ) ↦[m.view.setOn A ∪ m.view.setOn B]{fullShare} (fun i => if i ∈ m.view.setOn A then f i else g i) : sProp 𝕄)
      ⊣⊢ iprop((m.view.loc (c : Thread nD τ) ↦[m.view.setOn A]{fullShare} (fun i => if i ∈ m.view.setOn A then f i else g i)) ∗
        m.view.loc (c : Thread nD τ) ↦[m.view.setOn B]{fullShare} (fun i => if i ∈ m.view.setOn A then f i else g i)) := pointsTo_union hd
  rw [e]
  iexists (fun i => if i ∈ m.view.setOn A then f i else g i)
  iapply hu.2
  isplitl [HA]
  · iapply (ent_of_eq e1) $$ HA
  iapply (ent_of_eq e2) $$ HB

theorem S7_mem (q : ℕ) (y : S4x256x4096.Idx) : y ∈ S7 q ↔ (y 0).val = q := by unfold S7; simp
theorem S8_mem (q : ℕ) (y : S2x256x2048.Idx) : y ∈ S8 q ↔ (y 0).val = q := by unfold S8; simp

theorem S7_disj : ∀ u < 4, ∀ u' < 4, ∀ y, y ∈ S7 u → y ∈ S7 u' → u = u' := fun u hu u' hu' y h h' =>
  ((S7_mem u y).1 h).symm.trans ((S7_mem u' y).1 h')
theorem S7_cover : ∀ y, ∃ u < 4, y ∈ S7 u := fun y => ⟨(y 0).val, (y 0).isLt, (S7_mem _ y).2 rfl⟩
theorem S8_disj : ∀ u < 2, ∀ u' < 2, ∀ y, y ∈ S8 u → y ∈ S8 u' → u = u' := fun u hu u' hu' y h h' =>
  ((S8_mem u y).1 h).symm.trans ((S8_mem u' y).1 h')
theorem S8_cover : ∀ y, ∃ u < 2, y ∈ S8 u := fun y => ⟨(y 0).val, (y 0).isLt, (S8_mem _ y).2 rfl⟩

/-- The first slots of the input ring. -/
def T7 (n : ℕ) : Finset S4x256x4096.Idx := Finset.univ.filter fun y => (y 0).val < n
def T8 (n : ℕ) : Finset S2x256x2048.Idx := Finset.univ.filter fun y => (y 0).val < n

theorem T7_succ {M : Args} (n : ℕ) : iprop(has c M.a7 (S7 n) ∗ has c M.a7 (T7 n)) ⊢ has c M.a7 (T7 (n + 1)) := by
  have e : T7 (n + 1) = S7 n ∪ T7 n := by
    ext y
    unfold T7 S7
    simp only [Finset.mem_union, Finset.mem_filter, Finset.mem_univ, true_and]
    omega
  rw [e]
  refine has_union c ?_
  rw [Finset.disjoint_left]
  intro y h1 h2
  have h1 := (Finset.mem_filter.1 h1).2
  have h2 := (Finset.mem_filter.1 h2).2
  omega

theorem T8_succ {M : Args} (n : ℕ) : iprop(has c M.a8 (S8 n) ∗ has c M.a8 (T8 n)) ⊢ has c M.a8 (T8 (n + 1)) := by
  have e : T8 (n + 1) = S8 n ∪ T8 n := by
    ext y
    unfold T8 S8
    simp only [Finset.mem_union, Finset.mem_filter, Finset.mem_univ, true_and]
    omega
  rw [e]
  refine has_union c ?_
  rw [Finset.disjoint_left]
  intro y h1 h2
  have h1 := (Finset.mem_filter.1 h1).2
  have h2 := (Finset.mem_filter.1 h2).2
  omega

theorem T7_one : S7 0 = T7 1 := by
  ext y
  unfold T7 S7
  simp only [Finset.mem_filter, Finset.mem_univ, true_and]
  omega

theorem T8_one : S8 0 = T8 1 := by
  ext y
  unfold T8 S8
  simp only [Finset.mem_filter, Finset.mem_univ, true_and]
  omega

theorem T7_all : T7 4 = Finset.univ := Finset.filter_true_of_mem fun y _ => (y 0).isLt
theorem T8_all : T8 2 = Finset.univ := Finset.filter_true_of_mem fun y _ => (y 0).isLt

variable {c} {M : Args}

theorem split7 : has c M.a7 Finset.univ ⊢ iprop(has c (inSl M 3) Finset.univ ∗ has c (inSl M 2) Finset.univ ∗ has c (inSl M 1) Finset.univ ∗ has c (inSl M 0) Finset.univ ∗ emp) := by
  refine (has_split c (m := M.a7) 4 S7 S7_disj S7_cover).trans ?_
  rw [bigSep_range_succ, bigSep_range_succ, bigSep_range_succ, bigSep_range_succ, Finset.range_zero, bigSep_empty,
    in_has, in_has, in_has, in_has]
  exact ent_of_eq rfl

theorem split8 : has c M.a8 Finset.univ ⊢ iprop(has c (outSl M 1) Finset.univ ∗ has c (outSl M 0) Finset.univ ∗ emp) := by
  refine (has_split c (m := M.a8) 2 S8 S8_disj S8_cover).trans ?_
  rw [bigSep_range_succ, bigSep_range_succ, Finset.range_zero, bigSep_empty, out_has, out_has]
  exact ent_of_eq rfl

theorem join7 : iprop(has c (inSl M 3) Finset.univ ∗ has c (inSl M 2) Finset.univ ∗ has c (inSl M 1) Finset.univ ∗ has c (inSl M 0) Finset.univ) ⊢ has c M.a7 Finset.univ := by
  rw [in_has, in_has, in_has, in_has, ← T7_all]
  iintro ⟨H3, H2, H1, H0⟩
  iapply (T7_succ c 3)
  isplitl [H3]; · iexact H3
  iapply (T7_succ c 2)
  isplitl [H2]; · iexact H2
  iapply (T7_succ c 1)
  isplitl [H1]; · iexact H1
  rw [← T7_one]
  iexact H0

theorem join8 : iprop(has c (outSl M 1) Finset.univ ∗ has c (outSl M 0) Finset.univ) ⊢ has c M.a8 Finset.univ := by
  rw [out_has, out_has, ← T8_all]
  iintro ⟨H1, H0⟩
  iapply (T8_succ c 1)
  isplitl [H1]; · iexact H1
  rw [← T8_one]
  iexact H0

variable (c)

/-- A buffer of two axes in blocks. -/
theorem blocks2 {cs : Space} {e : EltTy} {N0 N1 m0 m1 : ℕ} {m : Memref sig .tc cs ⟨2, ![N0, N1]⟩ e} (n : ℕ) (f g : ℕ → ℕ)
    {inb : ∀ u, ∀ a, (![m0 * f u, m1 * g u] : Fin 2 → ℕ) a + (⟨2, ![m0, m1]⟩ : Shape).size a ≤ (⟨2, ![N0, N1]⟩ : Shape).size a}
    (hm : 0 < m0 ∧ 0 < m1)
    (hi : ∀ u < n, ∀ u' < n, f u = f u' → g u = g u' → u = u') (hc : ∀ i < N0, ∀ j < N1, ∃ u < n, f u = i / m0 ∧ g u = j / m1) :
    has c m Finset.univ ⊢ bigSep (Finset.range n) fun u =>
      has c (m.slice (Rect.unit (s := ⟨2, ![N0, N1]⟩) ![m0 * f u, m1 * g u] (⟨2, ![m0, m1]⟩ : Shape).size (inb u)) (fun _ => rfl)) Finset.univ := by
  have mem (u : ℕ) (y : (⟨2, ![N0, N1]⟩ : Shape).Idx) : y ∈ (Rect.unit (s := ⟨2, ![N0, N1]⟩) ![m0 * f u, m1 * g u] (⟨2, ![m0, m1]⟩ : Shape).size (inb u)).set ↔
      f u = (y 0).val / m0 ∧ g u = (y 1).val / m1 := by
    have key (a b k : ℕ) (hk : 0 < k) : (k * a ≤ b ∧ b < k * a + k) ↔ a = b / k := by
      constructor
      · rintro ⟨h1, h2⟩
        exact (Nat.div_eq_of_lt_le (by rw [Nat.mul_comm]; exact h1) (by rw [Nat.mul_comm, Nat.mul_succ]; exact h2)).symm
      · rintro rfl
        have h1 := Nat.div_add_mod b k
        have h2 := Nat.mod_lt b hk
        omega
    rw [Rect.mem_set_unit, ← key _ _ _ hm.1, ← key _ _ _ hm.2]
    constructor
    · intro h; exact ⟨h 0, h 1⟩
    · rintro ⟨h0, h1⟩ a
      match a with
      | ⟨0, _⟩ => exact h0
      | ⟨1, _⟩ => exact h1
  refine (has_split c n _ (fun u hu u' hu' y h h' => by
      have h1 := (mem u y).1 h
      have h2 := (mem u' y).1 h'
      exact hi u hu u' hu' (h1.1.trans h2.1.symm) (h1.2.trans h2.2.symm)) (fun y => by
      obtain ⟨u, hu, h⟩ := hc (y 0).val (y 0).isLt (y 1).val (y 1).isLt
      exact ⟨u, hu, (mem u y).2 h⟩)).trans (ent_of_eq (bigSep_congr fun u hu => (has_slice c).symm))

variable {c}

theorem home_all : has c M.a0 Finset.univ ⊢ bigSep (Finset.range 28) fun u => has c (wSl M u) Finset.univ :=
  blocks2 c (m := M.a0) (N0 := 1792) (N1 := 16384) (m0 := 256) (m1 := 4096) 28 (fun u => u / 4 % 7) (fun u => u % 4) (inb := inW) (by decide)
    (fun u hu u' hu' h1 h2 => by omega)
    (fun i hi j hj => ⟨4 * (i / 256) + j / 4096, by omega, show (4 * (i / 256) + j / 4096) / 4 % 7 = _ by omega, show (4 * (i / 256) + j / 4096) % 4 = _ by omega⟩)

theorem pk_all : has c M.a1 Finset.univ ⊢ bigSep (Finset.range 28) fun u => has c (pkSl M u) Finset.univ :=
  blocks2 c (m := M.a1) (N0 := 1792) (N1 := 8192) (m0 := 256) (m1 := 2048) 28 (fun u => u / 4 % 7) (fun u => u % 4) (inb := inPk) (by decide)
    (fun u hu u' hu' h1 h2 => by omega)
    (fun i hi j hj => ⟨4 * (i / 256) + j / 2048, by omega, show (4 * (i / 256) + j / 2048) / 4 % 7 = _ by omega, show (4 * (i / 256) + j / 2048) % 4 = _ by omega⟩)

theorem sc_all : has c M.a2 Finset.univ ⊢ bigSep (Finset.range 7) fun b => has c (scSl M b) Finset.univ :=
  blocks2 c (m := M.a2) (N0 := 1792) (N1 := 256) (m0 := 256) (m1 := 256) 7 (fun b => b % 7) (fun _ => 0) (inb := inRow) (by decide)
    (fun u hu u' hu' h1 h2 => by omega)
    (fun i hi j hj => ⟨i / 256, by omega, show i / 256 % 7 = _ by omega, show 0 = _ by omega⟩)

theorem z_all : has c M.a3 Finset.univ ⊢ bigSep (Finset.range 7) fun b => has c (zSl M b) Finset.univ :=
  blocks2 c (m := M.a3) (N0 := 1792) (N1 := 256) (m0 := 256) (m1 := 256) 7 (fun b => b % 7) (fun _ => 0) (inb := inRow) (by decide)
    (fun u hu u' hu' h1 h2 => by omega)
    (fun i hi j hj => ⟨i / 256, by omega, show i / 256 % 7 = _ by omega, show 0 = _ by omega⟩)

end Cert.Kernel.Stage
-- ==== Proof.KLoop.lean ====
module

public import proofs.«01_k».proof.Proof.KPieces

@[expose] public section

/-! The loop of the kernel before idealization: what holds before each trip, and that a trip keeps it. -/

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UU nD τ) ℕ

variable (c : Dev nD) {α : Type} {Q : α → sProp 𝕄} {R : sProp 𝕄}

/-- The waits for the copies of the row block before. -/
def tlw (M : Args) (t : Fin k0_t1_loop.trips) (k0_h3 : k0_cond3 t = 1#1) : PrgB PUnit := do
  if k0_h4 : k0_cond4 t = 1#1 then do
    let v8074 : Memref sig .tc .hbm S256x256 .f32 := M.a2.slice (Rect.unit (s := S1792x256) (k0_off57 t) S256x256.size (k0_off57_inb t k0_h3 k0_h4)) (fun _ => rfl)
    Prog.lift (.waitDma2 M.a22.sem M.a17 v8074 M.h17.wordExact (View.wordExact_bits rfl))
    let v8078 : Memref sig .tc .hbm S256x256 .i8 := M.a3.slice (Rect.unit (s := S1792x256) (k0_off57 t) S256x256.size (k0_off57_inb t k0_h3 k0_h4)) (fun _ => rfl)
    Prog.lift (.waitDma2 M.a23.sem M.a18 v8078 M.h18.wordExact (M.h3.wordExact_slice rfl _ (k0_off57_wordsi8 t k0_h3 k0_h4)))
    pure ⟨⟩
  else do
    pure ⟨⟩

/-- The scales and zero points of the row block, put down and their copies started. -/
def tlr (M : Args) (t : Fin k0_t1_loop.trips) (k0_h3 : k0_cond3 t = 1#1) (k : PrgB PUnit) : PrgB PUnit := do
  let v8052 : Vec Bits S1x256x256 .f32 ← Prog.lift (.load M.a14 (Rect.unit (s := S7x256x256) (k0_off58 t) S1x256x256.size (k0_off58_inb t k0_h3)).toLoadRect (View.loadsAt_vmem h_S1x256x256))
  have v8053 : FVec Bits S256x256 .f32 := shapeCast S256x256 v8052 shapeCasts_S1x256x256_S256x256
  have v8054 : FVec Bits S256x256 .f32 := transpose S256x256 [1, 0] v8053 transposes_S256x256_p1_0_S256x256
  let v8055 : Vec Bits S256x256 .f32 ← Prog.lift (.load M.a17 (Rect.unit (s := S256x256) ![0, 0] S256x256.size inb_S256x256_S256x256_0_0).toLoadRect (View.loadsAt_vmem h_S256x256))
  have v8056 : FVec Bits S256x256 .f32 := shapeCast S256x256 v8055 shapeCasts_S256x256_S256x256
  have v8057 : FVec Bits S256x256 .f32 := shapeCast S256x256 v8054 shapeCasts_S256x256_S256x256
  Prog.lift (.store M.a17 (Rect.unit (s := S256x256) ![0, 0] S256x256.size inb_S256x256_S256x256_0_0) v8057 Finset.univ (View.stores_vmem_bits_univ h_S256x256 rfl) (.inl rfl))
  let v8058 : Vec Bits S256x256 .f32 ← Prog.lift (.load M.a15 (Rect.unit (s := S256x256) ![0, 0] S256x256.size inb_S256x256_S256x256_0_0).toLoadRect (View.loadsAt_vmem h_S256x256))
  have v8059 : IVec S256x256 32 := fptosi (F := Bits) (φ := .f32) 32 v8058
  have v8060 : IVec S256x256 8 := trunci 8 v8059 natLt_8_32
  have v8061 : IVec S256x256 8 := transpose S256x256 [1, 0] v8060 transposes_S256x256_p1_0_S256x256
  let v8062 : Vec Bits S256x256 .i8 ← Prog.lift (.load M.a18 (Rect.unit (s := S256x256) ![0, 0] S256x256.size inb_S256x256_S256x256_0_0).toLoadRect (View.loadsAt_vmem h_S256x256))
  have v8063 : IVec S256x256 8 := shapeCast S256x256 v8062 shapeCasts_S256x256_S256x256
  have v8064 : IVec S256x256 8 := shapeCast S256x256 v8061 shapeCasts_S256x256_S256x256
  Prog.lift (.store M.a18 (Rect.unit (s := S256x256) ![0, 0] S256x256.size inb_S256x256_S256x256_0_0) v8064 Finset.univ (View.stores_vmem h_S256x256 (M.h18.storeExact_slice rfl _ packedi8_S256x256_S256x256_0_0) (fun _ => rfl)) (.inl rfl))
  let v8067 : Memref sig .tc .hbm S256x256 .f32 := M.a2.slice (Rect.unit (s := S1792x256) (k0_off59 t) S256x256.size (k0_off59_inb t k0_h3)) (fun _ => rfl)
  Prog.lift (.enqueueDma M.a17 (.here v8067) (.dma M.a22.sem) M.h17.wordExact (View.wordExact_bits rfl) ⟨Or.inl rfl, trivial⟩)
  let v8070 : Memref sig .tc .hbm S256x256 .i8 := M.a3.slice (Rect.unit (s := S1792x256) (k0_off59 t) S256x256.size (k0_off59_inb t k0_h3)) (fun _ => rfl)
  Prog.lift (.enqueueDma M.a18 (.here v8070) (.dma M.a23.sem) M.h18.wordExact (M.h3.wordExact_slice rfl _ (k0_off59_wordsi8 t k0_h3)) ⟨Or.inl rfl, trivial⟩)
  k

theorem tl_pos (M : Args) (t : Fin k0_t1_loop.trips) (h3 : k0_cond3 t = 1#1) : tl M t = (tlw M t h3 >>= fun _ => tlr M t h3 (.ret ⟨⟩)) := by
  unfold tl tlw tlr
  rw [dif_pos h3]
  split <;> rfl

theorem tl_neg (M : Args) (t : Fin k0_t1_loop.trips) (h3 : ¬ k0_cond3 t = 1#1) : tl (F := Bits) M t = .ret ⟨⟩ := by
  unfold tl
  rw [dif_neg h3]
  rfl

variable (M : Args)

/-! The amounts of the copies. -/
abbrev nIn : ℕ := (inSl M 0).view.dmaCredit
abbrev nOut : ℕ := (pkSl M 0).view.dmaCredit
abbrev nSc : ℕ := (scSl M 0).view.dmaCredit
abbrev nZ : ℕ := (zSl M 0).view.dmaCredit

/-- Unit `u` of the weights, in its place. -/
abbrev home (u : ℕ) : sProp 𝕄 := has c (wSl M u) Finset.univ
/-- An input slot that no copy is under way to. -/
def freeI (u : ℕ) : sProp 𝕄 := iprop(has c (inSl M u) Finset.univ ∗ idle c (inSm M u))
/-- Unit `u` is on its way to its slot, where there is a unit `u`. -/
def inRole (u : ℕ) : sProp 𝕄 :=
  if u < 28 then fl c (inSm M u) (nIn M) (inSl M u) (wSl M u) else freeI c M u
def homes (lo hi : ℕ) : sProp 𝕄 := band 28 (home c M) (home c M) lo hi

/-- Unit `u` of the packed codes. -/
abbrev pkAny (u : ℕ) : sProp 𝕄 := has c (pkSl M u) Finset.univ
def pks (lo hi : ℕ) : sProp 𝕄 := band 28 (pkAny c M) (pkAny c M) lo hi
/-- An output slot that no copy is under way from. -/
def freeO (u : ℕ) : sProp 𝕄 := iprop(has c (outSl M u) Finset.univ ∗ idle c (outSm M u))
/-- Unit `u - 2` is on its way out, where there is a unit `u - 2`. -/
def outRole (u : ℕ) : sProp 𝕄 :=
  if 2 ≤ u then fl c (outSm M u) (nOut M) (pkSl M (u - 2)) (outSl M u) else freeO c M u

abbrev scAny (b : ℕ) : sProp 𝕄 := has c (scSl M b) Finset.univ
def scs (lo hi : ℕ) : sProp 𝕄 := band 7 (scAny c M) (scAny c M) lo hi
abbrev zAny (b : ℕ) : sProp 𝕄 := has c (zSl M b) Finset.univ
def zs (lo hi : ℕ) : sProp 𝕄 := band 7 (zAny c M) (zAny c M) lo hi
/-- The buffers of a row block's scales and zero points, with no copy under way. -/
def freeS : sProp 𝕄 := iprop(has c M.a17 Finset.univ ∗ idle c M.a22.sem ∗ has c M.a18 Finset.univ ∗ idle c M.a23.sem)
/-- Row block `b - 1`'s scales and zero points are on their way out, where there is one. -/
def sRole (b : ℕ) : sProp 𝕄 :=
  if 1 ≤ b then iprop(fl c M.a22.sem (nSc M) (scSl M (b - 1)) M.a17 ∗ fl c M.a23.sem (nZ M) (zSl M (b - 1)) M.a18) else freeS c M

/-- The scales' and zero points' results and copies before trip `t`. -/
def sState (t : ℕ) : sProp 𝕄 :=
  iprop(sRole c M (t / 4) ∗ scs c M (t / 4 - 1) (t / 4) ∗ zs c M (t / 4 - 1) (t / 4))

/-- The buffers that only the stages change. -/
def tabs : sProp 𝕄 := iprop(has c M.a9 Finset.univ ∗ has c M.a10 Finset.univ ∗ has c M.a11 Finset.univ ∗ has c M.a12 Finset.univ ∗ has c M.a13 Finset.univ
  ∗ has c M.a14 Finset.univ ∗ has c M.a15 Finset.univ ∗ has c M.a16 Finset.univ)

variable {c M}

theorem freeI_congr {u u' : ℕ} (h : u % 4 = u' % 4) : freeI c M u = freeI c M u' := by
  have e1 : inSl M u = inSl M u' := inSl_eq u' (by rw [h])
  have e2 : inSm M u = inSm M u' := inSm_eq u' (by rw [h])
  unfold freeI
  rw [e1, e2]

theorem hd1_spec {t : Fin k0_t1_loop.trips} {k : PUnit → PrgB α} :
    iprop(freeI c M (t.val + 3) ∗ homes c M t.val (t.val + 3))
      ⊢ iprop((iprop(inRole c M (t.val + 3) ∗ homes c M t.val (t.val + 4)) -∗ runs c (k ⟨⟩) Q) -∗ runs c (hd1 M t >>= k) Q) := by
  by_cases h : t.val + 3 < 28
  · unfold homes inRole
    rw [band_hi (by omega) h, if_pos h]
    unfold freeI
    iintro ⟨⟨Hx, Hs⟩, Hh, HB⟩ Hk
    unfold hd1
    rw [dif_pos ((cond1_iff t).2 h)]
    simp only [Prog.bind_assoc, Prog.bind_lift, Prog.bind_op, Prog.pure_eq_ret, Prog.bind_ret]
    unfold home
    iapply (enq_w c (wSl_eq (t.val + 3) (off3_eq t h)) (inSl_eq (t.val + 3) (off2_eq t h)) (inSm_eq (t.val + 3) (off1_eq t h)) (show 0 < S256x4096.numel by decide) (N := nIn M) rfl) $$ [Hx Hs Hh]
    · isplitl [Hh]; · iexact Hh
      isplitl [Hx]; · iexact Hx
      iexact Hs
    iintro Hf
    iapply Hk
    isplitl [Hf]; · iexact Hf
    iexact HB
  · unfold homes inRole
    rw [if_neg h, band_out (hi := t.val + 3) (hi' := t.val + 4) (by omega) (by omega)]
    have hd : (hd1 M t >>= k : PrgB α) = k ⟨⟩ := by
      unfold hd1
      rw [dif_neg (fun e => h ((cond1_iff t).1 e))]
      rfl
    rw [hd]
    iintro H Hk
    iapply Hk $$ H

theorem hd2_spec {t : Fin k0_t1_loop.trips} {k : PUnit → PrgB α} :
    iprop(outRole c M t.val ∗ pks c M (t.val - 2) t.val ∗ owesAny c)
      ⊢ iprop((iprop(freeO c M t.val ∗ pks c M (t.val - 1) t.val ∗ owesAny c) -∗ runs c (k ⟨⟩) Q) -∗ runs c (hd2 M t >>= k) Q) := by
  have ht : t.val < 28 := trips_eq ▸ t.isLt
  by_cases h : 2 ≤ t.val
  · unfold hd2
    rw [dif_pos ((cond2_iff t).2 h)]
    simp only [Prog.bind_assoc, Prog.bind_lift, Prog.bind_op, Prog.pure_eq_ret, Prog.bind_ret]
    have e : t.val - 1 = (t.val - 2) + 1 := by omega
    unfold outRole pks
    rw [if_pos h, e, band_lo (by omega) (by omega)]
    iintro ⟨Hf, HB, HW⟩ Hk
    iapply (wait_w c (dst := M.a1.slice (Rect.unit (s := S1792x8192) (k0_off5 t) S256x2048.size (k0_off5_inb t ((cond2_iff t).2 h))) (fun _ => rfl)) (outSm_eq t.val (off4_eq t h)) (N := nOut M) rfl) $$ [Hf HW]
    · isplitl [Hf]; · iexact Hf
      iexact HW
    iintro ⟨⟨Hp, Ho⟩, Hs, HW⟩
    iapply Hk
    isplitl [Ho Hs]
    · unfold freeO
      isplitl [Ho]; · iexact Ho
      iexact Hs
    isplitl [Hp HB]
    · isplitl [Hp]; · iexact Hp
      iexact HB
    iexact HW
  · have hd : (hd2 M t >>= k : PrgB α) = k ⟨⟩ := by
      unfold hd2
      rw [dif_neg (fun e => h ((cond2_iff t).1 e))]
      rfl
    rw [hd]
    have e : t.val - 1 = t.val - 2 := by omega
    unfold outRole
    rw [if_neg h, e]
    iintro H Hk
    iapply Hk $$ H

theorem inWait_spec {t : Fin k0_t1_loop.trips} {k : PrgB PUnit} {Q : PUnit → sProp 𝕄} :
    iprop(inRole c M t.val ∗ homes c M t.val (t.val + 4) ∗ owesAny c)
      ⊢ iprop((iprop(has c (inSl M t.val) Finset.univ ∗ idle c (inSm M t.val) ∗ homes c M (t.val + 1) (t.val + 4) ∗ owesAny c) -∗ runs c k Q)
        -∗ runs c (inWait M t k) Q) := by
  have ht : t.val < 28 := trips_eq ▸ t.isLt
  unfold inWait
  simp only [Prog.bind_assoc, Prog.bind_lift, Prog.bind_op, Prog.pure_eq_ret, Prog.bind_ret]
  unfold inRole homes
  rw [if_pos ht, band_lo (by omega) (by omega)]
  iintro ⟨Hf, HB, HW⟩ Hk
  iapply (wait_w c (dst := (M.a7.slice (Rect.unit (s := S4x256x4096) (k0_off8 t) S1x256x4096.size (k0_off8_inb t)) (fun _ => rfl)).squeeze S256x4096 squeezes_S1x256x4096_S256x4096) (inSm_eq t.val (off7_eq t)) (N := nIn M) rfl) $$ [Hf HW]
  · isplitl [Hf]; · iexact Hf
    iexact HW
  iintro ⟨⟨Hi, Hh⟩, Hs, HW⟩
  iapply Hk
  isplitl [Hi]; · iexact Hi
  isplitl [Hs]; · iexact Hs
  isplitl [Hh HB]
  · isplitl [Hh]; · iexact Hh
    iexact HB
  iexact HW

theorem outEnq_spec {t : Fin k0_t1_loop.trips} {k : PrgB PUnit} {Q : PUnit → sProp 𝕄} :
    iprop(has c (outSl M t.val) Finset.univ ∗ idle c (outSm M t.val) ∗ pks c M (t.val - 1) t.val)
      ⊢ iprop((iprop(outRole c M (t.val + 2) ∗ pks c M (t.val - 1) (t.val + 1)) -∗ runs c k Q)
        -∗ runs c (outEnq M t k) Q) := by
  have ht : t.val < 28 := trips_eq ▸ t.isLt
  have e1 : outSl M t.val = outSl M (t.val + 2) := outSl_eq (t.val + 2) (by rw [Nat.add_mod_right])
  have e2 : outSm M t.val = outSm M (t.val + 2) := outSm_eq (t.val + 2) (by rw [Nat.add_mod_right])
  unfold outEnq
  simp only [Prog.bind_assoc, Prog.bind_lift, Prog.bind_op, Prog.pure_eq_ret, Prog.bind_ret]
  unfold outRole pks
  rw [if_pos (by omega), band_hi (by omega) (by omega), e1, e2]
  iintro ⟨Ho, Hs, Hp, HB⟩ Hk
  iapply (enq_w c ((outSl_eq t.val (off56_eq t)).trans e1) (pkSl_eq t.val (off55_eq t)) ((outSm_eq t.val (off54_eq t)).trans e2) (by decide) (N := nOut M) rfl) $$ [Ho Hp Hs]
  · isplitl [Ho]; · iexact Ho
    isplitl [Hp]; · iexact Hp
    iexact Hs
  iintro Hf
  iapply Hk
  isplitl [Hf]; · iexact Hf
  iexact HB

theorem tlw_spec {t : Fin k0_t1_loop.trips} {h3 : k0_cond3 t = 1#1} {k : PUnit → PrgB α} :
    iprop(sState c M t.val ∗ owesAny c)
      ⊢ iprop((iprop(freeS c M ∗ scs c M (t.val / 4) (t.val / 4) ∗ zs c M (t.val / 4) (t.val / 4) ∗ owesAny c) -∗ runs c (k ⟨⟩) Q) -∗ runs c (tlw M t h3 >>= k) Q) := by
  have ht : t.val < 28 := trips_eq ▸ t.isLt
  by_cases h : 1 ≤ t.val / 4
  · unfold tlw
    rw [dif_pos ((cond4_iff t).2 h)]
    simp only [Prog.bind_assoc, Prog.bind_lift, Prog.bind_op, Prog.pure_eq_ret, Prog.bind_ret]
    have e : scs c M (t.val / 4) (t.val / 4) = iprop(scAny c M (t.val / 4 - 1) ∗ scs c M (t.val / 4 - 1) (t.val / 4)) := by
      unfold scs
      rw [← band_lo (by omega) (by omega), Nat.sub_add_cancel h]
    have e' : zs c M (t.val / 4) (t.val / 4) = iprop(zAny c M (t.val / 4 - 1) ∗ zs c M (t.val / 4 - 1) (t.val / 4)) := by
      unfold zs
      rw [← band_lo (by omega) (by omega), Nat.sub_add_cancel h]
    rw [e, e']
    unfold sState sRole
    rw [if_pos h]
    iintro ⟨⟨⟨Hf, Hg⟩, HB, HZ⟩, HW⟩ Hk
    iapply (wait_w c (dst := M.a2.slice (Rect.unit (s := S1792x256) (k0_off57 t) S256x256.size (k0_off57_inb t h3 ((cond4_iff t).2 h))) (fun _ => rfl)) rfl (N := nSc M) rfl) $$ [Hf HW]
    · isplitl [Hf]; · iexact Hf
      iexact HW
    iintro ⟨⟨Hp, Ho⟩, Hs, HW⟩
    iapply (wait_w c (dst := M.a3.slice (Rect.unit (s := S1792x256) (k0_off57 t) S256x256.size (k0_off57_inb t h3 ((cond4_iff t).2 h))) (fun _ => rfl)) rfl (N := nZ M) rfl) $$ [Hg HW]
    · isplitl [Hg]; · iexact Hg
      iexact HW
    iintro ⟨⟨Hp', Ho'⟩, Hs', HW⟩
    iapply Hk
    isplitl [Ho Hs Ho' Hs']
    · unfold freeS
      isplitl [Ho]; · iexact Ho
      isplitl [Hs]; · iexact Hs
      isplitl [Ho']; · iexact Ho'
      iexact Hs'
    isplitl [Hp HB]
    · isplitl [Hp]; · iexact Hp
      iexact HB
    isplitl [Hp' HZ]
    · isplitl [Hp']; · iexact Hp'
      iexact HZ
    iexact HW
  · have hd : (tlw M t h3 >>= k : PrgB α) = k ⟨⟩ := by
      unfold tlw
      rw [dif_neg (fun e => h ((cond4_iff t).1 e))]
      rfl
    rw [hd]
    have e : t.val / 4 = 0 := by omega
    unfold sState sRole
    rw [e, if_neg (by omega)]
    iintro ⟨⟨H, HB, HZ⟩, HW⟩ Hk
    iapply Hk
    isplitl [H]; · iexact H
    isplitl [HB]; · iexact HB
    isplitl [HZ]; · iexact HZ
    iexact HW

set_option maxHeartbeats 1000000 in
theorem tlr_spec {t : Fin k0_t1_loop.trips} {h3 : k0_cond3 t = 1#1} {k : PrgB PUnit} {Q : PUnit → sProp 𝕄} :
    iprop(freeS c M ∗ scs c M (t.val / 4) (t.val / 4) ∗ zs c M (t.val / 4) (t.val / 4) ∗ tabs c M)
      ⊢ iprop((iprop(sState c M (t.val + 1) ∗ tabs c M) -∗ runs c k Q) -∗ runs c (tlr M t h3 k) Q) := by
  have ht : t.val < 28 := trips_eq ▸ t.isLt
  have h := (cond3_iff t).1 h3
  have hb : (t.val + 1) / 4 = t.val / 4 + 1 := by omega
  unfold sState sRole scs zs
  rw [hb, if_pos (by omega), Nat.add_sub_cancel, band_hi (le_refl _) (by omega), band_hi (le_refl _) (by omega)]
  unfold freeS tabs tlr
  iintro ⟨⟨H17, Hs, H18, Hs'⟩, ⟨Hc, HB⟩, ⟨Hz, HZ⟩, ⟨H9, H10, H11, H12, H13, H14, H15, H16⟩⟩ Hk
  iapply (load_w c) $$ H14
  iintro %v1 H14
  iapply (load_w c) $$ H17
  iintro %v2 H17
  iapply (store_w c) $$ H17
  iintro H17
  iapply (load_w c) $$ H15
  iintro %v3 H15
  iapply (load_w c) $$ H18
  iintro %v4 H18
  iapply (store_w c) $$ H18
  iintro H18
  iapply (enq_w c rfl (scSl_eq (t.val / 4) (off59_eq t h)) rfl (show 0 < S256x256.numel by decide) (N := nSc M) rfl) $$ [H17 Hc Hs]
  · isplitl [H17]; · iexact H17
    isplitl [Hc]; · iexact Hc
    iexact Hs
  iintro Hf
  iapply (enq_w c rfl (zSl_eq (t.val / 4) (off59_eq t h)) rfl (show 0 < S256x256.numel by decide) (N := nZ M) rfl) $$ [H18 Hz Hs']
  · isplitl [H18]; · iexact H18
    isplitl [Hz]; · iexact Hz
    iexact Hs'
  iintro Hg
  iapply Hk
  isplitr [H9 H10 H11 H12 H13 H14 H15 H16]
  · isplitl [Hf Hg]
    · isplitl [Hf]; · iexact Hf
      iexact Hg
    isplitl [HB]; · iexact HB
    iexact HZ
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem tl_spec {t : Fin k0_t1_loop.trips} {Q : PUnit → sProp 𝕄} :
    iprop(sState c M t.val ∗ tabs c M ∗ owesAny c)
      ⊢ iprop((iprop(sState c M (t.val + 1) ∗ tabs c M ∗ owesAny c) -∗ Q ⟨⟩) -∗ runs c (tl M t) Q) := by
  by_cases h3 : k0_cond3 t = 1#1
  · rw [tl_pos M t h3]
    iintro ⟨HS, HT, HW⟩ Hk
    iapply (tlw_spec (M := M)) $$ [HS HW]
    · isplitl [HS]; · iexact HS
      iexact HW
    iintro ⟨Hf, HB, HZ, HW⟩
    iapply (tlr_spec (M := M)) $$ [Hf HB HZ HT]
    · isplitl [Hf]; · iexact Hf
      isplitl [HB]; · iexact HB
      isplitl [HZ]; · iexact HZ
      iexact HT
    iintro ⟨HS, HT⟩
    iapply (runs_ret c)
    iapply Hk
    isplitl [HS]; · iexact HS
    isplitl [HT]; · iexact HT
    iexact HW
  · rw [tl_neg M t h3]
    have h : t.val / 4 = (t.val + 1) / 4 := by
      have := (cond3_iff t).not.1 h3
      omega
    unfold sState
    rw [← h]
    iintro H Hk
    iapply (runs_ret c)
    iapply Hk $$ H

/-- What holds before trip `t`. -/
def Inv (c : Dev nD) (M : Args) (t : ℕ) : sProp 𝕄 :=
  iprop(inRole c M t ∗ inRole c M (t + 1) ∗ inRole c M (t + 2) ∗ freeI c M (t + 3) ∗ homes c M t (t + 3)
    ∗ outRole c M t ∗ outRole c M (t + 1) ∗ pks c M (t - 2) t ∗ sState c M t ∗ tabs c M ∗ owesAny c)

/-- What the stages work on, and what else is there. -/
def work (c : Dev nD) (M : Args) (t : ℕ) (R : sProp 𝕄) : sProp 𝕄 :=
  iprop(has c M.a7 (S7 (t % 4)) ∗ has c M.a8 (S8 (t % 2)) ∗ tabs c M ∗ R)

theorem own_here {A : sProp 𝕄} {cs : Space} {s : Shape} {e : EltTy} {m : Memref sig .tc cs s e} {S : Finset s.Idx} : Own c iprop(has c m S ∗ A) m S :=
  ⟨A, ent_refl, ent_refl⟩

theorem own_next {A B : sProp 𝕄} {cs : Space} {s : Shape} {e : EltTy} {m : Memref sig .tc cs s e} {S : Finset s.Idx} (h : Own c A m S) : Own c iprop(B ∗ A) m S := by
  obtain ⟨G, h1, h2⟩ := h
  refine ⟨iprop(B ∗ G), ?_, ?_⟩
  · iintro ⟨HB, HA⟩
    ihave HA := h1 $$ HA
    icases HA with ⟨H, HG⟩
    isplitl [H]; · iexact H
    isplitl [HB]; · iexact HB
    iexact HG
  · iintro ⟨H, HB, HG⟩
    isplitl [HB]; · iexact HB
    iapply h2
    isplitl [H]; · iexact H
    iexact HG

theorem own_left {A B : sProp 𝕄} {cs : Space} {s : Shape} {e : EltTy} {m : Memref sig .tc cs s e} {S : Finset s.Idx} (h : Own c A m S) : Own c iprop(A ∗ B) m S := by
  obtain ⟨G, h1, h2⟩ := h
  refine ⟨iprop(G ∗ B), ?_, ?_⟩
  · iintro ⟨HA, HB⟩
    ihave HA := h1 $$ HA
    icases HA with ⟨H, HG⟩
    isplitl [H]; · iexact H
    isplitl [HG]; · iexact HG
    iexact HB
  · iintro ⟨H, HG, HB⟩
    isplitr [HB]
    · iapply h2
      isplitl [H]; · iexact H
      iexact HG
    iexact HB

theorem own_all {cs : Space} {s : Shape} {e : EltTy} {m : Memref sig .tc cs s e} {S : Finset s.Idx} : Own c (has c m S) m S := by
  refine ⟨iprop(emp), ?_, ?_⟩
  · iintro H
    isplitl [H]; · iexact H
    iempintro
  · iintro ⟨H, -⟩
    iexact H

theorem work_held {t : ℕ} {R : sProp 𝕄} : Held c (work c M t R) M.bufs t := by
  unfold work tabs
  exact ⟨own_here, own_next own_here, own_next (own_next (own_left own_here)), own_next (own_next (own_left (own_next own_here))),
    own_next (own_next (own_left (own_next (own_next own_here)))), own_next (own_next (own_left (own_next (own_next (own_next own_here))))),
    own_next (own_next (own_left (own_next (own_next (own_next (own_next own_here)))))), own_next (own_next (own_left (own_next (own_next (own_next (own_next (own_next own_here))))))),
    own_next (own_next (own_left (own_next (own_next (own_next (own_next (own_next (own_next own_here)))))))), own_next (own_next (own_left (own_next (own_next (own_next (own_next (own_next (own_next (own_next own_all)))))))))⟩

set_option maxHeartbeats 2000000 in
/-- A trip keeps the invariant. -/
theorem trip_spec (t : Fin k0_t1_loop.trips) : Inv c M t.val ⊢ runs c (pbody M t) (fun _ => Inv c M (t.val + 1)) := by
  have ht : t.val < 28 := trips_eq ▸ t.isLt
  rw [pbody_eq]
  unfold Inv
  iintro ⟨I0, I1, I2, I3, HH, O0, O1, HP, HS, HT, HW⟩
  iapply (hd1_spec (M := M)) $$ [I3 HH]
  · isplitl [I3]; · iexact I3
    iexact HH
  iintro ⟨I3, HH⟩
  iapply (hd2_spec (M := M)) $$ [O0 HP HW]
  · isplitl [O0]; · iexact O0
    isplitl [HP]; · iexact HP
    iexact HW
  iintro ⟨O0, HP, HW⟩
  iapply (inWait_spec (M := M)) $$ [I0 HH HW]
  · isplitl [I0]; · iexact I0
    isplitl [HH]; · iexact HH
    iexact HW
  iintro ⟨I0, Hs, HH, HW⟩
  ihave O0 := (ent_of_eq (show freeO c M t.val = iprop(has c (outSl M t.val) Finset.univ ∗ idle c (outSm M t.val)) from rfl)) $$ O0
  icases O0 with ⟨Ho, Hso⟩
  have ei : has c (inSl M t.val) Finset.univ = has c M.a7 (S7 (t.val % 4)) := in_has c (M := M) t.val
  have eo : has c (outSl M t.val) Finset.univ = has c M.a8 (S8 (t.val % 2)) := out_has c (M := M) t.val
  iapply (stages_has (c := c) (M := M.bufs) (t := t) (k := outEnq M t (tl M t)) (work_held (M := M) (R := iprop(inRole c M (t.val + 1) ∗ inRole c M (t.val + 2) ∗ inRole c M (t.val + 3) ∗ idle c (inSm M t.val) ∗ homes c M (t.val + 1) (t.val + 4)
      ∗ outRole c M (t.val + 1) ∗ idle c (outSm M t.val) ∗ pks c M (t.val - 1) t.val ∗ sState c M t.val ∗ owesAny c))) (by
      unfold work
      iintro ⟨H7, H8, HT, I1, I2, I3, Hs, HH, O1, Hso, HP, HS, HW⟩
      iapply (outEnq_spec (M := M)) $$ [H8 Hso HP]
      · isplitl [H8]
        · iapply (ent_of_eq eo.symm) $$ H8
        isplitl [Hso]; · iexact Hso
        iexact HP
      iintro ⟨O2, HP⟩
      iapply (tl_spec (M := M)) $$ [HS HT HW]
      · isplitl [HS]; · iexact HS
        isplitl [HT]; · iexact HT
        iexact HW
      iintro ⟨HS, HT, HW⟩
      isplitl [I1]; · iexact I1
      isplitl [I2]; · iexact I2
      isplitl [I3]; · iexact I3
      isplitl [H7 Hs]
      · rw [freeI_congr (u := t.val + 1 + 3) (u' := t.val) (by omega)]
        unfold freeI
        isplitl [H7]
        · iapply (ent_of_eq ei.symm) $$ H7
        iexact Hs
      isplitl [HH]; · iexact HH
      isplitl [O1]; · iexact O1
      isplitl [O2]; · iexact O2
      isplitl [HP]; · iexact HP
      isplitl [HS]; · iexact HS
      isplitl [HT]; · iexact HT
      iexact HW))
  unfold work
  isplitl [I0]; · iapply (ent_of_eq ei) $$ I0
  isplitl [Ho]; · iapply (ent_of_eq eo) $$ Ho
  isplitl [HT]; · iexact HT
  isplitl [I1]; · iexact I1
  isplitl [I2]; · iexact I2
  isplitl [I3]; · iexact I3
  isplitl [Hs]; · iexact Hs
  isplitl [HH]; · iexact HH
  isplitl [O1]; · iexact O1
  isplitl [Hso]; · iexact Hso
  isplitl [HP]; · iexact HP
  isplitl [HS]; · iexact HS
  iexact HW

end Cert.Kernel.Stage
-- ==== Proof.KWhole.lean ====
module

public import proofs.«01_k».proof.Proof.KLoop

@[expose] public section

/-! The kernel before idealization as a whole: what precedes the loop, the loop, and what follows it. -/

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UU nD τ) ℕ

variable {c : Dev nD} {α : Type} {Q : α → sProp 𝕄} {R : sProp 𝕄} {M : Args}

/-- A buffer, whatever it holds. -/
abbrev anyH (c : Dev nD) {cs : Space} {s : Shape} {e : EltTy} (m : Memref sig .tc cs s e) : sProp 𝕄 := has c m Finset.univ

/-- The scratch buffers, whatever they hold. -/
def Scr (c : Dev nD) (M : Args) : sProp 𝕄 :=
  iprop(anyH c M.a7 ∗ anyH c M.a8 ∗ anyH c M.a9 ∗ anyH c M.a10 ∗ anyH c M.a11 ∗ anyH c M.a12 ∗ anyH c M.a13 ∗ anyH c M.a14 ∗ anyH c M.a15 ∗ anyH c M.a16
    ∗ anyH c M.a17 ∗ anyH c M.a18 ∗ anyH c M.a19)
/-- The semaphores, with no copy under way. -/
def Sems (c : Dev nD) (M : Args) : sProp 𝕄 :=
  iprop((idle c (inSm M 0) ∗ idle c (inSm M 1) ∗ idle c (inSm M 2) ∗ idle c (inSm M 3)) ∗ (idle c (outSm M 0) ∗ idle c (outSm M 1))
    ∗ idle c M.a22.sem ∗ idle c M.a23.sem ∗ idle c M.a24.sem)
/-- What the kernel starts from: buffers of any contents, and no copy under way. -/
def Pre (c : Dev nD) (M : Args) : sProp 𝕄 :=
  iprop(anyH c M.a0 ∗ anyH c M.a1 ∗ anyH c M.a2 ∗ anyH c M.a3 ∗ anyH c M.a4 ∗ anyH c M.a5 ∗ anyH c M.a6 ∗ Scr c M ∗ Sems c M ∗ owesAny c)
/-- What of this the launch needs when the kernel is done. -/
def Post (c : Dev nD) (M : Args) : sProp 𝕄 := iprop(anyH c M.a5 ∗ anyH c M.a6 ∗ Scr c M ∗ Sems c M ∗ owesAny c)

theorem homes_start : anyH c M.a0 ⊢ iprop(anyH c (wSl M 0) ∗ anyH c (wSl M 1) ∗ anyH c (wSl M 2) ∗ homes c M 0 3) := by
  refine home_all.trans ?_
  have e : (bigSep (Finset.range 28) fun u => has c (wSl M u) Finset.univ) = iprop(anyH c (wSl M 0) ∗ anyH c (wSl M 1) ∗ anyH c (wSl M 2) ∗ homes c M 0 3) := by
    unfold homes
    show bigSep (Finset.range 28) (home c M) = _
    rw [← band_zero (A := home c M) (B := home c M), band_hi (le_refl 0) (by decide), band_hi (by decide) (by decide), band_hi (by decide) (by decide)]
  exact ent_of_eq e

/-- What holds before the first trip. -/
theorem inv_start : iprop(fl c (inSm M 0) (nIn M) (inSl M 0) (wSl M 0) ∗ fl c (inSm M 1) (nIn M) (inSl M 1) (wSl M 1) ∗ fl c (inSm M 2) (nIn M) (inSl M 2) (wSl M 2)
      ∗ (anyH c (inSl M 3) ∗ idle c (inSm M 3)) ∗ homes c M 0 3 ∗ (anyH c (outSl M 0) ∗ idle c (outSm M 0)) ∗ (anyH c (outSl M 1) ∗ idle c (outSm M 1))
      ∗ bigSep (Finset.range 28) (pkAny c M)
      ∗ ((anyH c M.a17 ∗ idle c M.a22.sem ∗ anyH c M.a18 ∗ idle c M.a23.sem) ∗ bigSep (Finset.range 7) (scAny c M) ∗ bigSep (Finset.range 7) (zAny c M))
      ∗ tabs c M ∗ owesAny c)
    ⊢ Inv c M 0 := by
  unfold Inv sState outRole sRole pks scs zs inRole
  rw [if_pos (by decide), if_pos (by decide), if_pos (by decide), if_neg (by decide), if_neg (by decide), if_neg (by decide)]
  rw [← band_zero (A := pkAny c M) (B := pkAny c M), ← band_zero (A := scAny c M) (B := scAny c M), ← band_zero (A := zAny c M) (B := zAny c M)]
  exact ent_of_eq rfl

set_option maxHeartbeats 1000000 in
/-- What precedes the loop brings about what holds before its first trip. -/
theorem pro_spec {k : PrgB α} :
    iprop(anyH c M.a0 ∗ anyH c M.a1 ∗ anyH c M.a2 ∗ anyH c M.a3 ∗ anyH c M.a7 ∗ anyH c M.a8 ∗ tabs c M ∗ anyH c M.a17 ∗ anyH c M.a18
        ∗ (idle c (inSm M 0) ∗ idle c (inSm M 1) ∗ idle c (inSm M 2) ∗ idle c (inSm M 3)) ∗ (idle c (outSm M 0) ∗ idle c (outSm M 1))
        ∗ idle c M.a22.sem ∗ idle c M.a23.sem ∗ owesAny c)
      ⊢ iprop((Inv c M 0 -∗ runs c k Q) -∗ runs c (prolog M k) Q) := by
  unfold prolog
  iintro ⟨H0, H1, H2, H3, H7, H8, HT, H17, H18, ⟨I0, I1, I2, I3⟩, ⟨O0, O1⟩, S22, S23, HW⟩ Hk
  ihave H0 := homes_start $$ H0
  icases H0 with ⟨A0, A1, A2, H0⟩
  ihave H1 := pk_all $$ H1
  ihave H2 := sc_all $$ H2
  ihave H3 := z_all $$ H3
  ihave H7 := split7 $$ H7
  icases H7 with ⟨B3, B2, B1, B0, -⟩
  ihave H8 := split8 $$ H8
  icases H8 with ⟨C1, C0, -⟩
  ihave HT := (ent_of_eq (show tabs c M = iprop(has c M.a9 Finset.univ ∗ has c M.a10 Finset.univ ∗ has c M.a11 Finset.univ ∗ has c M.a12 Finset.univ ∗ has c M.a13 Finset.univ
    ∗ has c M.a14 Finset.univ ∗ has c M.a15 Finset.univ ∗ has c M.a16 Finset.univ) from rfl)) $$ HT
  icases HT with ⟨H9, H10, H11, H12, H13, H14, H15, H16⟩
  iapply (enq_w c (wSl_eq 0 (by decide : (![0, 0] : Fin 2 → ℕ) = _)) (inSl_eq 0 (by decide : (![0, 0, 0] : Fin 3 → ℕ) = _)) (inSm_eq 0 (by decide : (![0] : Fin 1 → ℕ) = _)) (show 0 < S256x4096.numel by decide) (N := nIn M) rfl) $$ [A0 B0 I0]
  · isplitl [A0]; · iexact A0
    isplitl [B0]; · iexact B0
    iexact I0
  iintro F0
  iapply (enq_w c (wSl_eq 1 (by decide : (![0, 4096] : Fin 2 → ℕ) = _)) (inSl_eq 1 (by decide : (![1, 0, 0] : Fin 3 → ℕ) = _)) (inSm_eq 1 (by decide : (![1] : Fin 1 → ℕ) = _)) (show 0 < S256x4096.numel by decide) (N := nIn M) rfl) $$ [A1 B1 I1]
  · isplitl [A1]; · iexact A1
    isplitl [B1]; · iexact B1
    iexact I1
  iintro F1
  iapply (enq_w c (wSl_eq 2 (by decide : (![0, 8192] : Fin 2 → ℕ) = _)) (inSl_eq 2 (by decide : (![2, 0, 0] : Fin 3 → ℕ) = _)) (inSm_eq 2 (by decide : (![2] : Fin 1 → ℕ) = _)) (show 0 < S256x4096.numel by decide) (N := nIn M) rfl) $$ [A2 B2 I2]
  · isplitl [A2]; · iexact A2
    isplitl [B2]; · iexact B2
    iexact I2
  iintro F2
  iapply (load_w c) $$ H9
  iintro %v1 H9
  iapply (store_w c) $$ H9
  iintro H9
  iapply (load_w c) $$ H16
  iintro %v2 H16
  iapply (store_w c) $$ H16
  iintro H16
  iapply Hk
  iapply inv_start
  isplitl [F0]; · iexact F0
  isplitl [F1]; · iexact F1
  isplitl [F2]; · iexact F2
  isplitl [B3 I3]
  · isplitl [B3]; · iexact B3
    iexact I3
  isplitl [H0]; · iexact H0
  isplitl [C0 O0]
  · isplitl [C0]; · iexact C0
    iexact O0
  isplitl [C1 O1]
  · isplitl [C1]; · iexact C1
    iexact O1
  isplitl [H1]; · iexact H1
  isplitl [H2 H3 H17 H18 S22 S23]
  · isplitl [H17 H18 S22 S23]
    · isplitl [H17]; · iexact H17
      isplitl [S22]; · iexact S22
      isplitl [H18]; · iexact H18
      iexact S23
    isplitl [H2]; · iexact H2
    iexact H3
  isplitl [H9 H10 H11 H12 H13 H14 H15 H16]
  · unfold tabs
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact HW

/-- The loop takes what holds before its first trip to what holds after its last. -/
theorem loop_spec {k : PUnit → PrgB α} :
    Inv c M 0 ⊢ iprop((Inv c M 28 -∗ runs c (k ⟨⟩) Q) -∗ runs c (Scf.Loop.for k0_t1_loop k0_t1_ok ⟨⟩ (fun t _ => pbody M t) >>= k) Q) := by
  have h : Inv c M 0 ⊢ iprop((∀ acc : PUnit, Inv c M k0_t1_loop.trips -∗ runs c (k acc) Q) -∗ runs c (Scf.Loop.for k0_t1_loop k0_t1_ok ⟨⟩ (fun t _ => pbody M t) >>= k) Q) :=
    Scf.wp_for_bind _ _ _ k0_t1_loop.lb k0_t1_loop.ub k0_t1_loop.st k0_t1_ok (⟨⟩ : PUnit) (fun t _ => pbody M t) (fun t _ => Inv c M t)
      (fun i acc => trip_spec (c := c) (M := M) i)
  have e : Inv c M k0_t1_loop.trips = Inv c M 28 := congrArg (Inv c M) trips_eq
  iintro HI Hk
  iapply h $$ HI
  iintro %acc HI
  iapply Hk
  iapply (ent_of_eq e) $$ HI

/-! What follows the loop. -/

/-- The buffers of the second quantisation. -/
def eSt (c : Dev nD) (M : Args) : sProp 𝕄 := iprop(anyH c M.a5 ∗ anyH c M.a19 ∗ anyH c M.a14)

set_option maxHeartbeats 1000000 in
/-- One row block's second quantisation. -/
theorem epiBlk_spec {off : Elt Bits .f32} {i : ℕ} {hi : i < 7} {k : PrgB α} :
    eSt c M ⊢ iprop((eSt c M -∗ runs c k Q) -∗ runs c (epiBlk (F := Bits) M off i hi k) Q) := by
  unfold epiBlk eSt
  iintro ⟨H5, H19, H14⟩ Hk
  iapply (load_w c) $$ H14
  iintro %v1 H14
  iapply (load_w c) $$ H5
  iintro %v2 H5
  iapply (store_w c) $$ H5
  iintro H5
  iapply (load_w c) $$ H19
  iintro %v3 H19
  iapply (store_w c) $$ H19
  iintro H19
  iapply Hk
  isplitl [H5]; · iexact H5
  isplitl [H19]; · iexact H19
  iexact H14

theorem epiBlks_spec {off : Elt Bits .f32} {k : PrgB α} :
    eSt c M ⊢ iprop((eSt c M -∗ runs c k Q) -∗ runs c (epiBlks (F := Bits) M off k) Q) := by
  unfold epiBlks
  iintro H Hk
  iapply epiBlk_spec $$ H
  iintro H
  iapply epiBlk_spec $$ H
  iintro H
  iapply epiBlk_spec $$ H
  iintro H
  iapply epiBlk_spec $$ H
  iintro H
  iapply epiBlk_spec $$ H
  iintro H
  iapply epiBlk_spec $$ H
  iintro H
  iapply epiBlk_spec $$ H
  iintro H
  iapply Hk $$ H

theorem freeI_end {u : ℕ} (u' : ℕ) (h : u % 4 = u' % 4) : freeI c M u ⊢ iprop(anyH c (inSl M u') ∗ idle c (inSm M u')) := by
  rw [freeI_congr h]
  exact ent_of_eq rfl

/-- What holds after the last trip. -/
theorem inv_end : Inv c M 28 ⊢ iprop(freeI c M 28 ∗ freeI c M 29 ∗ freeI c M 30 ∗ freeI c M 31 ∗ homes c M 28 31
      ∗ fl c (outSm M 0) (nOut M) (pkSl M 26) (outSl M 0) ∗ fl c (outSm M 1) (nOut M) (pkSl M 27) (outSl M 1) ∗ pks c M 26 28
      ∗ ((fl c M.a22.sem (nSc M) (scSl M 6) M.a17 ∗ fl c M.a23.sem (nZ M) (zSl M 6) M.a18) ∗ scs c M 6 7 ∗ zs c M 6 7) ∗ tabs c M ∗ owesAny c) := by
  unfold Inv sState outRole sRole inRole
  rw [if_neg (by decide), if_neg (by decide), if_neg (by decide), if_pos (by decide), if_pos (by decide), if_pos (by decide)]

/-- The size of the codes of the scales, in the copies' credits. -/
abbrev nQ (M : Args) : ℕ := M.a4.view.dmaCredit

set_option maxHeartbeats 2000000 in
/-- The last copy, and the waits. -/
theorem waits_spec {Q : PUnit → sProp 𝕄} :
    iprop(anyH c M.a19 ∗ anyH c M.a4 ∗ fl c (outSm M 0) (nOut M) (pkSl M 26) (outSl M 0) ∗ fl c (outSm M 1) (nOut M) (pkSl M 27) (outSl M 1)
      ∗ (fl c M.a22.sem (nSc M) (scSl M 6) M.a17 ∗ fl c M.a23.sem (nZ M) (zSl M 6) M.a18) ∗ idle c M.a24.sem ∗ owesAny c)
    ⊢ iprop((iprop(anyH c M.a8 ∗ anyH c M.a17 ∗ anyH c M.a18 ∗ anyH c M.a19
        ∗ (idle c (outSm M 0) ∗ idle c (outSm M 1)) ∗ idle c M.a22.sem ∗ idle c M.a23.sem ∗ idle c M.a24.sem ∗ owesAny c) -∗ Q ⟨⟩)
      -∗ runs c (waits (F := Bits) M) Q) := by
  unfold waits
  iintro ⟨H19, H4, F0, F1, ⟨F2, F3⟩, S24, HW⟩ Hk
  iapply (enq_w c (src' := M.a19) (dst' := M.a4) (sem' := M.a24.sem) rfl rfl rfl (show 0 < S1792x256.numel by decide) (N := nQ M) rfl) $$ [H19 H4 S24]
  · isplitl [H19]; · iexact H19
    isplitl [H4]; · iexact H4
    iexact S24
  iintro F4
  iapply (wait_w c (dst := M.a1.slice (Rect.unit (s := S1792x8192) ![1536, 4096] S256x2048.size inb_S1792x8192_S256x2048_1536_4096) (fun _ => rfl)) (outSm_eq 0 (by decide : (![0] : Fin 1 → ℕ) = _)) (N := nOut M) rfl) $$ [F0 HW]
  · isplitl [F0]; · iexact F0
    iexact HW
  iintro ⟨⟨-, O0⟩, T0, HW⟩
  iapply (wait_w c (dst := M.a1.slice (Rect.unit (s := S1792x8192) ![1536, 6144] S256x2048.size inb_S1792x8192_S256x2048_1536_6144) (fun _ => rfl)) (outSm_eq 1 (by decide : (![1] : Fin 1 → ℕ) = _)) (N := nOut M) rfl) $$ [F1 HW]
  · isplitl [F1]; · iexact F1
    iexact HW
  iintro ⟨⟨-, O1⟩, T1, HW⟩
  iapply (wait_w c (dst := M.a2.slice (Rect.unit (s := S1792x256) ![1536, 0] S256x256.size inb_S1792x256_S256x256_1536_0) (fun _ => rfl)) (sem' := M.a22.sem) rfl (N := nSc M) rfl) $$ [F2 HW]
  · isplitl [F2]; · iexact F2
    iexact HW
  iintro ⟨⟨-, O2⟩, T2, HW⟩
  iapply (wait_w c (dst := M.a3.slice (Rect.unit (s := S1792x256) ![1536, 0] S256x256.size inb_S1792x256_S256x256_1536_0) (fun _ => rfl)) (sem' := M.a23.sem) rfl (N := nZ M) rfl) $$ [F3 HW]
  · isplitl [F3]; · iexact F3
    iexact HW
  iintro ⟨⟨-, O3⟩, T3, HW⟩
  iapply (wait_w c (dst := M.a4) (sem' := M.a24.sem) rfl (N := nQ M) rfl) $$ [F4 HW]
  · isplitl [F4]; · iexact F4
    iexact HW
  iintro ⟨⟨-, O4⟩, T4, HW⟩
  iapply (runs_ret c)
  iapply Hk
  isplitl [O0 O1]
  · iapply join8
    isplitl [O1]; · iexact O1
    iexact O0
  isplitl [O2]; · iexact O2
  isplitl [O3]; · iexact O3
  isplitl [O4]; · iexact O4
  isplitl [T0 T1]
  · isplitl [T0]; · iexact T0
    iexact T1
  isplitl [T2]; · iexact T2
  isplitl [T3]; · iexact T3
  isplitl [T4]; · iexact T4
  iexact HW

set_option maxHeartbeats 4000000 in
/-- What follows the loop. -/
theorem epi_spec {Q : PUnit → sProp 𝕄} :
    iprop(Inv c M 28 ∗ anyH c M.a4 ∗ anyH c M.a5 ∗ anyH c M.a6 ∗ anyH c M.a19 ∗ idle c M.a24.sem)
      ⊢ iprop((Post c M -∗ Q ⟨⟩) -∗ runs c (epilog (F := Bits) M) Q) := by
  unfold epilog smemLoad smemLoadElt Post Scr Sems
  simp only [Prog.bind_op, Prog.bind_ret]
  iintro ⟨HI, H4, H5, H6, H19, S24⟩ Hk
  ihave HI := inv_end $$ HI
  icases HI with ⟨I0, I1, I2, I3, -, F0, F1, -, ⟨HF, -, -⟩, HT, HW⟩
  ihave HT := (ent_of_eq (show tabs c M = iprop(has c M.a9 Finset.univ ∗ has c M.a10 Finset.univ ∗ has c M.a11 Finset.univ ∗ has c M.a12 Finset.univ ∗ has c M.a13 Finset.univ
    ∗ has c M.a14 Finset.univ ∗ has c M.a15 Finset.univ ∗ has c M.a16 Finset.univ) from rfl)) $$ HT
  icases HT with ⟨H9, H10, H11, H12, H13, H14, H15, H16⟩
  iapply (load_w c) $$ H16
  iintro %v1 H16
  iapply (load_w c) $$ H6
  iintro %v2 H6
  iapply (store_w c) $$ H6
  iintro H6
  iapply epiBlks_spec $$ [H5 H19 H14]
  · unfold eSt
    isplitl [H5]; · iexact H5
    isplitl [H19]; · iexact H19
    iexact H14
  iintro HE
  ihave HE := (ent_of_eq (show eSt c M = iprop(anyH c M.a5 ∗ anyH c M.a19 ∗ anyH c M.a14) from rfl)) $$ HE
  icases HE with ⟨H5, H19, H14⟩
  iapply waits_spec $$ [H19 H4 F0 F1 HF S24 HW]
  · isplitl [H19]; · iexact H19
    isplitl [H4]; · iexact H4
    isplitl [F0]; · iexact F0
    isplitl [F1]; · iexact F1
    isplitl [HF]; · iexact HF
    isplitl [S24]; · iexact S24
    iexact HW
  iintro ⟨H8, H17, H18, H19, HO, S22, S23, S24, HW⟩
  ihave I0 := (freeI_end 0 (by decide)) $$ I0
  icases I0 with ⟨A0, I0⟩
  ihave I1 := (freeI_end 1 (by decide)) $$ I1
  icases I1 with ⟨A1, I1⟩
  ihave I2 := (freeI_end 2 (by decide)) $$ I2
  icases I2 with ⟨A2, I2⟩
  ihave I3 := (freeI_end 3 (by decide)) $$ I3
  icases I3 with ⟨A3, I3⟩
  iapply Hk
  isplitl [H5]; · iexact H5
  isplitl [H6]; · iexact H6
  isplitr [I0 I1 I2 I3 HO S22 S23 S24 HW]
  · isplitl [A0 A1 A2 A3]
    · iapply join7
      isplitl [A3]; · iexact A3
      isplitl [A2]; · iexact A2
      isplitl [A1]; · iexact A1
      iexact A0
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitr [HW]
  · isplitl [I0 I1 I2 I3]
    · isplitl [I0]; · iexact I0
      isplitl [I1]; · iexact I1
      isplitl [I2]; · iexact I2
      iexact I3
    isplitl [HO]; · iexact HO
    isplitl [S22]; · iexact S22
    isplitl [S23]; · iexact S23
    iexact S24
  iexact HW

/-- The kernel runs. -/
theorem whole_spec {Q : PUnit → sProp 𝕄} :
    Pre c M ⊢ iprop((Post c M -∗ Q ⟨⟩) -∗ runs c (cc0_asym4_double_quant (F := Bits) M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.a21 M.a22 M.a23 M.a24) Q) := by
  rw [kernel_eq]
  unfold Pre Scr Sems
  iintro ⟨H0, H1, H2, H3, H4, H5, H6, ⟨H7, H8, H9, H10, H11, H12, H13, H14, H15, H16, H17, H18, H19⟩, ⟨HI, HO, S22, S23, S24⟩, HW⟩ Hk
  iapply pro_spec $$ [H0 H1 H2 H3 H7 H8 H9 H10 H11 H12 H13 H14 H15 H16 H17 H18 HI HO S22 S23 HW]
  · isplitl [H0]; · iexact H0
    isplitl [H1]; · iexact H1
    isplitl [H2]; · iexact H2
    isplitl [H3]; · iexact H3
    isplitl [H7]; · iexact H7
    isplitl [H8]; · iexact H8
    isplitl [H9 H10 H11 H12 H13 H14 H15 H16]
    · unfold tabs
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [H17]; · iexact H17
    isplitl [H18]; · iexact H18
    isplitl [HI]; · iexact HI
    isplitl [HO]; · iexact HO
    isplitl [S22]; · iexact S22
    isplitl [S23]; · iexact S23
    iexact HW
  iintro HV
  iapply loop_spec $$ HV
  iintro HV
  iapply epi_spec $$ [HV H4 H5 H6 H19 S24]
  · isplitl [HV]; · iexact HV
    isplitl [H4]; · iexact H4
    isplitl [H5]; · iexact H5
    isplitl [H6]; · iexact H6
    isplitl [H19]; · iexact H19
    iexact S24
  iexact Hk

end Cert.Kernel.Stage
-- ==== Proof.KLaunch.lean ====
module

public import proofs.«01_k».proof.Proof.KWhole
public import proofs.«01_k».proof.Proof.Gen.Kernel.Frame
public import proofs.«01_k».proof.Proof.Gen.Kernel.Points
public import Idealize.ShloMosaic.Lib.Pipeline.ValueKit.Geometry

@[expose] public section

/-! The launch of the kernel before idealization, from which its frame follows. -/

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

local notation "𝕄" => MT nD τ sig Unit (Elt Bits) ℕ (UU nD τ) ℕ

/-- Where the launch's own ghost state sits. -/
abbrev EP : Emb (UR sig nD τ) (MT nD τ sig Unit (Elt Bits) ℕ (UU nD τ) ℕ) := embL

/-- What the body is called with at point `t`. -/
def MA (t : Fin cfg0.N) : Args where
  a0 := Memref.whole main_v0
  h0 := Memref.isWhole_whole _
  a1 := Memref.whole main_v1_0
  h1 := Memref.isWhole_whole _
  a2 := Memref.whole main_v1_1
  h2 := Memref.isWhole_whole _
  a3 := Memref.whole main_v1_2
  h3 := Memref.isWhole_whole _
  a4 := Memref.whole main_v1_3
  h4 := Memref.isWhole_whole _
  a5 := win0_0.stage (cfg0.slots t 0)
  h5 := hstage0_0 0
  a6 := win0_1.stage (cfg0.slots t 1)
  h6 := hstage0_1 0
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := Memref.whole cc0_scratch5
  h12 := Memref.isWhole_whole _
  a13 := Memref.whole cc0_scratch6
  h13 := Memref.isWhole_whole _
  a14 := Memref.whole cc0_scratch7
  h14 := Memref.isWhole_whole _
  a15 := Memref.whole cc0_scratch8
  h15 := Memref.isWhole_whole _
  a16 := Memref.whole cc0_scratch9
  h16 := Memref.isWhole_whole _
  a17 := Memref.whole cc0_scratch10
  h17 := Memref.isWhole_whole _
  a18 := Memref.whole cc0_scratch11
  h18 := Memref.isWhole_whole _
  a19 := Memref.whole cc0_scratch12
  h19 := Memref.isWhole_whole _
  a20 := cc0_scratch13
  a21 := cc0_scratch14
  a22 := cc0_scratch15
  a23 := cc0_scratch16
  a24 := cc0_scratch17

theorem body_eq (t : Fin cfg0.N) : bodyAt0 (F := Bits) t
    = cc0_asym4_double_quant (F := Bits) (MA t).a0 (MA t).h0 (MA t).a1 (MA t).h1 (MA t).a2 (MA t).h2 (MA t).a3 (MA t).h3 (MA t).a4 (MA t).h4
      (MA t).a5 (MA t).h5 (MA t).a6 (MA t).h6 (MA t).a7 (MA t).h7 (MA t).a8 (MA t).h8 (MA t).a9 (MA t).h9 (MA t).a10 (MA t).h10
      (MA t).a11 (MA t).h11 (MA t).a12 (MA t).h12 (MA t).a13 (MA t).h13 (MA t).a14 (MA t).h14 (MA t).a15 (MA t).h15 (MA t).a16 (MA t).h16
      (MA t).a17 (MA t).h17 (MA t).a18 (MA t).h18 (MA t).a19 (MA t).h19 (MA t).a20 (MA t).a21 (MA t).a22 (MA t).a23 (MA t).a24 := rfl

/-! Idealize# Whole buffers -/

section Holds

variable (c : Dev nD)

/-- A whole buffer with some contents is held with some contents. -/
theorem any_whole_eq (b : Ref sig .tc) :
    (iprop(∃ f, ((c : Thread nD τ).loc b) ↦{fullShare} f) : sProp 𝕄) = anyH c (Memref.whole b) :=
  congrArg (fun S => (iprop(∃ f, ((c : Thread nD τ).loc b) ↦[S]{fullShare} f) : sProp 𝕄)) (View.set_whole b).symm

theorem any_whole (b : Ref sig .tc) :
    (iprop(∃ f, ((c : Thread nD τ).loc b) ↦{fullShare} f) : sProp 𝕄) ⊢ anyH c (Memref.whole b) := ent_of_eq (any_whole_eq c b)

theorem whole_any (b : Ref sig .tc) :
    anyH c (Memref.whole b) ⊢ (iprop(∃ f, ((c : Thread nD τ).loc b) ↦{fullShare} f) : sProp 𝕄) := ent_of_eq (any_whole_eq c b).symm

end Holds

/-! Idealize# The kernel's own semaphores -/

variable (M : Args)

/-- The nine semaphores of the kernel, in the order of `Sems`. -/
abbrev osem : Fin 9 → SemLoc sig := fun s => match s with
  | ⟨0, _⟩ => .dma (inSm (MA t0_0) 0)
  | ⟨1, _⟩ => .dma (inSm (MA t0_0) 1)
  | ⟨2, _⟩ => .dma (inSm (MA t0_0) 2)
  | ⟨3, _⟩ => .dma (inSm (MA t0_0) 3)
  | ⟨4, _⟩ => .dma (outSm (MA t0_0) 0)
  | ⟨5, _⟩ => .dma (outSm (MA t0_0) 1)
  | ⟨6, _⟩ => .dma (MA t0_0).a22.sem
  | ⟨7, _⟩ => .dma (MA t0_0).a23.sem
  | ⟨8, _⟩ => .dma (MA t0_0).a24.sem

theorem ownSemFacts : Pipeline.OwnSemFacts spec0 osem := by decide

theorem ownSems0_eq (c : Dev nD) :
    (Pipeline.ownSems0 (Ix := Unit) (Name := ℕ) (U := UU nD τ) (Lvl := ℕ) (Val := Elt Bits) (τ := τ) osem c : sProp 𝕄)
      ⊣⊢ Sems c (MA t0_0) := by
  have e : (Pipeline.ownSems0 (Ix := Unit) (Name := ℕ) (U := UU nD τ) (Lvl := ℕ) (Val := Elt Bits) (τ := τ) osem c : sProp 𝕄)
      = iprop(idle c (inSm (MA t0_0) 0) ∗ idle c (inSm (MA t0_0) 1) ∗ idle c (inSm (MA t0_0) 2) ∗ idle c (inSm (MA t0_0) 3)
        ∗ idle c (outSm (MA t0_0) 0) ∗ idle c (outSm (MA t0_0) 1) ∗ idle c (MA t0_0).a22.sem ∗ idle c (MA t0_0).a23.sem ∗ idle c (MA t0_0).a24.sem) := by
    unfold Pipeline.ownSems0
    exact bigSep_univ_eq_bigSepL [(0 : Fin 9), 1, 2, 3, 4, 5, 6, 7, 8] (by decide) (by decide) _
  rw [e]
  unfold Sems
  constructor
  · iintro ⟨H0, H1, H2, H3, H4, H5, H6, H7, H8⟩
    isplitl [H0 H1 H2 H3]
    · isplitl [H0]; · iexact H0
      isplitl [H1]; · iexact H1
      isplitl [H2]; · iexact H2
      iexact H3
    isplitl [H4 H5]
    · isplitl [H4]; · iexact H4
      iexact H5
    isplitl [H6]; · iexact H6
    isplitl [H7]; · iexact H7
    iexact H8
  · iintro ⟨⟨H0, H1, H2, H3⟩, ⟨H4, H5⟩, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The kernel's scratch buffers, with some contents each. -/
theorem scr_in (c : Dev nD) (t : Fin cfg0.N) : (Pipeline.scopedRest (Ix := Unit) (Name := ℕ) (U := UU nD τ) (Lvl := ℕ) (Val := Elt Bits) spec0 c : sProp 𝕄) ⊢ Scr c (MA t) := by
  rw [scopedRest0_eq]
  unfold Scr
  iintro ⟨H0, H1, H2, H3, H4, H5, H6, H7, H8, H9, H10, H11, H12⟩
  isplitl [H0]; · iapply (any_whole c cc0_scratch0); iexact H0
  isplitl [H1]; · iapply (any_whole c cc0_scratch1); iexact H1
  isplitl [H2]; · iapply (any_whole c cc0_scratch2); iexact H2
  isplitl [H3]; · iapply (any_whole c cc0_scratch3); iexact H3
  isplitl [H4]; · iapply (any_whole c cc0_scratch4); iexact H4
  isplitl [H5]; · iapply (any_whole c cc0_scratch5); iexact H5
  isplitl [H6]; · iapply (any_whole c cc0_scratch6); iexact H6
  isplitl [H7]; · iapply (any_whole c cc0_scratch7); iexact H7
  isplitl [H8]; · iapply (any_whole c cc0_scratch8); iexact H8
  isplitl [H9]; · iapply (any_whole c cc0_scratch9); iexact H9
  isplitl [H10]; · iapply (any_whole c cc0_scratch10); iexact H10
  isplitl [H11]; · iapply (any_whole c cc0_scratch11); iexact H11
  iapply (any_whole c cc0_scratch12); iexact H12

theorem scr_out (c : Dev nD) (t : Fin cfg0.N) : Scr c (MA t) ⊢ (Pipeline.scopedRest (Ix := Unit) (Name := ℕ) (U := UU nD τ) (Lvl := ℕ) (Val := Elt Bits) spec0 c : sProp 𝕄) := by
  rw [scopedRest0_eq]
  unfold Scr
  iintro ⟨H0, H1, H2, H3, H4, H5, H6, H7, H8, H9, H10, H11, H12⟩
  isplitl [H0]; · iapply (whole_any c cc0_scratch0); iexact H0
  isplitl [H1]; · iapply (whole_any c cc0_scratch1); iexact H1
  isplitl [H2]; · iapply (whole_any c cc0_scratch2); iexact H2
  isplitl [H3]; · iapply (whole_any c cc0_scratch3); iexact H3
  isplitl [H4]; · iapply (whole_any c cc0_scratch4); iexact H4
  isplitl [H5]; · iapply (whole_any c cc0_scratch5); iexact H5
  isplitl [H6]; · iapply (whole_any c cc0_scratch6); iexact H6
  isplitl [H7]; · iapply (whole_any c cc0_scratch7); iexact H7
  isplitl [H8]; · iapply (whole_any c cc0_scratch8); iexact H8
  isplitl [H9]; · iapply (whole_any c cc0_scratch9); iexact H9
  isplitl [H10]; · iapply (whole_any c cc0_scratch10); iexact H10
  isplitl [H11]; · iapply (whole_any c cc0_scratch11); iexact H11
  iapply (whole_any c cc0_scratch12); iexact H12

/-! Idealize# The pipeline's proof data -/

theorem stage5 (c : Dev nD) : (iprop(∃ f, (st0_0 t0_0).view.loc (c : Thread nD τ) ↦[(st0_0 t0_0).view.set]{fullShare} f) : sProp 𝕄) ⊣⊢ anyH c (MA t0_0).a5 :=
  ⟨ent_of_eq rfl, ent_of_eq rfl⟩

theorem stage6 (c : Dev nD) : (iprop(∃ f, (st0_1 t0_0).view.loc (c : Thread nD τ) ↦[(st0_1 t0_0).view.set]{fullShare} f) : sProp 𝕄) ⊣⊢ anyH c (MA t0_0).a6 :=
  ⟨ent_of_eq rfl, ent_of_eq rfl⟩

theorem owesAny_eq (c : Dev nD) : (owesAny c : sProp 𝕄) = iprop(∃ W, owes (c : Thread nD τ) 0 W) := rfl

theorem owesAny_of (c : Dev nD) (W) : (owes (c : Thread nD τ) 0 W : sProp 𝕄) ⊢ owesAny c := by
  rw [owesAny_eq]
  iintro H
  iexists W
  iexact H

section Run

variable (m : (ℓ : Loc nD τ sig) → Buf (Elt Bits) ℓ) (g : Dev nD → PrngReg)

/-- The buffers, scratch and semaphores the body finds. -/
def Φin (c : Dev nD) (t : Fin cfg0.N) : sProp 𝕄 :=
  iprop(anyH c (MA t).a0 ∗ anyH c (MA t).a1 ∗ anyH c (MA t).a2 ∗ anyH c (MA t).a3 ∗ anyH c (MA t).a4 ∗ Scr c (MA t) ∗ Sems c (MA t))

/-- What of them the launch needs afterwards. -/
def Φout (c : Dev nD) (t : Fin cfg0.N) : sProp 𝕄 := iprop(Scr c (MA t) ∗ Sems c (MA t))

/-- What the kernel owns before the point, and after it. -/
def ΦAt (c : Dev nD) (n : ℕ) : sProp 𝕄 := if n = 0 then Φin c t0_0 else Φout c t0_0

theorem ΦAt_zero (c : Dev nD) : ΦAt c 0 = Φin c t0_0 := if_pos rfl
theorem ΦAt_one (c : Dev nD) : ΦAt c 1 = Φout c t0_0 := if_neg (by decide)

/-- The launch's data: what the kernel owns around the point. Of what it leaves in the two staged results nothing is claimed. -/
def dats (_ : Fin 1) (c : Dev nD) : Dat τ (Elt Bits) Unit ℕ (UU nD τ) ℕ cfg0 c where
  A w := V (F := Bits) m c (Pipeline.arrRef spec0 w)
  after w t := Classical.choice inferInstance
  Φ k := ΦAt c k.val
  q _ := fullShare
  owed _ := 0

theorem defs_tc : (defs₀ (F := Bits)) .tc cfg0.body
    = fun a => cc0_asym4_double_quant (F := Bits) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (win0_0.stage (a.2 0)) (hstage0_0 0) (win0_1.stage (a.2 1)) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 := rfl

theorem prog_eq (t : Fin cfg0.N) : (defs₀ (F := Bits)) .tc cfg0.body (cfg0.bodyArgs t (cfg0.slots t)) = bodyAt0 (F := Bits) t :=
  (congrFun defs_tc _).trans rfl

set_option backward.isDefEq.respectTransparency.types false in
set_option maxHeartbeats 1000000 in
/-- The body's obligation at the launch's one point. -/
theorem body_obligation (c : Dev nD) : BodyObligation (dats m 0 c) (defs₀ (F := Bits)) 𝒱₀ () Set.univ (fun _ => true) := fun t => by
  obtain rfl := fin_N0 t
  rw [bigSep_W0]
  dsimp only
  rw [show (dats m 0 c).Φ t0_0.castSucc = Φin c t0_0 from ΦAt_zero c, show (dats m 0 c).Φ t0_0.succ = Φout c t0_0 from ΦAt_one c]
  unfold Dat.owesAt Pipeline.owesWithin
  rw [show (dats m 0 c).owed t0_0.castSucc = 0 from rfl, show (dats m 0 c).owed t0_0.succ = 0 from rfl]
  unfold owns Φin Φout
  iintro ⟨⟨H0, H1, H2, H3, H4, HS, HM⟩, ⟨%W, -, HW⟩, ⟨%d0, %g0, -, H5⟩, ⟨%d1, %g1, -, H6⟩⟩
  sl_rw [prog_eq t0_0, body_eq t0_0]
  iapply (whole_spec (c := c) (M := MA t0_0)) $$ [H0 H1 H2 H3 H4 H5 H6 HS HM HW]
  · unfold Pre
    isplitl [H0]; · iexact H0
    isplitl [H1]; · iexact H1
    isplitl [H2]; · iexact H2
    isplitl [H3]; · iexact H3
    isplitl [H4]; · iexact H4
    isplitl [H5]
    · iapply (stage5 c).1; iexists g0; iexact H5
    isplitl [H6]
    · iapply (stage6 c).1; iexists g1; iexact H6
    isplitl [HS]; · iexact HS
    isplitl [HM]; · iexact HM
    iapply (owesAny_of c W); iexact HW
  · unfold Post
    iintro ⟨H5, H6, HS, HM, HO⟩
    ihave HO := (ent_of_eq (owesAny_eq c)) $$ HO
    icases HO with ⟨%W', HW⟩
    ihave H5 := (stage5 c).2 $$ H5
    icases H5 with ⟨%f5, H5⟩
    ihave H6 := (stage6 c).2 $$ H6
    icases H6 with ⟨%f6, H6⟩
    isplitl [HS HM]
    · isplitl [HS]; · iexact HS
      iexact HM
    isplitl [HW]
    · iexists W'; isplitr; · ipureintro; exact fun _ _ => Or.inl trivial
      iexact HW
    isplitl [H5]
    · iexists _; iexists f5; isplitr; · ipureintro; rfl
      iexact H5
    iexists _; iexists f6; isplitr; · ipureintro; rfl
    iexact H6

/-! Idealize# The run -/

/-- What the launch hands over. -/
def into (c : Dev nD) : sProp 𝕄 :=
  iprop(anyH c (MA t0_0).a0 ∗ anyH c (MA t0_0).a1 ∗ anyH c (MA t0_0).a2 ∗ anyH c (MA t0_0).a3 ∗ anyH c (MA t0_0).a4 ∗ Sems c (MA t0_0))

def kept (c : Dev nD) : sProp 𝕄 := ((c : Thread nD τ).loc main_arg0) ↦{fullShare} V (F := Bits) m c main_arg0

/-- The operand is as it was. -/
def QY (c : Dev nD) (s : MemSt nD τ sig (Elt Bits)) : Prop :=
  s.mem ((c : Thread nD τ).loc main_arg0) = V (F := Bits) m c main_arg0

def u₀ : UU nD τ := (initOf (Pipeline.cells cfgs cellOf_inj) (Pipeline.launchToks cfgs cellOf_inj), 1)

set_option backward.isDefEq.respectTransparency.types false in
set_option maxHeartbeats 1000000 in
/-- Every run ends, with the operand as it was and every semaphore at zero. -/
theorem run_frame : θ_run (defs (F := Bits)) (onTc (τ := τ) (main (F := Bits))) ⟨m, fun _ => 0, g⟩
    (fun r => (∀ c : Dev nD, r.2.mem ((c : Thread nD τ).loc main_arg0) = m ((c : Thread nD τ).loc main_arg0)) ∧ r.2.sem = fun _ => 0) :=
  Pipeline.θ_run_region_kit_forget_quiescent cfgs (dats m) () (0 : Fin 1) launch0 ownSemFacts EP (defs₀ (F := Bits)) 𝒱₀ (fun _ => true) m g (main (F := Bits))
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => V (F := Bits) m c b)
    (hmain := Pipeline.hmain_prefix cfgs 0 (defs₀ (F := Bits)) 𝒱₀ m (main (F := Bits)) hostOps0 hostOps0_sub hostOps0_fresh main_chain)
    (hA := fun _ _ => rfl)
    (X := fun c => into c) (Y := fun _ => iprop(emp)) (Z := kept m)
    (hX := fun c => by
      rw [unscopedRest0_eq]
      unfold into kept
      iintro ⟨⟨HA, H0, H1, H2, H3, H4⟩, HS, -, -, -⟩; imodintro
      isplitr [HA]
      · isplitl [H0]; · iapply (any_whole c main_v0); iexists _; iexact H0
        isplitl [H1]; · iapply (any_whole c main_v1_0); iexists _; iexact H1
        isplitl [H2]; · iapply (any_whole c main_v1_1); iexists _; iexact H2
        isplitl [H3]; · iapply (any_whole c main_v1_2); iexists _; iexact H3
        isplitl [H4]; · iapply (any_whole c main_v1_3); iexists _; iexact H4
        iapply (ownSems0_eq c).1; iexact HS
      iexact HA)
    (hin := fun c => by
      rw [show (dats m 0 c).Φ 0 = Φin c t0_0 from ΦAt_zero c]
      unfold into Φin
      iintro ⟨⟨H0, H1, H2, H3, H4, HM⟩, Hb⟩
      isplitl [H0]; · iexact H0
      isplitl [H1]; · iexact H1
      isplitl [H2]; · iexact H2
      isplitl [H3]; · iexact H3
      isplitl [H4]; · iexact H4
      isplitl [Hb]; · iapply (scr_in c t0_0); iexact Hb
      iexact HM)
    (hout := fun c => by
      rw [show (dats m 0 c).Φ (Fin.last cfg0.N) = Φout c t0_0 from ΦAt_one c]
      unfold Φout
      iintro ⟨HS, HM⟩
      isplitr; · iempintro
      isplitl [HM]; · iapply (ownSems0_eq c).2; iexact HM
      iapply (scr_out c t0_0); iexact HS)
    (QY := QY m)
    (hY := fun c s' => by
      unfold kept
      iintro ⟨-, HA, HSI⟩
      icombine HSI HA gives %h0
      imodintro
      isplitr
      · ipureintro
        exact Buf.eq_of_forall_mem_univ h0
      iexact HSI)
    (hQ := fun _ hh hz => ⟨fun c => ((hh c).2).trans (V_main_arg0 m c), hz⟩)

end Run

end Cert.Kernel.Stage

end
-- ==== Proof.Arith.lean ====
module

public import proofs.«01_k».proof.Proof.Quant
public import Idealize.ShloMosaic.Lib.IdealHost

@[expose] public section

/-! Arithmetic of the two quantisers over the extended reals. -/

noncomputable section

namespace Cert.KernelIdeal.Stage

open Idealize.ShloMosaic Idealize.ShloMosaic.TcCoe Idealize.SL.Sem Cert.KernelIdeal Cert.KernelIdeal.Gen
open Idealize.ShloMosaic.ValueIdx

/-- Rounding to the nearest integer, ties to even. -/
abbrev rnd (x : EReal) : EReal := Ideal.liftRound Ideal.roundHalfEven x

/-- The clip to `[0, 15]`. -/
abbrev clip15 (x : EReal) : EReal := min ((15 : ℝ) : EReal) (max 0 x)

theorem clip15_mem (x : EReal) : ∃ r : ℝ, clip15 x = (r : EReal) ∧ 0 ≤ r ∧ r ≤ 15 := by
  have h0 : (0 : EReal) ≤ clip15 x := le_min (by exact_mod_cast (by norm_num : (0:ℝ) ≤ 15)) (le_max_left _ _)
  have h1 : clip15 x ≤ ((15 : ℝ) : EReal) := min_le_left _ _
  generalize clip15 x = y at h0 h1
  induction y using EReal.rec with
  | bot => exact absurd h0 (by simp)
  | top => exact absurd h1 (by simp)
  | coe r => exact ⟨r, rfl, by exact_mod_cast h0, by exact_mod_cast h1⟩

/-- The integer part of a number within a byte is the same at both widths. -/
theorem fptosi_small (r : ℝ) (h0 : -127 ≤ r) (h1 : r ≤ 127) :
    ∃ n : ℤ, -127 ≤ n ∧ n ≤ 127 ∧ (0 ≤ r → 0 ≤ n) ∧ (r ≤ 15 → n ≤ 15) ∧ Ideal.fptosi 8 (r : EReal) = BitVec.ofInt 8 n ∧ Ideal.fptosi 32 (r : EReal) = BitVec.ofInt 32 n := by
  have key : ∃ n : ℤ, (if 0 ≤ r then ⌊r⌋ else ⌈r⌉) = n ∧ -127 ≤ n ∧ n ≤ 127 ∧ (0 ≤ r → 0 ≤ n) ∧ (r ≤ 15 → n ≤ 15) := by
    refine ⟨_, rfl, ?_⟩
    split
    · rename_i h
      have a := Int.floor_nonneg.2 h
      have b : ⌊r⌋ ≤ 127 := by have := Int.floor_le_floor h1; simpa using this
      refine ⟨by omega, b, fun _ => a, fun h15 => ?_⟩
      have := Int.floor_le_floor h15; simpa using this
    · rename_i h
      have h' : r ≤ 0 := le_of_lt (not_le.1 h)
      have a : ⌈r⌉ ≤ 0 := by have := Int.ceil_le_ceil h'; simpa using this
      have b : -127 ≤ ⌈r⌉ := by exact_mod_cast h0.trans (Int.le_ceil r)
      exact ⟨b, by omega, fun h'' => absurd h'' h, fun _ => by omega⟩
  obtain ⟨n, hn, a, b, p, q⟩ := key
  refine ⟨n, a, b, p, q, ?_, ?_⟩
  · unfold Ideal.fptosi
    rw [Ideal.toIntClamped_coe, hn]
    congr 1; norm_num; omega
  · unfold Ideal.fptosi
    rw [Ideal.toIntClamped_coe, hn]
    congr 1; norm_num; omega

theorem setWidth_ofInt8 (n : ℤ) : (BitVec.ofInt 32 n).setWidth 8 = BitVec.ofInt 8 n := by
  apply BitVec.eq_of_toNat_eq
  simp only [BitVec.toNat_setWidth, BitVec.toNat_ofInt]
  omega

theorem fptosi_setWidth (r : ℝ) (h0 : -127 ≤ r) (h1 : r ≤ 127) : (Ideal.fptosi 32 (r : EReal)).setWidth 8 = Ideal.fptosi 8 (r : EReal) := by
  obtain ⟨n, -, -, -, -, e8, e32⟩ := fptosi_small r h0 h1
  rw [e8, e32, setWidth_ofInt8]

theorem pair_ints : ∀ a b : Fin 16, (BitVec.ofInt 32 (a.val : ℤ) <<< 4 ||| BitVec.ofInt 32 (b.val : ℤ)).setWidth 8
    = BitVec.ofInt 8 (a.val : ℤ) <<< 4 ||| BitVec.ofInt 8 (b.val : ℤ) := by decide

/-- Two codes put together as words and cut to a byte are the two codes put together as bytes. -/
theorem pair_byte (x y : EReal) :
    (Ideal.fptosi 32 (clip15 x) <<< 4 ||| Ideal.fptosi 32 (clip15 y)).setWidth 8 = Ideal.fptosi 8 (clip15 x) <<< 4 ||| Ideal.fptosi 8 (clip15 y) := by
  obtain ⟨r, hr, r0, r1⟩ := clip15_mem x
  obtain ⟨s, hs, s0, s1⟩ := clip15_mem y
  rw [hr, hs]
  obtain ⟨n, -, -, n0, n1, e8, e32⟩ := fptosi_small r (by linarith) (by linarith)
  obtain ⟨k, -, -, k0, k1, f8, f32⟩ := fptosi_small s (by linarith) (by linarith)
  have n0 := n0 r0
  have n1 := n1 r1
  have k0 := k0 s0
  have k1 := k1 s1
  rw [e8, e32, f8, f32]
  have := pair_ints ⟨n.toNat, by omega⟩ ⟨k.toNat, by omega⟩
  simpa only [Int.toNat_of_nonneg n0, Int.toNat_of_nonneg k0] using this

/-- An integer kept within a byte before a zero point is added to it clips to the same code. -/
theorem clip_byte (u z : EReal) (hu : ∃ x, u = rnd x) (hz : ∃ r : ℝ, z = (r : EReal) ∧ 0 ≤ r ∧ r ≤ 15) :
    clip15 ((((Ideal.fptosi 8 u).toInt : ℝ) : EReal) + z) = clip15 (u + z) := by
  obtain ⟨x, rfl⟩ := hu
  obtain ⟨r, rfl, r0, r1⟩ := hz
  have lowC : ∀ a : ℝ, a ≤ 0 → clip15 (a : EReal) = 0 := fun a ha => by
    have : max (0 : EReal) (a : EReal) = 0 := max_eq_left (by exact_mod_cast ha)
    show min _ (max _ _) = _
    rw [this]
    exact min_eq_right (by exact_mod_cast (by norm_num : (0:ℝ) ≤ 15))
  have highC : ∀ a : ℝ, 15 ≤ a → clip15 (a : EReal) = ((15 : ℝ) : EReal) := fun a ha => by
    show min _ (max _ _) = _
    refine min_eq_left (le_trans ?_ (le_max_right _ _))
    exact_mod_cast ha
  have toI : ∀ k : ℤ, -128 ≤ k → k ≤ 127 → (BitVec.ofInt 8 k).toInt = k := fun k a b => by
    rw [BitVec.toInt_ofInt]
    have : (2 ^ 8 : ℕ) = 256 := by norm_num
    rw [this, Int.bmod_def]
    omega
  induction x using EReal.rec with
  | bot =>
    show clip15 ((((BitVec.ofInt 8 (-128)).toInt : ℝ) : EReal) + _) = clip15 (⊥ + _)
    rw [toI _ (by norm_num) (by norm_num), EReal.bot_add, ← EReal.coe_add, lowC _ (by push_cast; linarith)]
    show _ = min _ (max _ _)
    simp
  | top =>
    show clip15 ((((BitVec.ofInt 8 (127)).toInt : ℝ) : EReal) + _) = clip15 (⊤ + _)
    rw [toI _ (by norm_num) (by norm_num), EReal.top_add_coe, ← EReal.coe_add, highC _ (by push_cast; linarith)]
    show _ = min _ (max _ _)
    simp
  | coe q =>
    show clip15 ((((Ideal.fptosi 8 (((Ideal.roundHalfEven q : ℤ) : ℝ) : EReal)).toInt : ℝ) : EReal) + _) = clip15 ((((Ideal.roundHalfEven q : ℤ) : ℝ) : EReal) + _)
    generalize Ideal.roundHalfEven q = n
    have e : Ideal.fptosi 8 (((n : ℤ) : ℝ) : EReal) = BitVec.ofInt 8 (max (-128) (min 127 n)) := by
      unfold Ideal.fptosi
      rw [Ideal.toIntClamped_coe, Int.floor_intCast, Int.ceil_intCast, ite_self]
      norm_num
    rw [e, toI _ (by omega) (by omega), ← EReal.coe_add, ← EReal.coe_add]
    rcases le_total n (-128) with h | h
    · rw [lowC, lowC]
      · have : (n : ℝ) ≤ -128 := by exact_mod_cast h
        linarith
      · rw [show max (-128) (min 127 n) = -128 by omega]; push_cast; linarith
    · rcases le_total 127 n with h' | h'
      · rw [highC, highC]
        · have : (127 : ℝ) ≤ n := by exact_mod_cast h'
          linarith
        · rw [show max (-128) (min 127 n) = 127 by omega]; push_cast; linarith
      · rw [show max (-128) (min 127 n) = n by omega]

/-- A byte of two codes, as the reference writes it. -/
theorem byteR_eq (a b r z : EReal) (hz : ∃ q : ℝ, z = (q : EReal) ∧ 0 ≤ q ∧ q ≤ 15) :
    byteR a b r z = (Ideal.fptosi 32 (clip15 (rnd (a * r) + z)) <<< 4 ||| Ideal.fptosi 32 (clip15 (rnd (b * r) + z))).setWidth 8 := by
  have e : ∀ v, codeR v r z = Ideal.fptosi 8 (clip15 (rnd (v * r) + z)) := fun v => by
    rw [← clip_byte _ _ ⟨_, rfl⟩ hz]
    show Ideal.fptosi 8 (min (Ideal.ofBits .f32 0x41700000#32) (max (Ideal.ofBits .f32 0x00000000#32) _)) = _
    rw [Ideal.ofBits_zero_f32, ofBits_15]
    rfl
  rw [pair_byte, ← e, ← e]
  rfl

/-- The scale of a block, from its extremes. -/
theorem sgR_eq (mx mn : EReal) : sgR mx mn
    = if Ideal.div (mx - mn) ((15 : ℝ) : EReal) = 0 then 1 else Ideal.div (mx - mn) ((15 : ℝ) : EReal) := by
  show (if BitVec.ofBool (decide (Ideal.div (mx - mn) (Ideal.ofBits .f32 0x41700000#32) = Ideal.ofBits .f32 0x00000000#32)) = 1#1
    then Ideal.ofBits .f32 0x3F800000#32 else Ideal.div (mx - mn) (Ideal.ofBits .f32 0x41700000#32)) = _
  rw [Ideal.ofBits_zero_f32, ofBits_15, Ideal.ofBits_one_f32]
  by_cases h : Ideal.div (mx - mn) ((15 : ℝ) : EReal) = 0
  · simp [h]
  · simp [h]

theorem sgR_ne (mx mn : EReal) : sgR mx mn ≠ 0 := by
  rw [sgR_eq]
  split
  · exact one_ne_zero
  · assumption

/-- The zero point of a block, as the reference writes it. -/
theorem zR_eq (mn sg : EReal) (h : sg ≠ 0) : zR mn (recR sg) = clip15 (rnd (Ideal.div (-mn) sg)) := by
  show min (Ideal.ofBits .f32 0x41700000#32) (max (Ideal.ofBits .f32 0x00000000#32) (rnd ((Ideal.ofBits .f32 0x00000000#32 - mn) * Ideal.div (Ideal.ofBits .f32 0x3F800000#32) sg))) = _
  rw [Ideal.ofBits_zero_f32, ofBits_15, Ideal.ofBits_one_f32, Ideal.mul_one_div h, zero_sub]

theorem mul_recR (v sg : EReal) (h : sg ≠ 0) : v * recR sg = Ideal.div v sg := by
  show v * Ideal.div (Ideal.ofBits .f32 0x3F800000#32) sg = _
  rw [Ideal.ofBits_one_f32, Ideal.mul_one_div h]

end Cert.KernelIdeal.Stage

end
-- ==== Proof.RefVal.lean ====
module

public import proofs.«01_k».proof.Proof.Arith
public import proofs.«01_k».proof.Proof.Epi
public import proofs.«01_k».proof.Proof.Gen.ReferenceIdeal
public import proofs.«01_k».proof.Proof.Gen.ReferenceIdeal.Run
public import Idealize.ShloMosaic.Lib.KernelVsHost
public import Idealize.ShloMosaic.Lib.Pointwise.Index
public import Idealize.ShloMosaic.Lib.Pointwise.ShapeOpsCore

@[expose] public section

/-! The reference's results over the extended reals, element by element, and the kernel's against them. -/

noncomputable section

namespace Cert.Values

open Cert.ReferenceIdeal Cert.ReferenceIdeal.Gen
open Idealize.ShloMosaic hiding ix2 ix3
open Idealize.ShloMosaic.TcCoe Idealize.ShloMosaic.ValueIdx
open Cert.KernelIdeal.Stage (extAll EX SG RC ZP sgR zR recR byteAt byteR zByte pkV scV zV offW s2E qE rawW accN rowOf blkOf clip15 rnd)

/-! ### Folds and sums -/

theorem fold_max {n : ℕ} (f : Fin n → EReal) : (Finset.univ : Finset (Fin n)).fold max ⊥ f = ⨆ i, f i :=
  eq_of_forall_ge_iff fun c => by rw [Finset.fold_max_le, iSup_le_iff]; simp

theorem fold_min {n : ℕ} (f : Fin n → EReal) : (Finset.univ : Finset (Fin n)).fold min ⊤ f = ⨅ i, f i :=
  eq_of_forall_le_iff fun c => by rw [Finset.le_fold_min, le_iInf_iff]; simp

theorem ofBits_ninf : Ideal.ofBits .f32 0xFF800000#32 = ⊥ := by simp [Ideal.ofBits, Ideal.ieee]

theorem ofBits_inf : Ideal.ofBits .f32 0x7F800000#32 = ⊤ := by simp [Ideal.ofBits, Ideal.ieee]

theorem sum_mul (h : ℕ → EReal) (a b : ℕ) : ∑ i ∈ Finset.range (a * b), h i = ∑ p ∈ Finset.range a, ∑ q ∈ Finset.range b, h (b * p + q) := by
  induction a with
  | zero => simp
  | succ a ih => rw [Nat.succ_mul, Finset.sum_range_add, ih, Finset.sum_range_succ, Nat.mul_comm a b]

/-- The kernel's order of summing the scales gives the sum of them all. -/
theorem sum_order (f : ℕ → ℕ → EReal) :
    ∑ b ∈ Finset.range 8, ∑ y ∈ Finset.range 128, ∑ n ∈ Finset.range 224, (f (rowOf n y) (blkOf n b) + f (rowOf n (128 + y)) (blkOf n b))
      = ∑ r ∈ Finset.range 1792, ∑ k ∈ Finset.range 256, f r k := by
  have e1 : ∀ b y, ∑ n ∈ Finset.range 224, (f (rowOf n y) (blkOf n b) + f (rowOf n (128 + y)) (blkOf n b))
      = ∑ p ∈ Finset.range 7, ∑ q ∈ Finset.range 32, (f (256 * p + y) (8 * q + b) + f (256 * p + (128 + y)) (8 * q + b)) := fun b y => by
    rw [show (224 : ℕ) = 7 * 32 from rfl, sum_mul]
    refine Finset.sum_congr rfl fun p hp => Finset.sum_congr rfl fun q hq => ?_
    have hq := Finset.mem_range.1 hq
    have a1 : (32 * p + q) / 32 = p := by omega
    have a2 : (32 * p + q) % 32 = q := by omega
    simp only [rowOf, blkOf, a1, a2]
  have e2 : ∀ r, ∑ k ∈ Finset.range 256, f r k = ∑ q ∈ Finset.range 32, ∑ b ∈ Finset.range 8, f r (8 * q + b) := fun r => by
    rw [show (256 : ℕ) = 32 * 8 from rfl, sum_mul]
  have e3 : ∑ r ∈ Finset.range 1792, ∑ k ∈ Finset.range 256, f r k
      = ∑ p ∈ Finset.range 7, ∑ y ∈ Finset.range 128, ∑ q ∈ Finset.range 32, ∑ b ∈ Finset.range 8, (f (256 * p + y) (8 * q + b) + f (256 * p + (128 + y)) (8 * q + b)) := by
    rw [show (1792 : ℕ) = 7 * 256 from rfl, sum_mul]
    refine Finset.sum_congr rfl fun p _ => ?_
    rw [show (256 : ℕ) = 128 + 128 from rfl, Finset.sum_range_add, ← Finset.sum_add_distrib]
    refine Finset.sum_congr rfl fun y _ => ?_
    rw [show 128 + 128 = 256 from rfl, e2, e2, ← Finset.sum_add_distrib]
    refine Finset.sum_congr rfl fun q _ => ?_
    rw [← Finset.sum_add_distrib]
  rw [e3]
  simp only [e1]
  rw [Finset.sum_comm]
  rw [Finset.sum_comm (s := Finset.range 7)]
  refine Finset.sum_congr rfl fun y _ => ?_
  rw [Finset.sum_comm]
  refine Finset.sum_congr rfl fun p _ => ?_
  rw [Finset.sum_comm]

/-! ### The reference's terms -/

variable (X : FVec Ideal S2x896x16384 .bf16)

/-- The operand in blocks of 64. -/
def bT : FVec Ideal S1792x256x64 .f32 := shapeCast _ (extf .f32 X bitsLt_bf16_f32) shapeCasts_S2x896x16384_S1792x256x64
def mxT : FVec Ideal S1792x256 .f32 := Host.reduce FloatOps.maximumf (bT X) (constant S_ .f32 0xFF800000#32) reducesTo_S1792x256x64_S1792x256_d2 h_S_
def mnT : FVec Ideal S1792x256 .f32 := Host.reduce FloatOps.minimumf (bT X) (constant S_ .f32 0x7F800000#32) reducesTo_S1792x256x64_S1792x256_d2 h_S_
/-- The scales, from the blocks' extremes. -/
def sgOf (mx mn : FVec Ideal S1792x256 .f32) : FVec Ideal S1792x256 .f32 :=
  select (cmpf .oeq (Host.divf (subf mx mn) (broadcastInDim S1792x256 ![] bcast_S_S1792x256 (constant S_ .f32 0x41700000#32))) (broadcastInDim S1792x256 ![] bcast_S_S1792x256 (constant S_ .f32 0x00000000#32)))
    (broadcastInDim S1792x256 ![] bcast_S_S1792x256 (id (constant S_ .f32 0x3F800000#32))) (Host.divf (subf mx mn) (broadcastInDim S1792x256 ![] bcast_S_S1792x256 (constant S_ .f32 0x41700000#32)))
/-- The zero points, from the blocks' minima and scales. -/
def zOf (mn sg : FVec Ideal S1792x256 .f32) : FVec Ideal S1792x256 .f32 :=
  minimumf (broadcastInDim S1792x256 ![] bcast_S_S1792x256 (id (constant S_ .f32 0x41700000#32)))
    (maximumf (broadcastInDim S1792x256 ![] bcast_S_S1792x256 (id (constant S_ .f32 0x00000000#32))) (Host.roundeven (Host.divf (Host.negf mn) sg)))
/-- A block's number at each of its entries. -/
def spread (v : FVec Ideal S1792x256 .f32) : FVec Ideal S1792x256x64 .f32 :=
  broadcastInDim S1792x256x64 ![0, 1, 2] bcast_S1792x256x1_S1792x256x64_0_1_2 (broadcastInDim S1792x256x1 ![0, 1] bcast_S1792x256_S1792x256x1_0_1 v)
/-- The codes, as words. -/
def codeOf (x sg z : FVec Ideal S1792x256x64 .f32) : IVec S1792x256x64 32 :=
  fptosi 32 (minimumf (broadcastInDim S1792x256x64 ![] bcast_S_S1792x256x64 (id (constant S_ .f32 0x41700000#32)))
    (maximumf (broadcastInDim S1792x256x64 ![] bcast_S_S1792x256x64 (id (constant S_ .f32 0x00000000#32))) (addf (Host.roundeven (Host.divf x sg)) z)))
/-- Two codes to a byte, the even one above the odd one. -/
def pkOf (v : IVec S1792x16384 32) : IVec S1792x8192 8 :=
  trunci 8 (ori (Host.shli (Host.slice S1792x8192 ![0, 0] ![1, 2] v slicesBy_S1792x16384_S1792x8192_0s1_0s2) (broadcastInDim S1792x8192 ![] bcast_S_S1792x8192 (constantI S_ 32 4#32)))
    (Host.slice S1792x8192 ![0, 1] ![1, 2] v slicesBy_S1792x16384_S1792x8192_0s1_1s2)) natLt_8_32
/-- The mean of the scales. -/
def offOf (sg : FVec Ideal S1792x256 .f32) : FVec Ideal S_ .f32 :=
  Host.divf (Host.reduceAdd sg (constant S_ .f32 0x00000000#32) reducesTo_S1792x256_S_d0_1 h_S_) (constant S_ .f32 0x48E00000#32)
/-- The scales less a number. -/
def cenOf (sg : FVec Ideal S1792x256 .f32) (off : FVec Ideal S_ .f32) : FVec Ideal S1792x256 .f32 := subf sg (broadcastInDim S1792x256 ![] bcast_S_S1792x256 off)
/-- The scales of the scales. -/
def s2Of (cen : FVec Ideal S1792x256 .f32) : FVec Ideal S1792 .f32 :=
  Host.divf (Host.reduce FloatOps.maximumf (Host.absf cen) (constant S_ .f32 0xFF800000#32) reducesTo_S1792x256_S1792_d1 h_S_) (broadcastInDim S1792 ![] bcast_S_S1792 (constant S_ .f32 0x42FE0000#32))
/-- A row's number at each of its blocks. -/
def rowsOf (v : FVec Ideal S1792 .f32) : FVec Ideal S1792x256 .f32 := broadcastInDim S1792x256 ![0, 1] bcast_S1792x1_S1792x256_0_1 (broadcastInDim S1792x1 ![0] bcast_S1792_S1792x1_0 v)
/-- The codes of the scales. -/
def qOf (cen s2 : FVec Ideal S1792x256 .f32) : IVec S1792x256 8 :=
  trunci 8 (fptosi 32 (minimumf (broadcastInDim S1792x256 ![] bcast_S_S1792x256 (sitofp .f32 (constantI S_ 32 127#32)))
    (maximumf (broadcastInDim S1792x256 ![] bcast_S_S1792x256 (sitofp .f32 (constantI S_ 32 4294967169#32))) (Host.roundeven (Host.divf cen s2))))) natLt_8_32

def sgT : FVec Ideal S1792x256 .f32 := sgOf (mxT X) (mnT X)
def zT : FVec Ideal S1792x256 .f32 := zOf (mnT X) (sgT X)
def codeT : IVec S1792x256x64 32 := codeOf (bT X) (spread (sgT X)) (spread (zT X))
def rowT : IVec S1792x16384 32 := shapeCast _ (codeT X) shapeCasts_S1792x256x64_S1792x16384
def pkT : IVec S1792x8192 8 := pkOf (rowT X)
def zuT : IVec S1792x256 8 := trunci 8 (fptosi 32 (zT X)) natLt_8_32
def offT : FVec Ideal S_ .f32 := offOf (sgT X)
def cenT : FVec Ideal S1792x256 .f32 := cenOf (sgT X) (offT X)
def s2T : FVec Ideal S1792 .f32 := s2Of (cenT X)
def qT : IVec S1792x256 8 := qOf (cenT X) (rowsOf (s2T X))

set_option maxHeartbeats 1000000 in
/-- The reference's run, with its results by name. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = pkT (m ((c.tc : Thread nD τ).loc main_arg0))
      ∧ r.2.mem ((c.tc : Thread nD τ).loc main_v9) = sgT (m ((c.tc : Thread nD τ).loc main_arg0))
      ∧ r.2.mem ((c.tc : Thread nD τ).loc main_v31) = zuT (m ((c.tc : Thread nD τ).loc main_arg0))
      ∧ r.2.mem ((c.tc : Thread nD τ).loc main_v46) = qT (m ((c.tc : Thread nD τ).loc main_arg0))
      ∧ r.2.mem ((c.tc : Thread nD τ).loc main_v47) = shapeCast S1x1792 (s2T (m ((c.tc : Thread nD τ).loc main_arg0))) shapeCasts_S1792_S1x1792
      ∧ r.2.mem ((c.tc : Thread nD τ).loc main_v48) = shapeCast S1x1 (offT (m ((c.tc : Thread nD τ).loc main_arg0))) shapeCasts_S_S1x1
      ∧ r.2.mem ((c.tc : Thread nD τ).loc main_arg0) = m ((c.tc : Thread nD τ).loc main_arg0) :=
  (θ_run _ _ _).mono (fun r h c => by
    obtain ⟨h0, h1, h2, h3, h4, h5, h6⟩ := h c
    exact ⟨h0.trans (by unfold Value.res_main_v29; rfl), h1.trans rfl, h2.trans rfl, h3.trans (by unfold Value.res_main_v46; rfl), h4.trans rfl, h5.trans rfl, h6⟩) (Value.run (F := Ideal) m ρ)

end Cert.Values

end
-- ==== Proof.Agree.lean ====
module

public import proofs.«01_k».proof.Proof.RefVal

@[expose] public section

/-! The codes, the scales and the zero points: the reference's elements are the kernel's. -/

noncomputable section

namespace Cert.Values

open Cert.ReferenceIdeal Cert.ReferenceIdeal.Gen
open Idealize.ShloMosaic hiding ix2 ix3
open Idealize.ShloMosaic.TcCoe Idealize.ShloMosaic.ValueIdx
open Cert.KernelIdeal.Stage (extAll EX SG RC ZP sgR zR recR byteAt byteR zByte pkV scV zV offW s2E qE rawW accN rowOf blkOf clip15 rnd
  clip15_mem byteR_eq sgR_eq sgR_ne zR_eq mul_recR ofBits_15)

variable (X : FVec Ideal S2x896x16384 .bf16)

/-- Entry `k` of row `r` of the operand, whose rows are numbered through both parts. -/
def Wx (r k : ℕ) : EReal :=
  if h : r < 1792 ∧ k < 16384 then X (ix3 ⟨r / 896, by omega⟩ ⟨r % 896, by omega⟩ ⟨k, h.2⟩) else 0

theorem bT_apply (j : S1792x256x64.Idx) : bT X j = Wx X (j 0).val (64 * (j 1).val + (j 2).val) := by
  have h0 : (j 0).val < 1792 := (j 0).isLt
  have h1 : (j 1).val < 256 := (j 1).isLt
  have h2 : (j 2).val < 64 := (j 2).isLt
  have hb : (j 0).val < 1792 ∧ 64 * (j 1).val + (j 2).val < 16384 := ⟨h0, by omega⟩
  unfold bT Wx
  rw [dif_pos hb]
  refine shapeCast_apply (extf .f32 X bitsLt_bf16_f32) _ j (ix3 ⟨(j 0).val / 896, by omega⟩ ⟨(j 0).val % 896, by omega⟩ ⟨64 * (j 1).val + (j 2).val, hb.2⟩) ?_
  refine (Shape.rowMajor_val_three _).trans (Eq.trans ?_ (Shape.rowMajor_val_three _).symm)
  show ((j 0).val / 896 * 896 + (j 0).val % 896) * 16384 + (64 * (j 1).val + (j 2).val) = ((j 0).val * 256 + (j 1).val) * 64 + (j 2).val
  omega

theorem red3 : S1792x256x64.Reduces [2] S1792x256 := by decide

theorem lift3 (y : S1792x256.Idx) (i : Fin 64) : bT X (red3.lift y i) = Wx X (y 0).val (64 * (y 1).val + i.val) := bT_apply X _

theorem mxT_apply (y : S1792x256.Idx) : mxT X y = EX (Wx X) true (y 0).val (y 1).val := by
  refine (Host.reduce_eq_fold_single (FloatOps.maximumf (F := Ideal) (φ := .f32)) (bT X) _ _ red3 _ y).trans ?_
  refine Eq.trans ?_ (fold_max fun i : Fin 64 => Wx X (y 0).val (64 * (y 1).val + i.val))
  show (Finset.univ : Finset (Fin 64)).fold max (Ideal.ofBits .f32 0xFF800000#32) _ = _
  rw [ofBits_ninf]
  exact congrArg (fun f => Finset.fold max ⊥ f Finset.univ) (funext fun i => lift3 X y i)

theorem mnT_apply (y : S1792x256.Idx) : mnT X y = EX (Wx X) false (y 0).val (y 1).val := by
  refine (Host.reduce_eq_fold_single (FloatOps.minimumf (F := Ideal) (φ := .f32)) (bT X) _ _ red3 _ y).trans ?_
  refine Eq.trans ?_ (fold_min fun i : Fin 64 => Wx X (y 0).val (64 * (y 1).val + i.val))
  show (Finset.univ : Finset (Fin 64)).fold min (Ideal.ofBits .f32 0x7F800000#32) _ = _
  rw [ofBits_inf]
  exact congrArg (fun f => Finset.fold min ⊤ f Finset.univ) (funext fun i => lift3 X y i)

theorem sgOf_apply (mx mn : FVec Ideal S1792x256 .f32) (y : S1792x256.Idx) : sgOf mx mn y = sgR (mx y) (mn y) := by
  refine Eq.trans ?_ (sgR_eq _ _).symm
  show (if BitVec.ofBool (decide (Ideal.div (mx y - mn y) (Ideal.ofBits .f32 0x41700000#32) = Ideal.ofBits .f32 0x00000000#32)) = 1#1
    then Ideal.ofBits .f32 0x3F800000#32 else Ideal.div (mx y - mn y) (Ideal.ofBits .f32 0x41700000#32)) = _
  rw [Ideal.ofBits_zero_f32, ofBits_15, Ideal.ofBits_one_f32]
  by_cases h : Ideal.div (mx y - mn y) ((15 : ℝ) : EReal) = 0 <;> simp [h]

theorem zOf_apply (mn sg : FVec Ideal S1792x256 .f32) (y : S1792x256.Idx) : zOf mn sg y = clip15 (rnd (Ideal.div (-(mn y)) (sg y))) := by
  show min (Ideal.ofBits .f32 0x41700000#32) (max (Ideal.ofBits .f32 0x00000000#32) (rnd (Ideal.div (-(mn y)) (sg y)))) = _
  rw [Ideal.ofBits_zero_f32, ofBits_15]

theorem codeOf_apply (x sg z : FVec Ideal S1792x256x64 .f32) (j : S1792x256x64.Idx) :
    codeOf x sg z j = Ideal.fptosi 32 (clip15 (rnd (Ideal.div (x j) (sg j)) + z j)) := by
  show Ideal.fptosi 32 (min (Ideal.ofBits .f32 0x41700000#32) (max (Ideal.ofBits .f32 0x00000000#32) (rnd (Ideal.div (x j) (sg j)) + z j))) = _
  rw [Ideal.ofBits_zero_f32, ofBits_15]

theorem spread_apply (v : FVec Ideal S1792x256 .f32) (j : S1792x256x64.Idx) : spread v j = v (ix2 (j 0) (j 1)) := by
  refine (broadcastInDim_apply _ _ _ j (ix3 (n0 := 1792) (n1 := 256) (n2 := 1) (j 0) (j 1) 0) fun a => ?_).trans (broadcastInDim_apply _ _ _ _ (ix2 (n0 := 1792) (n1 := 256) (j 0) (j 1)) fun a => ?_)
  · match a with
    | ⟨0, _⟩ => rfl
    | ⟨1, _⟩ => rfl
    | ⟨2, _⟩ => rfl
  · match a with
    | ⟨0, _⟩ => rfl
    | ⟨1, _⟩ => rfl

theorem pkOf_apply (v : IVec S1792x16384 32) (y : S1792x8192.Idx) (a b : S1792x16384.Idx)
    (ha : ∀ i, (a i).val = ![(y 0).val, 2 * (y 1).val] i) (hb : ∀ i, (b i).val = ![(y 0).val, 2 * (y 1).val + 1] i) :
    pkOf v y = (v a <<< 4 ||| v b).setWidth 8 := by
  have a0 : Host.slice S1792x8192 ![0, 0] ![1, 2] v slicesBy_S1792x16384_S1792x8192_0s1_0s2 y = v a := by
    refine congrArg v (funext fun i => Fin.ext (Eq.trans ?_ (ha i).symm))
    match i with
    | ⟨0, _⟩ => show 0 + 1 * (y 0).val = (y 0).val; omega
    | ⟨1, _⟩ => show 0 + 2 * (y 1).val = 2 * (y 1).val; omega
  have a1 : Host.slice S1792x8192 ![0, 1] ![1, 2] v slicesBy_S1792x16384_S1792x8192_0s1_1s2 y = v b := by
    refine congrArg v (funext fun i => Fin.ext (Eq.trans ?_ (hb i).symm))
    match i with
    | ⟨0, _⟩ => show 0 + 1 * (y 0).val = (y 0).val; omega
    | ⟨1, _⟩ => show 1 + 2 * (y 1).val = 2 * (y 1).val + 1; omega
  rw [← a0, ← a1]
  rfl

/-- The scales. -/
theorem sgT_apply (y : S1792x256.Idx) : sgT X y = SG (Wx X) (y 0).val (y 1).val := by
  unfold sgT SG
  rw [sgOf_apply, mxT_apply, mnT_apply]

theorem ZP_eq (W : ℕ → ℕ → EReal) (r k : ℕ) : ZP W r k = clip15 (rnd (Ideal.div (-(EX W false r k)) (SG W r k))) := by
  unfold ZP RC
  exact zR_eq _ _ (sgR_ne _ _)

/-- The zero points. -/
theorem zT_apply (y : S1792x256.Idx) : zT X y = ZP (Wx X) (y 0).val (y 1).val := by
  unfold zT
  rw [zOf_apply, sgT_apply, mnT_apply, ZP_eq]

theorem ZP_mem (W : ℕ → ℕ → EReal) (r k : ℕ) : ∃ q : ℝ, ZP W r k = (q : EReal) ∧ 0 ≤ q ∧ q ≤ 15 := by
  rw [ZP_eq]; exact clip15_mem _

theorem SG_ne (W : ℕ → ℕ → EReal) (r k : ℕ) : SG W r k ≠ 0 := by
  unfold SG; exact sgR_ne _ _

/-- The code of entry `q` of row `r`, which lies in block `k`. -/
def codeAt (W : ℕ → ℕ → EReal) (r k q : ℕ) : BitVec 32 := Ideal.fptosi 32 (clip15 (rnd (W r q * RC W r k) + ZP W r k))

theorem codeT_apply (j : S1792x256x64.Idx) : codeT X j = codeAt (Wx X) (j 0).val (j 1).val (64 * (j 1).val + (j 2).val) := by
  unfold codeT codeAt RC
  rw [codeOf_apply, spread_apply, spread_apply, bT_apply, sgT_apply, zT_apply, mul_recR _ _ (SG_ne (Wx X) (j 0).val (j 1).val)]

theorem rowT_apply (j : S1792x16384.Idx) : rowT X j = codeAt (Wx X) (j 0).val ((j 1).val / 64) (j 1).val := by
  have h0 : (j 0).val < 1792 := (j 0).isLt
  have h1 : (j 1).val < 16384 := (j 1).isLt
  have e := codeT_apply X (ix3 (n0 := 1792) (n1 := 256) (n2 := 64) (j 0) ⟨(j 1).val / 64, by omega⟩ ⟨(j 1).val % 64, by omega⟩)
  have e' : 64 * ((j 1).val / 64) + (j 1).val % 64 = (j 1).val := Nat.div_add_mod _ _
  unfold rowT
  refine (shapeCast_apply (codeT X) _ j (ix3 (n0 := 1792) (n1 := 256) (n2 := 64) (j 0) ⟨(j 1).val / 64, by omega⟩ ⟨(j 1).val % 64, by omega⟩) ?_).trans (e.trans ?_)
  · refine (Shape.rowMajor_val_three _).trans (Eq.trans ?_ (Shape.rowMajor_val_two _).symm)
    show ((j 0).val * 256 + (j 1).val / 64) * 64 + (j 1).val % 64 = (j 0).val * 16384 + (j 1).val
    omega
  · exact congrArg (codeAt (Wx X) (j 0).val ((j 1).val / 64)) e'

theorem byteAt_eq (W : ℕ → ℕ → EReal) (r q : ℕ) :
    byteAt W r q = (codeAt W r (q / 32) (2 * q) <<< 4 ||| codeAt W r (q / 32) (2 * q + 1)).setWidth 8 := by
  unfold byteAt codeAt
  exact byteR_eq _ _ _ _ (ZP_mem W _ _)

/-- The packed codes. -/
theorem pkT_eq : pkT X = pkV (Wx X) := by
  funext y
  have h0 : (y 0).val < 1792 := (y 0).isLt
  have h1 : (y 1).val < 8192 := (y 1).isLt
  have d0 : 2 * (y 1).val / 64 = (y 1).val / 32 := by omega
  have d1 : (2 * (y 1).val + 1) / 64 = (y 1).val / 32 := by omega
  refine Eq.trans ?_ (byteAt_eq (Wx X) (y 0).val (y 1).val).symm
  unfold pkT
  have e0 := rowT_apply X (ix2 (n0 := 1792) (n1 := 16384) (y 0) ⟨2 * (y 1).val, by omega⟩)
  have e1 := rowT_apply X (ix2 (n0 := 1792) (n1 := 16384) (y 0) ⟨2 * (y 1).val + 1, by omega⟩)
  rw [pkOf_apply (rowT X) y (ix2 (n0 := 1792) (n1 := 16384) (y 0) ⟨2 * (y 1).val, by omega⟩) (ix2 (n0 := 1792) (n1 := 16384) (y 0) ⟨2 * (y 1).val + 1, by omega⟩)
    (fun i => match i with | ⟨0, _⟩ => rfl | ⟨1, _⟩ => rfl) (fun i => match i with | ⟨0, _⟩ => rfl | ⟨1, _⟩ => rfl), e0, e1,
    ← d0]
  refine congrArg (fun t => ((codeAt (Wx X) (y 0).val (2 * (y 1).val / 64) (2 * (y 1).val) <<< 4 ||| t).setWidth 8 : BitVec 8)) ?_
  show codeAt (Wx X) (y 0).val ((2 * (y 1).val + 1) / 64) (2 * (y 1).val + 1) = _
  rw [d1, d0]

theorem sgT_eq : sgT X = scV (Wx X) := funext fun y => sgT_apply X y

theorem zuT_eq : zuT X = zV (Wx X) := by
  funext y
  have e : zuT X y = zByte (zT X y) := rfl
  rw [e, zT_apply]
  rfl

end Cert.Values

end
-- ==== Proof.Agree2.lean ====
module

public import proofs.«01_k».proof.Proof.Agree
public import proofs.«01_k».proof.Proof.Reduce

@[expose] public section

/-! The mean of the scales, the scales of the scales, and their codes: the reference's elements are the kernel's. -/

noncomputable section

namespace Cert.Values

open Cert.ReferenceIdeal Cert.ReferenceIdeal.Gen
open Idealize.ShloMosaic hiding ix0 ix1 ix2 ix3
open Idealize.ShloMosaic.TcCoe Idealize.ShloMosaic.ValueIdx
open Cert.KernelIdeal.Stage (extAll EX SG RC ZP offV cenV s2V qV offW s2E qE rawW accN rowOf blkOf rnd fptosi_setWidth)

/-! ### The mean -/

theorem offOf_apply (sg : FVec Ideal S1792x256 .f32) (f : ℕ → ℕ → EReal) (h : ∀ y, sg y = f (y 0).val (y 1).val) (j : S_.Idx) :
    offOf sg j = Ideal.div (∑ r ∈ Finset.range 1792, ∑ k ∈ Finset.range 256, f r k) (Ideal.ofBits .f32 0x48E00000#32) := by
  show Ideal.div (Host.reduceAdd sg (constant S_ .f32 0x00000000#32) reducesTo_S1792x256_S_d0_1 h_S_ j) (Ideal.ofBits .f32 0x48E00000#32) = _
  congr 1
  refine (Ideal.hostReduceAdd_total (reducesTo_S1792x256_S_d0_1) (fun b => b.elim0) sg (Ideal.ofBits .f32 0x00000000#32) j).trans ?_
  rw [Ideal.ofBits_zero_f32, zero_add, ValueIdx.sum_idx2, Finset.sum_range]
  refine Finset.sum_congr rfl fun r _ => ?_
  rw [Finset.sum_range]
  exact Finset.sum_congr rfl fun k _ => h _

theorem offV_apply (x : FVec Ideal Cert.KernelIdeal.S8x128 .f32) (f : ℕ → ℕ → EReal) (h : ∀ y, x y = f (y 0).val (y 1).val) :
    offV (F := Ideal) x = Ideal.div (∑ b ∈ Finset.range 8, ∑ l ∈ Finset.range 128, f b l) (Ideal.ofBits .f32 0x48E00000#32) := by
  show Ideal.div (multiReduction .add [1, 2] Cert.KernelIdeal.S1 (shapeCast Cert.KernelIdeal.S1x8x128 x Cert.KernelIdeal.Gen.shapeCasts_S8x128_S1x8x128) 0x00000000#32 Cert.KernelIdeal.Gen.reduces_S1x8x128_S1 (.inl rfl) rfl _) (Ideal.ofBits .f32 0x48E00000#32) = _
  congr 1
  refine (Ideal.multiReduction_add_total _ _ Cert.KernelIdeal.Gen.reduces_S1x8x128_S1 (fun b => match b with | ⟨0, _⟩ => rfl) (.inl rfl) rfl _).trans ?_
  rw [sum_idx3, Fin.sum_univ_one, Finset.sum_range]
  refine Finset.sum_congr rfl fun r _ => ?_
  rw [Finset.sum_range]
  refine Finset.sum_congr rfl fun k _ => ?_
  rw [Cert.KernelIdeal.Stage.cast3_apply]
  exact h _

/-- The mean. -/
theorem offT_apply (X : FVec Ideal S2x896x16384 .bf16) (j : S_.Idx) : offT X j = offW (Wx X) := by
  refine (offOf_apply (sgT X) (SG (Wx X)) (sgT_apply X) j).trans (Eq.trans ?_ (offV_apply _ (fun b l => accN (Wx X) 224 b l) fun y => rfl).symm)
  rw [← sum_order]
  rfl

/-! ### The scales of the scales -/

theorem ofBits_127 : Ideal.ofBits .f32 0x42FE0000#32 = ((127 : ℝ) : EReal) := by
  simp [Ideal.ofBits, Ideal.ieee, -EReal.coe_mul]; norm_num

theorem ofBits_m127 : Ideal.ofBits .f32 0xC2FE0000#32 = ((-127 : ℝ) : EReal) := by
  simp [Ideal.ofBits, Ideal.ieee, -EReal.coe_mul]; norm_num

/-- The scale of a row's scales `f`, about the number `off`. -/
def scl (f : ℕ → EReal) (off : EReal) : EReal :=
  Ideal.div (⨆ k : Fin 256, max (f k.val - off) (-(f k.val - off))) ((127 : ℝ) : EReal)

theorem red2 : S1792x256.Reduces [1] S1792 := by decide

theorem divf_at (a b : FVec Ideal S1792 .f32) (j : S1792.Idx) : Host.divf a b j = Ideal.div (a j) (b j) := rfl

theorem s2Of_apply (cen : FVec Ideal S1792x256 .f32) (f : ℕ → ℕ → EReal) (off : EReal) (h : ∀ y, cen y = f (y 0).val (y 1).val - off) (j : S1792.Idx) :
    s2Of cen j = scl (f (j 0).val) off := by
  unfold s2Of scl
  rw [divf_at, broadcastInDim_scalar_apply, ← ofBits_127]
  refine congrArg (fun t : EReal => Ideal.div t (Ideal.ofBits .f32 0x42FE0000#32)) ?_
  refine (Host.reduce_eq_fold_single (FloatOps.maximumf (F := Ideal) (φ := .f32)) (Host.absf cen) _ _ red2 _ j).trans ?_
  refine Eq.trans ?_ (fold_max fun k : Fin 256 => max (f (j 0).val k.val - off) (-(f (j 0).val k.val - off)))
  show (Finset.univ : Finset (Fin 256)).fold max (Ideal.ofBits .f32 0xFF800000#32) _ = _
  rw [ofBits_ninf]
  refine congrArg (fun g : Fin 256 → EReal => Finset.fold max ⊥ g Finset.univ) (funext fun k => ?_)
  have e := h (red2.lift j k)
  exact congrArg (fun t : EReal => max t (-t)) e

theorem redK : Cert.KernelIdeal.S256x256.Reduces [0] Cert.KernelIdeal.S256 := by decide

theorem cenV_apply (off : EReal) (raw : Cert.KernelIdeal.S1x256x256.Idx → EReal) (g : ℕ → ℕ → EReal) (h : ∀ y, raw y = g (y 2).val (y 1).val) (j : Cert.KernelIdeal.S256x256.Idx) :
    cenV (F := Ideal) off raw j = g (j 1).val (j 0).val - off := by
  have e : shapeCast Cert.KernelIdeal.S256x256 raw Cert.KernelIdeal.Gen.shapeCasts_S1x256x256_S256x256 j = g (j 1).val (j 0).val := by
    refine (shapeCast_apply raw _ j (ix3 (n0 := 1) (n1 := 256) (n2 := 256) 0 (j 0) (j 1)) ?_).trans (h _)
    refine (Shape.rowMajor_val_three _).trans (Eq.trans ?_ (Shape.rowMajor_val_two _).symm)
    show (0 * 256 + (j 0).val) * 256 + (j 1).val = (j 0).val * 256 + (j 1).val
    omega
  exact congrArg (fun t : EReal => t - off) e

theorem s2V_apply (off : EReal) (raw : Cert.KernelIdeal.S1x256x256.Idx → EReal) (g : ℕ → ℕ → EReal) (h : ∀ y, raw y = g (y 2).val (y 1).val) (j : Cert.KernelIdeal.S1x256.Idx) :
    s2V (F := Ideal) off raw j = scl (g (j 1).val) off := by
  have h0 : (j 0).val < 1 := (j 0).isLt
  have e : shapeCast Cert.KernelIdeal.S1x256 (multiReduction (F := Ideal) .maximumf [0] Cert.KernelIdeal.S256 (absf (cenV (F := Ideal) off raw)) 0xFF800000#32 Cert.KernelIdeal.Gen.reduces_S256x256_S256 (.inl rfl) rfl) Cert.KernelIdeal.Gen.shapeCasts_S256_S1x256 j
      = ⨆ k : Fin 256, max (g (j 1).val k.val - off) (-(g (j 1).val k.val - off)) := by
    refine (shapeCast_apply _ _ j (ix1 (n := 256) (j 1)) ?_).trans ?_
    · refine (Shape.rowMajor_val_one _).trans (Eq.trans ?_ (Shape.rowMajor_val_two _).symm)
      show (j 1).val = (j 0).val * 256 + (j 1).val
      omega
    refine (Ideal.multiReduction_maximumf_single _ _ Cert.KernelIdeal.Gen.reduces_S256x256_S256 _ _ _).trans ?_
    refine Eq.trans ?_ (fold_max fun k : Fin 256 => max (g (j 1).val k.val - off) (-(g (j 1).val k.val - off)))
    show (Finset.univ : Finset (Fin 256)).fold max (Ideal.ofBits .f32 0xFF800000#32) _ = _
    rw [ofBits_ninf]
    refine congrArg (fun g => Finset.fold max ⊥ g Finset.univ) (funext fun k => ?_)
    show max (cenV (F := Ideal) off raw (redK.lift _ k)) (-(cenV (F := Ideal) off raw (redK.lift _ k))) = _
    rw [cenV_apply off raw g h]
    rfl
  unfold scl
  rw [← ofBits_127]
  exact congrArg (fun t : EReal => Ideal.div t (Ideal.ofBits .f32 0x42FE0000#32)) e

/-- A code of a scale whose quotient is `v`. -/
def qAt (v : EReal) : BitVec 8 := Ideal.fptosi 8 (min ((127 : ℝ) : EReal) (max ((-127 : ℝ) : EReal) (rnd v)))

theorem clip127_mem (x : EReal) : ∃ r : ℝ, min ((127 : ℝ) : EReal) (max ((-127 : ℝ) : EReal) x) = (r : EReal) ∧ -127 ≤ r ∧ r ≤ 127 := by
  have h0 : ((-127 : ℝ) : EReal) ≤ min ((127 : ℝ) : EReal) (max ((-127 : ℝ) : EReal) x) := le_min (by exact_mod_cast (by norm_num : (-127:ℝ) ≤ 127)) (le_max_left _ _)
  have h1 : min ((127 : ℝ) : EReal) (max ((-127 : ℝ) : EReal) x) ≤ ((127 : ℝ) : EReal) := min_le_left _ _
  generalize min ((127 : ℝ) : EReal) (max ((-127 : ℝ) : EReal) x) = z at h0 h1
  induction z using EReal.rec with
  | bot => exact absurd h0 (not_le.2 (EReal.bot_lt_coe _))
  | top => exact absurd h1 (not_le.2 (EReal.coe_lt_top _))
  | coe r => exact ⟨r, rfl, by exact_mod_cast h0, by exact_mod_cast h1⟩

theorem qOf_apply (cen s2 : FVec Ideal S1792x256 .f32) (y : S1792x256.Idx) : qOf cen s2 y = qAt (Ideal.div (cen y) (s2 y)) := by
  have a : FloatOps.sitofp (F := Ideal) .f32 (127#32) = ((127 : ℝ) : EReal) := by
    show (((127#32).toInt : ℝ) : EReal) = _
    rw [show (127#32).toInt = 127 from by decide]; norm_num
  have b : FloatOps.sitofp (F := Ideal) .f32 (4294967169#32) = ((-127 : ℝ) : EReal) := by
    show (((4294967169#32).toInt : ℝ) : EReal) = _
    rw [show (4294967169#32).toInt = -127 from by decide]; norm_num
  show (Ideal.fptosi 32 (min (FloatOps.sitofp (F := Ideal) .f32 (127#32)) (max (FloatOps.sitofp (F := Ideal) .f32 (4294967169#32)) (rnd (Ideal.div (cen y) (s2 y)))))).setWidth 8 = _
  rw [a, b]
  unfold qAt
  obtain ⟨r, e, h0, h1⟩ := clip127_mem (rnd (Ideal.div (cen y) (s2 y)))
  rw [e]
  exact fptosi_setWidth r h0 h1

theorem rowsOf_apply (v : FVec Ideal S1792 .f32) (y : S1792x256.Idx) : rowsOf v y = v (ix1 (y 0)) := by
  refine (broadcastInDim_apply _ _ _ y (ix2 (n0 := 1792) (n1 := 1) (y 0) 0) fun a => ?_).trans (broadcastInDim_apply _ _ _ _ (ix1 (n := 1792) (y 0)) fun a => ?_)
  · match a with
    | ⟨0, _⟩ => rfl
    | ⟨1, _⟩ => rfl
  · match a with
    | ⟨0, _⟩ => rfl

theorem qV_apply (off : EReal) (raw : Cert.KernelIdeal.S1x256x256.Idx → EReal) (g : ℕ → ℕ → EReal) (h : ∀ y, raw y = g (y 2).val (y 1).val)
    (j : Cert.KernelIdeal.S256x256.Idx) (hs : scl (g (j 0).val) off ≠ 0) :
    qV (F := Ideal) off raw j = qAt (Ideal.div (g (j 0).val (j 1).val - off) (scl (g (j 0).val) off)) := by
  unfold qV
  refine (shapeCast_apply _ _ j j rfl).trans ((transpose_apply _ _ _ j (ix2 (n0 := 256) (n1 := 256) (j 1) (j 0)) fun a => ?_).trans ?_)
  · match a with
    | ⟨0, _⟩ => rfl
    | ⟨1, _⟩ => rfl
  have e : broadcastTo Cert.KernelIdeal.S256x256 (shapeCast Cert.KernelIdeal.S1x256 (divf (broadcast Cert.KernelIdeal.S1x256 (Scalar.ofBits (F := Ideal) .f32 0x3F800000#32)) (s2V (F := Ideal) off raw)) Cert.KernelIdeal.Gen.shapeCasts_S1x256_S1x256) Cert.KernelIdeal.Gen.broadcasts_S1x256_S256x256 (ix2 (n0 := 256) (n1 := 256) (j 1) (j 0))
      = Ideal.div 1 (scl (g (j 0).val) off) := by
    refine (broadcastTo_apply _ _ _ (ix2 (n0 := 1) (n1 := 256) 0 (j 0)) fun a => ?_).trans ((shapeCast_apply _ _ _ (ix2 (n0 := 1) (n1 := 256) 0 (j 0)) rfl).trans ?_)
    · match a with
      | ⟨0, _⟩ => rfl
      | ⟨1, _⟩ => rfl
    · show Ideal.div (Ideal.ofBits .f32 0x3F800000#32) (s2V (F := Ideal) off raw (ix2 (n0 := 1) (n1 := 256) 0 (j 0))) = _
      rw [s2V_apply off raw g h, Ideal.ofBits_one_f32]
  have c := cenV_apply off raw g h (ix2 (n0 := 256) (n1 := 256) (j 1) (j 0))
  show Ideal.fptosi 8 (min (Ideal.ofBits .f32 0x42FE0000#32) (max (Ideal.ofBits .f32 0xC2FE0000#32) (rnd (cenV (F := Ideal) off raw (ix2 (n0 := 256) (n1 := 256) (j 1) (j 0)) * _)))) = _
  rw [e, c, Ideal.mul_one_div hs, ofBits_127, ofBits_m127]
  rfl

variable (X : FVec Ideal S2x896x16384 .bf16)

theorem cenT_apply (y : S1792x256.Idx) : cenT X y = SG (Wx X) (y 0).val (y 1).val - offW (Wx X) := by
  have e : cenT X y = sgT X y - offT X ix0 := congrArg (fun t : EReal => sgT X y - t) (broadcastInDim_scalar_apply _ (offT X) y)
  rw [e, sgT_apply, offT_apply]

/-- The scale of the scales of row `r`. -/
theorem s2T_apply (j : S1792.Idx) : s2T X j = scl (SG (Wx X) (j 0).val) (offW (Wx X)) := s2Of_apply _ _ _ (cenT_apply X) j

theorem row_eq (n : ℕ) : 256 * (n / 256) + n % 256 = n := Nat.div_add_mod n 256

theorem s2E_apply (W : ℕ → ℕ → EReal) (off : EReal) (y : S1x1792.Idx) : s2E off W y = scl (SG W (y 1).val) off := by
  refine (s2V_apply off _ (fun a b => SG W (256 * ((y 1).val / 256) + a) b) (fun _ => rfl) _).trans ?_
  show scl (fun b => SG W (256 * ((y 1).val / 256) + (y 1).val % 256) b) off = _
  rw [row_eq]

theorem qE_apply (W : ℕ → ℕ → EReal) (off : EReal) (y : S1792x256.Idx) (hs : scl (SG W (y 0).val) off ≠ 0) :
    qE off W y = qAt (Ideal.div (SG W (y 0).val (y 1).val - off) (scl (SG W (y 0).val) off)) := by
  have er : (fun b => SG W (256 * ((y 0).val / 256) + (y 0).val % 256) b) = SG W (y 0).val := by rw [row_eq]
  refine (qV_apply off _ (fun a b => SG W (256 * ((y 0).val / 256) + a) b) (fun _ => rfl) (ix2 (n0 := 256) (n1 := 256) ⟨(y 0).val % 256, Nat.mod_lt _ (by decide)⟩ (y 1)) ?_).trans ?_
  · show scl (fun b => SG W (256 * ((y 0).val / 256) + (y 0).val % 256) b) off ≠ 0
    rw [er]; exact hs
  · show qAt (Ideal.div ((fun b => SG W (256 * ((y 0).val / 256) + (y 0).val % 256) b) (y 1).val - off) (scl (fun b => SG W (256 * ((y 0).val / 256) + (y 0).val % 256) b) off)) = _
    rw [er]

/-- The codes of the scales, where the scale of the scales is not 0. -/
theorem qT_eq (y : S1792x256.Idx) (hs : s2T X (ix1 (y 0)) ≠ 0) : qE (offW (Wx X)) (Wx X) y = qT X y := by
  unfold qT
  have hs' : scl (SG (Wx X) (y 0).val) (offW (Wx X)) ≠ 0 := fun e => hs ((s2T_apply X _).trans e)
  rw [qOf_apply, cenT_apply, rowsOf_apply, qE_apply _ _ _ hs', s2T_apply]

theorem s2T_eq : shapeCast S1x1792 (s2T X) shapeCasts_S1792_S1x1792 = s2E (offW (Wx X)) (Wx X) := by
  funext y
  have h0 : (y 0).val < 1 := (y 0).isLt
  refine (shapeCast_apply (s2T X) _ y (ix1 (n := 1792) (y 1)) ?_).trans ((s2T_apply X _).trans (s2E_apply _ _ y).symm)
  refine (Shape.rowMajor_val_one _).trans (Eq.trans ?_ (Shape.rowMajor_val_two _).symm)
  show (y 1).val = (y 0).val * 1792 + (y 1).val
  omega

theorem offT_eq : shapeCast S1x1 (offT X) shapeCasts_S_S1x1 = fun _ => offW (Wx X) := by
  funext y
  exact offT_apply X _

end Cert.Values

end
-- ==== Proof.Mask.lean ====
module

public import proofs.«01_k».proof.Proof.Agree2
public import proofs.«01_k».proof.Proof.Launch
public import proofs.«01_k».proof.On_scaled

@[expose] public section

/-! The mask of the claim, and the operand as the kernel and as the reference read it. -/

noncomputable section

namespace Cert.Values

open Cert.ReferenceIdeal Cert.ReferenceIdeal.Gen
open Idealize.ShloMosaic hiding ix0 ix1 ix2 ix3
open Idealize.ShloMosaic.TcCoe Idealize.ShloMosaic.ValueIdx
open Cert.KernelIdeal.Stage (Wm)

/-- The side conditions of the mask's operations. -/
instance maskFacts : Cert.On_scaled.Facts where
  bitsLt_bf16_f32 := by decide
  shapeCasts_S2x896x16384_S1792x256x64 := by decide
  reducesTo_S1792x256x64_S1792x256_d2 := by decide
  h_S_ := by decide
  bcast_S_S1792x256 := by decide
  reducesTo_S1792x256_S_d0_1 := by decide
  reducesTo_S1792x256_S1792_d1 := by decide
  bcast_S_S1792 := by decide
  bcast_S_S1792x8192 := by decide
  bcast_S1792_S1792x1_0 := by decide
  bcast_S1792x1_S1792x256_0_1 := by decide
  bcast_S_S1x1792 := by decide
  bcast_S_S1x1 := by decide

/-- What the mask selects of the scales' codes: the rows whose scale of the scales differs from 0. -/
def selOf (s2 : FVec Ideal S1792 .f32) : IVec S1792x256 1 :=
  broadcastInDim S1792x256 ![0, 1] bcast_S1792x1_S1792x256_0_1 (broadcastInDim S1792x1 ![0] bcast_S1792_S1792x1_0
    (cmpf .une s2 (broadcastInDim S1792 ![] bcast_S_S1792 (constant S_ .f32 0x00000000#32))))

theorem mask_eq (X : FVec Ideal S2x896x16384 .bf16) : (Cert.On_scaled.fn (F := Ideal) X).2.2.2.1 = selOf (s2T X) := by
  unfold Cert.On_scaled.fn Cert.On_scaled.fn_part1 Cert.On_scaled.fn_where
  rfl

theorem selOf_ne (s2 : FVec Ideal S1792 .f32) (y : S1792x256.Idx) (h : selOf s2 y = 1#1) : s2 (ix1 (n := 1792) (y 0)) ≠ 0 := by
  have e : selOf s2 y = cmpf .une s2 (broadcastInDim S1792 ![] bcast_S_S1792 (constant S_ .f32 0x00000000#32)) (ix1 (n := 1792) (y 0)) := by
    refine (broadcastInDim_apply _ _ _ y (ix2 (n0 := 1792) (n1 := 1) (y 0) 0) fun a => ?_).trans (broadcastInDim_apply _ _ _ _ (ix1 (n := 1792) (y 0)) fun a => ?_)
    · match a with
      | ⟨0, _⟩ => rfl
      | ⟨1, _⟩ => rfl
    · match a with
      | ⟨0, _⟩ => rfl
  rw [e] at h
  intro h0
  have h' : BitVec.ofBool (decide (s2 (ix1 (n := 1792) (y 0)) ≠ Ideal.ofBits .f32 0x00000000#32)) = 1#1 := h
  rw [h0, Ideal.ofBits_zero_f32] at h'
  simp at h'

variable (m : (ℓ : Loc Cert.KernelIdeal.nD Cert.KernelIdeal.τ Cert.KernelIdeal.sig) → Buf (Elt Ideal) ℓ)

/-- The kernel and the reference read one operand. -/
theorem Wm_eq (c : Dev Cert.KernelIdeal.nD) : Wm m c = Wx (m ((c.tc : Thread Cert.KernelIdeal.nD Cert.KernelIdeal.τ).loc Cert.KernelIdeal.main_arg0)) := by
  funext r k
  unfold Cert.KernelIdeal.Stage.Wm Wx
  split
  · next h =>
    refine shapeCast_apply (m ((c.tc : Thread Cert.KernelIdeal.nD Cert.KernelIdeal.τ).loc Cert.KernelIdeal.main_arg0)) Cert.KernelIdeal.Gen.shapeCasts_S2x896x16384_S1792x16384 _
      (ix3 (n0 := 2) (n1 := 896) (n2 := 16384) ⟨r / 896, by omega⟩ ⟨r % 896, by omega⟩ ⟨k, h.2⟩) ?_
    refine (Shape.rowMajor_val_three _).trans (Eq.trans ?_ (Shape.rowMajor_val_two _).symm)
    show (r / 896 * 896 + r % 896) * 16384 + k = r * 16384 + k
    omega
  · rfl

end Cert.Values

end
-- ==== Proof.lean ====
module

public import proofs.«01_k».proof.Proof.Gen.Kernel.Frame
public import proofs.«01_k».proof.Proof.Gen.Kernel.Points
public import proofs.«01_k».proof.Proof.Gen.Kernel.Launch
public import proofs.«01_k».proof.Defs
public import proofs.«01_k».proof.Proof.Gen.ReferenceIdeal
public import proofs.«01_k».proof.Proof.Gen.ReferenceIdeal.Run
public import proofs.«01_k».proof.Proof.Gen.KernelIdeal
public import proofs.«01_k».proof.Proof.Gen.KernelIdeal.Frame
public import proofs.«01_k».proof.Proof.Gen.KernelIdeal.Launch
public import proofs.«01_k».proof.Proof.Gen.KernelIdeal.Points
public import proofs.«01_k».proof.Proof.Launch
public import proofs.«01_k».proof.Proof.KLaunch
public import proofs.«01_k».proof.Proof.Mask
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

/-! The claims of the certificate. -/

namespace Cert.Proof

open Idealize.ShloMosaic Idealize.ShloMosaic.TcCoe
open Cert.KernelIdeal.Stage (Wm pkV scV zV qE s2E offW run_vals)
open Cert.Values

/-- The kernel before idealization runs from any memory, leaves its argument as it was and every semaphore at zero. -/
theorem kernel_bits_frame : Cert.quiescent_Kernel := fun m g _ => Cert.Kernel.Stage.run_frame m g

/-- Each rewrite of the idealization preserves what it rewrites. -/
theorem rewrites : Cert.preserves_Kernel_KernelIdeal :=
  ⟨IdealRules.bf16_pair.bufferStatement _ _, IdealRules.bf16_pair.bufferStatement _ _, IdealRules.bf16_pair.statement _ _,
    IdealRules.bf16_pair.statement _ _, IdealRules.bf16_pair.statement _ _, IdealRules.bf16_pair.packStatement _,
    IdealRules.bf16_pair.statement _ _, IdealRules.bf16_pair.statement _ _⟩

/-- The idealized kernel runs from any memory, leaves its argument as it was and every semaphore at zero. -/
theorem kernel_frame : Cert.quiescent_KernelIdeal := fun m g _ =>
  (θ_run _ _ _).mono (fun r h => ⟨fun c => (h.1 c).2.2.2.2.2.2, h.2⟩) (run_vals m g)

/-- The reference runs from any memory and leaves its argument as it was. -/
theorem reference_frame : Cert.quiescent_ReferenceIdeal := fun m g _ =>
  (θ_run _ _ _).mono (fun r h => ⟨fun c => (h c).2.2.2.2.2.2, sem_eq_zero_of_no_sems (by decide) r.2⟩) (ref_run m g)

/-- The kernel's results are the reference's, as extended reals: all of them, save the scales' codes of a row whose scale
of the scales is 0. -/
theorem values : Cert.algebraic_KernelIdeal_ReferenceIdeal_on_scaled := fun m g m' g' _ hm =>
  let W := fun c : Dev Cert.KernelIdeal.nD => Wx (m ((c.tc : Thread Cert.KernelIdeal.nD Cert.KernelIdeal.τ).loc Cert.KernelIdeal.main_arg0))
  ⟨fun c => pkV (W c), fun c => scV (W c), fun c => zV (W c), fun c => qE (offW (W c)) (W c), fun c => s2E (offW (W c)) (W c), fun c _ => offW (W c),
    (θ_run _ _ _).mono (fun r h c => by
      obtain ⟨h0, h1, h2, h3, h4, h5, h6⟩ := h.1 c
      rw [Wm_eq m c] at h0 h1 h2 h3 h4 h5
      exact ⟨fun i _ => congrFun h0 i, fun i _ => congrFun h1 i, fun i _ => congrFun h2 i, fun i _ => congrFun h3 i, fun i _ => congrFun h4 i,
        fun i _ => congrFun h5 i, h6⟩) (run_vals m g),
    (θ_run _ _ _).mono (fun r h c => by
      obtain ⟨h0, h1, h2, h3, h4, h5, h6⟩ := h c
      rw [hm c] at h0 h1 h2 h3 h4 h5
      exact ⟨fun i _ => congrFun (h0.trans (pkT_eq _)) i, fun i _ => congrFun (h1.trans (sgT_eq _)) i, fun i _ => congrFun (h2.trans (zuT_eq _)) i,
        fun i hi => (congrFun h3 i).trans (qT_eq _ i (selOf_ne _ i ((congrFun (mask_eq _) i).symm.trans hi))).symm,
        fun i _ => congrFun (h4.trans (s2T_eq _)) i, fun i _ => congrFun (h5.trans (offT_eq _)) i, h6⟩) (ref_run m' g')⟩

theorem claim : Cert.Claim :=
  ⟨_, _, _, _, kernel_bits_frame, kernel_frame, reference_frame, rewrites, values⟩

end Cert.Proof

end
